-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_rows [hPre_finite_rows : Cert.Pre_finite_rows.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_rows.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_rows [hPre_finite_rows : Cert.Pre_finite_rows.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_rows.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_gates [hPre_finite_gates : Cert.Pre_finite_gates.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_gates.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_gates [hPre_finite_gates : Cert.Pre_finite_gates.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_gates.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite_heads [hPre_finite_heads : Cert.Pre_finite_heads.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite_heads.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite_heads [hPre_finite_heads : Cert.Pre_finite_heads.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite_heads.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite_loss [hPre_finite_loss : Cert.Pre_finite_loss.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite_loss.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite_loss [hPre_finite_loss : Cert.Pre_finite_loss.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite_loss.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2))) = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Kernel13Ideal_pre_finite_rows [hKernel13Ideal : Cert.Kernel13Ideal.Facts] [hPre_finite_rows : Cert.Pre_finite_rows.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_rows m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Reference13Ideal_pre_finite_rows [hReference13Ideal : Cert.Reference13Ideal.Facts] [hPre_finite_rows : Cert.Pre_finite_rows.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_rows m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Kernel14Ideal_pre_finite_gates [hKernel14Ideal : Cert.Kernel14Ideal.Facts] [hPre_finite_gates : Cert.Pre_finite_gates.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_gates m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Reference14Ideal_pre_finite_gates [hReference14Ideal : Cert.Reference14Ideal.Facts] [hPre_finite_gates : Cert.Pre_finite_gates.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_gates m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Kernel15Ideal_pre_finite_heads [hKernel15Ideal : Cert.Kernel15Ideal.Facts] [hPre_finite_heads : Cert.Pre_finite_heads.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite_heads m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Reference15Ideal_pre_finite_heads [hReference15Ideal : Cert.Reference15Ideal.Facts] [hPre_finite_heads : Cert.Pre_finite_heads.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite_heads m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Kernel17Ideal_pre_finite_loss [hKernel17Ideal : Cert.Kernel17Ideal.Facts] [hPre_finite_loss : Cert.Pre_finite_loss.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite_loss m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Reference17Ideal_pre_finite_loss [hReference17Ideal : Cert.Reference17Ideal.Facts] [hPre_finite_loss : Cert.Pre_finite_loss.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite_loss m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v13) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal_pre_finite_rows [hKernel13Ideal : Cert.Kernel13Ideal.Facts] [hReference13Ideal : Cert.Reference13Ideal.Facts] [hPre_finite_rows : Cert.Pre_finite_rows.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_rows m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v34) = v0 c
          ∧ r.2.mem ((c.tc : Thread Cert.Reference13Ideal.nD Cert.Reference13Ideal.τ).loc Cert.Reference13Ideal.main_v17) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal_pre_finite_gates [hKernel14Ideal : Cert.Kernel14Ideal.Facts] [hReference14Ideal : Cert.Reference14Ideal.Facts] [hPre_finite_gates : Cert.Pre_finite_gates.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_gates m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v39) = v0 c
          ∧ r.2.mem ((c.tc : Thread Cert.Reference14Ideal.nD Cert.Reference14Ideal.τ).loc Cert.Reference14Ideal.main_v40) = v1 c
          ∧ r.2.mem ((c.tc : Thread Cert.Reference14Ideal.nD Cert.Reference14Ideal.τ).loc Cert.Reference14Ideal.main_v41) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal_pre_finite_heads [hKernel15Ideal : Cert.Kernel15Ideal.Facts] [hReference15Ideal : Cert.Reference15Ideal.Facts] [hPre_finite_heads : Cert.Pre_finite_heads.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite_heads m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v49) = v0 c
          ∧ r.2.mem ((c.tc : Thread Cert.Reference15Ideal.nD Cert.Reference15Ideal.τ).loc Cert.Reference15Ideal.main_v52) = v1 c
          ∧ r.2.mem ((c.tc : Thread Cert.Reference15Ideal.nD Cert.Reference15Ideal.τ).loc Cert.Reference15Ideal.main_v34) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel17_Kernel17Ideal : Prop :=
  True

def algebraic_Kernel17Ideal_Reference17Ideal_pre_finite_loss [hKernel17Ideal : Cert.Kernel17Ideal.Facts] [hReference17Ideal : Cert.Reference17Ideal.Facts] [hPre_finite_loss : Cert.Pre_finite_loss.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite_loss m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v51) = v0 c
          ∧ r.2.mem ((c.tc : Thread Cert.Reference17Ideal.nD Cert.Reference17Ideal.τ).loc Cert.Reference17Ideal.main_v52) = v1 c
          ∧ r.2.mem ((c.tc : Thread Cert.Reference17Ideal.nD Cert.Reference17Ideal.τ).loc Cert.Reference17Ideal.main_v35) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v15) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v13) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v19) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v21) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts) (hPre_finite_rows : Cert.Pre_finite_rows.Facts) (hPre_finite_gates : Cert.Pre_finite_gates.Facts) (hPre_finite_heads : Cert.Pre_finite_heads.Facts) (hPre_finite_loss : Cert.Pre_finite_loss.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite_rows (hKernel13Ideal := hKernel13Ideal) (hPre_finite_rows := hPre_finite_rows)
    ∧ quiescent_Reference13Ideal (hReference13Ideal := hReference13Ideal)
    ∧ quiescent_Reference13Ideal_pre_finite_rows (hReference13Ideal := hReference13Ideal) (hPre_finite_rows := hPre_finite_rows)
    ∧ quiescent_Kernel14 (hKernel14 := hKernel14)
    ∧ quiescent_Kernel14Ideal (hKernel14Ideal := hKernel14Ideal)
    ∧ quiescent_Kernel14Ideal_pre_finite_gates (hKernel14Ideal := hKernel14Ideal) (hPre_finite_gates := hPre_finite_gates)
    ∧ quiescent_Reference14Ideal (hReference14Ideal := hReference14Ideal)
    ∧ quiescent_Reference14Ideal_pre_finite_gates (hReference14Ideal := hReference14Ideal) (hPre_finite_gates := hPre_finite_gates)
    ∧ quiescent_Kernel15 (hKernel15 := hKernel15)
    ∧ quiescent_Kernel15Ideal (hKernel15Ideal := hKernel15Ideal)
    ∧ quiescent_Kernel15Ideal_pre_finite_heads (hKernel15Ideal := hKernel15Ideal) (hPre_finite_heads := hPre_finite_heads)
    ∧ quiescent_Reference15Ideal (hReference15Ideal := hReference15Ideal)
    ∧ quiescent_Reference15Ideal_pre_finite_heads (hReference15Ideal := hReference15Ideal) (hPre_finite_heads := hPre_finite_heads)
    ∧ quiescent_Kernel17 (hKernel17 := hKernel17)
    ∧ quiescent_Kernel17Ideal (hKernel17Ideal := hKernel17Ideal)
    ∧ quiescent_Kernel17Ideal_pre_finite_loss (hKernel17Ideal := hKernel17Ideal) (hPre_finite_loss := hPre_finite_loss)
    ∧ quiescent_Reference17Ideal (hReference17Ideal := hReference17Ideal)
    ∧ quiescent_Reference17Ideal_pre_finite_loss (hReference17Ideal := hReference17Ideal) (hPre_finite_loss := hPre_finite_loss)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite_rows (hKernel13Ideal := hKernel13Ideal) (hReference13Ideal := hReference13Ideal) (hPre_finite_rows := hPre_finite_rows)
    ∧ preserves_Kernel14_Kernel14Ideal
    ∧ algebraic_Kernel14Ideal_Reference14Ideal_pre_finite_gates (hKernel14Ideal := hKernel14Ideal) (hReference14Ideal := hReference14Ideal) (hPre_finite_gates := hPre_finite_gates)
    ∧ preserves_Kernel15_Kernel15Ideal
    ∧ algebraic_Kernel15Ideal_Reference15Ideal_pre_finite_heads (hKernel15Ideal := hKernel15Ideal) (hReference15Ideal := hReference15Ideal) (hPre_finite_heads := hPre_finite_heads)
    ∧ preserves_Kernel17_Kernel17Ideal
    ∧ algebraic_Kernel17Ideal_Reference17Ideal_pre_finite_loss (hKernel17Ideal := hKernel17Ideal) (hReference17Ideal := hReference17Ideal) (hPre_finite_loss := hPre_finite_loss)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite.lean ====
abbrev S16640x1024 : Shape := ⟨2, ![16640, 1024]⟩
abbrev S2816x1024 : Shape := ⟨2, ![2816, 1024]⟩
abbrev S16640x2816 : Shape := ⟨2, ![16640, 2816]⟩
abbrev S_ : Shape := ⟨0, ![]⟩

class Facts : Prop where
  bcast_S_S16640x1024 : S_.BroadcastsInDim S16640x1024 (![] : Fin 0 → Fin S16640x1024.rank)
  reducesTo_S16640x1024_S_d0_1 : S16640x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S16640x2816 : S_.BroadcastsInDim S16640x2816 (![] : Fin 0 → Fin S16640x2816.rank)
  reducesTo_S16640x2816_S_d0_1 : S16640x2816.ReducesTo [0, 1] S_

variable [Facts]

def fn_part1 {F : FTy → Type} [FloatOps F] (main_v13 : IVec S_ 1) (main_v16 : IVec S16640x2816 1) : IVec S_ 1 :=
  let main_c_5 : IVec S_ 1 := constantI S_ 1 1#1
  let main_v17 : IVec S_ 1 := (fun x v => Host.reduce IntOp.andi x v reducesTo_S16640x2816_S_d0_1 h_S_) main_v16 main_c_5
  let main_v18 : IVec S_ 1 := andi main_v13 main_v17
  main_v18

def fn {F : FTy → Type} [FloatOps F] (main_arg0 : FVec F S16640x1024 .f32) (main_arg1 : FVec F S2816x1024 .bf16) (main_arg2 : FVec F S16640x2816 .f32) (main_arg3 : FVec F S16640x2816 .f32) : IVec S_ 1 :=
  let main_v0 : FVec F S16640x1024 .f32 := Host.absf main_arg0
  let main_cst : FVec F S_ .f32 := constant S_ .f32 0x7F800000#32
  let main_v1 : FVec F S16640x1024 .f32 := broadcastInDim S16640x1024 ![] bcast_S_S16640x1024 main_cst
  let main_v2 : IVec S16640x1024 1 := cmpf .olt main_v0 main_v1
  let main_c : IVec S_ 1 := constantI S_ 1 1#1
  let main_v3 : IVec S_ 1 := (fun x v => Host.reduce IntOp.andi x v reducesTo_S16640x1024_S_d0_1 h_S_) main_v2 main_c
  let main_v4 : FVec F S2816x1024 .bf16 := Host.absf main_arg1
  let main_cst_0 : FVec F S_ .bf16 := constant S_ .bf16 0x7F80#16
  let main_v5 : FVec F S2816x1024 .bf16 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S16640x2816 .f32 := Host.absf main_arg2
  let main_cst_2 : FVec F S_ .f32 := constant S_ .f32 0x7F800000#32
  let main_v10 : FVec F S16640x2816 .f32 := broadcastInDim S16640x2816 ![] bcast_S_S16640x2816 main_cst_2
  let main_v11 : IVec S16640x2816 1 := cmpf .olt main_v9 main_v10
  let main_c_3 : IVec S_ 1 := constantI S_ 1 1#1
  let main_v12 : IVec S_ 1 := (fun x v => Host.reduce IntOp.andi x v reducesTo_S16640x2816_S_d0_1 h_S_) main_v11 main_c_3
  let main_v13 : IVec S_ 1 := andi main_v8 main_v12
  let main_v14 : FVec F S16640x2816 .f32 := Host.absf main_arg3
  let main_cst_4 : FVec F S_ .f32 := constant S_ .f32 0x7F800000#32
  let main_v15 : FVec F S16640x2816 .f32 := broadcastInDim S16640x2816 ![] bcast_S_S16640x2816 main_cst_4
  let main_v16 : IVec S16640x2816 1 := cmpf .olt main_v14 main_v15
  fn_part1 (F := F) main_v13 main_v16
-- ==== Pre_finite_gates.lean ====
abbrev S16640x128 : Shape := ⟨2, ![16640, 128]⟩
abbrev S1x128 : Shape := ⟨2, ![1, 128]⟩
abbrev S_ : Shape := ⟨0, ![]⟩

class Facts : Prop where
  bcast_S_S16640x128 : S_.BroadcastsInDim S16640x128 (![] : Fin 0 → Fin S16640x128.rank)
  reducesTo_S16640x128_S_d0_1 : S16640x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  main_v18

def fn {F : FTy → Type} [FloatOps F] (main_arg0 : FVec F S16640x128 .f32) (main_arg1 : FVec F S16640x128 .f32) (main_arg2 : FVec F S1x128 .f32) (main_arg3 : FVec F S1x128 .f32) : IVec S_ 1 :=
  let main_v0 : FVec F S16640x128 .f32 := Host.absf main_arg0
  let main_cst : FVec F S_ .f32 := constant S_ .f32 0x7F800000#32
  let main_v1 : FVec F S16640x128 .f32 := broadcastInDim S16640x128 ![] bcast_S_S16640x128 main_cst
  let main_v2 : IVec S16640x128 1 := cmpf .olt main_v0 main_v1
  let main_c : IVec S_ 1 := constantI S_ 1 1#1
  let main_v3 : IVec S_ 1 := (fun x v => Host.reduce IntOp.andi x v reducesTo_S16640x128_S_d0_1 h_S_) main_v2 main_c
  let main_v4 : FVec F S16640x128 .f32 := Host.absf main_arg1
  let main_cst_0 : FVec F S_ .f32 := constant S_ .f32 0x7F800000#32
  let main_v5 : FVec F S16640x128 .f32 := broadcastInDim S16640x128 ![] bcast_S_S16640x128 main_cst_0
  let main_v6 : IVec S16640x128 1 := cmpf .olt main_v4 main_v5
  let main_c_1 : IVec S_ 1 := constantI S_ 1 1#1
  let main_v7 : IVec S_ 1 := (fun x v => Host.reduce IntOp.andi x v reducesTo_S16640x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_v13 main_v16
-- ==== Pre_finite_heads.lean ====
abbrev S16640x3072 : Shape := ⟨2, ![16640, 3072]⟩
abbrev S16640x1024 : Shape := ⟨2, ![16640, 1024]⟩
abbrev S16640x512 : Shape := ⟨2, ![16640, 512]⟩
abbrev S1x128 : Shape := ⟨2, ![1, 128]⟩
abbrev S_ : Shape := ⟨0, ![]⟩

class Facts : Prop where
  bcast_S_S16640x1024 : S_.BroadcastsInDim S16640x1024 (![] : Fin 0 → Fin S16640x1024.rank)
  reducesTo_S16640x1024_S_d0_1 : S16640x1024.ReducesTo [0, 1] S_
  h_S_ : 0 < S_.numel
  bcast_S_S16640x512 : S_.BroadcastsInDim S16640x512 (![] : Fin 0 → Fin S16640x512.rank)
  reducesTo_S16640x512_S_d0_1 : S16640x512.ReducesTo [0, 1] S_
  bcast_S_S16640x3072 : S_.BroadcastsInDim S16640x3072 (![] : Fin 0 → Fin S16640x3072.rank)
  reducesTo_S16640x3072_S_d0_1 : S16640x3072.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  main_v18

def fn {F : FTy → Type} [FloatOps F] (main_arg0 : FVec F S16640x3072 .bf16) (main_arg1 : FVec F S16640x1024 .f32) (main_arg2 : FVec F S16640x512 .f32) (main_arg3 : FVec F S16640x3072 .f32) (main_arg4 : FVec F S1x128 .f32) : IVec S_ 1 :=
  let main_v0 : FVec F S16640x1024 .f32 := Host.absf main_arg1
  let main_cst : FVec F S_ .f32 := constant S_ .f32 0x7F800000#32
  let main_v1 : FVec F S16640x1024 .f32 := broadcastInDim S16640x1024 ![] bcast_S_S16640x1024 main_cst
  let main_v2 : IVec S16640x1024 1 := cmpf .olt main_v0 main_v1
  let main_c : IVec S_ 1 := constantI S_ 1 1#1
  let main_v3 : IVec S_ 1 := (fun x v => Host.reduce IntOp.andi x v reducesTo_S16640x1024_S_d0_1 h_S_) main_v2 main_c
  let main_v4 : FVec F S16640x512 .f32 := Host.absf main_arg2
  let main_cst_0 : FVec F S_ .f32 := constant S_ .f32 0x7F800000#32
  let main_v5 : FVec F S16640x512 .f32 := broadcastInDim S16640x512 ![] bcast_S_S16640x512 main_cst_0
  let main_v6 : IVec S16640x512 1 := cmpf .olt main_v4 main_v5
  let main_c_1 : IVec S_ 1 := constantI S_ 1 1#1
  let main_v7 : IVec S_ 1 := (fun x v => Host.reduce IntOp.andi x v reducesTo_S16640x512_S_d0_1 h_S_) main_v6 main_c_1
  let main_v8 : IVec S_ 1 := andi main_v3 main_v7
  let main_v9 : FVec F S16640x3072 .f32 := Host.absf main_arg3
  let main_cst_2 : FVec F S_ .f32 := constant S_ .f32 0x7F800000#32
  let main_v10 : FVec F S16640x3072 .f32 := broadcastInDim S16640x3072 ![] bcast_S_S16640x3072 main_cst_2
  let main_v11 : IVec S16640x3072 1 := cmpf .olt main_v9 main_v10
  let main_c_3 : IVec S_ 1 := constantI S_ 1 1#1
  let main_v12 : IVec S_ 1 := (fun x v => Host.reduce IntOp.andi x v reducesTo_S16640x3072_S_d0_1 h_S_) main_v11 main_c_3
  let main_v13 : IVec S_ 1 := andi main_v8 main_v12
  let main_v14 : FVec F S1x128 .f32 := Host.absf main_arg4
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_v13 main_v16
-- ==== Pre_finite_loss.lean ====
abbrev S16640x1024 : Shape := ⟨2, ![16640, 1024]⟩
abbrev S1x1024 : Shape := ⟨2, ![1, 1024]⟩
abbrev S_ : Shape := ⟨0, ![]⟩

class Facts : Prop where
  bcast_S_S16640x1024 : S_.BroadcastsInDim S16640x1024 (![] : Fin 0 → Fin S16640x1024.rank)
  reducesTo_S16640x1024_S_d0_1 : S16640x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S16640x1024 .f32) (main_arg1 : FVec F S16640x1024 .f32) (main_arg2 : FVec F S1x1024 .f32) : IVec S_ 1 :=
  let main_v0 : FVec F S16640x1024 .f32 := Host.absf main_arg0
  let main_cst : FVec F S_ .f32 := constant S_ .f32 0x7F800000#32
  let main_v1 : FVec F S16640x1024 .f32 := broadcastInDim S16640x1024 ![] bcast_S_S16640x1024 main_cst
  let main_v2 : IVec S16640x1024 1 := cmpf .olt main_v0 main_v1
  let main_c : IVec S_ 1 := constantI S_ 1 1#1
  let main_v3 : IVec S_ 1 := (fun x v => Host.reduce IntOp.andi x v reducesTo_S16640x1024_S_d0_1 h_S_) main_v2 main_c
  let main_v4 : FVec F S16640x1024 .f32 := Host.absf main_arg1
  let main_cst_0 : FVec F S_ .f32 := constant S_ .f32 0x7F800000#32
  let main_v5 : FVec F S16640x1024 .f32 := broadcastInDim S16640x1024 ![] bcast_S_S16640x1024 main_cst_0
  let main_v6 : IVec S16640x1024 1 := cmpf .olt main_v4 main_v5
  let main_c_1 : IVec S_ 1 := constantI S_ 1 1#1
  let main_v7 : IVec S_ 1 := (fun x v => Host.reduce IntOp.andi x v reducesTo_S16640x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Pre_finite_rows.lean ====
abbrev S16640x1024 : Shape := ⟨2, ![16640, 1024]⟩
abbrev S1x1024 : Shape := ⟨2, ![1, 1024]⟩
abbrev S_ : Shape := ⟨0, ![]⟩

class Facts : Prop where
  bcast_S_S16640x1024 : S_.BroadcastsInDim S16640x1024 (![] : Fin 0 → Fin S16640x1024.rank)
  reducesTo_S16640x1024_S_d0_1 : S16640x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S16640x1024 .f32) (main_arg1 : FVec F S16640x1024 .f32) (main_arg2 : FVec F S1x1024 .f32) (main_arg3 : FVec F S16640x1024 .f32) : IVec S_ 1 :=
  let main_v0 : FVec F S16640x1024 .f32 := Host.absf main_arg0
  let main_cst : FVec F S_ .f32 := constant S_ .f32 0x7F800000#32
  let main_v1 : FVec F S16640x1024 .f32 := broadcastInDim S16640x1024 ![] bcast_S_S16640x1024 main_cst
  let main_v2 : IVec S16640x1024 1 := cmpf .olt main_v0 main_v1
  let main_c : IVec S_ 1 := constantI S_ 1 1#1
  let main_v3 : IVec S_ 1 := (fun x v => Host.reduce IntOp.andi x v reducesTo_S16640x1024_S_d0_1 h_S_) main_v2 main_c
  let main_v4 : FVec F S16640x1024 .f32 := Host.absf main_arg1
  let main_cst_0 : FVec F S_ .f32 := constant S_ .f32 0x7F800000#32
  let main_v5 : FVec F S16640x1024 .f32 := broadcastInDim S16640x1024 ![] bcast_S_S16640x1024 main_cst_0
  let main_v6 : IVec S16640x1024 1 := cmpf .olt main_v4 main_v5
  let main_c_1 : IVec S_ 1 := constantI S_ 1 1#1
  let main_v7 : IVec S_ 1 := (fun x v => Host.reduce IntOp.andi x v reducesTo_S16640x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Kernel.lean ====
abbrev S16640x1024 : Shape := ⟨2, ![16640, 1024]⟩
abbrev S2816x1024 : Shape := ⟨2, ![2816, 1024]⟩
abbrev S16640x2816 : Shape := ⟨2, ![16640, 2816]⟩
abbrev S640x1024 : Shape := ⟨2, ![640, 1024]⟩
abbrev S1408x1024 : Shape := ⟨2, ![1408, 1024]⟩
abbrev S640x1408 : Shape := ⟨2, ![640, 1408]⟩

abbrev nBuf : Space → Nat
  | .hbm => 6
  | .vmem => 12
  | .smem => 0
  | _ => 0

abbrev bufTy : (tb : Table) → Fin (tcTables nBuf tb) → BufTy
  | .hbm, ⟨0, _⟩ => ⟨S16640x1024, .f32⟩
  | .hbm, ⟨1, _⟩ => ⟨S2816x1024, .bf16⟩
  | .hbm, ⟨2, _⟩ => ⟨S16640x2816, .f32⟩
  | .hbm, ⟨3, _⟩ => ⟨S16640x2816, .f32⟩
  | .hbm, ⟨4, _⟩ => ⟨S16640x2816, .bf16⟩
  | .hbm, ⟨5, _⟩ => ⟨S16640x2816, .bf16⟩
  | .local _ .vmem, ⟨0, _⟩ => ⟨S640x1024, .f32⟩
  | .local _ .vmem, ⟨1, _⟩ => ⟨S640x1024, .f32⟩
  | .local _ .vmem, ⟨2, _⟩ => ⟨S1408x1024, .bf16⟩
  | .local _ .vmem, ⟨3, _⟩ => ⟨S1408x1024, .bf16⟩
  | .local _ .vmem, ⟨4, _⟩ => ⟨S640x1408, .f32⟩
  | .local _ .vmem, ⟨5, _⟩ => ⟨S640x1408, .f32⟩
  | .local _ .vmem, ⟨6, _⟩ => ⟨S640x1408, .f32⟩
  | .local _ .vmem, ⟨7, _⟩ => ⟨S640x1408, .f32⟩
  | .local _ .vmem, ⟨8, _⟩ => ⟨S640x1408, .bf16⟩
  | .local _ .vmem, ⟨9, _⟩ => ⟨S640x1408, .bf16⟩
  | .local _ .vmem, ⟨10, _⟩ => ⟨S640x1408, .bf16⟩
  | .local _ .vmem, ⟨11, _⟩ => ⟨S640x1408, .bf16⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![26, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S640x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S640x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S16640x1024 : Shape := ⟨2, ![16640, 1024]⟩
abbrev S2816x1024 : Shape := ⟨2, ![2816, 1024]⟩
abbrev S16640x2816 : Shape := ⟨2, ![16640, 2816]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S2816x1024, .bf16⟩
  | .hbm, ⟨2, _⟩ => ⟨S16640x2816, .f32⟩
  | .hbm, ⟨3, _⟩ => ⟨S16640x2816, .f32⟩
  | .hbm, ⟨4, _⟩ => ⟨S16640x2816, .f32⟩
  | .hbm, ⟨5, _⟩ => ⟨S16640x2816, .f32⟩
  | .hbm, ⟨6, _⟩ => ⟨S_, .f32⟩
  | .hbm, ⟨7, _⟩ => ⟨S16640x2816, .f32⟩
  | .hbm, ⟨8, _⟩ => ⟨S16640x2816, .f32⟩
  | .hbm, ⟨9, _⟩ => ⟨S_, .f32⟩
  | .hbm, ⟨10, _⟩ => ⟨S16640x2816, .f32⟩
  | .hbm, ⟨11, _⟩ => ⟨S16640x2816, .f32⟩
  | .hbm, ⟨12, _⟩ => ⟨S_, .f32⟩
  | .hbm, ⟨13, _⟩ => ⟨S16640x2816, .f32⟩
  | .hbm, ⟨14, _⟩ => ⟨S16640x2816, .f32⟩
  | .hbm, ⟨15, _⟩ => ⟨S16640x2816, .f32⟩
  | .hbm, ⟨16, _⟩ => ⟨S16640x2816, .f32⟩
  | .hbm, ⟨17, _⟩ => ⟨S16640x2816, .f32⟩
  | .hbm, ⟨18, _⟩ => ⟨S2816x1024, .f32⟩
  | .hbm, ⟨19, _⟩ => ⟨S16640x1024, .f32⟩
  | .hbm, ⟨20, _⟩ => ⟨S16640x2816, .f32⟩
  | .hbm, ⟨21, _⟩ => ⟨S16640x2816, .f32⟩
  | .hbm, ⟨22, _⟩ => ⟨S16640x2816, .f32⟩
  | .hbm, ⟨23, _⟩ => ⟨S16640x2816, .f32⟩
  | .hbm, ⟨24, _⟩ => ⟨S16640x2816, .f32⟩
  | .hbm, ⟨25, _⟩ => ⟨S16640x2816, .f32⟩
  | .hbm, ⟨26, _⟩ => ⟨S16640x2816, .f32⟩
  | .hbm, ⟨27, _⟩ => ⟨S16640x2816, .bf16⟩
  | .hbm, ⟨28, _⟩ => ⟨S16640x2816, .bf16⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== Kernel2.lean ====
abbrev S16640x2816 : Shape := ⟨2, ![16640, 2816]⟩
abbrev S16640x1024 : Shape := ⟨2, ![16640, 1024]⟩
abbrev S2816x1024 : Shape := ⟨2, ![2816, 1024]⟩
abbrev S640x1408 : Shape := ⟨2, ![640, 1408]⟩
abbrev S640x1024 : Shape := ⟨2, ![640, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S16640x2816, .f32⟩
  | .hbm, ⟨1, _⟩ => ⟨S16640x2816, .f32⟩
  | .hbm, ⟨2, _⟩ => ⟨S16640x1024, .f32⟩
  | .hbm, ⟨3, _⟩ => ⟨S2816x1024, .bf16⟩
  | .local _ .vmem, ⟨0, _⟩ => ⟨S640x1408, .f32⟩
  | .local _ .vmem, ⟨1, _⟩ => ⟨S640x1408, .f32⟩
  | .local _ .vmem, ⟨2, _⟩ => ⟨S640x1408, .f32⟩
  | .local _ .vmem, ⟨3, _⟩ => ⟨S640x1408, .f32⟩
  | .local _ .vmem, ⟨4, _⟩ => ⟨S640x1024, .f32⟩
  | .local _ .vmem, ⟨5, _⟩ => ⟨S640x1024, .f32⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S16640x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 26], ![false, false, false]⟩

def k0_cond2 (i : grid0.Coords) : BitVec 1 :=
  let arg2 : BitVec 32 := BitVec.ofNat 32 (i 2).val
  let c25_i32 : BitVec 32 := 25#32
  let v23 : BitVec 1 := Scalar.cmpi .eq arg2 c25_i32
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S16640x2816 : Shape := ⟨2, ![16640, 2816]⟩
abbrev S16640x1024 : Shape := ⟨2, ![16640, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 16
  | .vmem => 0
  | .smem => 0
  | _ => 0

abbrev bufTy : (tb : Table) → Fin (tcTables nBuf tb) → BufTy
  | .hbm, ⟨0, _⟩ => ⟨S16640x2816, .f32⟩
  | .hbm, ⟨1, _⟩ => ⟨S16640x2816, .f32⟩
  | .hbm, ⟨2, _⟩ => ⟨S16640x1024, .f32⟩
  | .hbm, ⟨3, _⟩ => ⟨S16640x2816, .f32⟩
  | .hbm, ⟨4, _⟩ => ⟨S16640x2816, .f32⟩
  | .hbm, ⟨5, _⟩ => ⟨S_, .f32⟩
  | .hbm, ⟨6, _⟩ => ⟨S16640x2816, .f32⟩
  | .hbm, ⟨7, _⟩ => ⟨S16640x2816, .f32⟩
  | .hbm, ⟨8, _⟩ => ⟨S_, .f32⟩
  | .hbm, ⟨9, _⟩ => ⟨S16640x2816, .f32⟩
  | .hbm, ⟨10, _⟩ => ⟨S16640x2816, .f32⟩
  | .hbm, ⟨11, _⟩ => ⟨S16640x2816, .f32⟩
  | .hbm, ⟨12, _⟩ => ⟨S16640x2816, .f32⟩
  | .hbm, ⟨13, _⟩ => ⟨S1024x2816, .f32⟩
  | .hbm, ⟨14, _⟩ => ⟨S2816x1024, .f32⟩
  | .hbm, ⟨15, _⟩ => ⟨S2816x1024, .bf16⟩
  | _, _ => ⟨S16640x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel3.lean ====
abbrev S16640x2816 : Shape := ⟨2, ![16640, 2816]⟩
abbrev S1024x2816 : Shape := ⟨2, ![1024, 2816]⟩
abbrev S16640x1024 : Shape := ⟨2, ![16640, 1024]⟩
abbrev S1280x1408 : Shape := ⟨2, ![1280, 1408]⟩
abbrev S1024x1408 : Shape := ⟨2, ![1024, 1408]⟩
abbrev S1280x1024 : Shape := ⟨2, ![1280, 1024]⟩

abbrev nBuf : Space → Nat
  | .hbm => 5
  | .vmem => 11
  | .smem => 0
  | _ => 0

abbrev bufTy : (tb : Table) → Fin (tcTables nBuf tb) → BufTy
  | .hbm, ⟨0, _⟩ => ⟨S16640x2816, .bf16⟩
  | .hbm, ⟨1, _⟩ => ⟨S1024x2816, .bf16⟩
  | .hbm, ⟨2, _⟩ => ⟨S16640x2816, .bf16⟩
  | .hbm, ⟨3, _⟩ => ⟨S1024x2816, .bf16⟩
  | .hbm, ⟨4, _⟩ => ⟨S16640x1024, .f32⟩
  | .local _ .vmem, ⟨0, _⟩ => ⟨S1280x1408, .bf16⟩
  | .local _ .vmem, ⟨1, _⟩ => ⟨S1280x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1280x1408, .bf16⟩
  | .local _ .vmem, ⟨5, _⟩ => ⟨S1280x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1280x1024, .f32⟩
  | .local _ .vmem, ⟨9, _⟩ => ⟨S1280x1024, .f32⟩
  | .local _ .vmem, ⟨10, _⟩ => ⟨S1280x1024, .f32⟩
  | _, _ => ⟨S16640x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![13, 1, 2], ![false, false, false]⟩

def k0_cond2 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1280x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S16640x2816 : Shape := ⟨2, ![16640, 2816]⟩
abbrev S1024x2816 : Shape := ⟨2, ![1024, 2816]⟩
abbrev S16640x1024 : Shape := ⟨2, ![16640, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16640x2816, .bf16⟩
  | .hbm, ⟨1, _⟩ => ⟨S1024x2816, .bf16⟩
  | .hbm, ⟨2, _⟩ => ⟨S16640x2816, .bf16⟩
  | .hbm, ⟨3, _⟩ => ⟨S1024x2816, .bf16⟩
  | .hbm, ⟨4, _⟩ => ⟨S1024x2816, .f32⟩
  | .hbm, ⟨5, _⟩ => ⟨S1024x2816, .f32⟩
  | .hbm, ⟨6, _⟩ => ⟨S16640x2816, .f32⟩
  | .hbm, ⟨7, _⟩ => ⟨S16640x2816, .f32⟩
  | .hbm, ⟨8, _⟩ => ⟨S16640x1024, .f32⟩
  | .hbm, ⟨9, _⟩ => ⟨S16640x1024, .f32⟩
  | .hbm, ⟨10, _⟩ => ⟨S16640x1024, .f32⟩
  | _, _ => ⟨S16640x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel4.lean ====
abbrev S16640x1024 : Shape := ⟨2, ![16640, 1024]⟩
abbrev S1x1024 : Shape := ⟨2, ![1, 1024]⟩
abbrev S16640x2816 : Shape := ⟨2, ![16640, 2816]⟩
abbrev S1024x2816 : Shape := ⟨2, ![1024, 2816]⟩
abbrev S1280x1024 : Shape := ⟨2, ![1280, 1024]⟩
abbrev S1280x1408 : Shape := ⟨2, ![1280, 1408]⟩
abbrev S1024x1408 : Shape := ⟨2, ![1024, 1408]⟩
abbrev S1280 : Shape := ⟨1, ![1280]⟩
abbrev S1280x1 : Shape := ⟨2, ![1280, 1]⟩

abbrev nBuf : Space → Nat
  | .hbm => 4
  | .vmem => 8
  | .smem => 0
  | _ => 0

abbrev bufTy : (tb : Table) → Fin (tcTables nBuf tb) → BufTy
  | .hbm, ⟨0, _⟩ => ⟨S16640x1024, .f32⟩
  | .hbm, ⟨1, _⟩ => ⟨S1x1024, .f32⟩
  | .hbm, ⟨2, _⟩ => ⟨S16640x2816, .bf16⟩
  | .hbm, ⟨3, _⟩ => ⟨S1024x2816, .bf16⟩
  | .local _ .vmem, ⟨0, _⟩ => ⟨S1280x1024, .f32⟩
  | .local _ .vmem, ⟨1, _⟩ => ⟨S1280x1024, .f32⟩
  | .local _ .vmem, ⟨2, _⟩ => ⟨S1x1024, .f32⟩
  | .local _ .vmem, ⟨3, _⟩ => ⟨S1280x1408, .bf16⟩
  | .local _ .vmem, ⟨4, _⟩ => ⟨S1280x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 13], ![false, false, false]⟩

def k0_cond2 (i : grid0.Coords) : BitVec 1 :=
  let arg2 : BitVec 32 := BitVec.ofNat 32 (i 2).val
  let c12_i32 : BitVec 32 := 12#32
  let v25 : BitVec 1 := Scalar.cmpi .eq arg2 c12_i32
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S1280x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S16640x1024 : Shape := ⟨2, ![16640, 1024]⟩
abbrev S1x1024 : Shape := ⟨2, ![1, 1024]⟩
abbrev S16640x2816 : Shape := ⟨2, ![16640, 2816]⟩
abbrev S_ : Shape := ⟨0, ![]⟩
abbrev S16640 : Shape := ⟨1, ![16640]⟩
abbrev S16640x1 : Shape := ⟨2, ![16640, 1]⟩
abbrev S2816x1024 : Shape := ⟨2, ![2816, 1024]⟩
abbrev S1024x2816 : Shape := ⟨2, ![1024, 2816]⟩

abbrev nBuf : Space → Nat
  | .hbm => 22
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1x1024, .f32⟩
  | .hbm, ⟨2, _⟩ => ⟨S16640x2816, .bf16⟩
  | .hbm, ⟨3, _⟩ => ⟨S16640x1024, .f32⟩
  | .hbm, ⟨4, _⟩ => ⟨S_, .f32⟩
  | .hbm, ⟨5, _⟩ => ⟨S16640, .f32⟩
  | .hbm, ⟨6, _⟩ => ⟨S16640x1, .f32⟩
  | .hbm, ⟨7, _⟩ => ⟨S_, .f32⟩
  | .hbm, ⟨8, _⟩ => ⟨S16640x1, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S16640x1, .f32⟩
  | .hbm, ⟨14, _⟩ => ⟨S16640x1024, .f32⟩
  | .hbm, ⟨15, _⟩ => ⟨S16640x1024, .f32⟩
  | .hbm, ⟨16, _⟩ => ⟨S16640x1024, .f32⟩
  | .hbm, ⟨17, _⟩ => ⟨S16640x1024, .f32⟩
  | .hbm, ⟨18, _⟩ => ⟨S16640x2816, .f32⟩
  | .hbm, ⟨19, _⟩ => ⟨S2816x1024, .f32⟩
  | .hbm, ⟨20, _⟩ => ⟨S1024x2816, .f32⟩
  | .hbm, ⟨21, _⟩ => ⟨S1024x2816, .bf16⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel5.lean ====
abbrev S16640x1024 : Shape := ⟨2, ![16640, 1024]⟩
abbrev S1024x1024 : Shape := ⟨2, ![1024, 1024]⟩
abbrev S1280x1024 : Shape := ⟨2, ![1280, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16640x1024, .f32⟩
  | .hbm, ⟨1, _⟩ => ⟨S1024x1024, .bf16⟩
  | .hbm, ⟨2, _⟩ => ⟨S16640x1024, .f32⟩
  | .local _ .vmem, ⟨0, _⟩ => ⟨S1280x1024, .f32⟩
  | .local _ .vmem, ⟨1, _⟩ => ⟨S1280x1024, .f32⟩
  | .local _ .vmem, ⟨2, _⟩ => ⟨S1024x1024, .bf16⟩
  | .local _ .vmem, ⟨3, _⟩ => ⟨S1280x1024, .f32⟩
  | .local _ .vmem, ⟨4, _⟩ => ⟨S1280x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16640x1024 : Shape := ⟨2, ![16640, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024x1024, .bf16⟩
  | .hbm, ⟨2, _⟩ => ⟨S1024x1024, .f32⟩
  | .hbm, ⟨3, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S16640x1024 : Shape := ⟨2, ![16640, 1024]⟩
abbrev S1024x1024 : Shape := ⟨2, ![1024, 1024]⟩
abbrev S1280x1024 : Shape := ⟨2, ![1280, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .f32⟩
  | .hbm, ⟨2, _⟩ => ⟨S1024x1024, .bf16⟩
  | .local _ .vmem, ⟨0, _⟩ => ⟨S1280x1024, .bf16⟩
  | .local _ .vmem, ⟨1, _⟩ => ⟨S1280x1024, .bf16⟩
  | .local _ .vmem, ⟨2, _⟩ => ⟨S1280x1024, .f32⟩
  | .local _ .vmem, ⟨3, _⟩ => ⟨S1280x1024, .f32⟩
  | .local _ .vmem, ⟨4, _⟩ => ⟨S1024x1024, .bf16⟩
  | .local _ .vmem, ⟨5, _⟩ => ⟨S1024x1024, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 13], ![false, false, false]⟩

def k0_cond2 (i : grid0.Coords) : BitVec 1 :=
  let arg2 : BitVec 32 := BitVec.ofNat 32 (i 2).val
  let c12_i32 : BitVec 32 := 12#32
  let v12 : BitVec 1 := Scalar.cmpi .eq arg2 c12_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S16640x1024 : Shape := ⟨2, ![16640, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .f32⟩
  | .hbm, ⟨2, _⟩ => ⟨S16640x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S16640x3072 : Shape := ⟨2, ![16640, 3072]⟩
abbrev S1024x3072 : Shape := ⟨2, ![1024, 3072]⟩
abbrev S16640x1024 : Shape := ⟨2, ![16640, 1024]⟩
abbrev S1280x1024 : Shape := ⟨2, ![1280, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S16640x3072, .bf16⟩
  | .hbm, ⟨1, _⟩ => ⟨S1024x3072, .bf16⟩
  | .hbm, ⟨2, _⟩ => ⟨S16640x1024, .f32⟩
  | .hbm, ⟨3, _⟩ => ⟨S16640x1024, .f32⟩
  | .local _ .vmem, ⟨0, _⟩ => ⟨S1280x1024, .bf16⟩
  | .local _ .vmem, ⟨1, _⟩ => ⟨S1280x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1280x1024, .f32⟩
  | .local _ .vmem, ⟨5, _⟩ => ⟨S1280x1024, .f32⟩
  | .local _ .vmem, ⟨6, _⟩ => ⟨S1280x1024, .f32⟩
  | .local _ .vmem, ⟨7, _⟩ => ⟨S1280x1024, .f32⟩
  | .local _ .vmem, ⟨8, _⟩ => ⟨S1280x1024, .f32⟩
  | _, _ => ⟨S16640x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![13, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1280x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S16640x3072 : Shape := ⟨2, ![16640, 3072]⟩
abbrev S1024x3072 : Shape := ⟨2, ![1024, 3072]⟩
abbrev S16640x1024 : Shape := ⟨2, ![16640, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16640x3072, .bf16⟩
  | .hbm, ⟨1, _⟩ => ⟨S1024x3072, .bf16⟩
  | .hbm, ⟨2, _⟩ => ⟨S16640x1024, .f32⟩
  | .hbm, ⟨3, _⟩ => ⟨S1024x3072, .f32⟩
  | .hbm, ⟨4, _⟩ => ⟨S16640x3072, .f32⟩
  | .hbm, ⟨5, _⟩ => ⟨S16640x1024, .f32⟩
  | .hbm, ⟨6, _⟩ => ⟨S16640x1024, .f32⟩
  | _, _ => ⟨S16640x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S16640x1024 : Shape := ⟨2, ![16640, 1024]⟩
abbrev S1x1024 : Shape := ⟨2, ![1, 1024]⟩
abbrev S16640x3072 : Shape := ⟨2, ![16640, 3072]⟩
abbrev S1024x3072 : Shape := ⟨2, ![1024, 3072]⟩
abbrev S1280x1024 : Shape := ⟨2, ![1280, 1024]⟩
abbrev S1024x1024 : Shape := ⟨2, ![1024, 1024]⟩
abbrev S1280 : Shape := ⟨1, ![1280]⟩
abbrev S1280x1 : Shape := ⟨2, ![1280, 1]⟩

abbrev nBuf : Space → Nat
  | .hbm => 4
  | .vmem => 8
  | .smem => 0
  | _ => 0

abbrev bufTy : (tb : Table) → Fin (tcTables nBuf tb) → BufTy
  | .hbm, ⟨0, _⟩ => ⟨S16640x1024, .f32⟩
  | .hbm, ⟨1, _⟩ => ⟨S1x1024, .f32⟩
  | .hbm, ⟨2, _⟩ => ⟨S16640x3072, .bf16⟩
  | .hbm, ⟨3, _⟩ => ⟨S1024x3072, .bf16⟩
  | .local _ .vmem, ⟨0, _⟩ => ⟨S1280x1024, .f32⟩
  | .local _ .vmem, ⟨1, _⟩ => ⟨S1280x1024, .f32⟩
  | .local _ .vmem, ⟨2, _⟩ => ⟨S1x1024, .f32⟩
  | .local _ .vmem, ⟨3, _⟩ => ⟨S1280x1024, .bf16⟩
  | .local _ .vmem, ⟨4, _⟩ => ⟨S1280x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 3, 13], ![false, false, false]⟩

def k0_cond2 (i : grid0.Coords) : BitVec 1 :=
  let arg2 : BitVec 32 := BitVec.ofNat 32 (i 2).val
  let c12_i32 : BitVec 32 := 12#32
  let v25 : BitVec 1 := Scalar.cmpi .eq arg2 c12_i32
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S16640x1024 : Shape := ⟨2, ![16640, 1024]⟩
abbrev S1x1024 : Shape := ⟨2, ![1, 1024]⟩
abbrev S16640x3072 : Shape := ⟨2, ![16640, 3072]⟩
abbrev S_ : Shape := ⟨0, ![]⟩
abbrev S16640 : Shape := ⟨1, ![16640]⟩
abbrev S16640x1 : Shape := ⟨2, ![16640, 1]⟩
abbrev S3072x1024 : Shape := ⟨2, ![3072, 1024]⟩
abbrev S1024x3072 : Shape := ⟨2, ![1024, 3072]⟩

abbrev nBuf : Space → Nat
  | .hbm => 22
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1x1024, .f32⟩
  | .hbm, ⟨2, _⟩ => ⟨S16640x3072, .bf16⟩
  | .hbm, ⟨3, _⟩ => ⟨S16640x1024, .f32⟩
  | .hbm, ⟨4, _⟩ => ⟨S_, .f32⟩
  | .hbm, ⟨5, _⟩ => ⟨S16640, .f32⟩
  | .hbm, ⟨6, _⟩ => ⟨S16640x1, .f32⟩
  | .hbm, ⟨7, _⟩ => ⟨S_, .f32⟩
  | .hbm, ⟨8, _⟩ => ⟨S16640x1, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S16640x1, .f32⟩
  | .hbm, ⟨14, _⟩ => ⟨S16640x1024, .f32⟩
  | .hbm, ⟨15, _⟩ => ⟨S16640x1024, .f32⟩
  | .hbm, ⟨16, _⟩ => ⟨S16640x1024, .f32⟩
  | .hbm, ⟨17, _⟩ => ⟨S16640x1024, .f32⟩
  | .hbm, ⟨18, _⟩ => ⟨S16640x3072, .f32⟩
  | .hbm, ⟨19, _⟩ => ⟨S3072x1024, .f32⟩
  | .hbm, ⟨20, _⟩ => ⟨S1024x3072, .f32⟩
  | .hbm, ⟨21, _⟩ => ⟨S1024x3072, .bf16⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel9.lean ====
abbrev S16640x1024 : Shape := ⟨2, ![16640, 1024]⟩
abbrev S1x1024 : Shape := ⟨2, ![1, 1024]⟩
abbrev S1024x2816 : Shape := ⟨2, ![1024, 2816]⟩
abbrev S16640x2816 : Shape := ⟨2, ![16640, 2816]⟩
abbrev S1280x1024 : Shape := ⟨2, ![1280, 1024]⟩
abbrev S1024x1408 : Shape := ⟨2, ![1024, 1408]⟩
abbrev S1280x1408 : Shape := ⟨2, ![1280, 1408]⟩
abbrev S320x1024 : Shape := ⟨2, ![320, 1024]⟩
abbrev S320 : Shape := ⟨1, ![320]⟩
abbrev S320x1 : Shape := ⟨2, ![320, 1]⟩
abbrev S320x1408 : Shape := ⟨2, ![320, 1408]⟩

abbrev nBuf : Space → Nat
  | .hbm => 4
  | .vmem => 7
  | .smem => 0
  | _ => 0

abbrev bufTy : (tb : Table) → Fin (tcTables nBuf tb) → BufTy
  | .hbm, ⟨0, _⟩ => ⟨S16640x1024, .f32⟩
  | .hbm, ⟨1, _⟩ => ⟨S1x1024, .f32⟩
  | .hbm, ⟨2, _⟩ => ⟨S1024x2816, .bf16⟩
  | .hbm, ⟨3, _⟩ => ⟨S16640x2816, .f32⟩
  | .local _ .vmem, ⟨0, _⟩ => ⟨S1280x1024, .f32⟩
  | .local _ .vmem, ⟨1, _⟩ => ⟨S1280x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1280x1408, .f32⟩
  | .local _ .vmem, ⟨6, _⟩ => ⟨S1280x1408, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![13, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1280x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S16640x1024 : Shape := ⟨2, ![16640, 1024]⟩
abbrev S1x1024 : Shape := ⟨2, ![1, 1024]⟩
abbrev S1024x2816 : Shape := ⟨2, ![1024, 2816]⟩
abbrev S_ : Shape := ⟨0, ![]⟩
abbrev S16640 : Shape := ⟨1, ![16640]⟩
abbrev S16640x1 : Shape := ⟨2, ![16640, 1]⟩
abbrev S16640x2816 : Shape := ⟨2, ![16640, 2816]⟩

abbrev nBuf : Space → Nat
  | .hbm => 20
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1x1024, .f32⟩
  | .hbm, ⟨2, _⟩ => ⟨S1024x2816, .bf16⟩
  | .hbm, ⟨3, _⟩ => ⟨S16640x1024, .f32⟩
  | .hbm, ⟨4, _⟩ => ⟨S_, .f32⟩
  | .hbm, ⟨5, _⟩ => ⟨S16640, .f32⟩
  | .hbm, ⟨6, _⟩ => ⟨S16640x1, .f32⟩
  | .hbm, ⟨7, _⟩ => ⟨S_, .f32⟩
  | .hbm, ⟨8, _⟩ => ⟨S16640x1, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S16640x1, .f32⟩
  | .hbm, ⟨14, _⟩ => ⟨S16640x1024, .f32⟩
  | .hbm, ⟨15, _⟩ => ⟨S16640x1024, .f32⟩
  | .hbm, ⟨16, _⟩ => ⟨S16640x1024, .f32⟩
  | .hbm, ⟨17, _⟩ => ⟨S16640x1024, .f32⟩
  | .hbm, ⟨18, _⟩ => ⟨S1024x2816, .f32⟩
  | .hbm, ⟨19, _⟩ => ⟨S16640x2816, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel10.lean ====
abbrev S16640x2816 : Shape := ⟨2, ![16640, 2816]⟩
abbrev S2816x1024 : Shape := ⟨2, ![2816, 1024]⟩
abbrev S16640x1024 : Shape := ⟨2, ![16640, 1024]⟩
abbrev S640x1408 : Shape := ⟨2, ![640, 1408]⟩
abbrev S1408x1024 : Shape := ⟨2, ![1408, 1024]⟩
abbrev S640x1024 : Shape := ⟨2, ![640, 1024]⟩
abbrev S160x1408 : Shape := ⟨2, ![160, 1408]⟩
abbrev S160x1024 : Shape := ⟨2, ![160, 1024]⟩

abbrev nBuf : Space → Nat
  | .hbm => 5
  | .vmem => 11
  | .smem => 0
  | _ => 0

abbrev bufTy : (tb : Table) → Fin (tcTables nBuf tb) → BufTy
  | .hbm, ⟨0, _⟩ => ⟨S16640x2816, .f32⟩
  | .hbm, ⟨1, _⟩ => ⟨S16640x2816, .f32⟩
  | .hbm, ⟨2, _⟩ => ⟨S2816x1024, .bf16⟩
  | .hbm, ⟨3, _⟩ => ⟨S16640x1024, .f32⟩
  | .hbm, ⟨4, _⟩ => ⟨S16640x1024, .f32⟩
  | .local _ .vmem, ⟨0, _⟩ => ⟨S640x1408, .f32⟩
  | .local _ .vmem, ⟨1, _⟩ => ⟨S640x1408, .f32⟩
  | .local _ .vmem, ⟨2, _⟩ => ⟨S640x1408, .f32⟩
  | .local _ .vmem, ⟨3, _⟩ => ⟨S640x1408, .f32⟩
  | .local _ .vmem, ⟨4, _⟩ => ⟨S1408x1024, .bf16⟩
  | .local _ .vmem, ⟨5, _⟩ => ⟨S1408x1024, .bf16⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .f32⟩
  | _, _ => ⟨S16640x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![26, 1, 2], ![false, false, false]⟩

def k0_cond2 (i : grid0.Coords) : BitVec 1 :=
  let arg2 : BitVec 32 := BitVec.ofNat 32 (i 2).val
  let c1_i32 : BitVec 32 := 1#32
  let v79 : BitVec 1 := Scalar.cmpi .eq arg2 c1_i32
  let v80 : BitVec 32 := Scalar.extui v79
  let c0_i32_52 : BitVec 32 := 0#32
  let v81 : BitVec 1 := Scalar.cmpi .ne v80 c0_i32_52
  v81

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference10Ideal.lean ====
abbrev S16640x2816 : Shape := ⟨2, ![16640, 2816]⟩
abbrev S2816x1024 : Shape := ⟨2, ![2816, 1024]⟩
abbrev S16640x1024 : Shape := ⟨2, ![16640, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16640x2816, .f32⟩
  | .hbm, ⟨1, _⟩ => ⟨S16640x2816, .f32⟩
  | .hbm, ⟨2, _⟩ => ⟨S2816x1024, .bf16⟩
  | .hbm, ⟨3, _⟩ => ⟨S16640x1024, .f32⟩
  | .hbm, ⟨4, _⟩ => ⟨S16640x2816, .f32⟩
  | .hbm, ⟨5, _⟩ => ⟨S16640x2816, .f32⟩
  | .hbm, ⟨6, _⟩ => ⟨S_, .f32⟩
  | .hbm, ⟨7, _⟩ => ⟨S16640x2816, .f32⟩
  | .hbm, ⟨8, _⟩ => ⟨S16640x2816, .f32⟩
  | .hbm, ⟨9, _⟩ => ⟨S_, .f32⟩
  | .hbm, ⟨10, _⟩ => ⟨S16640x2816, .f32⟩
  | .hbm, ⟨11, _⟩ => ⟨S16640x2816, .f32⟩
  | .hbm, ⟨12, _⟩ => ⟨S16640x2816, .f32⟩
  | .hbm, ⟨13, _⟩ => ⟨S16640x2816, .f32⟩
  | .hbm, ⟨14, _⟩ => ⟨S2816x1024, .f32⟩
  | .hbm, ⟨15, _⟩ => ⟨S16640x1024, .f32⟩
  | .hbm, ⟨16, _⟩ => ⟨S16640x1024, .f32⟩
  | _, _ => ⟨S16640x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]
-- ==== Kernel11.lean ====
abbrev S16640x1024 : Shape := ⟨2, ![16640, 1024]⟩
abbrev S1024x1024 : Shape := ⟨2, ![1024, 1024]⟩
abbrev S1280x1024 : Shape := ⟨2, ![1280, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16640x1024, .bf16⟩
  | .hbm, ⟨1, _⟩ => ⟨S1024x1024, .bf16⟩
  | .hbm, ⟨2, _⟩ => ⟨S16640x1024, .f32⟩
  | .hbm, ⟨3, _⟩ => ⟨S16640x1024, .f32⟩
  | .local _ .vmem, ⟨0, _⟩ => ⟨S1280x1024, .bf16⟩
  | .local _ .vmem, ⟨1, _⟩ => ⟨S1280x1024, .bf16⟩
  | .local _ .vmem, ⟨2, _⟩ => ⟨S1024x1024, .bf16⟩
  | .local _ .vmem, ⟨3, _⟩ => ⟨S1280x1024, .f32⟩
  | .local _ .vmem, ⟨4, _⟩ => ⟨S1280x1024, .f32⟩
  | .local _ .vmem, ⟨5, _⟩ => ⟨S1280x1024, .f32⟩
  | .local _ .vmem, ⟨6, _⟩ => ⟨S1280x1024, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1280x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S16640x1024 : Shape := ⟨2, ![16640, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S1024x1024, .bf16⟩
  | .hbm, ⟨2, _⟩ => ⟨S16640x1024, .f32⟩
  | .hbm, ⟨3, _⟩ => ⟨S16640x1024, .f32⟩
  | .hbm, ⟨4, _⟩ => ⟨S1024x1024, .f32⟩
  | .hbm, ⟨5, _⟩ => ⟨S16640x1024, .f32⟩
  | .hbm, ⟨6, _⟩ => ⟨S16640x1024, .f32⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S16640x1024 : Shape := ⟨2, ![16640, 1024]⟩
abbrev S1x1024 : Shape := ⟨2, ![1, 1024]⟩
abbrev S1024x3072 : Shape := ⟨2, ![1024, 3072]⟩
abbrev S16640x3072 : Shape := ⟨2, ![16640, 3072]⟩
abbrev S1280x1024 : Shape := ⟨2, ![1280, 1024]⟩
abbrev S1024x1024 : Shape := ⟨2, ![1024, 1024]⟩
abbrev S320x1024 : Shape := ⟨2, ![320, 1024]⟩
abbrev S320 : Shape := ⟨1, ![320]⟩
abbrev S320x1 : Shape := ⟨2, ![320, 1]⟩

abbrev nBuf : Space → Nat
  | .hbm => 4
  | .vmem => 7
  | .smem => 0
  | _ => 0

abbrev bufTy : (tb : Table) → Fin (tcTables nBuf tb) → BufTy
  | .hbm, ⟨0, _⟩ => ⟨S16640x1024, .f32⟩
  | .hbm, ⟨1, _⟩ => ⟨S1x1024, .f32⟩
  | .hbm, ⟨2, _⟩ => ⟨S1024x3072, .bf16⟩
  | .hbm, ⟨3, _⟩ => ⟨S16640x3072, .f32⟩
  | .local _ .vmem, ⟨0, _⟩ => ⟨S1280x1024, .f32⟩
  | .local _ .vmem, ⟨1, _⟩ => ⟨S1280x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1280x1024, .f32⟩
  | .local _ .vmem, ⟨6, _⟩ => ⟨S1280x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![13, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1280x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S16640x1024 : Shape := ⟨2, ![16640, 1024]⟩
abbrev S1x1024 : Shape := ⟨2, ![1, 1024]⟩
abbrev S1024x3072 : Shape := ⟨2, ![1024, 3072]⟩
abbrev S_ : Shape := ⟨0, ![]⟩
abbrev S16640 : Shape := ⟨1, ![16640]⟩
abbrev S16640x1 : Shape := ⟨2, ![16640, 1]⟩
abbrev S16640x3072 : Shape := ⟨2, ![16640, 3072]⟩

abbrev nBuf : Space → Nat
  | .hbm => 20
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1x1024, .f32⟩
  | .hbm, ⟨2, _⟩ => ⟨S1024x3072, .bf16⟩
  | .hbm, ⟨3, _⟩ => ⟨S16640x1024, .f32⟩
  | .hbm, ⟨4, _⟩ => ⟨S_, .f32⟩
  | .hbm, ⟨5, _⟩ => ⟨S16640, .f32⟩
  | .hbm, ⟨6, _⟩ => ⟨S16640x1, .f32⟩
  | .hbm, ⟨7, _⟩ => ⟨S_, .f32⟩
  | .hbm, ⟨8, _⟩ => ⟨S16640x1, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S16640x1, .f32⟩
  | .hbm, ⟨14, _⟩ => ⟨S16640x1024, .f32⟩
  | .hbm, ⟨15, _⟩ => ⟨S16640x1024, .f32⟩
  | .hbm, ⟨16, _⟩ => ⟨S16640x1024, .f32⟩
  | .hbm, ⟨17, _⟩ => ⟨S16640x1024, .f32⟩
  | .hbm, ⟨18, _⟩ => ⟨S1024x3072, .f32⟩
  | .hbm, ⟨19, _⟩ => ⟨S16640x3072, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel13.lean ====
abbrev S16640x1024 : Shape := ⟨2, ![16640, 1024]⟩
abbrev S1x1024 : Shape := ⟨2, ![1, 1024]⟩
abbrev S640x1024 : Shape := ⟨2, ![640, 1024]⟩
abbrev S640 : Shape := ⟨1, ![640]⟩
abbrev S640x1 : Shape := ⟨2, ![640, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S1x1024, .f32⟩
  | .hbm, ⟨3, _⟩ => ⟨S16640x1024, .f32⟩
  | .hbm, ⟨4, _⟩ => ⟨S16640x1024, .f32⟩
  | .hbm, ⟨5, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S1x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S1x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference13Ideal.lean ====
abbrev S16640x1024 : Shape := ⟨2, ![16640, 1024]⟩
abbrev S1x1024 : Shape := ⟨2, ![1, 1024]⟩
abbrev S_ : Shape := ⟨0, ![]⟩
abbrev S16640 : Shape := ⟨1, ![16640]⟩
abbrev S16640x1 : Shape := ⟨2, ![16640, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S1x1024, .f32⟩
  | .hbm, ⟨3, _⟩ => ⟨S16640x1024, .f32⟩
  | .hbm, ⟨4, _⟩ => ⟨S16640x1024, .f32⟩
  | .hbm, ⟨5, _⟩ => ⟨S_, .f32⟩
  | .hbm, ⟨6, _⟩ => ⟨S16640, .f32⟩
  | .hbm, ⟨7, _⟩ => ⟨S16640x1, .f32⟩
  | .hbm, ⟨8, _⟩ => ⟨S_, .f32⟩
  | .hbm, ⟨9, _⟩ => ⟨S16640x1, .f32⟩
  | .hbm, ⟨10, _⟩ => ⟨S16640x1, .f32⟩
  | .hbm, ⟨11, _⟩ => ⟨S_, .f32⟩
  | .hbm, ⟨12, _⟩ => ⟨S16640x1, .f32⟩
  | .hbm, ⟨13, _⟩ => ⟨S16640x1, .f32⟩
  | .hbm, ⟨14, _⟩ => ⟨S16640x1, .f32⟩
  | .hbm, ⟨15, _⟩ => ⟨S16640x1, .f32⟩
  | .hbm, ⟨16, _⟩ => ⟨S_, .f32⟩
  | .hbm, ⟨17, _⟩ => ⟨S16640x1, .f32⟩
  | .hbm, ⟨18, _⟩ => ⟨S16640x1, .f32⟩
  | .hbm, ⟨19, _⟩ => ⟨S16640x1024, .f32⟩
  | .hbm, ⟨20, _⟩ => ⟨S16640x1024, .f32⟩
  | .hbm, ⟨21, _⟩ => ⟨S16640x1024, .f32⟩
  | .hbm, ⟨22, _⟩ => ⟨S16640x1024, .f32⟩
  | .hbm, ⟨23, _⟩ => ⟨S16640x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S16640x1024, .f32⟩
  | .hbm, ⟨28, _⟩ => ⟨S16640x1024, .f32⟩
  | .hbm, ⟨29, _⟩ => ⟨S16640x1024, .f32⟩
  | .hbm, ⟨30, _⟩ => ⟨S_, .f32⟩
  | .hbm, ⟨31, _⟩ => ⟨S16640, .f32⟩
  | .hbm, ⟨32, _⟩ => ⟨S16640x1, .f32⟩
  | .hbm, ⟨33, _⟩ => ⟨S16640x1024, .f32⟩
  | .hbm, ⟨34, _⟩ => ⟨S16640x1024, .f32⟩
  | .hbm, ⟨35, _⟩ => ⟨S16640x1, .f32⟩
  | .hbm, ⟨36, _⟩ => ⟨S_, .f32⟩
  | .hbm, ⟨37, _⟩ => ⟨S16640x1, .f32⟩
  | .hbm, ⟨38, _⟩ => ⟨S16640x1, .f32⟩
  | .hbm, ⟨39, _⟩ => ⟨S_, .f32⟩
  | .hbm, ⟨40, _⟩ => ⟨S16640, .f32⟩
  | .hbm, ⟨41, _⟩ => ⟨S16640x1024, .f32⟩
  | .hbm, ⟨42, _⟩ => ⟨S16640x1024, .f32⟩
  | .hbm, ⟨43, _⟩ => ⟨S16640x1024, .f32⟩
  | .hbm, ⟨44, _⟩ => ⟨S16640x1024, .f32⟩
  | .hbm, ⟨45, _⟩ => ⟨S16640x1024, .f32⟩
  | .hbm, ⟨46, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel14.lean ====
abbrev S16640x128 : Shape := ⟨2, ![16640, 128]⟩
abbrev S1x128 : Shape := ⟨2, ![1, 128]⟩
abbrev S640x128 : Shape := ⟨2, ![640, 128]⟩
abbrev S128 : Shape := ⟨1, ![128]⟩

abbrev nBuf : Space → Nat
  | .hbm => 7
  | .vmem => 10
  | .smem => 0
  | _ => 0

abbrev bufTy : (tb : Table) → Fin (tcTables nBuf tb) → BufTy
  | .hbm, ⟨0, _⟩ => ⟨S16640x128, .f32⟩
  | .hbm, ⟨1, _⟩ => ⟨S16640x128, .f32⟩
  | .hbm, ⟨2, _⟩ => ⟨S1x128, .f32⟩
  | .hbm, ⟨3, _⟩ => ⟨S1x128, .f32⟩
  | .hbm, ⟨4, _⟩ => ⟨S16640x128, .bf16⟩
  | .hbm, ⟨5, _⟩ => ⟨S1x128, .f32⟩
  | .hbm, ⟨6, _⟩ => ⟨S1x128, .f32⟩
  | .local _ .vmem, ⟨0, _⟩ => ⟨S640x128, .f32⟩
  | .local _ .vmem, ⟨1, _⟩ => ⟨S640x128, .f32⟩
  | .local _ .vmem, ⟨2, _⟩ => ⟨S640x128, .f32⟩
  | .local _ .vmem, ⟨3, _⟩ => ⟨S640x128, .f32⟩
  | .local _ .vmem, ⟨4, _⟩ => ⟨S1x128, .f32⟩
  | .local _ .vmem, ⟨5, _⟩ => ⟨S1x128, .f32⟩
  | .local _ .vmem, ⟨6, _⟩ => ⟨S640x128, .bf16⟩
  | .local _ .vmem, ⟨7, _⟩ => ⟨S640x128, .bf16⟩
  | .local _ .vmem, ⟨8, _⟩ => ⟨S1x128, .f32⟩
  | .local _ .vmem, ⟨9, _⟩ => ⟨S1x128, .f32⟩
  | _, _ => ⟨S16640x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference14Ideal.lean ====
abbrev S16640x128 : Shape := ⟨2, ![16640, 128]⟩
abbrev S1x128 : Shape := ⟨2, ![1, 128]⟩
abbrev S16400x128 : Shape := ⟨2, ![16400, 128]⟩
abbrev S1x4 : Shape := ⟨2, ![1, 4]⟩
abbrev S16400x4 : Shape := ⟨2, ![16400, 4]⟩
abbrev S_ : Shape := ⟨0, ![]⟩
abbrev S4 : Shape := ⟨1, ![4]⟩

abbrev nBuf : Space → Nat
  | .hbm => 103
  | .vmem => 0
  | .smem => 0
  | _ => 0

abbrev bufTy : (tb : Table) → Fin (tcTables nBuf tb) → BufTy
  | .hbm, ⟨0, _⟩ => ⟨S16640x128, .f32⟩
  | .hbm, ⟨1, _⟩ => ⟨S16640x128, .f32⟩
  | .hbm, ⟨2, _⟩ => ⟨S1x128, .f32⟩
  | .hbm, ⟨3, _⟩ => ⟨S1x128, .f32⟩
  | .hbm, ⟨4, _⟩ => ⟨S16400x128, .f32⟩
  | .hbm, ⟨5, _⟩ => ⟨S1x4, .f32⟩
  | .hbm, ⟨6, _⟩ => ⟨S1x4, .f32⟩
  | .hbm, ⟨7, _⟩ => ⟨S16400x128, .f32⟩
  | .hbm, ⟨8, _⟩ => ⟨S16400x4, .f32⟩
  | .hbm, ⟨9, _⟩ => ⟨S16400x4, .f32⟩
  | .hbm, ⟨10, _⟩ => ⟨S16400x4, .f32⟩
  | .hbm, ⟨11, _⟩ => ⟨S16400x4, .f32⟩
  | .hbm, ⟨12, _⟩ => ⟨S_, .f32⟩
  | .hbm, ⟨13, _⟩ => ⟨S16400x4, .f32⟩
  | .hbm, ⟨14, _⟩ => ⟨S16400x4, .f32⟩
  | .hbm, ⟨15, _⟩ => ⟨S_, .f32⟩
  | .hbm, ⟨16, _⟩ => ⟨S16400x4, .f32⟩
  | .hbm, ⟨17, _⟩ => ⟨S16400x4, .f32⟩
  | .hbm, ⟨18, _⟩ => ⟨S_, .f32⟩
  | .hbm, ⟨19, _⟩ => ⟨S16400x4, .f32⟩
  | .hbm, ⟨20, _⟩ => ⟨S16400x4, .f32⟩
  | .hbm, ⟨21, _⟩ => ⟨S16400x4, .f32⟩
  | .hbm, ⟨22, _⟩ => ⟨S1x4, .f32⟩
  | .hbm, ⟨23, _⟩ => ⟨S1x4, .f32⟩
  | .hbm, ⟨24, _⟩ => ⟨S16400x4, .f32⟩
  | .hbm, ⟨25, _⟩ => ⟨S16400x4, .f32⟩
  | .hbm, ⟨26, _⟩ => ⟨S_, .f32⟩
  | .hbm, ⟨27, _⟩ => ⟨S16400x4, .f32⟩
  | .hbm, ⟨28, _⟩ => ⟨S16400x4, .f32⟩
  | .hbm, ⟨29, _⟩ => ⟨S16400x4, .f32⟩
  | .hbm, ⟨30, _⟩ => ⟨S16400x4, .f32⟩
  | .hbm, ⟨31, _⟩ => ⟨S16400x4, .i1⟩
  | .hbm, ⟨32, _⟩ => ⟨S16400x4, .f32⟩
  | .hbm, ⟨33, _⟩ => ⟨S16400x4, .f32⟩
  | .hbm, ⟨34, _⟩ => ⟨S16400x4, .f32⟩
  | .hbm, ⟨35, _⟩ => ⟨S16400x4, .f32⟩
  | .hbm, ⟨36, _⟩ => ⟨S16400x4, .f32⟩
  | .hbm, ⟨37, _⟩ => ⟨S16400x4, .f32⟩
  | .hbm, ⟨38, _⟩ => ⟨S16400x4, .f32⟩
  | .hbm, ⟨39, _⟩ => ⟨S16400x4, .f32⟩
  | .hbm, ⟨40, _⟩ => ⟨S_, .f32⟩
  | .hbm, ⟨41, _⟩ => ⟨S16400x4, .f32⟩
  | .hbm, ⟨42, _⟩ => ⟨S16400x4, .i1⟩
  | .hbm, ⟨43, _⟩ => ⟨S_, .f32⟩
  | .hbm, ⟨44, _⟩ => ⟨S16400x4, .f32⟩
  | .hbm, ⟨45, _⟩ => ⟨S16400x4, .f32⟩
  | .hbm, ⟨46, _⟩ => ⟨S_, .f32⟩
  | .hbm, ⟨47, _⟩ => ⟨S16400x4, .f32⟩
  | .hbm, ⟨48, _⟩ => ⟨S16400x4, .i1⟩
  | .hbm, ⟨49, _⟩ => ⟨S_, .f32⟩
  | .hbm, ⟨50, _⟩ => ⟨S16400x4, .f32⟩
  | .hbm, ⟨51, _⟩ => ⟨S16400x4, .f32⟩
  | .hbm, ⟨52, _⟩ => ⟨S16400x4, .f32⟩
  | .hbm, ⟨53, _⟩ => ⟨S16400x4, .f32⟩
  | .hbm, ⟨54, _⟩ => ⟨S_, .f32⟩
  | .hbm, ⟨55, _⟩ => ⟨S_, .f32⟩
  | .hbm, ⟨56, _⟩ => ⟨S_, .i1⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S16400x4, .f32⟩
  | .hbm, ⟨62, _⟩ => ⟨S16400x4, .i1⟩
  | .hbm, ⟨63, _⟩ => ⟨S_, .f32⟩
  | .hbm, ⟨64, _⟩ => ⟨S16400x4, .f32⟩
  | .hbm, ⟨65, _⟩ => ⟨S16400x4, .f32⟩
  | .hbm, ⟨66, _⟩ => ⟨S16400x4, .f32⟩
  | .hbm, ⟨67, _⟩ => ⟨S16400x4, .f32⟩
  | .hbm, ⟨68, _⟩ => ⟨S16400x4, .f32⟩
  | .hbm, ⟨69, _⟩ => ⟨S_, .f32⟩
  | .hbm, ⟨70, _⟩ => ⟨S16400x4, .f32⟩
  | .hbm, ⟨71, _⟩ => ⟨S16400x4, .f32⟩
  | .hbm, ⟨72, _⟩ => ⟨S16400x4, .f32⟩
  | .hbm, ⟨73, _⟩ => ⟨S16400x4, .f32⟩
  | .hbm, ⟨74, _⟩ => ⟨S16400x4, .f32⟩
  | .hbm, ⟨75, _⟩ => ⟨S16400x4, .f32⟩
  | .hbm, ⟨76, _⟩ => ⟨S16400x4, .f32⟩
  | .hbm, ⟨77, _⟩ => ⟨S16400x4, .f32⟩
  | .hbm, ⟨78, _⟩ => ⟨S16400x4, .f32⟩
  | .hbm, ⟨79, _⟩ => ⟨S_, .f32⟩
  | .hbm, ⟨80, _⟩ => ⟨S4, .f32⟩
  | .hbm, ⟨81, _⟩ => ⟨S1x4, .f32⟩
  | .hbm, ⟨82, _⟩ => ⟨S16400x4, .f32⟩
  | .hbm, ⟨83, _⟩ => ⟨S_, .f32⟩
  | .hbm, ⟨84, _⟩ => ⟨S4, .f32⟩
  | .hbm, ⟨85, _⟩ => ⟨S1x4, .f32⟩
  | .hbm, ⟨86, _⟩ => ⟨S1x4, .f32⟩
  | .hbm, ⟨87, _⟩ => ⟨S1x4, .f32⟩
  | .hbm, ⟨88, _⟩ => ⟨S16400x4, .f32⟩
  | .hbm, ⟨89, _⟩ => ⟨S_, .f32⟩
  | .hbm, ⟨90, _⟩ => ⟨S16400x128, .f32⟩
  | .hbm, ⟨91, _⟩ => ⟨S_, .f32⟩
  | .hbm, ⟨92, _⟩ => ⟨S16400x128, .f32⟩
  | .hbm, ⟨93, _⟩ => ⟨S16400x128, .f32⟩
  | .hbm, ⟨94, _⟩ => ⟨S_, .f32⟩
  | .hbm, ⟨95, _⟩ => ⟨S16640x128, .f32⟩
  | .hbm, ⟨96, _⟩ => ⟨S16640x128, .bf16⟩
  | .hbm, ⟨97, _⟩ => ⟨S_, .i32⟩
  | .hbm, ⟨98, _⟩ => ⟨S_, .f32⟩
  | .hbm, ⟨99, _⟩ => ⟨S1x128, .f32⟩
  | .hbm, ⟨100, _⟩ => ⟨S_, .i32⟩
  | .hbm, ⟨101, _⟩ => ⟨S_, .f32⟩
  | .hbm, ⟨102, _⟩ => ⟨S1x128, .f32⟩
  | _, _ => ⟨S16640x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_v19_0 : Ref sig .tc := ⟨.hbm, 39, rfl⟩
abbrev main_call0_cst_0 : Ref sig .tc := ⟨.hbm, 40, rfl⟩
abbrev main_call0_v13 : Ref sig .tc := ⟨.hbm, 41, rfl⟩
abbrev main_call0_v14 : Ref sig .tc := ⟨.hbm, 42, rfl⟩
abbrev main_call0_cst_1 : Ref sig .tc := ⟨.hbm, 43, rfl⟩
abbrev main_call0_v15 : Ref sig .tc := ⟨.hbm, 44, rfl⟩
abbrev main_call0_v16 : Ref sig .tc := ⟨.hbm, 45, rfl⟩
abbrev main_call0_cst_2 : Ref sig .tc := ⟨.hbm, 46, rfl⟩
abbrev main_call0_v17 : Ref sig .tc := ⟨.hbm, 47, rfl⟩
abbrev main_call0_v18 : Ref sig .tc := ⟨.hbm, 48, rfl⟩
abbrev main_call0_cst_3 : Ref sig .tc := ⟨.hbm, 49, rfl⟩
abbrev main_call0_v19 : Ref sig .tc := ⟨.hbm, 50, rfl⟩
abbrev main_call0_v20 : Ref sig .tc := ⟨.hbm, 51, rfl⟩
abbrev main_call0_v21 : Ref sig .tc := ⟨.hbm, 52, rfl⟩
abbrev main_v19_1 : Ref sig .tc := ⟨.hbm, 53, rfl⟩
abbrev main_call0_cst_4 : Ref sig .tc := ⟨.hbm, 54, rfl⟩
abbrev main_call0_cst_5 : Ref sig .tc := ⟨.hbm, 55, rfl⟩
abbrev main_call0_v23 : Ref sig .tc := ⟨.hbm, 56, rfl⟩
abbrev main_call0_cst_6 : Ref sig .tc := ⟨.hbm, 57, rfl⟩
abbrev main_call0_cst_7 : Ref sig .tc := ⟨.hbm, 58, rfl⟩
abbrev main_call0_v24 : Ref sig .tc := ⟨.hbm, 59, rfl⟩
abbrev main_call0_cst_8 : Ref sig .tc := ⟨.hbm, 60, rfl⟩
abbrev main_call0_v25 : Ref sig .tc := ⟨.hbm, 61, rfl⟩
abbrev main_call0_v26 : Ref sig .tc := ⟨.hbm, 62, rfl⟩
abbrev main_call0_cst_9 : Ref sig .tc := ⟨.hbm, 63, rfl⟩
abbrev main_call0_v27 : Ref sig .tc := ⟨.hbm, 64, rfl⟩
abbrev main_call0_v28 : Ref sig .tc := ⟨.hbm, 65, rfl⟩
abbrev main_call0_v29 : Ref sig .tc := ⟨.hbm, 66, rfl⟩
abbrev main_call0_v30 : Ref sig .tc := ⟨.hbm, 67, rfl⟩
abbrev main_call0_v31 : Ref sig .tc := ⟨.hbm, 68, rfl⟩
abbrev main_call0_cst_10 : Ref sig .tc := ⟨.hbm, 69, rfl⟩
abbrev main_call0_v32 : Ref sig .tc := ⟨.hbm, 70, rfl⟩
abbrev main_v19_2 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_cst_2 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_cst_3 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_cst_4 : Ref sig .tc := ⟨.hbm, 89, rfl⟩
abbrev main_v35 : Ref sig .tc := ⟨.hbm, 90, rfl⟩
abbrev main_cst_5 : Ref sig .tc := ⟨.hbm, 91, rfl⟩
abbrev main_v36 : Ref sig .tc := ⟨.hbm, 92, rfl⟩
abbrev main_v37 : Ref sig .tc := ⟨.hbm, 93, rfl⟩
abbrev main_cst_6 : Ref sig .tc := ⟨.hbm, 94, rfl⟩
abbrev main_v38 : Ref sig .tc := ⟨.hbm, 95, rfl⟩
abbrev main_v39 : Ref sig .tc := ⟨.hbm, 96, rfl⟩
abbrev main_c : Ref sig .tc := ⟨.hbm, 97, rfl⟩
abbrev main_call2_v0 : Ref sig .tc := ⟨.hbm, 98, rfl⟩
abbrev main_v40 : Ref sig .tc := ⟨.hbm, 99, rfl⟩
abbrev main_c_7 : Ref sig .tc := ⟨.hbm, 100, rfl⟩
abbrev main_call3_v0 : Ref sig .tc := ⟨.hbm, 101, rfl⟩
abbrev main_v41 : Ref sig .tc := ⟨.hbm, 102, rfl⟩

abbrev nD : Nat := 1
abbrev τ : Topo := Topo.v7x

variable {F : FTy → Type} [FloatOps F]
-- ==== Kernel15.lean ====
abbrev S16640x3072 : Shape := ⟨2, ![16640, 3072]⟩
abbrev S16640x1024 : Shape := ⟨2, ![16640, 1024]⟩
abbrev S16640x512 : Shape := ⟨2, ![16640, 512]⟩
abbrev S1x128 : Shape := ⟨2, ![1, 128]⟩
abbrev S640x512 : Shape := ⟨2, ![640, 512]⟩
abbrev S640x128 : Shape := ⟨2, ![640, 128]⟩
abbrev S640 : Shape := ⟨1, ![640]⟩
abbrev S640x1 : Shape := ⟨2, ![640, 1]⟩
abbrev S128 : Shape := ⟨1, ![128]⟩

abbrev nBuf : Space → Nat
  | .hbm => 8
  | .vmem => 12
  | .smem => 0
  | _ => 0

abbrev bufTy : (tb : Table) → Fin (tcTables nBuf tb) → BufTy
  | .hbm, ⟨0, _⟩ => ⟨S16640x3072, .bf16⟩
  | .hbm, ⟨1, _⟩ => ⟨S16640x1024, .f32⟩
  | .hbm, ⟨2, _⟩ => ⟨S16640x512, .f32⟩
  | .hbm, ⟨3, _⟩ => ⟨S16640x3072, .f32⟩
  | .hbm, ⟨4, _⟩ => ⟨S1x128, .f32⟩
  | .hbm, ⟨5, _⟩ => ⟨S16640x512, .f32⟩
  | .hbm, ⟨6, _⟩ => ⟨S16640x3072, .bf16⟩
  | .hbm, ⟨7, _⟩ => ⟨S1x128, .f32⟩
  | .local _ .vmem, ⟨0, _⟩ => ⟨S640x512, .f32⟩
  | .local _ .vmem, ⟨1, _⟩ => ⟨S640x512, .f32⟩
  | .local _ .vmem, ⟨2, _⟩ => ⟨S640x512, .f32⟩
  | .local _ .vmem, ⟨3, _⟩ => ⟨S640x512, .f32⟩
  | .local _ .vmem, ⟨4, _⟩ => ⟨S640x512, .f32⟩
  | .local _ .vmem, ⟨5, _⟩ => ⟨S640x512, .f32⟩
  | .local _ .vmem, ⟨6, _⟩ => ⟨S1x128, .f32⟩
  | .local _ .vmem, ⟨7, _⟩ => ⟨S640x512, .f32⟩
  | .local _ .vmem, ⟨8, _⟩ => ⟨S640x512, .f32⟩
  | .local _ .vmem, ⟨9, _⟩ => ⟨S640x512, .bf16⟩
  | .local _ .vmem, ⟨10, _⟩ => ⟨S640x512, .bf16⟩
  | .local _ .vmem, ⟨11, _⟩ => ⟨S1x128, .f32⟩
  | _, _ => ⟨S16640x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![26], ![false]⟩

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference15Ideal.lean ====
abbrev S16640x3072 : Shape := ⟨2, ![16640, 3072]⟩
abbrev S16640x1024 : Shape := ⟨2, ![16640, 1024]⟩
abbrev S16640x512 : Shape := ⟨2, ![16640, 512]⟩
abbrev S1x128 : Shape := ⟨2, ![1, 128]⟩
abbrev S16640x4x128 : Shape := ⟨3, ![16640, 4, 128]⟩
abbrev S_ : Shape := ⟨0, ![]⟩
abbrev S16640x4 : Shape := ⟨2, ![16640, 4]⟩
abbrev S16640x4x1 : Shape := ⟨3, ![16640, 4, 1]⟩
abbrev S1x1x128 : Shape := ⟨3, ![1, 1, 128]⟩
abbrev S128 : Shape := ⟨1, ![128]⟩
abbrev S16640x2560 : Shape := ⟨2, ![16640, 2560]⟩

abbrev nBuf : Space → Nat
  | .hbm => 82
  | .vmem => 0
  | .smem => 0
  | _ => 0

abbrev bufTy : (tb : Table) → Fin (tcTables nBuf tb) → BufTy
  | .hbm, ⟨0, _⟩ => ⟨S16640x3072, .bf16⟩
  | .hbm, ⟨1, _⟩ => ⟨S16640x1024, .f32⟩
  | .hbm, ⟨2, _⟩ => ⟨S16640x512, .f32⟩
  | .hbm, ⟨3, _⟩ => ⟨S16640x3072, .f32⟩
  | .hbm, ⟨4, _⟩ => ⟨S1x128, .f32⟩
  | .hbm, ⟨5, _⟩ => ⟨S16640x512, .f32⟩
  | .hbm, ⟨6, _⟩ => ⟨S16640x4x128, .f32⟩
  | .hbm, ⟨7, _⟩ => ⟨S16640x4x128, .f32⟩
  | .hbm, ⟨8, _⟩ => ⟨S_, .f32⟩
  | .hbm, ⟨9, _⟩ => ⟨S16640x4, .f32⟩
  | .hbm, ⟨10, _⟩ => ⟨S16640x4x1, .f32⟩
  | .hbm, ⟨11, _⟩ => ⟨S_, .f32⟩
  | .hbm, ⟨12, _⟩ => ⟨S16640x4x1, .f32⟩
  | .hbm, ⟨13, _⟩ => ⟨S16640x4x1, .f32⟩
  | .hbm, ⟨14, _⟩ => ⟨S_, .f32⟩
  | .hbm, ⟨15, _⟩ => ⟨S16640x4x1, .f32⟩
  | .hbm, ⟨16, _⟩ => ⟨S16640x4x1, .f32⟩
  | .hbm, ⟨17, _⟩ => ⟨S16640x4x1, .f32⟩
  | .hbm, ⟨18, _⟩ => ⟨S16640x4x1, .f32⟩
  | .hbm, ⟨19, _⟩ => ⟨S_, .f32⟩
  | .hbm, ⟨20, _⟩ => ⟨S16640x4x1, .f32⟩
  | .hbm, ⟨21, _⟩ => ⟨S16640x4x1, .f32⟩
  | .hbm, ⟨22, _⟩ => ⟨S16640x4x128, .f32⟩
  | .hbm, ⟨23, _⟩ => ⟨S16640x4x128, .f32⟩
  | .hbm, ⟨24, _⟩ => ⟨S1x1x128, .f32⟩
  | .hbm, ⟨25, _⟩ => ⟨S16640x4x128, .f32⟩
  | .hbm, ⟨26, _⟩ => ⟨S16640x4x128, .f32⟩
  | .hbm, ⟨27, _⟩ => ⟨S16640x4x128, .f32⟩
  | .hbm, ⟨28, _⟩ => ⟨S16640x4x128, .f32⟩
  | .hbm, ⟨29, _⟩ => ⟨S16640x4x128, .f32⟩
  | .hbm, ⟨30, _⟩ => ⟨S_, .f32⟩
  | .hbm, ⟨31, _⟩ => ⟨S16640x4x128, .f32⟩
  | .hbm, ⟨32, _⟩ => ⟨S16640x4x128, .f32⟩
  | .hbm, ⟨33, _⟩ => ⟨S_, .f32⟩
  | .hbm, ⟨34, _⟩ => ⟨S16640x4x128, .f32⟩
  | .hbm, ⟨35, _⟩ => ⟨S16640x4x128, .f32⟩
  | .hbm, ⟨36, _⟩ => ⟨S_, .f32⟩
  | .hbm, ⟨37, _⟩ => ⟨S16640x4x128, .f32⟩
  | .hbm, ⟨38, _⟩ => ⟨S16640x4x128, .f32⟩
  | .hbm, ⟨39, _⟩ => ⟨S16640x4x128, .f32⟩
  | .hbm, ⟨40, _⟩ => ⟨S16640x4x128, .f32⟩
  | .hbm, ⟨41, _⟩ => ⟨S16640x4x128, .f32⟩
  | .hbm, ⟨42, _⟩ => ⟨S16640x512, .f32⟩
  | .hbm, ⟨43, _⟩ => ⟨S16640x512, .f32⟩
  | .hbm, ⟨44, _⟩ => ⟨S16640x4x128, .f32⟩
  | .hbm, ⟨45, _⟩ => ⟨S16640x4x128, .f32⟩
  | .hbm, ⟨46, _⟩ => ⟨S16640x4x128, .f32⟩
  | .hbm, ⟨47, _⟩ => ⟨S16640x4x128, .f32⟩
  | .hbm, ⟨48, _⟩ => ⟨S16640x4x128, .f32⟩
  | .hbm, ⟨49, _⟩ => ⟨S16640x4x128, .f32⟩
  | .hbm, ⟨50, _⟩ => ⟨S16640x4x128, .f32⟩
  | .hbm, ⟨51, _⟩ => ⟨S16640x512, .f32⟩
  | .hbm, ⟨52, _⟩ => ⟨S16640x4x128, .f32⟩
  | .hbm, ⟨53, _⟩ => ⟨S_, .f32⟩
  | .hbm, ⟨54, _⟩ => ⟨S128, .f32⟩
  | .hbm, ⟨55, _⟩ => ⟨S1x1x128, .f32⟩
  | .hbm, ⟨56, _⟩ => ⟨S16640x4x128, .f32⟩
  | .hbm, ⟨57, _⟩ => ⟨S16640x4x128, .f32⟩
  | .hbm, ⟨58, _⟩ => ⟨S_, .f32⟩
  | .hbm, ⟨59, _⟩ => ⟨S128, .f32⟩
  | .hbm, ⟨60, _⟩ => ⟨S1x128, .f32⟩
  | .hbm, ⟨61, _⟩ => ⟨S16640x4x128, .f32⟩
  | .hbm, ⟨62, _⟩ => ⟨S_, .f32⟩
  | .hbm, ⟨63, _⟩ => ⟨S16640x4, .f32⟩
  | .hbm, ⟨64, _⟩ => ⟨S16640x4x1, .f32⟩
  | .hbm, ⟨65, _⟩ => ⟨S16640x4x128, .f32⟩
  | .hbm, ⟨66, _⟩ => ⟨S16640x4x128, .f32⟩
  | .hbm, ⟨67, _⟩ => ⟨S16640x4x1, .f32⟩
  | .hbm, ⟨68, _⟩ => ⟨S_, .f32⟩
  | .hbm, ⟨69, _⟩ => ⟨S16640x4x1, .f32⟩
  | .hbm, ⟨70, _⟩ => ⟨S16640x4x1, .f32⟩
  | .hbm, ⟨71, _⟩ => ⟨S_, .f32⟩
  | .hbm, ⟨72, _⟩ => ⟨S16640x4, .f32⟩
  | .hbm, ⟨73, _⟩ => ⟨S16640x4x128, .f32⟩
  | .hbm, ⟨74, _⟩ => ⟨S16640x4x128, .f32⟩
  | .hbm, ⟨75, _⟩ => ⟨S16640x4x128, .f32⟩
  | .hbm, ⟨76, _⟩ => ⟨S16640x4x128, .f32⟩
  | .hbm, ⟨77, _⟩ => ⟨S16640x4x128, .f32⟩
  | .hbm, ⟨78, _⟩ => ⟨S16640x512, .f32⟩
  | .hbm, ⟨79, _⟩ => ⟨S16640x2560, .bf16⟩
  | .hbm, ⟨80, _⟩ => ⟨S16640x512, .bf16⟩
  | .hbm, ⟨81, _⟩ => ⟨S16640x3072, .bf16⟩
  | _, _ => ⟨S16640x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]
-- ==== Kernel17.lean ====
abbrev S16640x1024 : Shape := ⟨2, ![16640, 1024]⟩
abbrev S1x1024 : Shape := ⟨2, ![1, 1024]⟩
abbrev S1x128 : Shape := ⟨2, ![1, 128]⟩
abbrev S640x1024 : Shape := ⟨2, ![640, 1024]⟩
abbrev S640 : Shape := ⟨1, ![640]⟩
abbrev S640x1 : Shape := ⟨2, ![640, 1]⟩
abbrev S1024 : Shape := ⟨1, ![1024]⟩
abbrev S1 : Shape := ⟨1, ![1]⟩
abbrev S1x1 : Shape := ⟨2, ![1, 1]⟩

abbrev nBuf : Space → Nat
  | .hbm => 6
  | .vmem => 9
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S1x1024, .f32⟩
  | .hbm, ⟨3, _⟩ => ⟨S16640x1024, .f32⟩
  | .hbm, ⟨4, _⟩ => ⟨S1x128, .f32⟩
  | .hbm, ⟨5, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S1x1024, .f32⟩
  | .local _ .vmem, ⟨5, _⟩ => ⟨S640x1024, .f32⟩
  | .local _ .vmem, ⟨6, _⟩ => ⟨S640x1024, .f32⟩
  | .local _ .vmem, ⟨7, _⟩ => ⟨S1x128, .f32⟩
  | .local _ .vmem, ⟨8, _⟩ => ⟨S1x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference17Ideal.lean ====
abbrev S16640x1024 : Shape := ⟨2, ![16640, 1024]⟩
abbrev S1x1024 : Shape := ⟨2, ![1, 1024]⟩
abbrev S_ : Shape := ⟨0, ![]⟩
abbrev S16640 : Shape := ⟨1, ![16640]⟩
abbrev S16640x1 : Shape := ⟨2, ![16640, 1]⟩
abbrev S16384x1024 : Shape := ⟨2, ![16384, 1024]⟩
abbrev S16384 : Shape := ⟨1, ![16384]⟩
abbrev S1024 : Shape := ⟨1, ![1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S1x1024, .f32⟩
  | .hbm, ⟨3, _⟩ => ⟨S16640x1024, .f32⟩
  | .hbm, ⟨4, _⟩ => ⟨S_, .f32⟩
  | .hbm, ⟨5, _⟩ => ⟨S16640, .f32⟩
  | .hbm, ⟨6, _⟩ => ⟨S16640x1, .f32⟩
  | .hbm, ⟨7, _⟩ => ⟨S_, .f32⟩
  | .hbm, ⟨8, _⟩ => ⟨S16640x1, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S16640x1, .f32⟩
  | .hbm, ⟨14, _⟩ => ⟨S16640x1, .f32⟩
  | .hbm, ⟨15, _⟩ => ⟨S_, .f32⟩
  | .hbm, ⟨16, _⟩ => ⟨S16640x1, .f32⟩
  | .hbm, ⟨17, _⟩ => ⟨S16640x1, .f32⟩
  | .hbm, ⟨18, _⟩ => ⟨S16640x1024, .f32⟩
  | .hbm, ⟨19, _⟩ => ⟨S16640x1024, .f32⟩
  | .hbm, ⟨20, _⟩ => ⟨S16640x1024, .f32⟩
  | .hbm, ⟨21, _⟩ => ⟨S16640x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16640x1024, .f32⟩
  | .hbm, ⟨49, _⟩ => ⟨S16640x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S16640x1024, .f32⟩
  | .hbm, ⟨54, _⟩ => ⟨S16640x1024, .f32⟩
  | .hbm, ⟨55, _⟩ => ⟨S16640x1024, .f32⟩
  | .hbm, ⟨56, _⟩ => ⟨S_, .f32⟩
  | .hbm, ⟨57, _⟩ => ⟨S16640, .f32⟩
  | .hbm, ⟨58, _⟩ => ⟨S16640x1, .f32⟩
  | .hbm, ⟨59, _⟩ => ⟨S16640x1024, .f32⟩
  | .hbm, ⟨60, _⟩ => ⟨S16640x1024, .f32⟩
  | .hbm, ⟨61, _⟩ => ⟨S16640x1, .f32⟩
  | .hbm, ⟨62, _⟩ => ⟨S_, .f32⟩
  | .hbm, ⟨63, _⟩ => ⟨S16640x1, .f32⟩
  | .hbm, ⟨64, _⟩ => ⟨S16640x1, .f32⟩
  | .hbm, ⟨65, _⟩ => ⟨S_, .f32⟩
  | .hbm, ⟨66, _⟩ => ⟨S16640, .f32⟩
  | .hbm, ⟨67, _⟩ => ⟨S16640x1024, .f32⟩
  | .hbm, ⟨68, _⟩ => ⟨S16640x1024, .f32⟩
  | .hbm, ⟨69, _⟩ => ⟨S16640x1024, .f32⟩
  | .hbm, ⟨70, _⟩ => ⟨S16640x1024, .f32⟩
  | .hbm, ⟨71, _⟩ => ⟨S16640x1024, .f32⟩
  | .hbm, ⟨72, _⟩ => ⟨S1x128, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel18.lean ====
abbrev S8x4096x512 : Shape := ⟨3, ![8, 4096, 512]⟩
abbrev S4096x512 : Shape := ⟨2, ![4096, 512]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x4096x512, .bf16⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .local _ .vmem, ⟨0, _⟩ => ⟨S8x512x512, .bf16⟩
  | .local _ .vmem, ⟨1, _⟩ => ⟨S8x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S8x4096x512 : Shape := ⟨3, ![8, 4096, 512]⟩
abbrev S4096x512 : Shape := ⟨2, ![4096, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S8x4096x512, .f32⟩
  | .hbm, ⟨5, _⟩ => ⟨S_, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S8x4096x768 : Shape := ⟨3, ![8, 4096, 768]⟩
abbrev S4096x768 : Shape := ⟨2, ![4096, 768]⟩
abbrev S8x256x768 : Shape := ⟨3, ![8, 256, 768]⟩
abbrev S256x768 : Shape := ⟨2, ![256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S8x4096x768, .bf16⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .local _ .vmem, ⟨0, _⟩ => ⟨S8x256x768, .bf16⟩
  | .local _ .vmem, ⟨1, _⟩ => ⟨S8x256x768, .bf16⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S8x4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S8x4096x768 : Shape := ⟨3, ![8, 4096, 768]⟩
abbrev S4096x768 : Shape := ⟨2, ![4096, 768]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x768, .bf16⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S8x4096x768, .f32⟩
  | .hbm, ⟨5, _⟩ => ⟨S_, .f32⟩
  | .hbm, ⟨6, _⟩ => ⟨S4096x768, .f32⟩
  | .hbm, ⟨7, _⟩ => ⟨S_, .f32⟩
  | .hbm, ⟨8, _⟩ => ⟨S4096x768, .f32⟩
  | .hbm, ⟨9, _⟩ => ⟨S4096x768, .f32⟩
  | .hbm, ⟨10, _⟩ => ⟨S_, .f32⟩
  | .hbm, ⟨11, _⟩ => ⟨S4096x768, .f32⟩
  | .hbm, ⟨12, _⟩ => ⟨S4096x768, .f32⟩
  | .hbm, ⟨13, _⟩ => ⟨S4096x768, .f32⟩
  | .hbm, ⟨14, _⟩ => ⟨S_, .f32⟩
  | .hbm, ⟨15, _⟩ => ⟨S4096x768, .f32⟩
  | .hbm, ⟨16, _⟩ => ⟨S4096x768, .f32⟩
  | .hbm, ⟨17, _⟩ => ⟨S4096x768, .f32⟩
  | .hbm, ⟨18, _⟩ => ⟨S_, .f32⟩
  | .hbm, ⟨19, _⟩ => ⟨S4096x768, .f32⟩
  | .hbm, ⟨20, _⟩ => ⟨S4096x768, .f32⟩
  | .hbm, ⟨21, _⟩ => ⟨S4096x768, .f32⟩
  | .hbm, ⟨22, _⟩ => ⟨S_, .f32⟩
  | .hbm, ⟨23, _⟩ => ⟨S4096x768, .f32⟩
  | .hbm, ⟨24, _⟩ => ⟨S4096x768, .f32⟩
  | .hbm, ⟨25, _⟩ => ⟨S_, .f32⟩
  | .hbm, ⟨26, _⟩ => ⟨S4096x768, .f32⟩
  | .hbm, ⟨27, _⟩ => ⟨S4096x768, .f32⟩
  | .hbm, ⟨28, _⟩ => ⟨S4096x768, .f32⟩
  | .hbm, ⟨29, _⟩ => ⟨S_, .f32⟩
  | .hbm, ⟨30, _⟩ => ⟨S4096x768, .f32⟩
  | .hbm, ⟨31, _⟩ => ⟨S4096x768, .f32⟩
  | .hbm, ⟨32, _⟩ => ⟨S4096x768, .f32⟩
  | .hbm, ⟨33, _⟩ => ⟨S_, .f32⟩
  | .hbm, ⟨34, _⟩ => ⟨S4096x768, .f32⟩
  | .hbm, ⟨35, _⟩ => ⟨S4096x768, .f32⟩
  | .hbm, ⟨36, _⟩ => ⟨S4096x768, .f32⟩
  | .hbm, ⟨37, _⟩ => ⟨S_, .f32⟩
  | .hbm, ⟨38, _⟩ => ⟨S4096x768, .f32⟩
  | .hbm, ⟨39, _⟩ => ⟨S4096x768, .f32⟩
  | _, _ => ⟨S8x4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S8x512x1024 : Shape := ⟨3, ![8, 512, 1024]⟩
abbrev S512x1024 : Shape := ⟨2, ![512, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S8x512x1024 : Shape := ⟨3, ![8, 512, 1024]⟩
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel21.lean ====
abbrev S8x1408x1024 : Shape := ⟨3, ![8, 1408, 1024]⟩
abbrev S1408x1024 : Shape := ⟨2, ![1408, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x1408x1024, .bf16⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x1408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S8x1408x1024 : Shape := ⟨3, ![8, 1408, 1024]⟩
abbrev S1408x1024 : Shape := ⟨2, ![1408, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1408x1024, .bf16⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S8x1408x1024, .f32⟩
  | .hbm, ⟨5, _⟩ => ⟨S_, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S_, .f32⟩
  | .hbm, ⟨11, _⟩ => ⟨S1408x1024, .f32⟩
  | .hbm, ⟨12, _⟩ => ⟨S1408x1024, .f32⟩
  | .hbm, ⟨13, _⟩ => ⟨S1408x1024, .f32⟩
  | .hbm, ⟨14, _⟩ => ⟨S_, .f32⟩
  | .hbm, ⟨15, _⟩ => ⟨S1408x1024, .f32⟩
  | .hbm, ⟨16, _⟩ => ⟨S1408x1024, .f32⟩
  | .hbm, ⟨17, _⟩ => ⟨S1408x1024, .f32⟩
  | .hbm, ⟨18, _⟩ => ⟨S_, .f32⟩
  | .hbm, ⟨19, _⟩ => ⟨S1408x1024, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S_, .f32⟩
  | .hbm, ⟨26, _⟩ => ⟨S1408x1024, .f32⟩
  | .hbm, ⟨27, _⟩ => ⟨S1408x1024, .f32⟩
  | .hbm, ⟨28, _⟩ => ⟨S1408x1024, .f32⟩
  | .hbm, ⟨29, _⟩ => ⟨S_, .f32⟩
  | .hbm, ⟨30, _⟩ => ⟨S1408x1024, .f32⟩
  | .hbm, ⟨31, _⟩ => ⟨S1408x1024, .f32⟩
  | .hbm, ⟨32, _⟩ => ⟨S1408x1024, .f32⟩
  | .hbm, ⟨33, _⟩ => ⟨S_, .f32⟩
  | .hbm, ⟨34, _⟩ => ⟨S1408x1024, .f32⟩
  | .hbm, ⟨35, _⟩ => ⟨S1408x1024, .f32⟩
  | .hbm, ⟨36, _⟩ => ⟨S1408x1024, .f32⟩
  | .hbm, ⟨37, _⟩ => ⟨S_, .f32⟩
  | .hbm, ⟨38, _⟩ => ⟨S1408x1024, .f32⟩
  | .hbm, ⟨39, _⟩ => ⟨S1408x1024, .f32⟩
  | _, _ => ⟨S8x1408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel22.lean ====
abbrev S8x232x128 : Shape := ⟨3, ![8, 232, 128]⟩
abbrev S232x128 : Shape := ⟨2, ![232, 128]⟩
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x232x128, .f32⟩
  | .hbm, ⟨1, _⟩ => ⟨S232x128, .f32⟩
  | .hbm, ⟨2, _⟩ => ⟨S232x128, .f32⟩
  | .hbm, ⟨3, _⟩ => ⟨S232x128, .f32⟩
  | .hbm, ⟨4, _⟩ => ⟨S232x128, .f32⟩
  | .hbm, ⟨5, _⟩ => ⟨S232x128, .f32⟩
  | .hbm, ⟨6, _⟩ => ⟨S232x128, .f32⟩
  | .hbm, ⟨7, _⟩ => ⟨S232x128, .f32⟩
  | .local _ .vmem, ⟨0, _⟩ => ⟨S8x8x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | _, _ => ⟨S8x232x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![29], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S8x232x128 : Shape := ⟨3, ![8, 232, 128]⟩
abbrev S232x128 : Shape := ⟨2, ![232, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x232x128, .f32⟩
  | .hbm, ⟨1, _⟩ => ⟨S232x128, .f32⟩
  | .hbm, ⟨2, _⟩ => ⟨S232x128, .f32⟩
  | .hbm, ⟨3, _⟩ => ⟨S232x128, .f32⟩
  | .hbm, ⟨4, _⟩ => ⟨S_, .f32⟩
  | .hbm, ⟨5, _⟩ => ⟨S232x128, .f32⟩
  | .hbm, ⟨6, _⟩ => ⟨S_, .f32⟩
  | .hbm, ⟨7, _⟩ => ⟨S232x128, .f32⟩
  | .hbm, ⟨8, _⟩ => ⟨S232x128, .f32⟩
  | .hbm, ⟨9, _⟩ => ⟨S_, .f32⟩
  | .hbm, ⟨10, _⟩ => ⟨S232x128, .f32⟩
  | .hbm, ⟨11, _⟩ => ⟨S232x128, .f32⟩
  | .hbm, ⟨12, _⟩ => ⟨S232x128, .f32⟩
  | .hbm, ⟨13, _⟩ => ⟨S_, .f32⟩
  | .hbm, ⟨14, _⟩ => ⟨S232x128, .f32⟩
  | .hbm, ⟨15, _⟩ => ⟨S232x128, .f32⟩
  | .hbm, ⟨16, _⟩ => ⟨S232x128, .f32⟩
  | .hbm, ⟨17, _⟩ => ⟨S_, .f32⟩
  | .hbm, ⟨18, _⟩ => ⟨S232x128, .f32⟩
  | .hbm, ⟨19, _⟩ => ⟨S232x128, .f32⟩
  | .hbm, ⟨20, _⟩ => ⟨S232x128, .f32⟩
  | .hbm, ⟨21, _⟩ => ⟨S_, .f32⟩
  | .hbm, ⟨22, _⟩ => ⟨S232x128, .f32⟩
  | .hbm, ⟨23, _⟩ => ⟨S232x128, .f32⟩
  | .hbm, ⟨24, _⟩ => ⟨S_, .f32⟩
  | .hbm, ⟨25, _⟩ => ⟨S232x128, .f32⟩
  | .hbm, ⟨26, _⟩ => ⟨S232x128, .f32⟩
  | .hbm, ⟨27, _⟩ => ⟨S232x128, .f32⟩
  | .hbm, ⟨28, _⟩ => ⟨S_, .f32⟩
  | .hbm, ⟨29, _⟩ => ⟨S232x128, .f32⟩
  | .hbm, ⟨30, _⟩ => ⟨S232x128, .f32⟩
  | .hbm, ⟨31, _⟩ => ⟨S232x128, .f32⟩
  | .hbm, ⟨32, _⟩ => ⟨S_, .f32⟩
  | .hbm, ⟨33, _⟩ => ⟨S232x128, .f32⟩
  | .hbm, ⟨34, _⟩ => ⟨S232x128, .f32⟩
  | .hbm, ⟨35, _⟩ => ⟨S232x128, .f32⟩
  | .hbm, ⟨36, _⟩ => ⟨S_, .f32⟩
  | .hbm, ⟨37, _⟩ => ⟨S232x128, .f32⟩
  | .hbm, ⟨38, _⟩ => ⟨S232x128, .f32⟩
  | _, _ => ⟨S8x232x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel23.lean ====
abbrev S16640x128 : Shape := ⟨2, ![16640, 128]⟩
abbrev S1024x128 : Shape := ⟨2, ![1024, 128]⟩
abbrev S16640x1024 : Shape := ⟨2, ![16640, 1024]⟩
abbrev S1280x128 : Shape := ⟨2, ![1280, 128]⟩
abbrev S1280x1024 : Shape := ⟨2, ![1280, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16640x128, .bf16⟩
  | .hbm, ⟨1, _⟩ => ⟨S1024x128, .bf16⟩
  | .hbm, ⟨2, _⟩ => ⟨S16640x1024, .f32⟩
  | .local _ .vmem, ⟨0, _⟩ => ⟨S1280x128, .bf16⟩
  | .local _ .vmem, ⟨1, _⟩ => ⟨S1280x128, .bf16⟩
  | .local _ .vmem, ⟨2, _⟩ => ⟨S1024x128, .bf16⟩
  | .local _ .vmem, ⟨3, _⟩ => ⟨S1280x1024, .f32⟩
  | .local _ .vmem, ⟨4, _⟩ => ⟨S1280x1024, .f32⟩
  | _, _ => ⟨S16640x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S16640x128 : Shape := ⟨2, ![16640, 128]⟩
abbrev S1024x128 : Shape := ⟨2, ![1024, 128]⟩
abbrev S16640x1024 : Shape := ⟨2, ![16640, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16640x128, .bf16⟩
  | .hbm, ⟨1, _⟩ => ⟨S1024x128, .bf16⟩
  | .hbm, ⟨2, _⟩ => ⟨S1024x128, .f32⟩
  | .hbm, ⟨3, _⟩ => ⟨S16640x128, .f32⟩
  | .hbm, ⟨4, _⟩ => ⟨S16640x1024, .f32⟩
  | _, _ => ⟨S16640x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel24.lean ====
abbrev S16640x1024 : Shape := ⟨2, ![16640, 1024]⟩
abbrev S1x1024 : Shape := ⟨2, ![1, 1024]⟩
abbrev S16640x128 : Shape := ⟨2, ![16640, 128]⟩
abbrev S1024x128 : Shape := ⟨2, ![1024, 128]⟩
abbrev S1280x1024 : Shape := ⟨2, ![1280, 1024]⟩
abbrev S1280x128 : Shape := ⟨2, ![1280, 128]⟩
abbrev S1280 : Shape := ⟨1, ![1280]⟩
abbrev S1280x1 : Shape := ⟨2, ![1280, 1]⟩

abbrev nBuf : Space → Nat
  | .hbm => 4
  | .vmem => 7
  | .smem => 0
  | _ => 0

abbrev bufTy : (tb : Table) → Fin (tcTables nBuf tb) → BufTy
  | .hbm, ⟨0, _⟩ => ⟨S16640x1024, .f32⟩
  | .hbm, ⟨1, _⟩ => ⟨S1x1024, .f32⟩
  | .hbm, ⟨2, _⟩ => ⟨S16640x128, .bf16⟩
  | .hbm, ⟨3, _⟩ => ⟨S1024x128, .bf16⟩
  | .local _ .vmem, ⟨0, _⟩ => ⟨S1280x1024, .f32⟩
  | .local _ .vmem, ⟨1, _⟩ => ⟨S1280x1024, .f32⟩
  | .local _ .vmem, ⟨2, _⟩ => ⟨S1x1024, .f32⟩
  | .local _ .vmem, ⟨3, _⟩ => ⟨S1280x128, .bf16⟩
  | .local _ .vmem, ⟨4, _⟩ => ⟨S1280x128, .bf16⟩
  | .local _ .vmem, ⟨5, _⟩ => ⟨S1024x128, .bf16⟩
  | .local _ .vmem, ⟨6, _⟩ => ⟨S1024x128, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 13], ![false, false, false]⟩

def k0_cond2 (i : grid0.Coords) : BitVec 1 :=
  let arg2 : BitVec 32 := BitVec.ofNat 32 (i 2).val
  let c12_i32 : BitVec 32 := 12#32
  let v25 : BitVec 1 := Scalar.cmpi .eq arg2 c12_i32
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S1280x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference24Ideal.lean ====
abbrev S16640x1024 : Shape := ⟨2, ![16640, 1024]⟩
abbrev S1x1024 : Shape := ⟨2, ![1, 1024]⟩
abbrev S16640x128 : Shape := ⟨2, ![16640, 128]⟩
abbrev S_ : Shape := ⟨0, ![]⟩
abbrev S16640 : Shape := ⟨1, ![16640]⟩
abbrev S16640x1 : Shape := ⟨2, ![16640, 1]⟩
abbrev S128x1024 : Shape := ⟨2, ![128, 1024]⟩
abbrev S1024x128 : Shape := ⟨2, ![1024, 128]⟩

abbrev nBuf : Space → Nat
  | .hbm => 22
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1x1024, .f32⟩
  | .hbm, ⟨2, _⟩ => ⟨S16640x128, .bf16⟩
  | .hbm, ⟨3, _⟩ => ⟨S16640x1024, .f32⟩
  | .hbm, ⟨4, _⟩ => ⟨S_, .f32⟩
  | .hbm, ⟨5, _⟩ => ⟨S16640, .f32⟩
  | .hbm, ⟨6, _⟩ => ⟨S16640x1, .f32⟩
  | .hbm, ⟨7, _⟩ => ⟨S_, .f32⟩
  | .hbm, ⟨8, _⟩ => ⟨S16640x1, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S16640x1, .f32⟩
  | .hbm, ⟨14, _⟩ => ⟨S16640x1024, .f32⟩
  | .hbm, ⟨15, _⟩ => ⟨S16640x1024, .f32⟩
  | .hbm, ⟨16, _⟩ => ⟨S16640x1024, .f32⟩
  | .hbm, ⟨17, _⟩ => ⟨S16640x1024, .f32⟩
  | .hbm, ⟨18, _⟩ => ⟨S16640x128, .f32⟩
  | .hbm, ⟨19, _⟩ => ⟨S128x1024, .f32⟩
  | .hbm, ⟨20, _⟩ => ⟨S1024x128, .f32⟩
  | .hbm, ⟨21, _⟩ => ⟨S1024x128, .bf16⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel25.lean ====
abbrev S16640x1024 : Shape := ⟨2, ![16640, 1024]⟩
abbrev S1x1024 : Shape := ⟨2, ![1, 1024]⟩
abbrev S1024x128 : Shape := ⟨2, ![1024, 128]⟩
abbrev S16640x128 : Shape := ⟨2, ![16640, 128]⟩
abbrev S1280x1024 : Shape := ⟨2, ![1280, 1024]⟩
abbrev S1280x128 : Shape := ⟨2, ![1280, 128]⟩
abbrev S320x1024 : Shape := ⟨2, ![320, 1024]⟩
abbrev S320 : Shape := ⟨1, ![320]⟩
abbrev S320x1 : Shape := ⟨2, ![320, 1]⟩
abbrev S320x128 : Shape := ⟨2, ![320, 128]⟩

abbrev nBuf : Space → Nat
  | .hbm => 4
  | .vmem => 6
  | .smem => 0
  | _ => 0

abbrev bufTy : (tb : Table) → Fin (tcTables nBuf tb) → BufTy
  | .hbm, ⟨0, _⟩ => ⟨S16640x1024, .f32⟩
  | .hbm, ⟨1, _⟩ => ⟨S1x1024, .f32⟩
  | .hbm, ⟨2, _⟩ => ⟨S1024x128, .bf16⟩
  | .hbm, ⟨3, _⟩ => ⟨S16640x128, .f32⟩
  | .local _ .vmem, ⟨0, _⟩ => ⟨S1280x1024, .f32⟩
  | .local _ .vmem, ⟨1, _⟩ => ⟨S1280x1024, .f32⟩
  | .local _ .vmem, ⟨2, _⟩ => ⟨S1x1024, .f32⟩
  | .local _ .vmem, ⟨3, _⟩ => ⟨S1024x128, .bf16⟩
  | .local _ .vmem, ⟨4, _⟩ => ⟨S1280x128, .f32⟩
  | .local _ .vmem, ⟨5, _⟩ => ⟨S1280x128, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 2 → Memref sig .tc .vmem S1280x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference25Ideal.lean ====
abbrev S16640x1024 : Shape := ⟨2, ![16640, 1024]⟩
abbrev S1x1024 : Shape := ⟨2, ![1, 1024]⟩
abbrev S1024x128 : Shape := ⟨2, ![1024, 128]⟩
abbrev S_ : Shape := ⟨0, ![]⟩
abbrev S16640 : Shape := ⟨1, ![16640]⟩
abbrev S16640x1 : Shape := ⟨2, ![16640, 1]⟩
abbrev S16640x128 : Shape := ⟨2, ![16640, 128]⟩

abbrev nBuf : Space → Nat
  | .hbm => 20
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1x1024, .f32⟩
  | .hbm, ⟨2, _⟩ => ⟨S1024x128, .bf16⟩
  | .hbm, ⟨3, _⟩ => ⟨S16640x1024, .f32⟩
  | .hbm, ⟨4, _⟩ => ⟨S_, .f32⟩
  | .hbm, ⟨5, _⟩ => ⟨S16640, .f32⟩
  | .hbm, ⟨6, _⟩ => ⟨S16640x1, .f32⟩
  | .hbm, ⟨7, _⟩ => ⟨S_, .f32⟩
  | .hbm, ⟨8, _⟩ => ⟨S16640x1, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S16640x1, .f32⟩
  | .hbm, ⟨14, _⟩ => ⟨S16640x1024, .f32⟩
  | .hbm, ⟨15, _⟩ => ⟨S16640x1024, .f32⟩
  | .hbm, ⟨16, _⟩ => ⟨S16640x1024, .f32⟩
  | .hbm, ⟨17, _⟩ => ⟨S16640x1024, .f32⟩
  | .hbm, ⟨18, _⟩ => ⟨S1024x128, .f32⟩
  | .hbm, ⟨19, _⟩ => ⟨S16640x128, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel26.lean ====
abbrev S16640x128 : Shape := ⟨2, ![16640, 128]⟩
abbrev S1x128 : Shape := ⟨2, ![1, 128]⟩
abbrev S640x128 : Shape := ⟨2, ![640, 128]⟩

abbrev nBuf : Space → Nat
  | .hbm => 4
  | .vmem => 6
  | .smem => 0
  | _ => 0

abbrev bufTy : (tb : Table) → Fin (tcTables nBuf tb) → BufTy
  | .hbm, ⟨0, _⟩ => ⟨S16640x128, .f32⟩
  | .hbm, ⟨1, _⟩ => ⟨S1x128, .f32⟩
  | .hbm, ⟨2, _⟩ => ⟨S1x128, .f32⟩
  | .hbm, ⟨3, _⟩ => ⟨S16640x128, .f32⟩
  | .local _ .vmem, ⟨0, _⟩ => ⟨S640x128, .f32⟩
  | .local _ .vmem, ⟨1, _⟩ => ⟨S640x128, .f32⟩
  | .local _ .vmem, ⟨2, _⟩ => ⟨S1x128, .f32⟩
  | .local _ .vmem, ⟨3, _⟩ => ⟨S1x128, .f32⟩
  | .local _ .vmem, ⟨4, _⟩ => ⟨S640x128, .f32⟩
  | .local _ .vmem, ⟨5, _⟩ => ⟨S640x128, .f32⟩
  | _, _ => ⟨S16640x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference26Ideal.lean ====
abbrev S16640x128 : Shape := ⟨2, ![16640, 128]⟩
abbrev S1x128 : Shape := ⟨2, ![1, 128]⟩
abbrev S1x4 : Shape := ⟨2, ![1, 4]⟩
abbrev S16400x128 : Shape := ⟨2, ![16400, 128]⟩
abbrev S16400x4 : Shape := ⟨2, ![16400, 4]⟩
abbrev S_ : Shape := ⟨0, ![]⟩
abbrev S16400x8 : Shape := ⟨2, ![16400, 8]⟩

abbrev nBuf : Space → Nat
  | .hbm => 40
  | .vmem => 0
  | .smem => 0
  | _ => 0

abbrev bufTy : (tb : Table) → Fin (tcTables nBuf tb) → BufTy
  | .hbm, ⟨0, _⟩ => ⟨S16640x128, .f32⟩
  | .hbm, ⟨1, _⟩ => ⟨S1x128, .f32⟩
  | .hbm, ⟨2, _⟩ => ⟨S1x128, .f32⟩
  | .hbm, ⟨3, _⟩ => ⟨S1x4, .f32⟩
  | .hbm, ⟨4, _⟩ => ⟨S1x4, .f32⟩
  | .hbm, ⟨5, _⟩ => ⟨S16400x128, .f32⟩
  | .hbm, ⟨6, _⟩ => ⟨S16400x4, .f32⟩
  | .hbm, ⟨7, _⟩ => ⟨S16400x4, .f32⟩
  | .hbm, ⟨8, _⟩ => ⟨S16400x4, .f32⟩
  | .hbm, ⟨9, _⟩ => ⟨S16400x4, .f32⟩
  | .hbm, ⟨10, _⟩ => ⟨S_, .f32⟩
  | .hbm, ⟨11, _⟩ => ⟨S16400x4, .f32⟩
  | .hbm, ⟨12, _⟩ => ⟨S16400x4, .f32⟩
  | .hbm, ⟨13, _⟩ => ⟨S_, .f32⟩
  | .hbm, ⟨14, _⟩ => ⟨S16400x4, .f32⟩
  | .hbm, ⟨15, _⟩ => ⟨S16400x4, .f32⟩
  | .hbm, ⟨16, _⟩ => ⟨S1x4, .f32⟩
  | .hbm, ⟨17, _⟩ => ⟨S1x4, .f32⟩
  | .hbm, ⟨18, _⟩ => ⟨S16400x4, .f32⟩
  | .hbm, ⟨19, _⟩ => ⟨S16400x4, .f32⟩
  | .hbm, ⟨20, _⟩ => ⟨S_, .f32⟩
  | .hbm, ⟨21, _⟩ => ⟨S16400x4, .f32⟩
  | .hbm, ⟨22, _⟩ => ⟨S16400x4, .f32⟩
  | .hbm, ⟨23, _⟩ => ⟨S16400x4, .f32⟩
  | .hbm, ⟨24, _⟩ => ⟨S16400x4, .f32⟩
  | .hbm, ⟨25, _⟩ => ⟨S16400x4, .i1⟩
  | .hbm, ⟨26, _⟩ => ⟨S16400x4, .f32⟩
  | .hbm, ⟨27, _⟩ => ⟨S16400x4, .f32⟩
  | .hbm, ⟨28, _⟩ => ⟨S16400x4, .f32⟩
  | .hbm, ⟨29, _⟩ => ⟨S16400x4, .f32⟩
  | .hbm, ⟨30, _⟩ => ⟨S16400x4, .f32⟩
  | .hbm, ⟨31, _⟩ => ⟨S16400x4, .f32⟩
  | .hbm, ⟨32, _⟩ => ⟨S16400x4, .f32⟩
  | .hbm, ⟨33, _⟩ => ⟨S16400x4, .f32⟩
  | .hbm, ⟨34, _⟩ => ⟨S16400x4, .f32⟩
  | .hbm, ⟨35, _⟩ => ⟨S16400x4, .f32⟩
  | .hbm, ⟨36, _⟩ => ⟨S16400x8, .f32⟩
  | .hbm, ⟨37, _⟩ => ⟨S_, .i32⟩
  | .hbm, ⟨38, _⟩ => ⟨S_, .f32⟩
  | .hbm, ⟨39, _⟩ => ⟨S16640x128, .f32⟩
  | _, _ => ⟨S16640x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_call1_v0 : Ref sig .tc := ⟨.hbm, 38, rfl⟩
abbrev main_v19 : Ref sig .tc := ⟨.hbm, 39, rfl⟩

abbrev nD : Nat := 1
abbrev τ : Topo := Topo.v7x

variable {F : FTy → Type} [FloatOps F]
-- ==== Kernel27.lean ====
abbrev S16640x1024 : Shape := ⟨2, ![16640, 1024]⟩
abbrev S16640x512 : Shape := ⟨2, ![16640, 512]⟩
abbrev S16640x3072 : Shape := ⟨2, ![16640, 3072]⟩
abbrev S1x128 : Shape := ⟨2, ![1, 128]⟩
abbrev S640x512 : Shape := ⟨2, ![640, 512]⟩
abbrev S640x128 : Shape := ⟨2, ![640, 128]⟩
abbrev S640 : Shape := ⟨1, ![640]⟩
abbrev S640x1 : Shape := ⟨2, ![640, 1]⟩

abbrev nBuf : Space → Nat
  | .hbm => 5
  | .vmem => 7
  | .smem => 0
  | _ => 0

abbrev bufTy : (tb : Table) → Fin (tcTables nBuf tb) → BufTy
  | .hbm, ⟨0, _⟩ => ⟨S16640x1024, .bf16⟩
  | .hbm, ⟨1, _⟩ => ⟨S16640x512, .f32⟩
  | .hbm, ⟨2, _⟩ => ⟨S16640x3072, .f32⟩
  | .hbm, ⟨3, _⟩ => ⟨S1x128, .f32⟩
  | .hbm, ⟨4, _⟩ => ⟨S16640x1024, .bf16⟩
  | .local _ .vmem, ⟨0, _⟩ => ⟨S640x512, .f32⟩
  | .local _ .vmem, ⟨1, _⟩ => ⟨S640x512, .f32⟩
  | .local _ .vmem, ⟨2, _⟩ => ⟨S640x512, .f32⟩
  | .local _ .vmem, ⟨3, _⟩ => ⟨S640x512, .f32⟩
  | .local _ .vmem, ⟨4, _⟩ => ⟨S1x128, .f32⟩
  | .local _ .vmem, ⟨5, _⟩ => ⟨S640x512, .bf16⟩
  | .local _ .vmem, ⟨6, _⟩ => ⟨S640x512, .bf16⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![26], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S640x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference27Ideal.lean ====
abbrev S16640x1024 : Shape := ⟨2, ![16640, 1024]⟩
abbrev S16640x512 : Shape := ⟨2, ![16640, 512]⟩
abbrev S16640x3072 : Shape := ⟨2, ![16640, 3072]⟩
abbrev S1x128 : Shape := ⟨2, ![1, 128]⟩
abbrev S16640x4x128 : Shape := ⟨3, ![16640, 4, 128]⟩
abbrev S_ : Shape := ⟨0, ![]⟩
abbrev S16640x4 : Shape := ⟨2, ![16640, 4]⟩
abbrev S16640x4x1 : Shape := ⟨3, ![16640, 4, 1]⟩
abbrev S1x1x128 : Shape := ⟨3, ![1, 1, 128]⟩

abbrev nBuf : Space → Nat
  | .hbm => 37
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S16640x512, .f32⟩
  | .hbm, ⟨2, _⟩ => ⟨S16640x3072, .f32⟩
  | .hbm, ⟨3, _⟩ => ⟨S1x128, .f32⟩
  | .hbm, ⟨4, _⟩ => ⟨S16640x512, .bf16⟩
  | .hbm, ⟨5, _⟩ => ⟨S16640x512, .f32⟩
  | .hbm, ⟨6, _⟩ => ⟨S16640x4x128, .f32⟩
  | .hbm, ⟨7, _⟩ => ⟨S16640x4x128, .f32⟩
  | .hbm, ⟨8, _⟩ => ⟨S_, .f32⟩
  | .hbm, ⟨9, _⟩ => ⟨S16640x4, .f32⟩
  | .hbm, ⟨10, _⟩ => ⟨S16640x4x1, .f32⟩
  | .hbm, ⟨11, _⟩ => ⟨S_, .f32⟩
  | .hbm, ⟨12, _⟩ => ⟨S16640x4x1, .f32⟩
  | .hbm, ⟨13, _⟩ => ⟨S16640x4x1, .f32⟩
  | .hbm, ⟨14, _⟩ => ⟨S_, .f32⟩
  | .hbm, ⟨15, _⟩ => ⟨S16640x4x1, .f32⟩
  | .hbm, ⟨16, _⟩ => ⟨S16640x4x1, .f32⟩
  | .hbm, ⟨17, _⟩ => ⟨S16640x4x1, .f32⟩
  | .hbm, ⟨18, _⟩ => ⟨S16640x4x128, .f32⟩
  | .hbm, ⟨19, _⟩ => ⟨S16640x4x128, .f32⟩
  | .hbm, ⟨20, _⟩ => ⟨S1x1x128, .f32⟩
  | .hbm, ⟨21, _⟩ => ⟨S16640x4x128, .f32⟩
  | .hbm, ⟨22, _⟩ => ⟨S16640x4x128, .f32⟩
  | .hbm, ⟨23, _⟩ => ⟨S16640x4x128, .f32⟩
  | .hbm, ⟨24, _⟩ => ⟨S16640x4x128, .f32⟩
  | .hbm, ⟨25, _⟩ => ⟨S16640x4x128, .f32⟩
  | .hbm, ⟨26, _⟩ => ⟨S_, .f32⟩
  | .hbm, ⟨27, _⟩ => ⟨S16640x4x128, .f32⟩
  | .hbm, ⟨28, _⟩ => ⟨S16640x4x128, .f32⟩
  | .hbm, ⟨29, _⟩ => ⟨S_, .f32⟩
  | .hbm, ⟨30, _⟩ => ⟨S16640x4x128, .f32⟩
  | .hbm, ⟨31, _⟩ => ⟨S16640x4x128, .f32⟩
  | .hbm, ⟨32, _⟩ => ⟨S16640x4x128, .f32⟩
  | .hbm, ⟨33, _⟩ => ⟨S16640x4x128, .f32⟩
  | .hbm, ⟨34, _⟩ => ⟨S16640x512, .f32⟩
  | .hbm, ⟨35, _⟩ => ⟨S16640x512, .bf16⟩
  | .hbm, ⟨36, _⟩ => ⟨S16640x1024, .bf16⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Proof.Blocks.lean ====
/-
  What the products of the backward pass share, about arrays of extended reals alone: an array of two axes read at two
  natural numbers (`at2`), what an accumulator holds that is cleared at the first point of every run of `b` grid points
  and adds one addend at each point (`run_sum`), and a contraction cut into blocks (`sum_blocks`).
-/
module

public import Idealize.ShloMosaic.Lib.Pointwise

@[expose] public section

noncomputable section

namespace Cert.Blocks

open Idealize.ShloMosaic

/-- An array of two axes read at two natural numbers: its element there, and `0` outside the array. -/
def at2 {a b : ℕ} (X : (⟨2, ![a, b]⟩ : Shape).Idx → EReal) (r k : ℕ) : EReal :=
  if h : r < a ∧ k < b then X (ix2 ⟨r, h.1⟩ ⟨k, h.2⟩) else 0

/-- Inside the array the reading is the element. -/
theorem at2_of_lt {a b : ℕ} (X : (⟨2, ![a, b]⟩ : Shape).Idx → EReal) (r k : ℕ) (hr : r < a) (hk : k < b) :
    at2 X r k = X (ix2 ⟨r, hr⟩ ⟨k, hk⟩) := dif_pos ⟨hr, hk⟩

/-- The element at an index is the reading at its two coordinates. -/
theorem at2_idx {a b : ℕ} (X : (⟨2, ![a, b]⟩ : Shape).Idx → EReal) (i : (⟨2, ![a, b]⟩ : Shape).Idx) (r k : ℕ)
    (hr : (i 0).val = r) (hk : (i 1).val = k) : X i = at2 X r k := by
  subst hr; subst hk
  exact (congrArg X (eq_ix2 i)).trans (at2_of_lt X _ _ (i 0).isLt (i 1).isLt).symm

/-- An accumulator over the grid points that holds the point's addend after the first point of each run of `b` points,
    and adds the point's addend at every other point, holds after point `n` the sum of the addends of `n`'s run so far. -/
theorem run_sum {N b : ℕ} {ι : Type} (f : (n : ℕ) → n < N → ι → EReal) (M : ℕ → ι → EReal)
    (h0 : ∀ (n : ℕ) (h : n < N) (i : ι), n % b = 0 → f n h i = M n i)
    (hs : ∀ (n : ℕ) (h : n + 1 < N) (i : ι), ¬(n + 1) % b = 0 → f (n + 1) h i = f n (Nat.lt_of_succ_lt h) i + M (n + 1) i)
    (q : ℕ) : ∀ (j : ℕ), j < b → ∀ (h : b * q + j < N) (i : ι), f (b * q + j) h i = ∑ s ∈ Finset.range (j + 1), M (b * q + s) i
  | 0, _, h, i => by rw [Finset.sum_range_one]; exact h0 _ h i (by simp)
  | j + 1, hj, h, i => by
    have hn : ¬(b * q + j + 1) % b = 0 := by rw [Nat.add_assoc, Nat.mul_add_mod, Nat.mod_eq_of_lt hj]; exact Nat.succ_ne_zero j
    rw [Finset.sum_range_succ, ← run_sum f M h0 hs q j (Nat.lt_of_succ_lt hj) (Nat.lt_of_succ_lt h) i]
    exact hs (b * q + j) h i hn

/-- A sum over `K = n·t` positions is the sum, block by block, over `n` blocks of `t` positions. -/
theorem sum_blocks (n t K : ℕ) (hK : K = n * t) (F : ℕ → EReal) :
    (∑ s ∈ Finset.range n, ∑ k : Fin t, F (s * t + k.val)) = ∑ k : Fin K, F k.val := by
  subst hK
  rw [Fin.sum_univ_eq_sum_range (fun k => F k)]
  induction n with
  | zero => simp
  | succ n ih =>
    rw [Finset.sum_range_succ, ih, Nat.succ_mul, Finset.sum_range_add, Fin.sum_univ_eq_sum_range (fun k => F (n * t + k))]

/-- The zero offsets, as the loads and stores of whole buffers have them. -/
theorem hz : (![0, 0] : Fin 2 → Nat) = fun _ => 0 := funext fun a => by fin_cases a <;> rfl

/-- One element of the normalised rows: the row's element times the reciprocal root of the row's mean square plus the
    printed small constant, times the weight of its column. -/
def normed {a b : ℕ} (X : (⟨2, ![a, b]⟩ : Shape).Idx → EReal) (w : (⟨2, ![1, b]⟩ : Shape).Idx → EReal) (r k : ℕ) : EReal :=
  at2 X r k * Ideal.rsqrt (Ideal.div (∑ l : Fin b, at2 X r l.val * at2 X r l.val) (Ideal.ofBits .f32 0x44800000#32)
    + Ideal.ofBits .f32 0x358637BD#32) * at2 w 0 k

/-- The same expression of any elements equal to the array's. -/
theorem normed_of {a b : ℕ} (X : (⟨2, ![a, b]⟩ : Shape).Idx → EReal) (w : (⟨2, ![1, b]⟩ : Shape).Idx → EReal) (r k : ℕ)
    {e v : EReal} {f : Fin b → EReal} (he : e = at2 X r k) (hf : ∀ l : Fin b, f l = at2 X r l.val) (hv : v = at2 w 0 k) :
    e * Ideal.rsqrt (Ideal.div (∑ l : Fin b, f l * f l) (Ideal.ofBits .f32 0x44800000#32) + Ideal.ofBits .f32 0x358637BD#32) * v
      = normed X w r k := by
  subst he hv
  simp only [normed, hf]

/-- One element of the gated activation `g · σ(g) · u`. -/
def gated {a b : ℕ} (G U : (⟨2, ![a, b]⟩ : Shape).Idx → EReal) (r k : ℕ) : EReal :=
  at2 G r k * Ideal.div 1 (1 + Ideal.exp (-at2 G r k)) * at2 U r k

end Cert.Blocks

end
-- ==== Proof.Finite.lean ====
/-
  What follows from the first call's precondition, that every argument is finite: a product of finite arrays is finite,
  the logistic function of a finite number is finite, and over the reals the two ways of writing the derivative of
  `g · σ(g)` are one number.
-/
module

public import proofs.«01_k».proof.Proof.Blocks
public import Idealize.ShloMosaic.Lib.ReduceAll

@[expose] public section

noncomputable section

namespace Cert.Finite

open Idealize.ShloMosaic Cert.Blocks

/-- A word that compares the magnitude of a number below infinity, and is one, says that the number is a real. -/
theorem real_of_lt_top (x : EReal) (h : Ideal.cmp .olt (max x (-x)) ⊤ = 1#1) : ∃ r : ℝ, x = r := by
  have h' : max x (-x) < ⊤ := by
    by_contra hn
    simp [Ideal.cmp, hn] at h
  induction x with
  | bot => simp at h'
  | top => simp at h'
  | coe r => exact ⟨r, rfl⟩

/-- Infinity as the two formats print it. -/
theorem ofBits_inf_f32 : Ideal.ofBits .f32 0x7F800000#32 = ⊤ := by simp [Ideal.ofBits, Ideal.ieee]
theorem ofBits_inf_bf16 : Ideal.ofBits .bf16 0x7F80#16 = ⊤ := by simp [Ideal.ofBits, Ideal.ieee]

/-- A sum of products of reals is a real. -/
theorem real_sum {n : ℕ} (f g : Fin n → EReal) (hf : ∀ k, ∃ r : ℝ, f k = r) (hg : ∀ k, ∃ r : ℝ, g k = r) :
    ∃ r : ℝ, (∑ k, f k * g k) = r := by
  choose a ha using hf
  choose b hb using hg
  refine ⟨∑ k, a k * b k, ?_⟩
  rw [show (∑ k, f k * g k) = ∑ k, ((a k * b k : ℝ) : EReal) from
    Finset.sum_congr rfl fun k _ => by rw [ha, hb, EReal.coe_mul]]
  induction (Finset.univ : Finset (Fin n)) using Finset.induction_on with
  | empty => simp
  | insert k s hk ih => rw [Finset.sum_insert hk, Finset.sum_insert hk, ih, EReal.coe_add]

/-- The logistic function of a real is a real. -/
theorem real_logistic (g : ℝ) : ∃ s : ℝ, Ideal.div 1 (1 + Ideal.exp (-(g : EReal))) = s := by
  have hp : (0 : ℝ) < 1 + Real.exp (-g) := by positivity
  refine ⟨1 / (1 + Real.exp (-g)), ?_⟩
  rw [← EReal.coe_neg, Ideal.exp_coe, ← EReal.coe_one, ← EReal.coe_add, Ideal.div_coe hp.ne', ← EReal.coe_mul, one_mul]

/-- The gradient through `g · σ(g)`, written with one bracket and written as the sum of two products. -/
theorem gate_grad (D u g : EReal) (hD : ∃ r : ℝ, D = r) (hu : ∃ r : ℝ, u = r) (hg : ∃ r : ℝ, g = r) :
    D * u * (Ideal.div 1 (1 + Ideal.exp (-g)) * (1 + g * (1 - Ideal.div 1 (1 + Ideal.exp (-g)))))
      = D * u * Ideal.div 1 (1 + Ideal.exp (-g))
        + g * (D * u) * (Ideal.div 1 (1 + Ideal.exp (-g)) * (1 - Ideal.div 1 (1 + Ideal.exp (-g)))) := by
  obtain ⟨d, rfl⟩ := hD
  obtain ⟨u, rfl⟩ := hu
  obtain ⟨g, rfl⟩ := hg
  obtain ⟨s, hs⟩ := real_logistic g
  rw [hs]
  norm_cast
  ring

end Cert.Finite

end
-- ==== Proof.DownDx.lean ====
/-
  The gradients of the two inputs of the gated product: of `gate · σ(gate) · up` times the down weight, where the
  gradient of the product of the two is `D = dh · w_downᵀ`. The call computes 26 × 2 blocks of 640 × 1408 elements, each
  contracted whole: `dgate = D · up · (σ · (1 + gate · (1 − σ)))` and `dup = D · (gate · σ)`. The reference is the
  derivative of the plain expression. The second is the same for all extended reals, the first for finite arguments.
-/
module

public import proofs.«01_k».proof.Proof.Finite
public import proofs.«01_k».proof.Proof.Gen.KernelIdeal.Value
public import proofs.«01_k».proof.Proof.Gen.ReferenceIdeal.Run
public import proofs.«01_k».proof.Pre_finite

@[expose] public section

set_option maxRecDepth 16384

noncomputable section

namespace Cert.DownDx

open Cert.KernelIdeal Cert.KernelIdeal.Gen Cert.Blocks
open Idealize.ShloMosaic Idealize.ShloMosaic.TcCoe Idealize.SL.Sem

variable (m : (ℓ : Loc nD τ sig) → Buf (Elt Ideal) ℓ) (ρ : Dev nD → PrngReg)

/-! ## What one block computes -/

/-- What the body leaves in its two blocks: its payloads of the input blocks. -/
theorem out4_eq (x0 : Vec Ideal S640x1024 .f32) (x1 : Vec Ideal S1408x1024 .bf16) (x2 x3 : Vec Ideal S640x1408 .f32) :
    out0_4 x0 x1 x2 x3 = k0_pay3 x0 x1 x2 x3 := by
  unfold out0_4
  rw [View.canon_unit_zero (S := S640x1408) hz, View.ld_unit_zero (S := S640x1024) hz, View.ld_unit_zero (S := S1408x1024) hz,
    View.ld_unit_zero (S := S640x1408) hz, View.ld_unit_zero (S := S640x1408) hz]

theorem out5_eq (x0 : Vec Ideal S640x1024 .f32) (x1 : Vec Ideal S1408x1024 .bf16) (x2 x3 : Vec Ideal S640x1408 .f32) :
    out0_5 x0 x1 x2 x3 = k0_pay4 x0 x1 x2 := by
  unfold out0_5
  rw [View.canon_unit_zero (S := S640x1408) hz, View.ld_unit_zero (S := S640x1024) hz, View.ld_unit_zero (S := S1408x1024) hz,
    View.ld_unit_zero (S := S640x1408) hz]

/-- The first gradient from the product's gradient `D`, the up value and the gate value, as the call writes it. -/
def gateGrad (D u g : EReal) : EReal :=
  D * u * (Ideal.div 1 (1 + Ideal.exp (-g)) * (1 + g * (1 - Ideal.div 1 (1 + Ideal.exp (-g)))))

/-- The second gradient, as the call writes it. -/
def upGrad (D g : EReal) : EReal := D * (g * Ideal.div 1 (1 + Ideal.exp (-g)))

theorem pay3_apply (x0 : Vec Ideal S640x1024 .f32) (x1 : Vec Ideal S1408x1024 .bf16) (x2 x3 : Vec Ideal S640x1408 .f32)
    (r : Fin 640) (l : Fin 1408) :
    k0_pay3 x0 x1 x2 x3 (ix2 r l) = gateGrad (∑ k : Fin 1024, x0 (ix2 r k) * x1 (ix2 l k)) (x3 (ix2 r l)) (x2 (ix2 r l)) := by
  unfold gateGrad
  pointwise [k0_pay3, k0_pay2, k0_pay1]
  simp only [zero_sub]

theorem pay4_apply (x0 : Vec Ideal S640x1024 .f32) (x1 : Vec Ideal S1408x1024 .bf16) (x2 : Vec Ideal S640x1408 .f32)
    (r : Fin 640) (l : Fin 1408) :
    k0_pay4 x0 x1 x2 (ix2 r l) = upGrad (∑ k : Fin 1024, x0 (ix2 r k) * x1 (ix2 l k)) (x2 (ix2 r l)) := by
  unfold upGrad
  pointwise [k0_pay4, k0_pay2, k0_pay1]
  simp only [zero_sub]

/-- The windows' block indices at a grid point. -/
theorem idx_facts : ∀ t : Fin cfg0.N, (win0_0.index t 0 = t.val / 2 ∧ win0_0.index t 1 = 0)
    ∧ (win0_1.index t 0 = t.val % 2 ∧ win0_1.index t 1 = 0) ∧ (win0_2.index t 0 = t.val / 2 ∧ win0_2.index t 1 = t.val % 2)
    ∧ (win0_3.index t 0 = t.val / 2 ∧ win0_3.index t 1 = t.val % 2) ∧ (win0_4.index t 0 = t.val / 2 ∧ win0_4.index t 1 = t.val % 2)
    ∧ (win0_5.index t 0 = t.val / 2 ∧ win0_5.index t 1 = t.val % 2) :=
  (by decide +kernel : ∀ t : Fin grid0.N, _)

/-- The arguments as arrays of extended reals. -/
abbrev X0 (c : Dev nD) : S16640x1024.Idx → EReal := m ((c : Thread nD τ).loc main_arg0)
abbrev X1 (c : Dev nD) : S2816x1024.Idx → EReal := m ((c : Thread nD τ).loc main_arg1)
abbrev X2 (c : Dev nD) : S16640x2816.Idx → EReal := m ((c : Thread nD τ).loc main_arg2)
abbrev X3 (c : Dev nD) : S16640x2816.Idx → EReal := m ((c : Thread nD τ).loc main_arg3)

/-- Each input block at an index is the argument at the block's place. -/
theorem blk0 (c : Dev nD) (t : Fin cfg0.N) (r : Fin 640) (k : Fin 1024) :
    (iblk m c 0 t : Vec Ideal S640x1024 .f32) (ix2 r k) = at2 (X0 m c) (t.val / 2 * 640 + r.val) k.val := by
  unfold iblk
  rw [View.read_apply]
  refine at2_idx (X0 m c) _ _ _ ?_ ?_
  · show win0_0.index t 0 * 640 + 1 * r.val = _; rw [(idx_facts t).1.1, one_mul]
  · show win0_0.index t 1 * 1024 + 1 * k.val = _; rw [(idx_facts t).1.2, zero_mul, zero_add, one_mul]

theorem blk1 (c : Dev nD) (t : Fin cfg0.N) (l : Fin 1408) (k : Fin 1024) :
    (iblk m c 1 t : Vec Ideal S1408x1024 .bf16) (ix2 l k) = at2 (X1 m c) (t.val % 2 * 1408 + l.val) k.val := by
  unfold iblk
  rw [View.read_apply]
  refine at2_idx (X1 m c) _ _ _ ?_ ?_
  · show win0_1.index t 0 * 1408 + 1 * l.val = _; rw [(idx_facts t).2.1.1, one_mul]
  · show win0_1.index t 1 * 1024 + 1 * k.val = _; rw [(idx_facts t).2.1.2, zero_mul, zero_add, one_mul]

theorem blk2 (c : Dev nD) (t : Fin cfg0.N) (r : Fin 640) (l : Fin 1408) :
    (iblk m c 2 t : Vec Ideal S640x1408 .f32) (ix2 r l) = at2 (X2 m c) (t.val / 2 * 640 + r.val) (t.val % 2 * 1408 + l.val) := by
  unfold iblk
  rw [View.read_apply]
  refine at2_idx (X2 m c) _ _ _ ?_ ?_
  · show win0_2.index t 0 * 640 + 1 * r.val = _; rw [(idx_facts t).2.2.1.1, one_mul]
  · show win0_2.index t 1 * 1408 + 1 * l.val = _; rw [(idx_facts t).2.2.1.2, one_mul]

theorem blk3 (c : Dev nD) (t : Fin cfg0.N) (r : Fin 640) (l : Fin 1408) :
    (iblk m c 3 t : Vec Ideal S640x1408 .f32) (ix2 r l) = at2 (X3 m c) (t.val / 2 * 640 + r.val) (t.val % 2 * 1408 + l.val) := by
  unfold iblk
  rw [View.read_apply]
  refine at2_idx (X3 m c) _ _ _ ?_ ?_
  · show win0_3.index t 0 * 640 + 1 * r.val = _; rw [(idx_facts t).2.2.2.1.1, one_mul]
  · show win0_3.index t 1 * 1408 + 1 * l.val = _; rw [(idx_facts t).2.2.2.1.2, one_mul]

/-! ## What the two arrays hold -/

/-- The gradient of the product at a row and a column. -/
def prod (x0 : S16640x1024.Idx → EReal) (x1 : S2816x1024.Idx → EReal) (r l : ℕ) : EReal :=
  ∑ k : Fin 1024, at2 x0 r k.val * at2 x1 l k.val

/-- The first result as an array of the arguments. -/
def gateArr (x0 : S16640x1024.Idx → EReal) (x1 : S2816x1024.Idx → EReal) (x2 x3 : S16640x2816.Idx → EReal) : S16640x2816.Idx → EReal :=
  fun i => gateGrad (prod x0 x1 (i 0).val (i 1).val) (at2 x3 (i 0).val (i 1).val) (at2 x2 (i 0).val (i 1).val)

/-- The second result as an array of the arguments. -/
def upArr (x0 : S16640x1024.Idx → EReal) (x1 : S2816x1024.Idx → EReal) (x2 : S16640x2816.Idx → EReal) : S16640x2816.Idx → EReal :=
  fun i => upGrad (prod x0 x1 (i 0).val (i 1).val) (at2 x2 (i 0).val (i 1).val)

/-- A block's product at an index is the whole product at the block's place. -/
theorem prod_block (c : Dev nD) (t : Fin cfg0.N) (r : Fin 640) (l : Fin 1408) :
    (∑ k : Fin 1024, (show S640x1024.Idx → EReal from iblk m c 0 t) (ix2 r k) * (show S1408x1024.Idx → EReal from iblk m c 1 t) (ix2 l k))
      = prod (X0 m c) (X1 m c) (t.val / 2 * 640 + r.val) (t.val % 2 * 1408 + l.val) :=
  Finset.sum_congr rfl fun k _ => congrArg₂ (fun a b : EReal => a * b) (blk0 m c t r k) (blk1 m c t l k)

/-- What a grid point writes back is its block of the array, for each of the two results. -/
theorem flushed4_eq (c : Dev nD) (t : Fin cfg0.N) :
    (dats m 0 c).flushed 4 t = ((cfg0.win 4).blk t).view.read (Elt Ideal) (gateArr (X0 m c) (X1 m c) (X2 m c) (X3 m c)) := by
  rw [Value.flushed4, out4_eq]
  funext y
  show k0_pay3 (iblk m c 0 t) (iblk m c 1 t) (iblk m c 2 t) (iblk m c 3 t) y
    = gateArr (X0 m c) (X1 m c) (X2 m c) (X3 m c) (((cfg0.win 4).blk t).view.emb y)
  unfold gateArr
  rw [show (((cfg0.win 4).blk t).view.emb y 0).val = t.val / 2 * 640 + (y 0).val from by
      show win0_4.index t 0 * 640 + 1 * (y 0).val = _; rw [(idx_facts t).2.2.2.2.1.1, one_mul],
    show (((cfg0.win 4).blk t).view.emb y 1).val = t.val % 2 * 1408 + (y 1).val from by
      show win0_4.index t 1 * 1408 + 1 * (y 1).val = _; rw [(idx_facts t).2.2.2.2.1.2, one_mul]]
  refine (congrArg (k0_pay3 (iblk m c 0 t) (iblk m c 1 t) (iblk m c 2 t) (iblk m c 3 t)) (eq_ix2 y)).trans
    ((pay3_apply _ _ _ _ (y 0) (y 1)).trans ?_)
  exact congr (congrArg₂ gateGrad (prod_block m c t (y 0) (y 1)) (blk3 m c t (y 0) (y 1))) (blk2 m c t (y 0) (y 1))

theorem flushed5_eq (c : Dev nD) (t : Fin cfg0.N) :
    (dats m 0 c).flushed 5 t = ((cfg0.win 5).blk t).view.read (Elt Ideal) (upArr (X0 m c) (X1 m c) (X2 m c)) := by
  rw [Value.flushed5, out5_eq]
  funext y
  show k0_pay4 (iblk m c 0 t) (iblk m c 1 t) (iblk m c 2 t) y
    = upArr (X0 m c) (X1 m c) (X2 m c) (((cfg0.win 5).blk t).view.emb y)
  unfold upArr
  rw [show (((cfg0.win 5).blk t).view.emb y 0).val = t.val / 2 * 640 + (y 0).val from by
      show win0_5.index t 0 * 640 + 1 * (y 0).val = _; rw [(idx_facts t).2.2.2.2.2.1, one_mul],
    show (((cfg0.win 5).blk t).view.emb y 1).val = t.val % 2 * 1408 + (y 1).val from by
      show win0_5.index t 1 * 1408 + 1 * (y 1).val = _; rw [(idx_facts t).2.2.2.2.2.2, one_mul]]
  refine (congrArg (k0_pay4 (iblk m c 0 t) (iblk m c 1 t) (iblk m c 2 t)) (eq_ix2 y)).trans
    ((pay4_apply _ _ _ (y 0) (y 1)).trans ?_)
  exact congrArg₂ upGrad (prod_block m c t (y 0) (y 1)) (blk2 m c t (y 0) (y 1))

/-- The point whose block has an index: its block of rows, then its block of columns. -/
theorem point_of (i : S16640x2816.Idx) : ∃ t : Fin cfg0.N,
    (t.val / 2 * 640 ≤ (i 0).val ∧ (i 0).val < t.val / 2 * 640 + 640) ∧ t.val % 2 * 1408 ≤ (i 1).val ∧ (i 1).val < t.val % 2 * 1408 + 1408 := by
  have hi0 : (i 0).val < 16640 := (i 0).isLt
  have hi1 : (i 1).val < 2816 := (i 1).isLt
  have hN : cfg0.N = 52 := N_0
  refine ⟨⟨(i 0).val / 640 * 2 + (i 1).val / 1408, by omega⟩, ?_⟩
  dsimp only
  omega

theorem mem_blk4 (t : Fin cfg0.N) (i : S16640x2816.Idx) :
    i ∈ ((cfg0.win 4).blk t).view.set ↔
      ∀ a : Fin 2, win0_4.index t a * S640x1408.size a ≤ (i a).val ∧ (i a).val < win0_4.index t a * S640x1408.size a + S640x1408.size a := by
  show i ∈ ((View.whole main_v0_0).slice (win0_4.rect t)).set ↔ _
  rw [View.set_slice_whole, Rect.mem_set_unit]
  exact Iff.rfl

theorem mem_blk5 (t : Fin cfg0.N) (i : S16640x2816.Idx) :
    i ∈ ((cfg0.win 5).blk t).view.set ↔
      ∀ a : Fin 2, win0_5.index t a * S640x1408.size a ≤ (i a).val ∧ (i a).val < win0_5.index t a * S640x1408.size a + S640x1408.size a := by
  show i ∈ ((View.whole main_v0_1).slice (win0_5.rect t)).set ↔ _
  rw [View.set_slice_whole, Rect.mem_set_unit]
  exact Iff.rfl

/-- Every index of a result is in the block of some point. -/
theorem covered4 (i : S16640x2816.Idx) : ∃ t : Fin cfg0.N, (cfg0.win 4).flush t = true ∧ i ∈ ((cfg0.win 4).blk t).view.set := by
  obtain ⟨t, h0, h1⟩ := point_of i
  refine ⟨t, flush0_4 t, ?_⟩
  rw [mem_blk4]
  intro a
  match a with
  | ⟨0, _⟩ =>
    show win0_4.index t 0 * 640 ≤ (i 0).val ∧ (i 0).val < win0_4.index t 0 * 640 + 640
    rw [(idx_facts t).2.2.2.2.1.1]; exact h0
  | ⟨1, _⟩ =>
    show win0_4.index t 1 * 1408 ≤ (i 1).val ∧ (i 1).val < win0_4.index t 1 * 1408 + 1408
    rw [(idx_facts t).2.2.2.2.1.2]; exact h1

theorem covered5 (i : S16640x2816.Idx) : ∃ t : Fin cfg0.N, (cfg0.win 5).flush t = true ∧ i ∈ ((cfg0.win 5).blk t).view.set := by
  obtain ⟨t, h0, h1⟩ := point_of i
  refine ⟨t, flush0_5 t, ?_⟩
  rw [mem_blk5]
  intro a
  match a with
  | ⟨0, _⟩ =>
    show win0_5.index t 0 * 640 ≤ (i 0).val ∧ (i 0).val < win0_5.index t 0 * 640 + 640
    rw [(idx_facts t).2.2.2.2.2.1]; exact h0
  | ⟨1, _⟩ =>
    show win0_5.index t 1 * 1408 ≤ (i 1).val ∧ (i 1).val < win0_5.index t 1 * 1408 + 1408
    rw [(idx_facts t).2.2.2.2.2.2]; exact h1

/-- The two results after the run. -/
theorem final4 (c : Dev nD) : (dats m 0 c).arrAt 4 cfg0.N = gateArr (X0 m c) (X1 m c) (X2 m c) (X3 m c) :=
  (dats m 0 c).arrAt_eq_of_cover 4 _ (fun t _ => flushed4_eq m c t) covered4

theorem final5 (c : Dev nD) : (dats m 0 c).arrAt 5 cfg0.N = upArr (X0 m c) (X1 m c) (X2 m c) :=
  (dats m 0 c).arrAt_eq_of_cover 5 _ (fun t _ => flushed5_eq m c t) covered5

/-! ## The reference -/

/-- The reference's product and logistic function. -/
def refProd (x0 : Vec Ideal S16640x1024 .f32) (x1 : Vec Ideal S2816x1024 .bf16) : FVec Ideal S16640x2816 .f32 :=
  Host.dotGeneral (φ₁ := .f32) (φ₂ := .f32) Cert.ReferenceIdeal.dot_S16640x1024_S2816x1024_S16640x2816_1_1_0_0_n_n none x0
    (extf .f32 x1 Cert.ReferenceIdeal.Gen.bitsLt_bf16_f32)

def refOne : FVec Ideal S16640x2816 .f32 :=
  broadcastInDim S16640x2816 ![] Cert.ReferenceIdeal.Gen.bcast_S_S16640x2816 (constant Cert.ReferenceIdeal.S_ .f32 0x3F800000#32)

def refSig (x2 : FVec Ideal S16640x2816 .f32) : FVec Ideal S16640x2816 .f32 :=
  Host.divf refOne (addf refOne (Host.exp (Host.negf x2)))

/-- The reference's two terms of the arguments. -/
def refGate (x0 : Vec Ideal S16640x1024 .f32) (x1 : Vec Ideal S2816x1024 .bf16) (x2 x3 : FVec Ideal S16640x2816 .f32) :
    FVec Ideal S16640x2816 .bf16 :=
  truncf .bf16 (addf (mulf (mulf (refProd x0 x1) x3) (refSig x2))
    (mulf (mulf x2 (mulf (refProd x0 x1) x3)) (mulf (refSig x2) (subf refOne (refSig x2))))) Cert.ReferenceIdeal.Gen.bitsLt_bf16_f32

def refUp (x0 : Vec Ideal S16640x1024 .f32) (x1 : Vec Ideal S2816x1024 .bf16) (x2 : FVec Ideal S16640x2816 .f32) :
    FVec Ideal S16640x2816 .bf16 :=
  truncf .bf16 (mulf (mulf x2 (refSig x2)) (refProd x0 x1)) Cert.ReferenceIdeal.Gen.bitsLt_bf16_f32

theorem refProd_apply (x0 : Vec Ideal S16640x1024 .f32) (x1 : Vec Ideal S2816x1024 .bf16) (i : S16640x2816.Idx) :
    refProd x0 x1 i = prod x0 x1 (i 0).val (i 1).val := by
  unfold refProd prod
  pointwise
  exact Finset.sum_congr rfl fun k _ => congrArg₂ (· * ·) (at2_idx _ _ _ _ rfl rfl) (at2_idx _ _ _ _ rfl rfl)

theorem refSig_apply (x2 : FVec Ideal S16640x2816 .f32) (i : S16640x2816.Idx) :
    refSig x2 i = Ideal.div 1 (1 + Ideal.exp (-x2 i)) := by
  unfold refSig refOne
  pointwise

theorem refOne_apply (i : S16640x2816.Idx) : refOne i = 1 := by
  unfold refOne
  pointwise

/-- The second result is the reference's, for all arguments. -/
theorem up_eq (x0 : Vec Ideal S16640x1024 .f32) (x1 : Vec Ideal S2816x1024 .bf16) (x2 : FVec Ideal S16640x2816 .f32) :
    upArr x0 x1 x2 = refUp x0 x1 x2 := by
  funext i
  show upGrad (prod x0 x1 (i 0).val (i 1).val) (at2 x2 (i 0).val (i 1).val) = x2 i * refSig x2 i * refProd x0 x1 i
  rw [refSig_apply, refProd_apply, ← at2_idx x2 i _ _ rfl rfl]
  exact mul_comm _ _

/-- The first result is the reference's, for finite arguments. -/
theorem gate_eq (x0 : Vec Ideal S16640x1024 .f32) (x1 : Vec Ideal S2816x1024 .bf16) (x2 x3 : FVec Ideal S16640x2816 .f32)
    (h0 : ∀ i, ∃ r : ℝ, x0 i = r) (h1 : ∀ i, ∃ r : ℝ, x1 i = r) (h2 : ∀ i, ∃ r : ℝ, x2 i = r) (h3 : ∀ i, ∃ r : ℝ, x3 i = r) :
    gateArr x0 x1 x2 x3 = refGate x0 x1 x2 x3 := by
  funext i
  show gateGrad (prod x0 x1 (i 0).val (i 1).val) (at2 x3 (i 0).val (i 1).val) (at2 x2 (i 0).val (i 1).val)
    = refProd x0 x1 i * x3 i * refSig x2 i + x2 i * (refProd x0 x1 i * x3 i) * (refSig x2 i * (refOne i - refSig x2 i))
  rw [refSig_apply, refOne_apply, refProd_apply, ← at2_idx x2 i _ _ rfl rfl, ← at2_idx x3 i _ _ rfl rfl]
  refine Finite.gate_grad _ _ _ (Finite.real_sum _ _ (fun k => ?_) fun k => ?_) (h3 i) (h2 i)
  · rw [at2_of_lt x0 _ _ (i 0).isLt k.isLt]; exact h0 _
  · rw [at2_of_lt x1 _ _ (i 1).isLt k.isLt]; exact h1 _

/-! ## The precondition -/

instance : Subsingleton Cert.Pre_finite.S_.Idx := ⟨fun _ _ => funext fun a => a.elim0⟩

/-- The precondition says that every element of the four arguments is a real. -/
theorem finite_args [Cert.Pre_finite.Facts] (x0 : Vec Ideal S16640x1024 .f32) (x1 : Vec Ideal S2816x1024 .bf16) (x2 x3 : FVec Ideal S16640x2816 .f32)
    (h : Cert.Pre_finite.fn (F := Ideal) x0 x1 x2 x3 = fun _ => 1#1) :
    (∀ i, ∃ r : ℝ, x0 i = r) ∧ (∀ i, ∃ r : ℝ, x1 i = r) ∧ (∀ i, ∃ r : ℝ, x2 i = r) ∧ ∀ i, ∃ r : ℝ, x3 i = r := by
  have h' := congrFun h (fun a => a.elim0)
  dsimp only [Cert.Pre_finite.fn, Cert.Pre_finite.fn_part1] at h'
  obtain ⟨h', e3⟩ := IntOp.andi_eq_one.1 h'
  obtain ⟨h', e2⟩ := IntOp.andi_eq_one.1 h'
  obtain ⟨e0, e1⟩ := IntOp.andi_eq_one.1 h'
  refine ⟨fun i => ?_, fun i => ?_, fun i => ?_, fun i => ?_⟩
  · have := Host.reduce_andi_all _ _ _ _ _ e0 i
    exact Finite.real_of_lt_top _ (by rw [← Finite.ofBits_inf_f32]; exact this)
  · have := Host.reduce_andi_all _ _ _ _ _ e1 i
    exact Finite.real_of_lt_top _ (by rw [← Finite.ofBits_inf_bf16]; exact this)
  · have := Host.reduce_andi_all _ _ _ _ _ e2 i
    exact Finite.real_of_lt_top _ (by rw [← Finite.ofBits_inf_f32]; exact this)
  · have := Host.reduce_andi_all _ _ _ _ _ e3 i
    exact Finite.real_of_lt_top _ (by rw [← Finite.ofBits_inf_f32]; exact this)

end Cert.DownDx

end
-- ==== Proof.DownDw.lean ====
/-
  The gradient of the feed-forward's last weight, `(g · σ(g) · u)ᵀ · dh`: the call recomputes the activation 640 rows at a
  time, adds the products in an accumulator over 26 blocks of rows, and narrows at the end; the reference computes the
  whole activation and contracts in one go. Over the extended reals the two are the same sum.
-/
module

public import proofs.«01_k».proof.Proof.Blocks
public import proofs.«01_k».proof.Proof.Gen.Kernel2Ideal.Value
public import proofs.«01_k».proof.Proof.Gen.Reference2Ideal.Run

@[expose] public section

set_option maxRecDepth 16384

noncomputable section

namespace Cert.DownDw

open Cert.Kernel2Ideal Cert.Kernel2Ideal.Gen Cert.Blocks
open Idealize.ShloMosaic Idealize.ShloMosaic.TcCoe Idealize.SL.Sem

variable (m : (ℓ : Loc nD τ sig) → Buf (Elt Ideal) ℓ)

/-! ## What the body leaves at one grid point -/

section Body
variable (c : Dev nD) (i : grid0.Coords)
  (a3 : Memref sig .tc .vmem S640x1408 .f32) (h3 : a3.IsWhole) (a4 : Memref sig .tc .vmem S640x1408 .f32) (h4 : a4.IsWhole)
  (a5 : Memref sig .tc .vmem S640x1024 .f32) (h5 : a5.IsWhole) (a6 : Memref sig .tc .vmem S1408x1024 .bf16) (h6 : a6.IsWhole)
  (a7 : Memref sig .tc .vmem S1408x1024 .f32) (h7 : a7.IsWhole)
  (x0 : Vec Ideal S640x1408 .f32) (x1 : Vec Ideal S640x1408 .f32) (x2 : Vec Ideal S640x1024 .f32) (xs : Vec Ideal S1408x1024 .f32)

/-- The first point of a run leaves in the accumulator the update of the zero block. -/
theorem acc_first (hc0 : cond0_0 i) (hc1 : ¬cond0_1 i) :
    sout0_A_0 c i a3 h3 a4 h4 a5 h5 a6 h6 a7 h7 hc0 hc1 x0 x1 x2 = k0_pay2 x0 x1 x2 (k0_pay1 (F := Ideal)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1408x1024) hz, View.readCov_unit_zero (S := S1408x1024) _ hz]
  simp only [View.readAt_eq_ld, h3.read_unread, h4.read_unread, h5.read_unread,
    View.ld_unit_zero (S := S640x1408) hz, View.ld_unit_zero (S := S640x1024) hz]

/-- A middle point leaves in it the update of what it held. -/
theorem acc_mid (hc0 : ¬cond0_0 i) (hc1 : ¬cond0_1 i) :
    sout0_B_0 c i a3 h3 a4 h4 a5 h5 a6 h6 a7 h7 hc0 hc1 x0 x1 x2 xs = k0_pay2 x0 x1 x2 xs := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_unit_zero (S := S1408x1024) hz]
  simp only [View.readAt_eq_ld, h3.read_unread, h4.read_unread, h5.read_unread, h7.read_unread,
    View.ld_unit_zero (S := S640x1408) hz, View.ld_unit_zero (S := S640x1024) hz, View.ld_unit_zero (S := S1408x1024) hz]

/-- So does the last point of a run, -/
theorem acc_last (hc0 : ¬cond0_0 i) (hc1 : cond0_1 i) :
    sout0_C_0 c i a3 h3 a4 h4 a5 h5 a6 h6 a7 h7 hc0 hc1 x0 x1 x2 xs = k0_pay2 x0 x1 x2 xs := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero (S := S1408x1024) hz]
  simp only [View.readAt_eq_ld, h3.read_unread, h4.read_unread, h5.read_unread, h7.read_unread,
    View.ld_unit_zero (S := S640x1408) hz, View.ld_unit_zero (S := S640x1024) hz, View.ld_unit_zero (S := S1408x1024) hz]

/-- which writes the narrowed sum to the output's block. -/
theorem out_last (hc0 : ¬cond0_0 i) (hc1 : cond0_1 i) :
    out0_C_3 c i a3 h3 a4 h4 a5 h5 a6 h6 a7 h7 hc0 hc1 x0 x1 x2 xs = k0_pay3 (k0_pay2 x0 x1 x2 xs) := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero (S := S1408x1024) hz, View.readCov_unit_zero (S := S1408x1024) _ hz]
  simp only [View.readAt_eq_ld, h3.read_unread, h4.read_unread, h5.read_unread, h7.read_unread,
    View.ld_unit_zero (S := S640x1408) hz, View.ld_unit_zero (S := S640x1024) hz, View.ld_unit_zero (S := S1408x1024) hz]

end Body

/-- The update of the accumulator at an index. -/
theorem update_apply (x0 : Vec Ideal S640x1408 .f32) (x1 : Vec Ideal S640x1408 .f32) (x2 : Vec Ideal S640x1024 .f32) (xs : Vec Ideal S1408x1024 .f32) (r : Fin 1408) (l : Fin 1024) :
    k0_pay2 x0 x1 x2 xs (ix2 r l)
      = xs (ix2 r l) + ∑ k : Fin 640, x0 (ix2 k r) * Ideal.div 1 (1 + Ideal.exp (0 - x0 (ix2 k r))) * x1 (ix2 k r) * x2 (ix2 k l) := by
  pointwise [k0_pay2]

theorem zero_apply (y : S1408x1024.Idx) : (k0_pay1 (F := Ideal)) y = 0 := by
  pointwise [k0_pay1]

theorem narrow_apply (x : Vec Ideal S1408x1024 .f32) (y : S1408x1024.Idx) : k0_pay3 x y = x y := by
  pointwise [k0_pay3]

/-! ## The blocks the windows stage -/

/-- The windows' block indices at a grid point. -/
theorem idx_facts : ∀ t : Fin cfg0.N, (win0_0.index t 0 = t.val % 26 ∧ win0_0.index t 1 = t.val / 26)
    ∧ (win0_1.index t 0 = t.val % 26 ∧ win0_1.index t 1 = t.val / 26) ∧ (win0_2.index t 0 = t.val % 26 ∧ win0_2.index t 1 = 0) :=
  (by decide +kernel : ∀ t : Fin grid0.N, _)

/-- The arguments as arrays of extended reals. -/
abbrev X0 (c : Dev nD) : S16640x2816.Idx → EReal := m ((c : Thread nD τ).loc main_arg0)
abbrev X1 (c : Dev nD) : S16640x2816.Idx → EReal := m ((c : Thread nD τ).loc main_arg1)
abbrev X2 (c : Dev nD) : S16640x1024.Idx → EReal := m ((c : Thread nD τ).loc main_arg2)

theorem blk0 (c : Dev nD) (t : Fin cfg0.N) (r : Fin 640) (k : Fin 1408) :
    (iblk m c 0 t : Vec Ideal S640x1408 .f32) (ix2 r k) = at2 (X0 m c) (t.val % 26 * 640 + r.val) (t.val / 26 * 1408 + k.val) := by
  unfold iblk
  rw [View.read_apply]
  refine at2_idx (X0 m c) _ _ _ ?_ ?_
  · show win0_0.index t 0 * 640 + 1 * r.val = _; rw [(idx_facts t).1.1, one_mul]
  · show win0_0.index t 1 * 1408 + 1 * k.val = _; rw [(idx_facts t).1.2, one_mul]

theorem blk1 (c : Dev nD) (t : Fin cfg0.N) (r : Fin 640) (k : Fin 1408) :
    (iblk m c 1 t : Vec Ideal S640x1408 .f32) (ix2 r k) = at2 (X1 m c) (t.val % 26 * 640 + r.val) (t.val / 26 * 1408 + k.val) := by
  unfold iblk
  rw [View.read_apply]
  refine at2_idx (X1 m c) _ _ _ ?_ ?_
  · show win0_1.index t 0 * 640 + 1 * r.val = _; rw [(idx_facts t).2.1.1, one_mul]
  · show win0_1.index t 1 * 1408 + 1 * k.val = _; rw [(idx_facts t).2.1.2, one_mul]

theorem blk2 (c : Dev nD) (t : Fin cfg0.N) (r : Fin 640) (k : Fin 1024) :
    (iblk m c 2 t : Vec Ideal S640x1024 .f32) (ix2 r k) = at2 (X2 m c) (t.val % 26 * 640 + r.val) (k.val) := by
  unfold iblk
  rw [View.read_apply]
  refine at2_idx (X2 m c) _ _ _ ?_ ?_
  · show win0_2.index t 0 * 640 + 1 * r.val = _; rw [(idx_facts t).2.2.1, one_mul]
  · show win0_2.index t 1 * 1024 + 1 * k.val = _; rw [(idx_facts t).2.2.2, zero_mul, zero_add, one_mul]

/-! ## The accumulator and the result -/

/-- What grid point `n` adds to the accumulator at a place of the block. -/
def addend (c : Dev nD) (n : ℕ) (y : S1408x1024.Idx) : EReal :=
  ∑ k : Fin 640, gated (X0 m c) (X1 m c) (n % 26 * 640 + k.val) (n / 26 * 1408 + (y 0).val) * at2 (X2 m c) (n % 26 * 640 + k.val) (y 1).val

/-- The update at a grid point adds the point's addend. -/
theorem update_at (c : Dev nD) (t : Fin cfg0.N) (xs : Vec Ideal S1408x1024 .f32) (y : S1408x1024.Idx) :
    k0_pay2 (iblk m c 0 t) (iblk m c 1 t) (iblk m c 2 t) xs y = xs y + addend m c t.val y := by
  rw [eq_ix2 y]
  refine (update_apply _ _ _ xs (y 0) (y 1)).trans (congrArg (xs (ix2 (y 0) (y 1)) + ·) ?_)
  refine Finset.sum_congr rfl fun k _ => congrArg₂ (· * ·) ?_ (blk2 m c t k (y 1))
  exact (congrArg₂ (fun a b : EReal => a * Ideal.div 1 (1 + Ideal.exp (0 - a)) * b) (blk0 m c t k (y 0)) (blk1 m c t k (y 0))).trans
    (by dsimp only; rw [zero_sub]; rfl)

/-- What the accumulator holds after a point of run `q`: the sum of the run's addends so far. -/
theorem acc_at (c : Dev nD) (q j : ℕ) (hj : j < 26) (h : 26 * q + j < cfg0.N) (y : S1408x1024.Idx) :
    (outsAt0 m c (26 * q + j) h).2 y = ∑ s ∈ Finset.range (j + 1), addend m c (26 * q + s) y := by
  refine run_sum (b := 26) (fun n h => (outsAt0 m c n h).2) (addend m c) ?_ ?_ q j hj h y
  · intro n h y hn
    rw [outsAt0_A m c ⟨n, h⟩ hn (by dsimp only; omega)]
    dsimp only
    rw [acc_first]
    refine (update_at m c ⟨n, h⟩ _ y).trans ?_
    rw [zero_apply, zero_add]
  · intro n h y hn
    by_cases hl : (n + 1) % 26 = 25
    · rw [outsAt0_C m c ⟨n + 1, h⟩ hn hl]
      dsimp only
      rw [acc_last]
      exact update_at m c ⟨n + 1, h⟩ _ y
    · rw [outsAt0_B m c ⟨n + 1, h⟩ hn hl]
      dsimp only
      rw [acc_mid]
      exact update_at m c ⟨n + 1, h⟩ _ y

/-- What the call leaves in its result: the product of the activation with the gradient, over all 16640 rows. -/
theorem result_apply (c : Dev nD) (i : S2816x1024.Idx) :
    Value.G3 m c i = ∑ k : Fin 16640, gated (X0 m c) (X1 m c) k.val (i 0).val * at2 (X2 m c) k.val (i 1).val := by
  have hi0 : (i 0).val < 2816 := (i 0).isLt
  have hi1 : (i 1).val < 1024 := (i 1).isLt
  have hN : cfg0.N = 52 := N_0
  have hq : Value.run3Of i = (i 0).val / 1408 := by
    show 1 * ((i 0).val / 1408 - 0) + 1 * ((i 1).val / 1024 - 0) = _
    omega
  have hpt : Value.pt3Of i = 26 * Value.run3Of i + 25 := rfl
  have hp : Value.pt3Of i < cfg0.N := by omega
  unfold Value.G3
  rw [dif_pos hp, ← Value.outsAt0_sweep m c _ hp]
  have e : (outsAt0 m c (Value.pt3Of i) hp).1 = k0_pay3 (outsAt0 m c (Value.pt3Of i) hp).2 := by
    rw [outsAt0_C m c ⟨Value.pt3Of i, hp⟩ (by dsimp only; omega) (by dsimp only; omega)]
    dsimp only
    rw [out_last, acc_last]
  rw [e, narrow_apply]
  refine (acc_at m c (Value.run3Of i) 25 (by omega) hp (Value.loc3Of i)).trans ?_
  rw [Finset.sum_congr rfl (fun s hs => show addend m c (26 * Value.run3Of i + s) (Value.loc3Of i)
      = ∑ k : Fin 640, gated (X0 m c) (X1 m c) (s * 640 + k.val) (i 0).val * at2 (X2 m c) (s * 640 + k.val) (i 1).val from by
    have hs' : s < 26 := Finset.mem_range.mp hs
    have e0 : (26 * Value.run3Of i + s) % 26 = s := by omega
    have e1 : (26 * Value.run3Of i + s) / 26 * 1408 + (i 0).val % 1408 = (i 0).val := by omega
    have e2 : (i 1).val % 1024 = (i 1).val := Nat.mod_eq_of_lt hi1
    show (∑ k : Fin 640, gated (X0 m c) (X1 m c) ((26 * Value.run3Of i + s) % 26 * 640 + k.val) ((26 * Value.run3Of i + s) / 26 * 1408 + (i 0).val % 1408)
        * at2 (X2 m c) ((26 * Value.run3Of i + s) % 26 * 640 + k.val) ((i 1).val % 1024)) = _
    rw [e0, e1, e2]),
    sum_blocks 26 640 16640 rfl (fun k => gated (X0 m c) (X1 m c) k (i 0).val * at2 (X2 m c) k (i 1).val)]

/-! ## The reference -/

/-- The reference's term of the three arguments. -/
def ref (x0 : Vec Ideal S16640x2816 .f32) (x1 : Vec Ideal S16640x2816 .f32) (x2 : Vec Ideal S16640x1024 .f32) : FVec Ideal S2816x1024 .bf16 :=
  truncf .bf16 (transpose S2816x1024 [1, 0]
    (Host.dotGeneral (φ₁ := .f32) (φ₂ := .f32) Cert.Reference2Ideal.dot_S16640x1024_S16640x2816_S1024x2816_0_0_1_1_n_n none x2
      (mulf (mulf x0 (Host.divf (broadcastInDim S16640x2816 ![] Cert.Reference2Ideal.Gen.bcast_S_S16640x2816 (constant Cert.Reference2Ideal.S_ .f32 0x3F800000#32))
        (addf (broadcastInDim S16640x2816 ![] Cert.Reference2Ideal.Gen.bcast_S_S16640x2816 (constant Cert.Reference2Ideal.S_ .f32 0x3F800000#32)) (Host.exp (Host.negf x0))))) x1))
    Cert.Reference2Ideal.Gen.transposes_S1024x2816_S2816x1024_1_0) Cert.Reference2Ideal.Gen.bitsLt_bf16_f32

/-- It is, at each index, the same sum with the factors in the other order. -/
theorem ref_apply (x0 : Vec Ideal S16640x2816 .f32) (x1 : Vec Ideal S16640x2816 .f32) (x2 : Vec Ideal S16640x1024 .f32) (i : S2816x1024.Idx) :
    ref x0 x1 x2 i = ∑ k : Fin 16640, gated x0 x1 k.val (i 0).val * at2 x2 k.val (i 1).val := by
  unfold ref
  pointwise
  refine Finset.sum_congr rfl fun k _ => ?_
  rw [mul_comm]
  exact congrArg₂ (· * ·) (congrArg₂ (fun a b : EReal => a * Ideal.div 1 (1 + Ideal.exp (-a)) * b) (at2_idx x0 _ _ _ rfl rfl) (at2_idx x1 _ _ _ rfl rfl)) (at2_idx _ _ _ _ rfl rfl)

/-- The call's result is the reference's term of the same arguments. -/
theorem value (c : Dev nD) : Value.G3 m c = ref (X0 m c) (X1 m c) (X2 m c) :=
  funext fun i => (result_apply m c i).trans (ref_apply _ _ _ i).symm

end Cert.DownDw

end
-- ==== Proof.GateUpDx.lean ====
/-
  The gradient of the feed-forward's input from the gradients of its two projections, `dup · w_upᵀ + dgate · w_gateᵀ`:
  the call sums two products over a contraction cut into two blocks of 1408 in an accumulator; the reference contracts
  in one go and adds. Over the extended reals the two are the same sum.
-/
module

public import proofs.«01_k».proof.Proof.Blocks
public import proofs.«01_k».proof.Proof.Gen.Kernel3Ideal.Value
public import proofs.«01_k».proof.Proof.Gen.Reference3Ideal.Run

@[expose] public section

set_option maxRecDepth 16384

noncomputable section

namespace Cert.GateUpDx

open Cert.Kernel3Ideal Cert.Kernel3Ideal.Gen Cert.Blocks
open Idealize.ShloMosaic Idealize.ShloMosaic.TcCoe Idealize.SL.Sem

variable (m : (ℓ : Loc nD τ sig) → Buf (Elt Ideal) ℓ)

section Body
variable (c : Dev nD) (i : grid0.Coords) (a3 : Memref sig .tc .vmem S1280x1408 .bf16) (h3 : a3.IsWhole)
  (a4 : Memref sig .tc .vmem S1024x1408 .bf16) (h4 : a4.IsWhole) (a5 : Memref sig .tc .vmem S1280x1408 .bf16) (h5 : a5.IsWhole)
  (a6 : Memref sig .tc .vmem S1024x1408 .bf16) (h6 : a6.IsWhole) (a7 : Memref sig .tc .vmem S1280x1024 .f32) (h7 : a7.IsWhole)
  (a8 : Memref sig .tc .vmem S1280x1024 .f32) (h8 : a8.IsWhole)
  (x0 : Vec Ideal S1280x1408 .bf16) (x1 : Vec Ideal S1024x1408 .bf16) (x2 : Vec Ideal S1280x1408 .bf16)
  (x3 : Vec Ideal S1024x1408 .bf16) (xs : Vec Ideal S1280x1024 .f32)

/-- The first point of a run leaves in the accumulator the update of the zero block. -/
theorem acc_first (hc0 : cond0_0 i) (hc1 : ¬cond0_1 i) :
    sout0_A_0 c i a3 h3 a4 h4 a5 h5 a6 h6 a7 h7 a8 h8 hc0 hc1 x0 x1 x2 x3 = k0_pay2 x0 x1 x2 x3 (k0_pay1 (F := Ideal)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1280x1024) hz, View.readCov_unit_zero (S := S1280x1024) _ hz]
  simp only [View.readAt_eq_ld, h3.read_unread, h4.read_unread, h5.read_unread, h6.read_unread,
    View.ld_unit_zero (S := S1280x1408) hz, View.ld_unit_zero (S := S1024x1408) hz]

/-- The last point of a run leaves in the accumulator the update of what it held. -/
theorem acc_last (hc0 : ¬cond0_0 i) (hc1 : cond0_1 i) :
    sout0_B_0 c i a3 h3 a4 h4 a5 h5 a6 h6 a7 h7 a8 h8 hc0 hc1 x0 x1 x2 x3 xs = k0_pay2 x0 x1 x2 x3 xs := by
  unfold sout0_B_0
  rw [View.read_writes_eq_canon _ _ _ (scover0_B_0 c i a3 h3 a4 h4 a5 h5 a6 h6 a7 h7 a8 h8 hc0 hc1 x0 x1 x2 x3 xs)]
  unfold kernelRun0_B
  dsimp only
  sl_unfold_words
  rw [View.canon_unit_zero (S := S1280x1024) hz]
  simp only [View.readAt_eq_ld, h3.read_unread, h4.read_unread, h5.read_unread, h6.read_unread, h8.read_unread,
    View.ld_unit_zero (S := S1280x1408) hz, View.ld_unit_zero (S := S1024x1408) hz, View.ld_unit_zero (S := S1280x1024) hz]

/-- … and writes that to the output's block. -/
theorem out_last (hc0 : ¬cond0_0 i) (hc1 : cond0_1 i) :
    out0_B_4 c i a3 h3 a4 h4 a5 h5 a6 h6 a7 h7 a8 h8 hc0 hc1 x0 x1 x2 x3 xs = k0_pay2 x0 x1 x2 x3 xs := by
  unfold out0_B_4
  rw [View.read_writes_eq_canon _ _ _ (cover0_B_4 c i a3 h3 a4 h4 a5 h5 a6 h6 a7 h7 a8 h8 hc0 hc1 x0 x1 x2 x3 xs)]
  unfold kernelRun0_B
  dsimp only
  sl_unfold_words
  rw [View.canon_unit_zero (S := S1280x1024) hz, View.readCov_unit_zero (S := S1280x1024) _ hz]
  simp only [View.readAt_eq_ld, h3.read_unread, h4.read_unread, h5.read_unread, h6.read_unread, h8.read_unread,
    View.ld_unit_zero (S := S1280x1408) hz, View.ld_unit_zero (S := S1024x1408) hz, View.ld_unit_zero (S := S1280x1024) hz]

end Body

/-- The update of the accumulator at an index: the two block products added. -/
theorem update_apply (x0 : Vec Ideal S1280x1408 .bf16) (x1 : Vec Ideal S1024x1408 .bf16) (x2 : Vec Ideal S1280x1408 .bf16)
    (x3 : Vec Ideal S1024x1408 .bf16) (xs : Vec Ideal S1280x1024 .f32) (r : Fin 1280) (l : Fin 1024) :
    k0_pay2 x0 x1 x2 x3 xs (ix2 r l)
      = xs (ix2 r l) + ((∑ k : Fin 1408, x0 (ix2 r k) * x1 (ix2 l k)) + ∑ k : Fin 1408, x2 (ix2 r k) * x3 (ix2 l k)) := by
  pointwise [k0_pay2]

theorem zero_apply (y : S1280x1024.Idx) : (k0_pay1 (F := Ideal)) y = 0 := by
  pointwise [k0_pay1]

/-- The windows' block indices at a grid point. -/
theorem idx_facts : ∀ t : Fin cfg0.N, (win0_0.index t 0 = t.val / 2 ∧ win0_0.index t 1 = t.val % 2)
    ∧ (win0_1.index t 0 = 0 ∧ win0_1.index t 1 = t.val % 2) ∧ (win0_2.index t 0 = t.val / 2 ∧ win0_2.index t 1 = t.val % 2)
    ∧ (win0_3.index t 0 = 0 ∧ win0_3.index t 1 = t.val % 2) :=
  (by decide +kernel : ∀ t : Fin grid0.N, _)

/-- The four arguments as arrays of extended reals. -/
abbrev X0 (c : Dev nD) : S16640x2816.Idx → EReal := m ((c : Thread nD τ).loc main_arg0)
abbrev X1 (c : Dev nD) : S1024x2816.Idx → EReal := m ((c : Thread nD τ).loc main_arg1)
abbrev X2 (c : Dev nD) : S16640x2816.Idx → EReal := m ((c : Thread nD τ).loc main_arg2)
abbrev X3 (c : Dev nD) : S1024x2816.Idx → EReal := m ((c : Thread nD τ).loc main_arg3)

theorem blk0 (c : Dev nD) (t : Fin cfg0.N) (r : Fin 1280) (k : Fin 1408) :
    (iblk m c 0 t : Vec Ideal S1280x1408 .bf16) (ix2 r k) = at2 (X0 m c) (t.val / 2 * 1280 + r.val) (t.val % 2 * 1408 + k.val) := by
  unfold iblk
  rw [View.read_apply]
  refine at2_idx (X0 m c) _ _ _ ?_ ?_
  · show win0_0.index t 0 * 1280 + 1 * r.val = _; rw [(idx_facts t).1.1, one_mul]
  · show win0_0.index t 1 * 1408 + 1 * k.val = _; rw [(idx_facts t).1.2, one_mul]

theorem blk1 (c : Dev nD) (t : Fin cfg0.N) (l : Fin 1024) (k : Fin 1408) :
    (iblk m c 1 t : Vec Ideal S1024x1408 .bf16) (ix2 l k) = at2 (X1 m c) l.val (t.val % 2 * 1408 + k.val) := by
  unfold iblk
  rw [View.read_apply]
  refine at2_idx (X1 m c) _ _ _ ?_ ?_
  · show win0_1.index t 0 * 1024 + 1 * l.val = _; rw [(idx_facts t).2.1.1, zero_mul, zero_add, one_mul]
  · show win0_1.index t 1 * 1408 + 1 * k.val = _; rw [(idx_facts t).2.1.2, one_mul]

theorem blk2 (c : Dev nD) (t : Fin cfg0.N) (r : Fin 1280) (k : Fin 1408) :
    (iblk m c 2 t : Vec Ideal S1280x1408 .bf16) (ix2 r k) = at2 (X2 m c) (t.val / 2 * 1280 + r.val) (t.val % 2 * 1408 + k.val) := by
  unfold iblk
  rw [View.read_apply]
  refine at2_idx (X2 m c) _ _ _ ?_ ?_
  · show win0_2.index t 0 * 1280 + 1 * r.val = _; rw [(idx_facts t).2.2.1.1, one_mul]
  · show win0_2.index t 1 * 1408 + 1 * k.val = _; rw [(idx_facts t).2.2.1.2, one_mul]

theorem blk3 (c : Dev nD) (t : Fin cfg0.N) (l : Fin 1024) (k : Fin 1408) :
    (iblk m c 3 t : Vec Ideal S1024x1408 .bf16) (ix2 l k) = at2 (X3 m c) l.val (t.val % 2 * 1408 + k.val) := by
  unfold iblk
  rw [View.read_apply]
  refine at2_idx (X3 m c) _ _ _ ?_ ?_
  · show win0_3.index t 0 * 1024 + 1 * l.val = _; rw [(idx_facts t).2.2.2.1, zero_mul, zero_add, one_mul]
  · show win0_3.index t 1 * 1408 + 1 * k.val = _; rw [(idx_facts t).2.2.2.2, one_mul]

/-- What grid point `n` adds to the accumulator at a place of the block. -/
def addend (c : Dev nD) (n : ℕ) (y : S1280x1024.Idx) : EReal :=
  (∑ k : Fin 1408, at2 (X0 m c) (n / 2 * 1280 + (y 0).val) (n % 2 * 1408 + k.val) * at2 (X1 m c) (y 1).val (n % 2 * 1408 + k.val))
    + ∑ k : Fin 1408, at2 (X2 m c) (n / 2 * 1280 + (y 0).val) (n % 2 * 1408 + k.val) * at2 (X3 m c) (y 1).val (n % 2 * 1408 + k.val)

/-- The update at a grid point adds the point's addend. -/
theorem update_at (c : Dev nD) (t : Fin cfg0.N) (xs : Vec Ideal S1280x1024 .f32) (y : S1280x1024.Idx) :
    k0_pay2 (iblk m c 0 t) (iblk m c 1 t) (iblk m c 2 t) (iblk m c 3 t) xs y = xs y + addend m c t.val y := by
  rw [eq_ix2 y]
  refine (update_apply _ _ _ _ xs (y 0) (y 1)).trans (congrArg (xs (ix2 (y 0) (y 1)) + ·) (congrArg₂ (· + ·) ?_ ?_))
  · exact Finset.sum_congr rfl fun k _ => congrArg₂ (· * ·) (blk0 m c t (y 0) k) (blk1 m c t (y 1) k)
  · exact Finset.sum_congr rfl fun k _ => congrArg₂ (· * ·) (blk2 m c t (y 0) k) (blk3 m c t (y 1) k)

/-- What the accumulator holds after a point of run `q`: the sum of the run's addends so far. -/
theorem acc_at (c : Dev nD) (q j : ℕ) (hj : j < 2) (h : 2 * q + j < cfg0.N) (y : S1280x1024.Idx) :
    (outsAt0 m c (2 * q + j) h).2 y = ∑ s ∈ Finset.range (j + 1), addend m c (2 * q + s) y := by
  refine run_sum (b := 2) (fun n h => (outsAt0 m c n h).2) (addend m c) ?_ ?_ q j hj h y
  · intro n h y hn
    rw [outsAt0_A m c ⟨n, h⟩ hn (by dsimp only; omega)]
    dsimp only
    rw [acc_first]
    refine (update_at m c ⟨n, h⟩ _ y).trans ?_
    rw [zero_apply, zero_add]
  · intro n h y hn
    rw [outsAt0_B m c ⟨n + 1, h⟩ hn (by dsimp only; omega)]
    dsimp only
    rw [acc_last]
    exact update_at m c ⟨n + 1, h⟩ _ y

/-- What the call leaves in its result: the two products, each contracted over all 2816 positions, added. -/
theorem result_apply (c : Dev nD) (i : S16640x1024.Idx) :
    Value.G4 m c i = (∑ k : Fin 2816, at2 (X0 m c) (i 0).val k.val * at2 (X1 m c) (i 1).val k.val)
      + ∑ k : Fin 2816, at2 (X2 m c) (i 0).val k.val * at2 (X3 m c) (i 1).val k.val := by
  have hi0 : (i 0).val < 16640 := (i 0).isLt
  have hi1 : (i 1).val < 1024 := (i 1).isLt
  have hN : cfg0.N = 26 := N_0
  have hq : Value.run4Of i = (i 0).val / 1280 := by
    show 1 * ((i 0).val / 1280 - 0) + 1 * ((i 1).val / 1024 - 0) = _
    omega
  have hpt : Value.pt4Of i = 2 * Value.run4Of i + 1 := rfl
  have hp : Value.pt4Of i < cfg0.N := by omega
  unfold Value.G4
  rw [dif_pos hp, ← Value.outsAt0_sweep m c _ hp]
  have e : (outsAt0 m c (Value.pt4Of i) hp).1 = (outsAt0 m c (Value.pt4Of i) hp).2 := by
    rw [outsAt0_B m c ⟨Value.pt4Of i, hp⟩ (by dsimp only; omega) (by dsimp only; omega)]
    dsimp only
    rw [out_last, acc_last]
  rw [e]
  refine (acc_at m c (Value.run4Of i) 1 (by omega) hp (Value.loc4Of i)).trans ?_
  rw [Finset.sum_congr rfl (fun s hs => show addend m c (2 * Value.run4Of i + s) (Value.loc4Of i)
      = (∑ k : Fin 1408, at2 (X0 m c) (i 0).val (s * 1408 + k.val) * at2 (X1 m c) (i 1).val (s * 1408 + k.val))
        + ∑ k : Fin 1408, at2 (X2 m c) (i 0).val (s * 1408 + k.val) * at2 (X3 m c) (i 1).val (s * 1408 + k.val) from by
    have hs' : s < 2 := Finset.mem_range.mp hs
    have e0 : (2 * Value.run4Of i + s) / 2 * 1280 + (i 0).val % 1280 = (i 0).val := by omega
    have e1 : (i 1).val % 1024 = (i 1).val := Nat.mod_eq_of_lt hi1
    have e2 : (2 * Value.run4Of i + s) % 2 = s := by omega
    show (∑ k : Fin 1408, at2 (X0 m c) ((2 * Value.run4Of i + s) / 2 * 1280 + (i 0).val % 1280) ((2 * Value.run4Of i + s) % 2 * 1408 + k.val)
        * at2 (X1 m c) ((i 1).val % 1024) ((2 * Value.run4Of i + s) % 2 * 1408 + k.val))
      + (∑ k : Fin 1408, at2 (X2 m c) ((2 * Value.run4Of i + s) / 2 * 1280 + (i 0).val % 1280) ((2 * Value.run4Of i + s) % 2 * 1408 + k.val)
        * at2 (X3 m c) ((i 1).val % 1024) ((2 * Value.run4Of i + s) % 2 * 1408 + k.val)) = _
    rw [e0, e1, e2]), Finset.sum_add_distrib,
    sum_blocks 2 1408 2816 rfl (fun k => at2 (X0 m c) (i 0).val k * at2 (X1 m c) (i 1).val k),
    sum_blocks 2 1408 2816 rfl (fun k => at2 (X2 m c) (i 0).val k * at2 (X3 m c) (i 1).val k)]

/-- The reference's term of the four arguments. -/
def ref (x0 : Vec Ideal S16640x2816 .bf16) (x1 : Vec Ideal S1024x2816 .bf16) (x2 : Vec Ideal S16640x2816 .bf16)
    (x3 : Vec Ideal S1024x2816 .bf16) : FVec Ideal S16640x1024 .f32 :=
  addf (Host.dotGeneral Cert.Reference3Ideal.dot_S16640x2816_S1024x2816_S16640x1024_1_1_0_0_n_n none
      (extf .f32 x2 Cert.Reference3Ideal.Gen.bitsLt_bf16_f32) (extf .f32 x3 Cert.Reference3Ideal.Gen.bitsLt_bf16_f32))
    (Host.dotGeneral Cert.Reference3Ideal.dot_S16640x2816_S1024x2816_S16640x1024_1_1_0_0_n_n none
      (extf .f32 x0 Cert.Reference3Ideal.Gen.bitsLt_bf16_f32) (extf .f32 x1 Cert.Reference3Ideal.Gen.bitsLt_bf16_f32))

/-- It is, at each index, the same two sums, the other way round. -/
theorem ref_apply (x0 : Vec Ideal S16640x2816 .bf16) (x1 : Vec Ideal S1024x2816 .bf16) (x2 : Vec Ideal S16640x2816 .bf16)
    (x3 : Vec Ideal S1024x2816 .bf16) (i : S16640x1024.Idx) :
    ref x0 x1 x2 x3 i
      = (∑ k : Fin 2816, at2 x0 (i 0).val k.val * at2 x1 (i 1).val k.val) + ∑ k : Fin 2816, at2 x2 (i 0).val k.val * at2 x3 (i 1).val k.val := by
  unfold ref
  pointwise
  rw [add_comm]
  refine congrArg₂ (· + ·) ?_ ?_ <;> refine Finset.sum_congr rfl fun k _ => congrArg₂ (· * ·) ?_ ?_ <;>
    exact at2_idx _ _ _ _ rfl rfl

/-- The call's result is the reference's term of the same arguments. -/
theorem value (c : Dev nD) : Value.G4 m c = ref (X0 m c) (X1 m c) (X2 m c) (X3 m c) :=
  funext fun i => (result_apply m c i).trans (ref_apply _ _ _ _ i).symm

end Cert.GateUpDx

end
-- ==== Proof.GateDw.lean ====
/-
  The gradient of a weight of the feed-forward's first two products, `norm(h)ᵀ · dgate`: the call normalises 1280 rows at
  a time, adds their product to an accumulator over 13 blocks of rows, and narrows at the end; the reference normalises
  all 16640 rows and contracts in one go. Over the extended reals the two are the same sum.
-/
module

public import proofs.«01_k».proof.Proof.Blocks
public import proofs.«01_k».proof.Proof.Gen.Kernel4Ideal.Value
public import proofs.«01_k».proof.Proof.Gen.Reference4Ideal.Run

@[expose] public section

set_option maxRecDepth 16384

noncomputable section

namespace Cert.GateDw

open Cert.Kernel4Ideal Cert.Kernel4Ideal.Gen Cert.Blocks
open Idealize.ShloMosaic Idealize.ShloMosaic.TcCoe Idealize.SL.Sem

variable (m : (ℓ : Loc nD τ sig) → Buf (Elt Ideal) ℓ)

/-! ## What the body leaves at one grid point -/

section Body
variable (c : Dev nD) (i : grid0.Coords)
  (a3 : Memref sig .tc .vmem S1280x1024 .f32) (h3 : a3.IsWhole) (a4 : Memref sig .tc .vmem S1x1024 .f32) (h4 : a4.IsWhole)
  (a5 : Memref sig .tc .vmem S1280x1408 .bf16) (h5 : a5.IsWhole) (a6 : Memref sig .tc .vmem S1024x1408 .bf16) (h6 : a6.IsWhole)
  (a7 : Memref sig .tc .vmem S1024x1408 .f32) (h7 : a7.IsWhole)
  (x0 : Vec Ideal S1280x1024 .f32) (x1 : Vec Ideal S1x1024 .f32) (x2 : Vec Ideal S1280x1408 .bf16) (xs : Vec Ideal S1024x1408 .f32)

/-- The first point of a run leaves in the accumulator the update of the zero block. -/
theorem acc_first (hc0 : cond0_0 i) (hc1 : ¬cond0_1 i) :
    sout0_A_0 c i a3 h3 a4 h4 a5 h5 a6 h6 a7 h7 hc0 hc1 x0 x1 x2 = k0_pay2 x0 x1 x2 (k0_pay1 (F := Ideal)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1408) hz, View.readCov_unit_zero (S := S1024x1408) _ hz]
  simp only [View.readAt_eq_ld, h3.read_unread, h4.read_unread, h5.read_unread,
    View.ld_unit_zero (S := S1280x1024) hz, View.ld_unit_zero (S := S1x1024) hz, View.ld_unit_zero (S := S1280x1408) hz]

/-- A middle point leaves in it the update of what it held. -/
theorem acc_mid (hc0 : ¬cond0_0 i) (hc1 : ¬cond0_1 i) :
    sout0_B_0 c i a3 h3 a4 h4 a5 h5 a6 h6 a7 h7 hc0 hc1 x0 x1 x2 xs = k0_pay2 x0 x1 x2 xs := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_unit_zero (S := S1024x1408) hz]
  simp only [View.readAt_eq_ld, h3.read_unread, h4.read_unread, h5.read_unread, h7.read_unread,
    View.ld_unit_zero (S := S1280x1024) hz, View.ld_unit_zero (S := S1x1024) hz, View.ld_unit_zero (S := S1280x1408) hz, View.ld_unit_zero (S := S1024x1408) hz]

/-- So does the last point of a run, -/
theorem acc_last (hc0 : ¬cond0_0 i) (hc1 : cond0_1 i) :
    sout0_C_0 c i a3 h3 a4 h4 a5 h5 a6 h6 a7 h7 hc0 hc1 x0 x1 x2 xs = k0_pay2 x0 x1 x2 xs := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero (S := S1024x1408) hz]
  simp only [View.readAt_eq_ld, h3.read_unread, h4.read_unread, h5.read_unread, h7.read_unread,
    View.ld_unit_zero (S := S1280x1024) hz, View.ld_unit_zero (S := S1x1024) hz, View.ld_unit_zero (S := S1280x1408) hz, View.ld_unit_zero (S := S1024x1408) hz]

/-- which writes the narrowed sum to the output's block. -/
theorem out_last (hc0 : ¬cond0_0 i) (hc1 : cond0_1 i) :
    out0_C_3 c i a3 h3 a4 h4 a5 h5 a6 h6 a7 h7 hc0 hc1 x0 x1 x2 xs = k0_pay3 (k0_pay2 x0 x1 x2 xs) := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero (S := S1024x1408) hz, View.readCov_unit_zero (S := S1024x1408) _ hz]
  simp only [View.readAt_eq_ld, h3.read_unread, h4.read_unread, h5.read_unread, h7.read_unread,
    View.ld_unit_zero (S := S1280x1024) hz, View.ld_unit_zero (S := S1x1024) hz, View.ld_unit_zero (S := S1280x1408) hz, View.ld_unit_zero (S := S1024x1408) hz]

end Body

/-- The update of the accumulator at an index. -/
theorem update_apply (x0 : Vec Ideal S1280x1024 .f32) (x1 : Vec Ideal S1x1024 .f32) (x2 : Vec Ideal S1280x1408 .bf16) (xs : Vec Ideal S1024x1408 .f32) (r : Fin 1024) (l : Fin 1408) :
    k0_pay2 x0 x1 x2 xs (ix2 r l)
      = xs (ix2 r l) + ∑ k : Fin 1280, x0 (ix2 k r) * Ideal.rsqrt (Ideal.div (∑ e : Fin 1024, x0 (ix2 k e) * x0 (ix2 k e)) (Ideal.ofBits .f32 0x44800000#32)
          + Ideal.ofBits .f32 0x358637BD#32) * x1 (ix2 0 r) * x2 (ix2 k l) := by
  pointwise [k0_pay2]

theorem zero_apply (y : S1024x1408.Idx) : (k0_pay1 (F := Ideal)) y = 0 := by
  pointwise [k0_pay1]

theorem narrow_apply (x : Vec Ideal S1024x1408 .f32) (y : S1024x1408.Idx) : k0_pay3 x y = x y := by
  pointwise [k0_pay3]

/-! ## The blocks the windows stage -/

/-- The windows' block indices at a grid point. -/
theorem idx_facts : ∀ t : Fin cfg0.N, (win0_0.index t 0 = t.val % 13 ∧ win0_0.index t 1 = 0)
    ∧ (win0_1.index t 0 = 0 ∧ win0_1.index t 1 = 0) ∧ (win0_2.index t 0 = t.val % 13 ∧ win0_2.index t 1 = t.val / 13) :=
  (by decide +kernel : ∀ t : Fin grid0.N, _)

/-- The arguments as arrays of extended reals. -/
abbrev X0 (c : Dev nD) : S16640x1024.Idx → EReal := m ((c : Thread nD τ).loc main_arg0)
abbrev X1 (c : Dev nD) : S1x1024.Idx → EReal := m ((c : Thread nD τ).loc main_arg1)
abbrev X2 (c : Dev nD) : S16640x2816.Idx → EReal := m ((c : Thread nD τ).loc main_arg2)

theorem blk0 (c : Dev nD) (t : Fin cfg0.N) (r : Fin 1280) (k : Fin 1024) :
    (iblk m c 0 t : Vec Ideal S1280x1024 .f32) (ix2 r k) = at2 (X0 m c) (t.val % 13 * 1280 + r.val) (k.val) := by
  unfold iblk
  rw [View.read_apply]
  refine at2_idx (X0 m c) _ _ _ ?_ ?_
  · show win0_0.index t 0 * 1280 + 1 * r.val = _; rw [(idx_facts t).1.1, one_mul]
  · show win0_0.index t 1 * 1024 + 1 * k.val = _; rw [(idx_facts t).1.2, zero_mul, zero_add, one_mul]

theorem blk1 (c : Dev nD) (t : Fin cfg0.N) (r : Fin 1) (k : Fin 1024) :
    (iblk m c 1 t : Vec Ideal S1x1024 .f32) (ix2 r k) = at2 (X1 m c) (r.val) (k.val) := by
  unfold iblk
  rw [View.read_apply]
  refine at2_idx (X1 m c) _ _ _ ?_ ?_
  · show win0_1.index t 0 * 1 + 1 * r.val = _; rw [(idx_facts t).2.1.1, zero_mul, zero_add, one_mul]
  · show win0_1.index t 1 * 1024 + 1 * k.val = _; rw [(idx_facts t).2.1.2, zero_mul, zero_add, one_mul]

theorem blk2 (c : Dev nD) (t : Fin cfg0.N) (r : Fin 1280) (k : Fin 1408) :
    (iblk m c 2 t : Vec Ideal S1280x1408 .bf16) (ix2 r k) = at2 (X2 m c) (t.val % 13 * 1280 + r.val) (t.val / 13 * 1408 + k.val) := by
  unfold iblk
  rw [View.read_apply]
  refine at2_idx (X2 m c) _ _ _ ?_ ?_
  · show win0_2.index t 0 * 1280 + 1 * r.val = _; rw [(idx_facts t).2.2.1, one_mul]
  · show win0_2.index t 1 * 1408 + 1 * k.val = _; rw [(idx_facts t).2.2.2, one_mul]

/-! ## The accumulator and the result -/

/-- What grid point `n` adds to the accumulator at a place of the block. -/
def addend (c : Dev nD) (n : ℕ) (y : S1024x1408.Idx) : EReal :=
  ∑ k : Fin 1280, normed (X0 m c) (X1 m c) (n % 13 * 1280 + k.val) (y 0).val * at2 (X2 m c) (n % 13 * 1280 + k.val) (n / 13 * 1408 + (y 1).val)

/-- The update at a grid point adds the point's addend. -/
theorem update_at (c : Dev nD) (t : Fin cfg0.N) (xs : Vec Ideal S1024x1408 .f32) (y : S1024x1408.Idx) :
    k0_pay2 (iblk m c 0 t) (iblk m c 1 t) (iblk m c 2 t) xs y = xs y + addend m c t.val y := by
  rw [eq_ix2 y]
  refine (update_apply _ _ _ xs (y 0) (y 1)).trans (congrArg (xs (ix2 (y 0) (y 1)) + ·) ?_)
  exact Finset.sum_congr rfl fun k _ => congrArg₂ (· * ·)
    (normed_of (X0 m c) (X1 m c) _ _ (blk0 m c t k (y 0)) (fun e => blk0 m c t k e) (blk1 m c t 0 (y 0))) (blk2 m c t k (y 1))

/-- What the accumulator holds after a point of run `q`: the sum of the run's addends so far. -/
theorem acc_at (c : Dev nD) (q j : ℕ) (hj : j < 13) (h : 13 * q + j < cfg0.N) (y : S1024x1408.Idx) :
    (outsAt0 m c (13 * q + j) h).2 y = ∑ s ∈ Finset.range (j + 1), addend m c (13 * q + s) y := by
  refine run_sum (b := 13) (fun n h => (outsAt0 m c n h).2) (addend m c) ?_ ?_ q j hj h y
  · intro n h y hn
    rw [outsAt0_A m c ⟨n, h⟩ hn (by dsimp only; omega)]
    dsimp only
    rw [acc_first]
    refine (update_at m c ⟨n, h⟩ _ y).trans ?_
    rw [zero_apply, zero_add]
  · intro n h y hn
    by_cases hl : (n + 1) % 13 = 12
    · rw [outsAt0_C m c ⟨n + 1, h⟩ hn hl]
      dsimp only
      rw [acc_last]
      exact update_at m c ⟨n + 1, h⟩ _ y
    · rw [outsAt0_B m c ⟨n + 1, h⟩ hn hl]
      dsimp only
      rw [acc_mid]
      exact update_at m c ⟨n + 1, h⟩ _ y

/-- What the call leaves in its result: the product of the normalised rows with the gradient, over all 16640 rows. -/
theorem result_apply (c : Dev nD) (i : S1024x2816.Idx) :
    Value.G3 m c i = ∑ k : Fin 16640, normed (X0 m c) (X1 m c) k.val (i 0).val * at2 (X2 m c) k.val (i 1).val := by
  have hi0 : (i 0).val < 1024 := (i 0).isLt
  have hi1 : (i 1).val < 2816 := (i 1).isLt
  have hN : cfg0.N = 26 := N_0
  have hq : Value.run3Of i = (i 1).val / 1408 := by
    show 2 * ((i 0).val / 1024 - 0) + 1 * ((i 1).val / 1408 - 0) = _
    omega
  have hpt : Value.pt3Of i = 13 * Value.run3Of i + 12 := rfl
  have hp : Value.pt3Of i < cfg0.N := by omega
  unfold Value.G3
  rw [dif_pos hp, ← Value.outsAt0_sweep m c _ hp]
  have e : (outsAt0 m c (Value.pt3Of i) hp).1 = k0_pay3 (outsAt0 m c (Value.pt3Of i) hp).2 := by
    rw [outsAt0_C m c ⟨Value.pt3Of i, hp⟩ (by dsimp only; omega) (by dsimp only; omega)]
    dsimp only
    rw [out_last, acc_last]
  rw [e, narrow_apply]
  refine (acc_at m c (Value.run3Of i) 12 (by omega) hp (Value.loc3Of i)).trans ?_
  rw [Finset.sum_congr rfl (fun s hs => show addend m c (13 * Value.run3Of i + s) (Value.loc3Of i)
      = ∑ k : Fin 1280, normed (X0 m c) (X1 m c) (s * 1280 + k.val) (i 0).val * at2 (X2 m c) (s * 1280 + k.val) (i 1).val from by
    have hs' : s < 13 := Finset.mem_range.mp hs
    have e0 : (13 * Value.run3Of i + s) % 13 = s := by omega
    have e1 : (i 0).val % 1024 = (i 0).val := Nat.mod_eq_of_lt hi0
    have e2 : (13 * Value.run3Of i + s) / 13 * 1408 + (i 1).val % 1408 = (i 1).val := by omega
    show (∑ k : Fin 1280, normed (X0 m c) (X1 m c) ((13 * Value.run3Of i + s) % 13 * 1280 + k.val) ((i 0).val % 1024)
        * at2 (X2 m c) ((13 * Value.run3Of i + s) % 13 * 1280 + k.val) ((13 * Value.run3Of i + s) / 13 * 1408 + (i 1).val % 1408)) = _
    rw [e0, e1, e2]),
    sum_blocks 13 1280 16640 rfl (fun k => normed (X0 m c) (X1 m c) k (i 0).val * at2 (X2 m c) k (i 1).val)]

/-! ## The reference -/

/-- The reference's term of the three arguments. -/
def ref (x0 : Vec Ideal S16640x1024 .f32) (x1 : Vec Ideal S1x1024 .f32) (x2 : Vec Ideal S16640x2816 .bf16) : FVec Ideal S1024x2816 .bf16 :=
  truncf .bf16 (transpose S1024x2816 [1, 0]
    (Host.dotGeneral Cert.Reference4Ideal.dot_S16640x2816_S16640x1024_S2816x1024_0_0_1_1_n_n none (extf .f32 x2 Cert.Reference4Ideal.Gen.bitsLt_bf16_f32)
      (mulf (mulf x0 (broadcastInDim S16640x1024 ![0, 1] Cert.Reference4Ideal.Gen.bcast_S16640x1_S16640x1024_0_1
          (Host.rsqrt (addf (Host.divf (broadcastInDim Cert.Reference4Ideal.S16640x1 ![0] Cert.Reference4Ideal.Gen.bcast_S16640_S16640x1_0
              (Host.reduceAdd (mulf x0 x0) (constant Cert.Reference4Ideal.S_ .f32 0x00000000#32) Cert.Reference4Ideal.Gen.reducesTo_S16640x1024_S16640_d1 Cert.Reference4Ideal.Gen.h_S_))
            (broadcastInDim Cert.Reference4Ideal.S16640x1 ![] Cert.Reference4Ideal.Gen.bcast_S_S16640x1 (constant Cert.Reference4Ideal.S_ .f32 0x44800000#32)))
            (broadcastInDim Cert.Reference4Ideal.S16640x1 ![] Cert.Reference4Ideal.Gen.bcast_S_S16640x1 (constant Cert.Reference4Ideal.S_ .f32 0x358637BD#32))))))
        (broadcastInDim S16640x1024 ![0, 1] Cert.Reference4Ideal.Gen.bcast_S1x1024_S16640x1024_0_1 x1)))
    Cert.Reference4Ideal.Gen.transposes_S2816x1024_S1024x2816_1_0) Cert.Reference4Ideal.Gen.bitsLt_bf16_f32

/-- It is, at each index, the same sum with the factors in the other order. -/
theorem ref_apply (x0 : Vec Ideal S16640x1024 .f32) (x1 : Vec Ideal S1x1024 .f32) (x2 : Vec Ideal S16640x2816 .bf16) (i : S1024x2816.Idx) :
    ref x0 x1 x2 i = ∑ k : Fin 16640, normed x0 x1 k.val (i 0).val * at2 x2 k.val (i 1).val := by
  unfold ref
  pointwise
  refine Finset.sum_congr rfl fun k _ => ?_
  rw [mul_comm]
  exact congrArg₂ (· * ·) (normed_of x0 x1 _ _ (at2_idx _ _ _ _ rfl rfl) (fun e => at2_idx _ _ _ _ rfl rfl) (at2_idx _ _ _ _ rfl rfl)) (at2_idx _ _ _ _ rfl rfl)

/-- The call's result is the reference's term of the same arguments. -/
theorem value (c : Dev nD) : Value.G3 m c = ref (X0 m c) (X1 m c) (X2 m c) :=
  funext fun i => (result_apply m c i).trans (ref_apply _ _ _ i).symm

end Cert.GateDw

end
-- ==== Proof.OutDx.lean ====
/-
  The gradient of the output projection's input, `dh · wᵀ`: the call multiplies 13 blocks of 1280 rows, one per grid
  point, each contracted whole; the reference multiplies all rows at once. Over the extended reals each element is the
  same sum.
-/
module

public import proofs.«01_k».proof.Proof.Blocks
public import proofs.«01_k».proof.Proof.Gen.Kernel5Ideal.Value
public import proofs.«01_k».proof.Proof.Gen.Reference5Ideal.Run

@[expose] public section

set_option maxRecDepth 16384

noncomputable section

namespace Cert.OutDx

open Cert.Kernel5Ideal Cert.Kernel5Ideal.Gen Cert.Blocks
open Idealize.ShloMosaic Idealize.ShloMosaic.TcCoe Idealize.SL.Sem

variable (m : (ℓ : Loc nD τ sig) → Buf (Elt Ideal) ℓ) (ρ : Dev nD → PrngReg)

/-- What the body leaves in its block: its payload of the two input blocks. -/
theorem out_eq (x0 : Vec Ideal S1280x1024 .f32) (x1 : Vec Ideal S1024x1024 .bf16) : out0_2 x0 x1 = k0_pay1 x0 x1 := by
  unfold out0_2
  rw [View.canon_unit_zero (S := S1280x1024) hz, View.ld_unit_zero (S := S1280x1024) hz, View.ld_unit_zero (S := S1024x1024) hz]

/-- The payload at an index: the block product. -/
theorem product_apply (x0 : Vec Ideal S1280x1024 .f32) (x1 : Vec Ideal S1024x1024 .bf16) (r : Fin 1280) (l : Fin 1024) :
    k0_pay1 x0 x1 (ix2 r l) = ∑ k : Fin 1024, x0 (ix2 r k) * x1 (ix2 l k) := by
  pointwise [k0_pay1]

/-- The windows' block indices at a grid point: block `t` of the rows, the weight whole. -/
theorem idx_facts : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0) :=
  (by decide +kernel : ∀ t : Fin grid0.N, _)

/-- The arguments as arrays of extended reals. -/
abbrev X0 (c : Dev nD) : S16640x1024.Idx → EReal := m ((c : Thread nD τ).loc main_arg0)
abbrev X1 (c : Dev nD) : S1024x1024.Idx → EReal := m ((c : Thread nD τ).loc main_arg1)

theorem blk0 (c : Dev nD) (t : Fin cfg0.N) (r : Fin 1280) (k : Fin 1024) :
    (iblk m c 0 t : Vec Ideal S1280x1024 .f32) (ix2 r k) = at2 (X0 m c) (t.val * 1280 + r.val) k.val := by
  unfold iblk
  rw [View.read_apply]
  refine at2_idx (X0 m c) _ _ _ ?_ ?_
  · show win0_0.index t 0 * 1280 + 1 * r.val = _; rw [(idx_facts t).1.1, one_mul]
  · show win0_0.index t 1 * 1024 + 1 * k.val = _; rw [(idx_facts t).1.2, zero_mul, zero_add, one_mul]

theorem blk1 (c : Dev nD) (t : Fin cfg0.N) (l : Fin 1024) (k : Fin 1024) :
    (iblk m c 1 t : Vec Ideal S1024x1024 .bf16) (ix2 l k) = at2 (X1 m c) l.val k.val := by
  unfold iblk
  rw [View.read_apply]
  refine at2_idx (X1 m c) _ _ _ ?_ ?_
  · show win0_1.index t 0 * 1024 + 1 * l.val = _; rw [(idx_facts t).2.1.1, zero_mul, zero_add, one_mul]
  · show win0_1.index t 1 * 1024 + 1 * k.val = _; rw [(idx_facts t).2.1.2, zero_mul, zero_add, one_mul]

/-! ## The reference -/

/-- The reference's term of the two arguments. -/
def ref (x0 : Vec Ideal S16640x1024 .f32) (x1 : Vec Ideal S1024x1024 .bf16) : FVec Ideal S16640x1024 .f32 :=
  Host.dotGeneral (φ₁ := .f32) (φ₂ := .f32) Cert.Reference5Ideal.dot_S16640x1024_S1024x1024_S16640x1024_1_1_0_0_n_n none x0
    (extf .f32 x1 Cert.Reference5Ideal.Gen.bitsLt_bf16_f32)

/-- It is, at each index, the row of the first with the row of the second. -/
theorem ref_apply (x0 : Vec Ideal S16640x1024 .f32) (x1 : Vec Ideal S1024x1024 .bf16) (i : S16640x1024.Idx) :
    ref x0 x1 i = ∑ k : Fin 1024, at2 x0 (i 0).val k.val * at2 x1 (i 1).val k.val := by
  unfold ref
  pointwise
  exact Finset.sum_congr rfl fun k _ => congrArg₂ (· * ·) (at2_idx _ _ _ _ rfl rfl) (at2_idx _ _ _ _ rfl rfl)

/-! ## The result -/

/-- What a grid point writes back is its block of the reference's term. -/
theorem flushed_eq (c : Dev nD) (t : Fin cfg0.N) :
    (dats m 0 c).flushed 2 t = ((cfg0.win 2).blk t).view.read (Elt Ideal) (ref (X0 m c) (X1 m c)) := by
  rw [Value.flushed2, out_eq]
  funext y
  show k0_pay1 (iblk m c 0 t) (iblk m c 1 t) y = ref (X0 m c) (X1 m c) (((cfg0.win 2).blk t).view.emb y)
  rw [ref_apply, show (((cfg0.win 2).blk t).view.emb y 0).val = t.val * 1280 + (y 0).val from by
      show win0_2.index t 0 * 1280 + 1 * (y 0).val = _; rw [(idx_facts t).2.2.1, one_mul],
    show (((cfg0.win 2).blk t).view.emb y 1).val = (y 1).val from by
      show win0_2.index t 1 * 1024 + 1 * (y 1).val = _; rw [(idx_facts t).2.2.2, zero_mul, zero_add, one_mul]]
  refine (congrArg (k0_pay1 (iblk m c 0 t) (iblk m c 1 t)) (eq_ix2 y)).trans ((product_apply _ _ (y 0) (y 1)).trans ?_)
  exact Finset.sum_congr rfl fun k _ => congrArg₂ (· * ·) (blk0 m c t (y 0) k) (blk1 m c t (y 1) k)

/-- An index is in a point's block when each of its coordinates is in the block's range. -/
theorem mem_blk (t : Fin cfg0.N) (i : S16640x1024.Idx) :
    i ∈ ((cfg0.win 2).blk t).view.set ↔
      ∀ a : Fin 2, win0_2.index t a * S1280x1024.size a ≤ (i a).val ∧ (i a).val < win0_2.index t a * S1280x1024.size a + S1280x1024.size a := by
  show i ∈ ((View.whole main_v0).slice (win0_2.rect t)).set ↔ _
  rw [View.set_slice_whole, Rect.mem_set_unit]
  exact Iff.rfl

/-- Every index of the result is in the block of the point that has its row. -/
theorem covered (i : S16640x1024.Idx) :
    ∃ t : Fin cfg0.N, (cfg0.win 2).flush t = true ∧ i ∈ ((cfg0.win 2).blk t).view.set := by
  have hi0 : (i 0).val < 16640 := (i 0).isLt
  have hi1 : (i 1).val < 1024 := (i 1).isLt
  have hN : cfg0.N = 13 := N_0
  refine ⟨⟨(i 0).val / 1280, by omega⟩, flush0_2 _, ?_⟩
  rw [mem_blk]
  intro a
  match a with
  | ⟨0, _⟩ =>
    show win0_2.index _ 0 * 1280 ≤ (i 0).val ∧ (i 0).val < win0_2.index _ 0 * 1280 + 1280
    rw [(idx_facts _).2.2.1]; dsimp only; omega
  | ⟨1, _⟩ =>
    show win0_2.index _ 1 * 1024 ≤ (i 1).val ∧ (i 1).val < win0_2.index _ 1 * 1024 + 1024
    rw [(idx_facts _).2.2.2]; omega

/-- The result after the run is the reference's term of the arguments. -/
theorem final (c : Dev nD) : (dats m 0 c).arrAt 2 cfg0.N = ref (X0 m c) (X1 m c) :=
  (dats m 0 c).arrAt_eq_of_cover 2 _ (fun t _ => flushed_eq m c t) covered

end Cert.OutDx

end
-- ==== Proof.OutDw.lean ====
/-
  The gradient of the output projection's weight, `yᵀ · dh`: the call adds the products of 13 blocks of 1280 rows in an
  accumulator and narrows at the end; the reference contracts all 16640 rows in one go. Over the extended reals the two
  are the same sum.
-/
module

public import proofs.«01_k».proof.Proof.Blocks
public import proofs.«01_k».proof.Proof.Gen.Kernel6Ideal.Value
public import proofs.«01_k».proof.Proof.Gen.Reference6Ideal.Run

@[expose] public section

set_option maxRecDepth 16384

noncomputable section

namespace Cert.OutDw

open Cert.Kernel6Ideal Cert.Kernel6Ideal.Gen Cert.Blocks
open Idealize.ShloMosaic Idealize.ShloMosaic.TcCoe Idealize.SL.Sem

variable (m : (ℓ : Loc nD τ sig) → Buf (Elt Ideal) ℓ)

/-! ## What the body leaves at one grid point -/

section Body
variable (c : Dev nD) (i : grid0.Coords)
  (a3 : Memref sig .tc .vmem S1280x1024 .bf16) (h3 : a3.IsWhole) (a4 : Memref sig .tc .vmem S1280x1024 .f32) (h4 : a4.IsWhole)
  (a5 : Memref sig .tc .vmem S1024x1024 .bf16) (h5 : a5.IsWhole) (a6 : Memref sig .tc .vmem S1024x1024 .f32) (h6 : a6.IsWhole)
  (x0 : Vec Ideal S1280x1024 .bf16) (x1 : Vec Ideal S1280x1024 .f32) (xs : Vec Ideal S1024x1024 .f32)

/-- The first point of a run leaves in the accumulator the update of the zero block. -/
theorem acc_first (hc0 : cond0_0 i) (hc1 : ¬cond0_1 i) :
    sout0_A_0 c i a3 h3 a4 h4 a5 h5 a6 h6 hc0 hc1 x0 x1 = k0_pay2 x0 x1 (k0_pay1 (F := Ideal)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread,
    View.ld_unit_zero (S := S1280x1024) hz]

/-- A middle point leaves in it the update of what it held. -/
theorem acc_mid (hc0 : ¬cond0_0 i) (hc1 : ¬cond0_1 i) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero (S := S1024x1024) hz]
  simp only [View.readAt_eq_ld, h3.read_unread, h4.read_unread, h6.read_unread,
    View.ld_unit_zero (S := S1280x1024) hz, View.ld_unit_zero (S := S1024x1024) hz]

/-- So does the last point of a run, -/
theorem acc_last (hc0 : ¬cond0_0 i) (hc1 : cond0_1 i) :
    sout0_C_0 c i a3 h3 a4 h4 a5 h5 a6 h6 hc0 hc1 x0 x1 xs = k0_pay2 x0 x1 xs := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero (S := S1024x1024) hz]
  simp only [View.readAt_eq_ld, h3.read_unread, h4.read_unread, h6.read_unread,
    View.ld_unit_zero (S := S1280x1024) hz, View.ld_unit_zero (S := S1024x1024) hz]

/-- which writes the narrowed sum to the output's block. -/
theorem out_last (hc0 : ¬cond0_0 i) (hc1 : cond0_1 i) :
    out0_C_2 c i a3 h3 a4 h4 a5 h5 a6 h6 hc0 hc1 x0 x1 xs = k0_pay3 (k0_pay2 x0 x1 xs) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S1024x1024) hz, View.readCov_unit_zero (S := S1024x1024) _ hz]
  simp only [View.readAt_eq_ld, h3.read_unread, h4.read_unread, h6.read_unread,
    View.ld_unit_zero (S := S1280x1024) hz, View.ld_unit_zero (S := S1024x1024) hz]

end Body

/-- The update of the accumulator at an index. -/
theorem update_apply (x0 : Vec Ideal S1280x1024 .bf16) (x1 : Vec Ideal S1280x1024 .f32) (xs : Vec Ideal S1024x1024 .f32) (r : Fin 1024) (l : Fin 1024) :
    k0_pay2 x0 x1 xs (ix2 r l)
      = xs (ix2 r l) + ∑ k : Fin 1280, x0 (ix2 k r) * x1 (ix2 k l) := by
  pointwise [k0_pay2]

theorem zero_apply (y : S1024x1024.Idx) : (k0_pay1 (F := Ideal)) y = 0 := by
  pointwise [k0_pay1]

theorem narrow_apply (x : Vec Ideal S1024x1024 .f32) (y : S1024x1024.Idx) : k0_pay3 x y = x y := by
  pointwise [k0_pay3]

/-! ## The blocks the windows stage -/

/-- The windows' block indices at a grid point. -/
theorem idx_facts : ∀ t : Fin cfg0.N, (win0_0.index t 0 = t.val % 13 ∧ win0_0.index t 1 = 0)
    ∧ (win0_1.index t 0 = t.val % 13 ∧ win0_1.index t 1 = 0) :=
  (by decide +kernel : ∀ t : Fin grid0.N, _)

/-- The arguments as arrays of extended reals. -/
abbrev X0 (c : Dev nD) : S16640x1024.Idx → EReal := m ((c : Thread nD τ).loc main_arg0)
abbrev X1 (c : Dev nD) : S16640x1024.Idx → EReal := m ((c : Thread nD τ).loc main_arg1)

theorem blk0 (c : Dev nD) (t : Fin cfg0.N) (r : Fin 1280) (k : Fin 1024) :
    (iblk m c 0 t : Vec Ideal S1280x1024 .bf16) (ix2 r k) = at2 (X0 m c) (t.val % 13 * 1280 + r.val) (k.val) := by
  unfold iblk
  rw [View.read_apply]
  refine at2_idx (X0 m c) _ _ _ ?_ ?_
  · show win0_0.index t 0 * 1280 + 1 * r.val = _; rw [(idx_facts t).1.1, one_mul]
  · show win0_0.index t 1 * 1024 + 1 * k.val = _; rw [(idx_facts t).1.2, zero_mul, zero_add, one_mul]

theorem blk1 (c : Dev nD) (t : Fin cfg0.N) (r : Fin 1280) (k : Fin 1024) :
    (iblk m c 1 t : Vec Ideal S1280x1024 .f32) (ix2 r k) = at2 (X1 m c) (t.val % 13 * 1280 + r.val) (k.val) := by
  unfold iblk
  rw [View.read_apply]
  refine at2_idx (X1 m c) _ _ _ ?_ ?_
  · show win0_1.index t 0 * 1280 + 1 * r.val = _; rw [(idx_facts t).2.1, one_mul]
  · show win0_1.index t 1 * 1024 + 1 * k.val = _; rw [(idx_facts t).2.2, zero_mul, zero_add, one_mul]

/-! ## The accumulator and the result -/

/-- What grid point `n` adds to the accumulator at a place of the block. -/
def addend (c : Dev nD) (n : ℕ) (y : S1024x1024.Idx) : EReal :=
  ∑ k : Fin 1280, at2 (X0 m c) (n % 13 * 1280 + k.val) (y 0).val * at2 (X1 m c) (n % 13 * 1280 + k.val) (y 1).val

/-- The update at a grid point adds the point's addend. -/
theorem update_at (c : Dev nD) (t : Fin cfg0.N) (xs : Vec Ideal S1024x1024 .f32) (y : S1024x1024.Idx) :
    k0_pay2 (iblk m c 0 t) (iblk m c 1 t) xs y = xs y + addend m c t.val y := by
  rw [eq_ix2 y]
  refine (update_apply _ _ xs (y 0) (y 1)).trans (congrArg (xs (ix2 (y 0) (y 1)) + ·) ?_)
  exact Finset.sum_congr rfl fun k _ => congrArg₂ (· * ·) (blk0 m c t k (y 0)) (blk1 m c t k (y 1))

/-- What the accumulator holds after a point of run `q`: the sum of the run's addends so far. -/
theorem acc_at (c : Dev nD) (q j : ℕ) (hj : j < 13) (h : 13 * q + j < cfg0.N) (y : S1024x1024.Idx) :
    (outsAt0 m c (13 * q + j) h).2 y = ∑ s ∈ Finset.range (j + 1), addend m c (13 * q + s) y := by
  refine run_sum (b := 13) (fun n h => (outsAt0 m c n h).2) (addend m c) ?_ ?_ q j hj h y
  · intro n h y hn
    rw [outsAt0_A m c ⟨n, h⟩ hn (by dsimp only; omega)]
    dsimp only
    rw [acc_first]
    refine (update_at m c ⟨n, h⟩ _ y).trans ?_
    rw [zero_apply, zero_add]
  · intro n h y hn
    by_cases hl : (n + 1) % 13 = 12
    · rw [outsAt0_C m c ⟨n + 1, h⟩ hn hl]
      dsimp only
      rw [acc_last]
      exact update_at m c ⟨n + 1, h⟩ _ y
    · rw [outsAt0_B m c ⟨n + 1, h⟩ hn hl]
      dsimp only
      rw [acc_mid]
      exact update_at m c ⟨n + 1, h⟩ _ y

/-- What the call leaves in its result: the product over all 16640 rows. -/
theorem result_apply (c : Dev nD) (i : S1024x1024.Idx) :
    Value.G2 m c i = ∑ k : Fin 16640, at2 (X0 m c) k.val (i 0).val * at2 (X1 m c) k.val (i 1).val := by
  have hi0 : (i 0).val < 1024 := (i 0).isLt
  have hi1 : (i 1).val < 1024 := (i 1).isLt
  have hN : cfg0.N = 13 := N_0
  have hq : Value.run2Of i = 0 := by
    show 1 * ((i 0).val / 1024 - 0) + 1 * ((i 1).val / 1024 - 0) = _
    omega
  have hpt : Value.pt2Of i = 13 * Value.run2Of i + 12 := rfl
  have hp : Value.pt2Of i < cfg0.N := by omega
  unfold Value.G2
  rw [dif_pos hp, ← Value.outsAt0_sweep m c _ hp]
  have e : (outsAt0 m c (Value.pt2Of i) hp).1 = k0_pay3 (outsAt0 m c (Value.pt2Of i) hp).2 := by
    rw [outsAt0_C m c ⟨Value.pt2Of i, hp⟩ (by dsimp only; omega) (by dsimp only; omega)]
    dsimp only
    rw [out_last, acc_last]
  rw [e, narrow_apply]
  refine (acc_at m c (Value.run2Of i) 12 (by omega) hp (Value.loc2Of i)).trans ?_
  rw [Finset.sum_congr rfl (fun s hs => show addend m c (13 * Value.run2Of i + s) (Value.loc2Of i)
      = ∑ k : Fin 1280, at2 (X0 m c) (s * 1280 + k.val) (i 0).val * at2 (X1 m c) (s * 1280 + k.val) (i 1).val from by
    have hs' : s < 13 := Finset.mem_range.mp hs
    have e0 : (13 * Value.run2Of i + s) % 13 = s := by omega
    have e1 : (i 0).val % 1024 = (i 0).val := Nat.mod_eq_of_lt hi0
    have e2 : (i 1).val % 1024 = (i 1).val := Nat.mod_eq_of_lt hi1
    show (∑ k : Fin 1280, at2 (X0 m c) ((13 * Value.run2Of i + s) % 13 * 1280 + k.val) ((i 0).val % 1024)
        * at2 (X1 m c) ((13 * Value.run2Of i + s) % 13 * 1280 + k.val) ((i 1).val % 1024)) = _
    rw [e0, e1, e2]),
    sum_blocks 13 1280 16640 rfl (fun k => at2 (X0 m c) k (i 0).val * at2 (X1 m c) k (i 1).val)]

/-! ## The reference -/

/-- The reference's term of the two arguments. -/
def ref (x0 : Vec Ideal S16640x1024 .bf16) (x1 : Vec Ideal S16640x1024 .f32) : FVec Ideal S1024x1024 .bf16 :=
  truncf .bf16 (transpose S1024x1024 [1, 0]
    (Host.dotGeneral (φ₁ := .f32) (φ₂ := .f32) Cert.Reference6Ideal.dot_S16640x1024_S16640x1024_S1024x1024_0_0_1_1_n_n none x1 (extf .f32 x0 Cert.Reference6Ideal.Gen.bitsLt_bf16_f32))
    Cert.Reference6Ideal.Gen.transposes_S1024x1024_S1024x1024_1_0) Cert.Reference6Ideal.Gen.bitsLt_bf16_f32

/-- It is, at each index, the same sum with the factors in the other order. -/
theorem ref_apply (x0 : Vec Ideal S16640x1024 .bf16) (x1 : Vec Ideal S16640x1024 .f32) (i : S1024x1024.Idx) :
    ref x0 x1 i = ∑ k : Fin 16640, at2 x0 k.val (i 0).val * at2 x1 k.val (i 1).val := by
  unfold ref
  pointwise
  refine Finset.sum_congr rfl fun k _ => ?_
  rw [mul_comm]
  exact congrArg₂ (· * ·) (at2_idx _ _ _ _ rfl rfl) (at2_idx _ _ _ _ rfl rfl)

/-- The call's result is the reference's term of the same arguments. -/
theorem value (c : Dev nD) : Value.G2 m c = ref (X0 m c) (X1 m c) :=
  funext fun i => (result_apply m c i).trans (ref_apply _ _ i).symm

end Cert.OutDw

end
-- ==== Proof.ProjDx.lean ====
/-
  The gradient of the projection's input, `dproj · wᵀ` plus the gradient arriving over the gate: the call adds the products
  of three blocks of 1024 columns in an accumulator and adds the other gradient at the end; the reference contracts all
  3072 columns in one go and adds. Over the extended reals the two are the same sum.
-/
module

public import proofs.«01_k».proof.Proof.Blocks
public import proofs.«01_k».proof.Proof.Gen.Kernel7Ideal.Value
public import proofs.«01_k».proof.Proof.Gen.Reference7Ideal.Run

@[expose] public section

set_option maxRecDepth 16384

noncomputable section

namespace Cert.ProjDx

open Cert.Kernel7Ideal Cert.Kernel7Ideal.Gen Cert.Blocks
open Idealize.ShloMosaic Idealize.ShloMosaic.TcCoe Idealize.SL.Sem

variable (m : (ℓ : Loc nD τ sig) → Buf (Elt Ideal) ℓ)

/-! ## What the body leaves at one grid point -/

section Body
variable (c : Dev nD) (i : grid0.Coords)
  (a3 : Memref sig .tc .vmem S1280x1024 .bf16) (h3 : a3.IsWhole) (a4 : Memref sig .tc .vmem S1024x1024 .bf16) (h4 : a4.IsWhole)
  (a5 : Memref sig .tc .vmem S1280x1024 .f32) (h5 : a5.IsWhole) (a6 : Memref sig .tc .vmem S1280x1024 .f32) (h6 : a6.IsWhole)
  (a7 : Memref sig .tc .vmem S1280x1024 .f32) (h7 : a7.IsWhole)
  (x0 : Vec Ideal S1280x1024 .bf16) (x1 : Vec Ideal S1024x1024 .bf16) (x2 : Vec Ideal S1280x1024 .f32) (xs : Vec Ideal S1280x1024 .f32)

/-- The first point of a run leaves in the accumulator the update of the zero block. -/
theorem acc_first (hc0 : cond0_0 i) (hc1 : ¬cond0_1 i) :
    sout0_A_0 c i a3 h3 a4 h4 a5 h5 a6 h6 a7 h7 hc0 hc1 x0 x1 x2 = k0_pay2 x0 x1 (k0_pay1 (F := Ideal)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1280x1024) hz, View.readCov_unit_zero (S := S1280x1024) _ hz]
  simp only [View.readAt_eq_ld, h3.read_unread, h4.read_unread, h5.read_unread,
    View.ld_unit_zero (S := S1280x1024) hz, View.ld_unit_zero (S := S1024x1024) hz]

/-- A middle point leaves in it the update of what it held. -/
theorem acc_mid (hc0 : ¬cond0_0 i) (hc1 : ¬cond0_1 i) :
    sout0_B_0 c i a3 h3 a4 h4 a5 h5 a6 h6 a7 h7 hc0 hc1 x0 x1 x2 xs = k0_pay2 x0 x1 xs := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_unit_zero (S := S1280x1024) hz]
  simp only [View.readAt_eq_ld, h3.read_unread, h4.read_unread, h5.read_unread, h7.read_unread,
    View.ld_unit_zero (S := S1280x1024) hz, View.ld_unit_zero (S := S1024x1024) hz, View.ld_unit_zero (S := S1280x1024) hz]

/-- So does the last point of a run, -/
theorem acc_last (hc0 : ¬cond0_0 i) (hc1 : cond0_1 i) :
    sout0_C_0 c i a3 h3 a4 h4 a5 h5 a6 h6 a7 h7 hc0 hc1 x0 x1 x2 xs = k0_pay2 x0 x1 xs := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero (S := S1280x1024) hz]
  simp only [View.readAt_eq_ld, h3.read_unread, h4.read_unread, h5.read_unread, h7.read_unread,
    View.ld_unit_zero (S := S1280x1024) hz, View.ld_unit_zero (S := S1024x1024) hz, View.ld_unit_zero (S := S1280x1024) hz]

/-- which writes the sum and the other gradient, added, to the output's block. -/
theorem out_last (hc0 : ¬cond0_0 i) (hc1 : cond0_1 i) :
    out0_C_3 c i a3 h3 a4 h4 a5 h5 a6 h6 a7 h7 hc0 hc1 x0 x1 x2 xs = k0_pay3 (k0_pay2 x0 x1 xs) x2 := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero (S := S1280x1024) hz, View.readCov_unit_zero (S := S1280x1024) _ hz]
  simp only [View.readAt_eq_ld, h3.read_unread, h4.read_unread, h5.read_unread, h7.read_unread,
    View.ld_unit_zero (S := S1280x1024) hz, View.ld_unit_zero (S := S1024x1024) hz, View.ld_unit_zero (S := S1280x1024) hz]

end Body

/-- The update of the accumulator at an index. -/
theorem update_apply (x0 : Vec Ideal S1280x1024 .bf16) (x1 : Vec Ideal S1024x1024 .bf16) (xs : Vec Ideal S1280x1024 .f32) (r : Fin 1280) (l : Fin 1024) :
    k0_pay2 x0 x1 xs (ix2 r l)
      = xs (ix2 r l) + ∑ k : Fin 1024, x0 (ix2 r k) * x1 (ix2 l k) := by
  pointwise [k0_pay2]

theorem zero_apply (y : S1280x1024.Idx) : (k0_pay1 (F := Ideal)) y = 0 := by
  pointwise [k0_pay1]

theorem final_apply (x x2 : Vec Ideal S1280x1024 .f32) (y : S1280x1024.Idx) : k0_pay3 x x2 y = x y + x2 y := by
  pointwise [k0_pay3]

/-! ## The blocks the windows stage -/

/-- The windows' block indices at a grid point. -/
theorem idx_facts : ∀ t : Fin cfg0.N, (win0_0.index t 0 = t.val / 3 ∧ win0_0.index t 1 = t.val % 3)
    ∧ (win0_1.index t 0 = 0 ∧ win0_1.index t 1 = t.val % 3) ∧ (win0_2.index t 0 = t.val / 3 ∧ win0_2.index t 1 = 0) :=
  (by decide +kernel : ∀ t : Fin grid0.N, _)

/-- The arguments as arrays of extended reals. -/
abbrev X0 (c : Dev nD) : S16640x3072.Idx → EReal := m ((c : Thread nD τ).loc main_arg0)
abbrev X1 (c : Dev nD) : S1024x3072.Idx → EReal := m ((c : Thread nD τ).loc main_arg1)
abbrev X2 (c : Dev nD) : S16640x1024.Idx → EReal := m ((c : Thread nD τ).loc main_arg2)

theorem blk0 (c : Dev nD) (t : Fin cfg0.N) (r : Fin 1280) (k : Fin 1024) :
    (iblk m c 0 t : Vec Ideal S1280x1024 .bf16) (ix2 r k) = at2 (X0 m c) (t.val / 3 * 1280 + r.val) (t.val % 3 * 1024 + k.val) := by
  unfold iblk
  rw [View.read_apply]
  refine at2_idx (X0 m c) _ _ _ ?_ ?_
  · show win0_0.index t 0 * 1280 + 1 * r.val = _; rw [(idx_facts t).1.1, one_mul]
  · show win0_0.index t 1 * 1024 + 1 * k.val = _; rw [(idx_facts t).1.2, one_mul]

theorem blk1 (c : Dev nD) (t : Fin cfg0.N) (r : Fin 1024) (k : Fin 1024) :
    (iblk m c 1 t : Vec Ideal S1024x1024 .bf16) (ix2 r k) = at2 (X1 m c) (r.val) (t.val % 3 * 1024 + k.val) := by
  unfold iblk
  rw [View.read_apply]
  refine at2_idx (X1 m c) _ _ _ ?_ ?_
  · show win0_1.index t 0 * 1024 + 1 * r.val = _; rw [(idx_facts t).2.1.1, zero_mul, zero_add, one_mul]
  · show win0_1.index t 1 * 1024 + 1 * k.val = _; rw [(idx_facts t).2.1.2, one_mul]

theorem blk2 (c : Dev nD) (t : Fin cfg0.N) (r : Fin 1280) (k : Fin 1024) :
    (iblk m c 2 t : Vec Ideal S1280x1024 .f32) (ix2 r k) = at2 (X2 m c) (t.val / 3 * 1280 + r.val) (k.val) := by
  unfold iblk
  rw [View.read_apply]
  refine at2_idx (X2 m c) _ _ _ ?_ ?_
  · show win0_2.index t 0 * 1280 + 1 * r.val = _; rw [(idx_facts t).2.2.1, one_mul]
  · show win0_2.index t 1 * 1024 + 1 * k.val = _; rw [(idx_facts t).2.2.2, zero_mul, zero_add, one_mul]

/-! ## The accumulator and the result -/

/-- What grid point `n` adds to the accumulator at a place of the block. -/
def addend (c : Dev nD) (n : ℕ) (y : S1280x1024.Idx) : EReal :=
  ∑ k : Fin 1024, at2 (X0 m c) (n / 3 * 1280 + (y 0).val) (n % 3 * 1024 + k.val) * at2 (X1 m c) (y 1).val (n % 3 * 1024 + k.val)

/-- The update at a grid point adds the point's addend. -/
theorem update_at (c : Dev nD) (t : Fin cfg0.N) (xs : Vec Ideal S1280x1024 .f32) (y : S1280x1024.Idx) :
    k0_pay2 (iblk m c 0 t) (iblk m c 1 t) xs y = xs y + addend m c t.val y := by
  rw [eq_ix2 y]
  refine (update_apply _ _ xs (y 0) (y 1)).trans (congrArg (xs (ix2 (y 0) (y 1)) + ·) ?_)
  exact Finset.sum_congr rfl fun k _ => congrArg₂ (· * ·) (blk0 m c t (y 0) k) (blk1 m c t (y 1) k)

/-- What the accumulator holds after a point of run `q`: the sum of the run's addends so far. -/
theorem acc_at (c : Dev nD) (q j : ℕ) (hj : j < 3) (h : 3 * q + j < cfg0.N) (y : S1280x1024.Idx) :
    (outsAt0 m c (3 * q + j) h).2 y = ∑ s ∈ Finset.range (j + 1), addend m c (3 * q + s) y := by
  refine run_sum (b := 3) (fun n h => (outsAt0 m c n h).2) (addend m c) ?_ ?_ q j hj h y
  · intro n h y hn
    rw [outsAt0_A m c ⟨n, h⟩ hn (by dsimp only; omega)]
    dsimp only
    rw [acc_first]
    refine (update_at m c ⟨n, h⟩ _ y).trans ?_
    rw [zero_apply, zero_add]
  · intro n h y hn
    by_cases hl : (n + 1) % 3 = 2
    · rw [outsAt0_C m c ⟨n + 1, h⟩ hn hl]
      dsimp only
      rw [acc_last]
      exact update_at m c ⟨n + 1, h⟩ _ y
    · rw [outsAt0_B m c ⟨n + 1, h⟩ hn hl]
      dsimp only
      rw [acc_mid]
      exact update_at m c ⟨n + 1, h⟩ _ y

/-- What the call leaves in its result: the product over all 3072 columns, and the other gradient added. -/
theorem result_apply (c : Dev nD) (i : S16640x1024.Idx) :
    Value.G3 m c i = (∑ k : Fin 3072, at2 (X0 m c) (i 0).val k.val * at2 (X1 m c) (i 1).val k.val) + at2 (X2 m c) (i 0).val (i 1).val := by
  have hi0 : (i 0).val < 16640 := (i 0).isLt
  have hi1 : (i 1).val < 1024 := (i 1).isLt
  have hN : cfg0.N = 39 := N_0
  have hq : Value.run3Of i = (i 0).val / 1280 := by
    show 1 * ((i 0).val / 1280 - 0) + 1 * ((i 1).val / 1024 - 0) = _
    omega
  have hpt : Value.pt3Of i = 3 * Value.run3Of i + 2 := rfl
  have hp : Value.pt3Of i < cfg0.N := by omega
  unfold Value.G3
  rw [dif_pos hp, ← Value.outsAt0_sweep m c _ hp]
  have e : (outsAt0 m c (Value.pt3Of i) hp).1 = k0_pay3 (outsAt0 m c (Value.pt3Of i) hp).2 (iblk m c 2 ⟨Value.pt3Of i, hp⟩) := by
    rw [outsAt0_C m c ⟨Value.pt3Of i, hp⟩ (by dsimp only; omega) (by dsimp only; omega)]
    dsimp only
    rw [out_last, acc_last]
  rw [e, final_apply]
  refine congrArg₂ (· + ·) ((acc_at m c (Value.run3Of i) 2 (by omega) hp (Value.loc3Of i)).trans ?_)
    (((congrArg (iblk m c 2 ⟨Value.pt3Of i, hp⟩ : Vec Ideal S1280x1024 .f32) (eq_ix2 (Value.loc3Of i))).trans
      (blk2 m c ⟨Value.pt3Of i, hp⟩ _ _)).trans (congrArg₂ (at2 (X2 m c)) ?_ ?_))
  rotate_left
  · show Value.pt3Of i / 3 * 1280 + (i 0).val % 1280 = (i 0).val; omega
  · exact Nat.mod_eq_of_lt hi1
  rw [Finset.sum_congr rfl (fun s hs => show addend m c (3 * Value.run3Of i + s) (Value.loc3Of i)
      = ∑ k : Fin 1024, at2 (X0 m c) (i 0).val (s * 1024 + k.val) * at2 (X1 m c) (i 1).val (s * 1024 + k.val) from by
    have hs' : s < 3 := Finset.mem_range.mp hs
    have e0 : (3 * Value.run3Of i + s) / 3 * 1280 + (i 0).val % 1280 = (i 0).val := by omega
    have e1 : (3 * Value.run3Of i + s) % 3 = s := by omega
    have e2 : (i 1).val % 1024 = (i 1).val := Nat.mod_eq_of_lt hi1
    show (∑ k : Fin 1024, at2 (X0 m c) ((3 * Value.run3Of i + s) / 3 * 1280 + (i 0).val % 1280) ((3 * Value.run3Of i + s) % 3 * 1024 + k.val)
        * at2 (X1 m c) ((i 1).val % 1024) ((3 * Value.run3Of i + s) % 3 * 1024 + k.val)) = _
    rw [e0, e1, e2]),
    sum_blocks 3 1024 3072 rfl (fun k => at2 (X0 m c) (i 0).val k * at2 (X1 m c) (i 1).val k)]

/-! ## The reference -/

/-- The reference's term of the three arguments. -/
def ref (x0 : Vec Ideal S16640x3072 .bf16) (x1 : Vec Ideal S1024x3072 .bf16) (x2 : Vec Ideal S16640x1024 .f32) : FVec Ideal S16640x1024 .f32 :=
  addf (Host.dotGeneral Cert.Reference7Ideal.dot_S16640x3072_S1024x3072_S16640x1024_1_1_0_0_n_n none
    (extf .f32 x0 Cert.Reference7Ideal.Gen.bitsLt_bf16_f32) (extf .f32 x1 Cert.Reference7Ideal.Gen.bitsLt_bf16_f32)) x2

/-- It is, at each index, the same sum. -/
theorem ref_apply (x0 : Vec Ideal S16640x3072 .bf16) (x1 : Vec Ideal S1024x3072 .bf16) (x2 : Vec Ideal S16640x1024 .f32) (i : S16640x1024.Idx) :
    ref x0 x1 x2 i = (∑ k : Fin 3072, at2 x0 (i 0).val k.val * at2 x1 (i 1).val k.val) + at2 x2 (i 0).val (i 1).val := by
  unfold ref
  pointwise
  exact congrArg₂ (· + ·) (Finset.sum_congr rfl fun k _ => congrArg₂ (· * ·) (at2_idx _ _ _ _ rfl rfl) (at2_idx _ _ _ _ rfl rfl)) (at2_idx _ _ _ _ rfl rfl)

/-- The call's result is the reference's term of the same arguments. -/
theorem value (c : Dev nD) : Value.G3 m c = ref (X0 m c) (X1 m c) (X2 m c) :=
  funext fun i => (result_apply m c i).trans (ref_apply _ _ _ i).symm

end Cert.ProjDx

end
-- ==== Proof.ProjDw.lean ====
/-
  The gradient of the weight of the projection before the recurrence, `norm(h)ᵀ · dproj`: the call normalises 1280 rows
  at a time, adds their product to an accumulator over 13 blocks of rows, and narrows at the end; the reference normalises
  all 16640 rows and contracts in one go. Over the extended reals the two are the same sum.
-/
module

public import proofs.«01_k».proof.Proof.Blocks
public import proofs.«01_k».proof.Proof.Gen.Kernel8Ideal.Value
public import proofs.«01_k».proof.Proof.Gen.Reference8Ideal.Run

@[expose] public section

set_option maxRecDepth 16384

noncomputable section

namespace Cert.ProjDw

open Cert.Kernel8Ideal Cert.Kernel8Ideal.Gen Cert.Blocks
open Idealize.ShloMosaic Idealize.ShloMosaic.TcCoe Idealize.SL.Sem

variable (m : (ℓ : Loc nD τ sig) → Buf (Elt Ideal) ℓ)

/-! ## What the body leaves at one grid point -/

section Body
variable (c : Dev nD) (i : grid0.Coords)
  (a3 : Memref sig .tc .vmem S1280x1024 .f32) (h3 : a3.IsWhole) (a4 : Memref sig .tc .vmem S1x1024 .f32) (h4 : a4.IsWhole)
  (a5 : Memref sig .tc .vmem S1280x1024 .bf16) (h5 : a5.IsWhole) (a6 : Memref sig .tc .vmem S1024x1024 .bf16) (h6 : a6.IsWhole)
  (a7 : Memref sig .tc .vmem S1024x1024 .f32) (h7 : a7.IsWhole)
  (x0 : Vec Ideal S1280x1024 .f32) (x1 : Vec Ideal S1x1024 .f32) (x2 : Vec Ideal S1280x1024 .bf16) (xs : Vec Ideal S1024x1024 .f32)

/-- The first point of a run leaves in the accumulator the update of the zero block. -/
theorem acc_first (hc0 : cond0_0 i) (hc1 : ¬cond0_1 i) :
    sout0_A_0 c i a3 h3 a4 h4 a5 h5 a6 h6 a7 h7 hc0 hc1 x0 x1 x2 = k0_pay2 x0 x1 x2 (k0_pay1 (F := Ideal)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread,
    View.ld_unit_zero (S := S1280x1024) hz, View.ld_unit_zero (S := S1x1024) hz]

/-- A middle point leaves in it the update of what it held. -/
theorem acc_mid (hc0 : ¬cond0_0 i) (hc1 : ¬cond0_1 i) :
    sout0_B_0 c i a3 h3 a4 h4 a5 h5 a6 h6 a7 h7 hc0 hc1 x0 x1 x2 xs = k0_pay2 x0 x1 x2 xs := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_unit_zero (S := S1024x1024) hz]
  simp only [View.readAt_eq_ld, h3.read_unread, h4.read_unread, h5.read_unread, h7.read_unread,
    View.ld_unit_zero (S := S1280x1024) hz, View.ld_unit_zero (S := S1x1024) hz, View.ld_unit_zero (S := S1024x1024) hz]

/-- So does the last point of a run, -/
theorem acc_last (hc0 : ¬cond0_0 i) (hc1 : cond0_1 i) :
    sout0_C_0 c i a3 h3 a4 h4 a5 h5 a6 h6 a7 h7 hc0 hc1 x0 x1 x2 xs = k0_pay2 x0 x1 x2 xs := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero (S := S1024x1024) hz]
  simp only [View.readAt_eq_ld, h3.read_unread, h4.read_unread, h5.read_unread, h7.read_unread,
    View.ld_unit_zero (S := S1280x1024) hz, View.ld_unit_zero (S := S1x1024) hz, View.ld_unit_zero (S := S1024x1024) hz]

/-- which writes the narrowed sum to the output's block. -/
theorem out_last (hc0 : ¬cond0_0 i) (hc1 : cond0_1 i) :
    out0_C_3 c i a3 h3 a4 h4 a5 h5 a6 h6 a7 h7 hc0 hc1 x0 x1 x2 xs = k0_pay3 (k0_pay2 x0 x1 x2 xs) := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero (S := S1024x1024) hz, View.readCov_unit_zero (S := S1024x1024) _ hz]
  simp only [View.readAt_eq_ld, h3.read_unread, h4.read_unread, h5.read_unread, h7.read_unread,
    View.ld_unit_zero (S := S1280x1024) hz, View.ld_unit_zero (S := S1x1024) hz, View.ld_unit_zero (S := S1024x1024) hz]

end Body

/-- The update of the accumulator at an index. -/
theorem update_apply (x0 : Vec Ideal S1280x1024 .f32) (x1 : Vec Ideal S1x1024 .f32) (x2 : Vec Ideal S1280x1024 .bf16) (xs : Vec Ideal S1024x1024 .f32) (r : Fin 1024) (l : Fin 1024) :
    k0_pay2 x0 x1 x2 xs (ix2 r l)
      = xs (ix2 r l) + ∑ k : Fin 1280, x0 (ix2 k r) * Ideal.rsqrt (Ideal.div (∑ e : Fin 1024, x0 (ix2 k e) * x0 (ix2 k e)) (Ideal.ofBits .f32 0x44800000#32)
          + Ideal.ofBits .f32 0x358637BD#32) * x1 (ix2 0 r) * x2 (ix2 k l) := by
  pointwise [k0_pay2]

theorem zero_apply (y : S1024x1024.Idx) : (k0_pay1 (F := Ideal)) y = 0 := by
  pointwise [k0_pay1]

theorem narrow_apply (x : Vec Ideal S1024x1024 .f32) (y : S1024x1024.Idx) : k0_pay3 x y = x y := by
  pointwise [k0_pay3]

/-! ## The blocks the windows stage -/

/-- The windows' block indices at a grid point. -/
theorem idx_facts : ∀ t : Fin cfg0.N, (win0_0.index t 0 = t.val % 13 ∧ win0_0.index t 1 = 0)
    ∧ (win0_1.index t 0 = 0 ∧ win0_1.index t 1 = 0) ∧ (win0_2.index t 0 = t.val % 13 ∧ win0_2.index t 1 = t.val / 13) :=
  (by decide +kernel : ∀ t : Fin grid0.N, _)

/-- The arguments as arrays of extended reals. -/
abbrev X0 (c : Dev nD) : S16640x1024.Idx → EReal := m ((c : Thread nD τ).loc main_arg0)
abbrev X1 (c : Dev nD) : S1x1024.Idx → EReal := m ((c : Thread nD τ).loc main_arg1)
abbrev X2 (c : Dev nD) : S16640x3072.Idx → EReal := m ((c : Thread nD τ).loc main_arg2)

theorem blk0 (c : Dev nD) (t : Fin cfg0.N) (r : Fin 1280) (k : Fin 1024) :
    (iblk m c 0 t : Vec Ideal S1280x1024 .f32) (ix2 r k) = at2 (X0 m c) (t.val % 13 * 1280 + r.val) (k.val) := by
  unfold iblk
  rw [View.read_apply]
  refine at2_idx (X0 m c) _ _ _ ?_ ?_
  · show win0_0.index t 0 * 1280 + 1 * r.val = _; rw [(idx_facts t).1.1, one_mul]
  · show win0_0.index t 1 * 1024 + 1 * k.val = _; rw [(idx_facts t).1.2, zero_mul, zero_add, one_mul]

theorem blk1 (c : Dev nD) (t : Fin cfg0.N) (r : Fin 1) (k : Fin 1024) :
    (iblk m c 1 t : Vec Ideal S1x1024 .f32) (ix2 r k) = at2 (X1 m c) (r.val) (k.val) := by
  unfold iblk
  rw [View.read_apply]
  refine at2_idx (X1 m c) _ _ _ ?_ ?_
  · show win0_1.index t 0 * 1 + 1 * r.val = _; rw [(idx_facts t).2.1.1, zero_mul, zero_add, one_mul]
  · show win0_1.index t 1 * 1024 + 1 * k.val = _; rw [(idx_facts t).2.1.2, zero_mul, zero_add, one_mul]

theorem blk2 (c : Dev nD) (t : Fin cfg0.N) (r : Fin 1280) (k : Fin 1024) :
    (iblk m c 2 t : Vec Ideal S1280x1024 .bf16) (ix2 r k) = at2 (X2 m c) (t.val % 13 * 1280 + r.val) (t.val / 13 * 1024 + k.val) := by
  unfold iblk
  rw [View.read_apply]
  refine at2_idx (X2 m c) _ _ _ ?_ ?_
  · show win0_2.index t 0 * 1280 + 1 * r.val = _; rw [(idx_facts t).2.2.1, one_mul]
  · show win0_2.index t 1 * 1024 + 1 * k.val = _; rw [(idx_facts t).2.2.2, one_mul]

/-! ## The accumulator and the result -/

/-- What grid point `n` adds to the accumulator at a place of the block. -/
def addend (c : Dev nD) (n : ℕ) (y : S1024x1024.Idx) : EReal :=
  ∑ k : Fin 1280, normed (X0 m c) (X1 m c) (n % 13 * 1280 + k.val) (y 0).val * at2 (X2 m c) (n % 13 * 1280 + k.val) (n / 13 * 1024 + (y 1).val)

/-- The update at a grid point adds the point's addend. -/
theorem update_at (c : Dev nD) (t : Fin cfg0.N) (xs : Vec Ideal S1024x1024 .f32) (y : S1024x1024.Idx) :
    k0_pay2 (iblk m c 0 t) (iblk m c 1 t) (iblk m c 2 t) xs y = xs y + addend m c t.val y := by
  rw [eq_ix2 y]
  refine (update_apply _ _ _ xs (y 0) (y 1)).trans (congrArg (xs (ix2 (y 0) (y 1)) + ·) ?_)
  exact Finset.sum_congr rfl fun k _ => congrArg₂ (· * ·)
    (normed_of (X0 m c) (X1 m c) _ _ (blk0 m c t k (y 0)) (fun e => blk0 m c t k e) (blk1 m c t 0 (y 0))) (blk2 m c t k (y 1))

/-- What the accumulator holds after a point of run `q`: the sum of the run's addends so far. -/
theorem acc_at (c : Dev nD) (q j : ℕ) (hj : j < 13) (h : 13 * q + j < cfg0.N) (y : S1024x1024.Idx) :
    (outsAt0 m c (13 * q + j) h).2 y = ∑ s ∈ Finset.range (j + 1), addend m c (13 * q + s) y := by
  refine run_sum (b := 13) (fun n h => (outsAt0 m c n h).2) (addend m c) ?_ ?_ q j hj h y
  · intro n h y hn
    rw [outsAt0_A m c ⟨n, h⟩ hn (by dsimp only; omega)]
    dsimp only
    rw [acc_first]
    refine (update_at m c ⟨n, h⟩ _ y).trans ?_
    rw [zero_apply, zero_add]
  · intro n h y hn
    by_cases hl : (n + 1) % 13 = 12
    · rw [outsAt0_C m c ⟨n + 1, h⟩ hn hl]
      dsimp only
      rw [acc_last]
      exact update_at m c ⟨n + 1, h⟩ _ y
    · rw [outsAt0_B m c ⟨n + 1, h⟩ hn hl]
      dsimp only
      rw [acc_mid]
      exact update_at m c ⟨n + 1, h⟩ _ y

/-- What the call leaves in its result: the product of the normalised rows with the gradient, over all 16640 rows. -/
theorem result_apply (c : Dev nD) (i : S1024x3072.Idx) :
    Value.G3 m c i = ∑ k : Fin 16640, normed (X0 m c) (X1 m c) k.val (i 0).val * at2 (X2 m c) k.val (i 1).val := by
  have hi0 : (i 0).val < 1024 := (i 0).isLt
  have hi1 : (i 1).val < 3072 := (i 1).isLt
  have hN : cfg0.N = 39 := N_0
  have hq : Value.run3Of i = (i 1).val / 1024 := by
    show 3 * ((i 0).val / 1024 - 0) + 1 * ((i 1).val / 1024 - 0) = _
    omega
  have hpt : Value.pt3Of i = 13 * Value.run3Of i + 12 := rfl
  have hp : Value.pt3Of i < cfg0.N := by omega
  unfold Value.G3
  rw [dif_pos hp, ← Value.outsAt0_sweep m c _ hp]
  have e : (outsAt0 m c (Value.pt3Of i) hp).1 = k0_pay3 (outsAt0 m c (Value.pt3Of i) hp).2 := by
    rw [outsAt0_C m c ⟨Value.pt3Of i, hp⟩ (by dsimp only; omega) (by dsimp only; omega)]
    dsimp only
    rw [out_last, acc_last]
  rw [e, narrow_apply]
  refine (acc_at m c (Value.run3Of i) 12 (by omega) hp (Value.loc3Of i)).trans ?_
  rw [Finset.sum_congr rfl (fun s hs => show addend m c (13 * Value.run3Of i + s) (Value.loc3Of i)
      = ∑ k : Fin 1280, normed (X0 m c) (X1 m c) (s * 1280 + k.val) (i 0).val * at2 (X2 m c) (s * 1280 + k.val) (i 1).val from by
    have hs' : s < 13 := Finset.mem_range.mp hs
    have e0 : (13 * Value.run3Of i + s) % 13 = s := by omega
    have e1 : (i 0).val % 1024 = (i 0).val := Nat.mod_eq_of_lt hi0
    have e2 : (13 * Value.run3Of i + s) / 13 * 1024 + (i 1).val % 1024 = (i 1).val := by omega
    show (∑ k : Fin 1280, normed (X0 m c) (X1 m c) ((13 * Value.run3Of i + s) % 13 * 1280 + k.val) ((i 0).val % 1024)
        * at2 (X2 m c) ((13 * Value.run3Of i + s) % 13 * 1280 + k.val) ((13 * Value.run3Of i + s) / 13 * 1024 + (i 1).val % 1024)) = _
    rw [e0, e1, e2]),
    sum_blocks 13 1280 16640 rfl (fun k => normed (X0 m c) (X1 m c) k (i 0).val * at2 (X2 m c) k (i 1).val)]

/-! ## The reference -/

/-- The reference's term of the three arguments. -/
def ref (x0 : Vec Ideal S16640x1024 .f32) (x1 : Vec Ideal S1x1024 .f32) (x2 : Vec Ideal S16640x3072 .bf16) : FVec Ideal S1024x3072 .bf16 :=
  truncf .bf16 (transpose S1024x3072 [1, 0]
    (Host.dotGeneral Cert.Reference8Ideal.dot_S16640x3072_S16640x1024_S3072x1024_0_0_1_1_n_n none (extf .f32 x2 Cert.Reference8Ideal.Gen.bitsLt_bf16_f32)
      (mulf (mulf x0 (broadcastInDim S16640x1024 ![0, 1] Cert.Reference8Ideal.Gen.bcast_S16640x1_S16640x1024_0_1
          (Host.rsqrt (addf (Host.divf (broadcastInDim Cert.Reference8Ideal.S16640x1 ![0] Cert.Reference8Ideal.Gen.bcast_S16640_S16640x1_0
              (Host.reduceAdd (mulf x0 x0) (constant Cert.Reference8Ideal.S_ .f32 0x00000000#32) Cert.Reference8Ideal.Gen.reducesTo_S16640x1024_S16640_d1 Cert.Reference8Ideal.Gen.h_S_))
            (broadcastInDim Cert.Reference8Ideal.S16640x1 ![] Cert.Reference8Ideal.Gen.bcast_S_S16640x1 (constant Cert.Reference8Ideal.S_ .f32 0x44800000#32)))
            (broadcastInDim Cert.Reference8Ideal.S16640x1 ![] Cert.Reference8Ideal.Gen.bcast_S_S16640x1 (constant Cert.Reference8Ideal.S_ .f32 0x358637BD#32))))))
        (broadcastInDim S16640x1024 ![0, 1] Cert.Reference8Ideal.Gen.bcast_S1x1024_S16640x1024_0_1 x1)))
    Cert.Reference8Ideal.Gen.transposes_S3072x1024_S1024x3072_1_0) Cert.Reference8Ideal.Gen.bitsLt_bf16_f32

/-- It is, at each index, the same sum with the factors in the other order. -/
theorem ref_apply (x0 : Vec Ideal S16640x1024 .f32) (x1 : Vec Ideal S1x1024 .f32) (x2 : Vec Ideal S16640x3072 .bf16) (i : S1024x3072.Idx) :
    ref x0 x1 x2 i = ∑ k : Fin 16640, normed x0 x1 k.val (i 0).val * at2 x2 k.val (i 1).val := by
  unfold ref
  pointwise
  refine Finset.sum_congr rfl fun k _ => ?_
  rw [mul_comm]
  exact congrArg₂ (· * ·) (normed_of x0 x1 _ _ (at2_idx _ _ _ _ rfl rfl) (fun e => at2_idx _ _ _ _ rfl rfl) (at2_idx _ _ _ _ rfl rfl)) (at2_idx _ _ _ _ rfl rfl)

/-- The call's result is the reference's term of the same arguments. -/
theorem value (c : Dev nD) : Value.G3 m c = ref (X0 m c) (X1 m c) (X2 m c) :=
  funext fun i => (result_apply m c i).trans (ref_apply _ _ _ i).symm

end Cert.ProjDw

end
-- ==== Proof.GateFwd.lean ====
/-
  The feed-forward's first products, `norm(h) · w`: the call normalises 1280 rows at a time and multiplies them, 320 rows at a
  time, by a block of the weight's columns; the reference normalises all 16640 rows and multiplies once. Over the extended
  reals each element is the same sum.
-/
module

public import proofs.«01_k».proof.Proof.Blocks
public import proofs.«01_k».proof.Proof.Gen.Kernel9Ideal.Value
public import proofs.«01_k».proof.Proof.Gen.Reference9Ideal.Run

@[expose] public section

set_option maxRecDepth 16384

noncomputable section

namespace Cert.GateFwd

open Cert.Kernel9Ideal Cert.Kernel9Ideal.Gen Cert.Blocks
open Idealize.ShloMosaic Idealize.ShloMosaic.TcCoe Idealize.SL.Sem

variable (m : (ℓ : Loc nD τ sig) → Buf (Elt Ideal) ℓ)

/-! ## What the body leaves in its block -/

/-- A quarter of the block: the product of 320 normalised rows with the weight's block. -/
theorem quarter_apply (v : Vec Ideal S320x1024 .f32) (w : Vec Ideal S1x1024 .f32) (u : Vec Ideal S1024x1408 .bf16) (r : Fin 320) (l : Fin 1408) :
    k0_pay2 v w u (ix2 r l)
      = ∑ k : Fin 1024, v (ix2 r k) * Ideal.rsqrt (Ideal.div (∑ e : Fin 1024, v (ix2 r e) * v (ix2 r e)) (Ideal.ofBits .f32 0x44800000#32)
          + Ideal.ofBits .f32 0x358637BD#32) * w (ix2 0 k) * u (ix2 k l) := by
  pointwise [k0_pay2]

/-- The other three quarters are computed alike. -/
theorem second_eq (v : Vec Ideal S320x1024 .f32) (w : Vec Ideal S1x1024 .f32) (u : Vec Ideal S1024x1408 .bf16) :
    k0_pay4 u (k0_pay3 v w) (constant S320x1408 .f32 0x00000000#32) = k0_pay2 v w u := rfl
theorem third_eq (v : Vec Ideal S320x1024 .f32) (w : Vec Ideal S1x1024 .f32) (u : Vec Ideal S1024x1408 .bf16) :
    k0_pay5 v w u = k0_pay2 v w u := rfl
theorem fourth_eq (v : Vec Ideal S320x1024 .f32) (w : Vec Ideal S1x1024 .f32) (u : Vec Ideal S1024x1408 .bf16) :
    k0_pay1 (k0_pay6 v w) u = k0_pay2 v w u := rfl

/-- The block's product at an index of the block. -/
def block (x0 : Vec Ideal S1280x1024 .f32) (x1 : Vec Ideal S1x1024 .f32) (x2 : Vec Ideal S1024x1408 .bf16) (y : S1280x1408.Idx) : EReal :=
  ∑ k : Fin 1024, normed (show S1280x1024.Idx → EReal from x0) (show S1x1024.Idx → EReal from x1) (y 0).val k.val
    * at2 (show S1024x1408.Idx → EReal from x2) k.val (y 1).val

/-- A quarter that begins at row `o` is the block's product at the rows from `o` on. -/
theorem quarter_eq (o : ℕ) (x0 : Vec Ideal S1280x1024 .f32) (x1 : Vec Ideal S1x1024 .f32) (x2 : Vec Ideal S1024x1408 .bf16)
    (hi : ∀ a, (![o, 0] : Fin 2 → ℕ) a + S320x1024.size a ≤ S1280x1024.size a) (ho : ∀ a, (![o, 0] : Fin 2 → ℕ) a + S320x1408.size a ≤ S1280x1408.size a)
    (x : S320x1408.Idx) :
    k0_pay2 (F := Ideal) (View.ld x0 (Rect.unit (s := S1280x1024) ![o, 0] S320x1024.size hi)) x1 x2 x
      = block x0 x1 x2 ((Rect.unit (s := S1280x1408) ![o, 0] S320x1408.size ho).emb x) := by
  refine (congrArg _ (eq_ix2 x)).trans ((quarter_apply _ x1 x2 (x 0) (x 1)).trans ?_)
  have e0 : (((Rect.unit (s := S1280x1408) ![o, 0] S320x1408.size ho).emb x) 0).val = o + (x 0).val := by
    show o + 1 * (x 0).val = _; rw [one_mul]
  have e1 : (((Rect.unit (s := S1280x1408) ![o, 0] S320x1408.size ho).emb x) 1).val = (x 1).val := by
    show 0 + 1 * (x 1).val = _; rw [one_mul, zero_add]
  unfold block
  rw [e0, e1]
  have row : ∀ k : Fin 1024, View.ld x0 (Rect.unit (s := S1280x1024) ![o, 0] S320x1024.size hi) (ix2 (x 0) k)
      = at2 (show S1280x1024.Idx → EReal from x0) (o + (x 0).val) k.val := fun k =>
    at2_idx (show S1280x1024.Idx → EReal from x0) _ _ _ (by show o + 1 * (x 0).val = _; rw [one_mul]) (by show 0 + 1 * k.val = _; rw [one_mul, zero_add])
  exact Finset.sum_congr rfl fun k _ => congrArg₂ (fun a b : EReal => a * b)
    (normed_of _ _ _ _ (row k) row (at2_idx (show S1x1024.Idx → EReal from x1) _ _ _ rfl rfl))
    (at2_idx (show S1024x1408.Idx → EReal from x2) _ _ _ rfl rfl)

/-- The four stores leave the block's product. -/
theorem out_eq (x0 : Vec Ideal S1280x1024 .f32) (x1 : Vec Ideal S1x1024 .f32) (x2 : Vec Ideal S1024x1408 .bf16) (y : S1280x1408.Idx) :
    out0_3 x0 x1 x2 y = block x0 x1 x2 y := by
  unfold out0_3
  rw [View.ld_unit_zero (S := S1x1024) hz, View.ld_unit_zero (S := S1024x1408) hz]
  refine View.canon_apply_of_pieces (Val := Elt Ideal) (block x0 x1 x2) _ ?_ y (cover0_3 _ _ _ _ y)
  intro p hp
  simp only [List.mem_cons, List.not_mem_nil, or_false] at hp
  rcases hp with rfl | rfl | rfl | rfl
  · rw [fourth_eq]; exact fun x => quarter_eq 960 x0 x1 x2 _ inb_S1280x1408_S320x1408_960_0 x
  · rw [third_eq]; exact fun x => quarter_eq 640 x0 x1 x2 _ inb_S1280x1408_S320x1408_640_0 x
  · rw [second_eq]; exact fun x => quarter_eq 320 x0 x1 x2 _ inb_S1280x1408_S320x1408_320_0 x
  · exact fun x => quarter_eq 0 x0 x1 x2 _ inb_S1280x1408_S320x1408_0_0 x

/-! ## The blocks the windows stage -/

/-- The windows' block indices at a grid point. -/
theorem idx_facts : ∀ t : Fin cfg0.N, (win0_0.index t 0 = t.val / 2 ∧ win0_0.index t 1 = 0)
    ∧ (win0_1.index t 0 = 0 ∧ win0_1.index t 1 = 0) ∧ (win0_2.index t 0 = 0 ∧ win0_2.index t 1 = t.val % 2)
    ∧ (win0_3.index t 0 = t.val / 2 ∧ win0_3.index t 1 = t.val % 2) :=
  (by decide +kernel : ∀ t : Fin grid0.N, _)

/-- The arguments as arrays of extended reals. -/
abbrev X0 (c : Dev nD) : S16640x1024.Idx → EReal := m ((c : Thread nD τ).loc main_arg0)
abbrev X1 (c : Dev nD) : S1x1024.Idx → EReal := m ((c : Thread nD τ).loc main_arg1)
abbrev X2 (c : Dev nD) : S1024x2816.Idx → EReal := m ((c : Thread nD τ).loc main_arg2)

/-- The block of rows, -/
theorem blk0 (c : Dev nD) (t : Fin cfg0.N) (r k : ℕ) (hr : r < 1280) (hk : k < 1024) :
    at2 (show S1280x1024.Idx → EReal from iblk m c 0 t) r k = at2 (X0 m c) (t.val / 2 * 1280 + r) k := by
  rw [at2_of_lt _ r k hr hk]
  show (iblk m c 0 t : Vec Ideal S1280x1024 .f32) (ix2 ⟨r, hr⟩ ⟨k, hk⟩) = _
  unfold iblk
  rw [View.read_apply]
  refine at2_idx (X0 m c) _ _ _ ?_ ?_
  · show win0_0.index t 0 * 1280 + 1 * r = _; rw [(idx_facts t).1.1, one_mul]
  · show win0_0.index t 1 * 1024 + 1 * k = _; rw [(idx_facts t).1.2, zero_mul, zero_add, one_mul]

/-- the norm's weight, whole, -/
theorem blk1 (c : Dev nD) (t : Fin cfg0.N) (k : ℕ) (hk : k < 1024) :
    at2 (show S1x1024.Idx → EReal from iblk m c 1 t) 0 k = at2 (X1 m c) 0 k := by
  rw [at2_of_lt _ 0 k Nat.one_pos hk]
  show (iblk m c 1 t : Vec Ideal S1x1024 .f32) (ix2 ⟨0, Nat.one_pos⟩ ⟨k, hk⟩) = _
  unfold iblk
  rw [View.read_apply]
  refine at2_idx (X1 m c) _ _ _ ?_ ?_
  · show win0_1.index t 0 * 1 + 1 * 0 = _; rw [(idx_facts t).2.1.1]
  · show win0_1.index t 1 * 1024 + 1 * k = _; rw [(idx_facts t).2.1.2, zero_mul, zero_add, one_mul]

/-- and the block of the weight's columns. -/
theorem blk2 (c : Dev nD) (t : Fin cfg0.N) (k l : ℕ) (hk : k < 1024) (hl : l < 1408) :
    at2 (show S1024x1408.Idx → EReal from iblk m c 2 t) k l = at2 (X2 m c) k (t.val % 2 * 1408 + l) := by
  rw [at2_of_lt _ k l hk hl]
  show (iblk m c 2 t : Vec Ideal S1024x1408 .bf16) (ix2 ⟨k, hk⟩ ⟨l, hl⟩) = _
  unfold iblk
  rw [View.read_apply]
  refine at2_idx (X2 m c) _ _ _ ?_ ?_
  · show win0_2.index t 0 * 1024 + 1 * k = _; rw [(idx_facts t).2.2.1.1, zero_mul, zero_add, one_mul]
  · show win0_2.index t 1 * 1408 + 1 * l = _; rw [(idx_facts t).2.2.1.2, one_mul]

/-! ## The reference -/

/-- The reference's term of the three arguments. -/
def ref (x0 : Vec Ideal S16640x1024 .f32) (x1 : Vec Ideal S1x1024 .f32) (x2 : Vec Ideal S1024x2816 .bf16) : FVec Ideal S16640x2816 .f32 :=
  Host.dotGeneral Cert.Reference9Ideal.dot_S16640x1024_S1024x2816_S16640x2816_1_0_0_1_n_n none
    (mulf (mulf x0 (broadcastInDim S16640x1024 ![0, 1] Cert.Reference9Ideal.Gen.bcast_S16640x1_S16640x1024_0_1
          (Host.rsqrt (addf (Host.divf (broadcastInDim Cert.Reference9Ideal.S16640x1 ![0] Cert.Reference9Ideal.Gen.bcast_S16640_S16640x1_0
              (Host.reduceAdd (mulf x0 x0) (constant Cert.Reference9Ideal.S_ .f32 0x00000000#32) Cert.Reference9Ideal.Gen.reducesTo_S16640x1024_S16640_d1 Cert.Reference9Ideal.Gen.h_S_))
            (broadcastInDim Cert.Reference9Ideal.S16640x1 ![] Cert.Reference9Ideal.Gen.bcast_S_S16640x1 (constant Cert.Reference9Ideal.S_ .f32 0x44800000#32)))
            (broadcastInDim Cert.Reference9Ideal.S16640x1 ![] Cert.Reference9Ideal.Gen.bcast_S_S16640x1 (constant Cert.Reference9Ideal.S_ .f32 0x358637BD#32))))))
        (broadcastInDim S16640x1024 ![0, 1] Cert.Reference9Ideal.Gen.bcast_S1x1024_S16640x1024_0_1 x1))
    (extf .f32 x2 Cert.Reference9Ideal.Gen.bitsLt_bf16_f32)

/-- It is, at each index, the product of the normalised row with the weight's column. -/
theorem ref_apply (x0 : Vec Ideal S16640x1024 .f32) (x1 : Vec Ideal S1x1024 .f32) (x2 : Vec Ideal S1024x2816 .bf16) (i : S16640x2816.Idx) :
    ref x0 x1 x2 i = ∑ k : Fin 1024, normed x0 x1 (i 0).val k.val * at2 x2 k.val (i 1).val := by
  unfold ref
  pointwise
  exact Finset.sum_congr rfl fun k _ => congrArg₂ (· * ·)
    (normed_of x0 x1 _ _ (at2_idx _ _ _ _ rfl rfl) (fun e => at2_idx _ _ _ _ rfl rfl) (at2_idx _ _ _ _ rfl rfl)) (at2_idx _ _ _ _ rfl rfl)

/-! ## The result -/

/-- What a grid point writes back is its block of the reference's term. -/
theorem flushed_eq (c : Dev nD) (t : Fin cfg0.N) :
    (dats m 0 c).flushed 3 t = ((cfg0.win 3).blk t).view.read (Elt Ideal) (ref (X0 m c) (X1 m c) (X2 m c)) := by
  rw [Value.flushed3]
  funext y
  show out0_3 (iblk m c 0 t) (iblk m c 1 t) (iblk m c 2 t) y = ref (X0 m c) (X1 m c) (X2 m c) (((cfg0.win 3).blk t).view.emb y)
  rw [ref_apply, out_eq, show (((cfg0.win 3).blk t).view.emb y 0).val = t.val / 2 * 1280 + (y 0).val from by
      show win0_3.index t 0 * 1280 + 1 * (y 0).val = _; rw [(idx_facts t).2.2.2.1, one_mul],
    show (((cfg0.win 3).blk t).view.emb y 1).val = t.val % 2 * 1408 + (y 1).val from by
      show win0_3.index t 1 * 1408 + 1 * (y 1).val = _; rw [(idx_facts t).2.2.2.2, one_mul]]
  have row : ∀ k : Fin 1024, at2 (show S1280x1024.Idx → EReal from iblk m c 0 t) (y 0).val k.val
      = at2 (X0 m c) (t.val / 2 * 1280 + (y 0).val) k.val := fun k => blk0 m c t _ _ (y 0).isLt k.isLt
  exact Finset.sum_congr rfl fun k _ => congrArg₂ (fun a b : EReal => a * b)
    (normed_of (X0 m c) (X1 m c) _ _ (row k) row (blk1 m c t _ k.isLt)) (blk2 m c t _ _ k.isLt (y 1).isLt)

/-- An index is in a point's block when each of its coordinates is in the block's range. -/
theorem mem_blk (t : Fin cfg0.N) (i : S16640x2816.Idx) :
    i ∈ ((cfg0.win 3).blk t).view.set ↔
      ∀ a : Fin 2, win0_3.index t a * S1280x1408.size a ≤ (i a).val ∧ (i a).val < win0_3.index t a * S1280x1408.size a + S1280x1408.size a := by
  show i ∈ ((View.whole main_v0).slice (win0_3.rect t)).set ↔ _
  rw [View.set_slice_whole, Rect.mem_set_unit]
  exact Iff.rfl

/-- Every index of the result is in the block of the point that has its row and its column. -/
theorem covered (i : S16640x2816.Idx) :
    ∃ t : Fin cfg0.N, (cfg0.win 3).flush t = true ∧ i ∈ ((cfg0.win 3).blk t).view.set := by
  have hi0 : (i 0).val < 16640 := (i 0).isLt
  have hi1 : (i 1).val < 2816 := (i 1).isLt
  have hN : cfg0.N = 26 := N_0
  refine ⟨⟨(i 0).val / 1280 * 2 + (i 1).val / 1408, by omega⟩, flush0_3 _, ?_⟩
  rw [mem_blk]
  intro a
  match a with
  | ⟨0, _⟩ =>
    show win0_3.index _ 0 * 1280 ≤ (i 0).val ∧ (i 0).val < win0_3.index _ 0 * 1280 + 1280
    rw [(idx_facts _).2.2.2.1]; dsimp only; omega
  | ⟨1, _⟩ =>
    show win0_3.index _ 1 * 1408 ≤ (i 1).val ∧ (i 1).val < win0_3.index _ 1 * 1408 + 1408
    rw [(idx_facts _).2.2.2.2]; dsimp only; omega

/-- The result after the run is the reference's term of the arguments. -/
theorem final (c : Dev nD) : (dats m 0 c).arrAt 3 cfg0.N = ref (X0 m c) (X1 m c) (X2 m c) :=
  (dats m 0 c).arrAt_eq_of_cover 3 _ (fun t _ => flushed_eq m c t) covered

end Cert.GateFwd

end
-- ==== Proof.DownFwd.lean ====
/-
  The feed-forward's second product with the residual, `h + (g · σ(g) · u) · w`: the call computes the activation in blocks of
  640 rows and 1408 columns, four times 160 rows per grid point, adds the products of two blocks of columns in an
  accumulator, and adds the block of `h` at the end; the reference computes the whole activation and contracts in one go.
  Over the extended reals the two are the same sum.
-/
module

public import proofs.«01_k».proof.Proof.Blocks
public import proofs.«01_k».proof.Proof.Gen.Kernel10Ideal.Value
public import proofs.«01_k».proof.Proof.Gen.Reference10Ideal.Run
public import Idealize.ShloMosaic.Lib.Pipeline.CanonAppend

@[expose] public section

set_option maxRecDepth 16384

noncomputable section

namespace Cert.DownFwd

open Cert.Kernel10Ideal Cert.Kernel10Ideal.Gen Cert.Blocks
open Idealize.ShloMosaic Idealize.ShloMosaic.TcCoe Idealize.SL.Sem

variable (m : (ℓ : Loc nD τ sig) → Buf (Elt Ideal) ℓ)

/-! ## What the body leaves at one grid point -/

/-- The update of 160 rows of the accumulator at an index. -/
theorem quarter_apply (v0 v1 : Vec Ideal S160x1408 .f32) (x2 : Vec Ideal S1408x1024 .bf16) (v : Vec Ideal S160x1024 .f32) (r : Fin 160) (l : Fin 1024) :
    k0_pay4 v0 v1 x2 v (ix2 r l)
      = v (ix2 r l) + ∑ k : Fin 1408, v0 (ix2 r k) * Ideal.div 1 (1 + Ideal.exp (0 - v0 (ix2 r k))) * v1 (ix2 r k) * x2 (ix2 k l) := by
  pointwise [k0_pay4]

/-- The other three quarters are updated alike. -/
theorem second_eq (v0 v1 : Vec Ideal S160x1408 .f32) (x2 : Vec Ideal S1408x1024 .bf16) (v : Vec Ideal S160x1024 .f32) :
    k0_pay6 v1 (k0_pay5 v0) x2 v = k0_pay4 v0 v1 x2 v := rfl
theorem third_eq (v0 v1 : Vec Ideal S160x1408 .f32) (x2 : Vec Ideal S1408x1024 .bf16) (v : Vec Ideal S160x1024 .f32) :
    k0_pay7 v0 v1 x2 v = k0_pay4 v0 v1 x2 v := rfl
theorem fourth_eq (v0 v1 : Vec Ideal S160x1408 .f32) (x2 : Vec Ideal S1408x1024 .bf16) (v : Vec Ideal S160x1024 .f32) :
    k0_pay1 v0 v1 (k0_pay8 v0) x2 v = k0_pay4 v0 v1 x2 v := rfl

/-- The block's product at an index of the accumulator. -/
def block (x0 x1 : Vec Ideal S640x1408 .f32) (x2 : Vec Ideal S1408x1024 .bf16) (y : S640x1024.Idx) : EReal :=
  ∑ k : Fin 1408, gated (show S640x1408.Idx → EReal from x0) (show S640x1408.Idx → EReal from x1) (y 0).val k.val
    * at2 (show S1408x1024.Idx → EReal from x2) k.val (y 1).val

/-- A quarter that begins at row `o` adds the block's product at the rows from `o` on. -/
theorem quarter_eq (o : ℕ) (x0 x1 : Vec Ideal S640x1408 .f32) (x2 : Vec Ideal S1408x1024 .bf16) (v : Vec Ideal S160x1024 .f32)
    (hi : ∀ a, (![o, 0] : Fin 2 → ℕ) a + S160x1408.size a ≤ S640x1408.size a) (ho : ∀ a, (![o, 0] : Fin 2 → ℕ) a + S160x1024.size a ≤ S640x1024.size a)
    (x : S160x1024.Idx) :
    k0_pay4 (F := Ideal) (View.ld x0 (Rect.unit (s := S640x1408) ![o, 0] S160x1408.size hi)) (View.ld x1 (Rect.unit (s := S640x1408) ![o, 0] S160x1408.size hi)) x2 v x
      = v x + block x0 x1 x2 ((Rect.unit (s := S640x1024) ![o, 0] S160x1024.size ho).emb x) := by
  refine (congrArg _ (eq_ix2 x)).trans ((quarter_apply _ _ x2 v (x 0) (x 1)).trans (congrArg₂ (fun a b : EReal => a + b) (congrArg v (eq_ix2 x).symm) ?_))
  have e0 : (((Rect.unit (s := S640x1024) ![o, 0] S160x1024.size ho).emb x) 0).val = o + (x 0).val := by
    show o + 1 * (x 0).val = _; rw [one_mul]
  have e1 : (((Rect.unit (s := S640x1024) ![o, 0] S160x1024.size ho).emb x) 1).val = (x 1).val := by
    show 0 + 1 * (x 1).val = _; rw [one_mul, zero_add]
  unfold block
  rw [e0, e1]
  have row : ∀ (z : Vec Ideal S640x1408 .f32) (k : Fin 1408), View.ld z (Rect.unit (s := S640x1408) ![o, 0] S160x1408.size hi) (ix2 (x 0) k)
      = at2 (show S640x1408.Idx → EReal from z) (o + (x 0).val) k.val := fun z k =>
    at2_idx (show S640x1408.Idx → EReal from z) _ _ _ (by show o + 1 * (x 0).val = _; rw [one_mul]) (by show 0 + 1 * k.val = _; rw [one_mul, zero_add])
  refine Finset.sum_congr rfl fun k _ => congrArg₂ (fun a b : EReal => a * b) ?_ (at2_idx (show S1408x1024.Idx → EReal from x2) _ _ _ rfl rfl)
  exact (congrArg₂ (fun a b : EReal => a * Ideal.div 1 (1 + Ideal.exp (0 - a)) * b) (row x0 k) (row x1 k)).trans
    (by dsimp only; rw [zero_sub]; rfl)

theorem zero_apply (y : S640x1024.Idx) : (k0_pay3 (F := Ideal)) y = 0 := by
  pointwise [k0_pay3]

theorem final_apply (x x3 : Vec Ideal S640x1024 .f32) (y : S640x1024.Idx) : k0_pay2 x x3 y = x y + x3 y := by
  pointwise [k0_pay2]

/-- What the accumulator holds at a row from `o` on does not depend on a store of 160 rows that end before `o`. -/
theorem skip (o o' : ℕ) (h : o' + 160 ≤ o) (ho : ∀ a, (![o, 0] : Fin 2 → ℕ) a + S160x1024.size a ≤ S640x1024.size a)
    (ho' : ∀ a, (![o', 0] : Fin 2 → ℕ) a + S160x1024.size a ≤ S640x1024.size a) (w : Vec Ideal S160x1024 .f32)
    (L : List (View.Piece (Elt Ideal) S640x1024 .f32)) (x : S160x1024.Idx) {z : EReal}
    (hr : View.canon L ((Rect.unit (s := S640x1024) ![o, 0] S160x1024.size ho).emb x) = z) :
    View.canon (⟨Rect.unit (s := S640x1024) ![o', 0] S160x1024.size ho', w⟩ :: L) ((Rect.unit (s := S640x1024) ![o, 0] S160x1024.size ho).emb x) = z := by
  refine (View.canon_cons_of_not_mem _ _ fun hm => ?_).trans hr
  have hm' : (Rect.unit (s := S640x1024) ![o, 0] S160x1024.size ho).emb x ∈ (Rect.unit (s := S640x1024) ![o', 0] S160x1024.size ho').set := hm
  rw [Rect.mem_set_unit] at hm'
  have e := (hm' 0).2
  have e0 : (((Rect.unit (s := S640x1024) ![o, 0] S160x1024.size ho).emb x) 0).val = o + (x 0).val := by
    show o + 1 * (x 0).val = _; rw [one_mul]
  have e1 : (((Rect.unit (s := S640x1024) ![o, 0] S160x1024.size ho).emb x) 0).val < o' + 160 := e
  omega

/-- The cleared accumulator is zero. -/
theorem cleared (inb : ∀ a, (![0, 0] : Fin 2 → ℕ) a + S640x1024.size a ≤ S640x1024.size a) (y : S640x1024.Idx) :
    View.canon (Val := Elt Ideal) (s := S640x1024) (e := .f32) [⟨Rect.unit (s := S640x1024) ![0, 0] S640x1024.size inb, k0_pay3 (F := Ideal)⟩] y = 0 :=
  (congrFun (View.canon_unit_zero (S := S640x1024) hz inb _) y).trans (zero_apply y)

section Body
variable (c : Dev nD) (i : grid0.Coords)
  (a3 : Memref sig .tc .vmem S640x1408 .f32) (h3 : a3.IsWhole) (a4 : Memref sig .tc .vmem S640x1408 .f32) (h4 : a4.IsWhole)
  (a5 : Memref sig .tc .vmem S1408x1024 .bf16) (h5 : a5.IsWhole) (a6 : Memref sig .tc .vmem S640x1024 .f32) (h6 : a6.IsWhole)
  (a7 : Memref sig .tc .vmem S640x1024 .f32) (h7 : a7.IsWhole) (a8 : Memref sig .tc .vmem S640x1024 .f32) (h8 : a8.IsWhole)
  (x0 x1 : Vec Ideal S640x1408 .f32) (x2 : Vec Ideal S1408x1024 .bf16) (x3 xs : Vec Ideal S640x1024 .f32)

/-- Four stores that update the four quarters of a block read as zero, over the store that cleared it, leave the block's product. -/
theorem pieces_first (inb : ∀ a, (![0, 0] : Fin 2 → ℕ) a + S640x1024.size a ≤ S640x1024.size a) (v0 v1 v2 v3 : Vec Ideal S160x1024 .f32)
    (e0 : ∀ x, v0 x = (0 : EReal)) (e1 : ∀ x, v1 x = (0 : EReal)) (e2 : ∀ x, v2 x = (0 : EReal)) (e3 : ∀ x, v3 x = (0 : EReal)) (y : S640x1024.Idx) :
    View.canon (Val := Elt Ideal) (s := S640x1024) (e := .f32)
      [⟨Rect.unit (s := S640x1024) ![480, 0] S160x1024.size inb_S640x1024_S160x1024_480_0, k0_pay1 (View.ld x0 (Rect.unit (s := S640x1408) ![480, 0] S160x1408.size inb_S640x1408_S160x1408_480_0)) (View.ld x1 (Rect.unit (s := S640x1408) ![480, 0] S160x1408.size inb_S640x1408_S160x1408_480_0)) (k0_pay8 (View.ld x0 (Rect.unit (s := S640x1408) ![480, 0] S160x1408.size inb_S640x1408_S160x1408_480_0))) x2 v3⟩,
       ⟨Rect.unit (s := S640x1024) ![320, 0] S160x1024.size inb_S640x1024_S160x1024_320_0, k0_pay7 (View.ld x0 (Rect.unit (s := S640x1408) ![320, 0] S160x1408.size inb_S640x1408_S160x1408_320_0)) (View.ld x1 (Rect.unit (s := S640x1408) ![320, 0] S160x1408.size inb_S640x1408_S160x1408_320_0)) x2 v2⟩,
       ⟨Rect.unit (s := S640x1024) ![160, 0] S160x1024.size inb_S640x1024_S160x1024_160_0, k0_pay6 (View.ld x1 (Rect.unit (s := S640x1408) ![160, 0] S160x1408.size inb_S640x1408_S160x1408_160_0)) (k0_pay5 (View.ld x0 (Rect.unit (s := S640x1408) ![160, 0] S160x1408.size inb_S640x1408_S160x1408_160_0))) x2 v1⟩,
       ⟨Rect.unit (s := S640x1024) ![0, 0] S160x1024.size inb_S640x1024_S160x1024_0_0, k0_pay4 (View.ld x0 (Rect.unit (s := S640x1408) ![0, 0] S160x1408.size inb_S640x1408_S160x1408_0_0)) (View.ld x1 (Rect.unit (s := S640x1408) ![0, 0] S160x1408.size inb_S640x1408_S160x1408_0_0)) x2 v0⟩,
       ⟨Rect.unit (s := S640x1024) ![0, 0] S640x1024.size inb, k0_pay3 (F := Ideal)⟩] y
      = block x0 x1 x2 y := by
  refine View.canon_append_of_pieces (Val := Elt Ideal) (S := S640x1024) (e := .f32) (block x0 x1 x2) [⟨Rect.unit (s := S640x1024) ![0, 0] S640x1024.size inb, k0_pay3 (F := Ideal)⟩]
      [⟨Rect.unit (s := S640x1024) ![480, 0] S160x1024.size inb_S640x1024_S160x1024_480_0, k0_pay1 (View.ld x0 (Rect.unit (s := S640x1408) ![480, 0] S160x1408.size inb_S640x1408_S160x1408_480_0)) (View.ld x1 (Rect.unit (s := S640x1408) ![480, 0] S160x1408.size inb_S640x1408_S160x1408_480_0)) (k0_pay8 (View.ld x0 (Rect.unit (s := S640x1408) ![480, 0] S160x1408.size inb_S640x1408_S160x1408_480_0))) x2 v3⟩,
       ⟨Rect.unit (s := S640x1024) ![320, 0] S160x1024.size inb_S640x1024_S160x1024_320_0, k0_pay7 (View.ld x0 (Rect.unit (s := S640x1408) ![320, 0] S160x1408.size inb_S640x1408_S160x1408_320_0)) (View.ld x1 (Rect.unit (s := S640x1408) ![320, 0] S160x1408.size inb_S640x1408_S160x1408_320_0)) x2 v2⟩,
       ⟨Rect.unit (s := S640x1024) ![160, 0] S160x1024.size inb_S640x1024_S160x1024_160_0, k0_pay6 (View.ld x1 (Rect.unit (s := S640x1408) ![160, 0] S160x1408.size inb_S640x1408_S160x1408_160_0)) (k0_pay5 (View.ld x0 (Rect.unit (s := S640x1408) ![160, 0] S160x1408.size inb_S640x1408_S160x1408_160_0))) x2 v1⟩,
       ⟨Rect.unit (s := S640x1024) ![0, 0] S160x1024.size inb_S640x1024_S160x1024_0_0, k0_pay4 (View.ld x0 (Rect.unit (s := S640x1408) ![0, 0] S160x1408.size inb_S640x1408_S160x1408_0_0)) (View.ld x1 (Rect.unit (s := S640x1408) ![0, 0] S160x1408.size inb_S640x1408_S160x1408_0_0)) x2 v0⟩] ?_ y ?_
  · intro p hp
    simp only [List.mem_cons, List.not_mem_nil, or_false] at hp
    rcases hp with rfl | rfl | rfl | rfl
    · rw [fourth_eq]
      exact fun x => (quarter_eq 480 x0 x1 x2 _ _ inb_S640x1024_S160x1024_480_0 x).trans ((congrArg (fun a : EReal => a + _) (e3 x)).trans (zero_add _))
    · rw [third_eq]
      exact fun x => (quarter_eq 320 x0 x1 x2 _ _ inb_S640x1024_S160x1024_320_0 x).trans ((congrArg (fun a : EReal => a + _) (e2 x)).trans (zero_add _))
    · rw [second_eq]
      exact fun x => (quarter_eq 160 x0 x1 x2 _ _ inb_S640x1024_S160x1024_160_0 x).trans ((congrArg (fun a : EReal => a + _) (e1 x)).trans (zero_add _))
    · exact fun x => (quarter_eq 0 x0 x1 x2 _ _ inb_S640x1024_S160x1024_0_0 x).trans ((congrArg (fun a : EReal => a + _) (e0 x)).trans (zero_add _))
  · exact View.cover_of_tiled (s := S640x1024) _ S160x1024.size (by rfl) y

/-- The first point of a run leaves in the accumulator the block's product. -/
theorem acc_first (hc0 : cond0_0 i) (hc1 : ¬cond0_1 i) (y : S640x1024.Idx) :
    sout0_A_0 c i a3 h3 a4 h4 a5 h5 a6 h6 a7 h7 a8 h8 hc0 hc1 x0 x1 x2 x3 y = block x0 x1 x2 y := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  simp only [View.readAt_eq_ld, h3.read_unread, h4.read_unread, h5.read_unread, h6.read_unread, h8.read_unread,
    View.ld_unit_zero (S := S1408x1024) hz, View.ld_unit_zero (S := S640x1024) hz]
  refine pieces_first x0 x1 x2 _ _ _ _ _ (fun x => ?_) (fun x => ?_) (fun x => ?_) (fun x => ?_) y
  · rw [View.readCov_eq_canon']
    exact cleared _ _
  · rw [View.readCov_eq_canon']
    exact skip 160 0 (by omega) _ _ _ _ x (cleared _ _)
  · rw [View.readCov_eq_canon']
    exact skip 320 160 (by omega) _ _ _ _ x (skip 320 0 (by omega) _ _ _ _ x (cleared _ _))
  · rw [View.readCov_eq_canon']
    exact skip 480 320 (by omega) _ _ _ _ x (skip 480 160 (by omega) _ _ _ _ x (skip 480 0 (by omega) _ _ _ _ x (cleared _ _)))

/-- Four stores that update the four quarters of the accumulator add the block's product to what it held. -/
theorem pieces_last (y : S640x1024.Idx) :
    View.canon (Val := Elt Ideal) (s := S640x1024) (e := .f32)
      [⟨Rect.unit (s := S640x1024) ![480, 0] S160x1024.size inb_S640x1024_S160x1024_480_0, k0_pay1 (View.ld x0 (Rect.unit (s := S640x1408) ![480, 0] S160x1408.size inb_S640x1408_S160x1408_480_0)) (View.ld x1 (Rect.unit (s := S640x1408) ![480, 0] S160x1408.size inb_S640x1408_S160x1408_480_0)) (k0_pay8 (View.ld x0 (Rect.unit (s := S640x1408) ![480, 0] S160x1408.size inb_S640x1408_S160x1408_480_0))) x2 (View.ld xs (Rect.unit (s := S640x1024) ![480, 0] S160x1024.size inb_S640x1024_S160x1024_480_0))⟩,
       ⟨Rect.unit (s := S640x1024) ![320, 0] S160x1024.size inb_S640x1024_S160x1024_320_0, k0_pay7 (View.ld x0 (Rect.unit (s := S640x1408) ![320, 0] S160x1408.size inb_S640x1408_S160x1408_320_0)) (View.ld x1 (Rect.unit (s := S640x1408) ![320, 0] S160x1408.size inb_S640x1408_S160x1408_320_0)) x2 (View.ld xs (Rect.unit (s := S640x1024) ![320, 0] S160x1024.size inb_S640x1024_S160x1024_320_0))⟩,
       ⟨Rect.unit (s := S640x1024) ![160, 0] S160x1024.size inb_S640x1024_S160x1024_160_0, k0_pay6 (View.ld x1 (Rect.unit (s := S640x1408) ![160, 0] S160x1408.size inb_S640x1408_S160x1408_160_0)) (k0_pay5 (View.ld x0 (Rect.unit (s := S640x1408) ![160, 0] S160x1408.size inb_S640x1408_S160x1408_160_0))) x2 (View.ld xs (Rect.unit (s := S640x1024) ![160, 0] S160x1024.size inb_S640x1024_S160x1024_160_0))⟩,
       ⟨Rect.unit (s := S640x1024) ![0, 0] S160x1024.size inb_S640x1024_S160x1024_0_0, k0_pay4 (View.ld x0 (Rect.unit (s := S640x1408) ![0, 0] S160x1408.size inb_S640x1408_S160x1408_0_0)) (View.ld x1 (Rect.unit (s := S640x1408) ![0, 0] S160x1408.size inb_S640x1408_S160x1408_0_0)) x2 (View.ld xs (Rect.unit (s := S640x1024) ![0, 0] S160x1024.size inb_S640x1024_S160x1024_0_0))⟩] y
      = (show EReal from xs y) + block x0 x1 x2 y := by
  refine View.canon_apply_of_pieces (Val := Elt Ideal) (S := S640x1024) (e := .f32) (fun y => (show EReal from xs y) + block x0 x1 x2 y) _ ?_ y ?_
  rotate_left
  · exact View.cover_of_tiled (s := S640x1024) _ S160x1024.size (by rfl) y
  intro p hp
  simp only [List.mem_cons, List.not_mem_nil, or_false] at hp
  rcases hp with rfl | rfl | rfl | rfl
  · rw [fourth_eq]; exact fun x => quarter_eq 480 x0 x1 x2 _ _ inb_S640x1024_S160x1024_480_0 x
  · rw [third_eq]; exact fun x => quarter_eq 320 x0 x1 x2 _ _ inb_S640x1024_S160x1024_320_0 x
  · rw [second_eq]; exact fun x => quarter_eq 160 x0 x1 x2 _ _ inb_S640x1024_S160x1024_160_0 x
  · exact fun x => quarter_eq 0 x0 x1 x2 _ _ inb_S640x1024_S160x1024_0_0 x

/-- So the last point of a run adds its block's product to what the accumulator held, -/
theorem acc_last (hc0 : ¬cond0_0 i) (hc1 : cond0_1 i) (y : S640x1024.Idx) :
    sout0_B_0 c i a3 h3 a4 h4 a5 h5 a6 h6 a7 h7 a8 h8 hc0 hc1 x0 x1 x2 x3 xs y = (show EReal from xs y) + block x0 x1 x2 y := by
  unfold sout0_B_0
  rw [View.read_writes_eq_canon _ _ _ (scover0_B_0 c i a3 h3 a4 h4 a5 h5 a6 h6 a7 h7 a8 h8 hc0 hc1 x0 x1 x2 x3 xs)]
  unfold kernelRun0_B
  dsimp only
  sl_unfold_words
  simp only [View.readAt_eq_ld, h3.read_unread, h4.read_unread, h5.read_unread, h6.read_unread, h8.read_unread,
    View.ld_unit_zero (S := S1408x1024) hz, View.ld_unit_zero (S := S640x1024) hz]
  exact pieces_last x0 x1 x2 xs y

/-- and writes that sum and the block of the residual, added, to the output's block. -/
theorem out_last (hc0 : ¬cond0_0 i) (hc1 : cond0_1 i) (y : S640x1024.Idx) :
    out0_B_4 c i a3 h3 a4 h4 a5 h5 a6 h6 a7 h7 a8 h8 hc0 hc1 x0 x1 x2 x3 xs y = (show EReal from xs y) + block x0 x1 x2 y + (show EReal from x3 y) := by
  unfold out0_B_4
  rw [View.read_writes_eq_canon _ _ _ (cover0_B_4 c i a3 h3 a4 h4 a5 h5 a6 h6 a7 h7 a8 h8 hc0 hc1 x0 x1 x2 x3 xs)]
  unfold kernelRun0_B
  dsimp only
  sl_unfold_words
  simp only [View.readAt_eq_ld, h3.read_unread, h4.read_unread, h5.read_unread, h6.read_unread, h8.read_unread,
    View.ld_unit_zero (S := S1408x1024) hz, View.ld_unit_zero (S := S640x1024) hz]
  rw [View.canon_unit_zero (S := S640x1024) hz, View.readCov_eq_canon']
  refine (final_apply _ x3 y).trans (congrArg (fun a : EReal => a + _) ?_)
  exact (congrFun (View.ld_unit_zero (S := S640x1024) hz _ _) y).trans (pieces_last x0 x1 x2 xs y)

end Body

/-! ## The blocks the windows stage -/

/-- The windows' block indices at a grid point. -/
theorem idx_facts : ∀ t : Fin cfg0.N, (win0_0.index t 0 = t.val / 2 ∧ win0_0.index t 1 = t.val % 2)
    ∧ (win0_1.index t 0 = t.val / 2 ∧ win0_1.index t 1 = t.val % 2) ∧ (win0_2.index t 0 = t.val % 2 ∧ win0_2.index t 1 = 0)
    ∧ (win0_3.index t 0 = t.val / 2 ∧ win0_3.index t 1 = 0) :=
  (by decide +kernel : ∀ t : Fin grid0.N, _)

/-- The arguments as arrays of extended reals. -/
abbrev X0 (c : Dev nD) : S16640x2816.Idx → EReal := m ((c : Thread nD τ).loc main_arg0)
abbrev X1 (c : Dev nD) : S16640x2816.Idx → EReal := m ((c : Thread nD τ).loc main_arg1)
abbrev X2 (c : Dev nD) : S2816x1024.Idx → EReal := m ((c : Thread nD τ).loc main_arg2)
abbrev X3 (c : Dev nD) : S16640x1024.Idx → EReal := m ((c : Thread nD τ).loc main_arg3)

theorem blk0 (c : Dev nD) (t : Fin cfg0.N) (r : Fin 640) (k : Fin 1408) :
    (iblk m c 0 t : Vec Ideal S640x1408 .f32) (ix2 r k) = at2 (X0 m c) (t.val / 2 * 640 + r.val) (t.val % 2 * 1408 + k.val) := by
  unfold iblk
  rw [View.read_apply]
  refine at2_idx (X0 m c) _ _ _ ?_ ?_
  · show win0_0.index t 0 * 640 + 1 * r.val = _; rw [(idx_facts t).1.1, one_mul]
  · show win0_0.index t 1 * 1408 + 1 * k.val = _; rw [(idx_facts t).1.2, one_mul]

theorem blk1 (c : Dev nD) (t : Fin cfg0.N) (r : Fin 640) (k : Fin 1408) :
    (iblk m c 1 t : Vec Ideal S640x1408 .f32) (ix2 r k) = at2 (X1 m c) (t.val / 2 * 640 + r.val) (t.val % 2 * 1408 + k.val) := by
  unfold iblk
  rw [View.read_apply]
  refine at2_idx (X1 m c) _ _ _ ?_ ?_
  · show win0_1.index t 0 * 640 + 1 * r.val = _; rw [(idx_facts t).2.1.1, one_mul]
  · show win0_1.index t 1 * 1408 + 1 * k.val = _; rw [(idx_facts t).2.1.2, one_mul]

theorem blk2 (c : Dev nD) (t : Fin cfg0.N) (k : Fin 1408) (l : Fin 1024) :
    (iblk m c 2 t : Vec Ideal S1408x1024 .bf16) (ix2 k l) = at2 (X2 m c) (t.val % 2 * 1408 + k.val) l.val := by
  unfold iblk
  rw [View.read_apply]
  refine at2_idx (X2 m c) _ _ _ ?_ ?_
  · show win0_2.index t 0 * 1408 + 1 * k.val = _; rw [(idx_facts t).2.2.1.1, one_mul]
  · show win0_2.index t 1 * 1024 + 1 * l.val = _; rw [(idx_facts t).2.2.1.2, zero_mul, zero_add, one_mul]

theorem blk3 (c : Dev nD) (t : Fin cfg0.N) (r : Fin 640) (k : Fin 1024) :
    (iblk m c 3 t : Vec Ideal S640x1024 .f32) (ix2 r k) = at2 (X3 m c) (t.val / 2 * 640 + r.val) k.val := by
  unfold iblk
  rw [View.read_apply]
  refine at2_idx (X3 m c) _ _ _ ?_ ?_
  · show win0_3.index t 0 * 640 + 1 * r.val = _; rw [(idx_facts t).2.2.2.1, one_mul]
  · show win0_3.index t 1 * 1024 + 1 * k.val = _; rw [(idx_facts t).2.2.2.2, zero_mul, zero_add, one_mul]

/-! ## The accumulator and the result -/

/-- What grid point `n` adds to the accumulator at a place of the block. -/
def addend (c : Dev nD) (n : ℕ) (y : S640x1024.Idx) : EReal :=
  ∑ k : Fin 1408, gated (X0 m c) (X1 m c) (n / 2 * 640 + (y 0).val) (n % 2 * 1408 + k.val) * at2 (X2 m c) (n % 2 * 1408 + k.val) (y 1).val

/-- The block's product at a grid point is the point's addend. -/
theorem block_at (c : Dev nD) (t : Fin cfg0.N) (y : S640x1024.Idx) :
    block (iblk m c 0 t) (iblk m c 1 t) (iblk m c 2 t) y = addend m c t.val y := by
  unfold block addend
  refine Finset.sum_congr rfl fun k _ => congrArg₂ (fun a b : EReal => a * b) ?_ ((at2_of_lt _ _ _ k.isLt (y 1).isLt).trans (blk2 m c t k (y 1)))
  exact congrArg₂ (fun a b : EReal => a * Ideal.div 1 (1 + Ideal.exp (-a)) * b)
    ((at2_of_lt _ _ _ (y 0).isLt k.isLt).trans (blk0 m c t (y 0) k)) ((at2_of_lt _ _ _ (y 0).isLt k.isLt).trans (blk1 m c t (y 0) k))

/-- What the accumulator holds after a point of run `q`: the sum of the run's addends so far. -/
theorem acc_at (c : Dev nD) (q j : ℕ) (hj : j < 2) (h : 2 * q + j < cfg0.N) (y : S640x1024.Idx) :
    (outsAt0 m c (2 * q + j) h).2 y = ∑ s ∈ Finset.range (j + 1), addend m c (2 * q + s) y := by
  refine run_sum (b := 2) (fun n h => (outsAt0 m c n h).2) (addend m c) ?_ ?_ q j hj h y
  · intro n h y hn
    rw [outsAt0_A m c ⟨n, h⟩ hn (by dsimp only; omega)]
    dsimp only
    exact (acc_first _ _ _ _ _ _ _ _ _ _ _ _ _ _ _ _ _ _ _ _ y).trans (block_at m c ⟨n, h⟩ y)
  · intro n h y hn
    rw [outsAt0_B m c ⟨n + 1, h⟩ hn (by dsimp only; omega)]
    dsimp only
    exact (acc_last _ _ _ _ _ _ _ _ _ _ _ _ _ _ _ _ _ _ _ _ _ y).trans (congrArg (fun a : EReal => _ + a) (block_at m c ⟨n + 1, h⟩ y))

/-- What the call leaves in its result: the product over all 2816 columns, and the residual added. -/
theorem result_apply (c : Dev nD) (i : S16640x1024.Idx) :
    Value.G4 m c i = (∑ k : Fin 2816, gated (X0 m c) (X1 m c) (i 0).val k.val * at2 (X2 m c) k.val (i 1).val) + at2 (X3 m c) (i 0).val (i 1).val := by
  have hi0 : (i 0).val < 16640 := (i 0).isLt
  have hi1 : (i 1).val < 1024 := (i 1).isLt
  have hN : cfg0.N = 52 := N_0
  have hq : Value.run4Of i = (i 0).val / 640 := by
    show 1 * ((i 0).val / 640 - 0) + 1 * ((i 1).val / 1024 - 0) = _
    omega
  have hpt : Value.pt4Of i = 2 * Value.run4Of i + 1 := rfl
  have hp : Value.pt4Of i < cfg0.N := by omega
  unfold Value.G4
  rw [dif_pos hp, ← Value.outsAt0_sweep m c _ hp]
  have e : (outsAt0 m c (Value.pt4Of i) hp).1 (Value.loc4Of i)
      = (show EReal from (outsAt0 m c (Value.pt4Of i) hp).2 (Value.loc4Of i)) + (iblk m c 3 ⟨Value.pt4Of i, hp⟩ : Vec Ideal S640x1024 .f32) (Value.loc4Of i) := by
    rw [outsAt0_B m c ⟨Value.pt4Of i, hp⟩ (by dsimp only; omega) (by dsimp only; omega)]
    dsimp only
    rw [out_last, acc_last]
  rw [e]
  refine congrArg₂ (fun a b : EReal => a + b) ((acc_at m c (Value.run4Of i) 1 (by omega) hp (Value.loc4Of i)).trans ?_)
    (((congrArg (iblk m c 3 ⟨Value.pt4Of i, hp⟩ : Vec Ideal S640x1024 .f32) (eq_ix2 (Value.loc4Of i))).trans
      (blk3 m c ⟨Value.pt4Of i, hp⟩ _ _)).trans (congrArg₂ (at2 (X3 m c)) ?_ ?_))
  rotate_left
  · show Value.pt4Of i / 2 * 640 + (i 0).val % 640 = (i 0).val; omega
  · exact Nat.mod_eq_of_lt hi1
  rw [Finset.sum_congr rfl (fun s hs => show addend m c (2 * Value.run4Of i + s) (Value.loc4Of i)
      = ∑ k : Fin 1408, gated (X0 m c) (X1 m c) (i 0).val (s * 1408 + k.val) * at2 (X2 m c) (s * 1408 + k.val) (i 1).val from by
    have hs' : s < 2 := Finset.mem_range.mp hs
    have e0 : (2 * Value.run4Of i + s) / 2 * 640 + (i 0).val % 640 = (i 0).val := by omega
    have e1 : (2 * Value.run4Of i + s) % 2 = s := by omega
    have e2 : (i 1).val % 1024 = (i 1).val := Nat.mod_eq_of_lt hi1
    show (∑ k : Fin 1408, gated (X0 m c) (X1 m c) ((2 * Value.run4Of i + s) / 2 * 640 + (i 0).val % 640) ((2 * Value.run4Of i + s) % 2 * 1408 + k.val)
        * at2 (X2 m c) ((2 * Value.run4Of i + s) % 2 * 1408 + k.val) ((i 1).val % 1024)) = _
    rw [e0, e1, e2]),
    sum_blocks 2 1408 2816 rfl (fun k => gated (X0 m c) (X1 m c) (i 0).val k * at2 (X2 m c) k (i 1).val)]

/-! ## The reference -/

/-- The reference's term of the four arguments. -/
def ref (x0 x1 : Vec Ideal S16640x2816 .f32) (x2 : Vec Ideal S2816x1024 .bf16) (x3 : Vec Ideal S16640x1024 .f32) : FVec Ideal S16640x1024 .f32 :=
  addf x3 (Host.dotGeneral Cert.Reference10Ideal.dot_S16640x2816_S2816x1024_S16640x1024_1_0_0_1_n_n none
    (mulf (mulf x0 (Host.divf (broadcastInDim S16640x2816 ![] Cert.Reference10Ideal.Gen.bcast_S_S16640x2816 (constant Cert.Reference10Ideal.S_ .f32 0x3F800000#32))
        (addf (broadcastInDim S16640x2816 ![] Cert.Reference10Ideal.Gen.bcast_S_S16640x2816 (constant Cert.Reference10Ideal.S_ .f32 0x3F800000#32)) (Host.exp (Host.negf x0))))) x1)
    (extf .f32 x2 Cert.Reference10Ideal.Gen.bitsLt_bf16_f32))

/-- It is, at each index, the same sum. -/
theorem ref_apply (x0 x1 : Vec Ideal S16640x2816 .f32) (x2 : Vec Ideal S2816x1024 .bf16) (x3 : Vec Ideal S16640x1024 .f32) (i : S16640x1024.Idx) :
    ref x0 x1 x2 x3 i = (∑ k : Fin 2816, gated (show S16640x2816.Idx → EReal from x0) (show S16640x2816.Idx → EReal from x1) (i 0).val k.val
      * at2 (show S2816x1024.Idx → EReal from x2) k.val (i 1).val) + at2 (show S16640x1024.Idx → EReal from x3) (i 0).val (i 1).val := by
  unfold ref
  rw [add_comm]
  pointwise
  refine congrArg₂ (fun a b : EReal => a + b) (at2_idx (show S16640x1024.Idx → EReal from x3) _ _ _ rfl rfl) (Finset.sum_congr rfl fun k _ => ?_)
  exact congrArg₂ (fun a b : EReal => a * b)
    (congrArg₂ (fun a b : EReal => a * Ideal.div 1 (1 + Ideal.exp (-a)) * b)
      (at2_idx (show S16640x2816.Idx → EReal from x0) _ _ _ rfl rfl) (at2_idx (show S16640x2816.Idx → EReal from x1) _ _ _ rfl rfl))
    (at2_idx (show S2816x1024.Idx → EReal from x2) _ _ _ rfl rfl)

/-- The call's result is the reference's term of the same arguments. -/
theorem value (c : Dev nD) : Value.G4 m c = ref (X0 m c) (X1 m c) (X2 m c) (X3 m c) :=
  funext fun i => (result_apply m c i).trans (ref_apply _ _ _ _ i).symm

end Cert.DownFwd

end
-- ==== Proof.OutFwd.lean ====
/-
  The output projection with the residual, `h + y · w`: the call multiplies 13 blocks of 1280 rows, one per grid point, each
  contracted whole, and adds the block of `h`; the reference multiplies all rows at once. Over the extended reals each
  element is the same sum.
-/
module

public import proofs.«01_k».proof.Proof.Blocks
public import proofs.«01_k».proof.Proof.Gen.Kernel11Ideal.Value
public import proofs.«01_k».proof.Proof.Gen.Reference11Ideal.Run

@[expose] public section

set_option maxRecDepth 16384

noncomputable section

namespace Cert.OutFwd

open Cert.Kernel11Ideal Cert.Kernel11Ideal.Gen Cert.Blocks
open Idealize.ShloMosaic Idealize.ShloMosaic.TcCoe Idealize.SL.Sem

variable (m : (ℓ : Loc nD τ sig) → Buf (Elt Ideal) ℓ) (ρ : Dev nD → PrngReg)

/-- What the body leaves in its block: its payload of the three input blocks. -/
theorem out_eq (x0 : Vec Ideal S1280x1024 .bf16) (x1 : Vec Ideal S1024x1024 .bf16) (x2 : Vec Ideal S1280x1024 .f32) :
    out0_3 x0 x1 x2 = k0_pay1 x0 x1 x2 := by
  unfold out0_3
  simp only [View.canon_unit_zero (S := S1280x1024) hz, View.ld_unit_zero (S := S1280x1024) hz, View.ld_unit_zero (S := S1024x1024) hz]

/-- The payload at an index: the block product and the residual. -/
theorem product_apply (x0 : Vec Ideal S1280x1024 .bf16) (x1 : Vec Ideal S1024x1024 .bf16) (x2 : Vec Ideal S1280x1024 .f32) (r : Fin 1280) (l : Fin 1024) :
    k0_pay1 x0 x1 x2 (ix2 r l) = x2 (ix2 r l) + ∑ k : Fin 1024, x0 (ix2 r k) * x1 (ix2 k l) := by
  rw [add_comm]
  pointwise [k0_pay1]

/-- The windows' block indices at a grid point: block `t` of the rows, the weight whole. -/
theorem idx_facts : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0)
    ∧ (win0_3.index t 0 = t.val ∧ win0_3.index t 1 = 0) :=
  (by decide +kernel : ∀ t : Fin grid0.N, _)

/-- The arguments as arrays of extended reals. -/
abbrev X0 (c : Dev nD) : S16640x1024.Idx → EReal := m ((c : Thread nD τ).loc main_arg0)
abbrev X1 (c : Dev nD) : S1024x1024.Idx → EReal := m ((c : Thread nD τ).loc main_arg1)
abbrev X2 (c : Dev nD) : S16640x1024.Idx → EReal := m ((c : Thread nD τ).loc main_arg2)

theorem blk0 (c : Dev nD) (t : Fin cfg0.N) (r : Fin 1280) (k : Fin 1024) :
    (iblk m c 0 t : Vec Ideal S1280x1024 .bf16) (ix2 r k) = at2 (X0 m c) (t.val * 1280 + r.val) k.val := by
  unfold iblk
  rw [View.read_apply]
  refine at2_idx (X0 m c) _ _ _ ?_ ?_
  · show win0_0.index t 0 * 1280 + 1 * r.val = _; rw [(idx_facts t).1.1, one_mul]
  · show win0_0.index t 1 * 1024 + 1 * k.val = _; rw [(idx_facts t).1.2, zero_mul, zero_add, one_mul]

theorem blk1 (c : Dev nD) (t : Fin cfg0.N) (l : Fin 1024) (k : Fin 1024) :
    (iblk m c 1 t : Vec Ideal S1024x1024 .bf16) (ix2 l k) = at2 (X1 m c) l.val k.val := by
  unfold iblk
  rw [View.read_apply]
  refine at2_idx (X1 m c) _ _ _ ?_ ?_
  · show win0_1.index t 0 * 1024 + 1 * l.val = _; rw [(idx_facts t).2.1.1, zero_mul, zero_add, one_mul]
  · show win0_1.index t 1 * 1024 + 1 * k.val = _; rw [(idx_facts t).2.1.2, zero_mul, zero_add, one_mul]

theorem blk2 (c : Dev nD) (t : Fin cfg0.N) (r : Fin 1280) (k : Fin 1024) :
    (iblk m c 2 t : Vec Ideal S1280x1024 .f32) (ix2 r k) = at2 (X2 m c) (t.val * 1280 + r.val) k.val := by
  unfold iblk
  rw [View.read_apply]
  refine at2_idx (X2 m c) _ _ _ ?_ ?_
  · show win0_2.index t 0 * 1280 + 1 * r.val = _; rw [(idx_facts t).2.2.1.1, one_mul]
  · show win0_2.index t 1 * 1024 + 1 * k.val = _; rw [(idx_facts t).2.2.1.2, zero_mul, zero_add, one_mul]

/-! ## The reference -/

/-- The reference's term of the three arguments. -/
def ref (x0 : Vec Ideal S16640x1024 .bf16) (x1 : Vec Ideal S1024x1024 .bf16) (x2 : Vec Ideal S16640x1024 .f32) : FVec Ideal S16640x1024 .f32 :=
  addf x2 (Host.dotGeneral Cert.Reference11Ideal.dot_S16640x1024_S1024x1024_S16640x1024_1_0_0_1_n_n none
    (extf .f32 x0 Cert.Reference11Ideal.Gen.bitsLt_bf16_f32) (extf .f32 x1 Cert.Reference11Ideal.Gen.bitsLt_bf16_f32))

/-- It is, at each index, the residual and the product of the row with the column. -/
theorem ref_apply (x0 : Vec Ideal S16640x1024 .bf16) (x1 : Vec Ideal S1024x1024 .bf16) (x2 : Vec Ideal S16640x1024 .f32) (i : S16640x1024.Idx) :
    ref x0 x1 x2 i = at2 x2 (i 0).val (i 1).val + ∑ k : Fin 1024, at2 x0 (i 0).val k.val * at2 x1 k.val (i 1).val := by
  unfold ref
  pointwise
  exact congrArg₂ (· + ·) (at2_idx _ _ _ _ rfl rfl)
    (Finset.sum_congr rfl fun k _ => congrArg₂ (· * ·) (at2_idx _ _ _ _ rfl rfl) (at2_idx _ _ _ _ rfl rfl))

/-! ## The result -/

/-- What a grid point writes back is its block of the reference's term. -/
theorem flushed_eq (c : Dev nD) (t : Fin cfg0.N) :
    (dats m 0 c).flushed 3 t = ((cfg0.win 3).blk t).view.read (Elt Ideal) (ref (X0 m c) (X1 m c) (X2 m c)) := by
  rw [Value.flushed3, out_eq]
  funext y
  show k0_pay1 (iblk m c 0 t) (iblk m c 1 t) (iblk m c 2 t) y = ref (X0 m c) (X1 m c) (X2 m c) (((cfg0.win 3).blk t).view.emb y)
  rw [ref_apply, show (((cfg0.win 3).blk t).view.emb y 0).val = t.val * 1280 + (y 0).val from by
      show win0_3.index t 0 * 1280 + 1 * (y 0).val = _; rw [(idx_facts t).2.2.2.1, one_mul],
    show (((cfg0.win 3).blk t).view.emb y 1).val = (y 1).val from by
      show win0_3.index t 1 * 1024 + 1 * (y 1).val = _; rw [(idx_facts t).2.2.2.2, zero_mul, zero_add, one_mul]]
  refine (congrArg (k0_pay1 (iblk m c 0 t) (iblk m c 1 t) (iblk m c 2 t)) (eq_ix2 y)).trans ((product_apply _ _ _ (y 0) (y 1)).trans ?_)
  exact congrArg₂ (fun a b : EReal => a + b) (blk2 m c t (y 0) (y 1))
    (Finset.sum_congr rfl fun k _ => congrArg₂ (fun a b : EReal => a * b) (blk0 m c t (y 0) k) (blk1 m c t k (y 1)))

/-- An index is in a point's block when each of its coordinates is in the block's range. -/
theorem mem_blk (t : Fin cfg0.N) (i : S16640x1024.Idx) :
    i ∈ ((cfg0.win 3).blk t).view.set ↔
      ∀ a : Fin 2, win0_3.index t a * S1280x1024.size a ≤ (i a).val ∧ (i a).val < win0_3.index t a * S1280x1024.size a + S1280x1024.size a := by
  show i ∈ ((View.whole main_v0).slice (win0_3.rect t)).set ↔ _
  rw [View.set_slice_whole, Rect.mem_set_unit]
  exact Iff.rfl

/-- Every index of the result is in the block of the point that has its row. -/
theorem covered (i : S16640x1024.Idx) :
    ∃ t : Fin cfg0.N, (cfg0.win 3).flush t = true ∧ i ∈ ((cfg0.win 3).blk t).view.set := by
  have hi0 : (i 0).val < 16640 := (i 0).isLt
  have hi1 : (i 1).val < 1024 := (i 1).isLt
  have hN : cfg0.N = 13 := N_0
  refine ⟨⟨(i 0).val / 1280, by omega⟩, flush0_3 _, ?_⟩
  rw [mem_blk]
  intro a
  match a with
  | ⟨0, _⟩ =>
    show win0_3.index _ 0 * 1280 ≤ (i 0).val ∧ (i 0).val < win0_3.index _ 0 * 1280 + 1280
    rw [(idx_facts _).2.2.2.1]; dsimp only; omega
  | ⟨1, _⟩ =>
    show win0_3.index _ 1 * 1024 ≤ (i 1).val ∧ (i 1).val < win0_3.index _ 1 * 1024 + 1024
    rw [(idx_facts _).2.2.2.2]; omega

/-- The result after the run is the reference's term of the arguments. -/
theorem final (c : Dev nD) : (dats m 0 c).arrAt 3 cfg0.N = ref (X0 m c) (X1 m c) (X2 m c) :=
  (dats m 0 c).arrAt_eq_of_cover 3 _ (fun t _ => flushed_eq m c t) covered

end Cert.OutFwd

end
-- ==== Proof.ProjFwd.lean ====
/-
  The input projection, `norm(h) · w`: the call normalises 1280 rows at a time and multiplies them, 320 rows at a
  time, by a block of the weight's columns; the reference normalises all 16640 rows and multiplies once. Over the extended
  reals each element is the same sum.
-/
module

public import proofs.«01_k».proof.Proof.Blocks
public import proofs.«01_k».proof.Proof.Gen.Kernel12Ideal.Value
public import proofs.«01_k».proof.Proof.Gen.Reference12Ideal.Run

@[expose] public section

set_option maxRecDepth 16384

noncomputable section

namespace Cert.ProjFwd

open Cert.Kernel12Ideal Cert.Kernel12Ideal.Gen Cert.Blocks
open Idealize.ShloMosaic Idealize.ShloMosaic.TcCoe Idealize.SL.Sem

variable (m : (ℓ : Loc nD τ sig) → Buf (Elt Ideal) ℓ)

/-! ## What the body leaves in its block -/

/-- A quarter of the block: the product of 320 normalised rows with the weight's block. -/
theorem quarter_apply (v : Vec Ideal S320x1024 .f32) (w : Vec Ideal S1x1024 .f32) (u : Vec Ideal S1024x1024 .bf16) (r : Fin 320) (l : Fin 1024) :
    k0_pay2 v w u (ix2 r l)
      = ∑ k : Fin 1024, v (ix2 r k) * Ideal.rsqrt (Ideal.div (∑ e : Fin 1024, v (ix2 r e) * v (ix2 r e)) (Ideal.ofBits .f32 0x44800000#32)
          + Ideal.ofBits .f32 0x358637BD#32) * w (ix2 0 k) * u (ix2 k l) := by
  pointwise [k0_pay2]

/-- The other three quarters are computed alike. -/
theorem second_eq (v : Vec Ideal S320x1024 .f32) (w : Vec Ideal S1x1024 .f32) (u : Vec Ideal S1024x1024 .bf16) :
    k0_pay4 u (k0_pay3 v w) (constant S320x1024 .f32 0x00000000#32) = k0_pay2 v w u := rfl
theorem third_eq (v : Vec Ideal S320x1024 .f32) (w : Vec Ideal S1x1024 .f32) (u : Vec Ideal S1024x1024 .bf16) :
    k0_pay5 v w u = k0_pay2 v w u := rfl
theorem fourth_eq (v : Vec Ideal S320x1024 .f32) (w : Vec Ideal S1x1024 .f32) (u : Vec Ideal S1024x1024 .bf16) :
    k0_pay1 (k0_pay6 v w) u = k0_pay2 v w u := rfl

/-- The block's product at an index of the block. -/
def block (x0 : Vec Ideal S1280x1024 .f32) (x1 : Vec Ideal S1x1024 .f32) (x2 : Vec Ideal S1024x1024 .bf16) (y : S1280x1024.Idx) : EReal :=
  ∑ k : Fin 1024, normed (show S1280x1024.Idx → EReal from x0) (show S1x1024.Idx → EReal from x1) (y 0).val k.val
    * at2 (show S1024x1024.Idx → EReal from x2) k.val (y 1).val

/-- A quarter that begins at row `o` is the block's product at the rows from `o` on. -/
theorem quarter_eq (o : ℕ) (x0 : Vec Ideal S1280x1024 .f32) (x1 : Vec Ideal S1x1024 .f32) (x2 : Vec Ideal S1024x1024 .bf16)
    (hi : ∀ a, (![o, 0] : Fin 2 → ℕ) a + S320x1024.size a ≤ S1280x1024.size a) (ho : ∀ a, (![o, 0] : Fin 2 → ℕ) a + S320x1024.size a ≤ S1280x1024.size a)
    (x : S320x1024.Idx) :
    k0_pay2 (F := Ideal) (View.ld x0 (Rect.unit (s := S1280x1024) ![o, 0] S320x1024.size hi)) x1 x2 x
      = block x0 x1 x2 ((Rect.unit (s := S1280x1024) ![o, 0] S320x1024.size ho).emb x) := by
  refine (congrArg _ (eq_ix2 x)).trans ((quarter_apply _ x1 x2 (x 0) (x 1)).trans ?_)
  have e0 : (((Rect.unit (s := S1280x1024) ![o, 0] S320x1024.size ho).emb x) 0).val = o + (x 0).val := by
    show o + 1 * (x 0).val = _; rw [one_mul]
  have e1 : (((Rect.unit (s := S1280x1024) ![o, 0] S320x1024.size ho).emb x) 1).val = (x 1).val := by
    show 0 + 1 * (x 1).val = _; rw [one_mul, zero_add]
  unfold block
  rw [e0, e1]
  have row : ∀ k : Fin 1024, View.ld x0 (Rect.unit (s := S1280x1024) ![o, 0] S320x1024.size hi) (ix2 (x 0) k)
      = at2 (show S1280x1024.Idx → EReal from x0) (o + (x 0).val) k.val := fun k =>
    at2_idx (show S1280x1024.Idx → EReal from x0) _ _ _ (by show o + 1 * (x 0).val = _; rw [one_mul]) (by show 0 + 1 * k.val = _; rw [one_mul, zero_add])
  exact Finset.sum_congr rfl fun k _ => congrArg₂ (fun a b : EReal => a * b)
    (normed_of _ _ _ _ (row k) row (at2_idx (show S1x1024.Idx → EReal from x1) _ _ _ rfl rfl))
    (at2_idx (show S1024x1024.Idx → EReal from x2) _ _ _ rfl rfl)

/-- The four stores leave the block's product. -/
theorem out_eq (x0 : Vec Ideal S1280x1024 .f32) (x1 : Vec Ideal S1x1024 .f32) (x2 : Vec Ideal S1024x1024 .bf16) (y : S1280x1024.Idx) :
    out0_3 x0 x1 x2 y = block x0 x1 x2 y := by
  unfold out0_3
  rw [View.ld_unit_zero (S := S1x1024) hz, View.ld_unit_zero (S := S1024x1024) hz]
  refine View.canon_apply_of_pieces (Val := Elt Ideal) (block x0 x1 x2) _ ?_ y (cover0_3 _ _ _ _ y)
  intro p hp
  simp only [List.mem_cons, List.not_mem_nil, or_false] at hp
  rcases hp with rfl | rfl | rfl | rfl
  · rw [fourth_eq]; exact fun x => quarter_eq 960 x0 x1 x2 _ inb_S1280x1024_S320x1024_960_0 x
  · rw [third_eq]; exact fun x => quarter_eq 640 x0 x1 x2 _ inb_S1280x1024_S320x1024_640_0 x
  · rw [second_eq]; exact fun x => quarter_eq 320 x0 x1 x2 _ inb_S1280x1024_S320x1024_320_0 x
  · exact fun x => quarter_eq 0 x0 x1 x2 _ inb_S1280x1024_S320x1024_0_0 x

/-! ## The blocks the windows stage -/

/-- The windows' block indices at a grid point. -/
theorem idx_facts : ∀ t : Fin cfg0.N, (win0_0.index t 0 = t.val / 3 ∧ win0_0.index t 1 = 0)
    ∧ (win0_1.index t 0 = 0 ∧ win0_1.index t 1 = 0) ∧ (win0_2.index t 0 = 0 ∧ win0_2.index t 1 = t.val % 3)
    ∧ (win0_3.index t 0 = t.val / 3 ∧ win0_3.index t 1 = t.val % 3) :=
  (by decide +kernel : ∀ t : Fin grid0.N, _)

/-- The arguments as arrays of extended reals. -/
abbrev X0 (c : Dev nD) : S16640x1024.Idx → EReal := m ((c : Thread nD τ).loc main_arg0)
abbrev X1 (c : Dev nD) : S1x1024.Idx → EReal := m ((c : Thread nD τ).loc main_arg1)
abbrev X2 (c : Dev nD) : S1024x3072.Idx → EReal := m ((c : Thread nD τ).loc main_arg2)

/-- The block of rows, -/
theorem blk0 (c : Dev nD) (t : Fin cfg0.N) (r k : ℕ) (hr : r < 1280) (hk : k < 1024) :
    at2 (show S1280x1024.Idx → EReal from iblk m c 0 t) r k = at2 (X0 m c) (t.val / 3 * 1280 + r) k := by
  rw [at2_of_lt _ r k hr hk]
  show (iblk m c 0 t : Vec Ideal S1280x1024 .f32) (ix2 ⟨r, hr⟩ ⟨k, hk⟩) = _
  unfold iblk
  rw [View.read_apply]
  refine at2_idx (X0 m c) _ _ _ ?_ ?_
  · show win0_0.index t 0 * 1280 + 1 * r = _; rw [(idx_facts t).1.1, one_mul]
  · show win0_0.index t 1 * 1024 + 1 * k = _; rw [(idx_facts t).1.2, zero_mul, zero_add, one_mul]

/-- the norm's weight, whole, -/
theorem blk1 (c : Dev nD) (t : Fin cfg0.N) (k : ℕ) (hk : k < 1024) :
    at2 (show S1x1024.Idx → EReal from iblk m c 1 t) 0 k = at2 (X1 m c) 0 k := by
  rw [at2_of_lt _ 0 k Nat.one_pos hk]
  show (iblk m c 1 t : Vec Ideal S1x1024 .f32) (ix2 ⟨0, Nat.one_pos⟩ ⟨k, hk⟩) = _
  unfold iblk
  rw [View.read_apply]
  refine at2_idx (X1 m c) _ _ _ ?_ ?_
  · show win0_1.index t 0 * 1 + 1 * 0 = _; rw [(idx_facts t).2.1.1]
  · show win0_1.index t 1 * 1024 + 1 * k = _; rw [(idx_facts t).2.1.2, zero_mul, zero_add, one_mul]

/-- and the block of the weight's columns. -/
theorem blk2 (c : Dev nD) (t : Fin cfg0.N) (k l : ℕ) (hk : k < 1024) (hl : l < 1024) :
    at2 (show S1024x1024.Idx → EReal from iblk m c 2 t) k l = at2 (X2 m c) k (t.val % 3 * 1024 + l) := by
  rw [at2_of_lt _ k l hk hl]
  show (iblk m c 2 t : Vec Ideal S1024x1024 .bf16) (ix2 ⟨k, hk⟩ ⟨l, hl⟩) = _
  unfold iblk
  rw [View.read_apply]
  refine at2_idx (X2 m c) _ _ _ ?_ ?_
  · show win0_2.index t 0 * 1024 + 1 * k = _; rw [(idx_facts t).2.2.1.1, zero_mul, zero_add, one_mul]
  · show win0_2.index t 1 * 1024 + 1 * l = _; rw [(idx_facts t).2.2.1.2, one_mul]

/-! ## The reference -/

/-- The reference's term of the three arguments. -/
def ref (x0 : Vec Ideal S16640x1024 .f32) (x1 : Vec Ideal S1x1024 .f32) (x2 : Vec Ideal S1024x3072 .bf16) : FVec Ideal S16640x3072 .f32 :=
  Host.dotGeneral Cert.Reference12Ideal.dot_S16640x1024_S1024x3072_S16640x3072_1_0_0_1_n_n none
    (mulf (mulf x0 (broadcastInDim S16640x1024 ![0, 1] Cert.Reference12Ideal.Gen.bcast_S16640x1_S16640x1024_0_1
          (Host.rsqrt (addf (Host.divf (broadcastInDim Cert.Reference12Ideal.S16640x1 ![0] Cert.Reference12Ideal.Gen.bcast_S16640_S16640x1_0
              (Host.reduceAdd (mulf x0 x0) (constant Cert.Reference12Ideal.S_ .f32 0x00000000#32) Cert.Reference12Ideal.Gen.reducesTo_S16640x1024_S16640_d1 Cert.Reference12Ideal.Gen.h_S_))
            (broadcastInDim Cert.Reference12Ideal.S16640x1 ![] Cert.Reference12Ideal.Gen.bcast_S_S16640x1 (constant Cert.Reference12Ideal.S_ .f32 0x44800000#32)))
            (broadcastInDim Cert.Reference12Ideal.S16640x1 ![] Cert.Reference12Ideal.Gen.bcast_S_S16640x1 (constant Cert.Reference12Ideal.S_ .f32 0x358637BD#32))))))
        (broadcastInDim S16640x1024 ![0, 1] Cert.Reference12Ideal.Gen.bcast_S1x1024_S16640x1024_0_1 x1))
    (extf .f32 x2 Cert.Reference12Ideal.Gen.bitsLt_bf16_f32)

/-- It is, at each index, the product of the normalised row with the weight's column. -/
theorem ref_apply (x0 : Vec Ideal S16640x1024 .f32) (x1 : Vec Ideal S1x1024 .f32) (x2 : Vec Ideal S1024x3072 .bf16) (i : S16640x3072.Idx) :
    ref x0 x1 x2 i = ∑ k : Fin 1024, normed x0 x1 (i 0).val k.val * at2 x2 k.val (i 1).val := by
  unfold ref
  pointwise
  exact Finset.sum_congr rfl fun k _ => congrArg₂ (· * ·)
    (normed_of x0 x1 _ _ (at2_idx _ _ _ _ rfl rfl) (fun e => at2_idx _ _ _ _ rfl rfl) (at2_idx _ _ _ _ rfl rfl)) (at2_idx _ _ _ _ rfl rfl)

/-! ## The result -/

/-- What a grid point writes back is its block of the reference's term. -/
theorem flushed_eq (c : Dev nD) (t : Fin cfg0.N) :
    (dats m 0 c).flushed 3 t = ((cfg0.win 3).blk t).view.read (Elt Ideal) (ref (X0 m c) (X1 m c) (X2 m c)) := by
  rw [Value.flushed3]
  funext y
  show out0_3 (iblk m c 0 t) (iblk m c 1 t) (iblk m c 2 t) y = ref (X0 m c) (X1 m c) (X2 m c) (((cfg0.win 3).blk t).view.emb y)
  rw [ref_apply, out_eq, show (((cfg0.win 3).blk t).view.emb y 0).val = t.val / 3 * 1280 + (y 0).val from by
      show win0_3.index t 0 * 1280 + 1 * (y 0).val = _; rw [(idx_facts t).2.2.2.1, one_mul],
    show (((cfg0.win 3).blk t).view.emb y 1).val = t.val % 3 * 1024 + (y 1).val from by
      show win0_3.index t 1 * 1024 + 1 * (y 1).val = _; rw [(idx_facts t).2.2.2.2, one_mul]]
  have row : ∀ k : Fin 1024, at2 (show S1280x1024.Idx → EReal from iblk m c 0 t) (y 0).val k.val
      = at2 (X0 m c) (t.val / 3 * 1280 + (y 0).val) k.val := fun k => blk0 m c t _ _ (y 0).isLt k.isLt
  exact Finset.sum_congr rfl fun k _ => congrArg₂ (fun a b : EReal => a * b)
    (normed_of (X0 m c) (X1 m c) _ _ (row k) row (blk1 m c t _ k.isLt)) (blk2 m c t _ _ k.isLt (y 1).isLt)

/-- An index is in a point's block when each of its coordinates is in the block's range. -/
theorem mem_blk (t : Fin cfg0.N) (i : S16640x3072.Idx) :
    i ∈ ((cfg0.win 3).blk t).view.set ↔
      ∀ a : Fin 2, win0_3.index t a * S1280x1024.size a ≤ (i a).val ∧ (i a).val < win0_3.index t a * S1280x1024.size a + S1280x1024.size a := by
  show i ∈ ((View.whole main_v0).slice (win0_3.rect t)).set ↔ _
  rw [View.set_slice_whole, Rect.mem_set_unit]
  exact Iff.rfl

/-- Every index of the result is in the block of the point that has its row and its column. -/
theorem covered (i : S16640x3072.Idx) :
    ∃ t : Fin cfg0.N, (cfg0.win 3).flush t = true ∧ i ∈ ((cfg0.win 3).blk t).view.set := by
  have hi0 : (i 0).val < 16640 := (i 0).isLt
  have hi1 : (i 1).val < 3072 := (i 1).isLt
  have hN : cfg0.N = 39 := N_0
  refine ⟨⟨(i 0).val / 1280 * 3 + (i 1).val / 1024, by omega⟩, flush0_3 _, ?_⟩
  rw [mem_blk]
  intro a
  match a with
  | ⟨0, _⟩ =>
    show win0_3.index _ 0 * 1280 ≤ (i 0).val ∧ (i 0).val < win0_3.index _ 0 * 1280 + 1280
    rw [(idx_facts _).2.2.2.1]; dsimp only; omega
  | ⟨1, _⟩ =>
    show win0_3.index _ 1 * 1024 ≤ (i 1).val ∧ (i 1).val < win0_3.index _ 1 * 1024 + 1024
    rw [(idx_facts _).2.2.2.2]; dsimp only; omega

/-- The result after the run is the reference's term of the arguments. -/
theorem final (c : Dev nD) : (dats m 0 c).arrAt 3 cfg0.N = ref (X0 m c) (X1 m c) (X2 m c) :=
  (dats m 0 c).arrAt_eq_of_cover 3 _ (fun t _ => flushed_eq m c t) covered

end Cert.ProjFwd

end
-- ==== Proof.RmsGrad.lean ====
/-
  The gradient of the RMS norm of one row of 1024 numbers, over the extended reals: as the step's calls write it, with the
  normalised row, and as the derivative writes it, with the inner product of the row and the gradient. On rows of reals the
  two are one number.
-/
module

public import proofs.«01_k».proof.Proof.Finite

@[expose] public section

noncomputable section

namespace Cert.RmsGrad

open Idealize.ShloMosaic

/-- The row's length, the norm's small constant and minus a half, as the programs print them. -/
theorem ofBits_len : Ideal.ofBits .f32 0x44800000#32 = ((1024 : ℝ) : EReal) := by
  simp [Ideal.ofBits, Ideal.ieee]; rw [← EReal.coe_mul]; norm_num
theorem ofBits_eps : ∃ e : ℝ, 0 < e ∧ Ideal.ofBits .f32 0x358637BD#32 = e := by
  refine ⟨_, ?_, by simp [Ideal.ofBits, Ideal.ieee]; rfl⟩
  norm_num
theorem ofBits_half : Ideal.ofBits .f32 0xBF000000#32 = ((-(1 / 2) : ℝ) : EReal) := by
  simp [Ideal.ofBits, Ideal.ieee]; rw [← EReal.coe_mul]; norm_num

/-- A sum of reals is the real sum. -/
theorem coe_sum {n : ℕ} (f : Fin n → ℝ) : (∑ k, (f k : EReal)) = ((∑ k, f k : ℝ) : EReal) := by
  induction (Finset.univ : Finset (Fin n)) using Finset.induction_on with
  | empty => simp
  | insert k s hk ih => rw [Finset.sum_insert hk, Finset.sum_insert hk, ih, EReal.coe_add]

/-- The row's mean square plus the small constant. -/
def meanSq {n : ℕ} (x : Fin n → EReal) : EReal :=
  Ideal.div (∑ l, x l * x l) (Ideal.ofBits .f32 0x44800000#32) + Ideal.ofBits .f32 0x358637BD#32

/-- The factor that normalises the row. -/
def scale {n : ℕ} (x : Fin n → EReal) : EReal := Ideal.rsqrt (meanSq x)

/-- The gradient of the row as the calls write it. -/
def callGrad {n : ℕ} (x g : Fin n → EReal) (k : Fin n) : EReal :=
  scale x * (g k - x k * scale x * Ideal.div (∑ l, g l * (x l * scale x)) (Ideal.ofBits .f32 0x44800000#32))

/-- The derivative's coefficient of the row itself. -/
def coeff {n : ℕ} (x g : Fin n → EReal) : EReal :=
  Ideal.div ((∑ l, x l * g l) * (Ideal.ofBits .f32 0xBF000000#32 * Ideal.div (scale x) (meanSq x))) (Ideal.ofBits .f32 0x44800000#32)

/-- The gradient of the row as the derivative writes it. -/
def refGrad {n : ℕ} (x g : Fin n → EReal) (k : Fin n) : EReal :=
  g k * scale x + x k * coeff x g + coeff x g * x k

/-- Of a row of reals, the mean square plus the constant is a positive real, and the factor its reciprocal root. -/
theorem scale_real {n : ℕ} (a : Fin n → ℝ) :
    ∃ s r : ℝ, 0 < s ∧ r * r * s = 1 ∧ meanSq (fun k => (a k : EReal)) = s ∧ scale (fun k => (a k : EReal)) = r := by
  obtain ⟨e, he, hE⟩ := ofBits_eps
  have hs : (0 : ℝ) < (∑ l, a l * a l) * (1 / 1024) + e :=
    add_pos_of_nonneg_of_pos (mul_nonneg (Finset.sum_nonneg fun l _ => mul_self_nonneg _) (by norm_num)) he
  have hm : meanSq (fun k => (a k : EReal)) = (((∑ l, a l * a l) * (1 / 1024) + e : ℝ) : EReal) := by
    unfold meanSq
    rw [hE, ofBits_len, Ideal.div_coe (by norm_num), Finset.sum_congr rfl fun l _ => (EReal.coe_mul (a l) (a l)).symm,
      coe_sum (fun l => a l * a l), ← EReal.coe_mul, ← EReal.coe_add]
  refine ⟨_, (Real.sqrt ((∑ l, a l * a l) * (1 / 1024) + e))⁻¹, hs, ?_, hm, ?_⟩
  · have h2 := Real.mul_self_sqrt hs.le
    have h3 : Real.sqrt ((∑ l, a l * a l) * (1 / 1024) + e) ≠ 0 := (Real.sqrt_pos.2 hs).ne'
    rw [← mul_inv, h2, inv_mul_cancel₀ hs.ne']
  · unfold scale
    rw [hm, Ideal.rsqrt_coe, if_neg (not_lt.2 hs.le), if_neg hs.ne']

/-- On rows of reals the two gradients are equal. -/
theorem grad_eq {n : ℕ} (x g : Fin n → EReal) (hx : ∀ k, ∃ r : ℝ, x k = r) (hg : ∀ k, ∃ r : ℝ, g k = r) (k : Fin n) :
    callGrad x g k = refGrad x g k := by
  choose a ha using hx
  choose b hb using hg
  obtain rfl : x = fun k => (a k : EReal) := funext ha
  obtain rfl : g = fun k => (b k : EReal) := funext hb
  obtain ⟨s, r, hs, hrs, hm, hr⟩ := scale_real a
  have h1 : (∑ l, (b l : EReal) * ((a l : EReal) * (r : EReal))) = ((∑ l, a l * b l) * r : ℝ) := by
    rw [Finset.sum_mul, ← coe_sum]
    exact Finset.sum_congr rfl fun l _ => by rw [← EReal.coe_mul, ← EReal.coe_mul]; congr 1; ring
  have h2 : (∑ l, (a l : EReal) * (b l : EReal)) = (∑ l, a l * b l : ℝ) := by
    rw [← coe_sum]
    exact Finset.sum_congr rfl fun l _ => (EReal.coe_mul _ _).symm
  unfold callGrad refGrad coeff
  rw [hr, hm, h1, h2, ofBits_len, ofBits_half, Ideal.div_coe (by norm_num), Ideal.div_coe (by norm_num), Ideal.div_coe hs.ne']
  have h3 : 1 / s = r * r := by rw [div_eq_iff hs.ne', hrs]
  rw [h3]
  norm_cast
  push_cast
  norm_cast
  ring

end Cert.RmsGrad

end
-- ==== Proof.RmsBwd.lean ====
/-
  The backward call of the RMS norm with the residual's gradient added, and the gradient of the norm's weight: the call
  takes 640 rows at a time, writes the rows' gradient and adds the weight's gradient in an output block that stays over the
  26 blocks of rows; the reference takes the derivative of all 16640 rows at once. On finite arguments the two agree.
-/
module

public import proofs.«01_k».proof.Proof.RmsGrad
public import proofs.«01_k».proof.Proof.Gen.Kernel13Ideal.Value
public import proofs.«01_k».proof.Proof.Gen.Reference13Ideal.Run
public import proofs.«01_k».proof.Proof.Gen.Pre_finite_rows

@[expose] public section

set_option maxRecDepth 16384

noncomputable section

namespace Cert.RmsBwd

open Cert.Kernel13Ideal Cert.Kernel13Ideal.Gen Cert.Blocks Cert.RmsGrad
open Idealize.ShloMosaic Idealize.ShloMosaic.TcCoe Idealize.SL.Sem

variable (m : (ℓ : Loc nD τ sig) → Buf (Elt Ideal) ℓ)

/-! ## What the body leaves at one grid point -/

section Body
variable (c : Dev nD) (i : grid0.Coords)
  (a1 : Memref sig .tc .vmem S640x1024 .f32) (h1 : a1.IsWhole) (a2 : Memref sig .tc .vmem S640x1024 .f32) (h2 : a2.IsWhole)
  (a3 : Memref sig .tc .vmem S1x1024 .f32) (h3 : a3.IsWhole) (a4 : Memref sig .tc .vmem S640x1024 .f32) (h4 : a4.IsWhole)
  (a5 : Memref sig .tc .vmem S640x1024 .f32) (h5 : a5.IsWhole) (a6 : Memref sig .tc .vmem S1x1024 .f32) (h6 : a6.IsWhole)
  (x0 x1 : Vec Ideal S640x1024 .f32) (x2 : Vec Ideal S1x1024 .f32) (x3 : Vec Ideal S640x1024 .f32) (xo : Vec Ideal S1x1024 .f32)

/-- The first point and the later ones leave the same function of the point's blocks in the rows' block. -/
theorem rows_first (hc0 : cond0_0 i) :
    out0_A_4 c i a1 h1 a2 h2 a3 h3 a4 h4 a5 h5 a6 h6 hc0 x0 x1 x2 x3 = k0_pay4 x1 x0 x2 x3 := by
  unfold out0_A_4
  rw [View.read_writes_eq_canon _ _ _ (cover0_A_4 c i a1 h1 a2 h2 a3 h3 a4 h4 a5 h5 a6 h6 hc0 x0 x1 x2 x3)]
  unfold kernelRun0_A
  dsimp only
  sl_unfold_words
  rw [View.canon_unit_zero (S := S640x1024) hz]
  simp only [View.readAt_eq_ld, h1.read_unread, h2.read_unread, h3.read_unread, h4.read_unread,
    View.ld_unit_zero (S := S640x1024) hz, View.ld_unit_zero (S := S1x1024) hz]

theorem rows_later (hc0 : ¬cond0_0 i) :
    out0_B_4 c i a1 h1 a2 h2 a3 h3 a4 h4 a5 h5 a6 h6 hc0 x0 x1 x2 x3 xo = k0_pay4 x1 x0 x2 x3 := by
  unfold out0_B_4
  rw [View.read_writes_eq_canon _ _ _ (cover0_B_4 c i a1 h1 a2 h2 a3 h3 a4 h4 a5 h5 a6 h6 hc0 x0 x1 x2 x3 xo)]
  unfold kernelRun0_B
  dsimp only
  sl_unfold_words
  rw [View.canon_unit_zero (S := S640x1024) hz]
  simp only [View.readAt_eq_ld, h1.read_unread, h2.read_unread, h3.read_unread, h4.read_unread,
    View.ld_unit_zero (S := S640x1024) hz, View.ld_unit_zero (S := S1x1024) hz]

/-- The first point leaves in the weight's block the update of zeros, -/
theorem weight_first (hc0 : cond0_0 i) :
    out0_A_5 c i a1 h1 a2 h2 a3 h3 a4 h4 a5 h5 a6 h6 hc0 x0 x1 x2 x3
      = k0_pay1 (k0_pay6 (k0_pay5 (F := Ideal))) (k0_pay7 x1 x0) := by
  unfold out0_A_5
  rw [View.read_writes_eq_canon _ _ _ (cover0_A_5 c i a1 h1 a2 h2 a3 h3 a4 h4 a5 h5 a6 h6 hc0 x0 x1 x2 x3)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread,
    View.ld_unit_zero (S := S640x1024) hz, View.ld_unit_zero (S := S1x1024) hz]

/-- and a later one the update of what it held. -/
theorem weight_later (hc0 : ¬cond0_0 i) :
    out0_B_5 c i a1 h1 a2 h2 a3 h3 a4 h4 a5 h5 a6 h6 hc0 x0 x1 x2 x3 xo = k0_pay1 (k0_pay6 xo) (k0_pay7 x1 x0) := by
  unfold out0_B_5
  rw [View.read_writes_eq_canon _ _ _ (cover0_B_5 c i a1 h1 a2 h2 a3 h3 a4 h4 a5 h5 a6 h6 hc0 x0 x1 x2 x3 xo)]
  unfold kernelRun0_B
  dsimp only
  sl_unfold_words
  rw [View.canon_unit_zero (S := S1x1024) hz]
  simp only [View.readAt_eq_ld, h1.read_unread, h2.read_unread, h3.read_unread, h4.read_unread, h6.read_unread,
    View.ld_unit_zero (S := S640x1024) hz, View.ld_unit_zero (S := S1x1024) hz]

end Body

/-- The rows' block at an index: the row's gradient added to the residual's. -/
theorem rows_apply (v0 v11 : Vec Ideal S640x1024 .f32) (v12 : Vec Ideal S1x1024 .f32) (v15 : Vec Ideal S640x1024 .f32) (r : Fin 640) (l : Fin 1024) :
    k0_pay4 v0 v11 v12 v15 (ix2 r l)
      = v15 (ix2 r l) + callGrad (fun k => v0 (ix2 r k)) (fun k => v11 (ix2 r k) * v12 (ix2 0 k)) l := by
  unfold callGrad scale meanSq
  pointwise [k0_pay4, k0_pay3, k0_pay2]

/-- The weight's block at an index: what it held and the sum over the block's rows. -/
theorem weight_apply (v0 v33 : Vec Ideal S640x1024 .f32) (v31 : Vec Ideal S1x1024 .f32) (l : Fin 1024) :
    k0_pay1 (k0_pay6 v31) (k0_pay7 v0 v33) (ix2 0 l)
      = v31 (ix2 0 l) + ∑ r : Fin 640, v33 (ix2 r l) * (v0 (ix2 r l) * scale (fun k => v0 (ix2 r k))) := by
  unfold scale meanSq
  pointwise [k0_pay1, k0_pay6, k0_pay7, k0_pay3, k0_pay2]

theorem zero_apply (y : S1x1024.Idx) : (k0_pay5 (F := Ideal)) y = 0 := by
  pointwise [k0_pay5]

/-! ## The blocks the windows stage -/

/-- The windows' block indices at a grid point. -/
theorem idx_facts : ∀ t : Fin cfg0.N, (win0_0.index t 0 = t.val ∧ win0_0.index t 1 = 0)
    ∧ (win0_1.index t 0 = t.val ∧ win0_1.index t 1 = 0) ∧ (win0_2.index t 0 = 0 ∧ win0_2.index t 1 = 0)
    ∧ (win0_3.index t 0 = t.val ∧ win0_3.index t 1 = 0) ∧ (win0_4.index t 0 = t.val ∧ win0_4.index t 1 = 0)
    ∧ (win0_5.index t 0 = 0 ∧ win0_5.index t 1 = 0) :=
  (by decide +kernel : ∀ t : Fin grid0.N, _)

/-- The weight's block is written back at the last point only. -/
theorem flush5 : ∀ t : Fin cfg0.N, (cfg0.win 5).flush t = true ↔ t.val = 25 :=
  (by decide +kernel : ∀ t : Fin grid0.N, _)

/-- The arguments as arrays of extended reals. -/
abbrev X0 (c : Dev nD) : S16640x1024.Idx → EReal := m ((c : Thread nD τ).loc main_arg0)
abbrev X1 (c : Dev nD) : S16640x1024.Idx → EReal := m ((c : Thread nD τ).loc main_arg1)
abbrev X2 (c : Dev nD) : S1x1024.Idx → EReal := m ((c : Thread nD τ).loc main_arg2)
abbrev X3 (c : Dev nD) : S16640x1024.Idx → EReal := m ((c : Thread nD τ).loc main_arg3)

theorem blk0 (c : Dev nD) (t : Fin cfg0.N) (r : Fin 640) (k : Fin 1024) :
    (iblk m c 0 t : Vec Ideal S640x1024 .f32) (ix2 r k) = at2 (X0 m c) (t.val * 640 + r.val) k.val := by
  unfold iblk
  rw [View.read_apply]
  refine at2_idx (X0 m c) _ _ _ ?_ ?_
  · show win0_0.index t 0 * 640 + 1 * r.val = _; rw [(idx_facts t).1.1, one_mul]
  · show win0_0.index t 1 * 1024 + 1 * k.val = _; rw [(idx_facts t).1.2, zero_mul, zero_add, one_mul]

theorem blk1 (c : Dev nD) (t : Fin cfg0.N) (r : Fin 640) (k : Fin 1024) :
    (iblk m c 1 t : Vec Ideal S640x1024 .f32) (ix2 r k) = at2 (X1 m c) (t.val * 640 + r.val) k.val := by
  unfold iblk
  rw [View.read_apply]
  refine at2_idx (X1 m c) _ _ _ ?_ ?_
  · show win0_1.index t 0 * 640 + 1 * r.val = _; rw [(idx_facts t).2.1.1, one_mul]
  · show win0_1.index t 1 * 1024 + 1 * k.val = _; rw [(idx_facts t).2.1.2, zero_mul, zero_add, one_mul]

theorem blk2 (c : Dev nD) (t : Fin cfg0.N) (k : Fin 1024) :
    (iblk m c 2 t : Vec Ideal S1x1024 .f32) (ix2 0 k) = at2 (X2 m c) 0 k.val := by
  unfold iblk
  rw [View.read_apply]
  refine at2_idx (X2 m c) _ _ _ ?_ ?_
  · show win0_2.index t 0 * 1 + 1 * 0 = _; rw [(idx_facts t).2.2.1.1]
  · show win0_2.index t 1 * 1024 + 1 * k.val = _; rw [(idx_facts t).2.2.1.2, zero_mul, zero_add, one_mul]

theorem blk3 (c : Dev nD) (t : Fin cfg0.N) (r : Fin 640) (k : Fin 1024) :
    (iblk m c 3 t : Vec Ideal S640x1024 .f32) (ix2 r k) = at2 (X3 m c) (t.val * 640 + r.val) k.val := by
  unfold iblk
  rw [View.read_apply]
  refine at2_idx (X3 m c) _ _ _ ?_ ?_
  · show win0_3.index t 0 * 640 + 1 * r.val = _; rw [(idx_facts t).2.2.2.1.1, one_mul]
  · show win0_3.index t 1 * 1024 + 1 * k.val = _; rw [(idx_facts t).2.2.2.1.2, zero_mul, zero_add, one_mul]

/-! ## What the two arrays hold -/

/-- A row of an array, and a row of the incoming gradient times the weight. -/
def row (x : S16640x1024.Idx → EReal) (r : ℕ) (k : Fin 1024) : EReal := at2 x r k.val
def rowGrad (x0 : S16640x1024.Idx → EReal) (x2 : S1x1024.Idx → EReal) (r : ℕ) (k : Fin 1024) : EReal := at2 x0 r k.val * at2 x2 0 k.val

/-- The rows' gradient as an array of the arguments. -/
def rowsArr (x0 x1 : S16640x1024.Idx → EReal) (x2 : S1x1024.Idx → EReal) (x3 : S16640x1024.Idx → EReal) : S16640x1024.Idx → EReal :=
  fun i => at2 x3 (i 0).val (i 1).val + callGrad (row x1 (i 0).val) (rowGrad x0 x2 (i 0).val) (i 1)

/-- One row's addend of the weight's gradient. -/
def addend (x0 x1 : S16640x1024.Idx → EReal) (r l : ℕ) : EReal := at2 x0 r l * (at2 x1 r l * scale (row x1 r))

/-- The weight's gradient as an array of the arguments. -/
def weightArr (x0 x1 : S16640x1024.Idx → EReal) : S1x1024.Idx → EReal := fun i => ∑ r : Fin 16640, addend x0 x1 r.val (i 1).val

/-- Every grid point leaves its rows' gradient in the block. -/
theorem rows_at (c : Dev nD) (t : Fin cfg0.N) :
    (outsAt0 m c t.val t.isLt).1 = k0_pay4 (iblk m c 1 t) (iblk m c 0 t) (iblk m c 2 t) (iblk m c 3 t) := by
  by_cases h0 : t.val % 26 = 0
  · rw [outsAt0_A m c t h0]; dsimp only; exact rows_first ..
  · rw [outsAt0_B m c t h0]; dsimp only; exact rows_later ..

/-- A block's row of `h` is the array's, -/
theorem row_at (c : Dev nD) (t : Fin cfg0.N) (r : Fin 640) :
    (fun k : Fin 1024 => (show S640x1024.Idx → EReal from iblk m c 1 t) (ix2 r k)) = row (X1 m c) (t.val * 640 + r.val) :=
  funext fun k => blk1 m c t r k

/-- and a block's row of the gradient times the weight is the arrays'. -/
theorem rowGrad_at (c : Dev nD) (t : Fin cfg0.N) (r : Fin 640) :
    (fun k : Fin 1024 => (show S640x1024.Idx → EReal from iblk m c 0 t) (ix2 r k) * (show S1x1024.Idx → EReal from iblk m c 2 t) (ix2 0 k))
      = rowGrad (X0 m c) (X2 m c) (t.val * 640 + r.val) :=
  funext fun k => congrArg₂ (fun a b : EReal => a * b) (blk0 m c t r k) (blk2 m c t k)

/-- What a grid point writes back is its block of the rows' gradient. -/
theorem flushed4_eq (c : Dev nD) (t : Fin cfg0.N) :
    (dats m 0 c).flushed 4 t = ((cfg0.win 4).blk t).view.read (Elt Ideal) (rowsArr (X0 m c) (X1 m c) (X2 m c) (X3 m c)) := by
  rw [Value.flushed4, rows_at]
  funext y
  show k0_pay4 (iblk m c 1 t) (iblk m c 0 t) (iblk m c 2 t) (iblk m c 3 t) y
    = rowsArr (X0 m c) (X1 m c) (X2 m c) (X3 m c) (((cfg0.win 4).blk t).view.emb y)
  have e0 : (((cfg0.win 4).blk t).view.emb y 0).val = t.val * 640 + (y 0).val := by
    show win0_4.index t 0 * 640 + 1 * (y 0).val = _; rw [(idx_facts t).2.2.2.2.1.1, one_mul]
  have e1 : ((cfg0.win 4).blk t).view.emb y 1 = y 1 := Fin.ext (by
    show win0_4.index t 1 * 1024 + 1 * (y 1).val = _; rw [(idx_facts t).2.2.2.2.1.2, zero_mul, zero_add, one_mul])
  unfold rowsArr
  rw [e0, e1]
  refine (congrArg (k0_pay4 (iblk m c 1 t) (iblk m c 0 t) (iblk m c 2 t) (iblk m c 3 t)) (eq_ix2 y)).trans
    ((rows_apply _ _ _ _ (y 0) (y 1)).trans ?_)
  exact congrArg₂ (fun a b : EReal => a + b) (blk3 m c t (y 0) (y 1))
    (congrFun (congrArg₂ callGrad (row_at m c t (y 0)) (rowGrad_at m c t (y 0))) (y 1))

/-- The update of the weight's block at a grid point adds the point's rows. -/
theorem weight_at (c : Dev nD) (t : Fin cfg0.N) (xo : Vec Ideal S1x1024 .f32) (l : Fin 1024) :
    k0_pay1 (k0_pay6 xo) (k0_pay7 (iblk m c 1 t) (iblk m c 0 t)) (ix2 0 l)
      = xo (ix2 0 l) + ∑ r : Fin 640, addend (X0 m c) (X1 m c) (t.val * 640 + r.val) l.val := by
  refine (weight_apply _ _ xo l).trans (congrArg (xo (ix2 0 l) + ·) (Finset.sum_congr rfl fun r _ => ?_))
  exact congrArg₂ (fun a b : EReal => a * b) (blk0 m c t r l)
    (congrArg₂ (fun a b : EReal => a * b) (blk1 m c t r l) (congrArg scale (row_at m c t r)))

/-- What the weight's block holds after point `j`: the sum over the rows so far. -/
theorem acc_at (c : Dev nD) (j : ℕ) (hj : j < 26) (h : 26 * 0 + j < cfg0.N) (l : Fin 1024) :
    (outsAt0 m c (26 * 0 + j) h).2 (ix2 0 l)
      = ∑ s ∈ Finset.range (j + 1), ∑ r : Fin 640, addend (X0 m c) (X1 m c) ((26 * 0 + s) * 640 + r.val) l.val := by
  refine run_sum (b := 26) (fun n h (l : Fin 1024) => (outsAt0 m c n h).2 (ix2 0 l))
    (fun n l => ∑ r : Fin 640, addend (X0 m c) (X1 m c) (n * 640 + r.val) l.val) ?_ ?_ 0 j hj h l
  · intro n h l hn
    rw [outsAt0_A m c ⟨n, h⟩ hn]
    dsimp only
    rw [weight_first]
    refine (weight_at m c ⟨n, h⟩ _ l).trans ?_
    rw [zero_apply, zero_add]
  · intro n h l hn
    rw [outsAt0_B m c ⟨n + 1, h⟩ hn]
    dsimp only
    rw [weight_later]
    exact weight_at m c ⟨n + 1, h⟩ _ l

/-- The weight's block is the whole array. -/
theorem read5 (t : Fin cfg0.N) (G : S1x1024.Idx → EReal) : ((cfg0.win 5).blk t).view.read (Elt Ideal) G = G := by
  funext y
  show G (((cfg0.win 5).blk t).view.emb y) = G y
  congr 1
  funext a
  match a with
  | ⟨0, _⟩ => exact Fin.ext (by show win0_5.index t 0 * 1 + 1 * (y 0).val = (y 0).val; rw [(idx_facts t).2.2.2.2.2.1]; omega)
  | ⟨1, _⟩ => exact Fin.ext (by show win0_5.index t 1 * 1024 + 1 * (y 1).val = (y 1).val; rw [(idx_facts t).2.2.2.2.2.2]; omega)

theorem cut5 (t : Fin cfg0.N) (v : Vec Ideal S1x1024 .f32) : (cfg0.win 5).cut (grid0.coords t) v = v := rfl

/-- After the last point it holds the weight's gradient, -/
theorem last_at (c : Dev nD) (n : ℕ) (h : n < cfg0.N) (e : n = 26 * 0 + 25) (y : S1x1024.Idx) :
    (outsAt0 m c n h).2 y = weightArr (X0 m c) (X1 m c) y := by
  subst e
  have hy : y = ix2 0 (y 1) := by
    rw [show (0 : Fin 1) = y 0 from Subsingleton.elim _ _]; exact eq_ix2 y
  unfold weightArr
  rw [← sum_blocks 26 640 16640 rfl (fun r => addend (X0 m c) (X1 m c) r (y 1).val)]
  refine (congrArg _ hy).trans ((acc_at m c 25 (by omega) h (y 1)).trans ?_)
  exact Finset.sum_congr rfl fun s _ => by rw [Nat.mul_zero, Nat.zero_add]

/-- which that point writes back. -/
theorem flushed5_eq (c : Dev nD) (t : Fin cfg0.N) (hf : (cfg0.win 5).flush t = true) :
    (dats m 0 c).flushed 5 t = ((cfg0.win 5).blk t).view.read (Elt Ideal) (weightArr (X0 m c) (X1 m c)) := by
  rw [Value.flushed5, cut5]
  exact (funext fun y => last_at m c t.val t.isLt ((flush5 t).1 hf) y).trans (read5 t (weightArr (X0 m c) (X1 m c))).symm

/-- An index is in a point's block of rows when its row is. -/
theorem mem_blk4 (t : Fin cfg0.N) (i : S16640x1024.Idx) :
    i ∈ ((cfg0.win 4).blk t).view.set ↔
      ∀ a : Fin 2, win0_4.index t a * S640x1024.size a ≤ (i a).val ∧ (i a).val < win0_4.index t a * S640x1024.size a + S640x1024.size a := by
  show i ∈ ((View.whole main_v0_0).slice (win0_4.rect t)).set ↔ _
  rw [View.set_slice_whole, Rect.mem_set_unit]
  exact Iff.rfl

/-- Every index of the rows' gradient is in the block of the point that has its row. -/
theorem covered4 (i : S16640x1024.Idx) : ∃ t : Fin cfg0.N, (cfg0.win 4).flush t = true ∧ i ∈ ((cfg0.win 4).blk t).view.set := by
  have hi0 : (i 0).val < 16640 := (i 0).isLt
  have hi1 : (i 1).val < 1024 := (i 1).isLt
  have hN : cfg0.N = 26 := N_0
  refine ⟨⟨(i 0).val / 640, by omega⟩, flush0_4 _, ?_⟩
  rw [mem_blk4]
  intro a
  match a with
  | ⟨0, _⟩ =>
    show win0_4.index _ 0 * 640 ≤ (i 0).val ∧ (i 0).val < win0_4.index _ 0 * 640 + 640
    rw [(idx_facts _).2.2.2.2.1.1]; dsimp only; omega
  | ⟨1, _⟩ =>
    show win0_4.index _ 1 * 1024 ≤ (i 1).val ∧ (i 1).val < win0_4.index _ 1 * 1024 + 1024
    rw [(idx_facts _).2.2.2.2.1.2]; omega

theorem mem_blk5 (t : Fin cfg0.N) (i : S1x1024.Idx) :
    i ∈ ((cfg0.win 5).blk t).view.set ↔
      ∀ a : Fin 2, win0_5.index t a * S1x1024.size a ≤ (i a).val ∧ (i a).val < win0_5.index t a * S1x1024.size a + S1x1024.size a := by
  show i ∈ ((View.whole main_v0_1).slice (win0_5.rect t)).set ↔ _
  rw [View.set_slice_whole, Rect.mem_set_unit]
  exact Iff.rfl

/-- Every index of the weight's gradient is in the last point's block. -/
theorem covered5 (i : S1x1024.Idx) : ∃ t : Fin cfg0.N, (cfg0.win 5).flush t = true ∧ i ∈ ((cfg0.win 5).blk t).view.set := by
  have hi0 : (i 0).val < 1 := (i 0).isLt
  have hi1 : (i 1).val < 1024 := (i 1).isLt
  have hN : cfg0.N = 26 := N_0
  refine ⟨⟨25, by omega⟩, (flush5 _).2 rfl, ?_⟩
  rw [mem_blk5]
  intro a
  match a with
  | ⟨0, _⟩ =>
    show win0_5.index _ 0 * 1 ≤ (i 0).val ∧ (i 0).val < win0_5.index _ 0 * 1 + 1
    rw [(idx_facts _).2.2.2.2.2.1]; omega
  | ⟨1, _⟩ =>
    show win0_5.index _ 1 * 1024 ≤ (i 1).val ∧ (i 1).val < win0_5.index _ 1 * 1024 + 1024
    rw [(idx_facts _).2.2.2.2.2.2]; omega

/-- The two results after the run. -/
theorem final4 (c : Dev nD) : (dats m 0 c).arrAt 4 cfg0.N = rowsArr (X0 m c) (X1 m c) (X2 m c) (X3 m c) :=
  (dats m 0 c).arrAt_eq_of_cover 4 _ (fun t _ => flushed4_eq m c t) covered4

theorem final5 (c : Dev nD) : (dats m 0 c).arrAt 5 cfg0.N = weightArr (X0 m c) (X1 m c) :=
  (dats m 0 c).arrAt_eq_of_cover 5 _ (flushed5_eq m c) covered5

/-! ## The reference -/

/-- The reference's mean squares and its factors, row by row. -/
def refMeanSq (x1 : FVec Ideal S16640x1024 .f32) : FVec Ideal Cert.Reference13Ideal.S16640x1 .f32 :=
  addf (Host.divf (broadcastInDim Cert.Reference13Ideal.S16640x1 ![0] Cert.Reference13Ideal.Gen.bcast_S16640_S16640x1_0 (Host.reduceAdd (mulf x1 x1) (constant Cert.Reference13Ideal.S_ .f32 0x00000000#32) Cert.Reference13Ideal.Gen.reducesTo_S16640x1024_S16640_d1 Cert.Reference13Ideal.Gen.h_S_)) (broadcastInDim Cert.Reference13Ideal.S16640x1 ![] Cert.Reference13Ideal.Gen.bcast_S_S16640x1 (constant Cert.Reference13Ideal.S_ .f32 0x44800000#32))) (broadcastInDim Cert.Reference13Ideal.S16640x1 ![] Cert.Reference13Ideal.Gen.bcast_S_S16640x1 (constant Cert.Reference13Ideal.S_ .f32 0x358637BD#32))
def refScale (x1 : FVec Ideal S16640x1024 .f32) : FVec Ideal Cert.Reference13Ideal.S16640x1 .f32 := Host.rsqrt (refMeanSq x1)

/-- The reference's product of the incoming gradient with the weight. -/
def refRowGrad (x0 : FVec Ideal S16640x1024 .f32) (x2 : FVec Ideal S1x1024 .f32) : FVec Ideal S16640x1024 .f32 :=
  mulf x0 (broadcastInDim S16640x1024 ![0, 1] Cert.Reference13Ideal.Gen.bcast_S1x1024_S16640x1024_0_1 x2)

/-- The reference's coefficient of the rows. -/
def refCoeff (x0 x1 : FVec Ideal S16640x1024 .f32) (x2 : FVec Ideal S1x1024 .f32) : FVec Ideal Cert.Reference13Ideal.S16640 .f32 :=
  Host.reduceAdd (Host.divf (mulf (shapeCast Cert.Reference13Ideal.S16640x1 (Host.reduceAdd (mulf x1 (refRowGrad x0 x2)) (constant Cert.Reference13Ideal.S_ .f32 0x00000000#32) Cert.Reference13Ideal.Gen.reducesTo_S16640x1024_S16640_d1 Cert.Reference13Ideal.Gen.h_S_) Cert.Reference13Ideal.Gen.shapeCasts_S16640_S16640x1) (mulf (broadcastInDim Cert.Reference13Ideal.S16640x1 ![] Cert.Reference13Ideal.Gen.bcast_S_S16640x1 (constant Cert.Reference13Ideal.S_ .f32 0xBF000000#32)) (Host.divf (refScale x1) (refMeanSq x1)))) (broadcastInDim Cert.Reference13Ideal.S16640x1 ![] Cert.Reference13Ideal.Gen.bcast_S_S16640x1 (constant Cert.Reference13Ideal.S_ .f32 0x44800000#32))) (constant Cert.Reference13Ideal.S_ .f32 0x00000000#32) Cert.Reference13Ideal.Gen.reducesTo_S16640x1_S16640_d1 Cert.Reference13Ideal.Gen.h_S_

/-- The reference's two terms of the arguments. -/
def refRows (x0 x1 : FVec Ideal S16640x1024 .f32) (x2 : FVec Ideal S1x1024 .f32) (x3 : FVec Ideal S16640x1024 .f32) : FVec Ideal S16640x1024 .f32 :=
  addf x3 (addf (addf (mulf (refRowGrad x0 x2) (broadcastInDim S16640x1024 ![0, 1] Cert.Reference13Ideal.Gen.bcast_S16640x1_S16640x1024_0_1 (refScale x1))) (mulf x1 (broadcastInDim S16640x1024 ![0] Cert.Reference13Ideal.Gen.bcast_S16640_S16640x1024_0 (refCoeff x0 x1 x2)))) (mulf (broadcastInDim S16640x1024 ![0] Cert.Reference13Ideal.Gen.bcast_S16640_S16640x1024_0 (refCoeff x0 x1 x2)) x1))

def refWeight (x0 x1 : FVec Ideal S16640x1024 .f32) : FVec Ideal S1x1024 .f32 :=
  shapeCast S1x1024 (Host.reduceAdd (mulf (mulf x1 (broadcastInDim S16640x1024 ![0, 1] Cert.Reference13Ideal.Gen.bcast_S16640x1_S16640x1024_0_1 (refScale x1))) x0) (constant Cert.Reference13Ideal.S_ .f32 0x00000000#32) Cert.Reference13Ideal.Gen.reducesTo_S16640x1024_S1024_d0 Cert.Reference13Ideal.Gen.h_S_) Cert.Reference13Ideal.Gen.shapeCasts_S1024_S1x1024

/-- The mean square and the factor of a row are the row's. -/
theorem refMeanSq_apply (x1 : FVec Ideal S16640x1024 .f32) (r : Fin 16640) :
    refMeanSq x1 (ix2 r 0) = meanSq (fun k => x1 (ix2 r k)) := by
  unfold refMeanSq meanSq
  pointwise

theorem refScale_apply (x1 : FVec Ideal S16640x1024 .f32) (r : Fin 16640) :
    refScale x1 (ix2 r 0) = scale (fun k => x1 (ix2 r k)) :=
  congrArg Ideal.rsqrt (refMeanSq_apply x1 r)

theorem refRowGrad_apply (x0 : FVec Ideal S16640x1024 .f32) (x2 : FVec Ideal S1x1024 .f32) (r : Fin 16640) (k : Fin 1024) :
    refRowGrad x0 x2 (ix2 r k) = x0 (ix2 r k) * x2 (ix2 0 k) := by
  unfold refRowGrad
  pointwise

/-- The coefficient of a row is the derivative's. -/
theorem refCoeff_apply (x0 x1 : FVec Ideal S16640x1024 .f32) (x2 : FVec Ideal S1x1024 .f32) (r : Fin 16640) :
    refCoeff x0 x1 x2 (ix1 r) = coeff (fun k => x1 (ix2 r k)) (fun k => x0 (ix2 r k) * x2 (ix2 0 k)) := by
  unfold refCoeff coeff
  pointwise
  rw [Fin.sum_univ_one, refScale_apply, refMeanSq_apply,
    Finset.sum_congr rfl fun k _ => congrArg (x1 (ix2 r k) * ·) (refRowGrad_apply x0 x2 r k)]

theorem refRows_apply (x0 x1 : FVec Ideal S16640x1024 .f32) (x2 : FVec Ideal S1x1024 .f32) (x3 : FVec Ideal S16640x1024 .f32) (r : Fin 16640) (l : Fin 1024) :
    refRows x0 x1 x2 x3 (ix2 r l)
      = x3 (ix2 r l) + refGrad (fun k => x1 (ix2 r k)) (fun k => x0 (ix2 r k) * x2 (ix2 0 k)) l := by
  unfold refRows refGrad
  pointwise
  rw [refRowGrad_apply, refScale_apply, refCoeff_apply]

theorem refWeight_apply (x0 x1 : FVec Ideal S16640x1024 .f32) (l : Fin 1024) :
    refWeight x0 x1 (ix2 0 l) = ∑ r : Fin 16640, x1 (ix2 r l) * scale (fun k => x1 (ix2 r k)) * x0 (ix2 r l) := by
  unfold refWeight
  pointwise
  exact Finset.sum_congr rfl fun r _ => by rw [refScale_apply]

/-! ## The two sides meet -/

instance : Subsingleton Cert.Pre_finite_rows.S_.Idx := ⟨fun _ _ => funext fun a => a.elim0⟩

/-- The precondition says that every element of the first three arguments is a real. -/
theorem finite_args [Cert.Pre_finite_rows.Facts] (x0 x1 : FVec Ideal S16640x1024 .f32) (x2 : FVec Ideal S1x1024 .f32) (x3 : FVec Ideal S16640x1024 .f32)
    (h : Cert.Pre_finite_rows.fn (F := Ideal) x0 x1 x2 x3 = fun _ => 1#1) :
    (∀ i, ∃ r : ℝ, x0 i = r) ∧ (∀ i, ∃ r : ℝ, x1 i = r) ∧ ∀ i, ∃ r : ℝ, x2 i = r := by
  have h' := congrFun h (fun a => a.elim0)
  dsimp only [Cert.Pre_finite_rows.fn] at h'
  obtain ⟨h', e2⟩ := IntOp.andi_eq_one.1 h'
  obtain ⟨e0, e1⟩ := IntOp.andi_eq_one.1 h'
  refine ⟨fun i => ?_, fun i => ?_, fun i => ?_⟩
  · have := Host.reduce_andi_all _ _ _ _ _ e0 i
    exact Finite.real_of_lt_top _ (by rw [← Finite.ofBits_inf_f32]; exact this)
  · have := Host.reduce_andi_all _ _ _ _ _ e1 i
    exact Finite.real_of_lt_top _ (by rw [← Finite.ofBits_inf_f32]; exact this)
  · have := Host.reduce_andi_all _ _ _ _ _ e2 i
    exact Finite.real_of_lt_top _ (by rw [← Finite.ofBits_inf_f32]; exact this)

/-- The call's rows are the reference's when the arguments are finite, -/
theorem rows_eq (x0 x1 : FVec Ideal S16640x1024 .f32) (x2 : FVec Ideal S1x1024 .f32) (x3 : FVec Ideal S16640x1024 .f32)
    (f0 : ∀ i, ∃ r : ℝ, x0 i = r) (f1 : ∀ i, ∃ r : ℝ, x1 i = r) (f2 : ∀ i, ∃ r : ℝ, x2 i = r) :
    rowsArr x0 x1 x2 x3 = refRows x0 x1 x2 x3 := by
  have key : ∀ (r : Fin 16640) (l : Fin 1024), rowsArr x0 x1 x2 x3 (ix2 r l) = refRows x0 x1 x2 x3 (ix2 r l) := by
    intro r l
    rw [refRows_apply, ← grad_eq _ _ (fun k => f1 _) (fun k => by
      obtain ⟨a, ha⟩ := f0 (ix2 r k)
      obtain ⟨b, hb⟩ := f2 (ix2 0 k)
      exact ⟨a * b, by rw [ha, hb, EReal.coe_mul]⟩) l]
    exact congrArg₂ (fun a b : EReal => a + b) (at2_idx x3 (ix2 r l) _ _ rfl rfl).symm (congrFun (congrArg₂ callGrad
      (funext fun k : Fin 1024 => (at2_idx x1 (ix2 r k) _ _ rfl rfl).symm)
      (funext fun k : Fin 1024 => congrArg₂ (fun a b : EReal => a * b) (at2_idx x0 (ix2 r k) _ _ rfl rfl).symm
        (at2_idx x2 (ix2 0 k) _ _ rfl rfl).symm)) l)
  exact funext fun i => (congrArg _ (eq_ix2 i)).trans ((key (i 0) (i 1)).trans (congrArg _ (eq_ix2 i)).symm)

/-- and its gradient of the weight is the reference's, always. -/
theorem weight_eq (x0 x1 : FVec Ideal S16640x1024 .f32) : weightArr x0 x1 = refWeight x0 x1 := by
  have key : ∀ l : Fin 1024, weightArr x0 x1 (ix2 0 l) = refWeight x0 x1 (ix2 0 l) := by
    intro l
    rw [refWeight_apply]
    refine Finset.sum_congr rfl fun r _ => (mul_comm _ _).trans ?_
    exact congrArg₂ (fun a b : EReal => a * b) (congrArg₂ (fun a b : EReal => a * b) (at2_idx x1 (ix2 r l) _ _ rfl rfl).symm
      (congrArg scale (funext fun k : Fin 1024 => (at2_idx x1 (ix2 r k) _ _ rfl rfl).symm))) (at2_idx x0 (ix2 r l) _ _ rfl rfl).symm
  exact funext fun i => by
    have hi : i = ix2 0 (i 1) := by
      rw [show (0 : Fin 1) = i 0 from Subsingleton.elim _ _]; exact eq_ix2 i
    exact (congrArg _ hi).trans ((key (i 1)).trans (congrArg _ hi).symm)

end Cert.RmsBwd

end
-- ==== Proof.HeadGrad.lean ====
/-
  The gradient of the RMS norm of one row of 128 numbers, over the extended reals: as the step's calls write it, with the
  normalised row, and as the derivative writes it, with the inner product of the row and the gradient. On rows of reals the
  two are one number.
-/
module

public import proofs.«01_k».proof.Proof.Finite

@[expose] public section

noncomputable section

namespace Cert.HeadGrad

open Idealize.ShloMosaic

/-- The row's length, the norm's small constant and minus a half, as the programs print them. -/
theorem ofBits_len : Ideal.ofBits .f32 0x43000000#32 = ((128 : ℝ) : EReal) := by
  simp [Ideal.ofBits, Ideal.ieee]; rw [← EReal.coe_mul]; norm_num
theorem ofBits_eps : ∃ e : ℝ, 0 < e ∧ Ideal.ofBits .f32 0x358637BD#32 = e := by
  refine ⟨_, ?_, by simp [Ideal.ofBits, Ideal.ieee]; rfl⟩
  norm_num
theorem ofBits_half : Ideal.ofBits .f32 0xBF000000#32 = ((-(1 / 2) : ℝ) : EReal) := by
  simp [Ideal.ofBits, Ideal.ieee]; rw [← EReal.coe_mul]; norm_num

/-- A sum of reals is the real sum. -/
theorem coe_sum {n : ℕ} (f : Fin n → ℝ) : (∑ k, (f k : EReal)) = ((∑ k, f k : ℝ) : EReal) := by
  induction (Finset.univ : Finset (Fin n)) using Finset.induction_on with
  | empty => simp
  | insert k s hk ih => rw [Finset.sum_insert hk, Finset.sum_insert hk, ih, EReal.coe_add]

/-- The row's mean square plus the small constant. -/
def meanSq {n : ℕ} (x : Fin n → EReal) : EReal :=
  Ideal.div (∑ l, x l * x l) (Ideal.ofBits .f32 0x43000000#32) + Ideal.ofBits .f32 0x358637BD#32

/-- The factor that normalises the row. -/
def scale {n : ℕ} (x : Fin n → EReal) : EReal := Ideal.rsqrt (meanSq x)

/-- The gradient of the row as the calls write it. -/
def callGrad {n : ℕ} (x g : Fin n → EReal) (k : Fin n) : EReal :=
  scale x * (g k - x k * scale x * Ideal.div (∑ l, g l * (x l * scale x)) (Ideal.ofBits .f32 0x43000000#32))

/-- The derivative's coefficient of the row itself. -/
def coeff {n : ℕ} (x g : Fin n → EReal) : EReal :=
  Ideal.div ((∑ l, x l * g l) * (Ideal.ofBits .f32 0xBF000000#32 * Ideal.div (scale x) (meanSq x))) (Ideal.ofBits .f32 0x43000000#32)

/-- The gradient of the row as the derivative writes it. -/
def refGrad {n : ℕ} (x g : Fin n → EReal) (k : Fin n) : EReal :=
  g k * scale x + x k * coeff x g + coeff x g * x k

/-- Of a row of reals, the mean square plus the constant is a positive real, and the factor its reciprocal root. -/
theorem scale_real {n : ℕ} (a : Fin n → ℝ) :
    ∃ s r : ℝ, 0 < s ∧ r * r * s = 1 ∧ meanSq (fun k => (a k : EReal)) = s ∧ scale (fun k => (a k : EReal)) = r := by
  obtain ⟨e, he, hE⟩ := ofBits_eps
  have hs : (0 : ℝ) < (∑ l, a l * a l) * (1 / 128) + e :=
    add_pos_of_nonneg_of_pos (mul_nonneg (Finset.sum_nonneg fun l _ => mul_self_nonneg _) (by norm_num)) he
  have hm : meanSq (fun k => (a k : EReal)) = (((∑ l, a l * a l) * (1 / 128) + e : ℝ) : EReal) := by
    unfold meanSq
    rw [hE, ofBits_len, Ideal.div_coe (by norm_num), Finset.sum_congr rfl fun l _ => (EReal.coe_mul (a l) (a l)).symm,
      coe_sum (fun l => a l * a l), ← EReal.coe_mul, ← EReal.coe_add]
  refine ⟨_, (Real.sqrt ((∑ l, a l * a l) * (1 / 128) + e))⁻¹, hs, ?_, hm, ?_⟩
  · have h2 := Real.mul_self_sqrt hs.le
    have h3 : Real.sqrt ((∑ l, a l * a l) * (1 / 128) + e) ≠ 0 := (Real.sqrt_pos.2 hs).ne'
    rw [← mul_inv, h2, inv_mul_cancel₀ hs.ne']
  · unfold scale
    rw [hm, Ideal.rsqrt_coe, if_neg (not_lt.2 hs.le), if_neg hs.ne']

/-- On rows of reals the two gradients are equal. -/
theorem grad_eq {n : ℕ} (x g : Fin n → EReal) (hx : ∀ k, ∃ r : ℝ, x k = r) (hg : ∀ k, ∃ r : ℝ, g k = r) (k : Fin n) :
    callGrad x g k = refGrad x g k := by
  choose a ha using hx
  choose b hb using hg
  obtain rfl : x = fun k => (a k : EReal) := funext ha
  obtain rfl : g = fun k => (b k : EReal) := funext hb
  obtain ⟨s, r, hs, hrs, hm, hr⟩ := scale_real a
  have h1 : (∑ l, (b l : EReal) * ((a l : EReal) * (r : EReal))) = ((∑ l, a l * b l) * r : ℝ) := by
    rw [Finset.sum_mul, ← coe_sum]
    exact Finset.sum_congr rfl fun l _ => by rw [← EReal.coe_mul, ← EReal.coe_mul]; congr 1; ring
  have h2 : (∑ l, (a l : EReal) * (b l : EReal)) = (∑ l, a l * b l : ℝ) := by
    rw [← coe_sum]
    exact Finset.sum_congr rfl fun l _ => (EReal.coe_mul _ _).symm
  unfold callGrad refGrad coeff
  rw [hr, hm, h1, h2, ofBits_len, ofBits_half, Ideal.div_coe (by norm_num), Ideal.div_coe (by norm_num), Ideal.div_coe hs.ne']
  have h3 : 1 / s = r * r := by rw [div_eq_iff hs.ne', hrs]
  rw [h3]
  norm_cast
  push_cast
  norm_cast
  ring

end Cert.HeadGrad

end
-- ==== Proof.DnPostHeads.lean ====
/-
  One head of the gradients of the gated norm, as the body of the call computes it from the head's columns of its blocks.
-/
module

public import proofs.«01_k».proof.Proof.HeadGrad
public import proofs.«01_k».proof.Proof.Blocks
public import proofs.«01_k».proof.Proof.Gen.Kernel15Ideal.Value

@[expose] public section

set_option maxRecDepth 16384

noncomputable section

namespace Cert.DnPost

open Cert.Kernel15Ideal Cert.Kernel15Ideal.Gen Cert.Blocks Cert.HeadGrad
open Idealize.ShloMosaic Idealize.ShloMosaic.TcCoe Idealize.SL.Sem

/-- The logistic function and its product with its argument. -/
def logi (z : EReal) : EReal := Ideal.div 1 (1 + Ideal.exp (-z))
def silu (z : EReal) : EReal := z * logi z

/-- One head's row of the three gradients: of the row that is normalised, of the gate, and the row's addend of the weight's. -/
def grRow (dy nw z : Fin 128 → EReal) (k : Fin 128) : EReal := dy k * nw k * silu (z k)
def doRow (o dy nw z : Fin 128 → EReal) (k : Fin 128) : EReal := callGrad o (grRow dy nw z) k
def dpRow (o dy nw z : Fin 128 → EReal) (k : Fin 128) : EReal := dy k * (o k * scale o) * nw k * (logi (z k) * (1 + z k * (1 - logi (z k))))
def wRow (o dy z : Fin 128 → EReal) (k : Fin 128) : EReal := dy k * (o k * scale o) * silu (z k)

/-- The first head's gradient of the rows, -/
theorem do_head0 (v0 : Vec Ideal S1x128 .f32) (v2 v3 v4 : Vec Ideal S640x128 .f32) (r : Fin 640) (k : Fin 128) :
    k0_pay8 v0 v2 v3 v4 (ix2 r k)
      = doRow (fun l => v2 (ix2 r l)) (fun l => v4 (ix2 r l)) (fun l => v0 (ix2 0 l)) (fun l => v3 (ix2 r l)) k := by
  unfold doRow callGrad grRow silu logi scale meanSq
  pointwise [k0_pay8, k0_pay7, k0_pay6, k0_pay5, k0_pay4]
  simp only [zero_sub]

/-- of the gate, -/
theorem dp_head0 (v0 : Vec Ideal S1x128 .f32) (v2 v3 v4 : Vec Ideal S640x128 .f32) (r : Fin 640) (k : Fin 128) :
    k0_pay11 v3 (k0_pay6 v3) (k0_pay9 v2 v4) (k0_pay10 v0) (ix2 r k)
      = dpRow (fun l => v2 (ix2 r l)) (fun l => v4 (ix2 r l)) (fun l => v0 (ix2 0 l)) (fun l => v3 (ix2 r l)) k := by
  unfold dpRow logi scale meanSq
  pointwise [k0_pay11, k0_pay10, k0_pay9, k0_pay6, k0_pay5, k0_pay4]
  simp only [zero_sub]

/-- and its addend of the weight's. -/
theorem w_head0 (acc : FVec Ideal S1x128 .f32) (v2 v3 v4 : Vec Ideal S640x128 .f32) (k : Fin 128) :
    k0_pay12 acc v4 (k0_pay5 v2) (k0_pay7 v3) (ix2 0 k)
      = acc (ix2 0 k) + ∑ r : Fin 640, wRow (fun l => v2 (ix2 r l)) (fun l => v4 (ix2 r l)) (fun l => v3 (ix2 r l)) k := by
  unfold wRow silu logi scale meanSq
  pointwise [k0_pay12, k0_pay7, k0_pay6, k0_pay5, k0_pay4]
  simp only [zero_sub]

/-- The second head's gradient of the rows, -/
theorem do_head1 (v0 : Vec Ideal S1x128 .f32) (v2 v3 v4 : Vec Ideal S640x128 .f32) (r : Fin 640) (k : Fin 128) :
    k0_pay19 (k0_pay13 v2) (k0_pay14 v2) (k0_pay17 v0 v3 v4) (k0_pay18 v0 v2 v3 v4) (ix2 r k)
      = doRow (fun l => v2 (ix2 r l)) (fun l => v4 (ix2 r l)) (fun l => v0 (ix2 0 l)) (fun l => v3 (ix2 r l)) k := by
  unfold doRow callGrad grRow silu logi scale meanSq
  pointwise [k0_pay19, k0_pay18, k0_pay17, k0_pay16, k0_pay15, k0_pay14, k0_pay13]
  simp only [zero_sub]

/-- of the gate, -/
theorem dp_head1 (v0 : Vec Ideal S1x128 .f32) (v2 v3 v4 : Vec Ideal S640x128 .f32) (r : Fin 640) (k : Fin 128) :
    k0_pay20 v0 v3 v4 (k0_pay14 v2) (k0_pay15 v3) (ix2 r k)
      = dpRow (fun l => v2 (ix2 r l)) (fun l => v4 (ix2 r l)) (fun l => v0 (ix2 0 l)) (fun l => v3 (ix2 r l)) k := by
  unfold dpRow logi scale meanSq
  pointwise [k0_pay20, k0_pay15, k0_pay14, k0_pay13]
  simp only [zero_sub]

/-- and its addend of the weight's. -/
theorem w_head1 (acc : FVec Ideal S1x128 .f32) (v2 v3 v4 : Vec Ideal S640x128 .f32) (k : Fin 128) :
    k0_pay21 acc v4 (k0_pay14 v2) (k0_pay16 v3) (ix2 0 k)
      = acc (ix2 0 k) + ∑ r : Fin 640, wRow (fun l => v2 (ix2 r l)) (fun l => v4 (ix2 r l)) (fun l => v3 (ix2 r l)) k := by
  unfold wRow silu logi scale meanSq
  pointwise [k0_pay21, k0_pay16, k0_pay15, k0_pay14, k0_pay13]
  simp only [zero_sub]

/-- The third head's gradient of the rows, -/
theorem do_head2 (v0 : Vec Ideal S1x128 .f32) (v2 v3 v4 : Vec Ideal S640x128 .f32) (r : Fin 640) (k : Fin 128) :
    k0_pay27 v0 v3 v4 (k0_pay22 v2) (k0_pay23 v2) (k0_pay24 (F := Ideal)) (ix2 r k)
      = doRow (fun l => v2 (ix2 r l)) (fun l => v4 (ix2 r l)) (fun l => v0 (ix2 0 l)) (fun l => v3 (ix2 r l)) k := by
  unfold doRow callGrad grRow silu logi scale meanSq
  pointwise [k0_pay27, k0_pay26, k0_pay25, k0_pay24, k0_pay23, k0_pay22]
  simp only [zero_sub]

/-- of the gate, -/
theorem dp_head2 (v0 : Vec Ideal S1x128 .f32) (v2 v3 v4 : Vec Ideal S640x128 .f32) (r : Fin 640) (k : Fin 128) :
    k0_pay28 v0 v3 v4 (k0_pay23 v2) (k0_pay24 (F := Ideal)) (ix2 r k)
      = dpRow (fun l => v2 (ix2 r l)) (fun l => v4 (ix2 r l)) (fun l => v0 (ix2 0 l)) (fun l => v3 (ix2 r l)) k := by
  unfold dpRow logi scale meanSq
  pointwise [k0_pay28, k0_pay26, k0_pay25, k0_pay24, k0_pay23, k0_pay22]
  simp only [zero_sub]

/-- and its addend of the weight's. -/
theorem w_head2 (acc : FVec Ideal S1x128 .f32) (v2 v3 v4 : Vec Ideal S640x128 .f32) (k : Fin 128) :
    k0_pay29 acc v3 v4 (k0_pay23 v2) (k0_pay24 (F := Ideal)) (ix2 0 k)
      = acc (ix2 0 k) + ∑ r : Fin 640, wRow (fun l => v2 (ix2 r l)) (fun l => v4 (ix2 r l)) (fun l => v3 (ix2 r l)) k := by
  unfold wRow silu logi scale meanSq
  pointwise [k0_pay29, k0_pay26, k0_pay25, k0_pay24, k0_pay23, k0_pay22]
  simp only [zero_sub]

/-- The fourth head's gradient of the rows, -/
theorem do_head3 (v0 : Vec Ideal S1x128 .f32) (v2 v3 v4 : Vec Ideal S640x128 .f32) (r : Fin 640) (k : Fin 128) :
    k0_pay34 v0 v2 v3 v4 (ix2 r k)
      = doRow (fun l => v2 (ix2 r l)) (fun l => v4 (ix2 r l)) (fun l => v0 (ix2 0 l)) (fun l => v3 (ix2 r l)) k := by
  unfold doRow callGrad grRow silu logi scale meanSq
  pointwise [k0_pay34, k0_pay33, k0_pay32, k0_pay31, k0_pay30]
  simp only [zero_sub]

/-- of the gate, -/
theorem dp_head3 (v0 : Vec Ideal S1x128 .f32) (v2 v3 v4 : Vec Ideal S640x128 .f32) (r : Fin 640) (k : Fin 128) :
    k0_pay35 v0 v2 v3 v4 (ix2 r k)
      = dpRow (fun l => v2 (ix2 r l)) (fun l => v4 (ix2 r l)) (fun l => v0 (ix2 0 l)) (fun l => v3 (ix2 r l)) k := by
  unfold dpRow logi scale meanSq
  pointwise [k0_pay35, k0_pay33, k0_pay32, k0_pay31, k0_pay30]
  simp only [zero_sub]

/-- and its addend of the weight's. -/
theorem w_head3 (acc prev : FVec Ideal S1x128 .f32) (v2 v3 v4 : Vec Ideal S640x128 .f32) (k : Fin 128) :
    k0_pay2 acc v4 (k0_pay31 v2) (k0_pay33 v3) prev (ix2 0 k)
      = prev (ix2 0 k) + (acc (ix2 0 k) + ∑ r : Fin 640, wRow (fun l => v2 (ix2 r l)) (fun l => v4 (ix2 r l)) (fun l => v3 (ix2 r l)) k) := by
  unfold wRow silu logi scale meanSq
  pointwise [k0_pay2, k0_pay33, k0_pay32, k0_pay31, k0_pay30]
  simp only [zero_sub]

end Cert.DnPost

end
-- ==== Proof.DnPost.lean ====
/-
  The gradients of the gated norm: the call takes 640 rows at a time, each cut into four heads of 128 columns, writes the
  gradient of the normalised rows and, in the last columns of an array it is given, that of the gates, and adds the gradient
  of the weight in an output block that stays over the 26 blocks of rows. The reference is the derivative of the gated norm.
  On finite arguments the two agree.
-/
module

public import proofs.«01_k».proof.Proof.DnPostHeads
public import proofs.«01_k».proof.Proof.Gen.Reference15Ideal.Run
public import proofs.«01_k».proof.Proof.Gen.Pre_finite_heads

@[expose] public section

set_option maxRecDepth 16384

noncomputable section

namespace Cert.DnPost

open Cert.Kernel15Ideal Cert.Kernel15Ideal.Gen Cert.Blocks Cert.HeadGrad
open Idealize.ShloMosaic Idealize.ShloMosaic.TcCoe Idealize.SL.Sem

variable (m : (ℓ : Loc nD τ sig) → Buf (Elt Ideal) ℓ)

/-! ## What the body leaves at one grid point -/

/-- The columns of a head in a row of an array, the head's first column given. -/
def hd {a b : ℕ} (X : (⟨2, ![a, b]⟩ : Shape).Idx → EReal) (r o : ℕ) (l : Fin 128) : EReal := at2 X r (o + l.val)

/-- A function of a head's rows at every index of a block. -/
def blk (R : (Fin 128 → EReal) → (Fin 128 → EReal) → (Fin 128 → EReal) → (Fin 128 → EReal) → Fin 128 → EReal)
    (x0 x1 x2 : S640x512.Idx → EReal) (x3 : S1x128.Idx → EReal) (y : S640x512.Idx) : EReal :=
  R (hd x1 (y 0).val (128 * ((y 1).val / 128))) (hd x0 (y 0).val (128 * ((y 1).val / 128))) (hd x3 0 0)
    (hd x2 (y 0).val (128 * ((y 1).val / 128))) ⟨(y 1).val % 128, Nat.mod_lt _ (by norm_num)⟩

/-- A load of a head's columns reads them. -/
theorem ld_head (X : Vec Ideal S640x512 .f32) (o : ℕ) (inb : ∀ a, (![0, o] : Fin 2 → ℕ) a + S640x128.size a ≤ S640x512.size a)
    (r : Fin 640) (l : Fin 128) :
    View.ld X (Rect.unit (s := S640x512) ![0, o] S640x128.size inb) (ix2 r l) = hd X r.val o l := by
  show X ((Rect.unit (s := S640x512) ![0, o] S640x128.size inb).idx (ix2 r l)) = _
  refine at2_idx X _ _ _ ?_ ?_
  · show 0 + 1 * r.val = _; rw [one_mul, zero_add]
  · show o + 1 * l.val = _; rw [one_mul]

/-- The weight's block is its one row. -/
theorem ld_weight (X : Vec Ideal S1x128 .f32) (l : Fin 128) : X (ix2 0 l) = hd X 0 0 l :=
  at2_idx X _ _ _ rfl (Nat.zero_add _).symm

/-- What is stored at a head's columns is the block's function there. -/
theorem piece (R : (Fin 128 → EReal) → (Fin 128 → EReal) → (Fin 128 → EReal) → (Fin 128 → EReal) → Fin 128 → EReal)
    (x0 x1 x2 : Vec Ideal S640x512 .f32) (x3 : Vec Ideal S1x128 .f32) (o : ℕ) (ho : o % 128 = 0)
    (inb : ∀ a, (![0, o] : Fin 2 → ℕ) a + S640x128.size a ≤ S640x512.size a) (f : S640x128.Idx → EReal)
    (hf : ∀ (r : Fin 640) (k : Fin 128), f (ix2 r k)
      = R (fun l => View.ld x1 (Rect.unit (s := S640x512) ![0, o] S640x128.size inb) (ix2 r l))
          (fun l => View.ld x0 (Rect.unit (s := S640x512) ![0, o] S640x128.size inb) (ix2 r l)) (fun l => x3 (ix2 0 l))
          (fun l => View.ld x2 (Rect.unit (s := S640x512) ![0, o] S640x128.size inb) (ix2 r l)) k)
    (x : S640x128.Idx) : f x = blk R x0 x1 x2 x3 ((Rect.unit (s := S640x512) ![0, o] S640x128.size inb).emb x) := by
  have e0 : ((Rect.unit (s := S640x512) ![0, o] S640x128.size inb).emb x 0).val = (x 0).val := by
    show 0 + 1 * (x 0).val = _; rw [one_mul, zero_add]
  have e1 : ((Rect.unit (s := S640x512) ![0, o] S640x128.size inb).emb x 1).val = o + (x 1).val := by
    show o + 1 * (x 1).val = _; rw [one_mul]
  have h1 : (x 1).val < 128 := (x 1).isLt
  have eo : 128 * ((o + (x 1).val) / 128) = o := by omega
  have ek : (⟨(o + (x 1).val) % 128, Nat.mod_lt _ (by norm_num)⟩ : Fin 128) = x 1 := Fin.ext (by
    show (o + (x 1).val) % 128 = (x 1).val; omega)
  refine (congrArg f (eq_ix2 x)).trans ((hf (x 0) (x 1)).trans ?_)
  unfold blk
  simp only [e0, e1, eo, ek]
  rw [funext (fun l => ld_head x1 o inb (x 0) l), funext (fun l => ld_head x0 o inb (x 0) l),
    funext (fun l => ld_head x2 o inb (x 0) l), funext (fun l => ld_weight x3 l)]

section Body
variable (c : Dev nD) (i : grid0.Coords)
  (a2 : Memref sig .tc .vmem S640x512 .f32) (h2 : a2.IsWhole) (a3 : Memref sig .tc .vmem S640x512 .f32) (h3 : a3.IsWhole)
  (a4 : Memref sig .tc .vmem S640x512 .f32) (h4 : a4.IsWhole) (a5 : Memref sig .tc .vmem S1x128 .f32) (h5 : a5.IsWhole)
  (a6 : Memref sig .tc .vmem S640x512 .f32) (h6 : a6.IsWhole) (a7 : Memref sig .tc .vmem S640x512 .bf16) (h7 : a7.IsWhole)
  (a8 : Memref sig .tc .vmem S1x128 .f32) (h8 : a8.IsWhole)
  (x0 x1 x2 : Vec Ideal S640x512 .f32) (x3 xw : Vec Ideal S1x128 .f32)

/-- The first point leaves in the block of the normalised rows' gradient a function of its blocks, -/
theorem do_first (hc0 : cond0_0 i) :
    out0_A_4 c i a2 h2 a3 h3 a4 h4 a5 h5 a6 h6 a7 h7 a8 h8 hc0 x0 x1 x2 x3 = blk doRow x0 x1 x2 x3 := by
  unfold out0_A_4
  rw [View.read_writes_eq_canon _ _ _ (cover0_A_4 c i a2 h2 a3 h3 a4 h4 a5 h5 a6 h6 a7 h7 a8 h8 hc0 x0 x1 x2 x3)]
  funext y
  refine View.canon_apply_of_pieces (blk doRow x0 x1 x2 x3) _ ?_ y (cover0_A_4 c i a2 h2 a3 h3 a4 h4 a5 h5 a6 h6 a7 h7 a8 h8 hc0 x0 x1 x2 x3 y)
  unfold kernelRun0_A
  dsimp only
  sl_unfold_words
  simp only [View.readAt_eq_ld, h2.read_unread, h3.read_unread, h4.read_unread, h5.read_unread, h6.read_unread, h7.read_unread,
    h8.read_unread, View.ld_unit_zero (S := S1x128) hz, List.forall_mem_cons]
  refine ⟨piece doRow x0 x1 x2 x3 384 rfl _ _ (fun r k => do_head3 _ _ _ _ r k), piece doRow x0 x1 x2 x3 256 rfl _ _ (fun r k => do_head2 _ _ _ _ r k), piece doRow x0 x1 x2 x3 128 rfl _ _ (fun r k => do_head1 _ _ _ _ r k), piece doRow x0 x1 x2 x3 0 rfl _ _ (fun r k => do_head0 _ _ _ _ r k), fun _ hp => absurd hp (List.not_mem_nil)⟩

/-- and so does a later one; -/
theorem do_later (hc0 : ¬cond0_0 i) :
    out0_B_4 c i a2 h2 a3 h3 a4 h4 a5 h5 a6 h6 a7 h7 a8 h8 hc0 x0 x1 x2 x3 xw = blk doRow x0 x1 x2 x3 := by
  unfold out0_B_4
  rw [View.read_writes_eq_canon _ _ _ (cover0_B_4 c i a2 h2 a3 h3 a4 h4 a5 h5 a6 h6 a7 h7 a8 h8 hc0 x0 x1 x2 x3 xw)]
  funext y
  refine View.canon_apply_of_pieces (blk doRow x0 x1 x2 x3) _ ?_ y (cover0_B_4 c i a2 h2 a3 h3 a4 h4 a5 h5 a6 h6 a7 h7 a8 h8 hc0 x0 x1 x2 x3 xw y)
  unfold kernelRun0_B
  dsimp only
  sl_unfold_words
  simp only [View.readAt_eq_ld, h2.read_unread, h3.read_unread, h4.read_unread, h5.read_unread, h6.read_unread, h7.read_unread,
    h8.read_unread, View.ld_unit_zero (S := S1x128) hz, List.forall_mem_cons]
  refine ⟨piece doRow x0 x1 x2 x3 384 rfl _ _ (fun r k => do_head3 _ _ _ _ r k), piece doRow x0 x1 x2 x3 256 rfl _ _ (fun r k => do_head2 _ _ _ _ r k), piece doRow x0 x1 x2 x3 128 rfl _ _ (fun r k => do_head1 _ _ _ _ r k), piece doRow x0 x1 x2 x3 0 rfl _ _ (fun r k => do_head0 _ _ _ _ r k), fun _ hp => absurd hp (List.not_mem_nil)⟩

/-- so does the first point in the block of the gates' gradient, -/
theorem dp_first (hc0 : cond0_0 i) :
    out0_A_5 c i a2 h2 a3 h3 a4 h4 a5 h5 a6 h6 a7 h7 a8 h8 hc0 x0 x1 x2 x3 = blk dpRow x0 x1 x2 x3 := by
  unfold out0_A_5
  rw [View.read_writes_eq_canon _ _ _ (cover0_A_5 c i a2 h2 a3 h3 a4 h4 a5 h5 a6 h6 a7 h7 a8 h8 hc0 x0 x1 x2 x3)]
  funext y
  refine View.canon_apply_of_pieces (blk dpRow x0 x1 x2 x3) _ ?_ y (cover0_A_5 c i a2 h2 a3 h3 a4 h4 a5 h5 a6 h6 a7 h7 a8 h8 hc0 x0 x1 x2 x3 y)
  unfold kernelRun0_A
  dsimp only
  sl_unfold_words
  simp only [View.readAt_eq_ld, h2.read_unread, h3.read_unread, h4.read_unread, h5.read_unread, h6.read_unread, h7.read_unread,
    h8.read_unread, View.ld_unit_zero (S := S1x128) hz, List.forall_mem_cons]
  refine ⟨piece dpRow x0 x1 x2 x3 384 rfl _ _ (fun r k => dp_head3 _ _ _ _ r k), piece dpRow x0 x1 x2 x3 256 rfl _ _ (fun r k => dp_head2 _ _ _ _ r k), piece dpRow x0 x1 x2 x3 128 rfl _ _ (fun r k => dp_head1 _ _ _ _ r k), piece dpRow x0 x1 x2 x3 0 rfl _ _ (fun r k => dp_head0 _ _ _ _ r k), fun _ hp => absurd hp (List.not_mem_nil)⟩

/-- and a later one. -/
theorem dp_later (hc0 : ¬cond0_0 i) :
    out0_B_5 c i a2 h2 a3 h3 a4 h4 a5 h5 a6 h6 a7 h7 a8 h8 hc0 x0 x1 x2 x3 xw = blk dpRow x0 x1 x2 x3 := by
  unfold out0_B_5
  rw [View.read_writes_eq_canon _ _ _ (cover0_B_5 c i a2 h2 a3 h3 a4 h4 a5 h5 a6 h6 a7 h7 a8 h8 hc0 x0 x1 x2 x3 xw)]
  funext y
  refine View.canon_apply_of_pieces (blk dpRow x0 x1 x2 x3) _ ?_ y (cover0_B_5 c i a2 h2 a3 h3 a4 h4 a5 h5 a6 h6 a7 h7 a8 h8 hc0 x0 x1 x2 x3 xw y)
  unfold kernelRun0_B
  dsimp only
  sl_unfold_words
  simp only [View.readAt_eq_ld, h2.read_unread, h3.read_unread, h4.read_unread, h5.read_unread, h6.read_unread, h7.read_unread,
    h8.read_unread, View.ld_unit_zero (S := S1x128) hz, List.forall_mem_cons]
  refine ⟨piece dpRow x0 x1 x2 x3 384 rfl _ _ (fun r k => dp_head3 _ _ _ _ r k), piece dpRow x0 x1 x2 x3 256 rfl _ _ (fun r k => dp_head2 _ _ _ _ r k), piece dpRow x0 x1 x2 x3 128 rfl _ _ (fun r k => dp_head1 _ _ _ _ r k), piece dpRow x0 x1 x2 x3 0 rfl _ _ (fun r k => dp_head0 _ _ _ _ r k), fun _ hp => absurd hp (List.not_mem_nil)⟩

/-- A block's addend of the weight's gradient at a column: the four heads' rows. -/
def wBlk (x0 x1 x2 : S640x512.Idx → EReal) (k : Fin 128) : EReal :=
  (((∑ r : Fin 640, wRow (hd x1 r.val 0) (hd x0 r.val 0) (hd x2 r.val 0) k)
    + ∑ r : Fin 640, wRow (hd x1 r.val 128) (hd x0 r.val 128) (hd x2 r.val 128) k)
    + ∑ r : Fin 640, wRow (hd x1 r.val 256) (hd x0 r.val 256) (hd x2 r.val 256) k)
    + ∑ r : Fin 640, wRow (hd x1 r.val 384) (hd x0 r.val 384) (hd x2 r.val 384) k

/-- The rows' addends of one head's loads are those of its columns. -/
theorem w_sum (x0 x1 x2 : Vec Ideal S640x512 .f32) (o : ℕ) (inb : ∀ a, (![0, o] : Fin 2 → ℕ) a + S640x128.size a ≤ S640x512.size a)
    (k : Fin 128) :
    (∑ r : Fin 640, wRow (fun l => View.ld x1 (Rect.unit (s := S640x512) ![0, o] S640x128.size inb) (ix2 r l))
      (fun l => View.ld x0 (Rect.unit (s := S640x512) ![0, o] S640x128.size inb) (ix2 r l))
      (fun l => View.ld x2 (Rect.unit (s := S640x512) ![0, o] S640x128.size inb) (ix2 r l)) k)
      = ∑ r : Fin 640, wRow (hd x1 r.val o) (hd x0 r.val o) (hd x2 r.val o) k :=
  Finset.sum_congr rfl fun r _ => by
    rw [funext (fun l => ld_head x1 o inb r l), funext (fun l => ld_head x0 o inb r l), funext (fun l => ld_head x2 o inb r l)]

theorem zero_acc (k : Fin 128) : (k0_pay3 (F := Ideal)) (ix2 0 k) = 0 := by
  pointwise [k0_pay3]

theorem zero_weight (k : Fin 128) : (k0_pay1 (F := Ideal)) (ix2 0 k) = 0 := by
  pointwise [k0_pay1]

/-- The first point leaves in the weight block the addend of its blocks, -/
theorem weight_first (hc0 : cond0_0 i) (k : Fin 128) :
    out0_A_6 c i a2 h2 a3 h3 a4 h4 a5 h5 a6 h6 a7 h7 a8 h8 hc0 x0 x1 x2 x3 (ix2 0 k) = wBlk x0 x1 x2 k := by
  unfold out0_A_6
  rw [View.read_writes_eq_canon _ _ _ (cover0_A_6 c i a2 h2 a3 h3 a4 h4 a5 h5 a6 h6 a7 h7 a8 h8 hc0 x0 x1 x2 x3)]
  unfold kernelRun0_A
  dsimp only
  sl_unfold_words
  rw [View.canon_cons_unit_zero (S := S1x128) hz, View.readCov_unit_zero (S := S1x128) _ hz]
  simp only [View.readAt_eq_ld, h2.read_unread, h3.read_unread, h4.read_unread, h5.read_unread, h6.read_unread, h7.read_unread,
    h8.read_unread, View.ld_unit_zero (S := S1x128) hz]
  refine (w_head3 _ _ _ _ _ k).trans ?_
  rw [w_head2, w_head1, w_head0, zero_acc, zero_weight, zero_add, zero_add]
  exact congrArg₂ (fun a b : EReal => a + b) (congrArg₂ (fun a b : EReal => a + b) (congrArg₂ (fun a b : EReal => a + b)
    (w_sum x0 x1 x2 0 _ k) (w_sum x0 x1 x2 128 _ k)) (w_sum x0 x1 x2 256 _ k)) (w_sum x0 x1 x2 384 _ k)

/-- and a later one what it held plus the addend. -/
theorem weight_later (hc0 : ¬cond0_0 i) (k : Fin 128) :
    out0_B_6 c i a2 h2 a3 h3 a4 h4 a5 h5 a6 h6 a7 h7 a8 h8 hc0 x0 x1 x2 x3 xw (ix2 0 k) = xw (ix2 0 k) + wBlk x0 x1 x2 k := by
  unfold out0_B_6
  rw [View.read_writes_eq_canon _ _ _ (cover0_B_6 c i a2 h2 a3 h3 a4 h4 a5 h5 a6 h6 a7 h7 a8 h8 hc0 x0 x1 x2 x3 xw)]
  unfold kernelRun0_B
  dsimp only
  sl_unfold_words
  rw [View.canon_unit_zero (S := S1x128) hz]
  simp only [View.readAt_eq_ld, h2.read_unread, h3.read_unread, h4.read_unread, h5.read_unread, h6.read_unread, h7.read_unread,
    h8.read_unread, View.ld_unit_zero (S := S1x128) hz]
  refine (w_head3 _ _ _ _ _ k).trans ?_
  rw [w_head2, w_head1, w_head0, zero_acc, zero_add]
  refine congrArg (xw (ix2 0 k) + ·) ?_
  exact congrArg₂ (fun a b : EReal => a + b) (congrArg₂ (fun a b : EReal => a + b) (congrArg₂ (fun a b : EReal => a + b)
    (w_sum x0 x1 x2 0 _ k) (w_sum x0 x1 x2 128 _ k)) (w_sum x0 x1 x2 256 _ k)) (w_sum x0 x1 x2 384 _ k)

end Body

/-! ## The blocks the windows stage -/

/-- The windows' block indices at a grid point. -/
theorem idx_facts : ∀ t : Fin cfg0.N, (win0_0.index t 0 = t.val ∧ win0_0.index t 1 = 1)
    ∧ (win0_1.index t 0 = t.val ∧ win0_1.index t 1 = 0) ∧ (win0_2.index t 0 = t.val ∧ win0_2.index t 1 = 5)
    ∧ (win0_3.index t 0 = 0 ∧ win0_3.index t 1 = 0) ∧ (win0_4.index t 0 = t.val ∧ win0_4.index t 1 = 0)
    ∧ (win0_5.index t 0 = t.val ∧ win0_5.index t 1 = 5) ∧ (win0_6.index t 0 = 0 ∧ win0_6.index t 1 = 0) :=
  (by decide +kernel : ∀ t : Fin grid0.N, _)

/-- The weight's block is written back at the last point only. -/
theorem flush6 : ∀ t : Fin cfg0.N, (cfg0.win 6).flush t = true ↔ t.val = 25 :=
  (by decide +kernel : ∀ t : Fin grid0.N, _)

/-- The arguments as arrays of extended reals. -/
abbrev X0 (c : Dev nD) : S16640x3072.Idx → EReal := m ((c : Thread nD τ).loc main_arg0)
abbrev X1 (c : Dev nD) : S16640x1024.Idx → EReal := m ((c : Thread nD τ).loc main_arg1)
abbrev X2 (c : Dev nD) : S16640x512.Idx → EReal := m ((c : Thread nD τ).loc main_arg2)
abbrev X3 (c : Dev nD) : S16640x3072.Idx → EReal := m ((c : Thread nD τ).loc main_arg3)
abbrev X4 (c : Dev nD) : S1x128.Idx → EReal := m ((c : Thread nD τ).loc main_arg4)

/-- A block of the gradient is the second half of its rows, -/
theorem blk0 (c : Dev nD) (t : Fin cfg0.N) (r : Fin 640) (k : Fin 512) :
    (iblk m c 0 t : Vec Ideal S640x512 .f32) (ix2 r k) = at2 (X1 m c) (t.val * 640 + r.val) (512 + k.val) := by
  unfold iblk
  rw [View.read_apply]
  refine at2_idx (X1 m c) _ _ _ ?_ ?_
  · show win0_0.index t 0 * 640 + 1 * r.val = _; rw [(idx_facts t).1.1, one_mul]
  · show win0_0.index t 1 * 512 + 1 * k.val = _; rw [(idx_facts t).1.2, one_mul, one_mul]

/-- one of the rows to be normalised its rows, -/
theorem blk1 (c : Dev nD) (t : Fin cfg0.N) (r : Fin 640) (k : Fin 512) :
    (iblk m c 1 t : Vec Ideal S640x512 .f32) (ix2 r k) = at2 (X2 m c) (t.val * 640 + r.val) (0 + k.val) := by
  unfold iblk
  rw [View.read_apply]
  refine at2_idx (X2 m c) _ _ _ ?_ ?_
  · show win0_1.index t 0 * 640 + 1 * r.val = _; rw [(idx_facts t).2.1.1, one_mul]
  · show win0_1.index t 1 * 512 + 1 * k.val = _; rw [(idx_facts t).2.1.2, zero_mul, one_mul]

/-- one of the gates the last columns of their rows, -/
theorem blk2 (c : Dev nD) (t : Fin cfg0.N) (r : Fin 640) (k : Fin 512) :
    (iblk m c 2 t : Vec Ideal S640x512 .f32) (ix2 r k) = at2 (X3 m c) (t.val * 640 + r.val) (2560 + k.val) := by
  unfold iblk
  rw [View.read_apply]
  refine at2_idx (X3 m c) _ _ _ ?_ ?_
  · show win0_2.index t 0 * 640 + 1 * r.val = _; rw [(idx_facts t).2.2.1.1, one_mul]
  · show win0_2.index t 1 * 512 + 1 * k.val = _; rw [(idx_facts t).2.2.1.2, one_mul]

/-- and the weight's block the weight. -/
theorem blk3 (c : Dev nD) (t : Fin cfg0.N) (k : Fin 128) :
    (iblk m c 3 t : Vec Ideal S1x128 .f32) (ix2 0 k) = at2 (X4 m c) 0 k.val := by
  unfold iblk
  rw [View.read_apply]
  refine at2_idx (X4 m c) _ _ _ ?_ ?_
  · show win0_3.index t 0 * 1 + 1 * 0 = _; rw [(idx_facts t).2.2.2.1.1]
  · show win0_3.index t 1 * 128 + 1 * k.val = _; rw [(idx_facts t).2.2.2.1.2, zero_mul, zero_add, one_mul]

/-- A head's columns of a block are those of the array. -/
theorem hd_blk {a b : ℕ} (x : S640x512.Idx → EReal) (X : (⟨2, ![a, b]⟩ : Shape).Idx → EReal) (R C : ℕ)
    (hx : ∀ (r : Fin 640) (k : Fin 512), x (ix2 r k) = at2 X (R + r.val) (C + k.val)) (r o : ℕ) (hr : r < 640) (ho : o + 128 ≤ 512) :
    hd x r o = hd X (R + r) (C + o) := by
  funext l
  have hl : l.val < 128 := l.isLt
  unfold hd
  rw [at2_of_lt x r (o + l.val) hr (by omega), hx ⟨r, hr⟩ ⟨o + l.val, by omega⟩, Nat.add_assoc C o l.val]

theorem hd_weight (c : Dev nD) (t : Fin cfg0.N) : hd (show S1x128.Idx → EReal from iblk m c 3 t) 0 0 = hd (X4 m c) 0 0 := by
  funext l
  unfold hd
  rw [Nat.zero_add, at2_of_lt _ 0 l.val (by norm_num) l.isLt]
  exact blk3 m c t l

/-! ## What the three arrays hold -/

/-- A function of a head's columns of a row of the four arrays. -/
def rowOf (R : (Fin 128 → EReal) → (Fin 128 → EReal) → (Fin 128 → EReal) → (Fin 128 → EReal) → Fin 128 → EReal)
    (x1 : S16640x1024.Idx → EReal) (x2 : S16640x512.Idx → EReal) (x3 : S16640x3072.Idx → EReal) (x4 : S1x128.Idx → EReal)
    (r h : ℕ) (k : Fin 128) : EReal :=
  R (hd x2 r (128 * h)) (hd x1 r (512 + 128 * h)) (hd x4 0 0) (hd x3 r (2560 + 128 * h)) k

/-- The column in its head. -/
def lane (n : ℕ) : Fin 128 := ⟨n % 128, Nat.mod_lt _ (by norm_num)⟩

/-- The gradient of the normalised rows, and the given array with the gradient of the gates in its last columns. -/
def doArr (x1 : S16640x1024.Idx → EReal) (x2 : S16640x512.Idx → EReal) (x3 : S16640x3072.Idx → EReal) (x4 : S1x128.Idx → EReal) :
    S16640x512.Idx → EReal :=
  fun i => rowOf doRow x1 x2 x3 x4 (i 0).val ((i 1).val / 128) (lane (i 1).val)
def dpArr (x0 : S16640x3072.Idx → EReal) (x1 : S16640x1024.Idx → EReal) (x2 : S16640x512.Idx → EReal) (x3 : S16640x3072.Idx → EReal)
    (x4 : S1x128.Idx → EReal) : S16640x3072.Idx → EReal :=
  fun i => if 2560 ≤ (i 1).val then rowOf dpRow x1 x2 x3 x4 (i 0).val (((i 1).val - 2560) / 128) (lane (i 1).val) else x0 i

/-- One head's row's addend of the weight's gradient, and the weight's gradient. -/
def addend (x1 : S16640x1024.Idx → EReal) (x2 : S16640x512.Idx → EReal) (x3 : S16640x3072.Idx → EReal) (r h : ℕ) (k : Fin 128) : EReal :=
  wRow (hd x2 r (128 * h)) (hd x1 r (512 + 128 * h)) (hd x3 r (2560 + 128 * h)) k
def weightArr (x1 : S16640x1024.Idx → EReal) (x2 : S16640x512.Idx → EReal) (x3 : S16640x3072.Idx → EReal) : S1x128.Idx → EReal :=
  fun i => ∑ r : Fin 16640, ∑ h : Fin 4, addend x1 x2 x3 r.val h.val (i 1)

/-- A block's function at an index is the arrays' at the index's place. -/
theorem blk_at (R : (Fin 128 → EReal) → (Fin 128 → EReal) → (Fin 128 → EReal) → (Fin 128 → EReal) → Fin 128 → EReal)
    (c : Dev nD) (t : Fin cfg0.N) (y : S640x512.Idx) :
    blk R (iblk m c 0 t) (iblk m c 1 t) (iblk m c 2 t) (iblk m c 3 t) y
      = rowOf R (X1 m c) (X2 m c) (X3 m c) (X4 m c) (t.val * 640 + (y 0).val) ((y 1).val / 128) (lane (y 1).val) := by
  have hy0 : (y 0).val < 640 := (y 0).isLt
  have hy1 : (y 1).val < 512 := (y 1).isLt
  have ho : 128 * ((y 1).val / 128) + 128 ≤ 512 := by omega
  unfold blk rowOf lane
  rw [hd_blk (iblk m c 1 t) (X2 m c) (t.val * 640) 0 (blk1 m c t) _ _ hy0 ho,
    hd_blk (iblk m c 0 t) (X1 m c) (t.val * 640) 512 (blk0 m c t) _ _ hy0 ho,
    hd_blk (iblk m c 2 t) (X3 m c) (t.val * 640) 2560 (blk2 m c t) _ _ hy0 ho, Nat.zero_add]
  exact congrArg (fun w => R _ _ w _ _) (hd_weight m c t)

/-- A block's addend of the weight's gradient is that of its rows. -/
theorem w_at (c : Dev nD) (t : Fin cfg0.N) (k : Fin 128) :
    wBlk (iblk m c 0 t) (iblk m c 1 t) (iblk m c 2 t) k
      = ∑ r : Fin 640, ∑ h : Fin 4, addend (X1 m c) (X2 m c) (X3 m c) (t.val * 640 + r.val) h.val k := by
  have e : ∀ (h : Fin 4) (r : Fin 640), wRow (hd (show S640x512.Idx → EReal from iblk m c 1 t) r.val (128 * h.val))
      (hd (show S640x512.Idx → EReal from iblk m c 0 t) r.val (128 * h.val)) (hd (show S640x512.Idx → EReal from iblk m c 2 t) r.val (128 * h.val)) k
        = addend (X1 m c) (X2 m c) (X3 m c) (t.val * 640 + r.val) h.val k := fun h r => by
    have ho : 128 * h.val + 128 ≤ 512 := by have := h.isLt; omega
    unfold addend
    rw [hd_blk (iblk m c 1 t) (X2 m c) (t.val * 640) 0 (blk1 m c t) _ _ r.isLt ho,
      hd_blk (iblk m c 0 t) (X1 m c) (t.val * 640) 512 (blk0 m c t) _ _ r.isLt ho,
      hd_blk (iblk m c 2 t) (X3 m c) (t.val * 640) 2560 (blk2 m c t) _ _ r.isLt ho, Nat.zero_add]
  rw [Finset.sum_comm, Fin.sum_univ_four]
  exact congrArg₂ (fun a b : EReal => a + b) (congrArg₂ (fun a b : EReal => a + b) (congrArg₂ (fun a b : EReal => a + b)
    (Finset.sum_congr rfl fun r _ => e 0 r) (Finset.sum_congr rfl fun r _ => e 1 r))
    (Finset.sum_congr rfl fun r _ => e 2 r)) (Finset.sum_congr rfl fun r _ => e 3 r)

/-- Every grid point leaves its rows' two gradients in their blocks. -/
theorem do_at (c : Dev nD) (t : Fin cfg0.N) :
    (outsAt0 m c t.val t.isLt).1 = blk doRow (iblk m c 0 t) (iblk m c 1 t) (iblk m c 2 t) (iblk m c 3 t) := by
  by_cases h0 : t.val % 26 = 0
  · rw [outsAt0_A m c t h0]; dsimp only; exact do_first ..
  · rw [outsAt0_B m c t h0]; dsimp only; exact do_later ..

theorem dp_at (c : Dev nD) (t : Fin cfg0.N) :
    (outsAt0 m c t.val t.isLt).2.1 = blk dpRow (iblk m c 0 t) (iblk m c 1 t) (iblk m c 2 t) (iblk m c 3 t) := by
  by_cases h0 : t.val % 26 = 0
  · rw [outsAt0_A m c t h0]; dsimp only; exact dp_first ..
  · rw [outsAt0_B m c t h0]; dsimp only; exact dp_later ..

/-- What a grid point writes back is its block of the normalised rows' gradient, -/
theorem flushed4_eq (c : Dev nD) (t : Fin cfg0.N) :
    (dats m 0 c).flushed 4 t = ((cfg0.win 4).blk t).view.read (Elt Ideal) (doArr (X1 m c) (X2 m c) (X3 m c) (X4 m c)) := by
  rw [Value.flushed4, do_at]
  funext y
  show blk doRow (iblk m c 0 t) (iblk m c 1 t) (iblk m c 2 t) (iblk m c 3 t) y
    = doArr (X1 m c) (X2 m c) (X3 m c) (X4 m c) (((cfg0.win 4).blk t).view.emb y)
  have e0 : (((cfg0.win 4).blk t).view.emb y 0).val = t.val * 640 + (y 0).val := by
    show win0_4.index t 0 * 640 + 1 * (y 0).val = _; rw [(idx_facts t).2.2.2.2.1.1, one_mul]
  have e1 : (((cfg0.win 4).blk t).view.emb y 1).val = (y 1).val := by
    show win0_4.index t 1 * 512 + 1 * (y 1).val = _; rw [(idx_facts t).2.2.2.2.1.2, zero_mul, zero_add, one_mul]
  unfold doArr
  rw [e0, e1]
  exact blk_at m doRow c t y

/-- and of the last columns the gates'. -/
theorem flushed5_eq (c : Dev nD) (t : Fin cfg0.N) :
    (dats m 0 c).flushed 5 t = ((cfg0.win 5).blk t).view.read (Elt Ideal) (dpArr (X0 m c) (X1 m c) (X2 m c) (X3 m c) (X4 m c)) := by
  rw [Value.flushed5, dp_at]
  funext y
  show blk dpRow (iblk m c 0 t) (iblk m c 1 t) (iblk m c 2 t) (iblk m c 3 t) y
    = dpArr (X0 m c) (X1 m c) (X2 m c) (X3 m c) (X4 m c) (((cfg0.win 5).blk t).view.emb y)
  have e0 : (((cfg0.win 5).blk t).view.emb y 0).val = t.val * 640 + (y 0).val := by
    show win0_5.index t 0 * 640 + 1 * (y 0).val = _; rw [(idx_facts t).2.2.2.2.2.1.1, one_mul]
  have e1 : (((cfg0.win 5).blk t).view.emb y 1).val = 2560 + (y 1).val := by
    show win0_5.index t 1 * 512 + 1 * (y 1).val = _; rw [(idx_facts t).2.2.2.2.2.1.2, one_mul]
  have el : lane (2560 + (y 1).val) = lane (y 1).val := Fin.ext (by
    show (2560 + (y 1).val) % 128 = (y 1).val % 128; omega)
  unfold dpArr
  rw [e0, e1, if_pos (Nat.le_add_right _ _), Nat.add_sub_cancel_left, el]
  exact blk_at m dpRow c t y

/-- The weight's block after point `j` holds the sum over the rows so far. -/
theorem weight_acc (c : Dev nD) (j : ℕ) (hj : j < 26) (h : 26 * 0 + j < cfg0.N) (l : Fin 128) :
    (outsAt0 m c (26 * 0 + j) h).2.2 (ix2 0 l)
      = ∑ s ∈ Finset.range (j + 1), ∑ r : Fin 640, ∑ h : Fin 4, addend (X1 m c) (X2 m c) (X3 m c) ((26 * 0 + s) * 640 + r.val) h.val l := by
  refine run_sum (b := 26) (fun n h (l : Fin 128) => (outsAt0 m c n h).2.2 (ix2 0 l))
    (fun n l => ∑ r : Fin 640, ∑ h : Fin 4, addend (X1 m c) (X2 m c) (X3 m c) (n * 640 + r.val) h.val l) ?_ ?_ 0 j hj h l
  · intro n h l hn
    rw [outsAt0_A m c ⟨n, h⟩ hn]
    dsimp only
    rw [weight_first]
    exact w_at m c ⟨n, h⟩ l
  · intro n h l hn
    rw [outsAt0_B m c ⟨n + 1, h⟩ hn]
    dsimp only
    rw [weight_later]
    exact congrArg (_ + ·) (w_at m c ⟨n + 1, h⟩ l)

/-- The weight's block is the whole array. -/
theorem read6 (t : Fin cfg0.N) (G : S1x128.Idx → EReal) : ((cfg0.win 6).blk t).view.read (Elt Ideal) G = G := by
  funext y
  show G (((cfg0.win 6).blk t).view.emb y) = G y
  congr 1
  funext a
  match a with
  | ⟨0, _⟩ => exact Fin.ext (by show win0_6.index t 0 * 1 + 1 * (y 0).val = (y 0).val; rw [(idx_facts t).2.2.2.2.2.2.1]; omega)
  | ⟨1, _⟩ => exact Fin.ext (by show win0_6.index t 1 * 128 + 1 * (y 1).val = (y 1).val; rw [(idx_facts t).2.2.2.2.2.2.2]; omega)

theorem cut6 (t : Fin cfg0.N) (v : Vec Ideal S1x128 .f32) : (cfg0.win 6).cut (grid0.coords t) v = v := rfl

/-- After the last point it holds the weight's gradient, -/
theorem last6 (c : Dev nD) (n : ℕ) (h : n < cfg0.N) (e : n = 26 * 0 + 25) (y : S1x128.Idx) :
    (outsAt0 m c n h).2.2 y = weightArr (X1 m c) (X2 m c) (X3 m c) y := by
  subst e
  have hy : y = ix2 0 (y 1) := by
    rw [show (0 : Fin 1) = y 0 from Subsingleton.elim _ _]; exact eq_ix2 y
  unfold weightArr
  rw [← sum_blocks 26 640 16640 rfl (fun r => ∑ h : Fin 4, addend (X1 m c) (X2 m c) (X3 m c) r h.val (y 1))]
  refine (congrArg _ hy).trans ((weight_acc m c 25 (by omega) h (y 1)).trans ?_)
  exact Finset.sum_congr rfl fun s _ => by rw [Nat.mul_zero, Nat.zero_add]

/-- which that point writes back. -/
theorem flushed6_eq (c : Dev nD) (t : Fin cfg0.N) (hf : (cfg0.win 6).flush t = true) :
    (dats m 0 c).flushed 6 t = ((cfg0.win 6).blk t).view.read (Elt Ideal) (weightArr (X1 m c) (X2 m c) (X3 m c)) := by
  rw [Value.flushed6, cut6]
  exact (funext fun y => last6 m c t.val t.isLt ((flush6 t).1 hf) y).trans (read6 t (weightArr (X1 m c) (X2 m c) (X3 m c))).symm

/-- An index is in a point's block of an output when its coordinates are. -/
theorem mem_blk4 (t : Fin cfg0.N) (i : S16640x512.Idx) :
    i ∈ ((cfg0.win 4).blk t).view.set ↔
      ∀ a : Fin 2, win0_4.index t a * S640x512.size a ≤ (i a).val ∧ (i a).val < win0_4.index t a * S640x512.size a + S640x512.size a := by
  show i ∈ ((View.whole main_v0_0).slice (win0_4.rect t)).set ↔ _
  rw [View.set_slice_whole, Rect.mem_set_unit]
  exact Iff.rfl

theorem mem_blk5 (t : Fin cfg0.N) (i : S16640x3072.Idx) :
    i ∈ ((cfg0.win 5).blk t).view.set ↔
      ∀ a : Fin 2, win0_5.index t a * S640x512.size a ≤ (i a).val ∧ (i a).val < win0_5.index t a * S640x512.size a + S640x512.size a := by
  show i ∈ ((View.whole main_v0_1).slice (win0_5.rect t)).set ↔ _
  rw [View.set_slice_whole, Rect.mem_set_unit]
  exact Iff.rfl

theorem mem_blk6 (t : Fin cfg0.N) (i : S1x128.Idx) :
    i ∈ ((cfg0.win 6).blk t).view.set ↔
      ∀ a : Fin 2, win0_6.index t a * S1x128.size a ≤ (i a).val ∧ (i a).val < win0_6.index t a * S1x128.size a + S1x128.size a := by
  show i ∈ ((View.whole main_v0_2).slice (win0_6.rect t)).set ↔ _
  rw [View.set_slice_whole, Rect.mem_set_unit]
  exact Iff.rfl

/-- Every index of the normalised rows' gradient is in the block of the point that has its row, -/
theorem covered4 (i : S16640x512.Idx) : ∃ t : Fin cfg0.N, (cfg0.win 4).flush t = true ∧ i ∈ ((cfg0.win 4).blk t).view.set := by
  have hi0 : (i 0).val < 16640 := (i 0).isLt
  have hi1 : (i 1).val < 512 := (i 1).isLt
  have hN : cfg0.N = 26 := N_0
  refine ⟨⟨(i 0).val / 640, by omega⟩, flush0_4 _, ?_⟩
  rw [mem_blk4]
  intro a
  match a with
  | ⟨0, _⟩ =>
    show win0_4.index _ 0 * 640 ≤ (i 0).val ∧ (i 0).val < win0_4.index _ 0 * 640 + 640
    rw [(idx_facts _).2.2.2.2.1.1]; dsimp only; omega
  | ⟨1, _⟩ =>
    show win0_4.index _ 1 * 512 ≤ (i 1).val ∧ (i 1).val < win0_4.index _ 1 * 512 + 512
    rw [(idx_facts _).2.2.2.2.1.2]; omega

/-- every index of the last columns is, -/
theorem covered5 (i : S16640x3072.Idx) (h : 2560 ≤ (i 1).val) :
    ∃ t : Fin cfg0.N, (cfg0.win 5).flush t = true ∧ i ∈ ((cfg0.win 5).blk t).view.set := by
  have hi0 : (i 0).val < 16640 := (i 0).isLt
  have hi1 : (i 1).val < 3072 := (i 1).isLt
  have hN : cfg0.N = 26 := N_0
  refine ⟨⟨(i 0).val / 640, by omega⟩, flush0_5 _, ?_⟩
  rw [mem_blk5]
  intro a
  match a with
  | ⟨0, _⟩ =>
    show win0_5.index _ 0 * 640 ≤ (i 0).val ∧ (i 0).val < win0_5.index _ 0 * 640 + 640
    rw [(idx_facts _).2.2.2.2.2.1.1]; dsimp only; omega
  | ⟨1, _⟩ =>
    show win0_5.index _ 1 * 512 ≤ (i 1).val ∧ (i 1).val < win0_5.index _ 1 * 512 + 512
    rw [(idx_facts _).2.2.2.2.2.1.2]; omega

/-- no index of the other columns is in any block, -/
theorem uncovered5 (i : S16640x3072.Idx) (h : ¬2560 ≤ (i 1).val) (t : Fin cfg0.N) : i ∉ ((cfg0.win 5).blk t).view.set := by
  rw [mem_blk5]
  intro hm
  have h1 : win0_5.index t 1 * 512 ≤ (i 1).val := (hm 1).1
  rw [(idx_facts t).2.2.2.2.2.1.2] at h1
  omega

/-- and every index of the weight is in the last point's. -/
theorem covered6 (i : S1x128.Idx) : ∃ t : Fin cfg0.N, (cfg0.win 6).flush t = true ∧ i ∈ ((cfg0.win 6).blk t).view.set := by
  have hi0 : (i 0).val < 1 := (i 0).isLt
  have hi1 : (i 1).val < 128 := (i 1).isLt
  have hN : cfg0.N = 26 := N_0
  refine ⟨⟨25, by omega⟩, (flush6 _).2 rfl, ?_⟩
  rw [mem_blk6]
  intro a
  match a with
  | ⟨0, _⟩ =>
    show win0_6.index _ 0 * 1 ≤ (i 0).val ∧ (i 0).val < win0_6.index _ 0 * 1 + 1
    rw [(idx_facts _).2.2.2.2.2.2.1]; omega
  | ⟨1, _⟩ =>
    show win0_6.index _ 1 * 128 ≤ (i 1).val ∧ (i 1).val < win0_6.index _ 1 * 128 + 128
    rw [(idx_facts _).2.2.2.2.2.2.2]; omega

/-- The second result starts as the array given. -/
theorem entry_given (c : Dev nD) (i : S16640x3072.Idx) : (V m c (Pipeline.arrRef spec0 5) : S16640x3072.Idx → EReal) i = X0 m c i := by
  have e : V m c main_v0_1 = m ((c : Thread nD τ).loc main_arg0) := by
    show StableHlo.after hostOps0 _ (Proc.devRef .tc main_v0_1) = _
    after_results
    rfl
  exact congrFun e i

/-- The three results after the run: the normalised rows' gradient, -/
theorem final4 (c : Dev nD) : (dats m 0 c).arrAt 4 cfg0.N = doArr (X1 m c) (X2 m c) (X3 m c) (X4 m c) :=
  (dats m 0 c).arrAt_eq_of_cover 4 _ (fun t _ => flushed4_eq m c t) covered4

/-- the given array with the gates' gradient in its last columns, -/
theorem final5 (c : Dev nD) : (dats m 0 c).arrAt 5 cfg0.N = dpArr (X0 m c) (X1 m c) (X2 m c) (X3 m c) (X4 m c) := by
  funext i
  by_cases h : 2560 ≤ (i 1).val
  · obtain ⟨t, hf, hi⟩ := covered5 i h
    exact (dats m 0 c).arrAt_apply_of_mem 5 _ (fun t _ => flushed5_eq m c t) cfg0.N t i t.isLt hf hi
  · refine (Value.entry5 m c i (fun t _ => uncovered5 i h t)).trans ((entry_given m c i).trans ?_)
    unfold dpArr
    rw [if_neg h]

/-- and the weight's gradient. -/
theorem final6 (c : Dev nD) : (dats m 0 c).arrAt 6 cfg0.N = weightArr (X1 m c) (X2 m c) (X3 m c) :=
  (dats m 0 c).arrAt_eq_of_cover 6 _ (flushed6_eq m c) covered6

/-! ## The reference -/

/-- The reference's arguments cut into heads: the rows to be normalised, -/
def refO (x2 : FVec Ideal S16640x512 .f32) : FVec Ideal Cert.Reference15Ideal.S16640x4x128 .f32 :=
  shapeCast Cert.Reference15Ideal.S16640x4x128 x2 Cert.Reference15Ideal.Gen.shapeCasts_S16640x512_S16640x4x128

/-- the incoming gradient, -/
def refD (x1 : FVec Ideal S16640x1024 .f32) : FVec Ideal Cert.Reference15Ideal.S16640x4x128 .f32 :=
  shapeCast Cert.Reference15Ideal.S16640x4x128 (extractStridedSlice Cert.Reference15Ideal.S16640x512 ![0, 512] x1 Cert.Reference15Ideal.Gen.slices_S16640x1024_S16640x512_0_512) Cert.Reference15Ideal.Gen.shapeCasts_S16640x512_S16640x4x128

/-- the gates, -/
def refZ (x3 : FVec Ideal S16640x3072 .f32) : FVec Ideal Cert.Reference15Ideal.S16640x4x128 .f32 :=
  shapeCast Cert.Reference15Ideal.S16640x4x128 (extractStridedSlice Cert.Reference15Ideal.S16640x512 ![0, 2560] x3 Cert.Reference15Ideal.Gen.slices_S16640x3072_S16640x512_0_2560) Cert.Reference15Ideal.Gen.shapeCasts_S16640x512_S16640x4x128

/-- and the weight. -/
def refW (x4 : FVec Ideal S1x128 .f32) : FVec Ideal Cert.Reference15Ideal.S16640x4x128 .f32 :=
  broadcastInDim Cert.Reference15Ideal.S16640x4x128 ![0, 1, 2] Cert.Reference15Ideal.Gen.bcast_S1x1x128_S16640x4x128_0_1_2 (broadcastInDim Cert.Reference15Ideal.S1x1x128 ![1, 2] Cert.Reference15Ideal.Gen.bcast_S1x128_S1x1x128_1_2 x4)

/-- The logistic function of the gates. -/
def refSig (x3 : FVec Ideal S16640x3072 .f32) : FVec Ideal Cert.Reference15Ideal.S16640x4x128 .f32 :=
  Host.divf (broadcastInDim Cert.Reference15Ideal.S16640x4x128 ![] Cert.Reference15Ideal.Gen.bcast_S_S16640x4x128 (constant Cert.Reference15Ideal.S_ .f32 0x3F800000#32)) (addf (broadcastInDim Cert.Reference15Ideal.S16640x4x128 ![] Cert.Reference15Ideal.Gen.bcast_S_S16640x4x128 (constant Cert.Reference15Ideal.S_ .f32 0x3F800000#32)) (Host.exp (Host.negf (refZ x3))))

/-- The mean squares of the heads' rows, and their factors. -/
def refMeanSq (x2 : FVec Ideal S16640x512 .f32) : FVec Ideal Cert.Reference15Ideal.S16640x4x1 .f32 :=
  addf (Host.divf (broadcastInDim Cert.Reference15Ideal.S16640x4x1 ![0, 1] Cert.Reference15Ideal.Gen.bcast_S16640x4_S16640x4x1_0_1 (Host.reduceAdd (mulf (refO x2) (refO x2)) (constant Cert.Reference15Ideal.S_ .f32 0x00000000#32) Cert.Reference15Ideal.Gen.reducesTo_S16640x4x128_S16640x4_d2 Cert.Reference15Ideal.Gen.h_S_)) (broadcastInDim Cert.Reference15Ideal.S16640x4x1 ![] Cert.Reference15Ideal.Gen.bcast_S_S16640x4x1 (constant Cert.Reference15Ideal.S_ .f32 0x43000000#32))) (broadcastInDim Cert.Reference15Ideal.S16640x4x1 ![] Cert.Reference15Ideal.Gen.bcast_S_S16640x4x1 (constant Cert.Reference15Ideal.S_ .f32 0x358637BD#32))

def refScale (x2 : FVec Ideal S16640x512 .f32) : FVec Ideal Cert.Reference15Ideal.S16640x4x1 .f32 :=
  Host.rsqrt (refMeanSq x2)

/-- The normalised rows. -/
def refNorm (x2 : FVec Ideal S16640x512 .f32) : FVec Ideal Cert.Reference15Ideal.S16640x4x128 .f32 :=
  mulf (refO x2) (broadcastInDim Cert.Reference15Ideal.S16640x4x128 ![0, 1, 2] Cert.Reference15Ideal.Gen.bcast_S16640x4x1_S16640x4x128_0_1_2 (refScale x2))

/-- The gradient of the normalised rows, times the weight. -/
def refGr (x1 : FVec Ideal S16640x1024 .f32) (x3 : FVec Ideal S16640x3072 .f32) (x4 : FVec Ideal S1x128 .f32) : FVec Ideal Cert.Reference15Ideal.S16640x4x128 .f32 :=
  mulf (mulf (refD x1) (mulf (refZ x3) (refSig x3))) (refW x4)

/-- The coefficient of the rows in their gradient. -/
def refCoeff (x1 : FVec Ideal S16640x1024 .f32) (x2 : FVec Ideal S16640x512 .f32) (x3 : FVec Ideal S16640x3072 .f32) (x4 : FVec Ideal S1x128 .f32) : FVec Ideal Cert.Reference15Ideal.S16640x4 .f32 :=
  Host.reduceAdd (Host.divf (mulf (shapeCast Cert.Reference15Ideal.S16640x4x1 (Host.reduceAdd (mulf (refO x2) (refGr x1 x3 x4)) (constant Cert.Reference15Ideal.S_ .f32 0x00000000#32) Cert.Reference15Ideal.Gen.reducesTo_S16640x4x128_S16640x4_d2 Cert.Reference15Ideal.Gen.h_S_) Cert.Reference15Ideal.Gen.shapeCasts_S16640x4_S16640x4x1) (mulf (broadcastInDim Cert.Reference15Ideal.S16640x4x1 ![] Cert.Reference15Ideal.Gen.bcast_S_S16640x4x1 (constant Cert.Reference15Ideal.S_ .f32 0xBF000000#32)) (Host.divf (refScale x2) (refMeanSq x2)))) (broadcastInDim Cert.Reference15Ideal.S16640x4x1 ![] Cert.Reference15Ideal.Gen.bcast_S_S16640x4x1 (constant Cert.Reference15Ideal.S_ .f32 0x43000000#32))) (constant Cert.Reference15Ideal.S_ .f32 0x00000000#32) Cert.Reference15Ideal.Gen.reducesTo_S16640x4x1_S16640x4_d2 Cert.Reference15Ideal.Gen.h_S_

/-- The gradient of the gates' activation. -/
def refP (x1 : FVec Ideal S16640x1024 .f32) (x2 : FVec Ideal S16640x512 .f32) (x4 : FVec Ideal S1x128 .f32) : FVec Ideal Cert.Reference15Ideal.S16640x4x128 .f32 :=
  mulf (mulf (refNorm x2) (refW x4)) (refD x1)

/-- The reference's two gradients, head by head, -/
def refDo3 (x1 : FVec Ideal S16640x1024 .f32) (x2 : FVec Ideal S16640x512 .f32) (x3 : FVec Ideal S16640x3072 .f32) (x4 : FVec Ideal S1x128 .f32) : FVec Ideal Cert.Reference15Ideal.S16640x4x128 .f32 :=
  addf (addf (mulf (refGr x1 x3 x4) (broadcastInDim Cert.Reference15Ideal.S16640x4x128 ![0, 1, 2] Cert.Reference15Ideal.Gen.bcast_S16640x4x1_S16640x4x128_0_1_2 (refScale x2))) (mulf (refO x2) (broadcastInDim Cert.Reference15Ideal.S16640x4x128 ![0, 1] Cert.Reference15Ideal.Gen.bcast_S16640x4_S16640x4x128_0_1 (refCoeff x1 x2 x3 x4)))) (mulf (broadcastInDim Cert.Reference15Ideal.S16640x4x128 ![0, 1] Cert.Reference15Ideal.Gen.bcast_S16640x4_S16640x4x128_0_1 (refCoeff x1 x2 x3 x4)) (refO x2))
def refDz3 (x1 : FVec Ideal S16640x1024 .f32) (x2 : FVec Ideal S16640x512 .f32) (x3 : FVec Ideal S16640x3072 .f32) (x4 : FVec Ideal S1x128 .f32) : FVec Ideal Cert.Reference15Ideal.S16640x4x128 .f32 :=
  addf (mulf (refP x1 x2 x4) (refSig x3)) (mulf (mulf (refZ x3) (refP x1 x2 x4)) (mulf (refSig x3) (subf (broadcastInDim Cert.Reference15Ideal.S16640x4x128 ![] Cert.Reference15Ideal.Gen.bcast_S_S16640x4x128 (constant Cert.Reference15Ideal.S_ .f32 0x3F800000#32)) (refSig x3))))

/-- and its three terms of the arguments. -/
def refDo (x1 : FVec Ideal S16640x1024 .f32) (x2 : FVec Ideal S16640x512 .f32) (x3 : FVec Ideal S16640x3072 .f32) (x4 : FVec Ideal S1x128 .f32) : FVec Ideal S16640x512 .f32 :=
  shapeCast Cert.Reference15Ideal.S16640x512 (refDo3 x1 x2 x3 x4) Cert.Reference15Ideal.Gen.shapeCasts_S16640x4x128_S16640x512
def refDp (x0 : FVec Ideal S16640x3072 .bf16) (x1 : FVec Ideal S16640x1024 .f32) (x2 : FVec Ideal S16640x512 .f32) (x3 : FVec Ideal S16640x3072 .f32) (x4 : FVec Ideal S1x128 .f32) : FVec Ideal S16640x3072 .bf16 :=
  concatenate Cert.Reference15Ideal.S16640x3072 1 [⟨Cert.Reference15Ideal.S16640x2560, (extractStridedSlice Cert.Reference15Ideal.S16640x2560 ![0, 0] x0 Cert.Reference15Ideal.Gen.slices_S16640x3072_S16640x2560_0_0)⟩, ⟨Cert.Reference15Ideal.S16640x512, (truncf .bf16 (shapeCast Cert.Reference15Ideal.S16640x512 (refDz3 x1 x2 x3 x4) Cert.Reference15Ideal.Gen.shapeCasts_S16640x4x128_S16640x512) Cert.Reference15Ideal.Gen.bitsLt_bf16_f32)⟩] Cert.Reference15Ideal.Gen.concatenates_S16640x2560_S16640x512_S16640x3072_d1
def refWeight (x1 : FVec Ideal S16640x1024 .f32) (x2 : FVec Ideal S16640x512 .f32) (x3 : FVec Ideal S16640x3072 .f32) : FVec Ideal S1x128 .f32 :=
  broadcastInDim Cert.Reference15Ideal.S1x128 ![1] Cert.Reference15Ideal.Gen.bcast_S128_S1x128_1 (Host.reduceAdd (shapeCast Cert.Reference15Ideal.S1x1x128 (Host.reduceAdd (mulf (refNorm x2) (mulf (refD x1) (mulf (refZ x3) (refSig x3)))) (constant Cert.Reference15Ideal.S_ .f32 0x00000000#32) Cert.Reference15Ideal.Gen.reducesTo_S16640x4x128_S128_d0_1 Cert.Reference15Ideal.Gen.h_S_) Cert.Reference15Ideal.Gen.shapeCasts_S128_S1x1x128) (constant Cert.Reference15Ideal.S_ .f32 0x00000000#32) Cert.Reference15Ideal.Gen.reducesTo_S1x1x128_S128_d0_1 Cert.Reference15Ideal.Gen.h_S_)

/-- A row of 512 columns is four heads of 128. -/
theorem cut_heads (x : FVec Ideal S16640x512 .f32) (r : Fin 16640) (h : Fin 4) (k : Fin 128) :
    shapeCast Cert.Reference15Ideal.S16640x4x128 x Cert.Reference15Ideal.Gen.shapeCasts_S16640x512_S16640x4x128 (ix3 r h k)
      = at2 x r.val (128 * h.val + k.val) := by
  have hh : h.val < 4 := h.isLt
  have hk : k.val < 128 := k.isLt
  rw [at2_of_lt x r.val (128 * h.val + k.val) r.isLt (by omega)]
  refine shapeCast_apply x Cert.Reference15Ideal.Gen.shapeCasts_S16640x512_S16640x4x128 (ix3 r h k) (ix2 r ⟨128 * h.val + k.val, by omega⟩) ?_
  rw [Shape.rowMajor_val_three, Shape.rowMajor_val_two]
  show r.val * 512 + (128 * h.val + k.val) = (r.val * 4 + h.val) * 128 + k.val
  omega

/-- The cut arguments at an index, -/
theorem refO_apply (x2 : FVec Ideal S16640x512 .f32) (r : Fin 16640) (h : Fin 4) (k : Fin 128) :
    refO x2 (ix3 r h k) = hd x2 r.val (128 * h.val) k := cut_heads x2 r h k

theorem refD_apply (x1 : FVec Ideal S16640x1024 .f32) (r : Fin 16640) (h : Fin 4) (k : Fin 128) :
    refD x1 (ix3 r h k) = hd x1 r.val (512 + 128 * h.val) k := by
  have hh : h.val < 4 := h.isLt
  have hk : k.val < 128 := k.isLt
  refine (cut_heads _ r h k).trans ?_
  rw [at2_of_lt _ r.val (128 * h.val + k.val) r.isLt (by omega)]
  exact at2_idx x1 _ _ _ (by show 0 + r.val = _; omega) (by show 512 + (128 * h.val + k.val) = _; omega)

theorem refZ_apply (x3 : FVec Ideal S16640x3072 .f32) (r : Fin 16640) (h : Fin 4) (k : Fin 128) :
    refZ x3 (ix3 r h k) = hd x3 r.val (2560 + 128 * h.val) k := by
  have hh : h.val < 4 := h.isLt
  have hk : k.val < 128 := k.isLt
  refine (cut_heads _ r h k).trans ?_
  rw [at2_of_lt _ r.val (128 * h.val + k.val) r.isLt (by omega)]
  exact at2_idx x3 _ _ _ (by show 0 + r.val = _; omega) (by show 2560 + (128 * h.val + k.val) = _; omega)

theorem refW_apply (x4 : FVec Ideal S1x128 .f32) (r : Fin 16640) (h : Fin 4) (k : Fin 128) : refW x4 (ix3 r h k) = hd x4 0 0 k := by
  rw [← ld_weight x4 k]
  pointwise [refW]

/-- the gates' logistic function, -/
theorem refSig_apply (x3 : FVec Ideal S16640x3072 .f32) (r : Fin 16640) (h : Fin 4) (k : Fin 128) :
    refSig x3 (ix3 r h k) = logi (hd x3 r.val (2560 + 128 * h.val) k) := by
  rw [← refZ_apply]
  unfold refSig logi
  generalize refZ x3 = z
  pointwise

/-- the heads' mean squares and factors, -/
theorem refMeanSq_apply (x2 : FVec Ideal S16640x512 .f32) (r : Fin 16640) (h : Fin 4) :
    refMeanSq x2 (ix3 r h 0) = meanSq (hd x2 r.val (128 * h.val)) := by
  have e : (fun k => refO x2 (ix3 r h k)) = hd x2 r.val (128 * h.val) := funext fun k => refO_apply x2 r h k
  rw [← e]
  unfold refMeanSq meanSq
  generalize refO x2 = o
  pointwise

theorem refScale_apply (x2 : FVec Ideal S16640x512 .f32) (r : Fin 16640) (h : Fin 4) :
    refScale x2 (ix3 r h 0) = scale (hd x2 r.val (128 * h.val)) :=
  congrArg Ideal.rsqrt (refMeanSq_apply x2 r h)

/-- the normalised rows, -/
theorem refNorm_apply (x2 : FVec Ideal S16640x512 .f32) (r : Fin 16640) (h : Fin 4) (k : Fin 128) :
    refNorm x2 (ix3 r h k) = hd x2 r.val (128 * h.val) k * scale (hd x2 r.val (128 * h.val)) := by
  rw [← refO_apply, ← refScale_apply]
  unfold refNorm
  generalize refO x2 = o
  generalize refScale x2 = s
  pointwise

/-- their gradient times the weight, -/
theorem refGr_apply (x1 : FVec Ideal S16640x1024 .f32) (x3 : FVec Ideal S16640x3072 .f32) (x4 : FVec Ideal S1x128 .f32)
    (r : Fin 16640) (h : Fin 4) (k : Fin 128) :
    refGr x1 x3 x4 (ix3 r h k) = grRow (hd x1 r.val (512 + 128 * h.val)) (hd x4 0 0) (hd x3 r.val (2560 + 128 * h.val)) k := by
  unfold grRow silu
  rw [← refD_apply, ← refSig_apply, ← refZ_apply, ← refW_apply x4 r h k, mul_right_comm]
  rfl

/-- the coefficient of a head's row, -/
theorem refCoeff_apply (x1 : FVec Ideal S16640x1024 .f32) (x2 : FVec Ideal S16640x512 .f32) (x3 : FVec Ideal S16640x3072 .f32)
    (x4 : FVec Ideal S1x128 .f32) (r : Fin 16640) (h : Fin 4) :
    refCoeff x1 x2 x3 x4 (ix2 r h) = coeff (hd x2 r.val (128 * h.val))
      (grRow (hd x1 r.val (512 + 128 * h.val)) (hd x4 0 0) (hd x3 r.val (2560 + 128 * h.val))) := by
  have e : (fun k => refO x2 (ix3 r h k)) = hd x2 r.val (128 * h.val) := funext fun k => refO_apply x2 r h k
  have eg : (fun k => refGr x1 x3 x4 (ix3 r h k)) = grRow (hd x1 r.val (512 + 128 * h.val)) (hd x4 0 0) (hd x3 r.val (2560 + 128 * h.val)) :=
    funext fun k => refGr_apply x1 x3 x4 r h k
  unfold coeff
  rw [← refScale_apply, ← refMeanSq_apply, ← e, ← eg]
  unfold refCoeff
  generalize refO x2 = o
  generalize refGr x1 x3 x4 = g
  generalize refScale x2 = s
  generalize refMeanSq x2 = q
  pointwise
  rw [Fin.sum_univ_one]

/-- the derivative's gradient of the rows, -/
theorem refDo3_apply (x1 : FVec Ideal S16640x1024 .f32) (x2 : FVec Ideal S16640x512 .f32) (x3 : FVec Ideal S16640x3072 .f32)
    (x4 : FVec Ideal S1x128 .f32) (r : Fin 16640) (h : Fin 4) (k : Fin 128) :
    refDo3 x1 x2 x3 x4 (ix3 r h k) = refGrad (hd x2 r.val (128 * h.val))
      (grRow (hd x1 r.val (512 + 128 * h.val)) (hd x4 0 0) (hd x3 r.val (2560 + 128 * h.val))) k := by
  unfold refGrad
  rw [← refCoeff_apply, ← refScale_apply, ← refO_apply, ← refGr_apply]
  unfold refDo3
  generalize refO x2 = o
  generalize refGr x1 x3 x4 = g
  generalize refScale x2 = s
  generalize refCoeff x1 x2 x3 x4 = q
  pointwise

/-- and of the gates. -/
theorem refDz3_apply (x1 : FVec Ideal S16640x1024 .f32) (x2 : FVec Ideal S16640x512 .f32) (x3 : FVec Ideal S16640x3072 .f32)
    (x4 : FVec Ideal S1x128 .f32) (r : Fin 16640) (h : Fin 4) (k : Fin 128) :
    refDz3 x1 x2 x3 x4 (ix3 r h k) = refP x1 x2 x4 (ix3 r h k) * logi (hd x3 r.val (2560 + 128 * h.val) k)
      + hd x3 r.val (2560 + 128 * h.val) k * refP x1 x2 x4 (ix3 r h k)
        * (logi (hd x3 r.val (2560 + 128 * h.val) k) * (1 - logi (hd x3 r.val (2560 + 128 * h.val) k))) := by
  rw [← refSig_apply, ← refZ_apply]
  unfold refDz3
  generalize refP x1 x2 x4 = p
  generalize refZ x3 = z
  generalize refSig x3 = s
  pointwise

theorem refP_apply (x1 : FVec Ideal S16640x1024 .f32) (x2 : FVec Ideal S16640x512 .f32)
    (x4 : FVec Ideal S1x128 .f32) (r : Fin 16640) (h : Fin 4) (k : Fin 128) :
    refP x1 x2 x4 (ix3 r h k) = hd x1 r.val (512 + 128 * h.val) k
      * (hd x2 r.val (128 * h.val) k * scale (hd x2 r.val (128 * h.val))) * hd x4 0 0 k := by
  rw [← refNorm_apply, ← refD_apply, ← refW_apply x4 r h k, mul_assoc, mul_comm]
  rfl

/-- Four heads of 128 columns are a row of 512. -/
theorem join_heads (y : FVec Ideal Cert.Reference15Ideal.S16640x4x128 .f32) (r : Fin 16640) (l : Fin 512) :
    shapeCast Cert.Reference15Ideal.S16640x512 y Cert.Reference15Ideal.Gen.shapeCasts_S16640x4x128_S16640x512 (ix2 r l)
      = y (ix3 r ⟨l.val / 128, by have := l.isLt; omega⟩ (lane l.val)) := by
  refine shapeCast_apply y Cert.Reference15Ideal.Gen.shapeCasts_S16640x4x128_S16640x512 (ix2 r l) (ix3 r ⟨l.val / 128, by have := l.isLt; omega⟩ (lane l.val)) ?_
  rw [Shape.rowMajor_val_three, Shape.rowMajor_val_two]
  show (r.val * 4 + l.val / 128) * 128 + l.val % 128 = r.val * 512 + l.val
  omega

/-- A sum along the first two axes of an array with three. -/
theorem sum_two {n0 n1 n2 : ℕ} (h : (⟨3, ![n0, n1, n2]⟩ : Shape).ReducesTo [0, 1] (⟨1, ![n2]⟩ : Shape))
    (v : (⟨3, ![n0, n1, n2]⟩ : Shape).Idx → EReal) (a : EReal) (l : Fin n2) :
    Ideal.hostReduceAdd h v a (ix1 l) = a + ∑ p : Fin n0, ∑ q : Fin n1, v (ix3 p q l) := by
  refine congrArg (a + ·) ?_
  refine (Finset.sum_filter_eq_sum_of_fiber _ (fun p : Fin n0 × Fin n1 => ix3 p.1 p.2 l)
    (fun _ _ e => Prod.ext (congrFun e 0) (congrFun e 1)) (fun i => ?_) v).trans ?_
  · constructor
    · intro e
      refine ⟨(i 0, i 1), ?_⟩
      funext b; apply Fin.ext
      match b with
      | ⟨0, _⟩ => rfl
      | ⟨1, _⟩ => rfl
      | ⟨2, _⟩ => exact (congrArg Fin.val (congrFun e 0)).symm
    · rintro ⟨p, rfl⟩
      funext b; apply Fin.ext
      match b with
      | ⟨0, _⟩ => rfl
  · simp only [Fintype.sum_prod_type]

/-- The reference's gradient of the weight is the sum over rows and heads. -/
theorem refWeight_apply (x1 : FVec Ideal S16640x1024 .f32) (x2 : FVec Ideal S16640x512 .f32) (x3 : FVec Ideal S16640x3072 .f32)
    (l : Fin 128) :
    refWeight x1 x2 x3 (ix2 0 l) = ∑ r : Fin 16640, ∑ h : Fin 4,
      refNorm x2 (ix3 r h l) * (refD x1 (ix3 r h l) * (refZ x3 (ix3 r h l) * refSig x3 (ix3 r h l))) := by
  unfold refWeight
  generalize refNorm x2 = n
  generalize refD x1 = d
  generalize refZ x3 = z
  generalize refSig x3 = s
  pointwise
  rw [sum_two, Fin.sum_univ_one, Fin.sum_univ_one, shapeCast_apply _ _ (ix3 (0 : Fin 1) (0 : Fin 1) l) (ix1 l) (by
    rw [Shape.rowMajor_val_three, Shape.rowMajor_val_one]
    show l.val = (0 * 1 + 0) * 128 + l.val
    omega)]
  pointwise
  rw [sum_two]
  pointwise

/-! ## The two are equal -/

theorem weight_eq (x1 : FVec Ideal S16640x1024 .f32) (x2 : FVec Ideal S16640x512 .f32) (x3 : FVec Ideal S16640x3072 .f32) :
    weightArr x1 x2 x3 = refWeight x1 x2 x3 := by
  funext i
  obtain ⟨l, rfl⟩ : ∃ l : Fin 128, i = ix2 0 l := ⟨i 1, (eq_ix2 i).trans (congrArg (fun a : Fin 1 => (ix2 a (i 1) : S1x128.Idx)) (Subsingleton.elim _ _))⟩
  rw [refWeight_apply]
  refine Finset.sum_congr rfl fun r _ => Finset.sum_congr rfl fun h _ => ?_
  rw [refNorm_apply, refD_apply, refZ_apply, refSig_apply]
  unfold addend wRow silu
  show hd x1 _ _ l * _ * (_ * _) = _
  rw [mul_assoc, mul_left_comm]
  rfl

/-- A head of an array of reals is a row of reals. -/
theorem hd_real {a b : ℕ} (X : (⟨2, ![a, b]⟩ : Shape).Idx → EReal) (hX : ∀ i, ∃ x : ℝ, X i = x) (r o : ℕ) (k : Fin 128) :
    ∃ x : ℝ, hd X r o k = x := by
  unfold hd at2
  split_ifs
  · exact hX _
  · exact ⟨0, rfl⟩

theorem real_mul {a b : EReal} (ha : ∃ x : ℝ, a = x) (hb : ∃ x : ℝ, b = x) : ∃ x : ℝ, a * b = x := by
  obtain ⟨x, rfl⟩ := ha
  obtain ⟨y, rfl⟩ := hb
  exact ⟨x * y, (EReal.coe_mul x y).symm⟩

theorem logi_real {z : EReal} (hz : ∃ x : ℝ, z = x) : ∃ x : ℝ, logi z = x := by
  obtain ⟨x, rfl⟩ := hz
  exact Finite.real_logistic x

/-- On arguments of reals the gradient of the rows is the derivative's, -/
theorem do_eq (x1 : FVec Ideal S16640x1024 .f32) (x2 : FVec Ideal S16640x512 .f32) (x3 : FVec Ideal S16640x3072 .f32)
    (x4 : FVec Ideal S1x128 .f32) (h1 : ∀ i, ∃ x : ℝ, x1 i = x) (h2 : ∀ i, ∃ x : ℝ, x2 i = x) (h3 : ∀ i, ∃ x : ℝ, x3 i = x)
    (h4 : ∀ i, ∃ x : ℝ, x4 i = x) : doArr x1 x2 x3 x4 = refDo x1 x2 x3 x4 := by
  funext i
  obtain ⟨r, l, rfl⟩ : ∃ (r : Fin 16640) (l : Fin 512), i = ix2 r l := ⟨i 0, i 1, eq_ix2 i⟩
  unfold refDo
  rw [join_heads, refDo3_apply]
  exact grad_eq _ _ (hd_real x2 h2 _ _) (fun k => real_mul (real_mul (hd_real x1 h1 _ _ k) (hd_real x4 h4 _ _ k))
    (real_mul (hd_real x3 h3 _ _ k) (logi_real (hd_real x3 h3 _ _ k)))) _

/-- The given array's first columns and the gates' gradient in its last. -/
theorem join_cols (x0 : FVec Ideal S16640x3072 .bf16) (y : FVec Ideal Cert.Reference15Ideal.S16640x512 .f32) (r : Fin 16640) (c : Fin 3072) :
    (concatenate Cert.Reference15Ideal.S16640x3072 1 [⟨Cert.Reference15Ideal.S16640x2560, (extractStridedSlice Cert.Reference15Ideal.S16640x2560 ![0, 0] x0 Cert.Reference15Ideal.Gen.slices_S16640x3072_S16640x2560_0_0)⟩,
      ⟨Cert.Reference15Ideal.S16640x512, (truncf .bf16 y Cert.Reference15Ideal.Gen.bitsLt_bf16_f32)⟩]
      Cert.Reference15Ideal.Gen.concatenates_S16640x2560_S16640x512_S16640x3072_d1 : FVec Ideal S16640x3072 .bf16) (ix2 r c)
      = if h : 2560 ≤ c.val then y (ix2 r ⟨c.val - 2560, by have := c.isLt; omega⟩) else x0 (ix2 r c) := by
  by_cases h : 2560 ≤ c.val
  · rw [dif_pos h]
    rw [concatenate_pair_apply]
    refine (dif_neg (show ¬ c.val < 2560 by omega)).trans (congrArg y (funext fun b => Fin.ext ?_))
    match b with
    | ⟨0, _⟩ => rfl
    | ⟨1, _⟩ => rfl
  · rw [dif_neg h]
    rw [concatenate_pair_apply]
    refine (dif_pos (show c.val < 2560 by omega)).trans (congrArg x0 (funext fun b => Fin.ext ?_))
    match b with
    | ⟨0, _⟩ => exact Nat.zero_add _
    | ⟨1, _⟩ => exact Nat.zero_add _

/-- and of the gates. -/
theorem dp_eq (x0 : FVec Ideal S16640x3072 .bf16) (x1 : FVec Ideal S16640x1024 .f32) (x2 : FVec Ideal S16640x512 .f32) (x3 : FVec Ideal S16640x3072 .f32)
    (x4 : FVec Ideal S1x128 .f32) (h1 : ∀ i, ∃ x : ℝ, x1 i = x) (h2 : ∀ i, ∃ x : ℝ, x2 i = x) (h3 : ∀ i, ∃ x : ℝ, x3 i = x)
    (h4 : ∀ i, ∃ x : ℝ, x4 i = x) : dpArr x0 x1 x2 x3 x4 = refDp x0 x1 x2 x3 x4 := by
  funext i
  obtain ⟨r, c, rfl⟩ : ∃ (r : Fin 16640) (c : Fin 3072), i = ix2 r c := ⟨i 0, i 1, eq_ix2 i⟩
  unfold refDp
  refine Eq.trans ?_ (join_cols x0 _ r c).symm
  unfold dpArr
  by_cases h : 2560 ≤ c.val
  · rw [dif_pos h]
    refine (if_pos h).trans ?_
    rw [join_heads, refDz3_apply, refP_apply]
    have hs : ∃ x : ℝ, scale (hd x2 r.val (128 * ((c.val - 2560) / 128))) = x := by
      choose a ha using hd_real x2 h2 r.val (128 * ((c.val - 2560) / 128))
      obtain ⟨_, x, _, _, _, e⟩ := scale_real a
      exact ⟨x, by rw [funext ha, e]⟩
    have hl : lane (c.val - 2560) = lane c.val := Fin.ext (by show (c.val - 2560) % 128 = c.val % 128; omega)
    show rowOf dpRow x1 x2 x3 x4 r.val ((c.val - 2560) / 128) (lane c.val) = _
    rw [← hl]
    exact Finite.gate_grad _ _ _ (real_mul (hd_real x1 h1 _ _ _) (real_mul (hd_real x2 h2 _ _ _) hs)) (hd_real x4 h4 _ _ _) (hd_real x3 h3 _ _ _)
  · rw [dif_neg h]
    exact if_neg h

instance : Subsingleton Cert.Pre_finite_heads.S_.Idx := ⟨fun _ _ => funext fun a => a.elim0⟩

/-- The precondition says that every element of the arguments but the first is a real. -/
theorem finite_args [Cert.Pre_finite_heads.Facts] (x0 : FVec Ideal S16640x3072 .bf16) (x1 : FVec Ideal S16640x1024 .f32)
    (x2 : FVec Ideal S16640x512 .f32) (x3 : FVec Ideal S16640x3072 .f32) (x4 : FVec Ideal S1x128 .f32)
    (h : Cert.Pre_finite_heads.fn (F := Ideal) x0 x1 x2 x3 x4 = fun _ => 1#1) :
    (∀ i, ∃ r : ℝ, x1 i = r) ∧ (∀ i, ∃ r : ℝ, x2 i = r) ∧ (∀ i, ∃ r : ℝ, x3 i = r) ∧ ∀ i, ∃ r : ℝ, x4 i = r := by
  have h' := congrFun h (fun a => a.elim0)
  dsimp only [Cert.Pre_finite_heads.fn, Cert.Pre_finite_heads.fn_part1] at h'
  obtain ⟨h', e4⟩ := IntOp.andi_eq_one.1 h'
  obtain ⟨h', e3⟩ := IntOp.andi_eq_one.1 h'
  obtain ⟨e1, e2⟩ := IntOp.andi_eq_one.1 h'
  refine ⟨fun i => ?_, fun i => ?_, fun i => ?_, fun i => ?_⟩
  · have := Host.reduce_andi_all _ _ _ _ _ e1 i
    exact Finite.real_of_lt_top _ (by rw [← Finite.ofBits_inf_f32]; exact this)
  · have := Host.reduce_andi_all _ _ _ _ _ e2 i
    exact Finite.real_of_lt_top _ (by rw [← Finite.ofBits_inf_f32]; exact this)
  · have := Host.reduce_andi_all _ _ _ _ _ e3 i
    exact Finite.real_of_lt_top _ (by rw [← Finite.ofBits_inf_f32]; exact this)
  · have := Host.reduce_andi_all _ _ _ _ _ e4 i
    exact Finite.real_of_lt_top _ (by rw [← Finite.ofBits_inf_f32]; exact this)

end Cert.DnPost

end
-- ==== Proof.LossBwd.lean ====
/-
  The loss head and its gradients: the call takes 640 rows at a time, writes the rows' gradient, and adds the loss and the
  gradient of the last norm's weight in two output blocks that stay over the 26 blocks of rows; rows outside the sequence are
  masked. The reference takes the value and the derivative of the loss of the sequence's 16384 rows. On finite arguments the
  two agree.
-/
module

public import proofs.«01_k».proof.Proof.RmsGrad
public import proofs.«01_k».proof.Proof.Gen.Kernel17Ideal.Value
public import proofs.«01_k».proof.Proof.Gen.Reference17Ideal.Run
public import proofs.«01_k».proof.Proof.Gen.Pre_finite_loss

@[expose] public section

set_option maxRecDepth 16384

noncomputable section

namespace Cert.LossBwd

open Cert.Kernel17Ideal Cert.Kernel17Ideal.Gen Cert.Blocks Cert.RmsGrad
open Idealize.ShloMosaic Idealize.ShloMosaic.TcCoe Idealize.SL.Sem

variable (m : (ℓ : Loc nD τ sig) → Buf (Elt Ideal) ℓ)

/-! ## What the body leaves at one grid point -/

section Body
variable (c : Dev nD) (i : grid0.Coords)
  (a1 : Memref sig .tc .vmem S640x1024 .f32) (h1 : a1.IsWhole) (a2 : Memref sig .tc .vmem S640x1024 .f32) (h2 : a2.IsWhole)
  (a3 : Memref sig .tc .vmem S1x1024 .f32) (h3 : a3.IsWhole) (a4 : Memref sig .tc .vmem S640x1024 .f32) (h4 : a4.IsWhole)
  (a5 : Memref sig .tc .vmem S1x128 .f32) (h5 : a5.IsWhole) (a6 : Memref sig .tc .vmem S1x1024 .f32) (h6 : a6.IsWhole)
  (x0 x1 : Vec Ideal S640x1024 .f32) (x2 : Vec Ideal S1x1024 .f32) (xl : Vec Ideal S1x128 .f32) (xw : Vec Ideal S1x1024 .f32)

/-- The first point leaves in the rows' block a function of the point's blocks, -/
theorem rows_first (hc0 : cond0_0 i) :
    out0_A_3 c i a1 h1 a2 h2 a3 h3 a4 h4 a5 h5 a6 h6 hc0 x0 x1 x2 = k0_pay9 i x0 x2 x1 := by
  unfold out0_A_3
  rw [View.read_writes_eq_canon _ _ _ (cover0_A_3 c i a1 h1 a2 h2 a3 h3 a4 h4 a5 h5 a6 h6 hc0 x0 x1 x2)]
  unfold kernelRun0_A
  dsimp only
  sl_unfold_words
  rw [View.canon_unit_zero (S := S640x1024) hz]
  simp only [View.readAt_eq_ld, h1.read_unread, h2.read_unread, h3.read_unread, h4.read_unread, h5.read_unread, h6.read_unread,
    View.ld_unit_zero (S := S640x1024) hz, View.ld_unit_zero (S := S1x1024) hz, View.ld_unit_zero (S := S1x128) hz]

/-- and so does a later one. -/
theorem rows_later (hc0 : ¬cond0_0 i) :
    out0_B_3 c i a1 h1 a2 h2 a3 h3 a4 h4 a5 h5 a6 h6 hc0 x0 x1 x2 xl xw = k0_pay9 i x0 x2 x1 := by
  unfold out0_B_3
  rw [View.read_writes_eq_canon _ _ _ (cover0_B_3 c i a1 h1 a2 h2 a3 h3 a4 h4 a5 h5 a6 h6 hc0 x0 x1 x2 xl xw)]
  unfold kernelRun0_B
  dsimp only
  sl_unfold_words
  rw [View.canon_unit_zero (S := S640x1024) hz]
  simp only [View.readAt_eq_ld, h1.read_unread, h2.read_unread, h3.read_unread, h4.read_unread, h5.read_unread, h6.read_unread,
    View.ld_unit_zero (S := S640x1024) hz, View.ld_unit_zero (S := S1x1024) hz, View.ld_unit_zero (S := S1x128) hz]

/-- The first point leaves in the loss's block the update of zeros, -/
theorem loss_first (hc0 : cond0_0 i) :
    out0_A_4 c i a1 h1 a2 h2 a3 h3 a4 h4 a5 h5 a6 h6 hc0 x0 x1 x2 = k0_pay4 (k0_pay7 i x0 x2 x1) (k0_pay2 (F := Ideal)) := by
  unfold out0_A_4
  rw [View.read_writes_eq_canon _ _ _ (cover0_A_4 c i a1 h1 a2 h2 a3 h3 a4 h4 a5 h5 a6 h6 hc0 x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S640x1024) hz, View.ld_unit_zero (S := S1x1024) hz, View.ld_unit_zero (S := S1x128) hz]

/-- and a later one the update of what it held. -/
theorem loss_later (hc0 : ¬cond0_0 i) :
    out0_B_4 c i a1 h1 a2 h2 a3 h3 a4 h4 a5 h5 a6 h6 hc0 x0 x1 x2 xl xw = k0_pay4 (k0_pay7 i x0 x2 x1) xl := by
  unfold out0_B_4
  rw [View.read_writes_eq_canon _ _ _ (cover0_B_4 c i a1 h1 a2 h2 a3 h3 a4 h4 a5 h5 a6 h6 hc0 x0 x1 x2 xl xw)]
  unfold kernelRun0_B
  dsimp only
  sl_unfold_words
  rw [View.canon_unit_zero (S := S1x128) hz]
  simp only [View.readAt_eq_ld, h1.read_unread, h2.read_unread, h3.read_unread, h4.read_unread, h5.read_unread, h6.read_unread,
    View.ld_unit_zero (S := S640x1024) hz, View.ld_unit_zero (S := S1x1024) hz, View.ld_unit_zero (S := S1x128) hz]

/-- The first point leaves in the weight's block the update of zeros, -/
theorem weight_first (hc0 : cond0_0 i) :
    out0_A_5 c i a1 h1 a2 h2 a3 h3 a4 h4 a5 h5 a6 h6 hc0 x0 x1 x2 = k0_pay3 (k0_pay6 x0) (k0_pay8 i x0 x2 x1) (k0_pay1 (F := Ideal)) := by
  unfold out0_A_5
  rw [View.read_writes_eq_canon _ _ _ (cover0_A_5 c i a1 h1 a2 h2 a3 h3 a4 h4 a5 h5 a6 h6 hc0 x0 x1 x2)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread,
    View.ld_unit_zero (S := S640x1024) hz, View.ld_unit_zero (S := S1x1024) hz, View.ld_unit_zero (S := S1x128) hz]

/-- and a later one the update of what it held. -/
theorem weight_later (hc0 : ¬cond0_0 i) :
    out0_B_5 c i a1 h1 a2 h2 a3 h3 a4 h4 a5 h5 a6 h6 hc0 x0 x1 x2 xl xw = k0_pay3 (k0_pay6 x0) (k0_pay8 i x0 x2 x1) xw := by
  unfold out0_B_5
  rw [View.read_writes_eq_canon _ _ _ (cover0_B_5 c i a1 h1 a2 h2 a3 h3 a4 h4 a5 h5 a6 h6 hc0 x0 x1 x2 xl xw)]
  unfold kernelRun0_B
  dsimp only
  sl_unfold_words
  rw [View.canon_unit_zero (S := S1x1024) hz]
  simp only [View.readAt_eq_ld, h1.read_unread, h2.read_unread, h3.read_unread, h4.read_unread, h5.read_unread, h6.read_unread,
    View.ld_unit_zero (S := S640x1024) hz, View.ld_unit_zero (S := S1x1024) hz, View.ld_unit_zero (S := S1x128) hz]

end Body

/-- The mask of a row of a block is set when the row is in the sequence. -/
theorem mask_eq (a r : ℕ) (ha : a < 26) (hr : r < 640) :
    IntOp.andi (IntOp.cmpi CmpIPredicate.sge (IntOp.addi (Scalar.muli (BitVec.ofNat 32 a) 640#32) (BitVec.ofNat 32 r)) 64#32)
      (IntOp.cmpi CmpIPredicate.slt (IntOp.addi (Scalar.muli (BitVec.ofNat 32 a) 640#32) (BitVec.ofNat 32 r)) 16448#32)
      = if 64 ≤ a * 640 + r ∧ a * 640 + r < 16448 then 1#1 else 0#1 := by
  have e : IntOp.addi (Scalar.muli (BitVec.ofNat 32 a) 640#32) (BitVec.ofNat 32 r) = BitVec.ofNat 32 (a * 640 + r) := by
    show BitVec.ofNat 32 a * 640#32 + BitVec.ofNat 32 r = _
    rw [BitVec.ofNat_add, BitVec.ofNat_mul]
  have t : (BitVec.ofNat 32 (a * 640 + r)).toInt = ((a * 640 + r : ℕ) : ℤ) := by
    have h : (BitVec.ofNat 32 (a * 640 + r)).toNat = a * 640 + r := by
      rw [BitVec.toNat_ofNat]; exact Nat.mod_eq_of_lt (by omega)
    rw [BitVec.toInt_eq_toNat_of_lt (by rw [h]; omega), h]
  rw [e, WordCmp.cmpi_sge_eq, WordCmp.cmpi_slt_eq, t, show (64#32).toInt = 64 from rfl, show (16448#32).toInt = 16448 from rfl]
  by_cases h1 : 64 ≤ a * 640 + r <;> by_cases h2 : a * 640 + r < 16448
  · rw [decide_eq_true (by omega), decide_eq_true (by omega), if_pos ⟨h1, h2⟩]; rfl
  · rw [decide_eq_true (by omega), decide_eq_false (by omega), if_neg (fun h => h2 h.2)]; rfl
  · rw [decide_eq_false (by omega), decide_eq_true (by omega), if_neg (fun h => h1 h.1)]; rfl
  · rw [decide_eq_false (by omega), decide_eq_false (by omega), if_neg (fun h => h1 h.1)]; rfl

/-- The error of a block at an index: the normalised row times the weight less the target in the sequence, zero outside. -/
theorem err_apply (i : grid0.Coords) (v0 v23 : Vec Ideal S640x1024 .f32) (v1 : Vec Ideal S1x1024 .f32) (r : Fin 640) (k : Fin 1024) :
    k0_pay7 i v0 v1 v23 (ix2 r k) = if 64 ≤ (i 0).val * 640 + r.val ∧ (i 0).val * 640 + r.val < 16448
      then v0 (ix2 r k) * scale (fun k => v0 (ix2 r k)) * v1 (ix2 0 k) - v23 (ix2 r k) else 0 := by
  unfold scale meanSq
  pointwise [k0_pay7, k0_pay6, k0_pay5]
  rw [mask_eq _ _ (show (i 0).val < 26 from (i 0).isLt) r.isLt]
  split_ifs <;> rfl

/-- The gradient of the normalised rows is the error over the row's length, -/
theorem dy_apply (i : grid0.Coords) (v0 v23 : Vec Ideal S640x1024 .f32) (v1 : Vec Ideal S1x1024 .f32) (r : Fin 640) (k : Fin 1024) :
    k0_pay8 i v0 v1 v23 (ix2 r k) = k0_pay7 i v0 v1 v23 (ix2 r k) * Ideal.ofBits .f32 0x3A800000#32 := by
  unfold k0_pay8
  generalize k0_pay7 i v0 v1 v23 = e
  pointwise

/-- the rows' gradient that of the norm, -/
theorem rows_apply (i : grid0.Coords) (v0 v23 : Vec Ideal S640x1024 .f32) (v1 : Vec Ideal S1x1024 .f32) (r : Fin 640) (k : Fin 1024) :
    k0_pay9 i v0 v1 v23 (ix2 r k) = callGrad (fun k => v0 (ix2 r k)) (fun k => k0_pay8 i v0 v1 v23 (ix2 r k) * v1 (ix2 0 k)) k := by
  unfold k0_pay9
  generalize k0_pay8 i v0 v1 v23 = e
  unfold callGrad scale meanSq
  pointwise [k0_pay6, k0_pay5]

/-- the loss's update the squared errors of the block, -/
theorem loss_apply (e : Vec Ideal S640x1024 .f32) (v : Vec Ideal S1x128 .f32) (k : Fin 128) :
    k0_pay4 e v (ix2 0 k) = v (ix2 0 k) + (∑ r : Fin 640, ∑ k : Fin 1024, e (ix2 r k) * e (ix2 r k)) * Ideal.ofBits .f32 0x3A000000#32 := by
  pointwise [k0_pay4]

/-- and the weight's the sum over the block's rows. -/
theorem weight_apply (v0 dy : Vec Ideal S640x1024 .f32) (v : Vec Ideal S1x1024 .f32) (l : Fin 1024) :
    k0_pay3 (k0_pay6 v0) dy v (ix2 0 l) = v (ix2 0 l) + ∑ r : Fin 640, dy (ix2 r l) * (v0 (ix2 r l) * scale (fun k => v0 (ix2 r k))) := by
  unfold scale meanSq
  pointwise [k0_pay3, k0_pay6, k0_pay5]

theorem zero_loss (y : S1x128.Idx) : (k0_pay2 (F := Ideal)) y = 0 := by
  pointwise [k0_pay2]

theorem zero_weight (y : S1x1024.Idx) : (k0_pay1 (F := Ideal)) y = 0 := by
  pointwise [k0_pay1]

/-! ## The blocks the windows stage -/

/-- The windows' block indices at a grid point, and the point's coordinate. -/
theorem idx_facts : ∀ t : Fin cfg0.N, (win0_0.index t 0 = t.val ∧ win0_0.index t 1 = 0)
    ∧ (win0_1.index t 0 = t.val ∧ win0_1.index t 1 = 0) ∧ (win0_2.index t 0 = 0 ∧ win0_2.index t 1 = 0)
    ∧ (win0_3.index t 0 = t.val ∧ win0_3.index t 1 = 0) ∧ (win0_4.index t 0 = 0 ∧ win0_4.index t 1 = 0)
    ∧ (win0_5.index t 0 = 0 ∧ win0_5.index t 1 = 0) ∧ (grid0.coords t 0).val = t.val :=
  (by decide +kernel : ∀ t : Fin grid0.N, _)

/-- The loss's and the weight's blocks are written back at the last point only. -/
theorem flush4 : ∀ t : Fin cfg0.N, (cfg0.win 4).flush t = true ↔ t.val = 25 :=
  (by decide +kernel : ∀ t : Fin grid0.N, _)
theorem flush5 : ∀ t : Fin cfg0.N, (cfg0.win 5).flush t = true ↔ t.val = 25 :=
  (by decide +kernel : ∀ t : Fin grid0.N, _)

/-- The arguments as arrays of extended reals. -/
abbrev X0 (c : Dev nD) : S16640x1024.Idx → EReal := m ((c : Thread nD τ).loc main_arg0)
abbrev X1 (c : Dev nD) : S16640x1024.Idx → EReal := m ((c : Thread nD τ).loc main_arg1)
abbrev X2 (c : Dev nD) : S1x1024.Idx → EReal := m ((c : Thread nD τ).loc main_arg2)

/-- A block of rows is the array's rows, -/
theorem blk0 (c : Dev nD) (t : Fin cfg0.N) (r : Fin 640) (k : Fin 1024) :
    (iblk m c 0 t : Vec Ideal S640x1024 .f32) (ix2 r k) = at2 (X0 m c) (t.val * 640 + r.val) k.val := by
  unfold iblk
  rw [View.read_apply]
  refine at2_idx (X0 m c) _ _ _ ?_ ?_
  · show win0_0.index t 0 * 640 + 1 * r.val = _; rw [(idx_facts t).1.1, one_mul]
  · show win0_0.index t 1 * 1024 + 1 * k.val = _; rw [(idx_facts t).1.2, zero_mul, zero_add, one_mul]

theorem blk1 (c : Dev nD) (t : Fin cfg0.N) (r : Fin 640) (k : Fin 1024) :
    (iblk m c 1 t : Vec Ideal S640x1024 .f32) (ix2 r k) = at2 (X1 m c) (t.val * 640 + r.val) k.val := by
  unfold iblk
  rw [View.read_apply]
  refine at2_idx (X1 m c) _ _ _ ?_ ?_
  · show win0_1.index t 0 * 640 + 1 * r.val = _; rw [(idx_facts t).2.1.1, one_mul]
  · show win0_1.index t 1 * 1024 + 1 * k.val = _; rw [(idx_facts t).2.1.2, zero_mul, zero_add, one_mul]

/-- and the weight's block the weight. -/
theorem blk2 (c : Dev nD) (t : Fin cfg0.N) (k : Fin 1024) :
    (iblk m c 2 t : Vec Ideal S1x1024 .f32) (ix2 0 k) = at2 (X2 m c) 0 k.val := by
  unfold iblk
  rw [View.read_apply]
  refine at2_idx (X2 m c) _ _ _ ?_ ?_
  · show win0_2.index t 0 * 1 + 1 * 0 = _; rw [(idx_facts t).2.2.1.1]
  · show win0_2.index t 1 * 1024 + 1 * k.val = _; rw [(idx_facts t).2.2.1.2, zero_mul, zero_add, one_mul]

/-! ## What the three arrays hold -/

/-- A row of an array. -/
def row (x : S16640x1024.Idx → EReal) (r : ℕ) (k : Fin 1024) : EReal := at2 x r k.val

/-- The error of a row: zero outside the sequence. -/
def err (x0 x1 : S16640x1024.Idx → EReal) (x2 : S1x1024.Idx → EReal) (r : ℕ) (k : Fin 1024) : EReal :=
  if 64 ≤ r ∧ r < 16448 then at2 x0 r k.val * scale (row x0 r) * at2 x2 0 k.val - at2 x1 r k.val else 0

/-- The gradient of a normalised row, and that times the weight. -/
def dy (x0 x1 : S16640x1024.Idx → EReal) (x2 : S1x1024.Idx → EReal) (r : ℕ) (k : Fin 1024) : EReal :=
  err x0 x1 x2 r k * Ideal.ofBits .f32 0x3A800000#32
def rowGrad (x0 x1 : S16640x1024.Idx → EReal) (x2 : S1x1024.Idx → EReal) (r : ℕ) (k : Fin 1024) : EReal :=
  dy x0 x1 x2 r k * at2 x2 0 k.val

/-- The rows' gradient as an array of the arguments. -/
def rowsArr (x0 x1 : S16640x1024.Idx → EReal) (x2 : S1x1024.Idx → EReal) : S16640x1024.Idx → EReal :=
  fun i => callGrad (row x0 (i 0).val) (rowGrad x0 x1 x2 (i 0).val) (i 1)

/-- One row's squared errors, and one row's addend of the weight's gradient. -/
def square (x0 x1 : S16640x1024.Idx → EReal) (x2 : S1x1024.Idx → EReal) (r : ℕ) : EReal := ∑ k : Fin 1024, err x0 x1 x2 r k * err x0 x1 x2 r k
def addend (x0 x1 : S16640x1024.Idx → EReal) (x2 : S1x1024.Idx → EReal) (r : ℕ) (l : Fin 1024) : EReal :=
  dy x0 x1 x2 r l * (at2 x0 r l.val * scale (row x0 r))

/-- The loss, block by block, and the weight's gradient as arrays of the arguments. -/
def lossArr (x0 x1 : S16640x1024.Idx → EReal) (x2 : S1x1024.Idx → EReal) : S1x128.Idx → EReal :=
  fun _ => ∑ s ∈ Finset.range 26, (∑ r : Fin 640, square x0 x1 x2 (s * 640 + r.val)) * Ideal.ofBits .f32 0x3A000000#32
def weightArr (x0 x1 : S16640x1024.Idx → EReal) (x2 : S1x1024.Idx → EReal) : S1x1024.Idx → EReal :=
  fun i => ∑ r : Fin 16640, addend x0 x1 x2 r.val (i 1)

/-- Every grid point leaves its rows' gradient in the block. -/
theorem rows_at (c : Dev nD) (t : Fin cfg0.N) :
    (outsAt0 m c t.val t.isLt).1 = k0_pay9 (grid0.coords t) (iblk m c 0 t) (iblk m c 2 t) (iblk m c 1 t) := by
  by_cases h0 : t.val % 26 = 0
  · rw [outsAt0_A m c t h0]; dsimp only; exact rows_first ..
  · rw [outsAt0_B m c t h0]; dsimp only; exact rows_later ..

/-- A block's row of `h` is the array's, -/
theorem row_at (c : Dev nD) (t : Fin cfg0.N) (r : Fin 640) :
    (fun k : Fin 1024 => (show S640x1024.Idx → EReal from iblk m c 0 t) (ix2 r k)) = row (X0 m c) (t.val * 640 + r.val) :=
  funext fun k => blk0 m c t r k

/-- its error the arrays', -/
theorem err_at (c : Dev nD) (t : Fin cfg0.N) (r : Fin 640) (k : Fin 1024) :
    k0_pay7 (grid0.coords t) (iblk m c 0 t) (iblk m c 2 t) (iblk m c 1 t) (ix2 r k) = err (X0 m c) (X1 m c) (X2 m c) (t.val * 640 + r.val) k := by
  refine (err_apply _ _ _ _ r k).trans ?_
  rw [(idx_facts t).2.2.2.2.2.2]
  unfold err
  refine if_congr Iff.rfl ?_ rfl
  exact congrArg₂ (fun a b : EReal => a - b) (congrArg₂ (fun a b : EReal => a * b)
    (congrArg₂ (fun a b : EReal => a * b) (blk0 m c t r k) (congrArg scale (row_at m c t r))) (blk2 m c t k)) (blk1 m c t r k)

/-- and its gradient too. -/
theorem dy_at (c : Dev nD) (t : Fin cfg0.N) (r : Fin 640) (k : Fin 1024) :
    k0_pay8 (grid0.coords t) (iblk m c 0 t) (iblk m c 2 t) (iblk m c 1 t) (ix2 r k) = dy (X0 m c) (X1 m c) (X2 m c) (t.val * 640 + r.val) k :=
  (dy_apply _ _ _ _ r k).trans (congrArg (· * Ideal.ofBits .f32 0x3A800000#32) (err_at m c t r k))

theorem rowGrad_at (c : Dev nD) (t : Fin cfg0.N) (r : Fin 640) :
    (fun k : Fin 1024 => k0_pay8 (grid0.coords t) (iblk m c 0 t) (iblk m c 2 t) (iblk m c 1 t) (ix2 r k) * (show S1x1024.Idx → EReal from iblk m c 2 t) (ix2 0 k))
      = rowGrad (X0 m c) (X1 m c) (X2 m c) (t.val * 640 + r.val) :=
  funext fun k => congrArg₂ (fun a b : EReal => a * b) (dy_at m c t r k) (blk2 m c t k)

/-- What a grid point writes back is its block of the rows' gradient. -/
theorem flushed3_eq (c : Dev nD) (t : Fin cfg0.N) :
    (dats m 0 c).flushed 3 t = ((cfg0.win 3).blk t).view.read (Elt Ideal) (rowsArr (X0 m c) (X1 m c) (X2 m c)) := by
  rw [Value.flushed3, rows_at]
  funext y
  show k0_pay9 (grid0.coords t) (iblk m c 0 t) (iblk m c 2 t) (iblk m c 1 t) y
    = rowsArr (X0 m c) (X1 m c) (X2 m c) (((cfg0.win 3).blk t).view.emb y)
  have e0 : (((cfg0.win 3).blk t).view.emb y 0).val = t.val * 640 + (y 0).val := by
    show win0_3.index t 0 * 640 + 1 * (y 0).val = _; rw [(idx_facts t).2.2.2.1.1, one_mul]
  have e1 : ((cfg0.win 3).blk t).view.emb y 1 = y 1 := Fin.ext (by
    show win0_3.index t 1 * 1024 + 1 * (y 1).val = _; rw [(idx_facts t).2.2.2.1.2, zero_mul, zero_add, one_mul])
  unfold rowsArr
  rw [e0, e1]
  refine (congrArg (k0_pay9 (grid0.coords t) (iblk m c 0 t) (iblk m c 2 t) (iblk m c 1 t)) (eq_ix2 y)).trans
    ((rows_apply _ _ _ _ (y 0) (y 1)).trans ?_)
  exact congrFun (congrArg₂ callGrad (row_at m c t (y 0)) (rowGrad_at m c t (y 0))) (y 1)

/-- The update of the loss's block at a grid point adds the point's squared errors, -/
theorem loss_at (c : Dev nD) (t : Fin cfg0.N) (xo : Vec Ideal S1x128 .f32) (l : Fin 128) :
    k0_pay4 (k0_pay7 (grid0.coords t) (iblk m c 0 t) (iblk m c 2 t) (iblk m c 1 t)) xo (ix2 0 l)
      = xo (ix2 0 l) + (∑ r : Fin 640, square (X0 m c) (X1 m c) (X2 m c) (t.val * 640 + r.val)) * Ideal.ofBits .f32 0x3A000000#32 := by
  refine (loss_apply _ xo l).trans (congrArg (xo (ix2 0 l) + ·) (congrArg (· * Ideal.ofBits .f32 0x3A000000#32)
    (Finset.sum_congr rfl fun r _ => Finset.sum_congr rfl fun k _ => ?_)))
  exact congrArg₂ (fun a b : EReal => a * b) (err_at m c t r k) (err_at m c t r k)

/-- and that of the weight's block the point's rows. -/
theorem weight_at (c : Dev nD) (t : Fin cfg0.N) (xo : Vec Ideal S1x1024 .f32) (l : Fin 1024) :
    k0_pay3 (k0_pay6 (iblk m c 0 t)) (k0_pay8 (grid0.coords t) (iblk m c 0 t) (iblk m c 2 t) (iblk m c 1 t)) xo (ix2 0 l)
      = xo (ix2 0 l) + ∑ r : Fin 640, addend (X0 m c) (X1 m c) (X2 m c) (t.val * 640 + r.val) l := by
  refine (weight_apply _ _ xo l).trans (congrArg (xo (ix2 0 l) + ·) (Finset.sum_congr rfl fun r _ => ?_))
  exact congrArg₂ (fun a b : EReal => a * b) (dy_at m c t r l)
    (congrArg₂ (fun a b : EReal => a * b) (blk0 m c t r l) (congrArg scale (row_at m c t r)))

/-- What the loss's block holds after point `j`: the sum over the blocks so far, -/
theorem loss_acc (c : Dev nD) (j : ℕ) (hj : j < 26) (h : 26 * 0 + j < cfg0.N) (l : Fin 128) :
    (outsAt0 m c (26 * 0 + j) h).2.1 (ix2 0 l)
      = ∑ s ∈ Finset.range (j + 1), (∑ r : Fin 640, square (X0 m c) (X1 m c) (X2 m c) ((26 * 0 + s) * 640 + r.val)) * Ideal.ofBits .f32 0x3A000000#32 := by
  refine run_sum (b := 26) (fun n h (l : Fin 128) => (outsAt0 m c n h).2.1 (ix2 0 l))
    (fun n _ => (∑ r : Fin 640, square (X0 m c) (X1 m c) (X2 m c) (n * 640 + r.val)) * Ideal.ofBits .f32 0x3A000000#32) ?_ ?_ 0 j hj h l
  · intro n h l hn
    rw [outsAt0_A m c ⟨n, h⟩ hn]
    dsimp only
    rw [loss_first]
    refine (loss_at m c ⟨n, h⟩ _ l).trans ?_
    rw [zero_loss, zero_add]
  · intro n h l hn
    rw [outsAt0_B m c ⟨n + 1, h⟩ hn]
    dsimp only
    rw [loss_later]
    exact loss_at m c ⟨n + 1, h⟩ _ l

/-- and what the weight's holds: the sum over the rows so far. -/
theorem weight_acc (c : Dev nD) (j : ℕ) (hj : j < 26) (h : 26 * 0 + j < cfg0.N) (l : Fin 1024) :
    (outsAt0 m c (26 * 0 + j) h).2.2 (ix2 0 l)
      = ∑ s ∈ Finset.range (j + 1), ∑ r : Fin 640, addend (X0 m c) (X1 m c) (X2 m c) ((26 * 0 + s) * 640 + r.val) l := by
  refine run_sum (b := 26) (fun n h (l : Fin 1024) => (outsAt0 m c n h).2.2 (ix2 0 l))
    (fun n l => ∑ r : Fin 640, addend (X0 m c) (X1 m c) (X2 m c) (n * 640 + r.val) l) ?_ ?_ 0 j hj h l
  · intro n h l hn
    rw [outsAt0_A m c ⟨n, h⟩ hn]
    dsimp only
    rw [weight_first]
    refine (weight_at m c ⟨n, h⟩ _ l).trans ?_
    rw [zero_weight, zero_add]
  · intro n h l hn
    rw [outsAt0_B m c ⟨n + 1, h⟩ hn]
    dsimp only
    rw [weight_later]
    exact weight_at m c ⟨n + 1, h⟩ _ l

/-- The loss's block is the whole array. -/
theorem read4 (t : Fin cfg0.N) (G : S1x128.Idx → EReal) : ((cfg0.win 4).blk t).view.read (Elt Ideal) G = G := by
  funext y
  show G (((cfg0.win 4).blk t).view.emb y) = G y
  congr 1
  funext a
  match a with
  | ⟨0, _⟩ => exact Fin.ext (by show win0_4.index t 0 * 1 + 1 * (y 0).val = (y 0).val; rw [(idx_facts t).2.2.2.2.1.1]; omega)
  | ⟨1, _⟩ => exact Fin.ext (by show win0_4.index t 1 * 128 + 1 * (y 1).val = (y 1).val; rw [(idx_facts t).2.2.2.2.1.2]; omega)

theorem cut4 (t : Fin cfg0.N) (v : Vec Ideal S1x128 .f32) : (cfg0.win 4).cut (grid0.coords t) v = v := rfl

/-- After the last point it holds the loss, -/
theorem last4 (c : Dev nD) (n : ℕ) (h : n < cfg0.N) (e : n = 26 * 0 + 25) (y : S1x128.Idx) :
    (outsAt0 m c n h).2.1 y = lossArr (X0 m c) (X1 m c) (X2 m c) y := by
  subst e
  have hy : y = ix2 0 (y 1) := by
    rw [show (0 : Fin 1) = y 0 from Subsingleton.elim _ _]; exact eq_ix2 y
  unfold lossArr
  refine (congrArg _ hy).trans ((loss_acc m c 25 (by omega) h (y 1)).trans ?_)
  exact Finset.sum_congr rfl fun s _ => by rw [Nat.mul_zero, Nat.zero_add]

/-- which that point writes back. -/
theorem flushed4_eq (c : Dev nD) (t : Fin cfg0.N) (hf : (cfg0.win 4).flush t = true) :
    (dats m 0 c).flushed 4 t = ((cfg0.win 4).blk t).view.read (Elt Ideal) (lossArr (X0 m c) (X1 m c) (X2 m c)) := by
  rw [Value.flushed4, cut4]
  exact (funext fun y => last4 m c t.val t.isLt ((flush4 t).1 hf) y).trans (read4 t (lossArr (X0 m c) (X1 m c) (X2 m c))).symm

theorem mem_blk4 (t : Fin cfg0.N) (i : S1x128.Idx) :
    i ∈ ((cfg0.win 4).blk t).view.set ↔
      ∀ a : Fin 2, win0_4.index t a * S1x128.size a ≤ (i a).val ∧ (i a).val < win0_4.index t a * S1x128.size a + S1x128.size a := by
  show i ∈ ((View.whole main_v0_1).slice (win0_4.rect t)).set ↔ _
  rw [View.set_slice_whole, Rect.mem_set_unit]
  exact Iff.rfl

/-- Every index of the loss is in the last point's block. -/
theorem covered4 (i : S1x128.Idx) : ∃ t : Fin cfg0.N, (cfg0.win 4).flush t = true ∧ i ∈ ((cfg0.win 4).blk t).view.set := by
  have hi0 : (i 0).val < 1 := (i 0).isLt
  have hi1 : (i 1).val < 128 := (i 1).isLt
  have hN : cfg0.N = 26 := N_0
  refine ⟨⟨25, by omega⟩, (flush4 _).2 rfl, ?_⟩
  rw [mem_blk4]
  intro a
  match a with
  | ⟨0, _⟩ =>
    show win0_4.index _ 0 * 1 ≤ (i 0).val ∧ (i 0).val < win0_4.index _ 0 * 1 + 1
    rw [(idx_facts _).2.2.2.2.1.1]; omega
  | ⟨1, _⟩ =>
    show win0_4.index _ 1 * 128 ≤ (i 1).val ∧ (i 1).val < win0_4.index _ 1 * 128 + 128
    rw [(idx_facts _).2.2.2.2.1.2]; omega

/-- The weight's block is the whole array. -/
theorem read5 (t : Fin cfg0.N) (G : S1x1024.Idx → EReal) : ((cfg0.win 5).blk t).view.read (Elt Ideal) G = G := by
  funext y
  show G (((cfg0.win 5).blk t).view.emb y) = G y
  congr 1
  funext a
  match a with
  | ⟨0, _⟩ => exact Fin.ext (by show win0_5.index t 0 * 1 + 1 * (y 0).val = (y 0).val; rw [(idx_facts t).2.2.2.2.2.1.1]; omega)
  | ⟨1, _⟩ => exact Fin.ext (by show win0_5.index t 1 * 1024 + 1 * (y 1).val = (y 1).val; rw [(idx_facts t).2.2.2.2.2.1.2]; omega)

theorem cut5 (t : Fin cfg0.N) (v : Vec Ideal S1x1024 .f32) : (cfg0.win 5).cut (grid0.coords t) v = v := rfl

/-- After the last point it holds the weight's gradient, -/
theorem last5 (c : Dev nD) (n : ℕ) (h : n < cfg0.N) (e : n = 26 * 0 + 25) (y : S1x1024.Idx) :
    (outsAt0 m c n h).2.2 y = weightArr (X0 m c) (X1 m c) (X2 m c) y := by
  subst e
  have hy : y = ix2 0 (y 1) := by
    rw [show (0 : Fin 1) = y 0 from Subsingleton.elim _ _]; exact eq_ix2 y
  unfold weightArr
  rw [← sum_blocks 26 640 16640 rfl (fun r => addend (X0 m c) (X1 m c) (X2 m c) r (y 1))]
  refine (congrArg _ hy).trans ((weight_acc m c 25 (by omega) h (y 1)).trans ?_)
  exact Finset.sum_congr rfl fun s _ => by rw [Nat.mul_zero, Nat.zero_add]

/-- which that point writes back. -/
theorem flushed5_eq (c : Dev nD) (t : Fin cfg0.N) (hf : (cfg0.win 5).flush t = true) :
    (dats m 0 c).flushed 5 t = ((cfg0.win 5).blk t).view.read (Elt Ideal) (weightArr (X0 m c) (X1 m c) (X2 m c)) := by
  rw [Value.flushed5, cut5]
  exact (funext fun y => last5 m c t.val t.isLt ((flush5 t).1 hf) y).trans (read5 t (weightArr (X0 m c) (X1 m c) (X2 m c))).symm

theorem mem_blk5 (t : Fin cfg0.N) (i : S1x1024.Idx) :
    i ∈ ((cfg0.win 5).blk t).view.set ↔
      ∀ a : Fin 2, win0_5.index t a * S1x1024.size a ≤ (i a).val ∧ (i a).val < win0_5.index t a * S1x1024.size a + S1x1024.size a := by
  show i ∈ ((View.whole main_v0_2).slice (win0_5.rect t)).set ↔ _
  rw [View.set_slice_whole, Rect.mem_set_unit]
  exact Iff.rfl

/-- Every index of the weight's gradient is in the last point's block. -/
theorem covered5 (i : S1x1024.Idx) : ∃ t : Fin cfg0.N, (cfg0.win 5).flush t = true ∧ i ∈ ((cfg0.win 5).blk t).view.set := by
  have hi0 : (i 0).val < 1 := (i 0).isLt
  have hi1 : (i 1).val < 1024 := (i 1).isLt
  have hN : cfg0.N = 26 := N_0
  refine ⟨⟨25, by omega⟩, (flush5 _).2 rfl, ?_⟩
  rw [mem_blk5]
  intro a
  match a with
  | ⟨0, _⟩ =>
    show win0_5.index _ 0 * 1 ≤ (i 0).val ∧ (i 0).val < win0_5.index _ 0 * 1 + 1
    rw [(idx_facts _).2.2.2.2.2.1.1]; omega
  | ⟨1, _⟩ =>
    show win0_5.index _ 1 * 1024 ≤ (i 1).val ∧ (i 1).val < win0_5.index _ 1 * 1024 + 1024
    rw [(idx_facts _).2.2.2.2.2.1.2]; omega

/-- An index is in a point's block of rows when its row is. -/
theorem mem_blk3 (t : Fin cfg0.N) (i : S16640x1024.Idx) :
    i ∈ ((cfg0.win 3).blk t).view.set ↔
      ∀ a : Fin 2, win0_3.index t a * S640x1024.size a ≤ (i a).val ∧ (i a).val < win0_3.index t a * S640x1024.size a + S640x1024.size a := by
  show i ∈ ((View.whole main_v0_0).slice (win0_3.rect t)).set ↔ _
  rw [View.set_slice_whole, Rect.mem_set_unit]
  exact Iff.rfl

/-- Every index of the rows' gradient is in the block of the point that has its row. -/
theorem covered3 (i : S16640x1024.Idx) : ∃ t : Fin cfg0.N, (cfg0.win 3).flush t = true ∧ i ∈ ((cfg0.win 3).blk t).view.set := by
  have hi0 : (i 0).val < 16640 := (i 0).isLt
  have hi1 : (i 1).val < 1024 := (i 1).isLt
  have hN : cfg0.N = 26 := N_0
  refine ⟨⟨(i 0).val / 640, by omega⟩, flush0_3 _, ?_⟩
  rw [mem_blk3]
  intro a
  match a with
  | ⟨0, _⟩ =>
    show win0_3.index _ 0 * 640 ≤ (i 0).val ∧ (i 0).val < win0_3.index _ 0 * 640 + 640
    rw [(idx_facts _).2.2.2.1.1]; dsimp only; omega
  | ⟨1, _⟩ =>
    show win0_3.index _ 1 * 1024 ≤ (i 1).val ∧ (i 1).val < win0_3.index _ 1 * 1024 + 1024
    rw [(idx_facts _).2.2.2.1.2]; omega

/-- The three results after the run: the rows' gradient, -/
theorem final3 (c : Dev nD) : (dats m 0 c).arrAt 3 cfg0.N = rowsArr (X0 m c) (X1 m c) (X2 m c) :=
  (dats m 0 c).arrAt_eq_of_cover 3 _ (fun t _ => flushed3_eq m c t) covered3

/-- the loss, -/
theorem final4 (c : Dev nD) : (dats m 0 c).arrAt 4 cfg0.N = lossArr (X0 m c) (X1 m c) (X2 m c) :=
  (dats m 0 c).arrAt_eq_of_cover 4 _ (flushed4_eq m c) covered4

/-- and the weight's gradient. -/
theorem final5 (c : Dev nD) : (dats m 0 c).arrAt 5 cfg0.N = weightArr (X0 m c) (X1 m c) (X2 m c) :=
  (dats m 0 c).arrAt_eq_of_cover 5 _ (flushed5_eq m c) covered5

/-! ## The reference -/

/-- The reference's mean squares and its factors, row by row. -/
def refMeanSq (x0 : FVec Ideal S16640x1024 .f32) : FVec Ideal Cert.Reference17Ideal.S16640x1 .f32 :=
  addf (Host.divf (broadcastInDim Cert.Reference17Ideal.S16640x1 ![0] Cert.Reference17Ideal.Gen.bcast_S16640_S16640x1_0 (Host.reduceAdd (mulf x0 x0) (constant Cert.Reference17Ideal.S_ .f32 0x00000000#32) Cert.Reference17Ideal.Gen.reducesTo_S16640x1024_S16640_d1 Cert.Reference17Ideal.Gen.h_S_)) (broadcastInDim Cert.Reference17Ideal.S16640x1 ![] Cert.Reference17Ideal.Gen.bcast_S_S16640x1 (constant Cert.Reference17Ideal.S_ .f32 0x44800000#32))) (broadcastInDim Cert.Reference17Ideal.S16640x1 ![] Cert.Reference17Ideal.Gen.bcast_S_S16640x1 (constant Cert.Reference17Ideal.S_ .f32 0x358637BD#32))
def refScale (x0 : FVec Ideal S16640x1024 .f32) : FVec Ideal Cert.Reference17Ideal.S16640x1 .f32 := Host.rsqrt (refMeanSq x0)

/-- The reference's normalised rows. -/
def refNorm (x0 : FVec Ideal S16640x1024 .f32) : FVec Ideal S16640x1024 .f32 :=
  mulf x0 (broadcastInDim S16640x1024 ![0, 1] Cert.Reference17Ideal.Gen.bcast_S16640x1_S16640x1024_0_1 (refScale x0))

/-- The reference's error, of the sequence's rows alone, -/
def refErr (x0 x1 : FVec Ideal S16640x1024 .f32) (x2 : FVec Ideal S1x1024 .f32) : FVec Ideal Cert.Reference17Ideal.S16384x1024 .f32 :=
  subf (extractStridedSlice Cert.Reference17Ideal.S16384x1024 ![64, 0] (mulf (refNorm x0) (broadcastInDim S16640x1024 ![0, 1] Cert.Reference17Ideal.Gen.bcast_S1x1024_S16640x1024_0_1 x2)) Cert.Reference17Ideal.Gen.slices_S16640x1024_S16384x1024_64_0) (extractStridedSlice Cert.Reference17Ideal.S16384x1024 ![64, 0] x1 Cert.Reference17Ideal.Gen.slices_S16640x1024_S16384x1024_64_0)

/-- its gradient of the normalised rows, zero outside the sequence, -/
def refDy (x0 x1 : FVec Ideal S16640x1024 .f32) (x2 : FVec Ideal S1x1024 .f32) : FVec Ideal S16640x1024 .f32 :=
  pad S16640x1024 ![64, 0] ![192, 0] ![0, 0] (mulf (broadcastInDim Cert.Reference17Ideal.S16384x1024 ![0] Cert.Reference17Ideal.Gen.bcast_S16384_S16384x1024_0 (Host.divf (broadcastInDim Cert.Reference17Ideal.S16384 ![] Cert.Reference17Ideal.Gen.bcast_S_S16384 (mulf (constant Cert.Reference17Ideal.S_ .f32 0x3F000000#32) (constant Cert.Reference17Ideal.S_ .f32 0x3F800000#32))) (broadcastInDim Cert.Reference17Ideal.S16384 ![] Cert.Reference17Ideal.Gen.bcast_S_S16384 (constant Cert.Reference17Ideal.S_ .f32 0x44800000#32)))) (mulf (broadcastInDim Cert.Reference17Ideal.S16384x1024 ![] Cert.Reference17Ideal.Gen.bcast_S_S16384x1024 (constant Cert.Reference17Ideal.S_ .f32 0x40000000#32)) (refErr x0 x1 x2))) (constant Cert.Reference17Ideal.S_ .f32 0x00000000#32) Cert.Reference17Ideal.Gen.pads_S16384x1024_S16640x1024_641920_000 Cert.Reference17Ideal.Gen.h_S_

/-- and that times the weight. -/
def refRowGrad (x0 x1 : FVec Ideal S16640x1024 .f32) (x2 : FVec Ideal S1x1024 .f32) : FVec Ideal S16640x1024 .f32 :=
  mulf (refDy x0 x1 x2) (broadcastInDim S16640x1024 ![0, 1] Cert.Reference17Ideal.Gen.bcast_S1x1024_S16640x1024_0_1 x2)

/-- The reference's coefficient of the rows. -/
def refCoeff (x0 x1 : FVec Ideal S16640x1024 .f32) (x2 : FVec Ideal S1x1024 .f32) : FVec Ideal Cert.Reference17Ideal.S16640 .f32 :=
  Host.reduceAdd (Host.divf (mulf (shapeCast Cert.Reference17Ideal.S16640x1 (Host.reduceAdd (mulf x0 (refRowGrad x0 x1 x2)) (constant Cert.Reference17Ideal.S_ .f32 0x00000000#32) Cert.Reference17Ideal.Gen.reducesTo_S16640x1024_S16640_d1 Cert.Reference17Ideal.Gen.h_S_) Cert.Reference17Ideal.Gen.shapeCasts_S16640_S16640x1) (mulf (broadcastInDim Cert.Reference17Ideal.S16640x1 ![] Cert.Reference17Ideal.Gen.bcast_S_S16640x1 (constant Cert.Reference17Ideal.S_ .f32 0xBF000000#32)) (Host.divf (refScale x0) (refMeanSq x0)))) (broadcastInDim Cert.Reference17Ideal.S16640x1 ![] Cert.Reference17Ideal.Gen.bcast_S_S16640x1 (constant Cert.Reference17Ideal.S_ .f32 0x44800000#32))) (constant Cert.Reference17Ideal.S_ .f32 0x00000000#32) Cert.Reference17Ideal.Gen.reducesTo_S16640x1_S16640_d1 Cert.Reference17Ideal.Gen.h_S_

/-- The reference's three terms of the arguments. -/
def refRows (x0 x1 : FVec Ideal S16640x1024 .f32) (x2 : FVec Ideal S1x1024 .f32) : FVec Ideal S16640x1024 .f32 :=
  addf (addf (mulf (refRowGrad x0 x1 x2) (broadcastInDim S16640x1024 ![0, 1] Cert.Reference17Ideal.Gen.bcast_S16640x1_S16640x1024_0_1 (refScale x0))) (mulf x0 (broadcastInDim S16640x1024 ![0] Cert.Reference17Ideal.Gen.bcast_S16640_S16640x1024_0 (refCoeff x0 x1 x2)))) (mulf (broadcastInDim S16640x1024 ![0] Cert.Reference17Ideal.Gen.bcast_S16640_S16640x1024_0 (refCoeff x0 x1 x2)) x0)

def refLoss (x0 x1 : FVec Ideal S16640x1024 .f32) (x2 : FVec Ideal S1x1024 .f32) : FVec Ideal S1x128 .f32 :=
  broadcastInDim S1x128 ![] Cert.Reference17Ideal.Gen.bcast_S_S1x128 (mulf (constant Cert.Reference17Ideal.S_ .f32 0x3F000000#32) (Host.reduceAdd (Host.divf (Host.reduceAdd (mulf (refErr x0 x1 x2) (refErr x0 x1 x2)) (constant Cert.Reference17Ideal.S_ .f32 0x00000000#32) Cert.Reference17Ideal.Gen.reducesTo_S16384x1024_S16384_d1 Cert.Reference17Ideal.Gen.h_S_) (broadcastInDim Cert.Reference17Ideal.S16384 ![] Cert.Reference17Ideal.Gen.bcast_S_S16384 (constant Cert.Reference17Ideal.S_ .f32 0x44800000#32))) (constant Cert.Reference17Ideal.S_ .f32 0x00000000#32) Cert.Reference17Ideal.Gen.reducesTo_S16384_S_d0 Cert.Reference17Ideal.Gen.h_S_))

def refWeight (x0 x1 : FVec Ideal S16640x1024 .f32) (x2 : FVec Ideal S1x1024 .f32) : FVec Ideal S1x1024 .f32 :=
  shapeCast S1x1024 (Host.reduceAdd (mulf (refNorm x0) (refDy x0 x1 x2)) (constant Cert.Reference17Ideal.S_ .f32 0x00000000#32) Cert.Reference17Ideal.Gen.reducesTo_S16640x1024_S1024_d0 Cert.Reference17Ideal.Gen.h_S_) Cert.Reference17Ideal.Gen.shapeCasts_S1024_S1x1024

/-- The mean square and the factor of a row are the row's, -/
theorem refMeanSq_apply (x0 : FVec Ideal S16640x1024 .f32) (r : Fin 16640) :
    refMeanSq x0 (ix2 r 0) = meanSq (fun k => x0 (ix2 r k)) := by
  unfold refMeanSq meanSq
  pointwise

theorem refScale_apply (x0 : FVec Ideal S16640x1024 .f32) (r : Fin 16640) :
    refScale x0 (ix2 r 0) = scale (fun k => x0 (ix2 r k)) :=
  congrArg Ideal.rsqrt (refMeanSq_apply x0 r)

theorem refNorm_apply (x0 : FVec Ideal S16640x1024 .f32) (r : Fin 16640) (k : Fin 1024) :
    refNorm x0 (ix2 r k) = x0 (ix2 r k) * scale (fun k => x0 (ix2 r k)) := by
  unfold refNorm
  pointwise
  rw [refScale_apply]

/-- A row of an array of the sequence is the row 64 further of the padded arrays. -/
def shift (r : Fin 16384) : Fin 16640 := ⟨64 + r.val, by omega⟩

theorem refErr_apply (x0 x1 : FVec Ideal S16640x1024 .f32) (x2 : FVec Ideal S1x1024 .f32) (r : Fin 16384) (k : Fin 1024) :
    refErr x0 x1 x2 (ix2 r k) = x0 (ix2 (shift r) k) * scale (fun k => x0 (ix2 (shift r) k)) * x2 (ix2 0 k) - x1 (ix2 (shift r) k) := by
  rw [← refNorm_apply]
  unfold refErr
  generalize refNorm x0 = y
  pointwise
  rfl

/-- The gradient of a normalised row in the sequence is the error over the row's length, and zero outside. -/
theorem refDy_apply (x0 x1 : FVec Ideal S16640x1024 .f32) (x2 : FVec Ideal S1x1024 .f32) (r : Fin 16640) (k : Fin 1024) :
    refDy x0 x1 x2 (ix2 r k) = if h : 64 ≤ r.val ∧ r.val < 16448
      then Ideal.div (Ideal.ofBits .f32 0x3F000000#32 * Ideal.ofBits .f32 0x3F800000#32) (Ideal.ofBits .f32 0x44800000#32)
        * (Ideal.ofBits .f32 0x40000000#32 * refErr x0 x1 x2 (ix2 ⟨r.val - 64, by omega⟩ k)) else 0 := by
  unfold refDy
  generalize refErr x0 x1 x2 = e
  pointwise
  split_ifs <;> first | rfl | omega

theorem refRowGrad_apply (x0 x1 : FVec Ideal S16640x1024 .f32) (x2 : FVec Ideal S1x1024 .f32) (r : Fin 16640) (k : Fin 1024) :
    refRowGrad x0 x1 x2 (ix2 r k) = refDy x0 x1 x2 (ix2 r k) * x2 (ix2 0 k) := by
  unfold refRowGrad
  generalize refDy x0 x1 x2 = e
  pointwise

/-- The coefficient of a row is the derivative's. -/
theorem refCoeff_apply (x0 x1 : FVec Ideal S16640x1024 .f32) (x2 : FVec Ideal S1x1024 .f32) (r : Fin 16640) :
    refCoeff x0 x1 x2 (ix1 r) = coeff (fun k => x0 (ix2 r k)) (fun k => refRowGrad x0 x1 x2 (ix2 r k)) := by
  unfold refCoeff coeff
  generalize refRowGrad x0 x1 x2 = e
  pointwise
  rw [Fin.sum_univ_one, refScale_apply, refMeanSq_apply]

theorem refRows_apply (x0 x1 : FVec Ideal S16640x1024 .f32) (x2 : FVec Ideal S1x1024 .f32) (r : Fin 16640) (l : Fin 1024) :
    refRows x0 x1 x2 (ix2 r l) = refGrad (fun k => x0 (ix2 r k)) (fun k => refRowGrad x0 x1 x2 (ix2 r k)) l := by
  have hc := refCoeff_apply x0 x1 x2 r
  unfold refRows refGrad
  generalize refCoeff x0 x1 x2 = q at hc ⊢
  generalize refRowGrad x0 x1 x2 = e at hc ⊢
  pointwise
  rw [refScale_apply, hc]

theorem refWeight_apply (x0 x1 : FVec Ideal S16640x1024 .f32) (x2 : FVec Ideal S1x1024 .f32) (l : Fin 1024) :
    refWeight x0 x1 x2 (ix2 0 l) = ∑ r : Fin 16640, x0 (ix2 r l) * scale (fun k => x0 (ix2 r k)) * refDy x0 x1 x2 (ix2 r l) := by
  have hn := fun r => refNorm_apply x0 r l
  unfold refWeight
  generalize refDy x0 x1 x2 = e
  generalize refNorm x0 = y at hn ⊢
  pointwise
  exact Finset.sum_congr rfl fun r _ => by rw [hn]

theorem refLoss_apply (x0 x1 : FVec Ideal S16640x1024 .f32) (x2 : FVec Ideal S1x1024 .f32) (l : Fin 128) :
    refLoss x0 x1 x2 (ix2 0 l) = Ideal.ofBits .f32 0x3F000000#32 * ∑ r : Fin 16384,
      Ideal.div (∑ k : Fin 1024, refErr x0 x1 x2 (ix2 r k) * refErr x0 x1 x2 (ix2 r k)) (Ideal.ofBits .f32 0x44800000#32) := by
  unfold refLoss
  generalize refErr x0 x1 x2 = e
  pointwise

/-! ## The two sides meet -/

/-- The constants of the two programs. -/
theorem ofBits_1 : Ideal.ofBits .f32 0x3F800000#32 = ((1 : ℝ) : EReal) := by
  simp [Ideal.ofBits, Ideal.ieee]; rw [← EReal.coe_mul]; norm_num
theorem ofBits_2 : Ideal.ofBits .f32 0x40000000#32 = ((2 : ℝ) : EReal) := by
  simp [Ideal.ofBits, Ideal.ieee]; rw [← EReal.coe_mul]; norm_num
theorem ofBits_h : Ideal.ofBits .f32 0x3F000000#32 = ((1 / 2 : ℝ) : EReal) := by
  simp [Ideal.ofBits, Ideal.ieee]; rw [← EReal.coe_mul]; norm_num
theorem ofBits_1024 : Ideal.ofBits .f32 0x3A800000#32 = ((1 / 1024 : ℝ) : EReal) := by
  simp [Ideal.ofBits, Ideal.ieee]; rw [← EReal.coe_mul]; norm_num
theorem ofBits_2048 : Ideal.ofBits .f32 0x3A000000#32 = ((1 / 2048 : ℝ) : EReal) := by
  simp [Ideal.ofBits, Ideal.ieee]; rw [← EReal.coe_mul]; norm_num

instance : Subsingleton Cert.Pre_finite_loss.S_.Idx := ⟨fun _ _ => funext fun a => a.elim0⟩

/-- The precondition says that every element of the arguments is a real. -/
theorem finite_args [Cert.Pre_finite_loss.Facts] (x0 x1 : FVec Ideal S16640x1024 .f32) (x2 : FVec Ideal S1x1024 .f32)
    (h : Cert.Pre_finite_loss.fn (F := Ideal) x0 x1 x2 = fun _ => 1#1) :
    (∀ i, ∃ r : ℝ, x0 i = r) ∧ (∀ i, ∃ r : ℝ, x1 i = r) ∧ ∀ i, ∃ r : ℝ, x2 i = r := by
  have h' := congrFun h (fun a => a.elim0)
  dsimp only [Cert.Pre_finite_loss.fn] at h'
  obtain ⟨h', e2⟩ := IntOp.andi_eq_one.1 h'
  obtain ⟨e0, e1⟩ := IntOp.andi_eq_one.1 h'
  refine ⟨fun i => ?_, fun i => ?_, fun i => ?_⟩
  · have := Host.reduce_andi_all _ _ _ _ _ e0 i
    exact Finite.real_of_lt_top _ (by rw [← Finite.ofBits_inf_f32]; exact this)
  · have := Host.reduce_andi_all _ _ _ _ _ e1 i
    exact Finite.real_of_lt_top _ (by rw [← Finite.ofBits_inf_f32]; exact this)
  · have := Host.reduce_andi_all _ _ _ _ _ e2 i
    exact Finite.real_of_lt_top _ (by rw [← Finite.ofBits_inf_f32]; exact this)

theorem row_ix (x : FVec Ideal S16640x1024 .f32) (r : Fin 16640) : (fun k : Fin 1024 => x (ix2 r k)) = row x r.val :=
  funext fun k => (at2_idx x (ix2 r k) _ _ rfl rfl)

/-- The reference's error of a row of the sequence is the call's, -/
theorem refErr_eq (x0 x1 : FVec Ideal S16640x1024 .f32) (x2 : FVec Ideal S1x1024 .f32) (r : Fin 16384) (k : Fin 1024) :
    refErr x0 x1 x2 (ix2 r k) = err x0 x1 x2 (64 + r.val) k := by
  rw [refErr_apply, row_ix]
  unfold err
  rw [if_pos ⟨by omega, by omega⟩]
  exact congrArg₂ (fun a b : EReal => a - b) (congrArg₂ (fun a b : EReal => a * b)
    (congrArg (· * scale (row x0 (64 + r.val))) (at2_idx x0 (ix2 (shift r) k) _ _ rfl rfl))
      (at2_idx x2 (ix2 0 k) _ _ rfl rfl)) (at2_idx x1 (ix2 (shift r) k) _ _ rfl rfl)

/-- and so is its gradient of any normalised row, always. -/
theorem refDy_eq (x0 x1 : FVec Ideal S16640x1024 .f32) (x2 : FVec Ideal S1x1024 .f32) (r : Fin 16640) (k : Fin 1024) :
    refDy x0 x1 x2 (ix2 r k) = dy x0 x1 x2 r.val k := by
  rw [refDy_apply]
  unfold dy
  split_ifs with h
  · rw [refErr_eq, ofBits_h, ofBits_1, ofBits_2, ofBits_len, ofBits_1024, Ideal.div_coe (by norm_num),
      show 64 + (r.val - 64) = r.val by omega, ← mul_assoc, ← EReal.coe_mul, ← EReal.coe_mul, ← EReal.coe_mul, mul_comm]
    congr 2
    norm_num
  · unfold err
    rw [if_neg h, zero_mul]

theorem refRowGrad_eq (x0 x1 : FVec Ideal S16640x1024 .f32) (x2 : FVec Ideal S1x1024 .f32) (r : Fin 16640) (k : Fin 1024) :
    refRowGrad x0 x1 x2 (ix2 r k) = rowGrad x0 x1 x2 r.val k := by
  rw [refRowGrad_apply, refDy_eq]
  exact congrArg (dy x0 x1 x2 r.val k * ·) (at2_idx x2 (ix2 0 k) _ _ rfl rfl)

theorem at2_real {a b : ℕ} (X : (⟨2, ![a, b]⟩ : Shape).Idx → EReal) (hX : ∀ i, ∃ r : ℝ, X i = r) (r k : ℕ) (hr : r < a) (hk : k < b) :
    ∃ v : ℝ, at2 X r k = v := by
  rw [at2_of_lt X r k hr hk]; exact hX _

/-- On finite arguments the error of a row is a row of reals. -/
theorem err_real (x0 x1 : FVec Ideal S16640x1024 .f32) (x2 : FVec Ideal S1x1024 .f32)
    (f0 : ∀ i, ∃ r : ℝ, x0 i = r) (f1 : ∀ i, ∃ r : ℝ, x1 i = r) (f2 : ∀ i, ∃ r : ℝ, x2 i = r) (r : ℕ) (k : Fin 1024) :
    ∃ v : ℝ, err x0 x1 x2 r k = v := by
  unfold err
  split_ifs with h
  · have hr : r < 16640 := by omega
    choose a ha using fun k : Fin 1024 => at2_real x0 f0 r k.val hr k.isLt
    obtain ⟨s, q, -, -, -, hq⟩ := scale_real a
    obtain ⟨t, ht⟩ := at2_real x1 f1 r k.val hr k.isLt
    obtain ⟨w, hw⟩ := at2_real x2 f2 0 k.val (by omega) k.isLt
    have e : row x0 r = fun k => (a k : EReal) := funext ha
    exact ⟨a k * q * w - t, by rw [e, hq, ha, ht, hw]; norm_cast⟩
  · exact ⟨0, rfl⟩

/-- On finite arguments the call's rows are the reference's, -/
theorem rows_eq (x0 x1 : FVec Ideal S16640x1024 .f32) (x2 : FVec Ideal S1x1024 .f32)
    (f0 : ∀ i, ∃ r : ℝ, x0 i = r) (f1 : ∀ i, ∃ r : ℝ, x1 i = r) (f2 : ∀ i, ∃ r : ℝ, x2 i = r) :
    rowsArr x0 x1 x2 = refRows x0 x1 x2 := by
  have key : ∀ (r : Fin 16640) (l : Fin 1024), rowsArr x0 x1 x2 (ix2 r l) = refRows x0 x1 x2 (ix2 r l) := by
    intro r l
    rw [refRows_apply, row_ix, show (fun k => refRowGrad x0 x1 x2 (ix2 r k)) = rowGrad x0 x1 x2 r.val from
      funext fun k => refRowGrad_eq x0 x1 x2 r k]
    exact grad_eq _ _ (fun k => at2_real x0 f0 r.val k.val r.isLt k.isLt) (fun k => by
      obtain ⟨e, he⟩ := err_real x0 x1 x2 f0 f1 f2 r.val k
      obtain ⟨w, hw⟩ := at2_real x2 f2 0 k.val (by omega) k.isLt
      exact ⟨e * (1 / 1024) * w, by
        show err x0 x1 x2 r.val k * Ideal.ofBits .f32 0x3A800000#32 * at2 x2 0 k.val = _
        rw [he, hw, ofBits_1024]; norm_cast⟩) l
  exact funext fun i => (congrArg _ (eq_ix2 i)).trans ((key (i 0) (i 1)).trans (congrArg _ (eq_ix2 i)).symm)

/-- and the weight's gradient is, always. -/
theorem weight_eq (x0 x1 : FVec Ideal S16640x1024 .f32) (x2 : FVec Ideal S1x1024 .f32) : weightArr x0 x1 x2 = refWeight x0 x1 x2 := by
  have key : ∀ l : Fin 1024, weightArr x0 x1 x2 (ix2 0 l) = refWeight x0 x1 x2 (ix2 0 l) := by
    intro l
    rw [refWeight_apply]
    refine Finset.sum_congr rfl fun r _ => (mul_comm _ _).trans ?_
    rw [refDy_eq, row_ix]
    exact congrArg (fun a : EReal => a * scale (row x0 r.val) * dy x0 x1 x2 r.val l) (at2_idx x0 (ix2 r l) _ _ rfl rfl).symm
  exact funext fun i => by
    have hi : i = ix2 0 (i 1) := by
      rw [show (0 : Fin 1) = i 0 from Subsingleton.elim _ _]; exact eq_ix2 i
    exact (congrArg _ hi).trans ((key (i 1)).trans (congrArg _ hi).symm)

/-- A sum over the padded rows of numbers that are zero outside the sequence is the sum over the sequence. -/
theorem sum_window (q : ℕ → ℝ) (h0 : ∀ n, n < 64 → q n = 0) (h1 : ∀ n, 16448 ≤ n → q n = 0) :
    ∑ r : Fin 16640, q r.val = ∑ r : Fin 16384, q (64 + r.val) := by
  rw [← Finset.sum_range, ← Finset.sum_range (fun n => q (64 + n)), show 16640 = 64 + 16384 + 192 from rfl,
    Finset.sum_range_add, Finset.sum_range_add, Finset.sum_eq_zero (fun n hn => h0 n (Finset.mem_range.1 hn)),
    Finset.sum_eq_zero (fun n _ => h1 (64 + 16384 + n) (by omega)), zero_add, add_zero]

/-- A real sum over the padded rows is the sum of the blocks' sums. -/
theorem sum_blocks_real (F : ℕ → ℝ) : ∑ s : Fin 26, ∑ r : Fin 640, F (s.val * 640 + r.val) = ∑ r : Fin 16640, F r.val := by
  have h := sum_blocks 26 640 16640 rfl (fun n => (F n : EReal))
  rw [Finset.sum_range, coe_sum, Finset.sum_congr rfl fun (s : Fin 26) _ => coe_sum (fun r : Fin 640 => F (s.val * 640 + r.val)), coe_sum] at h
  exact_mod_cast h

/-- On finite arguments the loss, added block by block, is the reference's. -/
theorem loss_eq (x0 x1 : FVec Ideal S16640x1024 .f32) (x2 : FVec Ideal S1x1024 .f32)
    (f0 : ∀ i, ∃ r : ℝ, x0 i = r) (f1 : ∀ i, ∃ r : ℝ, x1 i = r) (f2 : ∀ i, ∃ r : ℝ, x2 i = r) :
    lossArr x0 x1 x2 = refLoss x0 x1 x2 := by
  choose e he using err_real x0 x1 x2 f0 f1 f2
  have hq : ∀ n, square x0 x1 x2 n = ((∑ k : Fin 1024, e n k * e n k : ℝ) : EReal) := fun n => by
    unfold square
    rw [← coe_sum]
    exact Finset.sum_congr rfl fun k _ => by rw [he, EReal.coe_mul]
  have hz : ∀ n, ¬(64 ≤ n ∧ n < 16448) → (∑ k : Fin 1024, e n k * e n k) = 0 := fun n hn =>
    Finset.sum_eq_zero fun k _ => by
      have h := he n k
      unfold err at h
      rw [if_neg hn] at h
      have h2 : e n k = 0 := by exact_mod_cast h.symm
      rw [h2, zero_mul]
  have key : ∀ l : Fin 128, lossArr x0 x1 x2 (ix2 0 l) = refLoss x0 x1 x2 (ix2 0 l) := by
    intro l
    rw [refLoss_apply]
    unfold lossArr
    have hl : ∀ s, (∑ r : Fin 640, square x0 x1 x2 (s * 640 + r.val)) * Ideal.ofBits .f32 0x3A000000#32
        = (((∑ r : Fin 640, ∑ k : Fin 1024, e (s * 640 + r.val) k * e (s * 640 + r.val) k) * (1 / 2048) : ℝ) : EReal) := fun s => by
      rw [Finset.sum_congr rfl fun r _ => hq _, coe_sum, ofBits_2048, EReal.coe_mul]
    have hr : ∀ r : Fin 16384, Ideal.div (∑ k : Fin 1024, refErr x0 x1 x2 (ix2 r k) * refErr x0 x1 x2 (ix2 r k)) (Ideal.ofBits .f32 0x44800000#32)
        = (((∑ k : Fin 1024, e (64 + r.val) k * e (64 + r.val) k) * (1 / 1024) : ℝ) : EReal) := fun r => by
      rw [Finset.sum_congr rfl fun k _ => by rw [refErr_eq], ofBits_len, Ideal.div_coe (by norm_num), EReal.coe_mul, ← hq]
      rfl
    rw [Finset.sum_congr rfl fun s _ => hl s, Finset.sum_congr rfl fun r _ => hr r, coe_sum, ofBits_h, Finset.sum_range,
      coe_sum, ← EReal.coe_mul]
    congr 1
    rw [← Finset.sum_mul, ← Finset.sum_mul, ← sum_window (fun n => ∑ k : Fin 1024, e n k * e n k)
      (fun n hn => hz n (by omega)) (fun n hn => hz n (by omega)),
      ← sum_blocks_real (fun n => ∑ k : Fin 1024, e n k * e n k)]
    ring
  exact funext fun i => by
    have hi : i = ix2 0 (i 1) := by
      rw [show (0 : Fin 1) = i 0 from Subsingleton.elim _ _]; exact eq_ix2 i
    exact (congrArg _ hi).trans ((key (i 1)).trans (congrArg _ hi).symm)

end Cert.LossBwd

end
-- ==== Proof.Adamw.lean ====
/-
  What the optimiser's calls share, about extended reals alone: an array of three axes read at three natural numbers, the
  sum of eight devices' shares of a gradient, the two moments and the step of AdamW at one element.
-/
module

public import proofs.«01_k».proof.Proof.Blocks

@[expose] public section

noncomputable section

namespace Cert.Adamw

open Idealize.ShloMosaic

/-- An array of three axes read at three natural numbers: its element there, and `0` outside the array. -/
def at3 {a b c : ℕ} (X : (⟨3, ![a, b, c]⟩ : Shape).Idx → EReal) (d r k : ℕ) : EReal :=
  if h : d < a ∧ r < b ∧ k < c then X (ix3 ⟨d, h.1⟩ ⟨r, h.2.1⟩ ⟨k, h.2.2⟩) else 0

theorem at3_of_lt {a b c : ℕ} (X : (⟨3, ![a, b, c]⟩ : Shape).Idx → EReal) (d r k : ℕ) (hd : d < a) (hr : r < b) (hk : k < c) :
    at3 X d r k = X (ix3 ⟨d, hd⟩ ⟨r, hr⟩ ⟨k, hk⟩) := dif_pos ⟨hd, hr, hk⟩

/-- The element at an index is the reading at its three coordinates. -/
theorem at3_idx {a b c : ℕ} (X : (⟨3, ![a, b, c]⟩ : Shape).Idx → EReal) (i : (⟨3, ![a, b, c]⟩ : Shape).Idx) (d r k : ℕ)
    (hd : (i 0).val = d) (hr : (i 1).val = r) (hk : (i 2).val = k) : X i = at3 X d r k := by
  subst hd; subst hr; subst hk
  exact (congrArg X (eq_ix3 i)).trans (at3_of_lt X _ _ _ (i 0).isLt (i 1).isLt (i 2).isLt).symm

/-- The sum of the eight shares at one element. -/
def total {b c : ℕ} (X : (⟨3, ![8, b, c]⟩ : Shape).Idx → EReal) (r k : ℕ) : EReal := ∑ d : Fin 8, at3 X d.val r k

/-- The first moment: the printed decay times the old one, plus the printed weight times the gradient. -/
def mom (g m : EReal) : EReal := Ideal.ofBits .f32 0x3F666666#32 * m + Ideal.ofBits .f32 0x3DCCCCCD#32 * g

/-- The second moment, of the gradient's square. -/
def vel (g v : EReal) : EReal := Ideal.ofBits .f32 0x3F7FBE77#32 * v + Ideal.ofBits .f32 0x3A83126F#32 * (g * g)

/-- The step: minus the rate times the corrected first moment over the root of the corrected second, plus the decay of the
    parameter. -/
def step (g p m v : EReal) : EReal :=
  Ideal.ofBits .f32 0xBA83126F#32 * (Ideal.div (Ideal.div (mom g m) (Ideal.ofBits .f32 0x3F26BD02#32))
      (Ideal.sqrt (Ideal.div (vel g v) (Ideal.ofBits .f32 0x3C231ACC#32)) + Ideal.ofBits .f32 0x322BCC77#32)
    + Ideal.ofBits .f32 0x3C23D70A#32 * p)

end Cert.Adamw

end
-- ==== Proof.AdamwIn.lean ====
/-
  The optimiser's call for the input projection: each grid point adds eight devices' shares of the gradient for 512 rows and updates the
  two moments and the parameter's step elementwise; the reference does so for all 4096 rows at once.
-/
module

public import proofs.«01_k».proof.Proof.Adamw
public import proofs.«01_k».proof.Proof.Gen.Kernel18Ideal.Value
public import proofs.«01_k».proof.Proof.Gen.Reference18Ideal.Run

@[expose] public section

set_option maxRecDepth 16384

noncomputable section

namespace Cert.AdamwIn

open Cert.Kernel18Ideal Cert.Kernel18Ideal.Gen Cert.Blocks Cert.Adamw
open Idealize.ShloMosaic Idealize.ShloMosaic.TcCoe Idealize.SL.Sem

variable (m : (ℓ : Loc nD τ sig) → Buf (Elt Ideal) ℓ)

/-! ## What the body leaves in its four blocks -/

section Body
variable (x0 : Vec Ideal S8x512x512 .bf16) (x1 x2 x3 : Vec Ideal S512x512 .f32) (y : S512x512.Idx)

/-- A device's share, as the body loads it. -/
theorem share_apply (d : ℕ) (hi : ∀ a, (![d, 0, 0] : Fin 3 → ℕ) a + S1x512x512.size a ≤ S8x512x512.size a) (r : Fin 512) (l : Fin 512) :
    View.ld x0 (Rect.unit (s := S8x512x512) ![d, 0, 0] S1x512x512.size hi) (ix3 0 r l)
      = at3 (show S8x512x512.Idx → EReal from x0) d r.val l.val :=
  at3_idx (show S8x512x512.Idx → EReal from x0) _ _ _ _ (by show d + 1 * 0 = _; rfl)
    (by show 0 + 1 * r.val = _; rw [one_mul, zero_add]) (by show 0 + 1 * l.val = _; rw [one_mul, zero_add])

/-- The sum of eight shares at an index. -/
theorem sum_apply (v0 v1 v2 v3 v4 v5 v6 v7 : Vec Ideal S1x512x512 .bf16) (r : Fin 512) (l : Fin 512) :
    k0_pay4 v0 v1 v2 v3 v4 v5 v6 v7 (ix2 r l) = v0 (ix3 0 r l) + v1 (ix3 0 r l) + v2 (ix3 0 r l) + v3 (ix3 0 r l)
      + v4 (ix3 0 r l) + v5 (ix3 0 r l) + v6 (ix3 0 r l) + v7 (ix3 0 r l) := by
  pointwise [k0_pay4]

/-- The body's gradient: the sum of the eight shares. -/
theorem grad_eq : k0_pay5 x0 x1 x2 x3 y = total (show S8x512x512.Idx → EReal from x0) (y 0).val (y 1).val := by
  unfold k0_pay5
  refine (congrArg _ (eq_ix2 y)).trans ((sum_apply _ _ _ _ _ _ _ _ (y 0) (y 1)).trans ?_)
  unfold total
  rw [Fin.sum_univ_eight]
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (share_apply x0 0 inb_S8x512x512_S1x512x512_0_0_0 (y 0) (y 1))
    (share_apply x0 1 inb_S8x512x512_S1x512x512_1_0_0 (y 0) (y 1)))
    (share_apply x0 2 inb_S8x512x512_S1x512x512_2_0_0 (y 0) (y 1)))
    (share_apply x0 3 inb_S8x512x512_S1x512x512_3_0_0 (y 0) (y 1)))
    (share_apply x0 4 inb_S8x512x512_S1x512x512_4_0_0 (y 0) (y 1)))
    (share_apply x0 5 inb_S8x512x512_S1x512x512_5_0_0 (y 0) (y 1)))
    (share_apply x0 6 inb_S8x512x512_S1x512x512_6_0_0 (y 0) (y 1)))
    (share_apply x0 7 inb_S8x512x512_S1x512x512_7_0_0 (y 0) (y 1))

theorem out_grad : out0_4 x0 x1 x2 x3 y = total (show S8x512x512.Idx → EReal from x0) (y 0).val (y 1).val := by
  unfold out0_4
  rw [View.canon_unit_zero (S := S512x512) hz, grad_eq]

theorem out_mom : out0_6 x0 x1 x2 x3 y = mom (total (show S8x512x512.Idx → EReal from x0) (y 0).val (y 1).val) (x2 y) := by
  unfold out0_6
  rw [View.canon_unit_zero (S := S512x512) hz, View.ld_unit_zero (S := S512x512) hz]
  rw [← grad_eq x0 x1 x2 x3 y]
  rfl

theorem out_vel : out0_7 x0 x1 x2 x3 y = vel (total (show S8x512x512.Idx → EReal from x0) (y 0).val (y 1).val) (x3 y) := by
  unfold out0_7
  rw [View.canon_unit_zero (S := S512x512) hz, View.ld_unit_zero (S := S512x512) hz]
  rw [← grad_eq x0 x1 x2 x3 y]
  rfl

theorem out_step : out0_5 x0 x1 x2 x3 y
    = step (total (show S8x512x512.Idx → EReal from x0) (y 0).val (y 1).val) (x1 y) (x2 y) (x3 y) := by
  unfold out0_5
  rw [View.canon_unit_zero (S := S512x512) hz]
  simp only [View.ld_unit_zero (S := S512x512) hz]
  rw [← grad_eq x0 x1 x2 x3 y]
  rfl

end Body

/-! ## The blocks the windows stage -/

/-- The windows' block indices at a grid point. -/
theorem idx_facts : ∀ t : Fin cfg0.N, (win0_0.index t 0 = 0 ∧ win0_0.index t 1 = t.val ∧ win0_0.index t 2 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) :=
  (by decide +kernel : ∀ t : Fin grid0.N, _)

/-- The arguments as arrays of extended reals. -/
abbrev X0 (c : Dev nD) : S8x4096x512.Idx → EReal := m ((c : Thread nD τ).loc main_arg0)
abbrev X1 (c : Dev nD) : S4096x512.Idx → EReal := m ((c : Thread nD τ).loc main_arg1)
abbrev X2 (c : Dev nD) : S4096x512.Idx → EReal := m ((c : Thread nD τ).loc main_arg2)
abbrev X3 (c : Dev nD) : S4096x512.Idx → EReal := m ((c : Thread nD τ).loc main_arg3)

/-- The sum of the shares over a block is the sum over the array at the block's rows. -/
theorem total_blk (c : Dev nD) (t : Fin cfg0.N) (r l : ℕ) (hr : r < 512) (hl : l < 512) :
    total (show S8x512x512.Idx → EReal from iblk m c 0 t) r l = total (X0 m c) (t.val * 512 + r) l := by
  unfold total
  refine Finset.sum_congr rfl fun d _ => ?_
  rw [at3_of_lt _ d.val r l d.isLt hr hl]
  show (iblk m c 0 t : Vec Ideal S8x512x512 .bf16) (ix3 ⟨d.val, d.isLt⟩ ⟨r, hr⟩ ⟨l, hl⟩) = _
  unfold iblk
  rw [View.read_apply]
  refine at3_idx (X0 m c) _ _ _ _ ?_ ?_ ?_
  · show win0_0.index t 0 * 8 + 1 * d.val = _; rw [(idx_facts t).1.1, zero_mul, zero_add, one_mul]
  · show win0_0.index t 1 * 512 + 1 * r = _; rw [(idx_facts t).1.2.1, one_mul]
  · show win0_0.index t 2 * 512 + 1 * l = _; rw [(idx_facts t).1.2.2, zero_mul, zero_add, one_mul]

theorem blk1 (c : Dev nD) (t : Fin cfg0.N) (y : S512x512.Idx) :
    (iblk m c 1 t : Vec Ideal S512x512 .f32) y = at2 (X1 m c) (t.val * 512 + (y 0).val) (y 1).val := by
  unfold iblk
  rw [View.read_apply]
  refine at2_idx (X1 m c) _ _ _ ?_ ?_
  · show win0_1.index t 0 * 512 + 1 * (y 0).val = _; rw [(idx_facts t).2.1.1, one_mul]
  · show win0_1.index t 1 * 512 + 1 * (y 1).val = _; rw [(idx_facts t).2.1.2, zero_mul, zero_add, one_mul]

theorem blk2 (c : Dev nD) (t : Fin cfg0.N) (y : S512x512.Idx) :
    (iblk m c 2 t : Vec Ideal S512x512 .f32) y = at2 (X2 m c) (t.val * 512 + (y 0).val) (y 1).val := by
  unfold iblk
  rw [View.read_apply]
  refine at2_idx (X2 m c) _ _ _ ?_ ?_
  · show win0_2.index t 0 * 512 + 1 * (y 0).val = _; rw [(idx_facts t).2.2.1.1, one_mul]
  · show win0_2.index t 1 * 512 + 1 * (y 1).val = _; rw [(idx_facts t).2.2.1.2, zero_mul, zero_add, one_mul]

theorem blk3 (c : Dev nD) (t : Fin cfg0.N) (y : S512x512.Idx) :
    (iblk m c 3 t : Vec Ideal S512x512 .f32) y = at2 (X3 m c) (t.val * 512 + (y 0).val) (y 1).val := by
  unfold iblk
  rw [View.read_apply]
  refine at2_idx (X3 m c) _ _ _ ?_ ?_
  · show win0_3.index t 0 * 512 + 1 * (y 0).val = _; rw [(idx_facts t).2.2.2.1.1, one_mul]
  · show win0_3.index t 1 * 512 + 1 * (y 1).val = _; rw [(idx_facts t).2.2.2.1.2, zero_mul, zero_add, one_mul]

/-! ## The reference -/

/-- The reference's gradient, -/
def gradRef (x0 : Vec Ideal S8x4096x512 .bf16) : FVec Ideal S4096x512 .f32 :=
  Host.reduceAdd (extf .f32 x0 Cert.Reference18Ideal.Gen.bitsLt_bf16_f32) (constant Cert.Reference18Ideal.S_ .f32 0x00000000#32) Cert.Reference18Ideal.Gen.reducesTo_S8x4096x512_S4096x512_d0 Cert.Reference18Ideal.Gen.h_S_

/-- its first moment, -/
def momRef (x0 : Vec Ideal S8x4096x512 .bf16) (x2 : Vec Ideal S4096x512 .f32) : FVec Ideal S4096x512 .f32 :=
  addf (mulf (broadcastInDim S4096x512 ![] Cert.Reference18Ideal.Gen.bcast_S_S4096x512 (constant Cert.Reference18Ideal.S_ .f32 0x3F666666#32)) x2)
    (mulf (broadcastInDim S4096x512 ![] Cert.Reference18Ideal.Gen.bcast_S_S4096x512 (constant Cert.Reference18Ideal.S_ .f32 0x3DCCCCCD#32)) (gradRef x0))

/-- its second moment -/
def velRef (x0 : Vec Ideal S8x4096x512 .bf16) (x3 : Vec Ideal S4096x512 .f32) : FVec Ideal S4096x512 .f32 :=
  addf (mulf (broadcastInDim S4096x512 ![] Cert.Reference18Ideal.Gen.bcast_S_S4096x512 (constant Cert.Reference18Ideal.S_ .f32 0x3F7FBE77#32)) x3)
    (mulf (broadcastInDim S4096x512 ![] Cert.Reference18Ideal.Gen.bcast_S_S4096x512 (constant Cert.Reference18Ideal.S_ .f32 0x3A83126F#32)) (mulf (gradRef x0) (gradRef x0)))

/-- and its step. -/
def stepRef (x0 : Vec Ideal S8x4096x512 .bf16) (x1 x2 x3 : Vec Ideal S4096x512 .f32) : FVec Ideal S4096x512 .f32 :=
  mulf (broadcastInDim S4096x512 ![] Cert.Reference18Ideal.Gen.bcast_S_S4096x512 (constant Cert.Reference18Ideal.S_ .f32 0xBA83126F#32))
    (addf (Host.divf (Host.divf (momRef x0 x2) (broadcastInDim S4096x512 ![] Cert.Reference18Ideal.Gen.bcast_S_S4096x512 (constant Cert.Reference18Ideal.S_ .f32 0x3F26BD02#32)))
        (addf (Host.sqrt (Host.divf (velRef x0 x3) (broadcastInDim S4096x512 ![] Cert.Reference18Ideal.Gen.bcast_S_S4096x512 (constant Cert.Reference18Ideal.S_ .f32 0x3C231ACC#32))))
          (broadcastInDim S4096x512 ![] Cert.Reference18Ideal.Gen.bcast_S_S4096x512 (constant Cert.Reference18Ideal.S_ .f32 0x322BCC77#32))))
      (mulf (broadcastInDim S4096x512 ![] Cert.Reference18Ideal.Gen.bcast_S_S4096x512 (constant Cert.Reference18Ideal.S_ .f32 0x3C23D70A#32)) x1))

theorem gradRef_apply (x0 : Vec Ideal S8x4096x512 .bf16) (i : S4096x512.Idx) :
    gradRef x0 i = total (show S8x4096x512.Idx → EReal from x0) (i 0).val (i 1).val := by
  unfold gradRef
  pointwise
  exact Finset.sum_congr rfl fun d _ => at3_idx (show S8x4096x512.Idx → EReal from x0) _ _ _ _ rfl rfl rfl

theorem momRef_apply (x0 : Vec Ideal S8x4096x512 .bf16) (x2 : Vec Ideal S4096x512 .f32) (i : S4096x512.Idx) :
    momRef x0 x2 i = mom (total (show S8x4096x512.Idx → EReal from x0) (i 0).val (i 1).val) (x2 i) := by
  rw [← gradRef_apply]; rfl

theorem velRef_apply (x0 : Vec Ideal S8x4096x512 .bf16) (x3 : Vec Ideal S4096x512 .f32) (i : S4096x512.Idx) :
    velRef x0 x3 i = vel (total (show S8x4096x512.Idx → EReal from x0) (i 0).val (i 1).val) (x3 i) := by
  rw [← gradRef_apply]; rfl

theorem stepRef_apply (x0 : Vec Ideal S8x4096x512 .bf16) (x1 x2 x3 : Vec Ideal S4096x512 .f32) (i : S4096x512.Idx) :
    stepRef x0 x1 x2 x3 i = step (total (show S8x4096x512.Idx → EReal from x0) (i 0).val (i 1).val) (x1 i) (x2 i) (x3 i) := by
  rw [← gradRef_apply]; rfl

/-! ## The results -/

/-- What a grid point writes back to window 4 is its block of the reference's term. -/
theorem flushed_eq4 (c : Dev nD) (t : Fin cfg0.N) :
    (dats m 0 c).flushed 4 t = ((cfg0.win 4).blk t).view.read (Elt Ideal) (gradRef (X0 m c)) := by
  rw [Value.flushed4]
  funext y
  show out0_4 (iblk m c 0 t) (iblk m c 1 t) (iblk m c 2 t) (iblk m c 3 t) y = gradRef (X0 m c) (((cfg0.win 4).blk t).view.emb y)
  have e0 : (((cfg0.win 4).blk t).view.emb y 0).val = t.val * 512 + (y 0).val := by
    show win0_4.index t 0 * 512 + 1 * (y 0).val = _; rw [(idx_facts t).2.2.2.2.1.1, one_mul]
  have e1 : (((cfg0.win 4).blk t).view.emb y 1).val = (y 1).val := by
    show win0_4.index t 1 * 512 + 1 * (y 1).val = _; rw [(idx_facts t).2.2.2.2.1.2, zero_mul, zero_add, one_mul]
  have eg : total (show S8x512x512.Idx → EReal from iblk m c 0 t) (y 0).val (y 1).val
      = total (X0 m c) (((cfg0.win 4).blk t).view.emb y 0).val (((cfg0.win 4).blk t).view.emb y 1).val := by
    rw [e0, e1]; exact total_blk m c t _ _ (y 0).isLt (y 1).isLt
  rw [gradRef_apply]
  refine (out_grad _ _ _ _ y).trans ?_
  rw [eg]

theorem mem_blk4 (t : Fin cfg0.N) (i : S4096x512.Idx) :
    i ∈ ((cfg0.win 4).blk t).view.set ↔
      ∀ a : Fin 2, win0_4.index t a * S512x512.size a ≤ (i a).val ∧ (i a).val < win0_4.index t a * S512x512.size a + S512x512.size a := by
  show i ∈ ((View.whole main_v0_0).slice (win0_4.rect t)).set ↔ _
  rw [View.set_slice_whole, Rect.mem_set_unit]
  exact Iff.rfl

theorem covered4 (i : S4096x512.Idx) :
    ∃ t : Fin cfg0.N, (cfg0.win 4).flush t = true ∧ i ∈ ((cfg0.win 4).blk t).view.set := by
  have hi0 : (i 0).val < 4096 := (i 0).isLt
  have hi1 : (i 1).val < 512 := (i 1).isLt
  have hN : cfg0.N = 8 := N_0
  refine ⟨⟨(i 0).val / 512, by omega⟩, flush0_4 _, ?_⟩
  rw [mem_blk4]
  intro a
  match a with
  | ⟨0, _⟩ =>
    show win0_4.index _ 0 * 512 ≤ (i 0).val ∧ (i 0).val < win0_4.index _ 0 * 512 + 512
    rw [(idx_facts _).2.2.2.2.1.1]; dsimp only; omega
  | ⟨1, _⟩ =>
    show win0_4.index _ 1 * 512 ≤ (i 1).val ∧ (i 1).val < win0_4.index _ 1 * 512 + 512
    rw [(idx_facts _).2.2.2.2.1.2]; omega

/-- The result of window 4 after the run is the reference's term of the arguments. -/
theorem final4 (c : Dev nD) : (dats m 0 c).arrAt 4 cfg0.N = gradRef (X0 m c) :=
  (dats m 0 c).arrAt_eq_of_cover 4 _ (fun t _ => flushed_eq4 m c t) covered4

/-- What a grid point writes back to window 5 is its block of the reference's term. -/
theorem flushed_eq5 (c : Dev nD) (t : Fin cfg0.N) :
    (dats m 0 c).flushed 5 t = ((cfg0.win 5).blk t).view.read (Elt Ideal) (stepRef (X0 m c) (X1 m c) (X2 m c) (X3 m c)) := by
  rw [Value.flushed5]
  funext y
  show out0_5 (iblk m c 0 t) (iblk m c 1 t) (iblk m c 2 t) (iblk m c 3 t) y = stepRef (X0 m c) (X1 m c) (X2 m c) (X3 m c) (((cfg0.win 5).blk t).view.emb y)
  have e0 : (((cfg0.win 5).blk t).view.emb y 0).val = t.val * 512 + (y 0).val := by
    show win0_5.index t 0 * 512 + 1 * (y 0).val = _; rw [(idx_facts t).2.2.2.2.2.1.1, one_mul]
  have e1 : (((cfg0.win 5).blk t).view.emb y 1).val = (y 1).val := by
    show win0_5.index t 1 * 512 + 1 * (y 1).val = _; rw [(idx_facts t).2.2.2.2.2.1.2, zero_mul, zero_add, one_mul]
  have eg : total (show S8x512x512.Idx → EReal from iblk m c 0 t) (y 0).val (y 1).val
      = total (X0 m c) (((cfg0.win 5).blk t).view.emb y 0).val (((cfg0.win 5).blk t).view.emb y 1).val := by
    rw [e0, e1]; exact total_blk m c t _ _ (y 0).isLt (y 1).isLt
  have h1 : (iblk m c 1 t : Vec Ideal S512x512 .f32) y = X1 m c (((cfg0.win 5).blk t).view.emb y) :=
    (blk1 m c t y).trans (at2_idx (X1 m c) _ _ _ e0 e1).symm
  have h2 : (iblk m c 2 t : Vec Ideal S512x512 .f32) y = X2 m c (((cfg0.win 5).blk t).view.emb y) :=
    (blk2 m c t y).trans (at2_idx (X2 m c) _ _ _ e0 e1).symm
  have h3 : (iblk m c 3 t : Vec Ideal S512x512 .f32) y = X3 m c (((cfg0.win 5).blk t).view.emb y) :=
    (blk3 m c t y).trans (at2_idx (X3 m c) _ _ _ e0 e1).symm
  rw [stepRef_apply]
  refine (out_step _ _ _ _ y).trans ?_
  rw [eg]
  rw [h1, h2, h3]

theorem mem_blk5 (t : Fin cfg0.N) (i : S4096x512.Idx) :
    i ∈ ((cfg0.win 5).blk t).view.set ↔
      ∀ a : Fin 2, win0_5.index t a * S512x512.size a ≤ (i a).val ∧ (i a).val < win0_5.index t a * S512x512.size a + S512x512.size a := by
  show i ∈ ((View.whole main_v0_1).slice (win0_5.rect t)).set ↔ _
  rw [View.set_slice_whole, Rect.mem_set_unit]
  exact Iff.rfl

theorem covered5 (i : S4096x512.Idx) :
    ∃ t : Fin cfg0.N, (cfg0.win 5).flush t = true ∧ i ∈ ((cfg0.win 5).blk t).view.set := by
  have hi0 : (i 0).val < 4096 := (i 0).isLt
  have hi1 : (i 1).val < 512 := (i 1).isLt
  have hN : cfg0.N = 8 := N_0
  refine ⟨⟨(i 0).val / 512, by omega⟩, flush0_5 _, ?_⟩
  rw [mem_blk5]
  intro a
  match a with
  | ⟨0, _⟩ =>
    show win0_5.index _ 0 * 512 ≤ (i 0).val ∧ (i 0).val < win0_5.index _ 0 * 512 + 512
    rw [(idx_facts _).2.2.2.2.2.1.1]; dsimp only; omega
  | ⟨1, _⟩ =>
    show win0_5.index _ 1 * 512 ≤ (i 1).val ∧ (i 1).val < win0_5.index _ 1 * 512 + 512
    rw [(idx_facts _).2.2.2.2.2.1.2]; omega

/-- The result of window 5 after the run is the reference's term of the arguments. -/
theorem final5 (c : Dev nD) : (dats m 0 c).arrAt 5 cfg0.N = stepRef (X0 m c) (X1 m c) (X2 m c) (X3 m c) :=
  (dats m 0 c).arrAt_eq_of_cover 5 _ (fun t _ => flushed_eq5 m c t) covered5

/-- What a grid point writes back to window 6 is its block of the reference's term. -/
theorem flushed_eq6 (c : Dev nD) (t : Fin cfg0.N) :
    (dats m 0 c).flushed 6 t = ((cfg0.win 6).blk t).view.read (Elt Ideal) (momRef (X0 m c) (X2 m c)) := by
  rw [Value.flushed6]
  funext y
  show out0_6 (iblk m c 0 t) (iblk m c 1 t) (iblk m c 2 t) (iblk m c 3 t) y = momRef (X0 m c) (X2 m c) (((cfg0.win 6).blk t).view.emb y)
  have e0 : (((cfg0.win 6).blk t).view.emb y 0).val = t.val * 512 + (y 0).val := by
    show win0_6.index t 0 * 512 + 1 * (y 0).val = _; rw [(idx_facts t).2.2.2.2.2.2.1.1, one_mul]
  have e1 : (((cfg0.win 6).blk t).view.emb y 1).val = (y 1).val := by
    show win0_6.index t 1 * 512 + 1 * (y 1).val = _; rw [(idx_facts t).2.2.2.2.2.2.1.2, zero_mul, zero_add, one_mul]
  have eg : total (show S8x512x512.Idx → EReal from iblk m c 0 t) (y 0).val (y 1).val
      = total (X0 m c) (((cfg0.win 6).blk t).view.emb y 0).val (((cfg0.win 6).blk t).view.emb y 1).val := by
    rw [e0, e1]; exact total_blk m c t _ _ (y 0).isLt (y 1).isLt
  have h2 : (iblk m c 2 t : Vec Ideal S512x512 .f32) y = X2 m c (((cfg0.win 6).blk t).view.emb y) :=
    (blk2 m c t y).trans (at2_idx (X2 m c) _ _ _ e0 e1).symm
  rw [momRef_apply]
  refine (out_mom _ _ _ _ y).trans ?_
  rw [eg]
  exact congrArg (mom _) h2

theorem mem_blk6 (t : Fin cfg0.N) (i : S4096x512.Idx) :
    i ∈ ((cfg0.win 6).blk t).view.set ↔
      ∀ a : Fin 2, win0_6.index t a * S512x512.size a ≤ (i a).val ∧ (i a).val < win0_6.index t a * S512x512.size a + S512x512.size a := by
  show i ∈ ((View.whole main_v0_2).slice (win0_6.rect t)).set ↔ _
  rw [View.set_slice_whole, Rect.mem_set_unit]
  exact Iff.rfl

theorem covered6 (i : S4096x512.Idx) :
    ∃ t : Fin cfg0.N, (cfg0.win 6).flush t = true ∧ i ∈ ((cfg0.win 6).blk t).view.set := by
  have hi0 : (i 0).val < 4096 := (i 0).isLt
  have hi1 : (i 1).val < 512 := (i 1).isLt
  have hN : cfg0.N = 8 := N_0
  refine ⟨⟨(i 0).val / 512, by omega⟩, flush0_6 _, ?_⟩
  rw [mem_blk6]
  intro a
  match a with
  | ⟨0, _⟩ =>
    show win0_6.index _ 0 * 512 ≤ (i 0).val ∧ (i 0).val < win0_6.index _ 0 * 512 + 512
    rw [(idx_facts _).2.2.2.2.2.2.1.1]; dsimp only; omega
  | ⟨1, _⟩ =>
    show win0_6.index _ 1 * 512 ≤ (i 1).val ∧ (i 1).val < win0_6.index _ 1 * 512 + 512
    rw [(idx_facts _).2.2.2.2.2.2.1.2]; omega

/-- The result of window 6 after the run is the reference's term of the arguments. -/
theorem final6 (c : Dev nD) : (dats m 0 c).arrAt 6 cfg0.N = momRef (X0 m c) (X2 m c) :=
  (dats m 0 c).arrAt_eq_of_cover 6 _ (fun t _ => flushed_eq6 m c t) covered6

/-- What a grid point writes back to window 7 is its block of the reference's term. -/
theorem flushed_eq7 (c : Dev nD) (t : Fin cfg0.N) :
    (dats m 0 c).flushed 7 t = ((cfg0.win 7).blk t).view.read (Elt Ideal) (velRef (X0 m c) (X3 m c)) := by
  rw [Value.flushed7]
  funext y
  show out0_7 (iblk m c 0 t) (iblk m c 1 t) (iblk m c 2 t) (iblk m c 3 t) y = velRef (X0 m c) (X3 m c) (((cfg0.win 7).blk t).view.emb y)
  have e0 : (((cfg0.win 7).blk t).view.emb y 0).val = t.val * 512 + (y 0).val := by
    show win0_7.index t 0 * 512 + 1 * (y 0).val = _; rw [(idx_facts t).2.2.2.2.2.2.2.1, one_mul]
  have e1 : (((cfg0.win 7).blk t).view.emb y 1).val = (y 1).val := by
    show win0_7.index t 1 * 512 + 1 * (y 1).val = _; rw [(idx_facts t).2.2.2.2.2.2.2.2, zero_mul, zero_add, one_mul]
  have eg : total (show S8x512x512.Idx → EReal from iblk m c 0 t) (y 0).val (y 1).val
      = total (X0 m c) (((cfg0.win 7).blk t).view.emb y 0).val (((cfg0.win 7).blk t).view.emb y 1).val := by
    rw [e0, e1]; exact total_blk m c t _ _ (y 0).isLt (y 1).isLt
  have h3 : (iblk m c 3 t : Vec Ideal S512x512 .f32) y = X3 m c (((cfg0.win 7).blk t).view.emb y) :=
    (blk3 m c t y).trans (at2_idx (X3 m c) _ _ _ e0 e1).symm
  rw [velRef_apply]
  refine (out_vel _ _ _ _ y).trans ?_
  rw [eg]
  exact congrArg (vel _) h3

theorem mem_blk7 (t : Fin cfg0.N) (i : S4096x512.Idx) :
    i ∈ ((cfg0.win 7).blk t).view.set ↔
      ∀ a : Fin 2, win0_7.index t a * S512x512.size a ≤ (i a).val ∧ (i a).val < win0_7.index t a * S512x512.size a + S512x512.size a := by
  show i ∈ ((View.whole main_v0_3).slice (win0_7.rect t)).set ↔ _
  rw [View.set_slice_whole, Rect.mem_set_unit]
  exact Iff.rfl

theorem covered7 (i : S4096x512.Idx) :
    ∃ t : Fin cfg0.N, (cfg0.win 7).flush t = true ∧ i ∈ ((cfg0.win 7).blk t).view.set := by
  have hi0 : (i 0).val < 4096 := (i 0).isLt
  have hi1 : (i 1).val < 512 := (i 1).isLt
  have hN : cfg0.N = 8 := N_0
  refine ⟨⟨(i 0).val / 512, by omega⟩, flush0_7 _, ?_⟩
  rw [mem_blk7]
  intro a
  match a with
  | ⟨0, _⟩ =>
    show win0_7.index _ 0 * 512 ≤ (i 0).val ∧ (i 0).val < win0_7.index _ 0 * 512 + 512
    rw [(idx_facts _).2.2.2.2.2.2.2.1]; dsimp only; omega
  | ⟨1, _⟩ =>
    show win0_7.index _ 1 * 512 ≤ (i 1).val ∧ (i 1).val < win0_7.index _ 1 * 512 + 512
    rw [(idx_facts _).2.2.2.2.2.2.2.2]; omega

/-- The result of window 7 after the run is the reference's term of the arguments. -/
theorem final7 (c : Dev nD) : (dats m 0 c).arrAt 7 cfg0.N = velRef (X0 m c) (X3 m c) :=
  (dats m 0 c).arrAt_eq_of_cover 7 _ (fun t _ => flushed_eq7 m c t) covered7

end Cert.AdamwIn

end
-- ==== Proof.AdamwGateUp.lean ====
/-
  The optimiser's call for the gate and up weights: each grid point adds eight devices' shares of the gradient for 256 rows and updates the
  two moments and the parameter's step elementwise; the reference does so for all 4096 rows at once.
-/
module

public import proofs.«01_k».proof.Proof.Adamw
public import proofs.«01_k».proof.Proof.Gen.Kernel19Ideal.Value
public import proofs.«01_k».proof.Proof.Gen.Reference19Ideal.Run

@[expose] public section

set_option maxRecDepth 16384

noncomputable section

namespace Cert.AdamwGateUp

open Cert.Kernel19Ideal Cert.Kernel19Ideal.Gen Cert.Blocks Cert.Adamw
open Idealize.ShloMosaic Idealize.ShloMosaic.TcCoe Idealize.SL.Sem

variable (m : (ℓ : Loc nD τ sig) → Buf (Elt Ideal) ℓ)

/-! ## What the body leaves in its four blocks -/

section Body
variable (x0 : Vec Ideal S8x256x768 .bf16) (x1 x2 x3 : Vec Ideal S256x768 .f32) (y : S256x768.Idx)

/-- A device's share, as the body loads it. -/
theorem share_apply (d : ℕ) (hi : ∀ a, (![d, 0, 0] : Fin 3 → ℕ) a + S1x256x768.size a ≤ S8x256x768.size a) (r : Fin 256) (l : Fin 768) :
    View.ld x0 (Rect.unit (s := S8x256x768) ![d, 0, 0] S1x256x768.size hi) (ix3 0 r l)
      = at3 (show S8x256x768.Idx → EReal from x0) d r.val l.val :=
  at3_idx (show S8x256x768.Idx → EReal from x0) _ _ _ _ (by show d + 1 * 0 = _; rfl)
    (by show 0 + 1 * r.val = _; rw [one_mul, zero_add]) (by show 0 + 1 * l.val = _; rw [one_mul, zero_add])

/-- The sum of eight shares at an index. -/
theorem sum_apply (v0 v1 v2 v3 v4 v5 v6 v7 : Vec Ideal S1x256x768 .bf16) (r : Fin 256) (l : Fin 768) :
    k0_pay4 v0 v1 v2 v3 v4 v5 v6 v7 (ix2 r l) = v0 (ix3 0 r l) + v1 (ix3 0 r l) + v2 (ix3 0 r l) + v3 (ix3 0 r l)
      + v4 (ix3 0 r l) + v5 (ix3 0 r l) + v6 (ix3 0 r l) + v7 (ix3 0 r l) := by
  pointwise [k0_pay4]

/-- The body's gradient: the sum of the eight shares. -/
theorem grad_eq : k0_pay5 x0 x1 x2 x3 y = total (show S8x256x768.Idx → EReal from x0) (y 0).val (y 1).val := by
  unfold k0_pay5
  refine (congrArg _ (eq_ix2 y)).trans ((sum_apply _ _ _ _ _ _ _ _ (y 0) (y 1)).trans ?_)
  unfold total
  rw [Fin.sum_univ_eight]
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (share_apply x0 0 inb_S8x256x768_S1x256x768_0_0_0 (y 0) (y 1))
    (share_apply x0 1 inb_S8x256x768_S1x256x768_1_0_0 (y 0) (y 1)))
    (share_apply x0 2 inb_S8x256x768_S1x256x768_2_0_0 (y 0) (y 1)))
    (share_apply x0 3 inb_S8x256x768_S1x256x768_3_0_0 (y 0) (y 1)))
    (share_apply x0 4 inb_S8x256x768_S1x256x768_4_0_0 (y 0) (y 1)))
    (share_apply x0 5 inb_S8x256x768_S1x256x768_5_0_0 (y 0) (y 1)))
    (share_apply x0 6 inb_S8x256x768_S1x256x768_6_0_0 (y 0) (y 1)))
    (share_apply x0 7 inb_S8x256x768_S1x256x768_7_0_0 (y 0) (y 1))

theorem out_grad : out0_4 x0 x1 x2 x3 y = total (show S8x256x768.Idx → EReal from x0) (y 0).val (y 1).val := by
  unfold out0_4
  rw [View.canon_unit_zero (S := S256x768) hz, grad_eq]

theorem out_mom : out0_6 x0 x1 x2 x3 y = mom (total (show S8x256x768.Idx → EReal from x0) (y 0).val (y 1).val) (x2 y) := by
  unfold out0_6
  rw [View.canon_unit_zero (S := S256x768) hz, View.ld_unit_zero (S := S256x768) hz]
  rw [← grad_eq x0 x1 x2 x3 y]
  rfl

theorem out_vel : out0_7 x0 x1 x2 x3 y = vel (total (show S8x256x768.Idx → EReal from x0) (y 0).val (y 1).val) (x3 y) := by
  unfold out0_7
  rw [View.canon_unit_zero (S := S256x768) hz, View.ld_unit_zero (S := S256x768) hz]
  rw [← grad_eq x0 x1 x2 x3 y]
  rfl

theorem out_step : out0_5 x0 x1 x2 x3 y
    = step (total (show S8x256x768.Idx → EReal from x0) (y 0).val (y 1).val) (x1 y) (x2 y) (x3 y) := by
  unfold out0_5
  rw [View.canon_unit_zero (S := S256x768) hz]
  simp only [View.ld_unit_zero (S := S256x768) hz]
  rw [← grad_eq x0 x1 x2 x3 y]
  rfl

end Body

/-! ## The blocks the windows stage -/

/-- The windows' block indices at a grid point. -/
theorem idx_facts : ∀ t : Fin cfg0.N, (win0_0.index t 0 = 0 ∧ win0_0.index t 1 = t.val ∧ win0_0.index t 2 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) :=
  (by decide +kernel : ∀ t : Fin grid0.N, _)

/-- The arguments as arrays of extended reals. -/
abbrev X0 (c : Dev nD) : S8x4096x768.Idx → EReal := m ((c : Thread nD τ).loc main_arg0)
abbrev X1 (c : Dev nD) : S4096x768.Idx → EReal := m ((c : Thread nD τ).loc main_arg1)
abbrev X2 (c : Dev nD) : S4096x768.Idx → EReal := m ((c : Thread nD τ).loc main_arg2)
abbrev X3 (c : Dev nD) : S4096x768.Idx → EReal := m ((c : Thread nD τ).loc main_arg3)

/-- The sum of the shares over a block is the sum over the array at the block's rows. -/
theorem total_blk (c : Dev nD) (t : Fin cfg0.N) (r l : ℕ) (hr : r < 256) (hl : l < 768) :
    total (show S8x256x768.Idx → EReal from iblk m c 0 t) r l = total (X0 m c) (t.val * 256 + r) l := by
  unfold total
  refine Finset.sum_congr rfl fun d _ => ?_
  rw [at3_of_lt _ d.val r l d.isLt hr hl]
  show (iblk m c 0 t : Vec Ideal S8x256x768 .bf16) (ix3 ⟨d.val, d.isLt⟩ ⟨r, hr⟩ ⟨l, hl⟩) = _
  unfold iblk
  rw [View.read_apply]
  refine at3_idx (X0 m c) _ _ _ _ ?_ ?_ ?_
  · show win0_0.index t 0 * 8 + 1 * d.val = _; rw [(idx_facts t).1.1, zero_mul, zero_add, one_mul]
  · show win0_0.index t 1 * 256 + 1 * r = _; rw [(idx_facts t).1.2.1, one_mul]
  · show win0_0.index t 2 * 768 + 1 * l = _; rw [(idx_facts t).1.2.2, zero_mul, zero_add, one_mul]

theorem blk1 (c : Dev nD) (t : Fin cfg0.N) (y : S256x768.Idx) :
    (iblk m c 1 t : Vec Ideal S256x768 .f32) y = at2 (X1 m c) (t.val * 256 + (y 0).val) (y 1).val := by
  unfold iblk
  rw [View.read_apply]
  refine at2_idx (X1 m c) _ _ _ ?_ ?_
  · show win0_1.index t 0 * 256 + 1 * (y 0).val = _; rw [(idx_facts t).2.1.1, one_mul]
  · show win0_1.index t 1 * 768 + 1 * (y 1).val = _; rw [(idx_facts t).2.1.2, zero_mul, zero_add, one_mul]

theorem blk2 (c : Dev nD) (t : Fin cfg0.N) (y : S256x768.Idx) :
    (iblk m c 2 t : Vec Ideal S256x768 .f32) y = at2 (X2 m c) (t.val * 256 + (y 0).val) (y 1).val := by
  unfold iblk
  rw [View.read_apply]
  refine at2_idx (X2 m c) _ _ _ ?_ ?_
  · show win0_2.index t 0 * 256 + 1 * (y 0).val = _; rw [(idx_facts t).2.2.1.1, one_mul]
  · show win0_2.index t 1 * 768 + 1 * (y 1).val = _; rw [(idx_facts t).2.2.1.2, zero_mul, zero_add, one_mul]

theorem blk3 (c : Dev nD) (t : Fin cfg0.N) (y : S256x768.Idx) :
    (iblk m c 3 t : Vec Ideal S256x768 .f32) y = at2 (X3 m c) (t.val * 256 + (y 0).val) (y 1).val := by
  unfold iblk
  rw [View.read_apply]
  refine at2_idx (X3 m c) _ _ _ ?_ ?_
  · show win0_3.index t 0 * 256 + 1 * (y 0).val = _; rw [(idx_facts t).2.2.2.1.1, one_mul]
  · show win0_3.index t 1 * 768 + 1 * (y 1).val = _; rw [(idx_facts t).2.2.2.1.2, zero_mul, zero_add, one_mul]

/-! ## The reference -/

/-- The reference's gradient, -/
def gradRef (x0 : Vec Ideal S8x4096x768 .bf16) : FVec Ideal S4096x768 .f32 :=
  Host.reduceAdd (extf .f32 x0 Cert.Reference19Ideal.Gen.bitsLt_bf16_f32) (constant Cert.Reference19Ideal.S_ .f32 0x00000000#32) Cert.Reference19Ideal.Gen.reducesTo_S8x4096x768_S4096x768_d0 Cert.Reference19Ideal.Gen.h_S_

/-- its first moment, -/
def momRef (x0 : Vec Ideal S8x4096x768 .bf16) (x2 : Vec Ideal S4096x768 .f32) : FVec Ideal S4096x768 .f32 :=
  addf (mulf (broadcastInDim S4096x768 ![] Cert.Reference19Ideal.Gen.bcast_S_S4096x768 (constant Cert.Reference19Ideal.S_ .f32 0x3F666666#32)) x2)
    (mulf (broadcastInDim S4096x768 ![] Cert.Reference19Ideal.Gen.bcast_S_S4096x768 (constant Cert.Reference19Ideal.S_ .f32 0x3DCCCCCD#32)) (gradRef x0))

/-- its second moment -/
def velRef (x0 : Vec Ideal S8x4096x768 .bf16) (x3 : Vec Ideal S4096x768 .f32) : FVec Ideal S4096x768 .f32 :=
  addf (mulf (broadcastInDim S4096x768 ![] Cert.Reference19Ideal.Gen.bcast_S_S4096x768 (constant Cert.Reference19Ideal.S_ .f32 0x3F7FBE77#32)) x3)
    (mulf (broadcastInDim S4096x768 ![] Cert.Reference19Ideal.Gen.bcast_S_S4096x768 (constant Cert.Reference19Ideal.S_ .f32 0x3A83126F#32)) (mulf (gradRef x0) (gradRef x0)))

/-- and its step. -/
def stepRef (x0 : Vec Ideal S8x4096x768 .bf16) (x1 x2 x3 : Vec Ideal S4096x768 .f32) : FVec Ideal S4096x768 .f32 :=
  mulf (broadcastInDim S4096x768 ![] Cert.Reference19Ideal.Gen.bcast_S_S4096x768 (constant Cert.Reference19Ideal.S_ .f32 0xBA83126F#32))
    (addf (Host.divf (Host.divf (momRef x0 x2) (broadcastInDim S4096x768 ![] Cert.Reference19Ideal.Gen.bcast_S_S4096x768 (constant Cert.Reference19Ideal.S_ .f32 0x3F26BD02#32)))
        (addf (Host.sqrt (Host.divf (velRef x0 x3) (broadcastInDim S4096x768 ![] Cert.Reference19Ideal.Gen.bcast_S_S4096x768 (constant Cert.Reference19Ideal.S_ .f32 0x3C231ACC#32))))
          (broadcastInDim S4096x768 ![] Cert.Reference19Ideal.Gen.bcast_S_S4096x768 (constant Cert.Reference19Ideal.S_ .f32 0x322BCC77#32))))
      (mulf (broadcastInDim S4096x768 ![] Cert.Reference19Ideal.Gen.bcast_S_S4096x768 (constant Cert.Reference19Ideal.S_ .f32 0x3C23D70A#32)) x1))

theorem gradRef_apply (x0 : Vec Ideal S8x4096x768 .bf16) (i : S4096x768.Idx) :
    gradRef x0 i = total (show S8x4096x768.Idx → EReal from x0) (i 0).val (i 1).val := by
  unfold gradRef
  pointwise
  exact Finset.sum_congr rfl fun d _ => at3_idx (show S8x4096x768.Idx → EReal from x0) _ _ _ _ rfl rfl rfl

theorem momRef_apply (x0 : Vec Ideal S8x4096x768 .bf16) (x2 : Vec Ideal S4096x768 .f32) (i : S4096x768.Idx) :
    momRef x0 x2 i = mom (total (show S8x4096x768.Idx → EReal from x0) (i 0).val (i 1).val) (x2 i) := by
  rw [← gradRef_apply]; rfl

theorem velRef_apply (x0 : Vec Ideal S8x4096x768 .bf16) (x3 : Vec Ideal S4096x768 .f32) (i : S4096x768.Idx) :
    velRef x0 x3 i = vel (total (show S8x4096x768.Idx → EReal from x0) (i 0).val (i 1).val) (x3 i) := by
  rw [← gradRef_apply]; rfl

theorem stepRef_apply (x0 : Vec Ideal S8x4096x768 .bf16) (x1 x2 x3 : Vec Ideal S4096x768 .f32) (i : S4096x768.Idx) :
    stepRef x0 x1 x2 x3 i = step (total (show S8x4096x768.Idx → EReal from x0) (i 0).val (i 1).val) (x1 i) (x2 i) (x3 i) := by
  rw [← gradRef_apply]; rfl

/-! ## The results -/

/-- What a grid point writes back to window 4 is its block of the reference's term. -/
theorem flushed_eq4 (c : Dev nD) (t : Fin cfg0.N) :
    (dats m 0 c).flushed 4 t = ((cfg0.win 4).blk t).view.read (Elt Ideal) (gradRef (X0 m c)) := by
  rw [Value.flushed4]
  funext y
  show out0_4 (iblk m c 0 t) (iblk m c 1 t) (iblk m c 2 t) (iblk m c 3 t) y = gradRef (X0 m c) (((cfg0.win 4).blk t).view.emb y)
  have e0 : (((cfg0.win 4).blk t).view.emb y 0).val = t.val * 256 + (y 0).val := by
    show win0_4.index t 0 * 256 + 1 * (y 0).val = _; rw [(idx_facts t).2.2.2.2.1.1, one_mul]
  have e1 : (((cfg0.win 4).blk t).view.emb y 1).val = (y 1).val := by
    show win0_4.index t 1 * 768 + 1 * (y 1).val = _; rw [(idx_facts t).2.2.2.2.1.2, zero_mul, zero_add, one_mul]
  have eg : total (show S8x256x768.Idx → EReal from iblk m c 0 t) (y 0).val (y 1).val
      = total (X0 m c) (((cfg0.win 4).blk t).view.emb y 0).val (((cfg0.win 4).blk t).view.emb y 1).val := by
    rw [e0, e1]; exact total_blk m c t _ _ (y 0).isLt (y 1).isLt
  rw [gradRef_apply]
  refine (out_grad _ _ _ _ y).trans ?_
  rw [eg]

theorem mem_blk4 (t : Fin cfg0.N) (i : S4096x768.Idx) :
    i ∈ ((cfg0.win 4).blk t).view.set ↔
      ∀ a : Fin 2, win0_4.index t a * S256x768.size a ≤ (i a).val ∧ (i a).val < win0_4.index t a * S256x768.size a + S256x768.size a := by
  show i ∈ ((View.whole main_v0_0).slice (win0_4.rect t)).set ↔ _
  rw [View.set_slice_whole, Rect.mem_set_unit]
  exact Iff.rfl

theorem covered4 (i : S4096x768.Idx) :
    ∃ t : Fin cfg0.N, (cfg0.win 4).flush t = true ∧ i ∈ ((cfg0.win 4).blk t).view.set := by
  have hi0 : (i 0).val < 4096 := (i 0).isLt
  have hi1 : (i 1).val < 768 := (i 1).isLt
  have hN : cfg0.N = 16 := N_0
  refine ⟨⟨(i 0).val / 256, by omega⟩, flush0_4 _, ?_⟩
  rw [mem_blk4]
  intro a
  match a with
  | ⟨0, _⟩ =>
    show win0_4.index _ 0 * 256 ≤ (i 0).val ∧ (i 0).val < win0_4.index _ 0 * 256 + 256
    rw [(idx_facts _).2.2.2.2.1.1]; dsimp only; omega
  | ⟨1, _⟩ =>
    show win0_4.index _ 1 * 768 ≤ (i 1).val ∧ (i 1).val < win0_4.index _ 1 * 768 + 768
    rw [(idx_facts _).2.2.2.2.1.2]; omega

/-- The result of window 4 after the run is the reference's term of the arguments. -/
theorem final4 (c : Dev nD) : (dats m 0 c).arrAt 4 cfg0.N = gradRef (X0 m c) :=
  (dats m 0 c).arrAt_eq_of_cover 4 _ (fun t _ => flushed_eq4 m c t) covered4

/-- What a grid point writes back to window 5 is its block of the reference's term. -/
theorem flushed_eq5 (c : Dev nD) (t : Fin cfg0.N) :
    (dats m 0 c).flushed 5 t = ((cfg0.win 5).blk t).view.read (Elt Ideal) (stepRef (X0 m c) (X1 m c) (X2 m c) (X3 m c)) := by
  rw [Value.flushed5]
  funext y
  show out0_5 (iblk m c 0 t) (iblk m c 1 t) (iblk m c 2 t) (iblk m c 3 t) y = stepRef (X0 m c) (X1 m c) (X2 m c) (X3 m c) (((cfg0.win 5).blk t).view.emb y)
  have e0 : (((cfg0.win 5).blk t).view.emb y 0).val = t.val * 256 + (y 0).val := by
    show win0_5.index t 0 * 256 + 1 * (y 0).val = _; rw [(idx_facts t).2.2.2.2.2.1.1, one_mul]
  have e1 : (((cfg0.win 5).blk t).view.emb y 1).val = (y 1).val := by
    show win0_5.index t 1 * 768 + 1 * (y 1).val = _; rw [(idx_facts t).2.2.2.2.2.1.2, zero_mul, zero_add, one_mul]
  have eg : total (show S8x256x768.Idx → EReal from iblk m c 0 t) (y 0).val (y 1).val
      = total (X0 m c) (((cfg0.win 5).blk t).view.emb y 0).val (((cfg0.win 5).blk t).view.emb y 1).val := by
    rw [e0, e1]; exact total_blk m c t _ _ (y 0).isLt (y 1).isLt
  have h1 : (iblk m c 1 t : Vec Ideal S256x768 .f32) y = X1 m c (((cfg0.win 5).blk t).view.emb y) :=
    (blk1 m c t y).trans (at2_idx (X1 m c) _ _ _ e0 e1).symm
  have h2 : (iblk m c 2 t : Vec Ideal S256x768 .f32) y = X2 m c (((cfg0.win 5).blk t).view.emb y) :=
    (blk2 m c t y).trans (at2_idx (X2 m c) _ _ _ e0 e1).symm
  have h3 : (iblk m c 3 t : Vec Ideal S256x768 .f32) y = X3 m c (((cfg0.win 5).blk t).view.emb y) :=
    (blk3 m c t y).trans (at2_idx (X3 m c) _ _ _ e0 e1).symm
  rw [stepRef_apply]
  refine (out_step _ _ _ _ y).trans ?_
  rw [eg]
  rw [h1, h2, h3]

theorem mem_blk5 (t : Fin cfg0.N) (i : S4096x768.Idx) :
    i ∈ ((cfg0.win 5).blk t).view.set ↔
      ∀ a : Fin 2, win0_5.index t a * S256x768.size a ≤ (i a).val ∧ (i a).val < win0_5.index t a * S256x768.size a + S256x768.size a := by
  show i ∈ ((View.whole main_v0_1).slice (win0_5.rect t)).set ↔ _
  rw [View.set_slice_whole, Rect.mem_set_unit]
  exact Iff.rfl

theorem covered5 (i : S4096x768.Idx) :
    ∃ t : Fin cfg0.N, (cfg0.win 5).flush t = true ∧ i ∈ ((cfg0.win 5).blk t).view.set := by
  have hi0 : (i 0).val < 4096 := (i 0).isLt
  have hi1 : (i 1).val < 768 := (i 1).isLt
  have hN : cfg0.N = 16 := N_0
  refine ⟨⟨(i 0).val / 256, by omega⟩, flush0_5 _, ?_⟩
  rw [mem_blk5]
  intro a
  match a with
  | ⟨0, _⟩ =>
    show win0_5.index _ 0 * 256 ≤ (i 0).val ∧ (i 0).val < win0_5.index _ 0 * 256 + 256
    rw [(idx_facts _).2.2.2.2.2.1.1]; dsimp only; omega
  | ⟨1, _⟩ =>
    show win0_5.index _ 1 * 768 ≤ (i 1).val ∧ (i 1).val < win0_5.index _ 1 * 768 + 768
    rw [(idx_facts _).2.2.2.2.2.1.2]; omega

/-- The result of window 5 after the run is the reference's term of the arguments. -/
theorem final5 (c : Dev nD) : (dats m 0 c).arrAt 5 cfg0.N = stepRef (X0 m c) (X1 m c) (X2 m c) (X3 m c) :=
  (dats m 0 c).arrAt_eq_of_cover 5 _ (fun t _ => flushed_eq5 m c t) covered5

/-- What a grid point writes back to window 6 is its block of the reference's term. -/
theorem flushed_eq6 (c : Dev nD) (t : Fin cfg0.N) :
    (dats m 0 c).flushed 6 t = ((cfg0.win 6).blk t).view.read (Elt Ideal) (momRef (X0 m c) (X2 m c)) := by
  rw [Value.flushed6]
  funext y
  show out0_6 (iblk m c 0 t) (iblk m c 1 t) (iblk m c 2 t) (iblk m c 3 t) y = momRef (X0 m c) (X2 m c) (((cfg0.win 6).blk t).view.emb y)
  have e0 : (((cfg0.win 6).blk t).view.emb y 0).val = t.val * 256 + (y 0).val := by
    show win0_6.index t 0 * 256 + 1 * (y 0).val = _; rw [(idx_facts t).2.2.2.2.2.2.1.1, one_mul]
  have e1 : (((cfg0.win 6).blk t).view.emb y 1).val = (y 1).val := by
    show win0_6.index t 1 * 768 + 1 * (y 1).val = _; rw [(idx_facts t).2.2.2.2.2.2.1.2, zero_mul, zero_add, one_mul]
  have eg : total (show S8x256x768.Idx → EReal from iblk m c 0 t) (y 0).val (y 1).val
      = total (X0 m c) (((cfg0.win 6).blk t).view.emb y 0).val (((cfg0.win 6).blk t).view.emb y 1).val := by
    rw [e0, e1]; exact total_blk m c t _ _ (y 0).isLt (y 1).isLt
  have h2 : (iblk m c 2 t : Vec Ideal S256x768 .f32) y = X2 m c (((cfg0.win 6).blk t).view.emb y) :=
    (blk2 m c t y).trans (at2_idx (X2 m c) _ _ _ e0 e1).symm
  rw [momRef_apply]
  refine (out_mom _ _ _ _ y).trans ?_
  rw [eg]
  exact congrArg (mom _) h2

theorem mem_blk6 (t : Fin cfg0.N) (i : S4096x768.Idx) :
    i ∈ ((cfg0.win 6).blk t).view.set ↔
      ∀ a : Fin 2, win0_6.index t a * S256x768.size a ≤ (i a).val ∧ (i a).val < win0_6.index t a * S256x768.size a + S256x768.size a := by
  show i ∈ ((View.whole main_v0_2).slice (win0_6.rect t)).set ↔ _
  rw [View.set_slice_whole, Rect.mem_set_unit]
  exact Iff.rfl

theorem covered6 (i : S4096x768.Idx) :
    ∃ t : Fin cfg0.N, (cfg0.win 6).flush t = true ∧ i ∈ ((cfg0.win 6).blk t).view.set := by
  have hi0 : (i 0).val < 4096 := (i 0).isLt
  have hi1 : (i 1).val < 768 := (i 1).isLt
  have hN : cfg0.N = 16 := N_0
  refine ⟨⟨(i 0).val / 256, by omega⟩, flush0_6 _, ?_⟩
  rw [mem_blk6]
  intro a
  match a with
  | ⟨0, _⟩ =>
    show win0_6.index _ 0 * 256 ≤ (i 0).val ∧ (i 0).val < win0_6.index _ 0 * 256 + 256
    rw [(idx_facts _).2.2.2.2.2.2.1.1]; dsimp only; omega
  | ⟨1, _⟩ =>
    show win0_6.index _ 1 * 768 ≤ (i 1).val ∧ (i 1).val < win0_6.index _ 1 * 768 + 768
    rw [(idx_facts _).2.2.2.2.2.2.1.2]; omega

/-- The result of window 6 after the run is the reference's term of the arguments. -/
theorem final6 (c : Dev nD) : (dats m 0 c).arrAt 6 cfg0.N = momRef (X0 m c) (X2 m c) :=
  (dats m 0 c).arrAt_eq_of_cover 6 _ (fun t _ => flushed_eq6 m c t) covered6

/-- What a grid point writes back to window 7 is its block of the reference's term. -/
theorem flushed_eq7 (c : Dev nD) (t : Fin cfg0.N) :
    (dats m 0 c).flushed 7 t = ((cfg0.win 7).blk t).view.read (Elt Ideal) (velRef (X0 m c) (X3 m c)) := by
  rw [Value.flushed7]
  funext y
  show out0_7 (iblk m c 0 t) (iblk m c 1 t) (iblk m c 2 t) (iblk m c 3 t) y = velRef (X0 m c) (X3 m c) (((cfg0.win 7).blk t).view.emb y)
  have e0 : (((cfg0.win 7).blk t).view.emb y 0).val = t.val * 256 + (y 0).val := by
    show win0_7.index t 0 * 256 + 1 * (y 0).val = _; rw [(idx_facts t).2.2.2.2.2.2.2.1, one_mul]
  have e1 : (((cfg0.win 7).blk t).view.emb y 1).val = (y 1).val := by
    show win0_7.index t 1 * 768 + 1 * (y 1).val = _; rw [(idx_facts t).2.2.2.2.2.2.2.2, zero_mul, zero_add, one_mul]
  have eg : total (show S8x256x768.Idx → EReal from iblk m c 0 t) (y 0).val (y 1).val
      = total (X0 m c) (((cfg0.win 7).blk t).view.emb y 0).val (((cfg0.win 7).blk t).view.emb y 1).val := by
    rw [e0, e1]; exact total_blk m c t _ _ (y 0).isLt (y 1).isLt
  have h3 : (iblk m c 3 t : Vec Ideal S256x768 .f32) y = X3 m c (((cfg0.win 7).blk t).view.emb y) :=
    (blk3 m c t y).trans (at2_idx (X3 m c) _ _ _ e0 e1).symm
  rw [velRef_apply]
  refine (out_vel _ _ _ _ y).trans ?_
  rw [eg]
  exact congrArg (vel _) h3

theorem mem_blk7 (t : Fin cfg0.N) (i : S4096x768.Idx) :
    i ∈ ((cfg0.win 7).blk t).view.set ↔
      ∀ a : Fin 2, win0_7.index t a * S256x768.size a ≤ (i a).val ∧ (i a).val < win0_7.index t a * S256x768.size a + S256x768.size a := by
  show i ∈ ((View.whole main_v0_3).slice (win0_7.rect t)).set ↔ _
  rw [View.set_slice_whole, Rect.mem_set_unit]
  exact Iff.rfl

theorem covered7 (i : S4096x768.Idx) :
    ∃ t : Fin cfg0.N, (cfg0.win 7).flush t = true ∧ i ∈ ((cfg0.win 7).blk t).view.set := by
  have hi0 : (i 0).val < 4096 := (i 0).isLt
  have hi1 : (i 1).val < 768 := (i 1).isLt
  have hN : cfg0.N = 16 := N_0
  refine ⟨⟨(i 0).val / 256, by omega⟩, flush0_7 _, ?_⟩
  rw [mem_blk7]
  intro a
  match a with
  | ⟨0, _⟩ =>
    show win0_7.index _ 0 * 256 ≤ (i 0).val ∧ (i 0).val < win0_7.index _ 0 * 256 + 256
    rw [(idx_facts _).2.2.2.2.2.2.2.1]; dsimp only; omega
  | ⟨1, _⟩ =>
    show win0_7.index _ 1 * 768 ≤ (i 1).val ∧ (i 1).val < win0_7.index _ 1 * 768 + 768
    rw [(idx_facts _).2.2.2.2.2.2.2.2]; omega

/-- The result of window 7 after the run is the reference's term of the arguments. -/
theorem final7 (c : Dev nD) : (dats m 0 c).arrAt 7 cfg0.N = velRef (X0 m c) (X3 m c) :=
  (dats m 0 c).arrAt_eq_of_cover 7 _ (fun t _ => flushed_eq7 m c t) covered7

end Cert.AdamwGateUp

end
-- ==== Proof.AdamwOut.lean ====
/-
  The optimiser's call for the output projection: each grid point adds eight devices' shares of the gradient for 256 rows and updates the
  two moments and the parameter's step elementwise; the reference does so for all 512 rows at once.
-/
module

public import proofs.«01_k».proof.Proof.Adamw
public import proofs.«01_k».proof.Proof.Gen.Kernel20Ideal.Value
public import proofs.«01_k».proof.Proof.Gen.Reference20Ideal.Run

@[expose] public section

set_option maxRecDepth 16384

noncomputable section

namespace Cert.AdamwOut

open Cert.Kernel20Ideal Cert.Kernel20Ideal.Gen Cert.Blocks Cert.Adamw
open Idealize.ShloMosaic Idealize.ShloMosaic.TcCoe Idealize.SL.Sem

variable (m : (ℓ : Loc nD τ sig) → Buf (Elt Ideal) ℓ)

/-! ## What the body leaves in its four blocks -/

section Body
variable (x0 : Vec Ideal S8x256x1024 .bf16) (x1 x2 x3 : Vec Ideal S256x1024 .f32) (y : S256x1024.Idx)

/-- A device's share, as the body loads it. -/
theorem share_apply (d : ℕ) (hi : ∀ a, (![d, 0, 0] : Fin 3 → ℕ) a + S1x256x1024.size a ≤ S8x256x1024.size a) (r : Fin 256) (l : Fin 1024) :
    View.ld x0 (Rect.unit (s := S8x256x1024) ![d, 0, 0] S1x256x1024.size hi) (ix3 0 r l)
      = at3 (show S8x256x1024.Idx → EReal from x0) d r.val l.val :=
  at3_idx (show S8x256x1024.Idx → EReal from x0) _ _ _ _ (by show d + 1 * 0 = _; rfl)
    (by show 0 + 1 * r.val = _; rw [one_mul, zero_add]) (by show 0 + 1 * l.val = _; rw [one_mul, zero_add])

/-- The sum of eight shares at an index. -/
theorem sum_apply (v0 v1 v2 v3 v4 v5 v6 v7 : Vec Ideal S1x256x1024 .bf16) (r : Fin 256) (l : Fin 1024) :
    k0_pay4 v0 v1 v2 v3 v4 v5 v6 v7 (ix2 r l) = v0 (ix3 0 r l) + v1 (ix3 0 r l) + v2 (ix3 0 r l) + v3 (ix3 0 r l)
      + v4 (ix3 0 r l) + v5 (ix3 0 r l) + v6 (ix3 0 r l) + v7 (ix3 0 r l) := by
  pointwise [k0_pay4]

/-- The body's gradient: the sum of the eight shares. -/
theorem grad_eq : k0_pay5 x0 x1 x2 x3 y = total (show S8x256x1024.Idx → EReal from x0) (y 0).val (y 1).val := by
  unfold k0_pay5
  refine (congrArg _ (eq_ix2 y)).trans ((sum_apply _ _ _ _ _ _ _ _ (y 0) (y 1)).trans ?_)
  unfold total
  rw [Fin.sum_univ_eight]
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (share_apply x0 0 inb_S8x256x1024_S1x256x1024_0_0_0 (y 0) (y 1))
    (share_apply x0 1 inb_S8x256x1024_S1x256x1024_1_0_0 (y 0) (y 1)))
    (share_apply x0 2 inb_S8x256x1024_S1x256x1024_2_0_0 (y 0) (y 1)))
    (share_apply x0 3 inb_S8x256x1024_S1x256x1024_3_0_0 (y 0) (y 1)))
    (share_apply x0 4 inb_S8x256x1024_S1x256x1024_4_0_0 (y 0) (y 1)))
    (share_apply x0 5 inb_S8x256x1024_S1x256x1024_5_0_0 (y 0) (y 1)))
    (share_apply x0 6 inb_S8x256x1024_S1x256x1024_6_0_0 (y 0) (y 1)))
    (share_apply x0 7 inb_S8x256x1024_S1x256x1024_7_0_0 (y 0) (y 1))

theorem out_grad : out0_4 x0 x1 x2 x3 y = total (show S8x256x1024.Idx → EReal from x0) (y 0).val (y 1).val := by
  unfold out0_4
  rw [View.canon_unit_zero (S := S256x1024) hz, grad_eq]

theorem out_mom : out0_6 x0 x1 x2 x3 y = mom (total (show S8x256x1024.Idx → EReal from x0) (y 0).val (y 1).val) (x2 y) := by
  unfold out0_6
  rw [View.canon_unit_zero (S := S256x1024) hz, View.ld_unit_zero (S := S256x1024) hz]
  rw [← grad_eq x0 x1 x2 x3 y]
  rfl

theorem out_vel : out0_7 x0 x1 x2 x3 y = vel (total (show S8x256x1024.Idx → EReal from x0) (y 0).val (y 1).val) (x3 y) := by
  unfold out0_7
  rw [View.canon_unit_zero (S := S256x1024) hz, View.ld_unit_zero (S := S256x1024) hz]
  rw [← grad_eq x0 x1 x2 x3 y]
  rfl

theorem out_step : out0_5 x0 x1 x2 x3 y
    = step (total (show S8x256x1024.Idx → EReal from x0) (y 0).val (y 1).val) (x1 y) (x2 y) (x3 y) := by
  unfold out0_5
  rw [View.canon_unit_zero (S := S256x1024) hz]
  simp only [View.ld_unit_zero (S := S256x1024) hz]
  rw [← grad_eq x0 x1 x2 x3 y]
  rfl

end Body

/-! ## The blocks the windows stage -/

/-- The windows' block indices at a grid point. -/
theorem idx_facts : ∀ t : Fin cfg0.N, (win0_0.index t 0 = 0 ∧ win0_0.index t 1 = t.val ∧ win0_0.index t 2 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) :=
  (by decide +kernel : ∀ t : Fin grid0.N, _)

/-- The arguments as arrays of extended reals. -/
abbrev X0 (c : Dev nD) : S8x512x1024.Idx → EReal := m ((c : Thread nD τ).loc main_arg0)
abbrev X1 (c : Dev nD) : S512x1024.Idx → EReal := m ((c : Thread nD τ).loc main_arg1)
abbrev X2 (c : Dev nD) : S512x1024.Idx → EReal := m ((c : Thread nD τ).loc main_arg2)
abbrev X3 (c : Dev nD) : S512x1024.Idx → EReal := m ((c : Thread nD τ).loc main_arg3)

/-- The sum of the shares over a block is the sum over the array at the block's rows. -/
theorem total_blk (c : Dev nD) (t : Fin cfg0.N) (r l : ℕ) (hr : r < 256) (hl : l < 1024) :
    total (show S8x256x1024.Idx → EReal from iblk m c 0 t) r l = total (X0 m c) (t.val * 256 + r) l := by
  unfold total
  refine Finset.sum_congr rfl fun d _ => ?_
  rw [at3_of_lt _ d.val r l d.isLt hr hl]
  show (iblk m c 0 t : Vec Ideal S8x256x1024 .bf16) (ix3 ⟨d.val, d.isLt⟩ ⟨r, hr⟩ ⟨l, hl⟩) = _
  unfold iblk
  rw [View.read_apply]
  refine at3_idx (X0 m c) _ _ _ _ ?_ ?_ ?_
  · show win0_0.index t 0 * 8 + 1 * d.val = _; rw [(idx_facts t).1.1, zero_mul, zero_add, one_mul]
  · show win0_0.index t 1 * 256 + 1 * r = _; rw [(idx_facts t).1.2.1, one_mul]
  · show win0_0.index t 2 * 1024 + 1 * l = _; rw [(idx_facts t).1.2.2, zero_mul, zero_add, one_mul]

theorem blk1 (c : Dev nD) (t : Fin cfg0.N) (y : S256x1024.Idx) :
    (iblk m c 1 t : Vec Ideal S256x1024 .f32) y = at2 (X1 m c) (t.val * 256 + (y 0).val) (y 1).val := by
  unfold iblk
  rw [View.read_apply]
  refine at2_idx (X1 m c) _ _ _ ?_ ?_
  · show win0_1.index t 0 * 256 + 1 * (y 0).val = _; rw [(idx_facts t).2.1.1, one_mul]
  · show win0_1.index t 1 * 1024 + 1 * (y 1).val = _; rw [(idx_facts t).2.1.2, zero_mul, zero_add, one_mul]

theorem blk2 (c : Dev nD) (t : Fin cfg0.N) (y : S256x1024.Idx) :
    (iblk m c 2 t : Vec Ideal S256x1024 .f32) y = at2 (X2 m c) (t.val * 256 + (y 0).val) (y 1).val := by
  unfold iblk
  rw [View.read_apply]
  refine at2_idx (X2 m c) _ _ _ ?_ ?_
  · show win0_2.index t 0 * 256 + 1 * (y 0).val = _; rw [(idx_facts t).2.2.1.1, one_mul]
  · show win0_2.index t 1 * 1024 + 1 * (y 1).val = _; rw [(idx_facts t).2.2.1.2, zero_mul, zero_add, one_mul]

theorem blk3 (c : Dev nD) (t : Fin cfg0.N) (y : S256x1024.Idx) :
    (iblk m c 3 t : Vec Ideal S256x1024 .f32) y = at2 (X3 m c) (t.val * 256 + (y 0).val) (y 1).val := by
  unfold iblk
  rw [View.read_apply]
  refine at2_idx (X3 m c) _ _ _ ?_ ?_
  · show win0_3.index t 0 * 256 + 1 * (y 0).val = _; rw [(idx_facts t).2.2.2.1.1, one_mul]
  · show win0_3.index t 1 * 1024 + 1 * (y 1).val = _; rw [(idx_facts t).2.2.2.1.2, zero_mul, zero_add, one_mul]

/-! ## The reference -/

/-- The reference's gradient, -/
def gradRef (x0 : Vec Ideal S8x512x1024 .bf16) : FVec Ideal S512x1024 .f32 :=
  Host.reduceAdd (extf .f32 x0 Cert.Reference20Ideal.Gen.bitsLt_bf16_f32) (constant Cert.Reference20Ideal.S_ .f32 0x00000000#32) Cert.Reference20Ideal.Gen.reducesTo_S8x512x1024_S512x1024_d0 Cert.Reference20Ideal.Gen.h_S_

/-- its first moment, -/
def momRef (x0 : Vec Ideal S8x512x1024 .bf16) (x2 : Vec Ideal S512x1024 .f32) : FVec Ideal S512x1024 .f32 :=
  addf (mulf (broadcastInDim S512x1024 ![] Cert.Reference20Ideal.Gen.bcast_S_S512x1024 (constant Cert.Reference20Ideal.S_ .f32 0x3F666666#32)) x2)
    (mulf (broadcastInDim S512x1024 ![] Cert.Reference20Ideal.Gen.bcast_S_S512x1024 (constant Cert.Reference20Ideal.S_ .f32 0x3DCCCCCD#32)) (gradRef x0))

/-- its second moment -/
def velRef (x0 : Vec Ideal S8x512x1024 .bf16) (x3 : Vec Ideal S512x1024 .f32) : FVec Ideal S512x1024 .f32 :=
  addf (mulf (broadcastInDim S512x1024 ![] Cert.Reference20Ideal.Gen.bcast_S_S512x1024 (constant Cert.Reference20Ideal.S_ .f32 0x3F7FBE77#32)) x3)
    (mulf (broadcastInDim S512x1024 ![] Cert.Reference20Ideal.Gen.bcast_S_S512x1024 (constant Cert.Reference20Ideal.S_ .f32 0x3A83126F#32)) (mulf (gradRef x0) (gradRef x0)))

/-- and its step. -/
def stepRef (x0 : Vec Ideal S8x512x1024 .bf16) (x1 x2 x3 : Vec Ideal S512x1024 .f32) : FVec Ideal S512x1024 .f32 :=
  mulf (broadcastInDim S512x1024 ![] Cert.Reference20Ideal.Gen.bcast_S_S512x1024 (constant Cert.Reference20Ideal.S_ .f32 0xBA83126F#32))
    (addf (Host.divf (Host.divf (momRef x0 x2) (broadcastInDim S512x1024 ![] Cert.Reference20Ideal.Gen.bcast_S_S512x1024 (constant Cert.Reference20Ideal.S_ .f32 0x3F26BD02#32)))
        (addf (Host.sqrt (Host.divf (velRef x0 x3) (broadcastInDim S512x1024 ![] Cert.Reference20Ideal.Gen.bcast_S_S512x1024 (constant Cert.Reference20Ideal.S_ .f32 0x3C231ACC#32))))
          (broadcastInDim S512x1024 ![] Cert.Reference20Ideal.Gen.bcast_S_S512x1024 (constant Cert.Reference20Ideal.S_ .f32 0x322BCC77#32))))
      (mulf (broadcastInDim S512x1024 ![] Cert.Reference20Ideal.Gen.bcast_S_S512x1024 (constant Cert.Reference20Ideal.S_ .f32 0x3C23D70A#32)) x1))

theorem gradRef_apply (x0 : Vec Ideal S8x512x1024 .bf16) (i : S512x1024.Idx) :
    gradRef x0 i = total (show S8x512x1024.Idx → EReal from x0) (i 0).val (i 1).val := by
  unfold gradRef
  pointwise
  exact Finset.sum_congr rfl fun d _ => at3_idx (show S8x512x1024.Idx → EReal from x0) _ _ _ _ rfl rfl rfl

theorem momRef_apply (x0 : Vec Ideal S8x512x1024 .bf16) (x2 : Vec Ideal S512x1024 .f32) (i : S512x1024.Idx) :
    momRef x0 x2 i = mom (total (show S8x512x1024.Idx → EReal from x0) (i 0).val (i 1).val) (x2 i) := by
  rw [← gradRef_apply]; rfl

theorem velRef_apply (x0 : Vec Ideal S8x512x1024 .bf16) (x3 : Vec Ideal S512x1024 .f32) (i : S512x1024.Idx) :
    velRef x0 x3 i = vel (total (show S8x512x1024.Idx → EReal from x0) (i 0).val (i 1).val) (x3 i) := by
  rw [← gradRef_apply]; rfl

theorem stepRef_apply (x0 : Vec Ideal S8x512x1024 .bf16) (x1 x2 x3 : Vec Ideal S512x1024 .f32) (i : S512x1024.Idx) :
    stepRef x0 x1 x2 x3 i = step (total (show S8x512x1024.Idx → EReal from x0) (i 0).val (i 1).val) (x1 i) (x2 i) (x3 i) := by
  rw [← gradRef_apply]; rfl

/-! ## The results -/

/-- What a grid point writes back to window 4 is its block of the reference's term. -/
theorem flushed_eq4 (c : Dev nD) (t : Fin cfg0.N) :
    (dats m 0 c).flushed 4 t = ((cfg0.win 4).blk t).view.read (Elt Ideal) (gradRef (X0 m c)) := by
  rw [Value.flushed4]
  funext y
  show out0_4 (iblk m c 0 t) (iblk m c 1 t) (iblk m c 2 t) (iblk m c 3 t) y = gradRef (X0 m c) (((cfg0.win 4).blk t).view.emb y)
  have e0 : (((cfg0.win 4).blk t).view.emb y 0).val = t.val * 256 + (y 0).val := by
    show win0_4.index t 0 * 256 + 1 * (y 0).val = _; rw [(idx_facts t).2.2.2.2.1.1, one_mul]
  have e1 : (((cfg0.win 4).blk t).view.emb y 1).val = (y 1).val := by
    show win0_4.index t 1 * 1024 + 1 * (y 1).val = _; rw [(idx_facts t).2.2.2.2.1.2, zero_mul, zero_add, one_mul]
  have eg : total (show S8x256x1024.Idx → EReal from iblk m c 0 t) (y 0).val (y 1).val
      = total (X0 m c) (((cfg0.win 4).blk t).view.emb y 0).val (((cfg0.win 4).blk t).view.emb y 1).val := by
    rw [e0, e1]; exact total_blk m c t _ _ (y 0).isLt (y 1).isLt
  rw [gradRef_apply]
  refine (out_grad _ _ _ _ y).trans ?_
  rw [eg]

theorem mem_blk4 (t : Fin cfg0.N) (i : S512x1024.Idx) :
    i ∈ ((cfg0.win 4).blk t).view.set ↔
      ∀ a : Fin 2, win0_4.index t a * S256x1024.size a ≤ (i a).val ∧ (i a).val < win0_4.index t a * S256x1024.size a + S256x1024.size a := by
  show i ∈ ((View.whole main_v0_0).slice (win0_4.rect t)).set ↔ _
  rw [View.set_slice_whole, Rect.mem_set_unit]
  exact Iff.rfl

theorem covered4 (i : S512x1024.Idx) :
    ∃ t : Fin cfg0.N, (cfg0.win 4).flush t = true ∧ i ∈ ((cfg0.win 4).blk t).view.set := by
  have hi0 : (i 0).val < 512 := (i 0).isLt
  have hi1 : (i 1).val < 1024 := (i 1).isLt
  have hN : cfg0.N = 2 := N_0
  refine ⟨⟨(i 0).val / 256, by omega⟩, flush0_4 _, ?_⟩
  rw [mem_blk4]
  intro a
  match a with
  | ⟨0, _⟩ =>
    show win0_4.index _ 0 * 256 ≤ (i 0).val ∧ (i 0).val < win0_4.index _ 0 * 256 + 256
    rw [(idx_facts _).2.2.2.2.1.1]; dsimp only; omega
  | ⟨1, _⟩ =>
    show win0_4.index _ 1 * 1024 ≤ (i 1).val ∧ (i 1).val < win0_4.index _ 1 * 1024 + 1024
    rw [(idx_facts _).2.2.2.2.1.2]; omega

/-- The result of window 4 after the run is the reference's term of the arguments. -/
theorem final4 (c : Dev nD) : (dats m 0 c).arrAt 4 cfg0.N = gradRef (X0 m c) :=
  (dats m 0 c).arrAt_eq_of_cover 4 _ (fun t _ => flushed_eq4 m c t) covered4

/-- What a grid point writes back to window 5 is its block of the reference's term. -/
theorem flushed_eq5 (c : Dev nD) (t : Fin cfg0.N) :
    (dats m 0 c).flushed 5 t = ((cfg0.win 5).blk t).view.read (Elt Ideal) (stepRef (X0 m c) (X1 m c) (X2 m c) (X3 m c)) := by
  rw [Value.flushed5]
  funext y
  show out0_5 (iblk m c 0 t) (iblk m c 1 t) (iblk m c 2 t) (iblk m c 3 t) y = stepRef (X0 m c) (X1 m c) (X2 m c) (X3 m c) (((cfg0.win 5).blk t).view.emb y)
  have e0 : (((cfg0.win 5).blk t).view.emb y 0).val = t.val * 256 + (y 0).val := by
    show win0_5.index t 0 * 256 + 1 * (y 0).val = _; rw [(idx_facts t).2.2.2.2.2.1.1, one_mul]
  have e1 : (((cfg0.win 5).blk t).view.emb y 1).val = (y 1).val := by
    show win0_5.index t 1 * 1024 + 1 * (y 1).val = _; rw [(idx_facts t).2.2.2.2.2.1.2, zero_mul, zero_add, one_mul]
  have eg : total (show S8x256x1024.Idx → EReal from iblk m c 0 t) (y 0).val (y 1).val
      = total (X0 m c) (((cfg0.win 5).blk t).view.emb y 0).val (((cfg0.win 5).blk t).view.emb y 1).val := by
    rw [e0, e1]; exact total_blk m c t _ _ (y 0).isLt (y 1).isLt
  have h1 : (iblk m c 1 t : Vec Ideal S256x1024 .f32) y = X1 m c (((cfg0.win 5).blk t).view.emb y) :=
    (blk1 m c t y).trans (at2_idx (X1 m c) _ _ _ e0 e1).symm
  have h2 : (iblk m c 2 t : Vec Ideal S256x1024 .f32) y = X2 m c (((cfg0.win 5).blk t).view.emb y) :=
    (blk2 m c t y).trans (at2_idx (X2 m c) _ _ _ e0 e1).symm
  have h3 : (iblk m c 3 t : Vec Ideal S256x1024 .f32) y = X3 m c (((cfg0.win 5).blk t).view.emb y) :=
    (blk3 m c t y).trans (at2_idx (X3 m c) _ _ _ e0 e1).symm
  rw [stepRef_apply]
  refine (out_step _ _ _ _ y).trans ?_
  rw [eg]
  rw [h1, h2, h3]

theorem mem_blk5 (t : Fin cfg0.N) (i : S512x1024.Idx) :
    i ∈ ((cfg0.win 5).blk t).view.set ↔
      ∀ a : Fin 2, win0_5.index t a * S256x1024.size a ≤ (i a).val ∧ (i a).val < win0_5.index t a * S256x1024.size a + S256x1024.size a := by
  show i ∈ ((View.whole main_v0_1).slice (win0_5.rect t)).set ↔ _
  rw [View.set_slice_whole, Rect.mem_set_unit]
  exact Iff.rfl

theorem covered5 (i : S512x1024.Idx) :
    ∃ t : Fin cfg0.N, (cfg0.win 5).flush t = true ∧ i ∈ ((cfg0.win 5).blk t).view.set := by
  have hi0 : (i 0).val < 512 := (i 0).isLt
  have hi1 : (i 1).val < 1024 := (i 1).isLt
  have hN : cfg0.N = 2 := N_0
  refine ⟨⟨(i 0).val / 256, by omega⟩, flush0_5 _, ?_⟩
  rw [mem_blk5]
  intro a
  match a with
  | ⟨0, _⟩ =>
    show win0_5.index _ 0 * 256 ≤ (i 0).val ∧ (i 0).val < win0_5.index _ 0 * 256 + 256
    rw [(idx_facts _).2.2.2.2.2.1.1]; dsimp only; omega
  | ⟨1, _⟩ =>
    show win0_5.index _ 1 * 1024 ≤ (i 1).val ∧ (i 1).val < win0_5.index _ 1 * 1024 + 1024
    rw [(idx_facts _).2.2.2.2.2.1.2]; omega

/-- The result of window 5 after the run is the reference's term of the arguments. -/
theorem final5 (c : Dev nD) : (dats m 0 c).arrAt 5 cfg0.N = stepRef (X0 m c) (X1 m c) (X2 m c) (X3 m c) :=
  (dats m 0 c).arrAt_eq_of_cover 5 _ (fun t _ => flushed_eq5 m c t) covered5

/-- What a grid point writes back to window 6 is its block of the reference's term. -/
theorem flushed_eq6 (c : Dev nD) (t : Fin cfg0.N) :
    (dats m 0 c).flushed 6 t = ((cfg0.win 6).blk t).view.read (Elt Ideal) (momRef (X0 m c) (X2 m c)) := by
  rw [Value.flushed6]
  funext y
  show out0_6 (iblk m c 0 t) (iblk m c 1 t) (iblk m c 2 t) (iblk m c 3 t) y = momRef (X0 m c) (X2 m c) (((cfg0.win 6).blk t).view.emb y)
  have e0 : (((cfg0.win 6).blk t).view.emb y 0).val = t.val * 256 + (y 0).val := by
    show win0_6.index t 0 * 256 + 1 * (y 0).val = _; rw [(idx_facts t).2.2.2.2.2.2.1.1, one_mul]
  have e1 : (((cfg0.win 6).blk t).view.emb y 1).val = (y 1).val := by
    show win0_6.index t 1 * 1024 + 1 * (y 1).val = _; rw [(idx_facts t).2.2.2.2.2.2.1.2, zero_mul, zero_add, one_mul]
  have eg : total (show S8x256x1024.Idx → EReal from iblk m c 0 t) (y 0).val (y 1).val
      = total (X0 m c) (((cfg0.win 6).blk t).view.emb y 0).val (((cfg0.win 6).blk t).view.emb y 1).val := by
    rw [e0, e1]; exact total_blk m c t _ _ (y 0).isLt (y 1).isLt
  have h2 : (iblk m c 2 t : Vec Ideal S256x1024 .f32) y = X2 m c (((cfg0.win 6).blk t).view.emb y) :=
    (blk2 m c t y).trans (at2_idx (X2 m c) _ _ _ e0 e1).symm
  rw [momRef_apply]
  refine (out_mom _ _ _ _ y).trans ?_
  rw [eg]
  exact congrArg (mom _) h2

theorem mem_blk6 (t : Fin cfg0.N) (i : S512x1024.Idx) :
    i ∈ ((cfg0.win 6).blk t).view.set ↔
      ∀ a : Fin 2, win0_6.index t a * S256x1024.size a ≤ (i a).val ∧ (i a).val < win0_6.index t a * S256x1024.size a + S256x1024.size a := by
  show i ∈ ((View.whole main_v0_2).slice (win0_6.rect t)).set ↔ _
  rw [View.set_slice_whole, Rect.mem_set_unit]
  exact Iff.rfl

theorem covered6 (i : S512x1024.Idx) :
    ∃ t : Fin cfg0.N, (cfg0.win 6).flush t = true ∧ i ∈ ((cfg0.win 6).blk t).view.set := by
  have hi0 : (i 0).val < 512 := (i 0).isLt
  have hi1 : (i 1).val < 1024 := (i 1).isLt
  have hN : cfg0.N = 2 := N_0
  refine ⟨⟨(i 0).val / 256, by omega⟩, flush0_6 _, ?_⟩
  rw [mem_blk6]
  intro a
  match a with
  | ⟨0, _⟩ =>
    show win0_6.index _ 0 * 256 ≤ (i 0).val ∧ (i 0).val < win0_6.index _ 0 * 256 + 256
    rw [(idx_facts _).2.2.2.2.2.2.1.1]; dsimp only; omega
  | ⟨1, _⟩ =>
    show win0_6.index _ 1 * 1024 ≤ (i 1).val ∧ (i 1).val < win0_6.index _ 1 * 1024 + 1024
    rw [(idx_facts _).2.2.2.2.2.2.1.2]; omega

/-- The result of window 6 after the run is the reference's term of the arguments. -/
theorem final6 (c : Dev nD) : (dats m 0 c).arrAt 6 cfg0.N = momRef (X0 m c) (X2 m c) :=
  (dats m 0 c).arrAt_eq_of_cover 6 _ (fun t _ => flushed_eq6 m c t) covered6

/-- What a grid point writes back to window 7 is its block of the reference's term. -/
theorem flushed_eq7 (c : Dev nD) (t : Fin cfg0.N) :
    (dats m 0 c).flushed 7 t = ((cfg0.win 7).blk t).view.read (Elt Ideal) (velRef (X0 m c) (X3 m c)) := by
  rw [Value.flushed7]
  funext y
  show out0_7 (iblk m c 0 t) (iblk m c 1 t) (iblk m c 2 t) (iblk m c 3 t) y = velRef (X0 m c) (X3 m c) (((cfg0.win 7).blk t).view.emb y)
  have e0 : (((cfg0.win 7).blk t).view.emb y 0).val = t.val * 256 + (y 0).val := by
    show win0_7.index t 0 * 256 + 1 * (y 0).val = _; rw [(idx_facts t).2.2.2.2.2.2.2.1, one_mul]
  have e1 : (((cfg0.win 7).blk t).view.emb y 1).val = (y 1).val := by
    show win0_7.index t 1 * 1024 + 1 * (y 1).val = _; rw [(idx_facts t).2.2.2.2.2.2.2.2, zero_mul, zero_add, one_mul]
  have eg : total (show S8x256x1024.Idx → EReal from iblk m c 0 t) (y 0).val (y 1).val
      = total (X0 m c) (((cfg0.win 7).blk t).view.emb y 0).val (((cfg0.win 7).blk t).view.emb y 1).val := by
    rw [e0, e1]; exact total_blk m c t _ _ (y 0).isLt (y 1).isLt
  have h3 : (iblk m c 3 t : Vec Ideal S256x1024 .f32) y = X3 m c (((cfg0.win 7).blk t).view.emb y) :=
    (blk3 m c t y).trans (at2_idx (X3 m c) _ _ _ e0 e1).symm
  rw [velRef_apply]
  refine (out_vel _ _ _ _ y).trans ?_
  rw [eg]
  exact congrArg (vel _) h3

theorem mem_blk7 (t : Fin cfg0.N) (i : S512x1024.Idx) :
    i ∈ ((cfg0.win 7).blk t).view.set ↔
      ∀ a : Fin 2, win0_7.index t a * S256x1024.size a ≤ (i a).val ∧ (i a).val < win0_7.index t a * S256x1024.size a + S256x1024.size a := by
  show i ∈ ((View.whole main_v0_3).slice (win0_7.rect t)).set ↔ _
  rw [View.set_slice_whole, Rect.mem_set_unit]
  exact Iff.rfl

theorem covered7 (i : S512x1024.Idx) :
    ∃ t : Fin cfg0.N, (cfg0.win 7).flush t = true ∧ i ∈ ((cfg0.win 7).blk t).view.set := by
  have hi0 : (i 0).val < 512 := (i 0).isLt
  have hi1 : (i 1).val < 1024 := (i 1).isLt
  have hN : cfg0.N = 2 := N_0
  refine ⟨⟨(i 0).val / 256, by omega⟩, flush0_7 _, ?_⟩
  rw [mem_blk7]
  intro a
  match a with
  | ⟨0, _⟩ =>
    show win0_7.index _ 0 * 256 ≤ (i 0).val ∧ (i 0).val < win0_7.index _ 0 * 256 + 256
    rw [(idx_facts _).2.2.2.2.2.2.2.1]; dsimp only; omega
  | ⟨1, _⟩ =>
    show win0_7.index _ 1 * 1024 ≤ (i 1).val ∧ (i 1).val < win0_7.index _ 1 * 1024 + 1024
    rw [(idx_facts _).2.2.2.2.2.2.2.2]; omega

/-- The result of window 7 after the run is the reference's term of the arguments. -/
theorem final7 (c : Dev nD) : (dats m 0 c).arrAt 7 cfg0.N = velRef (X0 m c) (X3 m c) :=
  (dats m 0 c).arrAt_eq_of_cover 7 _ (fun t _ => flushed_eq7 m c t) covered7

end Cert.AdamwOut

end
-- ==== Proof.AdamwDown.lean ====
/-
  The optimiser's call for the down weight: each grid point adds eight devices' shares of the gradient for 128 rows and updates the
  two moments and the parameter's step elementwise; the reference does so for all 1408 rows at once.
-/
module

public import proofs.«01_k».proof.Proof.Adamw
public import proofs.«01_k».proof.Proof.Gen.Kernel21Ideal.Value
public import proofs.«01_k».proof.Proof.Gen.Reference21Ideal.Run

@[expose] public section

set_option maxRecDepth 16384

noncomputable section

namespace Cert.AdamwDown

open Cert.Kernel21Ideal Cert.Kernel21Ideal.Gen Cert.Blocks Cert.Adamw
open Idealize.ShloMosaic Idealize.ShloMosaic.TcCoe Idealize.SL.Sem

variable (m : (ℓ : Loc nD τ sig) → Buf (Elt Ideal) ℓ)

/-! ## What the body leaves in its four blocks -/

section Body
variable (x0 : Vec Ideal S8x128x1024 .bf16) (x1 x2 x3 : Vec Ideal S128x1024 .f32) (y : S128x1024.Idx)

/-- A device's share, as the body loads it. -/
theorem share_apply (d : ℕ) (hi : ∀ a, (![d, 0, 0] : Fin 3 → ℕ) a + S1x128x1024.size a ≤ S8x128x1024.size a) (r : Fin 128) (l : Fin 1024) :
    View.ld x0 (Rect.unit (s := S8x128x1024) ![d, 0, 0] S1x128x1024.size hi) (ix3 0 r l)
      = at3 (show S8x128x1024.Idx → EReal from x0) d r.val l.val :=
  at3_idx (show S8x128x1024.Idx → EReal from x0) _ _ _ _ (by show d + 1 * 0 = _; rfl)
    (by show 0 + 1 * r.val = _; rw [one_mul, zero_add]) (by show 0 + 1 * l.val = _; rw [one_mul, zero_add])

/-- The sum of eight shares at an index. -/
theorem sum_apply (v0 v1 v2 v3 v4 v5 v6 v7 : Vec Ideal S1x128x1024 .bf16) (r : Fin 128) (l : Fin 1024) :
    k0_pay4 v0 v1 v2 v3 v4 v5 v6 v7 (ix2 r l) = v0 (ix3 0 r l) + v1 (ix3 0 r l) + v2 (ix3 0 r l) + v3 (ix3 0 r l)
      + v4 (ix3 0 r l) + v5 (ix3 0 r l) + v6 (ix3 0 r l) + v7 (ix3 0 r l) := by
  pointwise [k0_pay4]

/-- The body's gradient: the sum of the eight shares. -/
theorem grad_eq : k0_pay5 x0 x1 x2 x3 y = total (show S8x128x1024.Idx → EReal from x0) (y 0).val (y 1).val := by
  unfold k0_pay5
  refine (congrArg _ (eq_ix2 y)).trans ((sum_apply _ _ _ _ _ _ _ _ (y 0) (y 1)).trans ?_)
  unfold total
  rw [Fin.sum_univ_eight]
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (share_apply x0 0 inb_S8x128x1024_S1x128x1024_0_0_0 (y 0) (y 1))
    (share_apply x0 1 inb_S8x128x1024_S1x128x1024_1_0_0 (y 0) (y 1)))
    (share_apply x0 2 inb_S8x128x1024_S1x128x1024_2_0_0 (y 0) (y 1)))
    (share_apply x0 3 inb_S8x128x1024_S1x128x1024_3_0_0 (y 0) (y 1)))
    (share_apply x0 4 inb_S8x128x1024_S1x128x1024_4_0_0 (y 0) (y 1)))
    (share_apply x0 5 inb_S8x128x1024_S1x128x1024_5_0_0 (y 0) (y 1)))
    (share_apply x0 6 inb_S8x128x1024_S1x128x1024_6_0_0 (y 0) (y 1)))
    (share_apply x0 7 inb_S8x128x1024_S1x128x1024_7_0_0 (y 0) (y 1))

theorem out_grad : out0_4 x0 x1 x2 x3 y = total (show S8x128x1024.Idx → EReal from x0) (y 0).val (y 1).val := by
  unfold out0_4
  rw [View.canon_unit_zero (S := S128x1024) hz, grad_eq]

theorem out_mom : out0_6 x0 x1 x2 x3 y = mom (total (show S8x128x1024.Idx → EReal from x0) (y 0).val (y 1).val) (x2 y) := by
  unfold out0_6
  rw [View.canon_unit_zero (S := S128x1024) hz, View.ld_unit_zero (S := S128x1024) hz]
  rw [← grad_eq x0 x1 x2 x3 y]
  rfl

theorem out_vel : out0_7 x0 x1 x2 x3 y = vel (total (show S8x128x1024.Idx → EReal from x0) (y 0).val (y 1).val) (x3 y) := by
  unfold out0_7
  rw [View.canon_unit_zero (S := S128x1024) hz, View.ld_unit_zero (S := S128x1024) hz]
  rw [← grad_eq x0 x1 x2 x3 y]
  rfl

theorem out_step : out0_5 x0 x1 x2 x3 y
    = step (total (show S8x128x1024.Idx → EReal from x0) (y 0).val (y 1).val) (x1 y) (x2 y) (x3 y) := by
  unfold out0_5
  rw [View.canon_unit_zero (S := S128x1024) hz]
  simp only [View.ld_unit_zero (S := S128x1024) hz]
  rw [← grad_eq x0 x1 x2 x3 y]
  rfl

end Body

/-! ## The blocks the windows stage -/

/-- The windows' block indices at a grid point. -/
theorem idx_facts : ∀ t : Fin cfg0.N, (win0_0.index t 0 = 0 ∧ win0_0.index t 1 = t.val ∧ win0_0.index t 2 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) :=
  (by decide +kernel : ∀ t : Fin grid0.N, _)

/-- The arguments as arrays of extended reals. -/
abbrev X0 (c : Dev nD) : S8x1408x1024.Idx → EReal := m ((c : Thread nD τ).loc main_arg0)
abbrev X1 (c : Dev nD) : S1408x1024.Idx → EReal := m ((c : Thread nD τ).loc main_arg1)
abbrev X2 (c : Dev nD) : S1408x1024.Idx → EReal := m ((c : Thread nD τ).loc main_arg2)
abbrev X3 (c : Dev nD) : S1408x1024.Idx → EReal := m ((c : Thread nD τ).loc main_arg3)

/-- The sum of the shares over a block is the sum over the array at the block's rows. -/
theorem total_blk (c : Dev nD) (t : Fin cfg0.N) (r l : ℕ) (hr : r < 128) (hl : l < 1024) :
    total (show S8x128x1024.Idx → EReal from iblk m c 0 t) r l = total (X0 m c) (t.val * 128 + r) l := by
  unfold total
  refine Finset.sum_congr rfl fun d _ => ?_
  rw [at3_of_lt _ d.val r l d.isLt hr hl]
  show (iblk m c 0 t : Vec Ideal S8x128x1024 .bf16) (ix3 ⟨d.val, d.isLt⟩ ⟨r, hr⟩ ⟨l, hl⟩) = _
  unfold iblk
  rw [View.read_apply]
  refine at3_idx (X0 m c) _ _ _ _ ?_ ?_ ?_
  · show win0_0.index t 0 * 8 + 1 * d.val = _; rw [(idx_facts t).1.1, zero_mul, zero_add, one_mul]
  · show win0_0.index t 1 * 128 + 1 * r = _; rw [(idx_facts t).1.2.1, one_mul]
  · show win0_0.index t 2 * 1024 + 1 * l = _; rw [(idx_facts t).1.2.2, zero_mul, zero_add, one_mul]

theorem blk1 (c : Dev nD) (t : Fin cfg0.N) (y : S128x1024.Idx) :
    (iblk m c 1 t : Vec Ideal S128x1024 .f32) y = at2 (X1 m c) (t.val * 128 + (y 0).val) (y 1).val := by
  unfold iblk
  rw [View.read_apply]
  refine at2_idx (X1 m c) _ _ _ ?_ ?_
  · show win0_1.index t 0 * 128 + 1 * (y 0).val = _; rw [(idx_facts t).2.1.1, one_mul]
  · show win0_1.index t 1 * 1024 + 1 * (y 1).val = _; rw [(idx_facts t).2.1.2, zero_mul, zero_add, one_mul]

theorem blk2 (c : Dev nD) (t : Fin cfg0.N) (y : S128x1024.Idx) :
    (iblk m c 2 t : Vec Ideal S128x1024 .f32) y = at2 (X2 m c) (t.val * 128 + (y 0).val) (y 1).val := by
  unfold iblk
  rw [View.read_apply]
  refine at2_idx (X2 m c) _ _ _ ?_ ?_
  · show win0_2.index t 0 * 128 + 1 * (y 0).val = _; rw [(idx_facts t).2.2.1.1, one_mul]
  · show win0_2.index t 1 * 1024 + 1 * (y 1).val = _; rw [(idx_facts t).2.2.1.2, zero_mul, zero_add, one_mul]

theorem blk3 (c : Dev nD) (t : Fin cfg0.N) (y : S128x1024.Idx) :
    (iblk m c 3 t : Vec Ideal S128x1024 .f32) y = at2 (X3 m c) (t.val * 128 + (y 0).val) (y 1).val := by
  unfold iblk
  rw [View.read_apply]
  refine at2_idx (X3 m c) _ _ _ ?_ ?_
  · show win0_3.index t 0 * 128 + 1 * (y 0).val = _; rw [(idx_facts t).2.2.2.1.1, one_mul]
  · show win0_3.index t 1 * 1024 + 1 * (y 1).val = _; rw [(idx_facts t).2.2.2.1.2, zero_mul, zero_add, one_mul]

/-! ## The reference -/

/-- The reference's gradient, -/
def gradRef (x0 : Vec Ideal S8x1408x1024 .bf16) : FVec Ideal S1408x1024 .f32 :=
  Host.reduceAdd (extf .f32 x0 Cert.Reference21Ideal.Gen.bitsLt_bf16_f32) (constant Cert.Reference21Ideal.S_ .f32 0x00000000#32) Cert.Reference21Ideal.Gen.reducesTo_S8x1408x1024_S1408x1024_d0 Cert.Reference21Ideal.Gen.h_S_

/-- its first moment, -/
def momRef (x0 : Vec Ideal S8x1408x1024 .bf16) (x2 : Vec Ideal S1408x1024 .f32) : FVec Ideal S1408x1024 .f32 :=
  addf (mulf (broadcastInDim S1408x1024 ![] Cert.Reference21Ideal.Gen.bcast_S_S1408x1024 (constant Cert.Reference21Ideal.S_ .f32 0x3F666666#32)) x2)
    (mulf (broadcastInDim S1408x1024 ![] Cert.Reference21Ideal.Gen.bcast_S_S1408x1024 (constant Cert.Reference21Ideal.S_ .f32 0x3DCCCCCD#32)) (gradRef x0))

/-- its second moment -/
def velRef (x0 : Vec Ideal S8x1408x1024 .bf16) (x3 : Vec Ideal S1408x1024 .f32) : FVec Ideal S1408x1024 .f32 :=
  addf (mulf (broadcastInDim S1408x1024 ![] Cert.Reference21Ideal.Gen.bcast_S_S1408x1024 (constant Cert.Reference21Ideal.S_ .f32 0x3F7FBE77#32)) x3)
    (mulf (broadcastInDim S1408x1024 ![] Cert.Reference21Ideal.Gen.bcast_S_S1408x1024 (constant Cert.Reference21Ideal.S_ .f32 0x3A83126F#32)) (mulf (gradRef x0) (gradRef x0)))

/-- and its step. -/
def stepRef (x0 : Vec Ideal S8x1408x1024 .bf16) (x1 x2 x3 : Vec Ideal S1408x1024 .f32) : FVec Ideal S1408x1024 .f32 :=
  mulf (broadcastInDim S1408x1024 ![] Cert.Reference21Ideal.Gen.bcast_S_S1408x1024 (constant Cert.Reference21Ideal.S_ .f32 0xBA83126F#32))
    (addf (Host.divf (Host.divf (momRef x0 x2) (broadcastInDim S1408x1024 ![] Cert.Reference21Ideal.Gen.bcast_S_S1408x1024 (constant Cert.Reference21Ideal.S_ .f32 0x3F26BD02#32)))
        (addf (Host.sqrt (Host.divf (velRef x0 x3) (broadcastInDim S1408x1024 ![] Cert.Reference21Ideal.Gen.bcast_S_S1408x1024 (constant Cert.Reference21Ideal.S_ .f32 0x3C231ACC#32))))
          (broadcastInDim S1408x1024 ![] Cert.Reference21Ideal.Gen.bcast_S_S1408x1024 (constant Cert.Reference21Ideal.S_ .f32 0x322BCC77#32))))
      (mulf (broadcastInDim S1408x1024 ![] Cert.Reference21Ideal.Gen.bcast_S_S1408x1024 (constant Cert.Reference21Ideal.S_ .f32 0x3C23D70A#32)) x1))

theorem gradRef_apply (x0 : Vec Ideal S8x1408x1024 .bf16) (i : S1408x1024.Idx) :
    gradRef x0 i = total (show S8x1408x1024.Idx → EReal from x0) (i 0).val (i 1).val := by
  unfold gradRef
  pointwise
  exact Finset.sum_congr rfl fun d _ => at3_idx (show S8x1408x1024.Idx → EReal from x0) _ _ _ _ rfl rfl rfl

theorem momRef_apply (x0 : Vec Ideal S8x1408x1024 .bf16) (x2 : Vec Ideal S1408x1024 .f32) (i : S1408x1024.Idx) :
    momRef x0 x2 i = mom (total (show S8x1408x1024.Idx → EReal from x0) (i 0).val (i 1).val) (x2 i) := by
  rw [← gradRef_apply]; rfl

theorem velRef_apply (x0 : Vec Ideal S8x1408x1024 .bf16) (x3 : Vec Ideal S1408x1024 .f32) (i : S1408x1024.Idx) :
    velRef x0 x3 i = vel (total (show S8x1408x1024.Idx → EReal from x0) (i 0).val (i 1).val) (x3 i) := by
  rw [← gradRef_apply]; rfl

theorem stepRef_apply (x0 : Vec Ideal S8x1408x1024 .bf16) (x1 x2 x3 : Vec Ideal S1408x1024 .f32) (i : S1408x1024.Idx) :
    stepRef x0 x1 x2 x3 i = step (total (show S8x1408x1024.Idx → EReal from x0) (i 0).val (i 1).val) (x1 i) (x2 i) (x3 i) := by
  rw [← gradRef_apply]; rfl

/-! ## The results -/

/-- What a grid point writes back to window 4 is its block of the reference's term. -/
theorem flushed_eq4 (c : Dev nD) (t : Fin cfg0.N) :
    (dats m 0 c).flushed 4 t = ((cfg0.win 4).blk t).view.read (Elt Ideal) (gradRef (X0 m c)) := by
  rw [Value.flushed4]
  funext y
  show out0_4 (iblk m c 0 t) (iblk m c 1 t) (iblk m c 2 t) (iblk m c 3 t) y = gradRef (X0 m c) (((cfg0.win 4).blk t).view.emb y)
  have e0 : (((cfg0.win 4).blk t).view.emb y 0).val = t.val * 128 + (y 0).val := by
    show win0_4.index t 0 * 128 + 1 * (y 0).val = _; rw [(idx_facts t).2.2.2.2.1.1, one_mul]
  have e1 : (((cfg0.win 4).blk t).view.emb y 1).val = (y 1).val := by
    show win0_4.index t 1 * 1024 + 1 * (y 1).val = _; rw [(idx_facts t).2.2.2.2.1.2, zero_mul, zero_add, one_mul]
  have eg : total (show S8x128x1024.Idx → EReal from iblk m c 0 t) (y 0).val (y 1).val
      = total (X0 m c) (((cfg0.win 4).blk t).view.emb y 0).val (((cfg0.win 4).blk t).view.emb y 1).val := by
    rw [e0, e1]; exact total_blk m c t _ _ (y 0).isLt (y 1).isLt
  rw [gradRef_apply]
  refine (out_grad _ _ _ _ y).trans ?_
  rw [eg]

theorem mem_blk4 (t : Fin cfg0.N) (i : S1408x1024.Idx) :
    i ∈ ((cfg0.win 4).blk t).view.set ↔
      ∀ a : Fin 2, win0_4.index t a * S128x1024.size a ≤ (i a).val ∧ (i a).val < win0_4.index t a * S128x1024.size a + S128x1024.size a := by
  show i ∈ ((View.whole main_v0_0).slice (win0_4.rect t)).set ↔ _
  rw [View.set_slice_whole, Rect.mem_set_unit]
  exact Iff.rfl

theorem covered4 (i : S1408x1024.Idx) :
    ∃ t : Fin cfg0.N, (cfg0.win 4).flush t = true ∧ i ∈ ((cfg0.win 4).blk t).view.set := by
  have hi0 : (i 0).val < 1408 := (i 0).isLt
  have hi1 : (i 1).val < 1024 := (i 1).isLt
  have hN : cfg0.N = 11 := N_0
  refine ⟨⟨(i 0).val / 128, by omega⟩, flush0_4 _, ?_⟩
  rw [mem_blk4]
  intro a
  match a with
  | ⟨0, _⟩ =>
    show win0_4.index _ 0 * 128 ≤ (i 0).val ∧ (i 0).val < win0_4.index _ 0 * 128 + 128
    rw [(idx_facts _).2.2.2.2.1.1]; dsimp only; omega
  | ⟨1, _⟩ =>
    show win0_4.index _ 1 * 1024 ≤ (i 1).val ∧ (i 1).val < win0_4.index _ 1 * 1024 + 1024
    rw [(idx_facts _).2.2.2.2.1.2]; omega

/-- The result of window 4 after the run is the reference's term of the arguments. -/
theorem final4 (c : Dev nD) : (dats m 0 c).arrAt 4 cfg0.N = gradRef (X0 m c) :=
  (dats m 0 c).arrAt_eq_of_cover 4 _ (fun t _ => flushed_eq4 m c t) covered4

/-- What a grid point writes back to window 5 is its block of the reference's term. -/
theorem flushed_eq5 (c : Dev nD) (t : Fin cfg0.N) :
    (dats m 0 c).flushed 5 t = ((cfg0.win 5).blk t).view.read (Elt Ideal) (stepRef (X0 m c) (X1 m c) (X2 m c) (X3 m c)) := by
  rw [Value.flushed5]
  funext y
  show out0_5 (iblk m c 0 t) (iblk m c 1 t) (iblk m c 2 t) (iblk m c 3 t) y = stepRef (X0 m c) (X1 m c) (X2 m c) (X3 m c) (((cfg0.win 5).blk t).view.emb y)
  have e0 : (((cfg0.win 5).blk t).view.emb y 0).val = t.val * 128 + (y 0).val := by
    show win0_5.index t 0 * 128 + 1 * (y 0).val = _; rw [(idx_facts t).2.2.2.2.2.1.1, one_mul]
  have e1 : (((cfg0.win 5).blk t).view.emb y 1).val = (y 1).val := by
    show win0_5.index t 1 * 1024 + 1 * (y 1).val = _; rw [(idx_facts t).2.2.2.2.2.1.2, zero_mul, zero_add, one_mul]
  have eg : total (show S8x128x1024.Idx → EReal from iblk m c 0 t) (y 0).val (y 1).val
      = total (X0 m c) (((cfg0.win 5).blk t).view.emb y 0).val (((cfg0.win 5).blk t).view.emb y 1).val := by
    rw [e0, e1]; exact total_blk m c t _ _ (y 0).isLt (y 1).isLt
  have h1 : (iblk m c 1 t : Vec Ideal S128x1024 .f32) y = X1 m c (((cfg0.win 5).blk t).view.emb y) :=
    (blk1 m c t y).trans (at2_idx (X1 m c) _ _ _ e0 e1).symm
  have h2 : (iblk m c 2 t : Vec Ideal S128x1024 .f32) y = X2 m c (((cfg0.win 5).blk t).view.emb y) :=
    (blk2 m c t y).trans (at2_idx (X2 m c) _ _ _ e0 e1).symm
  have h3 : (iblk m c 3 t : Vec Ideal S128x1024 .f32) y = X3 m c (((cfg0.win 5).blk t).view.emb y) :=
    (blk3 m c t y).trans (at2_idx (X3 m c) _ _ _ e0 e1).symm
  rw [stepRef_apply]
  refine (out_step _ _ _ _ y).trans ?_
  rw [eg]
  rw [h1, h2, h3]

theorem mem_blk5 (t : Fin cfg0.N) (i : S1408x1024.Idx) :
    i ∈ ((cfg0.win 5).blk t).view.set ↔
      ∀ a : Fin 2, win0_5.index t a * S128x1024.size a ≤ (i a).val ∧ (i a).val < win0_5.index t a * S128x1024.size a + S128x1024.size a := by
  show i ∈ ((View.whole main_v0_1).slice (win0_5.rect t)).set ↔ _
  rw [View.set_slice_whole, Rect.mem_set_unit]
  exact Iff.rfl

theorem covered5 (i : S1408x1024.Idx) :
    ∃ t : Fin cfg0.N, (cfg0.win 5).flush t = true ∧ i ∈ ((cfg0.win 5).blk t).view.set := by
  have hi0 : (i 0).val < 1408 := (i 0).isLt
  have hi1 : (i 1).val < 1024 := (i 1).isLt
  have hN : cfg0.N = 11 := N_0
  refine ⟨⟨(i 0).val / 128, by omega⟩, flush0_5 _, ?_⟩
  rw [mem_blk5]
  intro a
  match a with
  | ⟨0, _⟩ =>
    show win0_5.index _ 0 * 128 ≤ (i 0).val ∧ (i 0).val < win0_5.index _ 0 * 128 + 128
    rw [(idx_facts _).2.2.2.2.2.1.1]; dsimp only; omega
  | ⟨1, _⟩ =>
    show win0_5.index _ 1 * 1024 ≤ (i 1).val ∧ (i 1).val < win0_5.index _ 1 * 1024 + 1024
    rw [(idx_facts _).2.2.2.2.2.1.2]; omega

/-- The result of window 5 after the run is the reference's term of the arguments. -/
theorem final5 (c : Dev nD) : (dats m 0 c).arrAt 5 cfg0.N = stepRef (X0 m c) (X1 m c) (X2 m c) (X3 m c) :=
  (dats m 0 c).arrAt_eq_of_cover 5 _ (fun t _ => flushed_eq5 m c t) covered5

/-- What a grid point writes back to window 6 is its block of the reference's term. -/
theorem flushed_eq6 (c : Dev nD) (t : Fin cfg0.N) :
    (dats m 0 c).flushed 6 t = ((cfg0.win 6).blk t).view.read (Elt Ideal) (momRef (X0 m c) (X2 m c)) := by
  rw [Value.flushed6]
  funext y
  show out0_6 (iblk m c 0 t) (iblk m c 1 t) (iblk m c 2 t) (iblk m c 3 t) y = momRef (X0 m c) (X2 m c) (((cfg0.win 6).blk t).view.emb y)
  have e0 : (((cfg0.win 6).blk t).view.emb y 0).val = t.val * 128 + (y 0).val := by
    show win0_6.index t 0 * 128 + 1 * (y 0).val = _; rw [(idx_facts t).2.2.2.2.2.2.1.1, one_mul]
  have e1 : (((cfg0.win 6).blk t).view.emb y 1).val = (y 1).val := by
    show win0_6.index t 1 * 1024 + 1 * (y 1).val = _; rw [(idx_facts t).2.2.2.2.2.2.1.2, zero_mul, zero_add, one_mul]
  have eg : total (show S8x128x1024.Idx → EReal from iblk m c 0 t) (y 0).val (y 1).val
      = total (X0 m c) (((cfg0.win 6).blk t).view.emb y 0).val (((cfg0.win 6).blk t).view.emb y 1).val := by
    rw [e0, e1]; exact total_blk m c t _ _ (y 0).isLt (y 1).isLt
  have h2 : (iblk m c 2 t : Vec Ideal S128x1024 .f32) y = X2 m c (((cfg0.win 6).blk t).view.emb y) :=
    (blk2 m c t y).trans (at2_idx (X2 m c) _ _ _ e0 e1).symm
  rw [momRef_apply]
  refine (out_mom _ _ _ _ y).trans ?_
  rw [eg]
  exact congrArg (mom _) h2

theorem mem_blk6 (t : Fin cfg0.N) (i : S1408x1024.Idx) :
    i ∈ ((cfg0.win 6).blk t).view.set ↔
      ∀ a : Fin 2, win0_6.index t a * S128x1024.size a ≤ (i a).val ∧ (i a).val < win0_6.index t a * S128x1024.size a + S128x1024.size a := by
  show i ∈ ((View.whole main_v0_2).slice (win0_6.rect t)).set ↔ _
  rw [View.set_slice_whole, Rect.mem_set_unit]
  exact Iff.rfl

theorem covered6 (i : S1408x1024.Idx) :
    ∃ t : Fin cfg0.N, (cfg0.win 6).flush t = true ∧ i ∈ ((cfg0.win 6).blk t).view.set := by
  have hi0 : (i 0).val < 1408 := (i 0).isLt
  have hi1 : (i 1).val < 1024 := (i 1).isLt
  have hN : cfg0.N = 11 := N_0
  refine ⟨⟨(i 0).val / 128, by omega⟩, flush0_6 _, ?_⟩
  rw [mem_blk6]
  intro a
  match a with
  | ⟨0, _⟩ =>
    show win0_6.index _ 0 * 128 ≤ (i 0).val ∧ (i 0).val < win0_6.index _ 0 * 128 + 128
    rw [(idx_facts _).2.2.2.2.2.2.1.1]; dsimp only; omega
  | ⟨1, _⟩ =>
    show win0_6.index _ 1 * 1024 ≤ (i 1).val ∧ (i 1).val < win0_6.index _ 1 * 1024 + 1024
    rw [(idx_facts _).2.2.2.2.2.2.1.2]; omega

/-- The result of window 6 after the run is the reference's term of the arguments. -/
theorem final6 (c : Dev nD) : (dats m 0 c).arrAt 6 cfg0.N = momRef (X0 m c) (X2 m c) :=
  (dats m 0 c).arrAt_eq_of_cover 6 _ (fun t _ => flushed_eq6 m c t) covered6

/-- What a grid point writes back to window 7 is its block of the reference's term. -/
theorem flushed_eq7 (c : Dev nD) (t : Fin cfg0.N) :
    (dats m 0 c).flushed 7 t = ((cfg0.win 7).blk t).view.read (Elt Ideal) (velRef (X0 m c) (X3 m c)) := by
  rw [Value.flushed7]
  funext y
  show out0_7 (iblk m c 0 t) (iblk m c 1 t) (iblk m c 2 t) (iblk m c 3 t) y = velRef (X0 m c) (X3 m c) (((cfg0.win 7).blk t).view.emb y)
  have e0 : (((cfg0.win 7).blk t).view.emb y 0).val = t.val * 128 + (y 0).val := by
    show win0_7.index t 0 * 128 + 1 * (y 0).val = _; rw [(idx_facts t).2.2.2.2.2.2.2.1, one_mul]
  have e1 : (((cfg0.win 7).blk t).view.emb y 1).val = (y 1).val := by
    show win0_7.index t 1 * 1024 + 1 * (y 1).val = _; rw [(idx_facts t).2.2.2.2.2.2.2.2, zero_mul, zero_add, one_mul]
  have eg : total (show S8x128x1024.Idx → EReal from iblk m c 0 t) (y 0).val (y 1).val
      = total (X0 m c) (((cfg0.win 7).blk t).view.emb y 0).val (((cfg0.win 7).blk t).view.emb y 1).val := by
    rw [e0, e1]; exact total_blk m c t _ _ (y 0).isLt (y 1).isLt
  have h3 : (iblk m c 3 t : Vec Ideal S128x1024 .f32) y = X3 m c (((cfg0.win 7).blk t).view.emb y) :=
    (blk3 m c t y).trans (at2_idx (X3 m c) _ _ _ e0 e1).symm
  rw [velRef_apply]
  refine (out_vel _ _ _ _ y).trans ?_
  rw [eg]
  exact congrArg (vel _) h3

theorem mem_blk7 (t : Fin cfg0.N) (i : S1408x1024.Idx) :
    i ∈ ((cfg0.win 7).blk t).view.set ↔
      ∀ a : Fin 2, win0_7.index t a * S128x1024.size a ≤ (i a).val ∧ (i a).val < win0_7.index t a * S128x1024.size a + S128x1024.size a := by
  show i ∈ ((View.whole main_v0_3).slice (win0_7.rect t)).set ↔ _
  rw [View.set_slice_whole, Rect.mem_set_unit]
  exact Iff.rfl

theorem covered7 (i : S1408x1024.Idx) :
    ∃ t : Fin cfg0.N, (cfg0.win 7).flush t = true ∧ i ∈ ((cfg0.win 7).blk t).view.set := by
  have hi0 : (i 0).val < 1408 := (i 0).isLt
  have hi1 : (i 1).val < 1024 := (i 1).isLt
  have hN : cfg0.N = 11 := N_0
  refine ⟨⟨(i 0).val / 128, by omega⟩, flush0_7 _, ?_⟩
  rw [mem_blk7]
  intro a
  match a with
  | ⟨0, _⟩ =>
    show win0_7.index _ 0 * 128 ≤ (i 0).val ∧ (i 0).val < win0_7.index _ 0 * 128 + 128
    rw [(idx_facts _).2.2.2.2.2.2.2.1]; dsimp only; omega
  | ⟨1, _⟩ =>
    show win0_7.index _ 1 * 1024 ≤ (i 1).val ∧ (i 1).val < win0_7.index _ 1 * 1024 + 1024
    rw [(idx_facts _).2.2.2.2.2.2.2.2]; omega

/-- The result of window 7 after the run is the reference's term of the arguments. -/
theorem final7 (c : Dev nD) : (dats m 0 c).arrAt 7 cfg0.N = velRef (X0 m c) (X3 m c) :=
  (dats m 0 c).arrAt_eq_of_cover 7 _ (fun t _ => flushed_eq7 m c t) covered7

end Cert.AdamwDown

end
-- ==== Proof.AdamwSmall.lean ====
/-
  The optimiser's call for the small parameters, packed: each grid point adds eight devices' shares of the gradient for 8 rows and updates the
  two moments and the parameter's step elementwise; the reference does so for all 232 rows at once.
-/
module

public import proofs.«01_k».proof.Proof.Adamw
public import proofs.«01_k».proof.Proof.Gen.Kernel22Ideal.Value
public import proofs.«01_k».proof.Proof.Gen.Reference22Ideal.Run

@[expose] public section

set_option maxRecDepth 16384

noncomputable section

namespace Cert.AdamwSmall

open Cert.Kernel22Ideal Cert.Kernel22Ideal.Gen Cert.Blocks Cert.Adamw
open Idealize.ShloMosaic Idealize.ShloMosaic.TcCoe Idealize.SL.Sem

variable (m : (ℓ : Loc nD τ sig) → Buf (Elt Ideal) ℓ)

/-! ## What the body leaves in its four blocks -/

section Body
variable (x0 : Vec Ideal S8x8x128 .f32) (x1 x2 x3 : Vec Ideal S8x128 .f32) (y : S8x128.Idx)

/-- A device's share, as the body loads it. -/
theorem share_apply (d : ℕ) (hi : ∀ a, (![d, 0, 0] : Fin 3 → ℕ) a + S1x8x128.size a ≤ S8x8x128.size a) (r : Fin 8) (l : Fin 128) :
    View.ld x0 (Rect.unit (s := S8x8x128) ![d, 0, 0] S1x8x128.size hi) (ix3 0 r l)
      = at3 (show S8x8x128.Idx → EReal from x0) d r.val l.val :=
  at3_idx (show S8x8x128.Idx → EReal from x0) _ _ _ _ (by show d + 1 * 0 = _; rfl)
    (by show 0 + 1 * r.val = _; rw [one_mul, zero_add]) (by show 0 + 1 * l.val = _; rw [one_mul, zero_add])

/-- The sum of eight shares at an index. -/
theorem sum_apply (v0 v1 v2 v3 v4 v5 v6 v7 : Vec Ideal S1x8x128 .f32) (r : Fin 8) (l : Fin 128) :
    k0_pay3 v0 v1 v2 v3 v4 v5 v6 v7 (ix2 r l) = v0 (ix3 0 r l) + v1 (ix3 0 r l) + v2 (ix3 0 r l) + v3 (ix3 0 r l)
      + v4 (ix3 0 r l) + v5 (ix3 0 r l) + v6 (ix3 0 r l) + v7 (ix3 0 r l) := by
  pointwise [k0_pay3]

/-- The body's gradient: the sum of the eight shares. -/
theorem grad_eq : k0_pay5 x0 x1 x2 x3 y = total (show S8x8x128.Idx → EReal from x0) (y 0).val (y 1).val := by
  unfold k0_pay5
  refine (congrArg _ (eq_ix2 y)).trans ((sum_apply _ _ _ _ _ _ _ _ (y 0) (y 1)).trans ?_)
  unfold total
  rw [Fin.sum_univ_eight]
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (share_apply x0 0 inb_S8x8x128_S1x8x128_0_0_0 (y 0) (y 1))
    (share_apply x0 1 inb_S8x8x128_S1x8x128_1_0_0 (y 0) (y 1)))
    (share_apply x0 2 inb_S8x8x128_S1x8x128_2_0_0 (y 0) (y 1)))
    (share_apply x0 3 inb_S8x8x128_S1x8x128_3_0_0 (y 0) (y 1)))
    (share_apply x0 4 inb_S8x8x128_S1x8x128_4_0_0 (y 0) (y 1)))
    (share_apply x0 5 inb_S8x8x128_S1x8x128_5_0_0 (y 0) (y 1)))
    (share_apply x0 6 inb_S8x8x128_S1x8x128_6_0_0 (y 0) (y 1)))
    (share_apply x0 7 inb_S8x8x128_S1x8x128_7_0_0 (y 0) (y 1))

theorem out_grad : out0_4 x0 x1 x2 x3 y = total (show S8x8x128.Idx → EReal from x0) (y 0).val (y 1).val := by
  unfold out0_4
  rw [View.canon_unit_zero (S := S8x128) hz, grad_eq]

theorem out_mom : out0_6 x0 x1 x2 x3 y = mom (total (show S8x8x128.Idx → EReal from x0) (y 0).val (y 1).val) (x2 y) := by
  unfold out0_6
  rw [View.canon_unit_zero (S := S8x128) hz]
  rw [← grad_eq x0 x1 x2 x3 y]
  unfold k0_pay6; rw [View.ld_unit_zero (S := S8x128) hz]; rfl

theorem out_vel : out0_7 x0 x1 x2 x3 y = vel (total (show S8x8x128.Idx → EReal from x0) (y 0).val (y 1).val) (x3 y) := by
  unfold out0_7
  rw [View.canon_unit_zero (S := S8x128) hz, View.ld_unit_zero (S := S8x128) hz]
  rw [← grad_eq x0 x1 x2 x3 y]
  rfl

theorem out_step : out0_5 x0 x1 x2 x3 y
    = step (total (show S8x8x128.Idx → EReal from x0) (y 0).val (y 1).val) (x1 y) (x2 y) (x3 y) := by
  unfold out0_5
  rw [View.canon_unit_zero (S := S8x128) hz]
  simp only [View.ld_unit_zero (S := S8x128) hz]
  rw [← grad_eq x0 x1 x2 x3 y]
  unfold k0_pay6; rw [View.ld_unit_zero (S := S8x128) hz]; rfl

end Body

/-! ## The blocks the windows stage -/

/-- The windows' block indices at a grid point. -/
theorem idx_facts : ∀ t : Fin cfg0.N, (win0_0.index t 0 = 0 ∧ win0_0.index t 1 = t.val ∧ win0_0.index t 2 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) :=
  (by decide +kernel : ∀ t : Fin grid0.N, _)

/-- The arguments as arrays of extended reals. -/
abbrev X0 (c : Dev nD) : S8x232x128.Idx → EReal := m ((c : Thread nD τ).loc main_arg0)
abbrev X1 (c : Dev nD) : S232x128.Idx → EReal := m ((c : Thread nD τ).loc main_arg1)
abbrev X2 (c : Dev nD) : S232x128.Idx → EReal := m ((c : Thread nD τ).loc main_arg2)
abbrev X3 (c : Dev nD) : S232x128.Idx → EReal := m ((c : Thread nD τ).loc main_arg3)

/-- The sum of the shares over a block is the sum over the array at the block's rows. -/
theorem total_blk (c : Dev nD) (t : Fin cfg0.N) (r l : ℕ) (hr : r < 8) (hl : l < 128) :
    total (show S8x8x128.Idx → EReal from iblk m c 0 t) r l = total (X0 m c) (t.val * 8 + r) l := by
  unfold total
  refine Finset.sum_congr rfl fun d _ => ?_
  rw [at3_of_lt _ d.val r l d.isLt hr hl]
  show (iblk m c 0 t : Vec Ideal S8x8x128 .f32) (ix3 ⟨d.val, d.isLt⟩ ⟨r, hr⟩ ⟨l, hl⟩) = _
  unfold iblk
  rw [View.read_apply]
  refine at3_idx (X0 m c) _ _ _ _ ?_ ?_ ?_
  · show win0_0.index t 0 * 8 + 1 * d.val = _; rw [(idx_facts t).1.1, zero_mul, zero_add, one_mul]
  · show win0_0.index t 1 * 8 + 1 * r = _; rw [(idx_facts t).1.2.1, one_mul]
  · show win0_0.index t 2 * 128 + 1 * l = _; rw [(idx_facts t).1.2.2, zero_mul, zero_add, one_mul]

theorem blk1 (c : Dev nD) (t : Fin cfg0.N) (y : S8x128.Idx) :
    (iblk m c 1 t : Vec Ideal S8x128 .f32) y = at2 (X1 m c) (t.val * 8 + (y 0).val) (y 1).val := by
  unfold iblk
  rw [View.read_apply]
  refine at2_idx (X1 m c) _ _ _ ?_ ?_
  · show win0_1.index t 0 * 8 + 1 * (y 0).val = _; rw [(idx_facts t).2.1.1, one_mul]
  · show win0_1.index t 1 * 128 + 1 * (y 1).val = _; rw [(idx_facts t).2.1.2, zero_mul, zero_add, one_mul]

theorem blk2 (c : Dev nD) (t : Fin cfg0.N) (y : S8x128.Idx) :
    (iblk m c 2 t : Vec Ideal S8x128 .f32) y = at2 (X2 m c) (t.val * 8 + (y 0).val) (y 1).val := by
  unfold iblk
  rw [View.read_apply]
  refine at2_idx (X2 m c) _ _ _ ?_ ?_
  · show win0_2.index t 0 * 8 + 1 * (y 0).val = _; rw [(idx_facts t).2.2.1.1, one_mul]
  · show win0_2.index t 1 * 128 + 1 * (y 1).val = _; rw [(idx_facts t).2.2.1.2, zero_mul, zero_add, one_mul]

theorem blk3 (c : Dev nD) (t : Fin cfg0.N) (y : S8x128.Idx) :
    (iblk m c 3 t : Vec Ideal S8x128 .f32) y = at2 (X3 m c) (t.val * 8 + (y 0).val) (y 1).val := by
  unfold iblk
  rw [View.read_apply]
  refine at2_idx (X3 m c) _ _ _ ?_ ?_
  · show win0_3.index t 0 * 8 + 1 * (y 0).val = _; rw [(idx_facts t).2.2.2.1.1, one_mul]
  · show win0_3.index t 1 * 128 + 1 * (y 1).val = _; rw [(idx_facts t).2.2.2.1.2, zero_mul, zero_add, one_mul]

/-! ## The reference -/

/-- The reference's gradient, -/
def gradRef (x0 : Vec Ideal S8x232x128 .f32) : FVec Ideal S232x128 .f32 :=
  Host.reduceAdd x0 (constant Cert.Reference22Ideal.S_ .f32 0x00000000#32) Cert.Reference22Ideal.Gen.reducesTo_S8x232x128_S232x128_d0 Cert.Reference22Ideal.Gen.h_S_

/-- its first moment, -/
def momRef (x0 : Vec Ideal S8x232x128 .f32) (x2 : Vec Ideal S232x128 .f32) : FVec Ideal S232x128 .f32 :=
  addf (mulf (broadcastInDim S232x128 ![] Cert.Reference22Ideal.Gen.bcast_S_S232x128 (constant Cert.Reference22Ideal.S_ .f32 0x3F666666#32)) x2)
    (mulf (broadcastInDim S232x128 ![] Cert.Reference22Ideal.Gen.bcast_S_S232x128 (constant Cert.Reference22Ideal.S_ .f32 0x3DCCCCCD#32)) (gradRef x0))

/-- its second moment -/
def velRef (x0 : Vec Ideal S8x232x128 .f32) (x3 : Vec Ideal S232x128 .f32) : FVec Ideal S232x128 .f32 :=
  addf (mulf (broadcastInDim S232x128 ![] Cert.Reference22Ideal.Gen.bcast_S_S232x128 (constant Cert.Reference22Ideal.S_ .f32 0x3F7FBE77#32)) x3)
    (mulf (broadcastInDim S232x128 ![] Cert.Reference22Ideal.Gen.bcast_S_S232x128 (constant Cert.Reference22Ideal.S_ .f32 0x3A83126F#32)) (mulf (gradRef x0) (gradRef x0)))

/-- and its step. -/
def stepRef (x0 : Vec Ideal S8x232x128 .f32) (x1 x2 x3 : Vec Ideal S232x128 .f32) : FVec Ideal S232x128 .f32 :=
  mulf (broadcastInDim S232x128 ![] Cert.Reference22Ideal.Gen.bcast_S_S232x128 (constant Cert.Reference22Ideal.S_ .f32 0xBA83126F#32))
    (addf (Host.divf (Host.divf (momRef x0 x2) (broadcastInDim S232x128 ![] Cert.Reference22Ideal.Gen.bcast_S_S232x128 (constant Cert.Reference22Ideal.S_ .f32 0x3F26BD02#32)))
        (addf (Host.sqrt (Host.divf (velRef x0 x3) (broadcastInDim S232x128 ![] Cert.Reference22Ideal.Gen.bcast_S_S232x128 (constant Cert.Reference22Ideal.S_ .f32 0x3C231ACC#32))))
          (broadcastInDim S232x128 ![] Cert.Reference22Ideal.Gen.bcast_S_S232x128 (constant Cert.Reference22Ideal.S_ .f32 0x322BCC77#32))))
      (mulf (broadcastInDim S232x128 ![] Cert.Reference22Ideal.Gen.bcast_S_S232x128 (constant Cert.Reference22Ideal.S_ .f32 0x3C23D70A#32)) x1))

theorem gradRef_apply (x0 : Vec Ideal S8x232x128 .f32) (i : S232x128.Idx) :
    gradRef x0 i = total (show S8x232x128.Idx → EReal from x0) (i 0).val (i 1).val := by
  unfold gradRef
  pointwise
  exact Finset.sum_congr rfl fun d _ => at3_idx (show S8x232x128.Idx → EReal from x0) _ _ _ _ rfl rfl rfl

theorem momRef_apply (x0 : Vec Ideal S8x232x128 .f32) (x2 : Vec Ideal S232x128 .f32) (i : S232x128.Idx) :
    momRef x0 x2 i = mom (total (show S8x232x128.Idx → EReal from x0) (i 0).val (i 1).val) (x2 i) := by
  rw [← gradRef_apply]; rfl

theorem velRef_apply (x0 : Vec Ideal S8x232x128 .f32) (x3 : Vec Ideal S232x128 .f32) (i : S232x128.Idx) :
    velRef x0 x3 i = vel (total (show S8x232x128.Idx → EReal from x0) (i 0).val (i 1).val) (x3 i) := by
  rw [← gradRef_apply]; rfl

theorem stepRef_apply (x0 : Vec Ideal S8x232x128 .f32) (x1 x2 x3 : Vec Ideal S232x128 .f32) (i : S232x128.Idx) :
    stepRef x0 x1 x2 x3 i = step (total (show S8x232x128.Idx → EReal from x0) (i 0).val (i 1).val) (x1 i) (x2 i) (x3 i) := by
  rw [← gradRef_apply]; rfl

/-! ## The results -/

/-- What a grid point writes back to window 4 is its block of the reference's term. -/
theorem flushed_eq4 (c : Dev nD) (t : Fin cfg0.N) :
    (dats m 0 c).flushed 4 t = ((cfg0.win 4).blk t).view.read (Elt Ideal) (gradRef (X0 m c)) := by
  rw [Value.flushed4]
  funext y
  show out0_4 (iblk m c 0 t) (iblk m c 1 t) (iblk m c 2 t) (iblk m c 3 t) y = gradRef (X0 m c) (((cfg0.win 4).blk t).view.emb y)
  have e0 : (((cfg0.win 4).blk t).view.emb y 0).val = t.val * 8 + (y 0).val := by
    show win0_4.index t 0 * 8 + 1 * (y 0).val = _; rw [(idx_facts t).2.2.2.2.1.1, one_mul]
  have e1 : (((cfg0.win 4).blk t).view.emb y 1).val = (y 1).val := by
    show win0_4.index t 1 * 128 + 1 * (y 1).val = _; rw [(idx_facts t).2.2.2.2.1.2, zero_mul, zero_add, one_mul]
  have eg : total (show S8x8x128.Idx → EReal from iblk m c 0 t) (y 0).val (y 1).val
      = total (X0 m c) (((cfg0.win 4).blk t).view.emb y 0).val (((cfg0.win 4).blk t).view.emb y 1).val := by
    rw [e0, e1]; exact total_blk m c t _ _ (y 0).isLt (y 1).isLt
  rw [gradRef_apply]
  refine (out_grad _ _ _ _ y).trans ?_
  rw [eg]

theorem mem_blk4 (t : Fin cfg0.N) (i : S232x128.Idx) :
    i ∈ ((cfg0.win 4).blk t).view.set ↔
      ∀ a : Fin 2, win0_4.index t a * S8x128.size a ≤ (i a).val ∧ (i a).val < win0_4.index t a * S8x128.size a + S8x128.size a := by
  show i ∈ ((View.whole main_v0_0).slice (win0_4.rect t)).set ↔ _
  rw [View.set_slice_whole, Rect.mem_set_unit]
  exact Iff.rfl

theorem covered4 (i : S232x128.Idx) :
    ∃ t : Fin cfg0.N, (cfg0.win 4).flush t = true ∧ i ∈ ((cfg0.win 4).blk t).view.set := by
  have hi0 : (i 0).val < 232 := (i 0).isLt
  have hi1 : (i 1).val < 128 := (i 1).isLt
  have hN : cfg0.N = 29 := N_0
  refine ⟨⟨(i 0).val / 8, by omega⟩, flush0_4 _, ?_⟩
  rw [mem_blk4]
  intro a
  match a with
  | ⟨0, _⟩ =>
    show win0_4.index _ 0 * 8 ≤ (i 0).val ∧ (i 0).val < win0_4.index _ 0 * 8 + 8
    rw [(idx_facts _).2.2.2.2.1.1]; dsimp only; omega
  | ⟨1, _⟩ =>
    show win0_4.index _ 1 * 128 ≤ (i 1).val ∧ (i 1).val < win0_4.index _ 1 * 128 + 128
    rw [(idx_facts _).2.2.2.2.1.2]; omega

/-- The result of window 4 after the run is the reference's term of the arguments. -/
theorem final4 (c : Dev nD) : (dats m 0 c).arrAt 4 cfg0.N = gradRef (X0 m c) :=
  (dats m 0 c).arrAt_eq_of_cover 4 _ (fun t _ => flushed_eq4 m c t) covered4

/-- What a grid point writes back to window 5 is its block of the reference's term. -/
theorem flushed_eq5 (c : Dev nD) (t : Fin cfg0.N) :
    (dats m 0 c).flushed 5 t = ((cfg0.win 5).blk t).view.read (Elt Ideal) (stepRef (X0 m c) (X1 m c) (X2 m c) (X3 m c)) := by
  rw [Value.flushed5]
  funext y
  show out0_5 (iblk m c 0 t) (iblk m c 1 t) (iblk m c 2 t) (iblk m c 3 t) y = stepRef (X0 m c) (X1 m c) (X2 m c) (X3 m c) (((cfg0.win 5).blk t).view.emb y)
  have e0 : (((cfg0.win 5).blk t).view.emb y 0).val = t.val * 8 + (y 0).val := by
    show win0_5.index t 0 * 8 + 1 * (y 0).val = _; rw [(idx_facts t).2.2.2.2.2.1.1, one_mul]
  have e1 : (((cfg0.win 5).blk t).view.emb y 1).val = (y 1).val := by
    show win0_5.index t 1 * 128 + 1 * (y 1).val = _; rw [(idx_facts t).2.2.2.2.2.1.2, zero_mul, zero_add, one_mul]
  have eg : total (show S8x8x128.Idx → EReal from iblk m c 0 t) (y 0).val (y 1).val
      = total (X0 m c) (((cfg0.win 5).blk t).view.emb y 0).val (((cfg0.win 5).blk t).view.emb y 1).val := by
    rw [e0, e1]; exact total_blk m c t _ _ (y 0).isLt (y 1).isLt
  have h1 : (iblk m c 1 t : Vec Ideal S8x128 .f32) y = X1 m c (((cfg0.win 5).blk t).view.emb y) :=
    (blk1 m c t y).trans (at2_idx (X1 m c) _ _ _ e0 e1).symm
  have h2 : (iblk m c 2 t : Vec Ideal S8x128 .f32) y = X2 m c (((cfg0.win 5).blk t).view.emb y) :=
    (blk2 m c t y).trans (at2_idx (X2 m c) _ _ _ e0 e1).symm
  have h3 : (iblk m c 3 t : Vec Ideal S8x128 .f32) y = X3 m c (((cfg0.win 5).blk t).view.emb y) :=
    (blk3 m c t y).trans (at2_idx (X3 m c) _ _ _ e0 e1).symm
  rw [stepRef_apply]
  refine (out_step _ _ _ _ y).trans ?_
  rw [eg]
  rw [h1, h2, h3]

theorem mem_blk5 (t : Fin cfg0.N) (i : S232x128.Idx) :
    i ∈ ((cfg0.win 5).blk t).view.set ↔
      ∀ a : Fin 2, win0_5.index t a * S8x128.size a ≤ (i a).val ∧ (i a).val < win0_5.index t a * S8x128.size a + S8x128.size a := by
  show i ∈ ((View.whole main_v0_1).slice (win0_5.rect t)).set ↔ _
  rw [View.set_slice_whole, Rect.mem_set_unit]
  exact Iff.rfl

theorem covered5 (i : S232x128.Idx) :
    ∃ t : Fin cfg0.N, (cfg0.win 5).flush t = true ∧ i ∈ ((cfg0.win 5).blk t).view.set := by
  have hi0 : (i 0).val < 232 := (i 0).isLt
  have hi1 : (i 1).val < 128 := (i 1).isLt
  have hN : cfg0.N = 29 := N_0
  refine ⟨⟨(i 0).val / 8, by omega⟩, flush0_5 _, ?_⟩
  rw [mem_blk5]
  intro a
  match a with
  | ⟨0, _⟩ =>
    show win0_5.index _ 0 * 8 ≤ (i 0).val ∧ (i 0).val < win0_5.index _ 0 * 8 + 8
    rw [(idx_facts _).2.2.2.2.2.1.1]; dsimp only; omega
  | ⟨1, _⟩ =>
    show win0_5.index _ 1 * 128 ≤ (i 1).val ∧ (i 1).val < win0_5.index _ 1 * 128 + 128
    rw [(idx_facts _).2.2.2.2.2.1.2]; omega

/-- The result of window 5 after the run is the reference's term of the arguments. -/
theorem final5 (c : Dev nD) : (dats m 0 c).arrAt 5 cfg0.N = stepRef (X0 m c) (X1 m c) (X2 m c) (X3 m c) :=
  (dats m 0 c).arrAt_eq_of_cover 5 _ (fun t _ => flushed_eq5 m c t) covered5

/-- What a grid point writes back to window 6 is its block of the reference's term. -/
theorem flushed_eq6 (c : Dev nD) (t : Fin cfg0.N) :
    (dats m 0 c).flushed 6 t = ((cfg0.win 6).blk t).view.read (Elt Ideal) (momRef (X0 m c) (X2 m c)) := by
  rw [Value.flushed6]
  funext y
  show out0_6 (iblk m c 0 t) (iblk m c 1 t) (iblk m c 2 t) (iblk m c 3 t) y = momRef (X0 m c) (X2 m c) (((cfg0.win 6).blk t).view.emb y)
  have e0 : (((cfg0.win 6).blk t).view.emb y 0).val = t.val * 8 + (y 0).val := by
    show win0_6.index t 0 * 8 + 1 * (y 0).val = _; rw [(idx_facts t).2.2.2.2.2.2.1.1, one_mul]
  have e1 : (((cfg0.win 6).blk t).view.emb y 1).val = (y 1).val := by
    show win0_6.index t 1 * 128 + 1 * (y 1).val = _; rw [(idx_facts t).2.2.2.2.2.2.1.2, zero_mul, zero_add, one_mul]
  have eg : total (show S8x8x128.Idx → EReal from iblk m c 0 t) (y 0).val (y 1).val
      = total (X0 m c) (((cfg0.win 6).blk t).view.emb y 0).val (((cfg0.win 6).blk t).view.emb y 1).val := by
    rw [e0, e1]; exact total_blk m c t _ _ (y 0).isLt (y 1).isLt
  have h2 : (iblk m c 2 t : Vec Ideal S8x128 .f32) y = X2 m c (((cfg0.win 6).blk t).view.emb y) :=
    (blk2 m c t y).trans (at2_idx (X2 m c) _ _ _ e0 e1).symm
  rw [momRef_apply]
  refine (out_mom _ _ _ _ y).trans ?_
  rw [eg]
  exact congrArg (mom _) h2

theorem mem_blk6 (t : Fin cfg0.N) (i : S232x128.Idx) :
    i ∈ ((cfg0.win 6).blk t).view.set ↔
      ∀ a : Fin 2, win0_6.index t a * S8x128.size a ≤ (i a).val ∧ (i a).val < win0_6.index t a * S8x128.size a + S8x128.size a := by
  show i ∈ ((View.whole main_v0_2).slice (win0_6.rect t)).set ↔ _
  rw [View.set_slice_whole, Rect.mem_set_unit]
  exact Iff.rfl

theorem covered6 (i : S232x128.Idx) :
    ∃ t : Fin cfg0.N, (cfg0.win 6).flush t = true ∧ i ∈ ((cfg0.win 6).blk t).view.set := by
  have hi0 : (i 0).val < 232 := (i 0).isLt
  have hi1 : (i 1).val < 128 := (i 1).isLt
  have hN : cfg0.N = 29 := N_0
  refine ⟨⟨(i 0).val / 8, by omega⟩, flush0_6 _, ?_⟩
  rw [mem_blk6]
  intro a
  match a with
  | ⟨0, _⟩ =>
    show win0_6.index _ 0 * 8 ≤ (i 0).val ∧ (i 0).val < win0_6.index _ 0 * 8 + 8
    rw [(idx_facts _).2.2.2.2.2.2.1.1]; dsimp only; omega
  | ⟨1, _⟩ =>
    show win0_6.index _ 1 * 128 ≤ (i 1).val ∧ (i 1).val < win0_6.index _ 1 * 128 + 128
    rw [(idx_facts _).2.2.2.2.2.2.1.2]; omega

/-- The result of window 6 after the run is the reference's term of the arguments. -/
theorem final6 (c : Dev nD) : (dats m 0 c).arrAt 6 cfg0.N = momRef (X0 m c) (X2 m c) :=
  (dats m 0 c).arrAt_eq_of_cover 6 _ (fun t _ => flushed_eq6 m c t) covered6

/-- What a grid point writes back to window 7 is its block of the reference's term. -/
theorem flushed_eq7 (c : Dev nD) (t : Fin cfg0.N) :
    (dats m 0 c).flushed 7 t = ((cfg0.win 7).blk t).view.read (Elt Ideal) (velRef (X0 m c) (X3 m c)) := by
  rw [Value.flushed7]
  funext y
  show out0_7 (iblk m c 0 t) (iblk m c 1 t) (iblk m c 2 t) (iblk m c 3 t) y = velRef (X0 m c) (X3 m c) (((cfg0.win 7).blk t).view.emb y)
  have e0 : (((cfg0.win 7).blk t).view.emb y 0).val = t.val * 8 + (y 0).val := by
    show win0_7.index t 0 * 8 + 1 * (y 0).val = _; rw [(idx_facts t).2.2.2.2.2.2.2.1, one_mul]
  have e1 : (((cfg0.win 7).blk t).view.emb y 1).val = (y 1).val := by
    show win0_7.index t 1 * 128 + 1 * (y 1).val = _; rw [(idx_facts t).2.2.2.2.2.2.2.2, zero_mul, zero_add, one_mul]
  have eg : total (show S8x8x128.Idx → EReal from iblk m c 0 t) (y 0).val (y 1).val
      = total (X0 m c) (((cfg0.win 7).blk t).view.emb y 0).val (((cfg0.win 7).blk t).view.emb y 1).val := by
    rw [e0, e1]; exact total_blk m c t _ _ (y 0).isLt (y 1).isLt
  have h3 : (iblk m c 3 t : Vec Ideal S8x128 .f32) y = X3 m c (((cfg0.win 7).blk t).view.emb y) :=
    (blk3 m c t y).trans (at2_idx (X3 m c) _ _ _ e0 e1).symm
  rw [velRef_apply]
  refine (out_vel _ _ _ _ y).trans ?_
  rw [eg]
  exact congrArg (vel _) h3

theorem mem_blk7 (t : Fin cfg0.N) (i : S232x128.Idx) :
    i ∈ ((cfg0.win 7).blk t).view.set ↔
      ∀ a : Fin 2, win0_7.index t a * S8x128.size a ≤ (i a).val ∧ (i a).val < win0_7.index t a * S8x128.size a + S8x128.size a := by
  show i ∈ ((View.whole main_v0_3).slice (win0_7.rect t)).set ↔ _
  rw [View.set_slice_whole, Rect.mem_set_unit]
  exact Iff.rfl

theorem covered7 (i : S232x128.Idx) :
    ∃ t : Fin cfg0.N, (cfg0.win 7).flush t = true ∧ i ∈ ((cfg0.win 7).blk t).view.set := by
  have hi0 : (i 0).val < 232 := (i 0).isLt
  have hi1 : (i 1).val < 128 := (i 1).isLt
  have hN : cfg0.N = 29 := N_0
  refine ⟨⟨(i 0).val / 8, by omega⟩, flush0_7 _, ?_⟩
  rw [mem_blk7]
  intro a
  match a with
  | ⟨0, _⟩ =>
    show win0_7.index _ 0 * 8 ≤ (i 0).val ∧ (i 0).val < win0_7.index _ 0 * 8 + 8
    rw [(idx_facts _).2.2.2.2.2.2.2.1]; dsimp only; omega
  | ⟨1, _⟩ =>
    show win0_7.index _ 1 * 128 ≤ (i 1).val ∧ (i 1).val < win0_7.index _ 1 * 128 + 128
    rw [(idx_facts _).2.2.2.2.2.2.2.2]; omega

/-- The result of window 7 after the run is the reference's term of the arguments. -/
theorem final7 (c : Dev nD) : (dats m 0 c).arrAt 7 cfg0.N = velRef (X0 m c) (X3 m c) :=
  (dats m 0 c).arrAt_eq_of_cover 7 _ (fun t _ => flushed_eq7 m c t) covered7

end Cert.AdamwSmall

end
-- ==== Proof.GateBwd.lean ====
/-
  The gradients of the two gates of the recurrence: the call takes 640 rows at a time, writes the gradient of the gates' columns,
  and adds the gradients of the decay's two parameters in two output blocks that stay over the 26 blocks of rows; rows outside
  the sequence and columns of no gate are masked. The reference takes the derivative of the two gates of the sequence's rows.
  On finite arguments the two agree.
-/
module

public import proofs.«01_k».proof.Proof.RmsGrad
public import proofs.«01_k».proof.Proof.Gen.Kernel14Ideal.Value
public import proofs.«01_k».proof.Proof.Gen.Reference14Ideal.Run
public import proofs.«01_k».proof.Proof.Gen.Pre_finite_gates
public import proofs.«01_k».proof.Proof.Finite

@[expose] public section

set_option maxRecDepth 16384

noncomputable section

namespace Cert.GateBwd

open Cert.Kernel14Ideal Cert.Kernel14Ideal.Gen Cert.Blocks Cert.RmsGrad
open Idealize.ShloMosaic Idealize.ShloMosaic.TcCoe Idealize.SL.Sem

variable (m : (ℓ : Loc nD τ sig) → Buf (Elt Ideal) ℓ)

/-! ## What the body leaves at one grid point -/

section Body
variable (c : Dev nD) (i : grid0.Coords)
  (a1 : Memref sig .tc .vmem S640x128 .f32) (h1 : a1.IsWhole) (a2 : Memref sig .tc .vmem S640x128 .f32) (h2 : a2.IsWhole)
  (a3 : Memref sig .tc .vmem S1x128 .f32) (h3 : a3.IsWhole) (a4 : Memref sig .tc .vmem S1x128 .f32) (h4 : a4.IsWhole)
  (a5 : Memref sig .tc .vmem S640x128 .bf16) (h5 : a5.IsWhole) (a6 : Memref sig .tc .vmem S1x128 .f32) (h6 : a6.IsWhole)
  (a7 : Memref sig .tc .vmem S1x128 .f32) (h7 : a7.IsWhole)
  (x0 x1 : Vec Ideal S640x128 .f32) (x2 x3 : Vec Ideal S1x128 .f32) (xl xw : Vec Ideal S1x128 .f32)

/-- The block of the decay's gradient, and the block of rows. -/
def daBlk : FVec Ideal S640x128 .f32 := k0_pay10 k0_pay6 (k0_pay7 i x0 x2) (k0_pay8 x1 x3) k0_pay9
def rowsBlk : FVec Ideal S640x128 .bf16 :=
  k0_pay11 (iota .tc S640x128 32 [1] iota_S640x128_d1_w32) (k0_pay2 i x0) (k0_pay3 x1) k0_pay6 (k0_pay7 i x0 x2) (k0_pay8 x1 x3) k0_pay9

/-- The first point leaves in the rows' block a function of the point's blocks, -/
theorem rows_first (hc0 : cond0_0 i) :
    out0_A_4 c i a1 h1 a2 h2 a3 h3 a4 h4 a5 h5 a6 h6 a7 h7 hc0 x0 x1 x2 x3 = rowsBlk i x0 x1 x2 x3 := by
  unfold out0_A_4
  rw [View.read_writes_eq_canon _ _ _ (cover0_A_4 c i a1 h1 a2 h2 a3 h3 a4 h4 a5 h5 a6 h6 a7 h7 hc0 x0 x1 x2 x3)]
  unfold kernelRun0_A
  dsimp only
  sl_unfold_words
  rw [View.canon_unit_zero (S := S640x128) hz]
  simp only [View.readAt_eq_ld, h1.read_unread, h2.read_unread, h3.read_unread, h4.read_unread, h5.read_unread, h6.read_unread, h7.read_unread,
    View.ld_unit_zero (S := S640x128) hz, View.ld_unit_zero (S := S1x128) hz]
  rfl

/-- and so does a later one. -/
theorem rows_later (hc0 : ¬cond0_0 i) :
    out0_B_4 c i a1 h1 a2 h2 a3 h3 a4 h4 a5 h5 a6 h6 a7 h7 hc0 x0 x1 x2 x3 xl xw = rowsBlk i x0 x1 x2 x3 := by
  unfold out0_B_4
  rw [View.read_writes_eq_canon _ _ _ (cover0_B_4 c i a1 h1 a2 h2 a3 h3 a4 h4 a5 h5 a6 h6 a7 h7 hc0 x0 x1 x2 x3 xl xw)]
  unfold kernelRun0_B
  dsimp only
  sl_unfold_words
  rw [View.canon_unit_zero (S := S640x128) hz]
  simp only [View.readAt_eq_ld, h1.read_unread, h2.read_unread, h3.read_unread, h4.read_unread, h5.read_unread, h6.read_unread, h7.read_unread,
    View.ld_unit_zero (S := S640x128) hz, View.ld_unit_zero (S := S1x128) hz]
  rfl

/-- The first point leaves in the block of the decay rate's gradient the update of zeros, -/
theorem dal_first (hc0 : cond0_0 i) :
    out0_A_5 c i a1 h1 a2 h2 a3 h3 a4 h4 a5 h5 a6 h6 a7 h7 hc0 x0 x1 x2 x3 = k0_pay14 (k0_pay2 i x0) (k0_pay4 x1 x3) (k0_pay5 x2) k0_pay6 (k0_pay12 (F := Ideal)) := by
  unfold out0_A_5
  rw [View.read_writes_eq_canon _ _ _ (cover0_A_5 c i a1 h1 a2 h2 a3 h3 a4 h4 a5 h5 a6 h6 a7 h7 hc0 x0 x1 x2 x3)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread,
    View.ld_unit_zero (S := S640x128) hz, View.ld_unit_zero (S := S1x128) hz]

/-- and a later one the update of what it held. -/
theorem dal_later (hc0 : ¬cond0_0 i) :
    out0_B_5 c i a1 h1 a2 h2 a3 h3 a4 h4 a5 h5 a6 h6 a7 h7 hc0 x0 x1 x2 x3 xl xw = k0_pay14 (k0_pay2 i x0) (k0_pay4 x1 x3) (k0_pay5 x2) k0_pay6 xl := by
  unfold out0_B_5
  rw [View.read_writes_eq_canon _ _ _ (cover0_B_5 c i a1 h1 a2 h2 a3 h3 a4 h4 a5 h5 a6 h6 a7 h7 hc0 x0 x1 x2 x3 xl xw)]
  unfold kernelRun0_B
  dsimp only
  sl_unfold_words
  rw [View.canon_unit_zero (S := S1x128) hz]
  simp only [View.readAt_eq_ld, h1.read_unread, h2.read_unread, h3.read_unread, h4.read_unread, h5.read_unread, h6.read_unread, h7.read_unread,
    View.ld_unit_zero (S := S640x128) hz, View.ld_unit_zero (S := S1x128) hz]

/-- The first point leaves in the block of the shift's gradient the update of zeros, -/
theorem ddt_first (hc0 : cond0_0 i) :
    out0_A_6 c i a1 h1 a2 h2 a3 h3 a4 h4 a5 h5 a6 h6 a7 h7 hc0 x0 x1 x2 x3 = k0_pay1 (daBlk i x0 x1 x2 x3) (k0_pay13 (F := Ideal)) := by
  unfold out0_A_6
  rw [View.read_writes_eq_canon _ _ _ (cover0_A_6 c i a1 h1 a2 h2 a3 h3 a4 h4 a5 h5 a6 h6 a7 h7 hc0 x0 x1 x2 x3)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread,
    View.ld_unit_zero (S := S640x128) hz, View.ld_unit_zero (S := S1x128) hz]
  rfl

/-- and a later one the update of what it held. -/
theorem ddt_later (hc0 : ¬cond0_0 i) :
    out0_B_6 c i a1 h1 a2 h2 a3 h3 a4 h4 a5 h5 a6 h6 a7 h7 hc0 x0 x1 x2 x3 xl xw = k0_pay1 (daBlk i x0 x1 x2 x3) xw := by
  unfold out0_B_6
  rw [View.read_writes_eq_canon _ _ _ (cover0_B_6 c i a1 h1 a2 h2 a3 h3 a4 h4 a5 h5 a6 h6 a7 h7 hc0 x0 x1 x2 x3 xl xw)]
  unfold kernelRun0_B
  dsimp only
  sl_unfold_words
  rw [View.canon_unit_zero (S := S1x128) hz]
  simp only [View.readAt_eq_ld, h1.read_unread, h2.read_unread, h3.read_unread, h4.read_unread, h5.read_unread, h6.read_unread, h7.read_unread,
    View.ld_unit_zero (S := S640x128) hz, View.ld_unit_zero (S := S1x128) hz]
  rfl

end Body

/-- The mask of a row of a block is set when the row is in the sequence. -/
theorem mask_eq (a r : ℕ) (ha : a < 26) (hr : r < 640) :
    IntOp.andi (IntOp.cmpi CmpIPredicate.sge (IntOp.addi (Scalar.muli (BitVec.ofNat 32 a) 640#32) (BitVec.ofNat 32 r)) 48#32)
      (IntOp.cmpi CmpIPredicate.slt (IntOp.addi (Scalar.muli (BitVec.ofNat 32 a) 640#32) (BitVec.ofNat 32 r)) 16448#32)
      = if 48 ≤ a * 640 + r ∧ a * 640 + r < 16448 then 1#1 else 0#1 := by
  have e : IntOp.addi (Scalar.muli (BitVec.ofNat 32 a) 640#32) (BitVec.ofNat 32 r) = BitVec.ofNat 32 (a * 640 + r) := by
    show BitVec.ofNat 32 a * 640#32 + BitVec.ofNat 32 r = _
    rw [BitVec.ofNat_add, BitVec.ofNat_mul]
  have t : (BitVec.ofNat 32 (a * 640 + r)).toInt = ((a * 640 + r : ℕ) : ℤ) := by
    have h : (BitVec.ofNat 32 (a * 640 + r)).toNat = a * 640 + r := by
      rw [BitVec.toNat_ofNat]; exact Nat.mod_eq_of_lt (by omega)
    rw [BitVec.toInt_eq_toNat_of_lt (by rw [h]; omega), h]
  rw [e, WordCmp.cmpi_sge_eq, WordCmp.cmpi_slt_eq, t, show (48#32).toInt = 48 from rfl, show (16448#32).toInt = 16448 from rfl]
  by_cases h1 : 48 ≤ a * 640 + r <;> by_cases h2 : a * 640 + r < 16448
  · rw [decide_eq_true (by omega), decide_eq_true (by omega), if_pos ⟨h1, h2⟩]; rfl
  · rw [decide_eq_true (by omega), decide_eq_false (by omega), if_neg (fun h => h2 h.2)]; rfl
  · rw [decide_eq_false (by omega), decide_eq_true (by omega), if_neg (fun h => h1 h.1)]; rfl
  · rw [decide_eq_false (by omega), decide_eq_false (by omega), if_neg (fun h => h1 h.1)]; rfl

/-- The masks of the columns of the two gates. -/
theorem decay_cols (k : Fin 128) : IntOp.andi (IntOp.cmpi CmpIPredicate.sge (BitVec.ofNat 32 k.val) 4#32) (IntOp.cmpi CmpIPredicate.slt (BitVec.ofNat 32 k.val) 8#32)
    = if 4 ≤ k.val ∧ k.val < 8 then 1#1 else 0#1 :=
  (by decide +kernel : ∀ k : Fin 128, IntOp.andi (IntOp.cmpi CmpIPredicate.sge (BitVec.ofNat 32 k.val) 4#32) (IntOp.cmpi CmpIPredicate.slt (BitVec.ofNat 32 k.val) 8#32)
    = if 4 ≤ k.val ∧ k.val < 8 then 1#1 else 0#1) k
theorem rate_cols (k : Fin 128) : IntOp.cmpi CmpIPredicate.slt (BitVec.ofNat 32 k.val) 4#32 = if k.val < 4 then 1#1 else 0#1 :=
  (by decide +kernel : ∀ k : Fin 128, IntOp.cmpi CmpIPredicate.slt (BitVec.ofNat 32 k.val) 4#32 = if k.val < 4 then 1#1 else 0#1) k

/-- The logistic function and the softplus as the call writes them. -/
def logi (z : EReal) : EReal := Ideal.div 1 (1 + Ideal.exp (-z))
def softplus (z : EReal) : EReal := max z 0 + Ideal.log (1 + Ideal.exp (-(max z (-z))))

/-- The masked gradient of a block at an index. -/
theorem d_apply (i : grid0.Coords) (x0 : Vec Ideal S640x128 .f32) (r : Fin 640) (k : Fin 128) :
    k0_pay2 i x0 (ix2 r k) = if 48 ≤ (i 0).val * 640 + r.val ∧ (i 0).val * 640 + r.val < 16448 then x0 (ix2 r k) else 0 := by
  pointwise [k0_pay2]
  rw [mask_eq _ _ (show (i 0).val < 26 from (i 0).isLt) r.isLt]
  split_ifs <;> rfl

/-- The gradient through the decay at an index, -/
theorem da_apply (i : grid0.Coords) (x0 x1 : Vec Ideal S640x128 .f32) (x2 x3 : Vec Ideal S1x128 .f32) (r : Fin 640) (k : Fin 128) :
    daBlk i x0 x1 x2 x3 (ix2 r k) = if 4 ≤ k.val ∧ k.val < 8
      then k0_pay2 i x0 (ix2 r k) * (-Ideal.exp (x2 (ix2 0 k))) * logi (x1 (ix2 r k) + x3 (ix2 0 k)) else 0 := by
  unfold daBlk logi k0_pay7
  generalize k0_pay2 i x0 = d
  pointwise [k0_pay10, k0_pay6, k0_pay8, k0_pay9, k0_pay5, k0_pay4]
  simp only [zero_sub]
  rw [decay_cols]
  split_ifs <;> rfl

/-- the block of rows, -/
theorem rows_apply (i : grid0.Coords) (x0 x1 : Vec Ideal S640x128 .f32) (x2 x3 : Vec Ideal S1x128 .f32) (r : Fin 640) (k : Fin 128) :
    rowsBlk i x0 x1 x2 x3 (ix2 r k) = if k.val < 4
      then k0_pay2 i x0 (ix2 r k) * logi (x1 (ix2 r k)) * (1 - logi (x1 (ix2 r k))) else daBlk i x0 x1 x2 x3 (ix2 r k) := by
  unfold rowsBlk k0_pay11 logi
  rw [show k0_pay10 k0_pay6 (k0_pay7 i x0 x2) (k0_pay8 x1 x3) k0_pay9 = daBlk i x0 x1 x2 x3 from rfl]
  generalize daBlk i x0 x1 x2 x3 = e
  generalize k0_pay2 i x0 = d
  pointwise [k0_pay3]
  simp only [zero_sub]
  rw [rate_cols]
  split_ifs <;> rfl

/-- the update of the rate's gradient, -/
theorem dal_apply (d x1 : Vec Ideal S640x128 .f32) (x2 x3 v : Vec Ideal S1x128 .f32) (k : Fin 128) :
    k0_pay14 d (k0_pay4 x1 x3) (k0_pay5 x2) k0_pay6 v (ix2 0 k) = v (ix2 0 k) + ∑ r : Fin 640, if 4 ≤ k.val ∧ k.val < 8
      then d (ix2 r k) * (-Ideal.exp (x2 (ix2 0 k))) * softplus (x1 (ix2 r k) + x3 (ix2 0 k)) else 0 := by
  unfold softplus
  pointwise [k0_pay14, k0_pay4, k0_pay5, k0_pay6]
  simp only [zero_sub]
  rw [decay_cols]
  split_ifs <;> rfl

/-- and that of the shift's. -/
theorem ddt_apply (e : Vec Ideal S640x128 .f32) (v : Vec Ideal S1x128 .f32) (k : Fin 128) :
    k0_pay1 e v (ix2 0 k) = v (ix2 0 k) + ∑ r : Fin 640, e (ix2 r k) := by
  pointwise [k0_pay1]

theorem zero_dal (y : S1x128.Idx) : (k0_pay12 (F := Ideal)) y = 0 := by
  pointwise [k0_pay12]

theorem zero_ddt (y : S1x128.Idx) : (k0_pay13 (F := Ideal)) y = 0 := by
  pointwise [k0_pay13]

/-! ## The blocks the windows stage -/

/-- The windows' block indices at a grid point, and the point's coordinate. -/
theorem idx_facts : ∀ t : Fin cfg0.N, (win0_0.index t 0 = t.val ∧ win0_0.index t 1 = 0)
    ∧ (win0_1.index t 0 = t.val ∧ win0_1.index t 1 = 0) ∧ (win0_2.index t 0 = 0 ∧ win0_2.index t 1 = 0)
    ∧ (win0_3.index t 0 = 0 ∧ win0_3.index t 1 = 0) ∧ (win0_4.index t 0 = t.val ∧ win0_4.index t 1 = 0)
    ∧ (win0_5.index t 0 = 0 ∧ win0_5.index t 1 = 0) ∧ (win0_6.index t 0 = 0 ∧ win0_6.index t 1 = 0) ∧ (grid0.coords t 0).val = t.val :=
  (by decide +kernel : ∀ t : Fin grid0.N, _)

/-- The blocks of the two parameters' gradients are written back at the last point only. -/
theorem flush5 : ∀ t : Fin cfg0.N, (cfg0.win 5).flush t = true ↔ t.val = 25 :=
  (by decide +kernel : ∀ t : Fin grid0.N, _)
theorem flush6 : ∀ t : Fin cfg0.N, (cfg0.win 6).flush t = true ↔ t.val = 25 :=
  (by decide +kernel : ∀ t : Fin grid0.N, _)

/-- The arguments as arrays of extended reals. -/
abbrev X0 (c : Dev nD) : S16640x128.Idx → EReal := m ((c : Thread nD τ).loc main_arg0)
abbrev X1 (c : Dev nD) : S16640x128.Idx → EReal := m ((c : Thread nD τ).loc main_arg1)
abbrev X2 (c : Dev nD) : S1x128.Idx → EReal := m ((c : Thread nD τ).loc main_arg2)
abbrev X3 (c : Dev nD) : S1x128.Idx → EReal := m ((c : Thread nD τ).loc main_arg3)

/-- A block of rows is the array's rows, -/
theorem blk0 (c : Dev nD) (t : Fin cfg0.N) (r : Fin 640) (k : Fin 128) :
    (iblk m c 0 t : Vec Ideal S640x128 .f32) (ix2 r k) = at2 (X0 m c) (t.val * 640 + r.val) k.val := by
  unfold iblk
  rw [View.read_apply]
  refine at2_idx (X0 m c) _ _ _ ?_ ?_
  · show win0_0.index t 0 * 640 + 1 * r.val = _; rw [(idx_facts t).1.1, one_mul]
  · show win0_0.index t 1 * 128 + 1 * k.val = _; rw [(idx_facts t).1.2, zero_mul, zero_add, one_mul]

theorem blk1 (c : Dev nD) (t : Fin cfg0.N) (r : Fin 640) (k : Fin 128) :
    (iblk m c 1 t : Vec Ideal S640x128 .f32) (ix2 r k) = at2 (X1 m c) (t.val * 640 + r.val) k.val := by
  unfold iblk
  rw [View.read_apply]
  refine at2_idx (X1 m c) _ _ _ ?_ ?_
  · show win0_1.index t 0 * 640 + 1 * r.val = _; rw [(idx_facts t).2.1.1, one_mul]
  · show win0_1.index t 1 * 128 + 1 * k.val = _; rw [(idx_facts t).2.1.2, zero_mul, zero_add, one_mul]

/-- and a parameter's block the parameter. -/
theorem blk2 (c : Dev nD) (t : Fin cfg0.N) (k : Fin 128) :
    (iblk m c 2 t : Vec Ideal S1x128 .f32) (ix2 0 k) = at2 (X2 m c) 0 k.val := by
  unfold iblk
  rw [View.read_apply]
  refine at2_idx (X2 m c) _ _ _ ?_ ?_
  · show win0_2.index t 0 * 1 + 1 * 0 = _; rw [(idx_facts t).2.2.1.1]
  · show win0_2.index t 1 * 128 + 1 * k.val = _; rw [(idx_facts t).2.2.1.2, zero_mul, zero_add, one_mul]

theorem blk3 (c : Dev nD) (t : Fin cfg0.N) (k : Fin 128) :
    (iblk m c 3 t : Vec Ideal S1x128 .f32) (ix2 0 k) = at2 (X3 m c) 0 k.val := by
  unfold iblk
  rw [View.read_apply]
  refine at2_idx (X3 m c) _ _ _ ?_ ?_
  · show win0_3.index t 0 * 1 + 1 * 0 = _; rw [(idx_facts t).2.2.2.1.1]
  · show win0_3.index t 1 * 128 + 1 * k.val = _; rw [(idx_facts t).2.2.2.1.2, zero_mul, zero_add, one_mul]

/-! ## What the three arrays hold -/

/-- The masked gradient, the negated rate, and the shifted row, at a row and a column. -/
def dAt (x0 : S16640x128.Idx → EReal) (r : ℕ) (k : Fin 128) : EReal := if 48 ≤ r ∧ r < 16448 then at2 x0 r k.val else 0
def rateAt (x2 : S1x128.Idx → EReal) (k : Fin 128) : EReal := -Ideal.exp (at2 x2 0 k.val)
def xsAt (x1 : S16640x128.Idx → EReal) (x3 : S1x128.Idx → EReal) (r : ℕ) (k : Fin 128) : EReal := at2 x1 r k.val + at2 x3 0 k.val

/-- The gradient through the decay, and one row's addend of the rate's gradient. -/
def daAt (x0 x1 : S16640x128.Idx → EReal) (x2 x3 : S1x128.Idx → EReal) (r : ℕ) (k : Fin 128) : EReal :=
  if 4 ≤ k.val ∧ k.val < 8 then dAt x0 r k * rateAt x2 k * logi (xsAt x1 x3 r k) else 0
def dalAt (x0 x1 : S16640x128.Idx → EReal) (x2 x3 : S1x128.Idx → EReal) (r : ℕ) (k : Fin 128) : EReal :=
  if 4 ≤ k.val ∧ k.val < 8 then dAt x0 r k * rateAt x2 k * softplus (xsAt x1 x3 r k) else 0
def rowAt (x0 x1 : S16640x128.Idx → EReal) (x2 x3 : S1x128.Idx → EReal) (r : ℕ) (k : Fin 128) : EReal :=
  if k.val < 4 then dAt x0 r k * logi (at2 x1 r k.val) * (1 - logi (at2 x1 r k.val)) else daAt x0 x1 x2 x3 r k

/-- The rows' gradient and the two parameters' as arrays of the arguments. -/
def rowsArr (x0 x1 : S16640x128.Idx → EReal) (x2 x3 : S1x128.Idx → EReal) : S16640x128.Idx → EReal :=
  fun i => rowAt x0 x1 x2 x3 (i 0).val (i 1)
def dalArr (x0 x1 : S16640x128.Idx → EReal) (x2 x3 : S1x128.Idx → EReal) : S1x128.Idx → EReal :=
  fun i => ∑ r : Fin 16640, dalAt x0 x1 x2 x3 r.val (i 1)
def ddtArr (x0 x1 : S16640x128.Idx → EReal) (x2 x3 : S1x128.Idx → EReal) : S1x128.Idx → EReal :=
  fun i => ∑ r : Fin 16640, daAt x0 x1 x2 x3 r.val (i 1)

/-- Every grid point leaves its rows' gradient in the block. -/
theorem rows_at (c : Dev nD) (t : Fin cfg0.N) :
    (outsAt0 m c t.val t.isLt).1 = rowsBlk (grid0.coords t) (iblk m c 0 t) (iblk m c 1 t) (iblk m c 2 t) (iblk m c 3 t) := by
  by_cases h0 : t.val % 26 = 0
  · rw [outsAt0_A m c t h0]; dsimp only; exact rows_first ..
  · rw [outsAt0_B m c t h0]; dsimp only; exact rows_later ..

/-- A block's masked gradient is the array's, -/
theorem d_at (c : Dev nD) (t : Fin cfg0.N) (r : Fin 640) (k : Fin 128) :
    k0_pay2 (grid0.coords t) (iblk m c 0 t) (ix2 r k) = dAt (X0 m c) (t.val * 640 + r.val) k := by
  refine (d_apply _ _ r k).trans ?_
  rw [(idx_facts t).2.2.2.2.2.2.2]
  unfold dAt
  exact if_congr Iff.rfl (blk0 m c t r k) rfl

/-- its gradient through the decay the arrays', -/
theorem da_at (c : Dev nD) (t : Fin cfg0.N) (r : Fin 640) (k : Fin 128) :
    daBlk (grid0.coords t) (iblk m c 0 t) (iblk m c 1 t) (iblk m c 2 t) (iblk m c 3 t) (ix2 r k)
      = daAt (X0 m c) (X1 m c) (X2 m c) (X3 m c) (t.val * 640 + r.val) k := by
  refine (da_apply _ _ _ _ _ r k).trans ?_
  unfold daAt
  refine if_congr Iff.rfl ?_ rfl
  exact congrArg₂ (fun a b : EReal => a * b) (congrArg₂ (fun a b : EReal => a * b) (d_at m c t r k)
    (congrArg (fun a => -Ideal.exp a) (blk2 m c t k))) (congrArg logi (congrArg₂ (fun a b : EReal => a + b) (blk1 m c t r k) (blk3 m c t k)))

/-- and its rows too. -/
theorem row_at (c : Dev nD) (t : Fin cfg0.N) (r : Fin 640) (k : Fin 128) :
    rowsBlk (grid0.coords t) (iblk m c 0 t) (iblk m c 1 t) (iblk m c 2 t) (iblk m c 3 t) (ix2 r k)
      = rowAt (X0 m c) (X1 m c) (X2 m c) (X3 m c) (t.val * 640 + r.val) k := by
  refine (rows_apply _ _ _ _ _ r k).trans ?_
  unfold rowAt
  refine if_congr Iff.rfl ?_ (da_at m c t r k)
  exact congrArg₂ (fun a b : EReal => a * b) (congrArg₂ (fun a b : EReal => a * b) (d_at m c t r k)
    (congrArg logi (blk1 m c t r k))) (congrArg (fun a => 1 - logi a) (blk1 m c t r k))

/-- What a grid point writes back is its block of the rows' gradient. -/
theorem flushed4_eq (c : Dev nD) (t : Fin cfg0.N) :
    (dats m 0 c).flushed 4 t = ((cfg0.win 4).blk t).view.read (Elt Ideal) (rowsArr (X0 m c) (X1 m c) (X2 m c) (X3 m c)) := by
  rw [Value.flushed4, rows_at]
  funext y
  show rowsBlk (grid0.coords t) (iblk m c 0 t) (iblk m c 1 t) (iblk m c 2 t) (iblk m c 3 t) y
    = rowsArr (X0 m c) (X1 m c) (X2 m c) (X3 m c) (((cfg0.win 4).blk t).view.emb y)
  have e0 : (((cfg0.win 4).blk t).view.emb y 0).val = t.val * 640 + (y 0).val := by
    show win0_4.index t 0 * 640 + 1 * (y 0).val = _; rw [(idx_facts t).2.2.2.2.1.1, one_mul]
  have e1 : ((cfg0.win 4).blk t).view.emb y 1 = y 1 := Fin.ext (by
    show win0_4.index t 1 * 128 + 1 * (y 1).val = (y 1).val; rw [(idx_facts t).2.2.2.2.1.2, zero_mul, zero_add, one_mul])
  unfold rowsArr
  rw [e0, e1]
  exact (congrArg (rowsBlk (grid0.coords t) (iblk m c 0 t) (iblk m c 1 t) (iblk m c 2 t) (iblk m c 3 t)) (eq_ix2 y)).trans
    (row_at m c t (y 0) (y 1))

/-- The update of the rate's block at a grid point adds the point's rows, -/
theorem dal_at (c : Dev nD) (t : Fin cfg0.N) (xo : Vec Ideal S1x128 .f32) (l : Fin 128) :
    k0_pay14 (k0_pay2 (grid0.coords t) (iblk m c 0 t)) (k0_pay4 (iblk m c 1 t) (iblk m c 3 t)) (k0_pay5 (iblk m c 2 t)) k0_pay6 xo (ix2 0 l)
      = xo (ix2 0 l) + ∑ r : Fin 640, dalAt (X0 m c) (X1 m c) (X2 m c) (X3 m c) (t.val * 640 + r.val) l := by
  refine (dal_apply _ _ _ _ xo l).trans (congrArg (xo (ix2 0 l) + ·) (Finset.sum_congr rfl fun r _ => ?_))
  unfold dalAt
  refine if_congr Iff.rfl ?_ rfl
  exact congrArg₂ (fun a b : EReal => a * b) (congrArg₂ (fun a b : EReal => a * b) (d_at m c t r l)
    (congrArg (fun a => -Ideal.exp a) (blk2 m c t l))) (congrArg softplus (congrArg₂ (fun a b : EReal => a + b) (blk1 m c t r l) (blk3 m c t l)))

/-- and that of the shift's block too. -/
theorem ddt_at (c : Dev nD) (t : Fin cfg0.N) (xo : Vec Ideal S1x128 .f32) (l : Fin 128) :
    k0_pay1 (daBlk (grid0.coords t) (iblk m c 0 t) (iblk m c 1 t) (iblk m c 2 t) (iblk m c 3 t)) xo (ix2 0 l)
      = xo (ix2 0 l) + ∑ r : Fin 640, daAt (X0 m c) (X1 m c) (X2 m c) (X3 m c) (t.val * 640 + r.val) l :=
  (ddt_apply _ xo l).trans (congrArg (xo (ix2 0 l) + ·) (Finset.sum_congr rfl fun r _ => da_at m c t r l))

/-- What the rate's block holds after point `j`: the sum over the rows so far. -/
theorem dal_acc (c : Dev nD) (j : ℕ) (hj : j < 26) (h : 26 * 0 + j < cfg0.N) (l : Fin 128) :
    (outsAt0 m c (26 * 0 + j) h).2.1 (ix2 0 l)
      = ∑ s ∈ Finset.range (j + 1), ∑ r : Fin 640, dalAt (X0 m c) (X1 m c) (X2 m c) (X3 m c) ((26 * 0 + s) * 640 + r.val) l := by
  refine run_sum (b := 26) (fun n h (l : Fin 128) => (outsAt0 m c n h).2.1 (ix2 0 l))
    (fun n l => ∑ r : Fin 640, dalAt (X0 m c) (X1 m c) (X2 m c) (X3 m c) (n * 640 + r.val) l) ?_ ?_ 0 j hj h l
  · intro n h l hn
    rw [outsAt0_A m c ⟨n, h⟩ hn]
    dsimp only
    rw [dal_first]
    refine (dal_at m c ⟨n, h⟩ _ l).trans ?_
    rw [zero_dal, zero_add]
  · intro n h l hn
    rw [outsAt0_B m c ⟨n + 1, h⟩ hn]
    dsimp only
    rw [dal_later]
    exact dal_at m c ⟨n + 1, h⟩ _ l

/-- The block is the whole array. -/
theorem read5 (t : Fin cfg0.N) (G : S1x128.Idx → EReal) : ((cfg0.win 5).blk t).view.read (Elt Ideal) G = G := by
  funext y
  show G (((cfg0.win 5).blk t).view.emb y) = G y
  congr 1
  funext a
  match a with
  | ⟨0, _⟩ => exact Fin.ext (by show win0_5.index t 0 * 1 + 1 * (y 0).val = (y 0).val; rw [(idx_facts t).2.2.2.2.2.1.1]; omega)
  | ⟨1, _⟩ => exact Fin.ext (by show win0_5.index t 1 * 128 + 1 * (y 1).val = (y 1).val; rw [(idx_facts t).2.2.2.2.2.1.2]; omega)

theorem cut5 (t : Fin cfg0.N) (v : Vec Ideal S1x128 .f32) : (cfg0.win 5).cut (grid0.coords t) v = v := rfl

/-- After the last point it holds the rate's gradient, -/
theorem last5 (c : Dev nD) (n : ℕ) (h : n < cfg0.N) (e : n = 26 * 0 + 25) (y : S1x128.Idx) :
    (outsAt0 m c n h).2.1 y = dalArr (X0 m c) (X1 m c) (X2 m c) (X3 m c) y := by
  subst e
  have hy : y = ix2 0 (y 1) := by
    rw [show (0 : Fin 1) = y 0 from Subsingleton.elim _ _]; exact eq_ix2 y
  unfold dalArr
  rw [← sum_blocks 26 640 16640 rfl (fun r => dalAt (X0 m c) (X1 m c) (X2 m c) (X3 m c) r (y 1))]
  refine (congrArg _ hy).trans ((dal_acc m c 25 (by omega) h (y 1)).trans ?_)
  exact Finset.sum_congr rfl fun s _ => by rw [Nat.mul_zero, Nat.zero_add]

/-- which that point writes back. -/
theorem flushed5_eq (c : Dev nD) (t : Fin cfg0.N) (hf : (cfg0.win 5).flush t = true) :
    (dats m 0 c).flushed 5 t = ((cfg0.win 5).blk t).view.read (Elt Ideal) (dalArr (X0 m c) (X1 m c) (X2 m c) (X3 m c)) := by
  rw [Value.flushed5, cut5]
  exact (funext fun y => last5 m c t.val t.isLt ((flush5 t).1 hf) y).trans (read5 t (dalArr (X0 m c) (X1 m c) (X2 m c) (X3 m c))).symm

theorem mem_blk5 (t : Fin cfg0.N) (i : S1x128.Idx) :
    i ∈ ((cfg0.win 5).blk t).view.set ↔
      ∀ a : Fin 2, win0_5.index t a * S1x128.size a ≤ (i a).val ∧ (i a).val < win0_5.index t a * S1x128.size a + S1x128.size a := by
  show i ∈ ((View.whole main_v0_1).slice (win0_5.rect t)).set ↔ _
  rw [View.set_slice_whole, Rect.mem_set_unit]
  exact Iff.rfl

/-- Every index of the rate's gradient is in the last point's block. -/
theorem covered5 (i : S1x128.Idx) : ∃ t : Fin cfg0.N, (cfg0.win 5).flush t = true ∧ i ∈ ((cfg0.win 5).blk t).view.set := by
  have hi0 : (i 0).val < 1 := (i 0).isLt
  have hi1 : (i 1).val < 128 := (i 1).isLt
  have hN : cfg0.N = 26 := N_0
  refine ⟨⟨25, by omega⟩, (flush5 _).2 rfl, ?_⟩
  rw [mem_blk5]
  intro a
  match a with
  | ⟨0, _⟩ =>
    show win0_5.index _ 0 * 1 ≤ (i 0).val ∧ (i 0).val < win0_5.index _ 0 * 1 + 1
    rw [(idx_facts _).2.2.2.2.2.1.1]; omega
  | ⟨1, _⟩ =>
    show win0_5.index _ 1 * 128 ≤ (i 1).val ∧ (i 1).val < win0_5.index _ 1 * 128 + 128
    rw [(idx_facts _).2.2.2.2.2.1.2]; omega

/-- What the shift's block holds after point `j`: the sum over the rows so far. -/
theorem ddt_acc (c : Dev nD) (j : ℕ) (hj : j < 26) (h : 26 * 0 + j < cfg0.N) (l : Fin 128) :
    (outsAt0 m c (26 * 0 + j) h).2.2 (ix2 0 l)
      = ∑ s ∈ Finset.range (j + 1), ∑ r : Fin 640, daAt (X0 m c) (X1 m c) (X2 m c) (X3 m c) ((26 * 0 + s) * 640 + r.val) l := by
  refine run_sum (b := 26) (fun n h (l : Fin 128) => (outsAt0 m c n h).2.2 (ix2 0 l))
    (fun n l => ∑ r : Fin 640, daAt (X0 m c) (X1 m c) (X2 m c) (X3 m c) (n * 640 + r.val) l) ?_ ?_ 0 j hj h l
  · intro n h l hn
    rw [outsAt0_A m c ⟨n, h⟩ hn]
    dsimp only
    rw [ddt_first]
    refine (ddt_at m c ⟨n, h⟩ _ l).trans ?_
    rw [zero_ddt, zero_add]
  · intro n h l hn
    rw [outsAt0_B m c ⟨n + 1, h⟩ hn]
    dsimp only
    rw [ddt_later]
    exact ddt_at m c ⟨n + 1, h⟩ _ l

/-- The block is the whole array. -/
theorem read6 (t : Fin cfg0.N) (G : S1x128.Idx → EReal) : ((cfg0.win 6).blk t).view.read (Elt Ideal) G = G := by
  funext y
  show G (((cfg0.win 6).blk t).view.emb y) = G y
  congr 1
  funext a
  match a with
  | ⟨0, _⟩ => exact Fin.ext (by show win0_6.index t 0 * 1 + 1 * (y 0).val = (y 0).val; rw [(idx_facts t).2.2.2.2.2.2.1.1]; omega)
  | ⟨1, _⟩ => exact Fin.ext (by show win0_6.index t 1 * 128 + 1 * (y 1).val = (y 1).val; rw [(idx_facts t).2.2.2.2.2.2.1.2]; omega)

theorem cut6 (t : Fin cfg0.N) (v : Vec Ideal S1x128 .f32) : (cfg0.win 6).cut (grid0.coords t) v = v := rfl

/-- After the last point it holds the shift's gradient, -/
theorem last6 (c : Dev nD) (n : ℕ) (h : n < cfg0.N) (e : n = 26 * 0 + 25) (y : S1x128.Idx) :
    (outsAt0 m c n h).2.2 y = ddtArr (X0 m c) (X1 m c) (X2 m c) (X3 m c) y := by
  subst e
  have hy : y = ix2 0 (y 1) := by
    rw [show (0 : Fin 1) = y 0 from Subsingleton.elim _ _]; exact eq_ix2 y
  unfold ddtArr
  rw [← sum_blocks 26 640 16640 rfl (fun r => daAt (X0 m c) (X1 m c) (X2 m c) (X3 m c) r (y 1))]
  refine (congrArg _ hy).trans ((ddt_acc m c 25 (by omega) h (y 1)).trans ?_)
  exact Finset.sum_congr rfl fun s _ => by rw [Nat.mul_zero, Nat.zero_add]

/-- which that point writes back. -/
theorem flushed6_eq (c : Dev nD) (t : Fin cfg0.N) (hf : (cfg0.win 6).flush t = true) :
    (dats m 0 c).flushed 6 t = ((cfg0.win 6).blk t).view.read (Elt Ideal) (ddtArr (X0 m c) (X1 m c) (X2 m c) (X3 m c)) := by
  rw [Value.flushed6, cut6]
  exact (funext fun y => last6 m c t.val t.isLt ((flush6 t).1 hf) y).trans (read6 t (ddtArr (X0 m c) (X1 m c) (X2 m c) (X3 m c))).symm

theorem mem_blk6 (t : Fin cfg0.N) (i : S1x128.Idx) :
    i ∈ ((cfg0.win 6).blk t).view.set ↔
      ∀ a : Fin 2, win0_6.index t a * S1x128.size a ≤ (i a).val ∧ (i a).val < win0_6.index t a * S1x128.size a + S1x128.size a := by
  show i ∈ ((View.whole main_v0_2).slice (win0_6.rect t)).set ↔ _
  rw [View.set_slice_whole, Rect.mem_set_unit]
  exact Iff.rfl

/-- Every index of the shift's gradient is in the last point's block. -/
theorem covered6 (i : S1x128.Idx) : ∃ t : Fin cfg0.N, (cfg0.win 6).flush t = true ∧ i ∈ ((cfg0.win 6).blk t).view.set := by
  have hi0 : (i 0).val < 1 := (i 0).isLt
  have hi1 : (i 1).val < 128 := (i 1).isLt
  have hN : cfg0.N = 26 := N_0
  refine ⟨⟨25, by omega⟩, (flush6 _).2 rfl, ?_⟩
  rw [mem_blk6]
  intro a
  match a with
  | ⟨0, _⟩ =>
    show win0_6.index _ 0 * 1 ≤ (i 0).val ∧ (i 0).val < win0_6.index _ 0 * 1 + 1
    rw [(idx_facts _).2.2.2.2.2.2.1.1]; omega
  | ⟨1, _⟩ =>
    show win0_6.index _ 1 * 128 ≤ (i 1).val ∧ (i 1).val < win0_6.index _ 1 * 128 + 128
    rw [(idx_facts _).2.2.2.2.2.2.1.2]; omega

/-- An index is in a point's block of rows when its row is. -/
theorem mem_blk4 (t : Fin cfg0.N) (i : S16640x128.Idx) :
    i ∈ ((cfg0.win 4).blk t).view.set ↔
      ∀ a : Fin 2, win0_4.index t a * S640x128.size a ≤ (i a).val ∧ (i a).val < win0_4.index t a * S640x128.size a + S640x128.size a := by
  show i ∈ ((View.whole main_v0_0).slice (win0_4.rect t)).set ↔ _
  rw [View.set_slice_whole, Rect.mem_set_unit]
  exact Iff.rfl

/-- Every index of the rows' gradient is in the block of the point that has its row. -/
theorem covered4 (i : S16640x128.Idx) : ∃ t : Fin cfg0.N, (cfg0.win 4).flush t = true ∧ i ∈ ((cfg0.win 4).blk t).view.set := by
  have hi0 : (i 0).val < 16640 := (i 0).isLt
  have hi1 : (i 1).val < 128 := (i 1).isLt
  have hN : cfg0.N = 26 := N_0
  refine ⟨⟨(i 0).val / 640, by omega⟩, flush0_4 _, ?_⟩
  rw [mem_blk4]
  intro a
  match a with
  | ⟨0, _⟩ =>
    show win0_4.index _ 0 * 640 ≤ (i 0).val ∧ (i 0).val < win0_4.index _ 0 * 640 + 640
    rw [(idx_facts _).2.2.2.2.1.1]; dsimp only; omega
  | ⟨1, _⟩ =>
    show win0_4.index _ 1 * 128 ≤ (i 1).val ∧ (i 1).val < win0_4.index _ 1 * 128 + 128
    rw [(idx_facts _).2.2.2.2.1.2]; omega

/-- The three results after the run: the rows' gradient, -/
theorem final4 (c : Dev nD) : (dats m 0 c).arrAt 4 cfg0.N = rowsArr (X0 m c) (X1 m c) (X2 m c) (X3 m c) :=
  (dats m 0 c).arrAt_eq_of_cover 4 _ (fun t _ => flushed4_eq m c t) covered4

/-- the rate's, -/
theorem final5 (c : Dev nD) : (dats m 0 c).arrAt 5 cfg0.N = dalArr (X0 m c) (X1 m c) (X2 m c) (X3 m c) :=
  (dats m 0 c).arrAt_eq_of_cover 5 _ (flushed5_eq m c) covered5

/-- and the shift's. -/
theorem final6 (c : Dev nD) : (dats m 0 c).arrAt 6 cfg0.N = ddtArr (X0 m c) (X1 m c) (X2 m c) (X3 m c) :=
  (dats m 0 c).arrAt_eq_of_cover 6 _ (flushed6_eq m c) covered6

end Cert.GateBwd

end
-- ==== Proof.GateGrad.lean ====
/-
  The reference's side of the gates' gradients, and that on finite arguments the call's three results are the reference's: the
  logistic function is the exponential of a number less its softplus, and the rate comes out of the sum over the rows.
-/
module

public import proofs.«01_k».proof.Proof.GateBwd

@[expose] public section

set_option maxRecDepth 16384

noncomputable section

namespace Cert.GateBwd

open Cert.Kernel14Ideal Cert.Kernel14Ideal.Gen Cert.Blocks Cert.RmsGrad
open Idealize.ShloMosaic Idealize.ShloMosaic.TcCoe Idealize.SL.Sem

/-! ## The reference -/

/-- The gradient's and the rows' columns of a gate, and the shifted rows of the decay's. -/
def refD (x0 : FVec Ideal S16640x128 .f32) : FVec Ideal Cert.Reference14Ideal.S16400x4 .f32 := (extractStridedSlice Cert.Reference14Ideal.S16400x4 ![0, 4] (extractStridedSlice Cert.Reference14Ideal.S16400x128 ![48, 0] x0 Cert.Reference14Ideal.Gen.slices_S16640x128_S16400x128_48_0) Cert.Reference14Ideal.Gen.slices_S16400x128_S16400x4_0_4)
def refB (x0 : FVec Ideal S16640x128 .f32) : FVec Ideal Cert.Reference14Ideal.S16400x4 .f32 := (extractStridedSlice Cert.Reference14Ideal.S16400x4 ![0, 0] (extractStridedSlice Cert.Reference14Ideal.S16400x128 ![48, 0] x0 Cert.Reference14Ideal.Gen.slices_S16640x128_S16400x128_48_0) Cert.Reference14Ideal.Gen.slices_S16400x128_S16400x4_0_0)
def refXs (x1 : FVec Ideal S16640x128 .f32) (x3 : FVec Ideal S1x128 .f32) : FVec Ideal Cert.Reference14Ideal.S16400x4 .f32 :=
  addf (refD x1) (broadcastInDim Cert.Reference14Ideal.S16400x4 ![0, 1] Cert.Reference14Ideal.Gen.bcast_S1x4_S16400x4_0_1 (extractStridedSlice Cert.Reference14Ideal.S1x4 ![0, 4] x3 Cert.Reference14Ideal.Gen.slices_S1x128_S1x4_0_4))

/-- The reference's softplus of an array, -/
def refSp (y : FVec Ideal Cert.Reference14Ideal.S16400x4 .f32) : FVec Ideal Cert.Reference14Ideal.S16400x4 .f32 :=
  select (cmpf .une (subf y (broadcastInDim Cert.Reference14Ideal.S16400x4 ![] Cert.Reference14Ideal.Gen.bcast_S_S16400x4 (constant Cert.Reference14Ideal.S_ .f32 0x00000000#32))) (subf y (broadcastInDim Cert.Reference14Ideal.S16400x4 ![] Cert.Reference14Ideal.Gen.bcast_S_S16400x4 (constant Cert.Reference14Ideal.S_ .f32 0x00000000#32)))) (addf y (broadcastInDim Cert.Reference14Ideal.S16400x4 ![] Cert.Reference14Ideal.Gen.bcast_S_S16400x4 (constant Cert.Reference14Ideal.S_ .f32 0x00000000#32))) (addf (maximumf y (broadcastInDim Cert.Reference14Ideal.S16400x4 ![] Cert.Reference14Ideal.Gen.bcast_S_S16400x4 (constant Cert.Reference14Ideal.S_ .f32 0x00000000#32))) (Host.log1p (Host.exp (Host.negf (Host.absf (subf y (broadcastInDim Cert.Reference14Ideal.S16400x4 ![] Cert.Reference14Ideal.Gen.bcast_S_S16400x4 (constant Cert.Reference14Ideal.S_ .f32 0x00000000#32))))))))

/-- and its derivative, the exponential of the array less its softplus. -/
def refSlope (y s : FVec Ideal Cert.Reference14Ideal.S16400x4 .f32) : FVec Ideal Cert.Reference14Ideal.S16400x4 .f32 :=
  Host.exp (subf (select (cmpf .oeq y (broadcastInDim Cert.Reference14Ideal.S16400x4 ![] Cert.Reference14Ideal.Gen.bcast_S_S16400x4 (constant Cert.Reference14Ideal.S_ .f32 0x7F800000#32))) (broadcastInDim Cert.Reference14Ideal.S16400x4 ![] Cert.Reference14Ideal.Gen.bcast_S_S16400x4 (constant Cert.Reference14Ideal.S_ .f32 0x00000000#32)) y) (select (cmpf .oeq s (broadcastInDim Cert.Reference14Ideal.S16400x4 ![] Cert.Reference14Ideal.Gen.bcast_S_S16400x4 (constant Cert.Reference14Ideal.S_ .f32 0x7F800000#32))) (broadcastInDim Cert.Reference14Ideal.S16400x4 ![] Cert.Reference14Ideal.Gen.bcast_S_S16400x4 (constant Cert.Reference14Ideal.S_ .f32 0x00000000#32)) s))

/-- The reference's gradient through the decay, -/
def refDa (x0 x1 : FVec Ideal S16640x128 .f32) (x2 x3 : FVec Ideal S1x128 .f32) : FVec Ideal Cert.Reference14Ideal.S16400x4 .f32 :=
  mulf (mulf (broadcastInDim Cert.Reference14Ideal.S16400x4 ![0, 1] Cert.Reference14Ideal.Gen.bcast_S1x4_S16400x4_0_1 (Host.negf (Host.exp (extractStridedSlice Cert.Reference14Ideal.S1x4 ![0, 4] x2 Cert.Reference14Ideal.Gen.slices_S1x128_S1x4_0_4)))) (refD x0)) (refSlope (refXs x1 x3) (refSp (refXs x1 x3)))

/-- its logistic function of the other gate, -/
def refBeta (x1 : FVec Ideal S16640x128 .f32) : FVec Ideal Cert.Reference14Ideal.S16400x4 .f32 :=
  Host.divf (broadcastInDim Cert.Reference14Ideal.S16400x4 ![] Cert.Reference14Ideal.Gen.bcast_S_S16400x4 (constant Cert.Reference14Ideal.S_ .f32 0x3F800000#32)) (addf (broadcastInDim Cert.Reference14Ideal.S16400x4 ![] Cert.Reference14Ideal.Gen.bcast_S_S16400x4 (constant Cert.Reference14Ideal.S_ .f32 0x3F800000#32)) (Host.exp (Host.negf (refB x1))))

/-- and its three results. -/
def refRows (x0 x1 : FVec Ideal S16640x128 .f32) (x2 x3 : FVec Ideal S1x128 .f32) : FVec Ideal S16640x128 .bf16 :=
  truncf .bf16 (pad S16640x128 ![48, 0] ![192, 0] ![0, 0] (addf (pad Cert.Reference14Ideal.S16400x128 ![0, 4] ![0, 120] ![0, 0] (refDa x0 x1 x2 x3) (constant Cert.Reference14Ideal.S_ .f32 0x00000000#32) Cert.Reference14Ideal.Gen.pads_S16400x4_S16400x128_000_41200 Cert.Reference14Ideal.Gen.h_S_) (pad Cert.Reference14Ideal.S16400x128 ![0, 0] ![0, 124] ![0, 0] (mulf (refB x0) (mulf (refBeta x1) (subf (broadcastInDim Cert.Reference14Ideal.S16400x4 ![] Cert.Reference14Ideal.Gen.bcast_S_S16400x4 (constant Cert.Reference14Ideal.S_ .f32 0x3F800000#32)) (refBeta x1)))) (constant Cert.Reference14Ideal.S_ .f32 0x00000000#32) Cert.Reference14Ideal.Gen.pads_S16400x4_S16400x128_000_01240 Cert.Reference14Ideal.Gen.h_S_)) (constant Cert.Reference14Ideal.S_ .f32 0x00000000#32) Cert.Reference14Ideal.Gen.pads_S16400x128_S16640x128_481920_000 Cert.Reference14Ideal.Gen.h_S_) Cert.Reference14Ideal.Gen.bitsLt_bf16_f32
def refDal (x0 x1 : FVec Ideal S16640x128 .f32) (x2 x3 : FVec Ideal S1x128 .f32) : FVec Ideal S1x128 .f32 :=
  pad S1x128 ![0, 4] ![0, 120] ![0, 0] (mulf (Host.negf (shapeCast Cert.Reference14Ideal.S1x4 (Host.reduceAdd (mulf (refD x0) (refSp (refXs x1 x3))) (constant Cert.Reference14Ideal.S_ .f32 0x00000000#32) Cert.Reference14Ideal.Gen.reducesTo_S16400x4_S4_d0 Cert.Reference14Ideal.Gen.h_S_) Cert.Reference14Ideal.Gen.shapeCasts_S4_S1x4)) (Host.exp (extractStridedSlice Cert.Reference14Ideal.S1x4 ![0, 4] x2 Cert.Reference14Ideal.Gen.slices_S1x128_S1x4_0_4))) (sitofp .f32 (constantI Cert.Reference14Ideal.S_ 32 0#32)) Cert.Reference14Ideal.Gen.pads_S1x4_S1x128_000_41200 Cert.Reference14Ideal.Gen.h_S_
def refDdt (x0 x1 : FVec Ideal S16640x128 .f32) (x2 x3 : FVec Ideal S1x128 .f32) : FVec Ideal S1x128 .f32 :=
  pad S1x128 ![0, 4] ![0, 120] ![0, 0] (shapeCast Cert.Reference14Ideal.S1x4 (Host.reduceAdd (refDa x0 x1 x2 x3) (constant Cert.Reference14Ideal.S_ .f32 0x00000000#32) Cert.Reference14Ideal.Gen.reducesTo_S16400x4_S4_d0 Cert.Reference14Ideal.Gen.h_S_) Cert.Reference14Ideal.Gen.shapeCasts_S4_S1x4) (sitofp .f32 (constantI Cert.Reference14Ideal.S_ 32 0#32)) Cert.Reference14Ideal.Gen.pads_S1x4_S1x128_000_41200 Cert.Reference14Ideal.Gen.h_S_

/-- The elements of the columns of the two gates. -/
theorem refD_apply (x0 : FVec Ideal S16640x128 .f32) (r : Fin 16400) (k : Fin 4) :
    refD x0 (ix2 r k) = at2 x0 (48 + r.val) (4 + k.val) := by
  unfold refD
  pointwise
  exact at2_idx x0 _ _ _ rfl rfl

theorem refB_apply (x0 : FVec Ideal S16640x128 .f32) (r : Fin 16400) (k : Fin 4) :
    refB x0 (ix2 r k) = at2 x0 (48 + r.val) k.val := by
  unfold refB
  pointwise
  exact at2_idx x0 _ _ _ rfl rfl

theorem refXs_apply (x1 : FVec Ideal S16640x128 .f32) (x3 : FVec Ideal S1x128 .f32) (r : Fin 16400) (k : Fin 4) :
    refXs x1 x3 (ix2 r k) = at2 x1 (48 + r.val) (4 + k.val) + at2 x3 0 (4 + k.val) := by
  rw [← refD_apply]
  unfold refXs
  generalize refD x1 = e
  pointwise
  exact congrArg (e (ix2 r k) + ·) (at2_idx x3 _ _ _ rfl rfl)

/-- The reference's softplus is the call's, -/
theorem refSp_apply (y : FVec Ideal Cert.Reference14Ideal.S16400x4 .f32) (r : Fin 16400) (k : Fin 4) : refSp y (ix2 r k) = softplus (y (ix2 r k)) := by
  unfold refSp softplus
  pointwise
  rw [if_neg (fun h => h rfl)]
  rfl

/-- and its slope at a real the exponential of the difference. -/
theorem refSlope_apply (y s : FVec Ideal Cert.Reference14Ideal.S16400x4 .f32) (r : Fin 16400) (k : Fin 4) (hy : ∃ a : ℝ, y (ix2 r k) = a) (hs : ∃ a : ℝ, s (ix2 r k) = a) :
    refSlope y s (ix2 r k) = Ideal.exp (y (ix2 r k) - s (ix2 r k)) := by
  obtain ⟨a, ha⟩ := hy
  obtain ⟨b, hb⟩ := hs
  unfold refSlope
  pointwise
  rw [Finite.ofBits_inf_f32, ha, hb, if_neg (EReal.coe_ne_top a), if_neg (EReal.coe_ne_top b)]

theorem refBeta_apply (x1 : FVec Ideal S16640x128 .f32) (r : Fin 16400) (k : Fin 4) :
    refBeta x1 (ix2 r k) = logi (at2 x1 (48 + r.val) k.val) := by
  rw [← refB_apply]
  unfold refBeta logi
  generalize refB x1 = e
  pointwise

theorem refDa_apply (x0 x1 : FVec Ideal S16640x128 .f32) (x2 x3 : FVec Ideal S1x128 .f32) (r : Fin 16400) (k : Fin 4) :
    refDa x0 x1 x2 x3 (ix2 r k) = -Ideal.exp (at2 x2 0 (4 + k.val)) * at2 x0 (48 + r.val) (4 + k.val)
      * refSlope (refXs x1 x3) (refSp (refXs x1 x3)) (ix2 r k) := by
  rw [← refD_apply]
  unfold refDa
  generalize refSlope (refXs x1 x3) (refSp (refXs x1 x3)) = e
  generalize refD x0 = d
  pointwise
  exact congrArg (fun a => -Ideal.exp a * d (ix2 r k) * e (ix2 r k)) (at2_idx x2 _ _ _ rfl rfl)

/-- The reference's three results at an index: zero outside the gates' columns and the sequence's rows. -/
theorem refRows_apply (x0 x1 : FVec Ideal S16640x128 .f32) (x2 x3 : FVec Ideal S1x128 .f32) (r : Fin 16640) (k : Fin 128) :
    refRows x0 x1 x2 x3 (ix2 r k) = if h : 48 ≤ r.val ∧ r.val - 48 < 16400 then
      (if h1 : r.val - 48 < 16400 ∧ 4 ≤ k.val ∧ k.val - 4 < 4 then refDa x0 x1 x2 x3 (ix2 ⟨r.val - 48, h.2⟩ ⟨k.val - 4, h1.2.2⟩) else 0)
      + (if h1 : r.val - 48 < 16400 ∧ k.val < 4 then refB x0 (ix2 ⟨r.val - 48, h.2⟩ ⟨k.val, h1.2⟩)
          * (refBeta x1 (ix2 ⟨r.val - 48, h.2⟩ ⟨k.val, h1.2⟩) * (1 - refBeta x1 (ix2 ⟨r.val - 48, h.2⟩ ⟨k.val, h1.2⟩))) else 0)
      else 0 := by
  unfold refRows
  generalize refDa x0 x1 x2 x3 = e
  generalize refBeta x1 = b
  generalize refB x0 = d
  pointwise

theorem sitofp_zero : (FloatOps.sitofp (F := Ideal) FTy.f32 0#32 : EReal) = 0 := by
  show (((0#32).toInt : ℝ) : EReal) = 0
  simp

theorem refDal_apply (x0 x1 : FVec Ideal S16640x128 .f32) (x2 x3 : FVec Ideal S1x128 .f32) (k : Fin 128) :
    refDal x0 x1 x2 x3 (ix2 0 k) = if h : 4 ≤ k.val ∧ k.val - 4 < 4 then
      (-∑ r : Fin 16400, refD x0 (ix2 r ⟨k.val - 4, h.2⟩) * refSp (refXs x1 x3) (ix2 r ⟨k.val - 4, h.2⟩)) * Ideal.exp (at2 x2 0 k.val) else 0 := by
  unfold refDal
  generalize refSp (refXs x1 x3) = e
  generalize refD x0 = d
  pointwise
  split_ifs with h
  · refine congrArg (fun a => (-∑ r : Fin 16400, d (ix2 r ⟨k.val - 4, h.2⟩) * e (ix2 r ⟨k.val - 4, h.2⟩)) * Ideal.exp a) ?_
    exact at2_idx x2 _ _ _ rfl (Nat.add_sub_cancel' h.1)
  · exact sitofp_zero

theorem refDdt_apply (x0 x1 : FVec Ideal S16640x128 .f32) (x2 x3 : FVec Ideal S1x128 .f32) (k : Fin 128) :
    refDdt x0 x1 x2 x3 (ix2 0 k) = if h : 4 ≤ k.val ∧ k.val - 4 < 4 then
      ∑ r : Fin 16400, refDa x0 x1 x2 x3 (ix2 r ⟨k.val - 4, h.2⟩) else 0 := by
  unfold refDdt
  generalize refDa x0 x1 x2 x3 = e
  pointwise
  split_ifs with h
  · rfl
  · exact sitofp_zero

/-! ## The two sides meet -/

/-- The softplus and the logistic function of a real. -/
theorem softplus_coe (x : ℝ) : softplus (x : EReal) = ((max x 0 + Real.log (1 + Real.exp (-(max x (-x)))) : ℝ) : EReal) := by
  have hp : ¬(1 + Real.exp (-(max x (-x))) ≤ 0) := not_le.2 (by positivity)
  have h1 : max (x : EReal) (-(x : EReal)) = ((max x (-x) : ℝ) : EReal) := by
    rw [← EReal.coe_neg]; exact (EReal.coe_strictMono.monotone.map_max).symm
  have h2 : max (x : EReal) 0 = ((max x 0 : ℝ) : EReal) := by
    rw [← EReal.coe_zero]; exact (EReal.coe_strictMono.monotone.map_max).symm
  unfold softplus
  rw [h1, h2, ← EReal.coe_neg, Ideal.exp_coe, ← EReal.coe_one, ← EReal.coe_add, Ideal.log_coe, if_neg hp, ← EReal.coe_add]

theorem logi_coe (x : ℝ) : logi (x : EReal) = ((1 / (1 + Real.exp (-x)) : ℝ) : EReal) := by
  have hp : (0 : ℝ) < 1 + Real.exp (-x) := by positivity
  unfold logi
  rw [← EReal.coe_neg, Ideal.exp_coe, ← EReal.coe_one, ← EReal.coe_add, Ideal.div_coe hp.ne', ← EReal.coe_mul, one_mul]

/-- The exponential of a real less its softplus is the logistic function. -/
theorem slope_eq (x : ℝ) : Ideal.exp ((x : EReal) - softplus (x : EReal)) = logi (x : EReal) := by
  rw [softplus_coe, logi_coe, ← EReal.coe_sub, Ideal.exp_coe]
  congr 1
  rw [Real.exp_sub, Real.exp_add, Real.exp_log (by positivity)]
  rcases le_total 0 x with h | h
  · rw [max_eq_left h, max_eq_left (by linarith), Real.exp_neg]
    have := Real.exp_pos x
    field_simp
  · rw [max_eq_right h, max_eq_right (by linarith), neg_neg, Real.exp_zero, Real.exp_neg]
    have := Real.exp_pos x
    field_simp
    ring

theorem at2_real {a b : ℕ} (X : (⟨2, ![a, b]⟩ : Shape).Idx → EReal) (hX : ∀ i, ∃ r : ℝ, X i = r) (r k : ℕ) :
    ∃ v : ℝ, at2 X r k = v := by
  unfold at2
  split_ifs
  · exact hX _
  · exact ⟨0, rfl⟩

/-- On finite rows and shift the reference's gradient through the decay is the call's. -/
theorem refDa_eq (x0 x1 : FVec Ideal S16640x128 .f32) (x2 x3 : FVec Ideal S1x128 .f32)
    (f1 : ∀ i, ∃ r : ℝ, x1 i = r) (f3 : ∀ i, ∃ r : ℝ, x3 i = r) (r : Fin 16400) (k : Fin 4) (l : Fin 128) (hl : l.val = 4 + k.val) :
    refDa x0 x1 x2 x3 (ix2 r k) = daAt x0 x1 x2 x3 (48 + r.val) l := by
  obtain ⟨a, ha⟩ := at2_real x1 f1 (48 + r.val) (4 + k.val)
  obtain ⟨b, hb⟩ := at2_real x3 f3 0 (4 + k.val)
  have hx : refXs x1 x3 (ix2 r k) = ((a + b : ℝ) : EReal) := by rw [refXs_apply, ha, hb, EReal.coe_add]
  rw [refDa_apply, refSlope_apply _ _ _ _ ⟨_, hx⟩ ⟨_, by rw [refSp_apply, hx, softplus_coe]⟩, refSp_apply, hx, slope_eq]
  unfold daAt dAt rateAt xsAt
  rw [if_pos ⟨by omega, by omega⟩, if_pos ⟨by omega, by omega⟩, hl, ha, hb, EReal.coe_add,
    mul_comm (-Ideal.exp (at2 x2 0 (4 + k.val)))]

theorem dAt_out (x0 : FVec Ideal S16640x128 .f32) (r : ℕ) (k : Fin 128) (h : ¬(48 ≤ r ∧ r < 16448)) : dAt x0 r k = 0 := if_neg h

/-- On finite arguments the call's rows are the reference's, -/
theorem rows_eq (x0 x1 : FVec Ideal S16640x128 .f32) (x2 x3 : FVec Ideal S1x128 .f32)
    (f1 : ∀ i, ∃ r : ℝ, x1 i = r) (f3 : ∀ i, ∃ r : ℝ, x3 i = r) : rowsArr x0 x1 x2 x3 = refRows x0 x1 x2 x3 := by
  have key : ∀ (r : Fin 16640) (k : Fin 128), rowsArr x0 x1 x2 x3 (ix2 r k) = refRows x0 x1 x2 x3 (ix2 r k) := by
    intro r k
    rw [refRows_apply]
    show rowAt x0 x1 x2 x3 r.val k = _
    unfold rowAt
    split_ifs with hk hr h1 h2 hr h1 h2 <;> try omega
    · rw [refB_apply, refBeta_apply, zero_add]
      unfold dAt
      dsimp only
      rw [if_pos ⟨by omega, by omega⟩, show 48 + (r.val - 48) = r.val by omega, mul_assoc]
    · rw [dAt_out _ _ _ (by omega), zero_mul, zero_mul]
    · rw [refDa_eq x0 x1 x2 x3 f1 f3 _ _ k (by dsimp only; omega), add_zero]
      dsimp only
      rw [show 48 + (r.val - 48) = r.val by omega]
    · unfold daAt
      rw [if_neg (by omega), add_zero]
    · unfold daAt
      rw [dAt_out _ _ _ (by omega), zero_mul, zero_mul, ite_self]
  exact funext fun i => (congrArg _ (eq_ix2 i)).trans ((key (i 0) (i 1)).trans (congrArg _ (eq_ix2 i)).symm)

/-- A sum over the padded rows of numbers that are zero outside the sequence is the sum over the sequence. -/
theorem sum_window (q : ℕ → EReal) (h0 : ∀ n, n < 48 → q n = 0) (h1 : ∀ n, 16448 ≤ n → q n = 0) :
    ∑ r : Fin 16640, q r.val = ∑ r : Fin 16400, q (48 + r.val) := by
  rw [← Finset.sum_range, ← Finset.sum_range (fun n => q (48 + n)), show 16640 = 48 + 16400 + 192 from rfl,
    Finset.sum_range_add, Finset.sum_range_add, Finset.sum_eq_zero (fun n hn => h0 n (Finset.mem_range.1 hn)),
    Finset.sum_eq_zero (fun n _ => h1 (48 + 16400 + n) (by omega)), zero_add, add_zero]

/-- the shift's gradient is the reference's, -/
theorem ddt_eq (x0 x1 : FVec Ideal S16640x128 .f32) (x2 x3 : FVec Ideal S1x128 .f32)
    (f1 : ∀ i, ∃ r : ℝ, x1 i = r) (f3 : ∀ i, ∃ r : ℝ, x3 i = r) : ddtArr x0 x1 x2 x3 = refDdt x0 x1 x2 x3 := by
  have hz : ∀ n k, ¬(48 ≤ n ∧ n < 16448) → daAt x0 x1 x2 x3 n k = 0 := fun n k h => by
    unfold daAt
    rw [dAt_out _ _ _ h, zero_mul, zero_mul, ite_self]
  have key : ∀ k : Fin 128, ddtArr x0 x1 x2 x3 (ix2 0 k) = refDdt x0 x1 x2 x3 (ix2 0 k) := by
    intro k
    rw [refDdt_apply]
    refine (sum_window (fun n => daAt x0 x1 x2 x3 n k) (fun n h => hz n k (by omega)) (fun n h => hz n k (by omega))).trans ?_
    split_ifs with h
    · exact Finset.sum_congr rfl fun r _ => (refDa_eq x0 x1 x2 x3 f1 f3 r ⟨k.val - 4, h.2⟩ k (by dsimp only; omega)).symm
    · exact Finset.sum_eq_zero fun r _ => if_neg (by omega)
  exact funext fun i => by
    have hi : i = ix2 0 (i 1) := by
      rw [show (0 : Fin 1) = i 0 from Subsingleton.elim _ _]; exact eq_ix2 i
    exact (congrArg _ hi).trans ((key (i 1)).trans (congrArg _ hi).symm)

/-- and so is the rate's. -/
theorem dal_eq (x0 x1 : FVec Ideal S16640x128 .f32) (x2 x3 : FVec Ideal S1x128 .f32) (f0 : ∀ i, ∃ r : ℝ, x0 i = r)
    (f1 : ∀ i, ∃ r : ℝ, x1 i = r) (f2 : ∀ i, ∃ r : ℝ, x2 i = r) (f3 : ∀ i, ∃ r : ℝ, x3 i = r) : dalArr x0 x1 x2 x3 = refDal x0 x1 x2 x3 := by
  have hz : ∀ n k, ¬(48 ≤ n ∧ n < 16448) → dalAt x0 x1 x2 x3 n k = 0 := fun n k h => by
    unfold dalAt
    rw [dAt_out _ _ _ h, zero_mul, zero_mul, ite_self]
  have key : ∀ k : Fin 128, dalArr x0 x1 x2 x3 (ix2 0 k) = refDal x0 x1 x2 x3 (ix2 0 k) := by
    intro k
    rw [refDal_apply]
    refine (sum_window (fun n => dalAt x0 x1 x2 x3 n k) (fun n h => hz n k (by omega)) (fun n h => hz n k (by omega))).trans ?_
    split_ifs with h
    · choose a ha using fun r : Fin 16400 => at2_real x0 f0 (48 + r.val) k.val
      choose b hb using fun r : Fin 16400 => at2_real x1 f1 (48 + r.val) k.val
      obtain ⟨p, hp⟩ := at2_real x2 f2 0 k.val
      obtain ⟨s, hs⟩ := at2_real x3 f3 0 k.val
      have hk : 4 + (k.val - 4) = k.val := by omega
      choose y hy using fun r : Fin 16400 => (⟨_, softplus_coe (b r + s)⟩ : ∃ y : ℝ, softplus ((b r + s : ℝ) : EReal) = y)
      have hl : ∀ r : Fin 16400, dalAt x0 x1 x2 x3 (48 + r.val) k = ((a r * -Real.exp p * y r : ℝ) : EReal) := fun r => by
        unfold dalAt dAt rateAt xsAt
        rw [if_pos ⟨by omega, by omega⟩, if_pos ⟨by omega, by omega⟩, ha, hb, hp, hs, ← EReal.coe_add, hy, Ideal.exp_coe,
          ← EReal.coe_neg, ← EReal.coe_mul, ← EReal.coe_mul]
      have hr : ∀ r : Fin 16400, refD x0 (ix2 r ⟨k.val - 4, h.2⟩) * refSp (refXs x1 x3) (ix2 r ⟨k.val - 4, h.2⟩) = ((a r * y r : ℝ) : EReal) := fun r => by
        rw [refD_apply, refSp_apply, refXs_apply]
        dsimp only
        rw [hk, ha, hb, hs, ← EReal.coe_add, hy, ← EReal.coe_mul]
      rw [Finset.sum_congr rfl fun r _ => hl r, Finset.sum_congr rfl fun r _ => hr r, coe_sum, coe_sum, hp, Ideal.exp_coe,
        ← EReal.coe_neg, ← EReal.coe_mul]
      refine congrArg (fun a : ℝ => (a : EReal)) ?_
      rw [← Finset.sum_neg_distrib, Finset.sum_mul]
      exact Finset.sum_congr rfl fun r _ => by ring
    · exact Finset.sum_eq_zero fun r _ => if_neg (by omega)
  exact funext fun i => by
    have hi : i = ix2 0 (i 1) := by
      rw [show (0 : Fin 1) = i 0 from Subsingleton.elim _ _]; exact eq_ix2 i
    exact (congrArg _ hi).trans ((key (i 1)).trans (congrArg _ hi).symm)

instance : Subsingleton Cert.Pre_finite_gates.S_.Idx := ⟨fun _ _ => funext fun a => a.elim0⟩

/-- The precondition says that every element of the arguments is a real. -/
theorem finite_args [Cert.Pre_finite_gates.Facts] (x0 x1 : FVec Ideal S16640x128 .f32) (x2 x3 : FVec Ideal S1x128 .f32)
    (h : Cert.Pre_finite_gates.fn (F := Ideal) x0 x1 x2 x3 = fun _ => 1#1) :
    (∀ i, ∃ r : ℝ, x0 i = r) ∧ (∀ i, ∃ r : ℝ, x1 i = r) ∧ (∀ i, ∃ r : ℝ, x2 i = r) ∧ ∀ i, ∃ r : ℝ, x3 i = r := by
  have h' := congrFun h (fun a => a.elim0)
  dsimp only [Cert.Pre_finite_gates.fn, Cert.Pre_finite_gates.fn_part1] at h'
  obtain ⟨h', e3⟩ := IntOp.andi_eq_one.1 h'
  obtain ⟨h', e2⟩ := IntOp.andi_eq_one.1 h'
  obtain ⟨e0, e1⟩ := IntOp.andi_eq_one.1 h'
  refine ⟨fun i => ?_, fun i => ?_, fun i => ?_, fun i => ?_⟩
  · have := Host.reduce_andi_all _ _ _ _ _ e0 i
    exact Finite.real_of_lt_top _ (by rw [← Finite.ofBits_inf_f32]; exact this)
  · have := Host.reduce_andi_all _ _ _ _ _ e1 i
    exact Finite.real_of_lt_top _ (by rw [← Finite.ofBits_inf_f32]; exact this)
  · have := Host.reduce_andi_all _ _ _ _ _ e2 i
    exact Finite.real_of_lt_top _ (by rw [← Finite.ofBits_inf_f32]; exact this)
  · have := Host.reduce_andi_all _ _ _ _ _ e3 i
    exact Finite.real_of_lt_top _ (by rw [← Finite.ofBits_inf_f32]; exact this)

end Cert.GateBwd

end
-- ==== Proof.ProjGateDx.lean ====
/-
  The part of the gradient of the normalised rows that comes through the gates, `dpg · wᵀ`: the call multiplies 13 blocks of 1280 rows, one per grid
  point, each contracted whole; the reference multiplies all rows at once. Over the extended reals each element is the
  same sum.
-/
module

public import proofs.«01_k».proof.Proof.Blocks
public import proofs.«01_k».proof.Proof.Gen.Kernel23Ideal.Value
public import proofs.«01_k».proof.Proof.Gen.Reference23Ideal.Run

@[expose] public section

set_option maxRecDepth 16384

noncomputable section

namespace Cert.ProjGateDx

open Cert.Kernel23Ideal Cert.Kernel23Ideal.Gen Cert.Blocks
open Idealize.ShloMosaic Idealize.ShloMosaic.TcCoe Idealize.SL.Sem

variable (m : (ℓ : Loc nD τ sig) → Buf (Elt Ideal) ℓ) (ρ : Dev nD → PrngReg)

/-- What the body leaves in its block: its payload of the two input blocks. -/
theorem out_eq (x0 : Vec Ideal S1280x128 .bf16) (x1 : Vec Ideal S1024x128 .bf16) : out0_2 x0 x1 = k0_pay1 x0 x1 := by
  unfold out0_2
  rw [View.canon_unit_zero (S := S1280x1024) hz, View.ld_unit_zero (S := S1280x128) hz, View.ld_unit_zero (S := S1024x128) hz]

/-- The payload at an index: the block product. -/
theorem product_apply (x0 : Vec Ideal S1280x128 .bf16) (x1 : Vec Ideal S1024x128 .bf16) (r : Fin 1280) (l : Fin 1024) :
    k0_pay1 x0 x1 (ix2 r l) = ∑ k : Fin 128, x0 (ix2 r k) * x1 (ix2 l k) := by
  pointwise [k0_pay1]

/-- The windows' block indices at a grid point: block `t` of the rows, the weight whole. -/
theorem idx_facts : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0) :=
  (by decide +kernel : ∀ t : Fin grid0.N, _)

/-- The arguments as arrays of extended reals. -/
abbrev X0 (c : Dev nD) : S16640x128.Idx → EReal := m ((c : Thread nD τ).loc main_arg0)
abbrev X1 (c : Dev nD) : S1024x128.Idx → EReal := m ((c : Thread nD τ).loc main_arg1)

theorem blk0 (c : Dev nD) (t : Fin cfg0.N) (r : Fin 1280) (k : Fin 128) :
    (iblk m c 0 t : Vec Ideal S1280x128 .bf16) (ix2 r k) = at2 (X0 m c) (t.val * 1280 + r.val) k.val := by
  unfold iblk
  rw [View.read_apply]
  refine at2_idx (X0 m c) _ _ _ ?_ ?_
  · show win0_0.index t 0 * 1280 + 1 * r.val = _; rw [(idx_facts t).1.1, one_mul]
  · show win0_0.index t 1 * 128 + 1 * k.val = _; rw [(idx_facts t).1.2, zero_mul, zero_add, one_mul]

theorem blk1 (c : Dev nD) (t : Fin cfg0.N) (l : Fin 1024) (k : Fin 128) :
    (iblk m c 1 t : Vec Ideal S1024x128 .bf16) (ix2 l k) = at2 (X1 m c) l.val k.val := by
  unfold iblk
  rw [View.read_apply]
  refine at2_idx (X1 m c) _ _ _ ?_ ?_
  · show win0_1.index t 0 * 1024 + 1 * l.val = _; rw [(idx_facts t).2.1.1, zero_mul, zero_add, one_mul]
  · show win0_1.index t 1 * 128 + 1 * k.val = _; rw [(idx_facts t).2.1.2, zero_mul, zero_add, one_mul]

/-! ## The reference -/

/-- The reference's term of the two arguments. -/
def ref (x0 : Vec Ideal S16640x128 .bf16) (x1 : Vec Ideal S1024x128 .bf16) : FVec Ideal S16640x1024 .f32 :=
  Host.dotGeneral (φ₁ := .f32) (φ₂ := .f32) Cert.Reference23Ideal.dot_S16640x128_S1024x128_S16640x1024_1_1_0_0_n_n none (extf .f32 x0 Cert.Reference23Ideal.Gen.bitsLt_bf16_f32)
    (extf .f32 x1 Cert.Reference23Ideal.Gen.bitsLt_bf16_f32)

/-- It is, at each index, the row of the first with the row of the second. -/
theorem ref_apply (x0 : Vec Ideal S16640x128 .bf16) (x1 : Vec Ideal S1024x128 .bf16) (i : S16640x1024.Idx) :
    ref x0 x1 i = ∑ k : Fin 128, at2 x0 (i 0).val k.val * at2 x1 (i 1).val k.val := by
  unfold ref
  pointwise
  exact Finset.sum_congr rfl fun k _ => congrArg₂ (· * ·) (at2_idx _ _ _ _ rfl rfl) (at2_idx _ _ _ _ rfl rfl)

/-! ## The result -/

/-- What a grid point writes back is its block of the reference's term. -/
theorem flushed_eq (c : Dev nD) (t : Fin cfg0.N) :
    (dats m 0 c).flushed 2 t = ((cfg0.win 2).blk t).view.read (Elt Ideal) (ref (X0 m c) (X1 m c)) := by
  rw [Value.flushed2, out_eq]
  funext y
  show k0_pay1 (iblk m c 0 t) (iblk m c 1 t) y = ref (X0 m c) (X1 m c) (((cfg0.win 2).blk t).view.emb y)
  rw [ref_apply, show (((cfg0.win 2).blk t).view.emb y 0).val = t.val * 1280 + (y 0).val from by
      show win0_2.index t 0 * 1280 + 1 * (y 0).val = _; rw [(idx_facts t).2.2.1, one_mul],
    show (((cfg0.win 2).blk t).view.emb y 1).val = (y 1).val from by
      show win0_2.index t 1 * 1024 + 1 * (y 1).val = _; rw [(idx_facts t).2.2.2, zero_mul, zero_add, one_mul]]
  refine (congrArg (k0_pay1 (iblk m c 0 t) (iblk m c 1 t)) (eq_ix2 y)).trans ((product_apply _ _ (y 0) (y 1)).trans ?_)
  exact Finset.sum_congr rfl fun k _ => congrArg₂ (· * ·) (blk0 m c t (y 0) k) (blk1 m c t (y 1) k)

/-- An index is in a point's block when each of its coordinates is in the block's range. -/
theorem mem_blk (t : Fin cfg0.N) (i : S16640x1024.Idx) :
    i ∈ ((cfg0.win 2).blk t).view.set ↔
      ∀ a : Fin 2, win0_2.index t a * S1280x1024.size a ≤ (i a).val ∧ (i a).val < win0_2.index t a * S1280x1024.size a + S1280x1024.size a := by
  show i ∈ ((View.whole main_v0).slice (win0_2.rect t)).set ↔ _
  rw [View.set_slice_whole, Rect.mem_set_unit]
  exact Iff.rfl

/-- Every index of the result is in the block of the point that has its row. -/
theorem covered (i : S16640x1024.Idx) :
    ∃ t : Fin cfg0.N, (cfg0.win 2).flush t = true ∧ i ∈ ((cfg0.win 2).blk t).view.set := by
  have hi0 : (i 0).val < 16640 := (i 0).isLt
  have hi1 : (i 1).val < 1024 := (i 1).isLt
  have hN : cfg0.N = 13 := N_0
  refine ⟨⟨(i 0).val / 1280, by omega⟩, flush0_2 _, ?_⟩
  rw [mem_blk]
  intro a
  match a with
  | ⟨0, _⟩ =>
    show win0_2.index _ 0 * 1280 ≤ (i 0).val ∧ (i 0).val < win0_2.index _ 0 * 1280 + 1280
    rw [(idx_facts _).2.2.1]; dsimp only; omega
  | ⟨1, _⟩ =>
    show win0_2.index _ 1 * 1024 ≤ (i 1).val ∧ (i 1).val < win0_2.index _ 1 * 1024 + 1024
    rw [(idx_facts _).2.2.2]; omega

/-- The result after the run is the reference's term of the arguments. -/
theorem final (c : Dev nD) : (dats m 0 c).arrAt 2 cfg0.N = ref (X0 m c) (X1 m c) :=
  (dats m 0 c).arrAt_eq_of_cover 2 _ (fun t _ => flushed_eq m c t) covered

end Cert.ProjGateDx

end
-- ==== Proof.ProjGateDw.lean ====
/-
  The gradient of the weight of the gates' projection, `norm(h)ᵀ · dpg`: the call normalises 1280 rows
  at a time, adds their product to an accumulator over 13 blocks of rows, and narrows at the end; the reference normalises
  all 16640 rows and contracts in one go. Over the extended reals the two are the same sum.
-/
module

public import proofs.«01_k».proof.Proof.Blocks
public import proofs.«01_k».proof.Proof.Gen.Kernel24Ideal.Value
public import proofs.«01_k».proof.Proof.Gen.Reference24Ideal.Run

@[expose] public section

set_option maxRecDepth 16384

noncomputable section

namespace Cert.ProjGateDw

open Cert.Kernel24Ideal Cert.Kernel24Ideal.Gen Cert.Blocks
open Idealize.ShloMosaic Idealize.ShloMosaic.TcCoe Idealize.SL.Sem

variable (m : (ℓ : Loc nD τ sig) → Buf (Elt Ideal) ℓ)

/-! ## What the body leaves at one grid point -/

section Body
variable (c : Dev nD) (i : grid0.Coords)
  (a3 : Memref sig .tc .vmem S1280x1024 .f32) (h3 : a3.IsWhole) (a4 : Memref sig .tc .vmem S1x1024 .f32) (h4 : a4.IsWhole)
  (a5 : Memref sig .tc .vmem S1280x128 .bf16) (h5 : a5.IsWhole) (a6 : Memref sig .tc .vmem S1024x128 .bf16) (h6 : a6.IsWhole)
  (a7 : Memref sig .tc .vmem S1024x128 .f32) (h7 : a7.IsWhole)
  (x0 : Vec Ideal S1280x1024 .f32) (x1 : Vec Ideal S1x1024 .f32) (x2 : Vec Ideal S1280x128 .bf16) (xs : Vec Ideal S1024x128 .f32)

/-- The first point of a run leaves in the accumulator the update of the zero block. -/
theorem acc_first (hc0 : cond0_0 i) (hc1 : ¬cond0_1 i) :
    sout0_A_0 c i a3 h3 a4 h4 a5 h5 a6 h6 a7 h7 hc0 hc1 x0 x1 x2 = k0_pay2 x0 x1 x2 (k0_pay1 (F := Ideal)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x128) hz, View.readCov_unit_zero (S := S1024x128) _ hz]
  simp only [View.readAt_eq_ld, h3.read_unread, h4.read_unread, h5.read_unread,
    View.ld_unit_zero (S := S1280x1024) hz, View.ld_unit_zero (S := S1280x128) hz, View.ld_unit_zero (S := S1x1024) hz]

/-- A middle point leaves in it the update of what it held. -/
theorem acc_mid (hc0 : ¬cond0_0 i) (hc1 : ¬cond0_1 i) :
    sout0_B_0 c i a3 h3 a4 h4 a5 h5 a6 h6 a7 h7 hc0 hc1 x0 x1 x2 xs = k0_pay2 x0 x1 x2 xs := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_unit_zero (S := S1024x128) hz]
  simp only [View.readAt_eq_ld, h3.read_unread, h4.read_unread, h5.read_unread, h7.read_unread,
    View.ld_unit_zero (S := S1280x1024) hz, View.ld_unit_zero (S := S1280x128) hz, View.ld_unit_zero (S := S1x1024) hz, View.ld_unit_zero (S := S1024x128) hz]

/-- So does the last point of a run, -/
theorem acc_last (hc0 : ¬cond0_0 i) (hc1 : cond0_1 i) :
    sout0_C_0 c i a3 h3 a4 h4 a5 h5 a6 h6 a7 h7 hc0 hc1 x0 x1 x2 xs = k0_pay2 x0 x1 x2 xs := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero (S := S1024x128) hz]
  simp only [View.readAt_eq_ld, h3.read_unread, h4.read_unread, h5.read_unread, h7.read_unread,
    View.ld_unit_zero (S := S1280x1024) hz, View.ld_unit_zero (S := S1280x128) hz, View.ld_unit_zero (S := S1x1024) hz, View.ld_unit_zero (S := S1024x128) hz]

/-- which writes the narrowed sum to the output's block. -/
theorem out_last (hc0 : ¬cond0_0 i) (hc1 : cond0_1 i) :
    out0_C_3 c i a3 h3 a4 h4 a5 h5 a6 h6 a7 h7 hc0 hc1 x0 x1 x2 xs = k0_pay3 (k0_pay2 x0 x1 x2 xs) := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero (S := S1024x128) hz, View.readCov_unit_zero (S := S1024x128) _ hz]
  simp only [View.readAt_eq_ld, h3.read_unread, h4.read_unread, h5.read_unread, h7.read_unread,
    View.ld_unit_zero (S := S1280x1024) hz, View.ld_unit_zero (S := S1280x128) hz, View.ld_unit_zero (S := S1x1024) hz, View.ld_unit_zero (S := S1024x128) hz]

end Body

/-- The update of the accumulator at an index. -/
theorem update_apply (x0 : Vec Ideal S1280x1024 .f32) (x1 : Vec Ideal S1x1024 .f32) (x2 : Vec Ideal S1280x128 .bf16) (xs : Vec Ideal S1024x128 .f32) (r : Fin 1024) (l : Fin 128) :
    k0_pay2 x0 x1 x2 xs (ix2 r l)
      = xs (ix2 r l) + ∑ k : Fin 1280, x0 (ix2 k r) * Ideal.rsqrt (Ideal.div (∑ e : Fin 1024, x0 (ix2 k e) * x0 (ix2 k e)) (Ideal.ofBits .f32 0x44800000#32)
          + Ideal.ofBits .f32 0x358637BD#32) * x1 (ix2 0 r) * x2 (ix2 k l) := by
  pointwise [k0_pay2]

theorem zero_apply (y : S1024x128.Idx) : (k0_pay1 (F := Ideal)) y = 0 := by
  pointwise [k0_pay1]

theorem narrow_apply (x : Vec Ideal S1024x128 .f32) (y : S1024x128.Idx) : k0_pay3 x y = x y := by
  pointwise [k0_pay3]

/-! ## The blocks the windows stage -/

/-- The windows' block indices at a grid point. -/
theorem idx_facts : ∀ t : Fin cfg0.N, (win0_0.index t 0 = t.val % 13 ∧ win0_0.index t 1 = 0)
    ∧ (win0_1.index t 0 = 0 ∧ win0_1.index t 1 = 0) ∧ (win0_2.index t 0 = t.val % 13 ∧ win0_2.index t 1 = 0) :=
  (by decide +kernel : ∀ t : Fin grid0.N, _)

/-- The arguments as arrays of extended reals. -/
abbrev X0 (c : Dev nD) : S16640x1024.Idx → EReal := m ((c : Thread nD τ).loc main_arg0)
abbrev X1 (c : Dev nD) : S1x1024.Idx → EReal := m ((c : Thread nD τ).loc main_arg1)
abbrev X2 (c : Dev nD) : S16640x128.Idx → EReal := m ((c : Thread nD τ).loc main_arg2)

theorem blk0 (c : Dev nD) (t : Fin cfg0.N) (r : Fin 1280) (k : Fin 1024) :
    (iblk m c 0 t : Vec Ideal S1280x1024 .f32) (ix2 r k) = at2 (X0 m c) (t.val % 13 * 1280 + r.val) (k.val) := by
  unfold iblk
  rw [View.read_apply]
  refine at2_idx (X0 m c) _ _ _ ?_ ?_
  · show win0_0.index t 0 * 1280 + 1 * r.val = _; rw [(idx_facts t).1.1, one_mul]
  · show win0_0.index t 1 * 1024 + 1 * k.val = _; rw [(idx_facts t).1.2, zero_mul, zero_add, one_mul]

theorem blk1 (c : Dev nD) (t : Fin cfg0.N) (r : Fin 1) (k : Fin 1024) :
    (iblk m c 1 t : Vec Ideal S1x1024 .f32) (ix2 r k) = at2 (X1 m c) (r.val) (k.val) := by
  unfold iblk
  rw [View.read_apply]
  refine at2_idx (X1 m c) _ _ _ ?_ ?_
  · show win0_1.index t 0 * 1 + 1 * r.val = _; rw [(idx_facts t).2.1.1, zero_mul, zero_add, one_mul]
  · show win0_1.index t 1 * 1024 + 1 * k.val = _; rw [(idx_facts t).2.1.2, zero_mul, zero_add, one_mul]

theorem blk2 (c : Dev nD) (t : Fin cfg0.N) (r : Fin 1280) (k : Fin 128) :
    (iblk m c 2 t : Vec Ideal S1280x128 .bf16) (ix2 r k) = at2 (X2 m c) (t.val % 13 * 1280 + r.val) (k.val) := by
  unfold iblk
  rw [View.read_apply]
  refine at2_idx (X2 m c) _ _ _ ?_ ?_
  · show win0_2.index t 0 * 1280 + 1 * r.val = _; rw [(idx_facts t).2.2.1, one_mul]
  · show win0_2.index t 1 * 128 + 1 * k.val = _; rw [(idx_facts t).2.2.2, zero_mul, zero_add, one_mul]

/-! ## The accumulator and the result -/

/-- What grid point `n` adds to the accumulator at a place of the block. -/
def addend (c : Dev nD) (n : ℕ) (y : S1024x128.Idx) : EReal :=
  ∑ k : Fin 1280, normed (X0 m c) (X1 m c) (n % 13 * 1280 + k.val) (y 0).val * at2 (X2 m c) (n % 13 * 1280 + k.val) (y 1).val

/-- The update at a grid point adds the point's addend. -/
theorem update_at (c : Dev nD) (t : Fin cfg0.N) (xs : Vec Ideal S1024x128 .f32) (y : S1024x128.Idx) :
    k0_pay2 (iblk m c 0 t) (iblk m c 1 t) (iblk m c 2 t) xs y = xs y + addend m c t.val y := by
  rw [eq_ix2 y]
  refine (update_apply _ _ _ xs (y 0) (y 1)).trans (congrArg (xs (ix2 (y 0) (y 1)) + ·) ?_)
  exact Finset.sum_congr rfl fun k _ => congrArg₂ (· * ·)
    (normed_of (X0 m c) (X1 m c) _ _ (blk0 m c t k (y 0)) (fun e => blk0 m c t k e) (blk1 m c t 0 (y 0))) (blk2 m c t k (y 1))

/-- What the accumulator holds after a point of run `q`: the sum of the run's addends so far. -/
theorem acc_at (c : Dev nD) (q j : ℕ) (hj : j < 13) (h : 13 * q + j < cfg0.N) (y : S1024x128.Idx) :
    (outsAt0 m c (13 * q + j) h).2 y = ∑ s ∈ Finset.range (j + 1), addend m c (13 * q + s) y := by
  refine run_sum (b := 13) (fun n h => (outsAt0 m c n h).2) (addend m c) ?_ ?_ q j hj h y
  · intro n h y hn
    rw [outsAt0_A m c ⟨n, h⟩ hn (by dsimp only; omega)]
    dsimp only
    rw [acc_first]
    refine (update_at m c ⟨n, h⟩ _ y).trans ?_
    rw [zero_apply, zero_add]
  · intro n h y hn
    by_cases hl : (n + 1) % 13 = 12
    · rw [outsAt0_C m c ⟨n + 1, h⟩ hn hl]
      dsimp only
      rw [acc_last]
      exact update_at m c ⟨n + 1, h⟩ _ y
    · rw [outsAt0_B m c ⟨n + 1, h⟩ hn hl]
      dsimp only
      rw [acc_mid]
      exact update_at m c ⟨n + 1, h⟩ _ y

/-- What the call leaves in its result: the product of the normalised rows with the gradient, over all 16640 rows. -/
theorem result_apply (c : Dev nD) (i : S1024x128.Idx) :
    Value.G3 m c i = ∑ k : Fin 16640, normed (X0 m c) (X1 m c) k.val (i 0).val * at2 (X2 m c) k.val (i 1).val := by
  have hi0 : (i 0).val < 1024 := (i 0).isLt
  have hi1 : (i 1).val < 128 := (i 1).isLt
  have hN : cfg0.N = 13 := N_0
  have hq : Value.run3Of i = 0 := by
    show 1 * ((i 0).val / 1024 - 0) + 1 * ((i 1).val / 128 - 0) = _
    omega
  have hpt : Value.pt3Of i = 13 * Value.run3Of i + 12 := rfl
  have hp : Value.pt3Of i < cfg0.N := by omega
  unfold Value.G3
  rw [dif_pos hp, ← Value.outsAt0_sweep m c _ hp]
  have e : (outsAt0 m c (Value.pt3Of i) hp).1 = k0_pay3 (outsAt0 m c (Value.pt3Of i) hp).2 := by
    rw [outsAt0_C m c ⟨Value.pt3Of i, hp⟩ (by dsimp only; omega) (by dsimp only; omega)]
    dsimp only
    rw [out_last, acc_last]
  rw [e, narrow_apply]
  refine (acc_at m c (Value.run3Of i) 12 (by omega) hp (Value.loc3Of i)).trans ?_
  rw [Finset.sum_congr rfl (fun s hs => show addend m c (13 * Value.run3Of i + s) (Value.loc3Of i)
      = ∑ k : Fin 1280, normed (X0 m c) (X1 m c) (s * 1280 + k.val) (i 0).val * at2 (X2 m c) (s * 1280 + k.val) (i 1).val from by
    have hs' : s < 13 := Finset.mem_range.mp hs
    have e0 : (13 * Value.run3Of i + s) % 13 = s := by omega
    have e1 : (i 0).val % 1024 = (i 0).val := Nat.mod_eq_of_lt hi0
    have e2 : (i 1).val % 128 = (i 1).val := Nat.mod_eq_of_lt hi1
    show (∑ k : Fin 1280, normed (X0 m c) (X1 m c) ((13 * Value.run3Of i + s) % 13 * 1280 + k.val) ((i 0).val % 1024)
        * at2 (X2 m c) ((13 * Value.run3Of i + s) % 13 * 1280 + k.val) ((i 1).val % 128)) = _
    rw [e0, e1, e2]),
    sum_blocks 13 1280 16640 rfl (fun k => normed (X0 m c) (X1 m c) k (i 0).val * at2 (X2 m c) k (i 1).val)]

/-! ## The reference -/

/-- The reference's term of the three arguments. -/
def ref (x0 : Vec Ideal S16640x1024 .f32) (x1 : Vec Ideal S1x1024 .f32) (x2 : Vec Ideal S16640x128 .bf16) : FVec Ideal S1024x128 .bf16 :=
  truncf .bf16 (transpose S1024x128 [1, 0]
    (Host.dotGeneral Cert.Reference24Ideal.dot_S16640x128_S16640x1024_S128x1024_0_0_1_1_n_n none (extf .f32 x2 Cert.Reference24Ideal.Gen.bitsLt_bf16_f32)
      (mulf (mulf x0 (broadcastInDim S16640x1024 ![0, 1] Cert.Reference24Ideal.Gen.bcast_S16640x1_S16640x1024_0_1
          (Host.rsqrt (addf (Host.divf (broadcastInDim Cert.Reference24Ideal.S16640x1 ![0] Cert.Reference24Ideal.Gen.bcast_S16640_S16640x1_0
              (Host.reduceAdd (mulf x0 x0) (constant Cert.Reference24Ideal.S_ .f32 0x00000000#32) Cert.Reference24Ideal.Gen.reducesTo_S16640x1024_S16640_d1 Cert.Reference24Ideal.Gen.h_S_))
            (broadcastInDim Cert.Reference24Ideal.S16640x1 ![] Cert.Reference24Ideal.Gen.bcast_S_S16640x1 (constant Cert.Reference24Ideal.S_ .f32 0x44800000#32)))
            (broadcastInDim Cert.Reference24Ideal.S16640x1 ![] Cert.Reference24Ideal.Gen.bcast_S_S16640x1 (constant Cert.Reference24Ideal.S_ .f32 0x358637BD#32))))))
        (broadcastInDim S16640x1024 ![0, 1] Cert.Reference24Ideal.Gen.bcast_S1x1024_S16640x1024_0_1 x1)))
    Cert.Reference24Ideal.Gen.transposes_S128x1024_S1024x128_1_0) Cert.Reference24Ideal.Gen.bitsLt_bf16_f32

/-- It is, at each index, the same sum with the factors in the other order. -/
theorem ref_apply (x0 : Vec Ideal S16640x1024 .f32) (x1 : Vec Ideal S1x1024 .f32) (x2 : Vec Ideal S16640x128 .bf16) (i : S1024x128.Idx) :
    ref x0 x1 x2 i = ∑ k : Fin 16640, normed x0 x1 k.val (i 0).val * at2 x2 k.val (i 1).val := by
  unfold ref
  pointwise
  refine Finset.sum_congr rfl fun k _ => ?_
  rw [mul_comm]
  exact congrArg₂ (· * ·) (normed_of x0 x1 _ _ (at2_idx _ _ _ _ rfl rfl) (fun e => at2_idx _ _ _ _ rfl rfl) (at2_idx _ _ _ _ rfl rfl)) (at2_idx _ _ _ _ rfl rfl)

/-- The call's result is the reference's term of the same arguments. -/
theorem value (c : Dev nD) : Value.G3 m c = ref (X0 m c) (X1 m c) (X2 m c) :=
  funext fun i => (result_apply m c i).trans (ref_apply _ _ _ i).symm

end Cert.ProjGateDw

end
-- ==== Proof.ProjGateFwd.lean ====
/-
  The gates' projection, `norm(h) · w`: the call normalises 1280 rows at a time and multiplies them, 320 rows at a
  time, by the weight's columns; the reference normalises all 16640 rows and multiplies once. Over the extended
  reals each element is the same sum.
-/
module

public import proofs.«01_k».proof.Proof.Blocks
public import proofs.«01_k».proof.Proof.Gen.Kernel25Ideal.Value
public import proofs.«01_k».proof.Proof.Gen.Reference25Ideal.Run

@[expose] public section

set_option maxRecDepth 16384

noncomputable section

namespace Cert.ProjGateFwd

open Cert.Kernel25Ideal Cert.Kernel25Ideal.Gen Cert.Blocks
open Idealize.ShloMosaic Idealize.ShloMosaic.TcCoe Idealize.SL.Sem

variable (m : (ℓ : Loc nD τ sig) → Buf (Elt Ideal) ℓ)

/-! ## What the body leaves in its block -/

/-- A quarter of the block: the product of 320 normalised rows with the weight's block. -/
theorem quarter_apply (v : Vec Ideal S320x1024 .f32) (w : Vec Ideal S1x1024 .f32) (u : Vec Ideal S1024x128 .bf16) (r : Fin 320) (l : Fin 128) :
    k0_pay2 v w u (ix2 r l)
      = ∑ k : Fin 1024, v (ix2 r k) * Ideal.rsqrt (Ideal.div (∑ e : Fin 1024, v (ix2 r e) * v (ix2 r e)) (Ideal.ofBits .f32 0x44800000#32)
          + Ideal.ofBits .f32 0x358637BD#32) * w (ix2 0 k) * u (ix2 k l) := by
  pointwise [k0_pay2]

/-- The other three quarters are computed alike. -/
theorem second_eq (v : Vec Ideal S320x1024 .f32) (w : Vec Ideal S1x1024 .f32) (u : Vec Ideal S1024x128 .bf16) :
    k0_pay4 u (k0_pay3 v w) (constant S320x128 .f32 0x00000000#32) = k0_pay2 v w u := rfl
theorem third_eq (v : Vec Ideal S320x1024 .f32) (w : Vec Ideal S1x1024 .f32) (u : Vec Ideal S1024x128 .bf16) :
    k0_pay5 v w u = k0_pay2 v w u := rfl
theorem fourth_eq (v : Vec Ideal S320x1024 .f32) (w : Vec Ideal S1x1024 .f32) (u : Vec Ideal S1024x128 .bf16) :
    k0_pay1 (k0_pay6 v w) u = k0_pay2 v w u := rfl

/-- The block's product at an index of the block. -/
def block (x0 : Vec Ideal S1280x1024 .f32) (x1 : Vec Ideal S1x1024 .f32) (x2 : Vec Ideal S1024x128 .bf16) (y : S1280x128.Idx) : EReal :=
  ∑ k : Fin 1024, normed (show S1280x1024.Idx → EReal from x0) (show S1x1024.Idx → EReal from x1) (y 0).val k.val
    * at2 (show S1024x128.Idx → EReal from x2) k.val (y 1).val

/-- A quarter that begins at row `o` is the block's product at the rows from `o` on. -/
theorem quarter_eq (o : ℕ) (x0 : Vec Ideal S1280x1024 .f32) (x1 : Vec Ideal S1x1024 .f32) (x2 : Vec Ideal S1024x128 .bf16)
    (hi : ∀ a, (![o, 0] : Fin 2 → ℕ) a + S320x1024.size a ≤ S1280x1024.size a) (ho : ∀ a, (![o, 0] : Fin 2 → ℕ) a + S320x128.size a ≤ S1280x128.size a)
    (x : S320x128.Idx) :
    k0_pay2 (F := Ideal) (View.ld x0 (Rect.unit (s := S1280x1024) ![o, 0] S320x1024.size hi)) x1 x2 x
      = block x0 x1 x2 ((Rect.unit (s := S1280x128) ![o, 0] S320x128.size ho).emb x) := by
  refine (congrArg _ (eq_ix2 x)).trans ((quarter_apply _ x1 x2 (x 0) (x 1)).trans ?_)
  have e0 : (((Rect.unit (s := S1280x128) ![o, 0] S320x128.size ho).emb x) 0).val = o + (x 0).val := by
    show o + 1 * (x 0).val = _; rw [one_mul]
  have e1 : (((Rect.unit (s := S1280x128) ![o, 0] S320x128.size ho).emb x) 1).val = (x 1).val := by
    show 0 + 1 * (x 1).val = _; rw [one_mul, zero_add]
  unfold block
  rw [e0, e1]
  have row : ∀ k : Fin 1024, View.ld x0 (Rect.unit (s := S1280x1024) ![o, 0] S320x1024.size hi) (ix2 (x 0) k)
      = at2 (show S1280x1024.Idx → EReal from x0) (o + (x 0).val) k.val := fun k =>
    at2_idx (show S1280x1024.Idx → EReal from x0) _ _ _ (by show o + 1 * (x 0).val = _; rw [one_mul]) (by show 0 + 1 * k.val = _; rw [one_mul, zero_add])
  exact Finset.sum_congr rfl fun k _ => congrArg₂ (fun a b : EReal => a * b)
    (normed_of _ _ _ _ (row k) row (at2_idx (show S1x1024.Idx → EReal from x1) _ _ _ rfl rfl))
    (at2_idx (show S1024x128.Idx → EReal from x2) _ _ _ rfl rfl)

/-- The four stores leave the block's product. -/
theorem out_eq (x0 : Vec Ideal S1280x1024 .f32) (x1 : Vec Ideal S1x1024 .f32) (x2 : Vec Ideal S1024x128 .bf16) (y : S1280x128.Idx) :
    out0_3 x0 x1 x2 y = block x0 x1 x2 y := by
  unfold out0_3
  rw [View.ld_unit_zero (S := S1x1024) hz, View.ld_unit_zero (S := S1024x128) hz]
  refine View.canon_apply_of_pieces (Val := Elt Ideal) (block x0 x1 x2) _ ?_ y (cover0_3 _ _ _ _ y)
  intro p hp
  simp only [List.mem_cons, List.not_mem_nil, or_false] at hp
  rcases hp with rfl | rfl | rfl | rfl
  · rw [fourth_eq]; exact fun x => quarter_eq 960 x0 x1 x2 _ inb_S1280x128_S320x128_960_0 x
  · rw [third_eq]; exact fun x => quarter_eq 640 x0 x1 x2 _ inb_S1280x128_S320x128_640_0 x
  · rw [second_eq]; exact fun x => quarter_eq 320 x0 x1 x2 _ inb_S1280x128_S320x128_320_0 x
  · exact fun x => quarter_eq 0 x0 x1 x2 _ inb_S1280x128_S320x128_0_0 x

/-! ## The blocks the windows stage -/

/-- The windows' block indices at a grid point. -/
theorem idx_facts : ∀ t : Fin cfg0.N, (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = t.val ∧ win0_3.index t 1 = 0) :=
  (by decide +kernel : ∀ t : Fin grid0.N, _)

/-- The arguments as arrays of extended reals. -/
abbrev X0 (c : Dev nD) : S16640x1024.Idx → EReal := m ((c : Thread nD τ).loc main_arg0)
abbrev X1 (c : Dev nD) : S1x1024.Idx → EReal := m ((c : Thread nD τ).loc main_arg1)
abbrev X2 (c : Dev nD) : S1024x128.Idx → EReal := m ((c : Thread nD τ).loc main_arg2)

/-- The block of rows, -/
theorem blk0 (c : Dev nD) (t : Fin cfg0.N) (r k : ℕ) (hr : r < 1280) (hk : k < 1024) :
    at2 (show S1280x1024.Idx → EReal from iblk m c 0 t) r k = at2 (X0 m c) (t.val * 1280 + r) k := by
  rw [at2_of_lt _ r k hr hk]
  show (iblk m c 0 t : Vec Ideal S1280x1024 .f32) (ix2 ⟨r, hr⟩ ⟨k, hk⟩) = _
  unfold iblk
  rw [View.read_apply]
  refine at2_idx (X0 m c) _ _ _ ?_ ?_
  · show win0_0.index t 0 * 1280 + 1 * r = _; rw [(idx_facts t).1.1, one_mul]
  · show win0_0.index t 1 * 1024 + 1 * k = _; rw [(idx_facts t).1.2, zero_mul, zero_add, one_mul]

/-- the norm's weight, whole, -/
theorem blk1 (c : Dev nD) (t : Fin cfg0.N) (k : ℕ) (hk : k < 1024) :
    at2 (show S1x1024.Idx → EReal from iblk m c 1 t) 0 k = at2 (X1 m c) 0 k := by
  rw [at2_of_lt _ 0 k Nat.one_pos hk]
  show (iblk m c 1 t : Vec Ideal S1x1024 .f32) (ix2 ⟨0, Nat.one_pos⟩ ⟨k, hk⟩) = _
  unfold iblk
  rw [View.read_apply]
  refine at2_idx (X1 m c) _ _ _ ?_ ?_
  · show win0_1.index t 0 * 1 + 1 * 0 = _; rw [(idx_facts t).2.1.1]
  · show win0_1.index t 1 * 1024 + 1 * k = _; rw [(idx_facts t).2.1.2, zero_mul, zero_add, one_mul]

/-- and the weight, whole. -/
theorem blk2 (c : Dev nD) (t : Fin cfg0.N) (k l : ℕ) (hk : k < 1024) (hl : l < 128) :
    at2 (show S1024x128.Idx → EReal from iblk m c 2 t) k l = at2 (X2 m c) k l := by
  rw [at2_of_lt _ k l hk hl]
  show (iblk m c 2 t : Vec Ideal S1024x128 .bf16) (ix2 ⟨k, hk⟩ ⟨l, hl⟩) = _
  unfold iblk
  rw [View.read_apply]
  refine at2_idx (X2 m c) _ _ _ ?_ ?_
  · show win0_2.index t 0 * 1024 + 1 * k = _; rw [(idx_facts t).2.2.1.1, zero_mul, zero_add, one_mul]
  · show win0_2.index t 1 * 128 + 1 * l = _; rw [(idx_facts t).2.2.1.2, zero_mul, zero_add, one_mul]

/-! ## The reference -/

/-- The reference's term of the three arguments. -/
def ref (x0 : Vec Ideal S16640x1024 .f32) (x1 : Vec Ideal S1x1024 .f32) (x2 : Vec Ideal S1024x128 .bf16) : FVec Ideal S16640x128 .f32 :=
  Host.dotGeneral Cert.Reference25Ideal.dot_S16640x1024_S1024x128_S16640x128_1_0_0_1_n_n none
    (mulf (mulf x0 (broadcastInDim S16640x1024 ![0, 1] Cert.Reference25Ideal.Gen.bcast_S16640x1_S16640x1024_0_1
          (Host.rsqrt (addf (Host.divf (broadcastInDim Cert.Reference25Ideal.S16640x1 ![0] Cert.Reference25Ideal.Gen.bcast_S16640_S16640x1_0
              (Host.reduceAdd (mulf x0 x0) (constant Cert.Reference25Ideal.S_ .f32 0x00000000#32) Cert.Reference25Ideal.Gen.reducesTo_S16640x1024_S16640_d1 Cert.Reference25Ideal.Gen.h_S_))
            (broadcastInDim Cert.Reference25Ideal.S16640x1 ![] Cert.Reference25Ideal.Gen.bcast_S_S16640x1 (constant Cert.Reference25Ideal.S_ .f32 0x44800000#32)))
            (broadcastInDim Cert.Reference25Ideal.S16640x1 ![] Cert.Reference25Ideal.Gen.bcast_S_S16640x1 (constant Cert.Reference25Ideal.S_ .f32 0x358637BD#32))))))
        (broadcastInDim S16640x1024 ![0, 1] Cert.Reference25Ideal.Gen.bcast_S1x1024_S16640x1024_0_1 x1))
    (extf .f32 x2 Cert.Reference25Ideal.Gen.bitsLt_bf16_f32)

/-- It is, at each index, the product of the normalised row with the weight's column. -/
theorem ref_apply (x0 : Vec Ideal S16640x1024 .f32) (x1 : Vec Ideal S1x1024 .f32) (x2 : Vec Ideal S1024x128 .bf16) (i : S16640x128.Idx) :
    ref x0 x1 x2 i = ∑ k : Fin 1024, normed x0 x1 (i 0).val k.val * at2 x2 k.val (i 1).val := by
  unfold ref
  pointwise
  exact Finset.sum_congr rfl fun k _ => congrArg₂ (· * ·)
    (normed_of x0 x1 _ _ (at2_idx _ _ _ _ rfl rfl) (fun e => at2_idx _ _ _ _ rfl rfl) (at2_idx _ _ _ _ rfl rfl)) (at2_idx _ _ _ _ rfl rfl)

/-! ## The result -/

/-- What a grid point writes back is its block of the reference's term. -/
theorem flushed_eq (c : Dev nD) (t : Fin cfg0.N) :
    (dats m 0 c).flushed 3 t = ((cfg0.win 3).blk t).view.read (Elt Ideal) (ref (X0 m c) (X1 m c) (X2 m c)) := by
  rw [Value.flushed3]
  funext y
  show out0_3 (iblk m c 0 t) (iblk m c 1 t) (iblk m c 2 t) y = ref (X0 m c) (X1 m c) (X2 m c) (((cfg0.win 3).blk t).view.emb y)
  rw [ref_apply, out_eq, show (((cfg0.win 3).blk t).view.emb y 0).val = t.val * 1280 + (y 0).val from by
      show win0_3.index t 0 * 1280 + 1 * (y 0).val = _; rw [(idx_facts t).2.2.2.1, one_mul],
    show (((cfg0.win 3).blk t).view.emb y 1).val = (y 1).val from by
      show win0_3.index t 1 * 128 + 1 * (y 1).val = _; rw [(idx_facts t).2.2.2.2, zero_mul, zero_add, one_mul]]
  have row : ∀ k : Fin 1024, at2 (show S1280x1024.Idx → EReal from iblk m c 0 t) (y 0).val k.val
      = at2 (X0 m c) (t.val * 1280 + (y 0).val) k.val := fun k => blk0 m c t _ _ (y 0).isLt k.isLt
  exact Finset.sum_congr rfl fun k _ => congrArg₂ (fun a b : EReal => a * b)
    (normed_of (X0 m c) (X1 m c) _ _ (row k) row (blk1 m c t _ k.isLt)) (blk2 m c t _ _ k.isLt (y 1).isLt)

/-- An index is in a point's block when each of its coordinates is in the block's range. -/
theorem mem_blk (t : Fin cfg0.N) (i : S16640x128.Idx) :
    i ∈ ((cfg0.win 3).blk t).view.set ↔
      ∀ a : Fin 2, win0_3.index t a * S1280x128.size a ≤ (i a).val ∧ (i a).val < win0_3.index t a * S1280x128.size a + S1280x128.size a := by
  show i ∈ ((View.whole main_v0).slice (win0_3.rect t)).set ↔ _
  rw [View.set_slice_whole, Rect.mem_set_unit]
  exact Iff.rfl

/-- Every index of the result is in the block of the point that has its row. -/
theorem covered (i : S16640x128.Idx) :
    ∃ t : Fin cfg0.N, (cfg0.win 3).flush t = true ∧ i ∈ ((cfg0.win 3).blk t).view.set := by
  have hi0 : (i 0).val < 16640 := (i 0).isLt
  have hi1 : (i 1).val < 128 := (i 1).isLt
  have hN : cfg0.N = 13 := N_0
  refine ⟨⟨(i 0).val / 1280, by omega⟩, flush0_3 _, ?_⟩
  rw [mem_blk]
  intro a
  match a with
  | ⟨0, _⟩ =>
    show win0_3.index _ 0 * 1280 ≤ (i 0).val ∧ (i 0).val < win0_3.index _ 0 * 1280 + 1280
    rw [(idx_facts _).2.2.2.1]; dsimp only; omega
  | ⟨1, _⟩ =>
    show win0_3.index _ 1 * 128 ≤ (i 1).val ∧ (i 1).val < win0_3.index _ 1 * 128 + 128
    rw [(idx_facts _).2.2.2.2]; omega

/-- The result after the run is the reference's term of the arguments. -/
theorem final (c : Dev nD) : (dats m 0 c).arrAt 3 cfg0.N = ref (X0 m c) (X1 m c) (X2 m c) :=
  (dats m 0 c).arrAt_eq_of_cover 3 _ (fun t _ => flushed_eq m c t) covered

end Cert.ProjGateFwd

end
-- ==== Proof.MixerGates.lean ====
/-
  The two gates of the recurrence: the call takes 640 rows at a time and writes, in the gates' columns of the sequence's rows,
  the logistic function of the first gate and the decay of the second, and zeros elsewhere. The reference cuts the sequence's
  rows and the two gates' columns out, and pads what it computes with zeros. Over the extended reals the two are equal.
-/
module

public import proofs.«01_k».proof.Proof.Blocks
public import proofs.«01_k».proof.Proof.Gen.Kernel26Ideal.Value
public import proofs.«01_k».proof.Proof.Gen.Reference26Ideal.Run
public import Idealize.ShloMosaic.Lib.WordCmp

@[expose] public section

set_option maxRecDepth 16384

noncomputable section

namespace Cert.MixerGates

open Cert.Kernel26Ideal Cert.Kernel26Ideal.Gen Cert.Blocks
open Idealize.ShloMosaic Idealize.ShloMosaic.TcCoe Idealize.SL.Sem

variable (m : (ℓ : Loc nD τ sig) → Buf (Elt Ideal) ℓ)

/-! ## What the body leaves in its block -/

/-- The mask of a row of a block is set when the row is in the sequence. -/
theorem mask_eq (a r : ℕ) (ha : a < 26) (hr : r < 640) :
    IntOp.andi (IntOp.cmpi CmpIPredicate.sge (IntOp.addi (Scalar.muli (BitVec.ofNat 32 a) 640#32) (BitVec.ofNat 32 r)) 48#32)
      (IntOp.cmpi CmpIPredicate.slt (IntOp.addi (Scalar.muli (BitVec.ofNat 32 a) 640#32) (BitVec.ofNat 32 r)) 16448#32)
      = if 48 ≤ a * 640 + r ∧ a * 640 + r < 16448 then 1#1 else 0#1 := by
  have e : IntOp.addi (Scalar.muli (BitVec.ofNat 32 a) 640#32) (BitVec.ofNat 32 r) = BitVec.ofNat 32 (a * 640 + r) := by
    show BitVec.ofNat 32 a * 640#32 + BitVec.ofNat 32 r = _
    rw [BitVec.ofNat_add, BitVec.ofNat_mul]
  have t : (BitVec.ofNat 32 (a * 640 + r)).toInt = ((a * 640 + r : ℕ) : ℤ) := by
    have h : (BitVec.ofNat 32 (a * 640 + r)).toNat = a * 640 + r := by
      rw [BitVec.toNat_ofNat]; exact Nat.mod_eq_of_lt (by omega)
    rw [BitVec.toInt_eq_toNat_of_lt (by rw [h]; omega), h]
  rw [e, WordCmp.cmpi_sge_eq, WordCmp.cmpi_slt_eq, t, show (48#32).toInt = 48 from rfl, show (16448#32).toInt = 16448 from rfl]
  by_cases h1 : 48 ≤ a * 640 + r <;> by_cases h2 : a * 640 + r < 16448
  · rw [decide_eq_true (by omega), decide_eq_true (by omega), if_pos ⟨h1, h2⟩]; rfl
  · rw [decide_eq_true (by omega), decide_eq_false (by omega), if_neg (fun h => h2 h.2)]; rfl
  · rw [decide_eq_false (by omega), decide_eq_true (by omega), if_neg (fun h => h1 h.1)]; rfl
  · rw [decide_eq_false (by omega), decide_eq_false (by omega), if_neg (fun h => h1 h.1)]; rfl

/-- The masks of the columns of the two gates. -/
theorem first_cols (k : Fin 128) : IntOp.cmpi CmpIPredicate.slt (BitVec.ofNat 32 k.val) 4#32 = if k.val < 4 then 1#1 else 0#1 :=
  (by decide +kernel : ∀ k : Fin 128, IntOp.cmpi CmpIPredicate.slt (BitVec.ofNat 32 k.val) 4#32 = if k.val < 4 then 1#1 else 0#1) k
theorem both_cols (k : Fin 128) : IntOp.cmpi CmpIPredicate.slt (BitVec.ofNat 32 k.val) 8#32 = if k.val < 8 then 1#1 else 0#1 :=
  (by decide +kernel : ∀ k : Fin 128, IntOp.cmpi CmpIPredicate.slt (BitVec.ofNat 32 k.val) 8#32 = if k.val < 8 then 1#1 else 0#1) k

/-- The logistic function and the softplus as the call writes them. -/
def logi (z : EReal) : EReal := Ideal.div 1 (1 + Ideal.exp (-z))
def softplus (z : EReal) : EReal := max z 0 + Ideal.log (1 + Ideal.exp (-(max z (-z))))

/-- The two gates of a row at a column, from the row's element, the rate and the shift. -/
def gate (k : Fin 128) (x al dt : EReal) : EReal :=
  if k.val < 4 then logi x else if k.val < 8 then -Ideal.exp al * softplus (x + dt) else 0

/-- The gates of a block at an index, before the mask of the rows, -/
theorem gate_apply (x0 : Vec Ideal S640x128 .f32) (x1 x2 : Vec Ideal S1x128 .f32) (r : Fin 640) (k : Fin 128) :
    k0_pay2 x0 x1 x2 (ix2 r k) = gate k (x0 (ix2 r k)) (x1 (ix2 0 k)) (x2 (ix2 0 k)) := by
  unfold gate logi softplus
  pointwise [k0_pay2]
  simp only [zero_sub]
  rw [first_cols, both_cols]
  split_ifs <;> first | rfl | (exfalso; simp_all)

/-- and after it. -/
theorem block_apply (i : grid0.Coords) (v : FVec Ideal S640x128 .f32) (r : Fin 640) (k : Fin 128) :
    k0_pay1 v (k0_pay3 i) (k0_pay4 i) (ix2 r k) = if 48 ≤ (i 0).val * 640 + r.val ∧ (i 0).val * 640 + r.val < 16448 then v (ix2 r k) else 0 := by
  pointwise [k0_pay1, k0_pay4, k0_pay3]
  rw [mask_eq _ _ (show (i 0).val < 26 from (i 0).isLt) r.isLt]
  split_ifs <;> rfl

/-! ## The blocks the windows stage -/

/-- The windows' block indices at a grid point, and the point's coordinate. -/
theorem idx_facts : ∀ t : Fin cfg0.N, (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = t.val ∧ win0_3.index t 1 = 0) ∧ (grid0.coords t 0).val = t.val :=
  (by decide +kernel : ∀ t : Fin grid0.N, _)

/-- The arguments as arrays of extended reals. -/
abbrev X0 (c : Dev nD) : S16640x128.Idx → EReal := m ((c : Thread nD τ).loc main_arg0)
abbrev X1 (c : Dev nD) : S1x128.Idx → EReal := m ((c : Thread nD τ).loc main_arg1)
abbrev X2 (c : Dev nD) : S1x128.Idx → EReal := m ((c : Thread nD τ).loc main_arg2)

/-- A block of rows is the array's rows, -/
theorem blk0 (c : Dev nD) (t : Fin cfg0.N) (r : Fin 640) (k : Fin 128) :
    (iblk m c 0 t : Vec Ideal S640x128 .f32) (ix2 r k) = at2 (X0 m c) (t.val * 640 + r.val) k.val := by
  unfold iblk
  rw [View.read_apply]
  refine at2_idx (X0 m c) _ _ _ ?_ ?_
  · show win0_0.index t 0 * 640 + 1 * r.val = _; rw [(idx_facts t).1.1, one_mul]
  · show win0_0.index t 1 * 128 + 1 * k.val = _; rw [(idx_facts t).1.2, zero_mul, zero_add, one_mul]

/-- and a parameter's block the parameter. -/
theorem blk1 (c : Dev nD) (t : Fin cfg0.N) (k : Fin 128) :
    (iblk m c 1 t : Vec Ideal S1x128 .f32) (ix2 0 k) = at2 (X1 m c) 0 k.val := by
  unfold iblk
  rw [View.read_apply]
  refine at2_idx (X1 m c) _ _ _ ?_ ?_
  · show win0_1.index t 0 * 1 + 1 * 0 = _; rw [(idx_facts t).2.1.1]
  · show win0_1.index t 1 * 128 + 1 * k.val = _; rw [(idx_facts t).2.1.2, zero_mul, zero_add, one_mul]

theorem blk2 (c : Dev nD) (t : Fin cfg0.N) (k : Fin 128) :
    (iblk m c 2 t : Vec Ideal S1x128 .f32) (ix2 0 k) = at2 (X2 m c) 0 k.val := by
  unfold iblk
  rw [View.read_apply]
  refine at2_idx (X2 m c) _ _ _ ?_ ?_
  · show win0_2.index t 0 * 1 + 1 * 0 = _; rw [(idx_facts t).2.2.1.1]
  · show win0_2.index t 1 * 128 + 1 * k.val = _; rw [(idx_facts t).2.2.1.2, zero_mul, zero_add, one_mul]

/-! ## The result -/

/-- The gates of the sequence's rows as an array of the arguments. -/
def gates (x0 : S16640x128.Idx → EReal) (x1 x2 : S1x128.Idx → EReal) : S16640x128.Idx → EReal := fun i =>
  if 48 ≤ (i 0).val ∧ (i 0).val < 16448 then gate (i 1) (at2 x0 (i 0).val (i 1).val) (at2 x1 0 (i 1).val) (at2 x2 0 (i 1).val) else 0

/-- What a grid point writes back is its block of the gates. -/
theorem flushed_eq (c : Dev nD) (t : Fin cfg0.N) :
    (dats m 0 c).flushed 3 t = ((cfg0.win 3).blk t).view.read (Elt Ideal) (gates (X0 m c) (X1 m c) (X2 m c)) := by
  rw [Value.flushed3]
  funext y
  obtain ⟨r, k, rfl⟩ : ∃ (r : Fin 640) (k : Fin 128), y = ix2 r k := ⟨y 0, y 1, eq_ix2 y⟩
  show out0_3 (grid0.coords t) (iblk m c 0 t) (iblk m c 1 t) (iblk m c 2 t) (ix2 r k)
    = gates (X0 m c) (X1 m c) (X2 m c) (((cfg0.win 3).blk t).view.emb (ix2 r k))
  have e0 : (((cfg0.win 3).blk t).view.emb (ix2 r k) 0).val = t.val * 640 + r.val := by
    show win0_3.index t 0 * 640 + 1 * r.val = _; rw [(idx_facts t).2.2.2.1.1, one_mul]
  have e1 : ((cfg0.win 3).blk t).view.emb (ix2 r k) 1 = k := Fin.ext (by
    show win0_3.index t 1 * 128 + 1 * k.val = k.val; rw [(idx_facts t).2.2.2.1.2, zero_mul, zero_add, one_mul])
  unfold out0_3 gates
  rw [View.canon_unit_zero (S := S640x128) hz, View.ld_unit_zero (S := S640x128) hz, View.ld_unit_zero (S := S1x128) hz, View.ld_unit_zero (S := S1x128) hz, e0, e1]
  refine (block_apply _ _ r k).trans ?_
  rw [(idx_facts t).2.2.2.2]
  refine if_congr Iff.rfl ((gate_apply _ _ _ r k).trans ?_) rfl
  rw [← blk0 m c t r k, ← blk1 m c t k, ← blk2 m c t k]

/-- An index is in a point's block when each of its coordinates is in the block's range. -/
theorem mem_blk (t : Fin cfg0.N) (i : S16640x128.Idx) :
    i ∈ ((cfg0.win 3).blk t).view.set ↔
      ∀ a : Fin 2, win0_3.index t a * S640x128.size a ≤ (i a).val ∧ (i a).val < win0_3.index t a * S640x128.size a + S640x128.size a := by
  show i ∈ ((View.whole main_v0).slice (win0_3.rect t)).set ↔ _
  rw [View.set_slice_whole, Rect.mem_set_unit]
  exact Iff.rfl

/-- Every index of the result is in the block of the point that has its row. -/
theorem covered (i : S16640x128.Idx) :
    ∃ t : Fin cfg0.N, (cfg0.win 3).flush t = true ∧ i ∈ ((cfg0.win 3).blk t).view.set := by
  have hi0 : (i 0).val < 16640 := (i 0).isLt
  have hi1 : (i 1).val < 128 := (i 1).isLt
  have hN : cfg0.N = 26 := N_0
  refine ⟨⟨(i 0).val / 640, by omega⟩, flush0_3 _, ?_⟩
  rw [mem_blk]
  intro a
  match a with
  | ⟨0, _⟩ =>
    show win0_3.index _ 0 * 640 ≤ (i 0).val ∧ (i 0).val < win0_3.index _ 0 * 640 + 640
    rw [(idx_facts _).2.2.2.1.1]; dsimp only; omega
  | ⟨1, _⟩ =>
    show win0_3.index _ 1 * 128 ≤ (i 1).val ∧ (i 1).val < win0_3.index _ 1 * 128 + 128
    rw [(idx_facts _).2.2.2.1.2]; omega

/-- The result after the run is the gates of the arguments. -/
theorem final (c : Dev nD) : (dats m 0 c).arrAt 3 cfg0.N = gates (X0 m c) (X1 m c) (X2 m c) :=
  (dats m 0 c).arrAt_eq_of_cover 3 _ (fun t _ => flushed_eq m c t) covered

/-! ## The reference -/

/-- The columns of the two gates in the sequence's rows, and the shifted columns of the decay's. -/
def refB (x0 : FVec Ideal S16640x128 .f32) : FVec Ideal Cert.Reference26Ideal.S16400x4 .f32 := (extractStridedSlice Cert.Reference26Ideal.S16400x4 ![0, 0] (extractStridedSlice Cert.Reference26Ideal.S16400x128 ![48, 0] x0 Cert.Reference26Ideal.Gen.slices_S16640x128_S16400x128_48_0) Cert.Reference26Ideal.Gen.slices_S16400x128_S16400x4_0_0)
def refXs (x0 : FVec Ideal S16640x128 .f32) (x2 : FVec Ideal S1x128 .f32) : FVec Ideal Cert.Reference26Ideal.S16400x4 .f32 :=
  addf (extractStridedSlice Cert.Reference26Ideal.S16400x4 ![0, 4] (extractStridedSlice Cert.Reference26Ideal.S16400x128 ![48, 0] x0 Cert.Reference26Ideal.Gen.slices_S16640x128_S16400x128_48_0) Cert.Reference26Ideal.Gen.slices_S16400x128_S16400x4_0_4) (broadcastInDim Cert.Reference26Ideal.S16400x4 ![0, 1] Cert.Reference26Ideal.Gen.bcast_S1x4_S16400x4_0_1 (extractStridedSlice Cert.Reference26Ideal.S1x4 ![0, 4] x2 Cert.Reference26Ideal.Gen.slices_S1x128_S1x4_0_4))

/-- The reference's softplus of an array, -/
def refSp (y : FVec Ideal Cert.Reference26Ideal.S16400x4 .f32) : FVec Ideal Cert.Reference26Ideal.S16400x4 .f32 :=
  select (cmpf .une (subf y (broadcastInDim Cert.Reference26Ideal.S16400x4 ![] Cert.Reference26Ideal.Gen.bcast_S_S16400x4 (constant Cert.Reference26Ideal.S_ .f32 0x00000000#32))) (subf y (broadcastInDim Cert.Reference26Ideal.S16400x4 ![] Cert.Reference26Ideal.Gen.bcast_S_S16400x4 (constant Cert.Reference26Ideal.S_ .f32 0x00000000#32)))) (addf y (broadcastInDim Cert.Reference26Ideal.S16400x4 ![] Cert.Reference26Ideal.Gen.bcast_S_S16400x4 (constant Cert.Reference26Ideal.S_ .f32 0x00000000#32))) (addf (maximumf y (broadcastInDim Cert.Reference26Ideal.S16400x4 ![] Cert.Reference26Ideal.Gen.bcast_S_S16400x4 (constant Cert.Reference26Ideal.S_ .f32 0x00000000#32))) (Host.log1p (Host.exp (Host.negf (Host.absf (subf y (broadcastInDim Cert.Reference26Ideal.S16400x4 ![] Cert.Reference26Ideal.Gen.bcast_S_S16400x4 (constant Cert.Reference26Ideal.S_ .f32 0x00000000#32))))))))

/-- its two gates, -/
def refFirst (x0 : FVec Ideal S16640x128 .f32) : FVec Ideal Cert.Reference26Ideal.S16400x4 .f32 :=
  Host.divf (broadcastInDim Cert.Reference26Ideal.S16400x4 ![] Cert.Reference26Ideal.Gen.bcast_S_S16400x4 (constant Cert.Reference26Ideal.S_ .f32 0x3F800000#32)) (addf (broadcastInDim Cert.Reference26Ideal.S16400x4 ![] Cert.Reference26Ideal.Gen.bcast_S_S16400x4 (constant Cert.Reference26Ideal.S_ .f32 0x3F800000#32)) (Host.exp (Host.negf (refB x0))))
def refSecond (x0 : FVec Ideal S16640x128 .f32) (x1 x2 : FVec Ideal S1x128 .f32) : FVec Ideal Cert.Reference26Ideal.S16400x4 .f32 :=
  mulf (broadcastInDim Cert.Reference26Ideal.S16400x4 ![0, 1] Cert.Reference26Ideal.Gen.bcast_S1x4_S16400x4_0_1 (Host.negf (Host.exp (extractStridedSlice Cert.Reference26Ideal.S1x4 ![0, 4] x1 Cert.Reference26Ideal.Gen.slices_S1x128_S1x4_0_4)))) (refSp (refXs x0 x2))

/-- and its result. -/
def ref (x0 : FVec Ideal S16640x128 .f32) (x1 x2 : FVec Ideal S1x128 .f32) : FVec Ideal S16640x128 .f32 :=
  pad S16640x128 ![48, 0] ![192, 120] ![0, 0] (concatenate Cert.Reference26Ideal.S16400x8 1 [⟨Cert.Reference26Ideal.S16400x4, refFirst x0⟩, ⟨Cert.Reference26Ideal.S16400x4, refSecond x0 x1 x2⟩] Cert.Reference26Ideal.Gen.concatenates_S16400x4_S16400x4_S16400x8_d1) (sitofp .f32 (constantI Cert.Reference26Ideal.S_ 32 0#32)) Cert.Reference26Ideal.Gen.pads_S16400x8_S16640x128_481920_01200 Cert.Reference26Ideal.Gen.h_S_

/-- The elements of the columns of the two gates. -/
theorem refB_apply (x0 : FVec Ideal S16640x128 .f32) (r : Fin 16400) (k : Fin 4) :
    refB x0 (ix2 r k) = at2 x0 (48 + r.val) k.val := by
  unfold refB
  pointwise
  exact at2_idx x0 _ _ _ rfl rfl

theorem refXs_apply (x0 : FVec Ideal S16640x128 .f32) (x2 : FVec Ideal S1x128 .f32) (r : Fin 16400) (k : Fin 4) :
    refXs x0 x2 (ix2 r k) = at2 x0 (48 + r.val) (4 + k.val) + at2 x2 0 (4 + k.val) := by
  unfold refXs
  pointwise
  exact congrArg₂ (fun a b : EReal => a + b) (at2_idx x0 _ _ _ rfl rfl) (at2_idx x2 _ _ _ rfl rfl)

/-- The reference's softplus is the call's, -/
theorem refSp_apply (y : FVec Ideal Cert.Reference26Ideal.S16400x4 .f32) (r : Fin 16400) (k : Fin 4) : refSp y (ix2 r k) = softplus (y (ix2 r k)) := by
  unfold refSp softplus
  pointwise
  rw [if_neg (fun h => h rfl)]
  rfl

/-- its first gate the logistic function, -/
theorem refFirst_apply (x0 : FVec Ideal S16640x128 .f32) (r : Fin 16400) (k : Fin 4) :
    refFirst x0 (ix2 r k) = logi (at2 x0 (48 + r.val) k.val) := by
  rw [← refB_apply]
  unfold refFirst logi
  generalize refB x0 = e
  pointwise

/-- and its second the decay. -/
theorem refSecond_apply (x0 : FVec Ideal S16640x128 .f32) (x1 x2 : FVec Ideal S1x128 .f32) (r : Fin 16400) (k : Fin 4) :
    refSecond x0 x1 x2 (ix2 r k) = -Ideal.exp (at2 x1 0 (4 + k.val)) * softplus (at2 x0 (48 + r.val) (4 + k.val) + at2 x2 0 (4 + k.val)) := by
  rw [← refXs_apply, ← refSp_apply]
  unfold refSecond
  generalize refSp (refXs x0 x2) = s
  pointwise
  exact congrArg (fun a => -Ideal.exp a * s (ix2 r k)) (at2_idx x1 _ _ _ rfl rfl)

theorem sitofp_zero : (FloatOps.sitofp (F := Ideal) FTy.f32 0#32 : EReal) = 0 := by
  show (((0#32).toInt : ℝ) : EReal) = 0
  simp

/-- The reference's result is the gates of the sequence's rows. -/
theorem value (x0 : FVec Ideal S16640x128 .f32) (x1 x2 : FVec Ideal S1x128 .f32) : gates x0 x1 x2 = ref x0 x1 x2 := by
  funext i
  obtain ⟨r, k, rfl⟩ : ∃ (r : Fin 16640) (k : Fin 128), i = ix2 r k := ⟨i 0, i 1, eq_ix2 i⟩
  have hr : r.val < 16640 := r.isLt
  have hg : gates x0 x1 x2 (ix2 r k) = if 48 ≤ r.val ∧ r.val < 16448
    then gate k (at2 x0 r.val k.val) (at2 x1 0 k.val) (at2 x2 0 k.val) else 0 := rfl
  rw [hg]
  have first : ∀ (a : Fin 16400) (b : Fin 4), refFirst x0 (ix2 a b) = logi (at2 x0 (48 + a.val) b.val) := refFirst_apply x0
  have second : ∀ (a : Fin 16400) (b : Fin 4), refSecond x0 x1 x2 (ix2 a b)
    = -Ideal.exp (at2 x1 0 (4 + b.val)) * softplus (at2 x0 (48 + a.val) (4 + b.val) + at2 x2 0 (4 + b.val)) := refSecond_apply x0 x1 x2
  unfold ref
  generalize refFirst x0 = p at first ⊢
  generalize refSecond x0 x1 x2 = q at second ⊢
  pointwise
  unfold gate
  by_cases h : 48 ≤ r.val ∧ r.val < 16448
  · have er : 48 + (r.val - 48) = r.val := by omega
    rw [if_pos h]
    by_cases h8 : k.val < 8
    · rw [dif_pos (by omega)]
      by_cases h4 : k.val < 4
      · rw [if_pos h4, dif_pos h4, first]
        dsimp only
        rw [er]
      · have ek : 4 + (k.val - 4) = k.val := by omega
        rw [if_neg h4, if_pos h8, dif_neg h4, second]
        dsimp only
        rw [er, ek]
    · rw [dif_neg (by omega), if_neg (by omega), if_neg h8]
      exact sitofp_zero.symm
  · rw [if_neg h, dif_neg (by omega)]
    exact sitofp_zero.symm

end Cert.MixerGates

end
-- ==== Proof.GatedNorm.lean ====
/-
  The gated norm of the mixer: the call takes 640 rows at a time, each cut into four heads of 128 columns, normalises each head's
  row, multiplies it by the weight and by the gate times its logistic function, and writes the last 512 columns of the array it is
  given. The reference normalises all rows, head by head, and joins the given columns and these. Over the extended reals the two
  are equal.
-/
module

public import proofs.«01_k».proof.Proof.Blocks
public import proofs.«01_k».proof.Proof.Gen.Kernel27Ideal.Value
public import proofs.«01_k».proof.Proof.Gen.Reference27Ideal.Run

@[expose] public section

set_option maxRecDepth 16384

noncomputable section

namespace Cert.GatedNorm

open Cert.Kernel27Ideal Cert.Kernel27Ideal.Gen Cert.Blocks
open Idealize.ShloMosaic Idealize.ShloMosaic.TcCoe Idealize.SL.Sem

variable (m : (ℓ : Loc nD τ sig) → Buf (Elt Ideal) ℓ)

/-! ## One head -/

/-- The logistic function, a head's mean square, and one over its root. -/
def logi (z : EReal) : EReal := Ideal.div 1 (1 + Ideal.exp (-z))
def meanSq (o : Fin 128 → EReal) : EReal :=
  Ideal.div (∑ k : Fin 128, o k * o k) (Ideal.ofBits .f32 0x43000000#32) + Ideal.ofBits .f32 0x358637BD#32
def scale (o : Fin 128 → EReal) : EReal := Ideal.rsqrt (meanSq o)

/-- A head's row of the gated norm. -/
def normRow (o z nw : Fin 128 → EReal) (k : Fin 128) : EReal := o k * scale o * nw k * (z k * logi (z k))

/-- The four heads' rows as the body computes them. -/
theorem head0 (v0 : Vec Ideal S1x128 .f32) (v1 v2 : Vec Ideal S640x128 .f32) (r : Fin 640) (k : Fin 128) :
    k0_pay2 v0 v1 v2 (ix2 r k) = normRow (fun l => v1 (ix2 r l)) (fun l => v2 (ix2 r l)) (fun l => v0 (ix2 0 l)) k := by
  unfold normRow logi scale meanSq
  pointwise [k0_pay2]
  simp only [zero_sub]

theorem head1 (v0 : Vec Ideal S1x128 .f32) (v1 v2 : Vec Ideal S640x128 .f32) (r : Fin 640) (k : Fin 128) :
    k0_pay4 v0 v1 v2 (k0_pay3 v1) (ix2 r k) = normRow (fun l => v1 (ix2 r l)) (fun l => v2 (ix2 r l)) (fun l => v0 (ix2 0 l)) k :=
  head0 v0 v1 v2 r k

theorem head2 (v0 : Vec Ideal S1x128 .f32) (v1 v2 : Vec Ideal S640x128 .f32) (r : Fin 640) (k : Fin 128) :
    k0_pay5 v0 v1 v2 (ix2 r k) = normRow (fun l => v1 (ix2 r l)) (fun l => v2 (ix2 r l)) (fun l => v0 (ix2 0 l)) k :=
  head0 v0 v1 v2 r k

theorem head3 (v0 : Vec Ideal S1x128 .f32) (v1 v2 : Vec Ideal S640x128 .f32) (r : Fin 640) (k : Fin 128) :
    k0_pay1 v0 v1 v2 (ix2 r k) = normRow (fun l => v1 (ix2 r l)) (fun l => v2 (ix2 r l)) (fun l => v0 (ix2 0 l)) k :=
  head0 v0 v1 v2 r k

/-! ## What the body leaves in its block -/

/-- The columns of a head in a row of an array, the head's first column given. -/
def hd {a b : ℕ} (X : (⟨2, ![a, b]⟩ : Shape).Idx → EReal) (r o : ℕ) (l : Fin 128) : EReal := at2 X r (o + l.val)

/-- The column in its head. -/
def lane (n : ℕ) : Fin 128 := ⟨n % 128, Nat.mod_lt _ (by norm_num)⟩

/-- The gated norm at every index of a block. -/
def blk (x0 x1 : S640x512.Idx → EReal) (x2 : S1x128.Idx → EReal) (y : S640x512.Idx) : EReal :=
  normRow (hd x0 (y 0).val (128 * ((y 1).val / 128))) (hd x1 (y 0).val (128 * ((y 1).val / 128))) (hd x2 0 0) (lane (y 1).val)

/-- A load of a head's columns reads them. -/
theorem ld_head (X : Vec Ideal S640x512 .f32) (o : ℕ) (inb : ∀ a, (![0, o] : Fin 2 → ℕ) a + S640x128.size a ≤ S640x512.size a)
    (r : Fin 640) (l : Fin 128) :
    View.ld X (Rect.unit (s := S640x512) ![0, o] S640x128.size inb) (ix2 r l) = hd X r.val o l := by
  show X ((Rect.unit (s := S640x512) ![0, o] S640x128.size inb).idx (ix2 r l)) = _
  refine at2_idx X _ _ _ ?_ ?_
  · show 0 + 1 * r.val = _; rw [one_mul, zero_add]
  · show o + 1 * l.val = _; rw [one_mul]

/-- The weight's block is its one row. -/
theorem ld_weight (X : Vec Ideal S1x128 .f32) (l : Fin 128) : X (ix2 0 l) = hd X 0 0 l :=
  at2_idx X _ _ _ rfl (Nat.zero_add _).symm

/-- What is stored at a head's columns is the block's gated norm there. -/
theorem piece (x0 x1 : Vec Ideal S640x512 .f32) (x2 : Vec Ideal S1x128 .f32) (o : ℕ) (ho : o % 128 = 0)
    (inb : ∀ a, (![0, o] : Fin 2 → ℕ) a + S640x128.size a ≤ S640x512.size a) (f : S640x128.Idx → EReal)
    (hf : ∀ (r : Fin 640) (k : Fin 128), f (ix2 r k)
      = normRow (fun l => View.ld x0 (Rect.unit (s := S640x512) ![0, o] S640x128.size inb) (ix2 r l))
          (fun l => View.ld x1 (Rect.unit (s := S640x512) ![0, o] S640x128.size inb) (ix2 r l)) (fun l => x2 (ix2 0 l)) k)
    (x : S640x128.Idx) : f x = blk x0 x1 x2 ((Rect.unit (s := S640x512) ![0, o] S640x128.size inb).emb x) := by
  have e0 : ((Rect.unit (s := S640x512) ![0, o] S640x128.size inb).emb x 0).val = (x 0).val := by
    show 0 + 1 * (x 0).val = _; rw [one_mul, zero_add]
  have e1 : ((Rect.unit (s := S640x512) ![0, o] S640x128.size inb).emb x 1).val = o + (x 1).val := by
    show o + 1 * (x 1).val = _; rw [one_mul]
  have h1 : (x 1).val < 128 := (x 1).isLt
  have eo : 128 * ((o + (x 1).val) / 128) = o := by omega
  have ek : lane (o + (x 1).val) = x 1 := Fin.ext (by show (o + (x 1).val) % 128 = (x 1).val; omega)
  refine (congrArg f (eq_ix2 x)).trans ((hf (x 0) (x 1)).trans ?_)
  unfold blk
  simp only [e0, e1, eo, ek]
  rw [funext (fun l => ld_head x0 o inb (x 0) l), funext (fun l => ld_head x1 o inb (x 0) l), funext (fun l => ld_weight x2 l)]

/-- The four stores leave the block's gated norm. -/
theorem out_eq (c : Dev nD) (i : grid0.Coords)
    (a2 : Memref sig .tc .vmem S640x512 .f32) (h2 : a2.IsWhole) (a3 : Memref sig .tc .vmem S640x512 .f32) (h3 : a3.IsWhole)
    (a4 : Memref sig .tc .vmem S1x128 .f32) (h4 : a4.IsWhole) (a5 : Memref sig .tc .vmem S640x512 .bf16) (h5 : a5.IsWhole)
    (x0 x1 : Vec Ideal S640x512 .f32) (x2 : Vec Ideal S1x128 .f32) :
    out0_A_3 c i a2 h2 a3 h3 a4 h4 a5 h5 x0 x1 x2 = blk x0 x1 x2 := by
  unfold out0_A_3
  rw [View.read_writes_eq_canon _ _ _ (cover0_A_3 c i a2 h2 a3 h3 a4 h4 a5 h5 x0 x1 x2)]
  funext y
  refine View.canon_apply_of_pieces (blk x0 x1 x2) _ ?_ y (cover0_A_3 c i a2 h2 a3 h3 a4 h4 a5 h5 x0 x1 x2 y)
  unfold kernelRun0_A
  dsimp only
  sl_unfold_words
  simp only [View.readAt_eq_ld, h2.read_unread, h3.read_unread, h4.read_unread, h5.read_unread,
    View.ld_unit_zero (S := S1x128) hz, List.forall_mem_cons]
  exact ⟨piece x0 x1 x2 384 rfl _ _ (fun r k => head3 _ _ _ r k), piece x0 x1 x2 256 rfl _ _ (fun r k => head2 _ _ _ r k),
    piece x0 x1 x2 128 rfl _ _ (fun r k => head1 _ _ _ r k), piece x0 x1 x2 0 rfl _ _ (fun r k => head0 _ _ _ r k),
    fun _ hp => absurd hp (List.not_mem_nil)⟩

/-! ## The blocks the windows stage -/

/-- The windows' block indices at a grid point. -/
theorem idx_facts : ∀ t : Fin cfg0.N, (win0_0.index t 0 = t.val ∧ win0_0.index t 1 = 0)
    ∧ (win0_1.index t 0 = t.val ∧ win0_1.index t 1 = 5) ∧ (win0_2.index t 0 = 0 ∧ win0_2.index t 1 = 0)
    ∧ (win0_3.index t 0 = t.val ∧ win0_3.index t 1 = 1) :=
  (by decide +kernel : ∀ t : Fin grid0.N, _)

/-- The arguments as arrays of extended reals. -/
abbrev X0 (c : Dev nD) : S16640x1024.Idx → EReal := m ((c : Thread nD τ).loc main_arg0)
abbrev X1 (c : Dev nD) : S16640x512.Idx → EReal := m ((c : Thread nD τ).loc main_arg1)
abbrev X2 (c : Dev nD) : S16640x3072.Idx → EReal := m ((c : Thread nD τ).loc main_arg2)
abbrev X3 (c : Dev nD) : S1x128.Idx → EReal := m ((c : Thread nD τ).loc main_arg3)

/-- A block of the rows to be normalised is the array's rows, -/
theorem blk0 (c : Dev nD) (t : Fin cfg0.N) (r : Fin 640) (k : Fin 512) :
    (iblk m c 0 t : Vec Ideal S640x512 .f32) (ix2 r k) = at2 (X1 m c) (t.val * 640 + r.val) (0 + k.val) := by
  unfold iblk
  rw [View.read_apply]
  refine at2_idx (X1 m c) _ _ _ ?_ ?_
  · show win0_0.index t 0 * 640 + 1 * r.val = _; rw [(idx_facts t).1.1, one_mul]
  · show win0_0.index t 1 * 512 + 1 * k.val = _; rw [(idx_facts t).1.2, zero_mul, one_mul]

/-- one of the gates the last columns of their rows, -/
theorem blk1 (c : Dev nD) (t : Fin cfg0.N) (r : Fin 640) (k : Fin 512) :
    (iblk m c 1 t : Vec Ideal S640x512 .f32) (ix2 r k) = at2 (X2 m c) (t.val * 640 + r.val) (2560 + k.val) := by
  unfold iblk
  rw [View.read_apply]
  refine at2_idx (X2 m c) _ _ _ ?_ ?_
  · show win0_1.index t 0 * 640 + 1 * r.val = _; rw [(idx_facts t).2.1.1, one_mul]
  · show win0_1.index t 1 * 512 + 1 * k.val = _; rw [(idx_facts t).2.1.2, one_mul]

/-- and the weight's block the weight. -/
theorem blk2 (c : Dev nD) (t : Fin cfg0.N) (k : Fin 128) :
    (iblk m c 2 t : Vec Ideal S1x128 .f32) (ix2 0 k) = at2 (X3 m c) 0 k.val := by
  unfold iblk
  rw [View.read_apply]
  refine at2_idx (X3 m c) _ _ _ ?_ ?_
  · show win0_2.index t 0 * 1 + 1 * 0 = _; rw [(idx_facts t).2.2.1.1]
  · show win0_2.index t 1 * 128 + 1 * k.val = _; rw [(idx_facts t).2.2.1.2, zero_mul, zero_add, one_mul]

/-- A head's columns of a block are those of the array. -/
theorem hd_blk {a b : ℕ} (x : S640x512.Idx → EReal) (X : (⟨2, ![a, b]⟩ : Shape).Idx → EReal) (R C : ℕ)
    (hx : ∀ (r : Fin 640) (k : Fin 512), x (ix2 r k) = at2 X (R + r.val) (C + k.val)) (r o : ℕ) (hr : r < 640) (ho : o + 128 ≤ 512) :
    hd x r o = hd X (R + r) (C + o) := by
  funext l
  have hl : l.val < 128 := l.isLt
  unfold hd
  rw [at2_of_lt x r (o + l.val) hr (by omega), hx ⟨r, hr⟩ ⟨o + l.val, by omega⟩, Nat.add_assoc C o l.val]

theorem hd_weight (c : Dev nD) (t : Fin cfg0.N) : hd (show S1x128.Idx → EReal from iblk m c 2 t) 0 0 = hd (X3 m c) 0 0 := by
  funext l
  unfold hd
  rw [Nat.zero_add, at2_of_lt _ 0 l.val (by norm_num) l.isLt]
  exact blk2 m c t l

/-! ## The result -/

/-- A head's row of the gated norm of the arrays, and the given array with the gated norm in its last columns. -/
def rowOf (x1 : S16640x512.Idx → EReal) (x2 : S16640x3072.Idx → EReal) (x3 : S1x128.Idx → EReal) (r h : ℕ) (k : Fin 128) : EReal :=
  normRow (hd x1 r (128 * h)) (hd x2 r (2560 + 128 * h)) (hd x3 0 0) k
def joined (x0 : S16640x1024.Idx → EReal) (x1 : S16640x512.Idx → EReal) (x2 : S16640x3072.Idx → EReal) (x3 : S1x128.Idx → EReal) :
    S16640x1024.Idx → EReal :=
  fun i => if 512 ≤ (i 1).val then rowOf x1 x2 x3 (i 0).val (((i 1).val - 512) / 128) (lane (i 1).val) else x0 i

/-- A block's gated norm at an index is the arrays' at the index's place. -/
theorem blk_at (c : Dev nD) (t : Fin cfg0.N) (y : S640x512.Idx) :
    blk (iblk m c 0 t) (iblk m c 1 t) (iblk m c 2 t) y
      = rowOf (X1 m c) (X2 m c) (X3 m c) (t.val * 640 + (y 0).val) ((y 1).val / 128) (lane (y 1).val) := by
  have hy0 : (y 0).val < 640 := (y 0).isLt
  have hy1 : (y 1).val < 512 := (y 1).isLt
  have ho : 128 * ((y 1).val / 128) + 128 ≤ 512 := by omega
  unfold blk rowOf
  rw [hd_blk (iblk m c 0 t) (X1 m c) (t.val * 640) 0 (blk0 m c t) _ _ hy0 ho,
    hd_blk (iblk m c 1 t) (X2 m c) (t.val * 640) 2560 (blk1 m c t) _ _ hy0 ho, Nat.zero_add]
  exact congrArg (fun w => normRow _ _ w _) (hd_weight m c t)

/-- What a grid point writes back is its block of the last columns. -/
theorem flushed_eq (c : Dev nD) (t : Fin cfg0.N) :
    (dats m 0 c).flushed 3 t = ((cfg0.win 3).blk t).view.read (Elt Ideal) (joined (X0 m c) (X1 m c) (X2 m c) (X3 m c)) := by
  rw [Value.flushed3_A, out_eq]
  funext y
  show blk (iblk m c 0 t) (iblk m c 1 t) (iblk m c 2 t) y
    = joined (X0 m c) (X1 m c) (X2 m c) (X3 m c) (((cfg0.win 3).blk t).view.emb y)
  have e0 : (((cfg0.win 3).blk t).view.emb y 0).val = t.val * 640 + (y 0).val := by
    show win0_3.index t 0 * 640 + 1 * (y 0).val = _; rw [(idx_facts t).2.2.2.1, one_mul]
  have e1 : (((cfg0.win 3).blk t).view.emb y 1).val = 512 + (y 1).val := by
    show win0_3.index t 1 * 512 + 1 * (y 1).val = _; rw [(idx_facts t).2.2.2.2, one_mul, one_mul]
  have el : lane (512 + (y 1).val) = lane (y 1).val := Fin.ext (by
    show (512 + (y 1).val) % 128 = (y 1).val % 128; omega)
  unfold joined
  rw [e0, e1, if_pos (Nat.le_add_right _ _), Nat.add_sub_cancel_left, el]
  exact blk_at m c t y

/-- An index is in a point's block when its coordinates are in the block's ranges. -/
theorem mem_blk (t : Fin cfg0.N) (i : S16640x1024.Idx) :
    i ∈ ((cfg0.win 3).blk t).view.set ↔
      ∀ a : Fin 2, win0_3.index t a * S640x512.size a ≤ (i a).val ∧ (i a).val < win0_3.index t a * S640x512.size a + S640x512.size a := by
  show i ∈ ((View.whole main_v0).slice (win0_3.rect t)).set ↔ _
  rw [View.set_slice_whole, Rect.mem_set_unit]
  exact Iff.rfl

/-- Every index of the last columns is in the block of the point that has its row, -/
theorem covered (i : S16640x1024.Idx) (h : 512 ≤ (i 1).val) :
    ∃ t : Fin cfg0.N, (cfg0.win 3).flush t = true ∧ i ∈ ((cfg0.win 3).blk t).view.set := by
  have hi0 : (i 0).val < 16640 := (i 0).isLt
  have hi1 : (i 1).val < 1024 := (i 1).isLt
  have hN : cfg0.N = 26 := N_0
  refine ⟨⟨(i 0).val / 640, by omega⟩, flush0_3 _, ?_⟩
  rw [mem_blk]
  intro a
  match a with
  | ⟨0, _⟩ =>
    show win0_3.index _ 0 * 640 ≤ (i 0).val ∧ (i 0).val < win0_3.index _ 0 * 640 + 640
    rw [(idx_facts _).2.2.2.1]; dsimp only; omega
  | ⟨1, _⟩ =>
    show win0_3.index _ 1 * 512 ≤ (i 1).val ∧ (i 1).val < win0_3.index _ 1 * 512 + 512
    rw [(idx_facts _).2.2.2.2]; omega

/-- no index of the other columns is in any block, -/
theorem uncovered (i : S16640x1024.Idx) (h : ¬512 ≤ (i 1).val) (t : Fin cfg0.N) : i ∉ ((cfg0.win 3).blk t).view.set := by
  rw [mem_blk]
  intro hm
  have h1 : win0_3.index t 1 * 512 ≤ (i 1).val := (hm 1).1
  rw [(idx_facts t).2.2.2.2] at h1
  omega

/-- and the result starts as the array given. -/
theorem entry_given (c : Dev nD) (i : S16640x1024.Idx) : (V m c (Pipeline.arrRef spec0 3) : S16640x1024.Idx → EReal) i = X0 m c i := by
  have e : V m c main_v0 = m ((c : Thread nD τ).loc main_arg0) := by
    show StableHlo.after hostOps0 _ (Proc.devRef .tc main_v0) = _
    after_results
    rfl
  exact congrFun e i

/-- The result after the run is the given array with the gated norm in its last columns. -/
theorem final (c : Dev nD) : (dats m 0 c).arrAt 3 cfg0.N = joined (X0 m c) (X1 m c) (X2 m c) (X3 m c) := by
  funext i
  by_cases h : 512 ≤ (i 1).val
  · obtain ⟨t, hf, hi⟩ := covered i h
    exact (dats m 0 c).arrAt_apply_of_mem 3 _ (fun t _ => flushed_eq m c t) cfg0.N t i t.isLt hf hi
  · refine (Value.entry3 m c i (fun t _ => uncovered i h t)).trans ((entry_given m c i).trans ?_)
    unfold joined
    rw [if_neg h]

/-! ## The reference -/

/-- The reference's arguments cut into heads: the rows to be normalised, -/
def refO (x2 : FVec Ideal S16640x512 .f32) : FVec Ideal Cert.Reference27Ideal.S16640x4x128 .f32 :=
  shapeCast Cert.Reference27Ideal.S16640x4x128 x2 Cert.Reference27Ideal.Gen.shapeCasts_S16640x512_S16640x4x128

/-- the gates, -/
def refZ (x3 : FVec Ideal S16640x3072 .f32) : FVec Ideal Cert.Reference27Ideal.S16640x4x128 .f32 :=
  shapeCast Cert.Reference27Ideal.S16640x4x128 (extractStridedSlice Cert.Reference27Ideal.S16640x512 ![0, 2560] x3 Cert.Reference27Ideal.Gen.slices_S16640x3072_S16640x512_0_2560) Cert.Reference27Ideal.Gen.shapeCasts_S16640x512_S16640x4x128

/-- and the weight. -/
def refW (x4 : FVec Ideal S1x128 .f32) : FVec Ideal Cert.Reference27Ideal.S16640x4x128 .f32 :=
  broadcastInDim Cert.Reference27Ideal.S16640x4x128 ![0, 1, 2] Cert.Reference27Ideal.Gen.bcast_S1x1x128_S16640x4x128_0_1_2 (broadcastInDim Cert.Reference27Ideal.S1x1x128 ![1, 2] Cert.Reference27Ideal.Gen.bcast_S1x128_S1x1x128_1_2 x4)

/-- The logistic function of the gates. -/
def refSig (x3 : FVec Ideal S16640x3072 .f32) : FVec Ideal Cert.Reference27Ideal.S16640x4x128 .f32 :=
  Host.divf (broadcastInDim Cert.Reference27Ideal.S16640x4x128 ![] Cert.Reference27Ideal.Gen.bcast_S_S16640x4x128 (constant Cert.Reference27Ideal.S_ .f32 0x3F800000#32)) (addf (broadcastInDim Cert.Reference27Ideal.S16640x4x128 ![] Cert.Reference27Ideal.Gen.bcast_S_S16640x4x128 (constant Cert.Reference27Ideal.S_ .f32 0x3F800000#32)) (Host.exp (Host.negf (refZ x3))))

/-- The mean squares of the heads' rows, and their factors. -/
def refMeanSq (x2 : FVec Ideal S16640x512 .f32) : FVec Ideal Cert.Reference27Ideal.S16640x4x1 .f32 :=
  addf (Host.divf (broadcastInDim Cert.Reference27Ideal.S16640x4x1 ![0, 1] Cert.Reference27Ideal.Gen.bcast_S16640x4_S16640x4x1_0_1 (Host.reduceAdd (mulf (refO x2) (refO x2)) (constant Cert.Reference27Ideal.S_ .f32 0x00000000#32) Cert.Reference27Ideal.Gen.reducesTo_S16640x4x128_S16640x4_d2 Cert.Reference27Ideal.Gen.h_S_)) (broadcastInDim Cert.Reference27Ideal.S16640x4x1 ![] Cert.Reference27Ideal.Gen.bcast_S_S16640x4x1 (constant Cert.Reference27Ideal.S_ .f32 0x43000000#32))) (broadcastInDim Cert.Reference27Ideal.S16640x4x1 ![] Cert.Reference27Ideal.Gen.bcast_S_S16640x4x1 (constant Cert.Reference27Ideal.S_ .f32 0x358637BD#32))

def refScale (x2 : FVec Ideal S16640x512 .f32) : FVec Ideal Cert.Reference27Ideal.S16640x4x1 .f32 :=
  Host.rsqrt (refMeanSq x2)

/-- The reference's gated norm, head by head, and its result. -/
def refNorm (x1 : FVec Ideal S16640x512 .f32) (x2 : FVec Ideal S16640x3072 .f32) (x3 : FVec Ideal S1x128 .f32) : FVec Ideal Cert.Reference27Ideal.S16640x4x128 .f32 :=
  mulf (mulf (mulf (refO x1) (broadcastInDim Cert.Reference27Ideal.S16640x4x128 ![0, 1, 2] Cert.Reference27Ideal.Gen.bcast_S16640x4x1_S16640x4x128_0_1_2 (refScale x1))) (refW x3)) (mulf (refZ x2) (refSig x2))
def ref (x0 : FVec Ideal S16640x1024 .bf16) (x1 : FVec Ideal S16640x512 .f32) (x2 : FVec Ideal S16640x3072 .f32) (x3 : FVec Ideal S1x128 .f32) : FVec Ideal S16640x1024 .bf16 :=
  concatenate S16640x1024 1 [⟨Cert.Reference27Ideal.S16640x512, (extractStridedSlice Cert.Reference27Ideal.S16640x512 ![0, 0] x0 Cert.Reference27Ideal.Gen.slices_S16640x1024_S16640x512_0_0)⟩, ⟨Cert.Reference27Ideal.S16640x512, (truncf .bf16 (shapeCast Cert.Reference27Ideal.S16640x512 (refNorm x1 x2 x3) Cert.Reference27Ideal.Gen.shapeCasts_S16640x4x128_S16640x512) Cert.Reference27Ideal.Gen.bitsLt_bf16_f32)⟩] Cert.Reference27Ideal.Gen.concatenates_S16640x512_S16640x512_S16640x1024_d1

/-- A row of 512 columns is four heads of 128. -/
theorem cut_heads (x : FVec Ideal S16640x512 .f32) (r : Fin 16640) (h : Fin 4) (k : Fin 128) :
    shapeCast Cert.Reference27Ideal.S16640x4x128 x Cert.Reference27Ideal.Gen.shapeCasts_S16640x512_S16640x4x128 (ix3 r h k)
      = at2 x r.val (128 * h.val + k.val) := by
  have hh : h.val < 4 := h.isLt
  have hk : k.val < 128 := k.isLt
  rw [at2_of_lt x r.val (128 * h.val + k.val) r.isLt (by omega)]
  refine shapeCast_apply x Cert.Reference27Ideal.Gen.shapeCasts_S16640x512_S16640x4x128 (ix3 r h k) (ix2 r ⟨128 * h.val + k.val, by omega⟩) ?_
  rw [Shape.rowMajor_val_three, Shape.rowMajor_val_two]
  show r.val * 512 + (128 * h.val + k.val) = (r.val * 4 + h.val) * 128 + k.val
  omega

/-- The cut arguments at an index, -/
theorem refO_apply (x2 : FVec Ideal S16640x512 .f32) (r : Fin 16640) (h : Fin 4) (k : Fin 128) :
    refO x2 (ix3 r h k) = hd x2 r.val (128 * h.val) k := cut_heads x2 r h k

theorem refZ_apply (x3 : FVec Ideal S16640x3072 .f32) (r : Fin 16640) (h : Fin 4) (k : Fin 128) :
    refZ x3 (ix3 r h k) = hd x3 r.val (2560 + 128 * h.val) k := by
  have hh : h.val < 4 := h.isLt
  have hk : k.val < 128 := k.isLt
  refine (cut_heads _ r h k).trans ?_
  rw [at2_of_lt _ r.val (128 * h.val + k.val) r.isLt (by omega)]
  exact at2_idx x3 _ _ _ (by show 0 + r.val = _; omega) (by show 2560 + (128 * h.val + k.val) = _; omega)

theorem refW_apply (x4 : FVec Ideal S1x128 .f32) (r : Fin 16640) (h : Fin 4) (k : Fin 128) : refW x4 (ix3 r h k) = hd x4 0 0 k := by
  rw [← ld_weight x4 k]
  pointwise [refW]

/-- the gates' logistic function, -/
theorem refSig_apply (x3 : FVec Ideal S16640x3072 .f32) (r : Fin 16640) (h : Fin 4) (k : Fin 128) :
    refSig x3 (ix3 r h k) = logi (hd x3 r.val (2560 + 128 * h.val) k) := by
  rw [← refZ_apply]
  unfold refSig logi
  generalize refZ x3 = z
  pointwise

/-- the heads' mean squares and factors, -/
theorem refMeanSq_apply (x2 : FVec Ideal S16640x512 .f32) (r : Fin 16640) (h : Fin 4) :
    refMeanSq x2 (ix3 r h 0) = meanSq (hd x2 r.val (128 * h.val)) := by
  have e : (fun k => refO x2 (ix3 r h k)) = hd x2 r.val (128 * h.val) := funext fun k => refO_apply x2 r h k
  rw [← e]
  unfold refMeanSq meanSq
  generalize refO x2 = o
  pointwise

theorem refScale_apply (x2 : FVec Ideal S16640x512 .f32) (r : Fin 16640) (h : Fin 4) :
    refScale x2 (ix3 r h 0) = scale (hd x2 r.val (128 * h.val)) :=
  congrArg Ideal.rsqrt (refMeanSq_apply x2 r h)

/-- and the gated norm of a head's row. -/
theorem refNorm_apply (x1 : FVec Ideal S16640x512 .f32) (x2 : FVec Ideal S16640x3072 .f32) (x3 : FVec Ideal S1x128 .f32) (r : Fin 16640) (h : Fin 4) (k : Fin 128) :
    refNorm x1 x2 x3 (ix3 r h k) = rowOf x1 x2 x3 r.val h.val k := by
  unfold rowOf normRow
  rw [← refO_apply, ← refScale_apply, ← refW_apply x3 r h k, ← refSig_apply, ← refZ_apply]
  unfold refNorm
  generalize refO x1 = o
  generalize refScale x1 = s
  generalize refW x3 = w
  generalize refZ x2 = z
  generalize refSig x2 = g
  pointwise

/-- Four heads of 128 columns are a row of 512. -/
theorem join_heads (y : FVec Ideal Cert.Reference27Ideal.S16640x4x128 .f32) (r : Fin 16640) (l : Fin 512) :
    shapeCast Cert.Reference27Ideal.S16640x512 y Cert.Reference27Ideal.Gen.shapeCasts_S16640x4x128_S16640x512 (ix2 r l)
      = y (ix3 r ⟨l.val / 128, by have := l.isLt; omega⟩ (lane l.val)) := by
  refine shapeCast_apply y Cert.Reference27Ideal.Gen.shapeCasts_S16640x4x128_S16640x512 (ix2 r l) (ix3 r ⟨l.val / 128, by have := l.isLt; omega⟩ (lane l.val)) ?_
  rw [Shape.rowMajor_val_three, Shape.rowMajor_val_two]
  show (r.val * 4 + l.val / 128) * 128 + l.val % 128 = r.val * 512 + l.val
  omega

/-- The given array's first columns and the gated norm in its last. -/
theorem join_cols (x0 : FVec Ideal S16640x1024 .bf16) (y : FVec Ideal Cert.Reference27Ideal.S16640x512 .f32) (r : Fin 16640) (c : Fin 1024) :
    (concatenate S16640x1024 1 [⟨Cert.Reference27Ideal.S16640x512, (extractStridedSlice Cert.Reference27Ideal.S16640x512 ![0, 0] x0 Cert.Reference27Ideal.Gen.slices_S16640x1024_S16640x512_0_0)⟩,
      ⟨Cert.Reference27Ideal.S16640x512, (truncf .bf16 y Cert.Reference27Ideal.Gen.bitsLt_bf16_f32)⟩]
      Cert.Reference27Ideal.Gen.concatenates_S16640x512_S16640x512_S16640x1024_d1 : FVec Ideal S16640x1024 .bf16) (ix2 r c)
      = if h : 512 ≤ c.val then y (ix2 r ⟨c.val - 512, by have := c.isLt; omega⟩) else x0 (ix2 r c) := by
  by_cases h : 512 ≤ c.val
  · rw [dif_pos h]
    rw [concatenate_pair_apply]
    refine (dif_neg (show ¬ c.val < 512 by omega)).trans (congrArg y (funext fun b => Fin.ext ?_))
    match b with
    | ⟨0, _⟩ => rfl
    | ⟨1, _⟩ => rfl
  · rw [dif_neg h]
    rw [concatenate_pair_apply]
    refine (dif_pos (show c.val < 512 by omega)).trans (congrArg x0 (funext fun b => Fin.ext ?_))
    match b with
    | ⟨0, _⟩ => exact Nat.zero_add _
    | ⟨1, _⟩ => exact Nat.zero_add _

/-- The reference's result is the given array with the gated norm in its last columns. -/
theorem value (x0 : FVec Ideal S16640x1024 .bf16) (x1 : FVec Ideal S16640x512 .f32) (x2 : FVec Ideal S16640x3072 .f32)
    (x3 : FVec Ideal S1x128 .f32) : joined x0 x1 x2 x3 = ref x0 x1 x2 x3 := by
  funext i
  obtain ⟨r, c, rfl⟩ : ∃ (r : Fin 16640) (c : Fin 1024), i = ix2 r c := ⟨i 0, i 1, eq_ix2 i⟩
  unfold ref
  refine Eq.trans ?_ (join_cols x0 _ r c).symm
  unfold joined
  by_cases h : 512 ≤ c.val
  · rw [dif_pos h]
    refine (if_pos h).trans ?_
    rw [join_heads, refNorm_apply]
    have hl : lane (c.val - 512) = lane c.val := Fin.ext (by show (c.val - 512) % 128 = c.val % 128; omega)
    show rowOf x1 x2 x3 r.val ((c.val - 512) / 128) (lane c.val) = _
    rw [← hl]
  · rw [dif_neg h]
    exact if_neg h

end Cert.GatedNorm

end
-- ==== Proof.Claims.lean ====
/-
  The claims of the programs, each from its frame and from the equation of its two results. A reference has no
  semaphores, so its frame is its run; the run of a kernel and the run of its reference end at one array of the arguments.
-/
module

public import proofs.«01_k».proof.Defs
public import proofs.«01_k».proof.Proof.DownDx
public import proofs.«01_k».proof.Proof.DownDw
public import proofs.«01_k».proof.Proof.GateUpDx
public import proofs.«01_k».proof.Proof.GateDw
public import proofs.«01_k».proof.Proof.OutDx
public import proofs.«01_k».proof.Proof.OutDw
public import proofs.«01_k».proof.Proof.ProjDx
public import proofs.«01_k».proof.Proof.ProjDw
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.GateFwd
public import proofs.«01_k».proof.Proof.Gen.Kernel9.Frame
public import proofs.«01_k».proof.Proof.DownFwd
public import proofs.«01_k».proof.Proof.Gen.Kernel10.Frame
public import proofs.«01_k».proof.Proof.OutFwd
public import proofs.«01_k».proof.Proof.Gen.Kernel11.Frame
public import proofs.«01_k».proof.Proof.ProjFwd
public import proofs.«01_k».proof.Proof.Gen.Kernel12.Frame
public import proofs.«01_k».proof.Proof.RmsBwd
public import proofs.«01_k».proof.Proof.Gen.Kernel13.Frame
public import proofs.«01_k».proof.Proof.DnPost
public import proofs.«01_k».proof.Proof.Gen.Kernel15.Frame
public import proofs.«01_k».proof.Proof.LossBwd
public import proofs.«01_k».proof.Proof.Gen.Kernel17.Frame
public import proofs.«01_k».proof.Proof.AdamwIn
public import proofs.«01_k».proof.Proof.Gen.Kernel18.Frame
public import proofs.«01_k».proof.Proof.AdamwGateUp
public import proofs.«01_k».proof.Proof.Gen.Kernel19.Frame
public import proofs.«01_k».proof.Proof.AdamwOut
public import proofs.«01_k».proof.Proof.Gen.Kernel20.Frame
public import proofs.«01_k».proof.Proof.AdamwDown
public import proofs.«01_k».proof.Proof.Gen.Kernel21.Frame
public import proofs.«01_k».proof.Proof.AdamwSmall
public import proofs.«01_k».proof.Proof.Gen.Kernel22.Frame
public import proofs.«01_k».proof.Proof.GateGrad
public import proofs.«01_k».proof.Proof.Gen.Kernel14.Frame
public import proofs.«01_k».proof.Proof.ProjGateDx
public import proofs.«01_k».proof.Proof.Gen.Kernel23.Frame
public import proofs.«01_k».proof.Proof.ProjGateDw
public import proofs.«01_k».proof.Proof.Gen.Kernel24.Frame
public import proofs.«01_k».proof.Proof.ProjGateFwd
public import proofs.«01_k».proof.Proof.Gen.Kernel25.Frame
public import proofs.«01_k».proof.Proof.MixerGates
public import proofs.«01_k».proof.Proof.Gen.Kernel26.Frame
public import proofs.«01_k».proof.Proof.GatedNorm
public import proofs.«01_k».proof.Proof.Gen.Kernel27.Frame
public import proofs.«01_k».proof.Proof.Gen.Pre_finite
public import proofs.«01_k».proof.Proof.Gen.Pre_finite_rows
public import proofs.«01_k».proof.Proof.Gen.Pre_finite_heads
public import proofs.«01_k».proof.Proof.Gen.Pre_finite_loss
public import proofs.«01_k».proof.Proof.Gen.Pre_finite_gates
public import Idealize.ShloMosaic.Lib.Quiescent

@[expose] public section

set_option maxRecDepth 16384

noncomputable section

namespace Cert.Claims

open Idealize.ShloMosaic Idealize.ShloMosaic.TcCoe Idealize.SL.Sem

/-! ## The gradients of the gated product's two inputs -/

theorem down_dx_frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem down_dx : Cert.algebraic_KernelIdeal_ReferenceIdeal_pre_finite := by
  intro m g m' g' hpre hargs
  refine ⟨fun c => DownDx.gateArr (DownDx.X0 m c) (DownDx.X1 m c) (DownDx.X2 m c) (DownDx.X3 m c),
    fun c => DownDx.upArr (DownDx.X0 m c) (DownDx.X1 m c) (DownDx.X2 m c),
    (θ_run Cert.KernelIdeal.defs _ _).mono
      (fun r h c => ⟨(h c).1.trans (DownDx.final4 m c), (h c).2.1.trans (DownDx.final5 m c), (h c).2.2⟩)
      (Cert.KernelIdeal.Value.run_blocks m g), ?_⟩
  refine (θ_run Cert.ReferenceIdeal.defs _ _).mono (fun r h c => ⟨(h c).1.trans ?_, (h c).2.1.trans ?_, (h c).2.2⟩)
    (Cert.ReferenceIdeal.Value.run m' g')
  · obtain ⟨e0, e1, e2, e3⟩ := hargs c
    obtain ⟨f0, f1, f2, f3⟩ := DownDx.finite_args _ _ _ _ (hpre c)
    rw [e0, e1, e2, e3]
    exact (DownDx.gate_eq _ _ _ _ f0 f1 f2 f3).symm
  · obtain ⟨e0, e1, e2, _⟩ := hargs c
    rw [e0, e1, e2]
    exact (DownDx.up_eq _ _ _).symm

/-! ## The gradient of the down weight -/

theorem down_dw_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem down_dw : Cert.algebraic_Kernel2Ideal_Reference2Ideal := by
  intro m g m' g' _ hargs
  refine ⟨fun c => DownDw.ref (DownDw.X0 m c) (DownDw.X1 m c) (DownDw.X2 m c), (θ_run Cert.Kernel2Ideal.defs _ _).mono
    (fun r h c => ⟨(h c).1.trans (DownDw.value m c), (h c).2⟩) (Cert.Kernel2Ideal.Value.run m g), ?_⟩
  refine (θ_run Cert.Reference2Ideal.defs _ _).mono (fun r h c => ⟨(h c).1.trans ?_, (h c).2⟩)
    (Cert.Reference2Ideal.Value.run m' g')
  obtain ⟨e0, e1, e2⟩ := hargs c
  rw [e0, e1, e2]
  rfl

/-! ## The gradient of the gated product's input -/

theorem gate_up_dx_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem gate_up_dx : Cert.algebraic_Kernel3Ideal_Reference3Ideal := by
  intro m g m' g' _ hargs
  refine ⟨fun c => GateUpDx.ref (GateUpDx.X0 m c) (GateUpDx.X1 m c) (GateUpDx.X2 m c) (GateUpDx.X3 m c), (θ_run Cert.Kernel3Ideal.defs _ _).mono
    (fun r h c => ⟨(h c).1.trans (GateUpDx.value m c), (h c).2⟩) (Cert.Kernel3Ideal.Value.run m g), ?_⟩
  refine (θ_run Cert.Reference3Ideal.defs _ _).mono (fun r h c => ⟨(h c).1.trans ?_, (h c).2⟩)
    (Cert.Reference3Ideal.Value.run m' g')
  obtain ⟨e0, e1, e2, e3⟩ := hargs c
  rw [e0, e1, e2, e3]
  rfl

/-! ## The gradient of the gate weight -/

theorem gate_dw_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem gate_dw : Cert.algebraic_Kernel4Ideal_Reference4Ideal := by
  intro m g m' g' _ hargs
  refine ⟨fun c => GateDw.ref (GateDw.X0 m c) (GateDw.X1 m c) (GateDw.X2 m c), (θ_run Cert.Kernel4Ideal.defs _ _).mono
    (fun r h c => ⟨(h c).1.trans (GateDw.value m c), (h c).2⟩) (Cert.Kernel4Ideal.Value.run m g), ?_⟩
  refine (θ_run Cert.Reference4Ideal.defs _ _).mono (fun r h c => ⟨(h c).1.trans ?_, (h c).2⟩)
    (Cert.Reference4Ideal.Value.run m' g')
  obtain ⟨e0, e1, e2⟩ := hargs c
  rw [e0, e1, e2]
  rfl

/-! ## The gradient of the output projection's input -/

theorem out_dx_frame : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem out_dx : Cert.algebraic_Kernel5Ideal_Reference5Ideal := by
  intro m g m' g' _ hargs
  refine ⟨fun c => OutDx.ref (OutDx.X0 m c) (OutDx.X1 m c), (θ_run Cert.Kernel5Ideal.defs _ _).mono
    (fun r h c => ⟨(h c).1.trans (OutDx.final m c), (h c).2⟩) (Cert.Kernel5Ideal.Value.run_blocks m g), ?_⟩
  refine (θ_run Cert.Reference5Ideal.defs _ _).mono (fun r h c => ⟨(h c).1.trans ?_, (h c).2⟩)
    (Cert.Reference5Ideal.Value.run m' g')
  obtain ⟨e0, e1⟩ := hargs c
  rw [e0, e1]
  rfl

/-! ## The gradient of the output projection's weight -/

theorem out_dw_frame : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem out_dw : Cert.algebraic_Kernel6Ideal_Reference6Ideal := by
  intro m g m' g' _ hargs
  refine ⟨fun c => OutDw.ref (OutDw.X0 m c) (OutDw.X1 m c), (θ_run Cert.Kernel6Ideal.defs _ _).mono
    (fun r h c => ⟨(h c).1.trans (OutDw.value m c), (h c).2⟩) (Cert.Kernel6Ideal.Value.run m g), ?_⟩
  refine (θ_run Cert.Reference6Ideal.defs _ _).mono (fun r h c => ⟨(h c).1.trans ?_, (h c).2⟩)
    (Cert.Reference6Ideal.Value.run m' g')
  obtain ⟨e0, e1⟩ := hargs c
  rw [e0, e1]
  rfl

/-! ## The gradient of the input projections' input -/

theorem proj_dx_frame : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem proj_dx : Cert.algebraic_Kernel7Ideal_Reference7Ideal := by
  intro m g m' g' _ hargs
  refine ⟨fun c => ProjDx.ref (ProjDx.X0 m c) (ProjDx.X1 m c) (ProjDx.X2 m c), (θ_run Cert.Kernel7Ideal.defs _ _).mono
    (fun r h c => ⟨(h c).1.trans (ProjDx.value m c), (h c).2⟩) (Cert.Kernel7Ideal.Value.run m g), ?_⟩
  refine (θ_run Cert.Reference7Ideal.defs _ _).mono (fun r h c => ⟨(h c).1.trans ?_, (h c).2⟩)
    (Cert.Reference7Ideal.Value.run m' g')
  obtain ⟨e0, e1, e2⟩ := hargs c
  rw [e0, e1, e2]
  rfl

/-! ## The gradient of the input projections' weights -/

theorem proj_dw_frame : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem proj_dw : Cert.algebraic_Kernel8Ideal_Reference8Ideal := by
  intro m g m' g' _ hargs
  refine ⟨fun c => ProjDw.ref (ProjDw.X0 m c) (ProjDw.X1 m c) (ProjDw.X2 m c), (θ_run Cert.Kernel8Ideal.defs _ _).mono
    (fun r h c => ⟨(h c).1.trans (ProjDw.value m c), (h c).2⟩) (Cert.Kernel8Ideal.Value.run m g), ?_⟩
  refine (θ_run Cert.Reference8Ideal.defs _ _).mono (fun r h c => ⟨(h c).1.trans ?_, (h c).2⟩)
    (Cert.Reference8Ideal.Value.run m' g')
  obtain ⟨e0, e1, e2⟩ := hargs c
  rw [e0, e1, e2]
  rfl

/-! ## The feed-forward's first product, of the normalised rows -/

theorem gate_fwd_frame : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem gate_fwd : Cert.algebraic_Kernel9Ideal_Reference9Ideal := by
  intro m g m' g' _ hargs
  refine ⟨fun c => GateFwd.ref (GateFwd.X0 m c) (GateFwd.X1 m c) (GateFwd.X2 m c), (θ_run Cert.Kernel9Ideal.defs _ _).mono
    (fun r h c => ⟨(h c).1.trans (GateFwd.final m c), (h c).2⟩) (Cert.Kernel9Ideal.Value.run_blocks m g), ?_⟩
  refine (θ_run Cert.Reference9Ideal.defs _ _).mono (fun r h c => ⟨(h c).1.trans ?_, (h c).2⟩)
    (Cert.Reference9Ideal.Value.run m' g')
  obtain ⟨e0, e1, e2⟩ := hargs c
  rw [e0, e1, e2]
  rfl

/-! ## The feed-forward's second product with the residual -/

theorem down_fwd_frame : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem down_fwd : Cert.algebraic_Kernel10Ideal_Reference10Ideal := by
  intro m g m' g' _ hargs
  refine ⟨fun c => DownFwd.ref (DownFwd.X0 m c) (DownFwd.X1 m c) (DownFwd.X2 m c) (DownFwd.X3 m c), (θ_run Cert.Kernel10Ideal.defs _ _).mono
    (fun r h c => ⟨(h c).1.trans (DownFwd.value m c), (h c).2⟩) (Cert.Kernel10Ideal.Value.run m g), ?_⟩
  refine (θ_run Cert.Reference10Ideal.defs _ _).mono (fun r h c => ⟨(h c).1.trans ?_, (h c).2⟩)
    (Cert.Reference10Ideal.Value.run m' g')
  obtain ⟨e0, e1, e2, e3⟩ := hargs c
  rw [e0, e1, e2, e3]
  rfl

/-! ## The output projection with the residual -/

theorem out_fwd_frame : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem out_fwd : Cert.algebraic_Kernel11Ideal_Reference11Ideal := by
  intro m g m' g' _ hargs
  refine ⟨fun c => OutFwd.ref (OutFwd.X0 m c) (OutFwd.X1 m c) (OutFwd.X2 m c), (θ_run Cert.Kernel11Ideal.defs _ _).mono
    (fun r h c => ⟨(h c).1.trans (OutFwd.final m c), (h c).2⟩) (Cert.Kernel11Ideal.Value.run_blocks m g), ?_⟩
  refine (θ_run Cert.Reference11Ideal.defs _ _).mono (fun r h c => ⟨(h c).1.trans ?_, (h c).2⟩)
    (Cert.Reference11Ideal.Value.run m' g')
  obtain ⟨e0, e1, e2⟩ := hargs c
  rw [e0, e1, e2]
  rfl

/-! ## The input projections, of the normalised rows -/

theorem proj_fwd_frame : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem proj_fwd : Cert.algebraic_Kernel12Ideal_Reference12Ideal := by
  intro m g m' g' _ hargs
  refine ⟨fun c => ProjFwd.ref (ProjFwd.X0 m c) (ProjFwd.X1 m c) (ProjFwd.X2 m c), (θ_run Cert.Kernel12Ideal.defs _ _).mono
    (fun r h c => ⟨(h c).1.trans (ProjFwd.final m c), (h c).2⟩) (Cert.Kernel12Ideal.Value.run_blocks m g), ?_⟩
  refine (θ_run Cert.Reference12Ideal.defs _ _).mono (fun r h c => ⟨(h c).1.trans ?_, (h c).2⟩)
    (Cert.Reference12Ideal.Value.run m' g')
  obtain ⟨e0, e1, e2⟩ := hargs c
  rw [e0, e1, e2]
  rfl

/-! ## The optimiser step of the input projections' weights -/

theorem adamw_w_in_frame : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

theorem adamw_w_in : Cert.algebraic_Kernel18Ideal_Reference18Ideal := by
  intro m g m' g' _ hargs
  refine ⟨fun c => AdamwIn.gradRef (AdamwIn.X0 m c), fun c => AdamwIn.stepRef (AdamwIn.X0 m c) (AdamwIn.X1 m c) (AdamwIn.X2 m c) (AdamwIn.X3 m c),
    fun c => AdamwIn.momRef (AdamwIn.X0 m c) (AdamwIn.X2 m c), fun c => AdamwIn.velRef (AdamwIn.X0 m c) (AdamwIn.X3 m c), (θ_run Cert.Kernel18Ideal.defs _ _).mono
      (fun r h c => ⟨(h c).1.trans (AdamwIn.final4 m c), (h c).2.1.trans (AdamwIn.final5 m c), (h c).2.2.1.trans (AdamwIn.final6 m c), (h c).2.2.2.1.trans (AdamwIn.final7 m c), (h c).2.2.2.2⟩)
      (Cert.Kernel18Ideal.Value.run_blocks m g), ?_⟩
  refine (θ_run Cert.Reference18Ideal.defs _ _).mono
    (fun r h c => ⟨(h c).1.trans ?_, (h c).2.1.trans ?_, (h c).2.2.1.trans ?_, (h c).2.2.2.1.trans ?_, (h c).2.2.2.2⟩)
    (Cert.Reference18Ideal.Value.run m' g')
  · rw [(hargs c).1]; rfl
  · obtain ⟨e0, e1, e2, e3⟩ := hargs c; rw [e0, e1, e2, e3]; rfl
  · rw [(hargs c).1, (hargs c).2.2.1]; rfl
  · rw [(hargs c).1, (hargs c).2.2.2]; rfl

/-! ## The same of the gate and up weights -/

theorem adamw_w_gu_frame : Cert.quiescent_Reference19Ideal := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

theorem adamw_w_gu : Cert.algebraic_Kernel19Ideal_Reference19Ideal := by
  intro m g m' g' _ hargs
  refine ⟨fun c => AdamwGateUp.gradRef (AdamwGateUp.X0 m c), fun c => AdamwGateUp.stepRef (AdamwGateUp.X0 m c) (AdamwGateUp.X1 m c) (AdamwGateUp.X2 m c) (AdamwGateUp.X3 m c),
    fun c => AdamwGateUp.momRef (AdamwGateUp.X0 m c) (AdamwGateUp.X2 m c), fun c => AdamwGateUp.velRef (AdamwGateUp.X0 m c) (AdamwGateUp.X3 m c), (θ_run Cert.Kernel19Ideal.defs _ _).mono
      (fun r h c => ⟨(h c).1.trans (AdamwGateUp.final4 m c), (h c).2.1.trans (AdamwGateUp.final5 m c), (h c).2.2.1.trans (AdamwGateUp.final6 m c), (h c).2.2.2.1.trans (AdamwGateUp.final7 m c), (h c).2.2.2.2⟩)
      (Cert.Kernel19Ideal.Value.run_blocks m g), ?_⟩
  refine (θ_run Cert.Reference19Ideal.defs _ _).mono
    (fun r h c => ⟨(h c).1.trans ?_, (h c).2.1.trans ?_, (h c).2.2.1.trans ?_, (h c).2.2.2.1.trans ?_, (h c).2.2.2.2⟩)
    (Cert.Reference19Ideal.Value.run m' g')
  · rw [(hargs c).1]; rfl
  · obtain ⟨e0, e1, e2, e3⟩ := hargs c; rw [e0, e1, e2, e3]; rfl
  · rw [(hargs c).1, (hargs c).2.2.1]; rfl
  · rw [(hargs c).1, (hargs c).2.2.2]; rfl

/-! ## The same of the output projection's weights -/

theorem adamw_w_out_frame : Cert.quiescent_Reference20Ideal := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)

theorem adamw_w_out : Cert.algebraic_Kernel20Ideal_Reference20Ideal := by
  intro m g m' g' _ hargs
  refine ⟨fun c => AdamwOut.gradRef (AdamwOut.X0 m c), fun c => AdamwOut.stepRef (AdamwOut.X0 m c) (AdamwOut.X1 m c) (AdamwOut.X2 m c) (AdamwOut.X3 m c),
    fun c => AdamwOut.momRef (AdamwOut.X0 m c) (AdamwOut.X2 m c), fun c => AdamwOut.velRef (AdamwOut.X0 m c) (AdamwOut.X3 m c), (θ_run Cert.Kernel20Ideal.defs _ _).mono
      (fun r h c => ⟨(h c).1.trans (AdamwOut.final4 m c), (h c).2.1.trans (AdamwOut.final5 m c), (h c).2.2.1.trans (AdamwOut.final6 m c), (h c).2.2.2.1.trans (AdamwOut.final7 m c), (h c).2.2.2.2⟩)
      (Cert.Kernel20Ideal.Value.run_blocks m g), ?_⟩
  refine (θ_run Cert.Reference20Ideal.defs _ _).mono
    (fun r h c => ⟨(h c).1.trans ?_, (h c).2.1.trans ?_, (h c).2.2.1.trans ?_, (h c).2.2.2.1.trans ?_, (h c).2.2.2.2⟩)
    (Cert.Reference20Ideal.Value.run m' g')
  · rw [(hargs c).1]; rfl
  · obtain ⟨e0, e1, e2, e3⟩ := hargs c; rw [e0, e1, e2, e3]; rfl
  · rw [(hargs c).1, (hargs c).2.2.1]; rfl
  · rw [(hargs c).1, (hargs c).2.2.2]; rfl

/-! ## The same of the down weights -/

theorem adamw_w_down_frame : Cert.quiescent_Reference21Ideal := fun m ρ _ =>
  (θ_run Cert.Reference21Ideal.defs _ _).mono (fun r h => ⟨fun c => (h c).2.2.2.2, sem_eq_zero_of_no_sems (by decide) r.2⟩)
    (Cert.Reference21Ideal.Value.run (F := Ideal) m ρ)

theorem adamw_w_down : Cert.algebraic_Kernel21Ideal_Reference21Ideal := by
  intro m g m' g' _ hargs
  refine ⟨fun c => AdamwDown.gradRef (AdamwDown.X0 m c), fun c => AdamwDown.stepRef (AdamwDown.X0 m c) (AdamwDown.X1 m c) (AdamwDown.X2 m c) (AdamwDown.X3 m c),
    fun c => AdamwDown.momRef (AdamwDown.X0 m c) (AdamwDown.X2 m c), fun c => AdamwDown.velRef (AdamwDown.X0 m c) (AdamwDown.X3 m c), (θ_run Cert.Kernel21Ideal.defs _ _).mono
      (fun r h c => ⟨(h c).1.trans (AdamwDown.final4 m c), (h c).2.1.trans (AdamwDown.final5 m c), (h c).2.2.1.trans (AdamwDown.final6 m c), (h c).2.2.2.1.trans (AdamwDown.final7 m c), (h c).2.2.2.2⟩)
      (Cert.Kernel21Ideal.Value.run_blocks m g), ?_⟩
  refine (θ_run Cert.Reference21Ideal.defs _ _).mono
    (fun r h c => ⟨(h c).1.trans ?_, (h c).2.1.trans ?_, (h c).2.2.1.trans ?_, (h c).2.2.2.1.trans ?_, (h c).2.2.2.2⟩)
    (Cert.Reference21Ideal.Value.run m' g')
  · rw [(hargs c).1]; rfl
  · obtain ⟨e0, e1, e2, e3⟩ := hargs c; rw [e0, e1, e2, e3]; rfl
  · rw [(hargs c).1, (hargs c).2.2.1]; rfl
  · rw [(hargs c).1, (hargs c).2.2.2]; rfl

/-! ## The same of the small parameters -/

theorem adamw_small_frame : Cert.quiescent_Reference22Ideal := fun m ρ _ =>
  (θ_run Cert.Reference22Ideal.defs _ _).mono (fun r h => ⟨fun c => (h c).2.2.2.2, sem_eq_zero_of_no_sems (by decide) r.2⟩)
    (Cert.Reference22Ideal.Value.run (F := Ideal) m ρ)

theorem adamw_small : Cert.algebraic_Kernel22Ideal_Reference22Ideal := by
  intro m g m' g' _ hargs
  refine ⟨fun c => AdamwSmall.gradRef (AdamwSmall.X0 m c), fun c => AdamwSmall.stepRef (AdamwSmall.X0 m c) (AdamwSmall.X1 m c) (AdamwSmall.X2 m c) (AdamwSmall.X3 m c),
    fun c => AdamwSmall.momRef (AdamwSmall.X0 m c) (AdamwSmall.X2 m c), fun c => AdamwSmall.velRef (AdamwSmall.X0 m c) (AdamwSmall.X3 m c), (θ_run Cert.Kernel22Ideal.defs _ _).mono
      (fun r h c => ⟨(h c).1.trans (AdamwSmall.final4 m c), (h c).2.1.trans (AdamwSmall.final5 m c), (h c).2.2.1.trans (AdamwSmall.final6 m c), (h c).2.2.2.1.trans (AdamwSmall.final7 m c), (h c).2.2.2.2⟩)
      (Cert.Kernel22Ideal.Value.run_blocks m g), ?_⟩
  refine (θ_run Cert.Reference22Ideal.defs _ _).mono
    (fun r h c => ⟨(h c).1.trans ?_, (h c).2.1.trans ?_, (h c).2.2.1.trans ?_, (h c).2.2.2.1.trans ?_, (h c).2.2.2.2⟩)
    (Cert.Reference22Ideal.Value.run m' g')
  · rw [(hargs c).1]; rfl
  · obtain ⟨e0, e1, e2, e3⟩ := hargs c; rw [e0, e1, e2, e3]; rfl
  · rw [(hargs c).1, (hargs c).2.2.1]; rfl
  · rw [(hargs c).1, (hargs c).2.2.2]; rfl

/-! ## The backward pass of the norm in front of the feed-forward block -/

theorem rms_bwd_frame : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)

theorem rms_bwd : Cert.algebraic_Kernel13Ideal_Reference13Ideal_pre_finite_rows := by
  intro m g m' g' hpre hargs
  refine ⟨fun c => RmsBwd.rowsArr (RmsBwd.X0 m c) (RmsBwd.X1 m c) (RmsBwd.X2 m c) (RmsBwd.X3 m c),
    fun c => RmsBwd.weightArr (RmsBwd.X0 m c) (RmsBwd.X1 m c),
    (θ_run Cert.Kernel13Ideal.defs _ _).mono
      (fun r h c => ⟨(h c).1.trans (RmsBwd.final4 m c), (h c).2.1.trans (RmsBwd.final5 m c), (h c).2.2⟩)
      (Cert.Kernel13Ideal.Value.run_blocks m g), ?_⟩
  refine (θ_run Cert.Reference13Ideal.defs _ _).mono
    (fun r h c => ⟨(h c).1.trans ?_, (h c).2.1.trans ?_, (h c).2.2⟩)
    (Cert.Reference13Ideal.Value.run m' g')
  · obtain ⟨e0, e1, e2, e3⟩ := hargs c
    obtain ⟨f0, f1, f2⟩ := RmsBwd.finite_args _ _ _ _ (hpre c)
    rw [e0, e1, e2, e3]
    exact (RmsBwd.rows_eq _ _ _ _ f0 f1 f2).symm
  · obtain ⟨e0, e1, _, _⟩ := hargs c
    rw [e0, e1]
    exact (RmsBwd.weight_eq _ _).symm

/-! ## The gated norm -/

theorem gated_norm_bwd_frame : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

theorem gated_norm_bwd : Cert.algebraic_Kernel15Ideal_Reference15Ideal_pre_finite_heads := by
  intro m g m' g' hpre hargs
  refine ⟨fun c => DnPost.doArr (DnPost.X1 m c) (DnPost.X2 m c) (DnPost.X3 m c) (DnPost.X4 m c),
    fun c => DnPost.dpArr (DnPost.X0 m c) (DnPost.X1 m c) (DnPost.X2 m c) (DnPost.X3 m c) (DnPost.X4 m c),
    fun c => DnPost.weightArr (DnPost.X1 m c) (DnPost.X2 m c) (DnPost.X3 m c),
    (θ_run Cert.Kernel15Ideal.defs _ _).mono
      (fun r h c => ⟨(h c).1.trans (DnPost.final4 m c), (h c).2.1.trans (DnPost.final5 m c),
        (h c).2.2.1.trans (DnPost.final6 m c), (h c).2.2.2⟩)
      (Cert.Kernel15Ideal.Value.run_blocks m g), ?_⟩
  refine (θ_run Cert.Reference15Ideal.defs _ _).mono
    (fun r h c => ⟨(h c).1.trans ?_, (h c).2.1.trans ?_, (h c).2.2.1.trans ?_, (h c).2.2.2⟩)
    (Cert.Reference15Ideal.Value.run m' g')
  · obtain ⟨e0, e1, e2, e3, e4⟩ := hargs c
    obtain ⟨f1, f2, f3, f4⟩ := DnPost.finite_args _ _ _ _ _ (hpre c)
    unfold Cert.Reference15Ideal.Value.res_main_v49
    rw [e1, e2, e3, e4]
    exact (DnPost.do_eq _ _ _ _ f1 f2 f3 f4).symm
  · obtain ⟨e0, e1, e2, e3, e4⟩ := hargs c
    obtain ⟨f1, f2, f3, f4⟩ := DnPost.finite_args _ _ _ _ _ (hpre c)
    rw [e0, e1, e2, e3, e4]
    exact (DnPost.dp_eq _ _ _ _ _ f1 f2 f3 f4).symm
  · obtain ⟨e0, e1, e2, e3, e4⟩ := hargs c
    rw [e1, e2, e3]
    exact (DnPost.weight_eq _ _ _).symm

/-! ## The loss and its gradients -/

theorem loss_frame : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)

theorem loss : Cert.algebraic_Kernel17Ideal_Reference17Ideal_pre_finite_loss := by
  intro m g m' g' hpre hargs
  refine ⟨fun c => LossBwd.rowsArr (LossBwd.X0 m c) (LossBwd.X1 m c) (LossBwd.X2 m c),
    fun c => LossBwd.lossArr (LossBwd.X0 m c) (LossBwd.X1 m c) (LossBwd.X2 m c),
    fun c => LossBwd.weightArr (LossBwd.X0 m c) (LossBwd.X1 m c) (LossBwd.X2 m c),
    (θ_run Cert.Kernel17Ideal.defs _ _).mono
      (fun r h c => ⟨(h c).1.trans (LossBwd.final3 m c), (h c).2.1.trans (LossBwd.final4 m c),
        (h c).2.2.1.trans (LossBwd.final5 m c), (h c).2.2.2⟩)
      (Cert.Kernel17Ideal.Value.run_blocks m g), ?_⟩
  refine (θ_run Cert.Reference17Ideal.defs _ _).mono
    (fun r h c => ⟨(h c).1.trans ?_, (h c).2.1.trans ?_, (h c).2.2.1.trans ?_, (h c).2.2.2⟩)
    (Cert.Reference17Ideal.Value.run m' g')
  · obtain ⟨e0, e1, e2⟩ := hargs c
    obtain ⟨f0, f1, f2⟩ := LossBwd.finite_args _ _ _ (hpre c)
    unfold Cert.Reference17Ideal.Value.res_main_v51
    rw [e0, e1, e2]
    exact (LossBwd.rows_eq _ _ _ f0 f1 f2).symm
  · obtain ⟨e0, e1, e2⟩ := hargs c
    obtain ⟨f0, f1, f2⟩ := LossBwd.finite_args _ _ _ (hpre c)
    rw [e0, e1, e2]
    exact (LossBwd.loss_eq _ _ _ f0 f1 f2).symm
  · obtain ⟨e0, e1, e2⟩ := hargs c
    rw [e0, e1, e2]
    exact (LossBwd.weight_eq _ _ _).symm

/-! ## The gates' gradients -/

theorem gates_bwd_frame : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

theorem gates_bwd : Cert.algebraic_Kernel14Ideal_Reference14Ideal_pre_finite_gates := by
  intro m g m' g' hpre hargs
  refine ⟨fun c => GateBwd.rowsArr (GateBwd.X0 m c) (GateBwd.X1 m c) (GateBwd.X2 m c) (GateBwd.X3 m c),
    fun c => GateBwd.dalArr (GateBwd.X0 m c) (GateBwd.X1 m c) (GateBwd.X2 m c) (GateBwd.X3 m c),
    fun c => GateBwd.ddtArr (GateBwd.X0 m c) (GateBwd.X1 m c) (GateBwd.X2 m c) (GateBwd.X3 m c),
    (θ_run Cert.Kernel14Ideal.defs _ _).mono
      (fun r h c => ⟨(h c).1.trans (GateBwd.final4 m c), (h c).2.1.trans (GateBwd.final5 m c),
        (h c).2.2.1.trans (GateBwd.final6 m c), (h c).2.2.2⟩)
      (Cert.Kernel14Ideal.Value.run_blocks m g), ?_⟩
  refine (θ_run Cert.Reference14Ideal.defs _ _).mono
    (fun r h c => ⟨(h c).1.trans ?_, (h c).2.1.trans ?_, (h c).2.2.1.trans ?_, (h c).2.2.2⟩)
    (Cert.Reference14Ideal.Value.run m' g')
  · obtain ⟨e0, e1, e2, e3⟩ := hargs c
    obtain ⟨f0, f1, f2, f3⟩ := GateBwd.finite_args _ _ _ _ (hpre c)
    unfold Cert.Reference14Ideal.Value.res_main_v39
    rw [e0, e1, e2, e3]
    exact (GateBwd.rows_eq _ _ _ _ f1 f3).symm
  · obtain ⟨e0, e1, e2, e3⟩ := hargs c
    obtain ⟨f0, f1, f2, f3⟩ := GateBwd.finite_args _ _ _ _ (hpre c)
    rw [e0, e1, e2, e3]
    exact (GateBwd.dal_eq _ _ _ _ f0 f1 f2 f3).symm
  · obtain ⟨e0, e1, e2, e3⟩ := hargs c
    obtain ⟨f0, f1, f2, f3⟩ := GateBwd.finite_args _ _ _ _ (hpre c)
    unfold Cert.Reference14Ideal.Value.res_main_v41
    rw [e0, e1, e2, e3]
    exact (GateBwd.ddt_eq _ _ _ _ f1 f3).symm

/-! ## The gradient of the gates' projection's input -/

theorem proj_gate_dx_frame : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

theorem proj_gate_dx : Cert.algebraic_Kernel23Ideal_Reference23Ideal := by
  intro m g m' g' _ hargs
  refine ⟨fun c => ProjGateDx.ref (ProjGateDx.X0 m c) (ProjGateDx.X1 m c), (θ_run Cert.Kernel23Ideal.defs _ _).mono
    (fun r h c => ⟨(h c).1.trans (ProjGateDx.final m c), (h c).2⟩) (Cert.Kernel23Ideal.Value.run_blocks m g), ?_⟩
  refine (θ_run Cert.Reference23Ideal.defs _ _).mono (fun r h c => ⟨(h c).1.trans ?_, (h c).2⟩)
    (Cert.Reference23Ideal.Value.run m' g')
  obtain ⟨e0, e1⟩ := hargs c
  rw [e0, e1]
  rfl

/-! ## The gradient of the gates' projection's weight -/

theorem proj_gate_dw_frame : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

theorem proj_gate_dw : Cert.algebraic_Kernel24Ideal_Reference24Ideal := by
  intro m g m' g' _ hargs
  refine ⟨fun c => ProjGateDw.ref (ProjGateDw.X0 m c) (ProjGateDw.X1 m c) (ProjGateDw.X2 m c), (θ_run Cert.Kernel24Ideal.defs _ _).mono
    (fun r h c => ⟨(h c).1.trans (ProjGateDw.value m c), (h c).2⟩) (Cert.Kernel24Ideal.Value.run m g), ?_⟩
  refine (θ_run Cert.Reference24Ideal.defs _ _).mono (fun r h c => ⟨(h c).1.trans ?_, (h c).2⟩)
    (Cert.Reference24Ideal.Value.run m' g')
  obtain ⟨e0, e1, e2⟩ := hargs c
  rw [e0, e1, e2]
  rfl

/-! ## The gates' projection, of the normalised rows -/

theorem proj_gate_fwd_frame : Cert.quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)

theorem proj_gate_fwd : Cert.algebraic_Kernel25Ideal_Reference25Ideal := by
  intro m g m' g' _ hargs
  refine ⟨fun c => ProjGateFwd.ref (ProjGateFwd.X0 m c) (ProjGateFwd.X1 m c) (ProjGateFwd.X2 m c), (θ_run Cert.Kernel25Ideal.defs _ _).mono
    (fun r h c => ⟨(h c).1.trans (ProjGateFwd.final m c), (h c).2⟩) (Cert.Kernel25Ideal.Value.run_blocks m g), ?_⟩
  refine (θ_run Cert.Reference25Ideal.defs _ _).mono (fun r h c => ⟨(h c).1.trans ?_, (h c).2⟩)
    (Cert.Reference25Ideal.Value.run m' g')
  obtain ⟨e0, e1, e2⟩ := hargs c
  rw [e0, e1, e2]
  rfl

/-! ## The two gates of the recurrence -/

theorem gates_frame : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

theorem gates : Cert.algebraic_Kernel26Ideal_Reference26Ideal := by
  intro m g m' g' _ hargs
  refine ⟨fun c => MixerGates.gates (MixerGates.X0 m c) (MixerGates.X1 m c) (MixerGates.X2 m c), (θ_run Cert.Kernel26Ideal.defs _ _).mono
    (fun r h c => ⟨(h c).1.trans (MixerGates.final m c), (h c).2⟩) (Cert.Kernel26Ideal.Value.run_blocks m g), ?_⟩
  refine (θ_run Cert.Reference26Ideal.defs _ _).mono (fun r h c => ⟨(h c).1.trans ?_, (h c).2⟩)
    (Cert.Reference26Ideal.Value.run m' g')
  obtain ⟨e0, e1, e2⟩ := hargs c
  rw [e0, e1, e2]
  exact (MixerGates.value _ _ _).symm

/-! ## The gated norm -/

theorem gated_norm_frame : Cert.quiescent_Reference27Ideal := fun m ρ _ =>
  (θ_run Cert.Reference27Ideal.defs _ _).mono (fun r h => ⟨fun c => (h c).2, sem_eq_zero_of_no_sems (by decide) r.2⟩)
    (Cert.Reference27Ideal.Value.run (F := Ideal) m ρ)

theorem gated_norm : Cert.algebraic_Kernel27Ideal_Reference27Ideal := by
  intro m g m' g' _ hargs
  refine ⟨fun c => GatedNorm.joined (GatedNorm.X0 m c) (GatedNorm.X1 m c) (GatedNorm.X2 m c) (GatedNorm.X3 m c), (θ_run Cert.Kernel27Ideal.defs _ _).mono
    (fun r h c => ⟨(h c).1.trans (GatedNorm.final m c), (h c).2⟩) (Cert.Kernel27Ideal.Value.run_blocks m g), ?_⟩
  refine (θ_run Cert.Reference27Ideal.defs _ _).mono (fun r h c => ⟨(h c).1.trans ?_, (h c).2⟩)
    (Cert.Reference27Ideal.Value.run m' g')
  obtain ⟨e0, e1, e2, e3⟩ := hargs c
  rw [e0, e1, e2, e3]
  exact (GatedNorm.value _ _ _ _).symm

end Cert.Claims

end
-- ==== Proof.lean ====
/-
  The proof of the certificate's claim: the facts of the programs as the generated modules prove them, then the frame of
  every program (the kernel, its ideal, the ideal reference), then, of every pair, that the ideal kernel is the kernel's
  own and that it computes what its reference computes (Claims).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Pre_finite
public import proofs.«01_k».proof.Proof.Gen.Pre_finite_rows
public import proofs.«01_k».proof.Proof.Gen.Pre_finite_gates
public import proofs.«01_k».proof.Proof.Gen.Pre_finite_heads
public import proofs.«01_k».proof.Proof.Gen.Pre_finite_loss
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27Ideal.Value
public import proofs.«01_k».proof.Proof.Gen.Reference27Ideal.Run
public import proofs.«01_k».proof.Proof.Gen.Reference27Ideal.Read
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Pre_finite.Gen.facts, Cert.Pre_finite_rows.Gen.facts, Cert.Pre_finite_gates.Gen.facts, Cert.Pre_finite_heads.Gen.facts, Cert.Pre_finite_loss.Gen.facts,
  fun m ρ _ => Cert.Kernel.Gen.frame m ρ, fun m ρ _ => Cert.KernelIdeal.Gen.frame m ρ, fun m ρ _ => Cert.KernelIdeal.Gen.frame m ρ, Cert.Claims.down_dx_frame, fun m ρ _ => Cert.Claims.down_dx_frame m ρ trivial,
  fun m ρ _ => Cert.Kernel2.Gen.frame m ρ, fun m ρ _ => Cert.Kernel2Ideal.Gen.frame m ρ, Cert.Claims.down_dw_frame,
  fun m ρ _ => Cert.Kernel3.Gen.frame m ρ, fun m ρ _ => Cert.Kernel3Ideal.Gen.frame m ρ, Cert.Claims.gate_up_dx_frame,
  fun m ρ _ => Cert.Kernel4.Gen.frame m ρ, fun m ρ _ => Cert.Kernel4Ideal.Gen.frame m ρ, Cert.Claims.gate_dw_frame,
  fun m ρ _ => Cert.Kernel5.Gen.frame m ρ, fun m ρ _ => Cert.Kernel5Ideal.Gen.frame m ρ, Cert.Claims.out_dx_frame,
  fun m ρ _ => Cert.Kernel6.Gen.frame m ρ, fun m ρ _ => Cert.Kernel6Ideal.Gen.frame m ρ, Cert.Claims.out_dw_frame,
  fun m ρ _ => Cert.Kernel7.Gen.frame m ρ, fun m ρ _ => Cert.Kernel7Ideal.Gen.frame m ρ, Cert.Claims.proj_dx_frame,
  fun m ρ _ => Cert.Kernel8.Gen.frame m ρ, fun m ρ _ => Cert.Kernel8Ideal.Gen.frame m ρ, Cert.Claims.proj_dw_frame,
  fun m ρ _ => Cert.Kernel9.Gen.frame m ρ, fun m ρ _ => Cert.Kernel9Ideal.Gen.frame m ρ, Cert.Claims.gate_fwd_frame,
  fun m ρ _ => Cert.Kernel10.Gen.frame m ρ, fun m ρ _ => Cert.Kernel10Ideal.Gen.frame m ρ, Cert.Claims.down_fwd_frame,
  fun m ρ _ => Cert.Kernel11.Gen.frame m ρ, fun m ρ _ => Cert.Kernel11Ideal.Gen.frame m ρ, Cert.Claims.out_fwd_frame,
  fun m ρ _ => Cert.Kernel12.Gen.frame m ρ, fun m ρ _ => Cert.Kernel12Ideal.Gen.frame m ρ, Cert.Claims.proj_fwd_frame,
  fun m ρ _ => Cert.Kernel13.Gen.frame m ρ, fun m ρ _ => Cert.Kernel13Ideal.Gen.frame m ρ, fun m ρ _ => Cert.Kernel13Ideal.Gen.frame m ρ, Cert.Claims.rms_bwd_frame, fun m ρ _ => Cert.Claims.rms_bwd_frame m ρ trivial,
  fun m ρ _ => Cert.Kernel14.Gen.frame m ρ, fun m ρ _ => Cert.Kernel14Ideal.Gen.frame m ρ, fun m ρ _ => Cert.Kernel14Ideal.Gen.frame m ρ, Cert.Claims.gates_bwd_frame, fun m ρ _ => Cert.Claims.gates_bwd_frame m ρ trivial,
  fun m ρ _ => Cert.Kernel15.Gen.frame m ρ, fun m ρ _ => Cert.Kernel15Ideal.Gen.frame m ρ, fun m ρ _ => Cert.Kernel15Ideal.Gen.frame m ρ, Cert.Claims.gated_norm_bwd_frame, fun m ρ _ => Cert.Claims.gated_norm_bwd_frame m ρ trivial,
  fun m ρ _ => Cert.Kernel17.Gen.frame m ρ, fun m ρ _ => Cert.Kernel17Ideal.Gen.frame m ρ, fun m ρ _ => Cert.Kernel17Ideal.Gen.frame m ρ, Cert.Claims.loss_frame, fun m ρ _ => Cert.Claims.loss_frame m ρ trivial,
  fun m ρ _ => Cert.Kernel18.Gen.frame m ρ, fun m ρ _ => Cert.Kernel18Ideal.Gen.frame m ρ, Cert.Claims.adamw_w_in_frame,
  fun m ρ _ => Cert.Kernel19.Gen.frame m ρ, fun m ρ _ => Cert.Kernel19Ideal.Gen.frame m ρ, Cert.Claims.adamw_w_gu_frame,
  fun m ρ _ => Cert.Kernel20.Gen.frame m ρ, fun m ρ _ => Cert.Kernel20Ideal.Gen.frame m ρ, Cert.Claims.adamw_w_out_frame,
  fun m ρ _ => Cert.Kernel21.Gen.frame m ρ, fun m ρ _ => Cert.Kernel21Ideal.Gen.frame m ρ, Cert.Claims.adamw_w_down_frame,
  fun m ρ _ => Cert.Kernel22.Gen.frame m ρ, fun m ρ _ => Cert.Kernel22Ideal.Gen.frame m ρ, Cert.Claims.adamw_small_frame,
  fun m ρ _ => Cert.Kernel23.Gen.frame m ρ, fun m ρ _ => Cert.Kernel23Ideal.Gen.frame m ρ, Cert.Claims.proj_gate_dx_frame,
  fun m ρ _ => Cert.Kernel24.Gen.frame m ρ, fun m ρ _ => Cert.Kernel24Ideal.Gen.frame m ρ, Cert.Claims.proj_gate_dw_frame,
  fun m ρ _ => Cert.Kernel25.Gen.frame m ρ, fun m ρ _ => Cert.Kernel25Ideal.Gen.frame m ρ, Cert.Claims.proj_gate_fwd_frame,
  fun m ρ _ => Cert.Kernel26.Gen.frame m ρ, fun m ρ _ => Cert.Kernel26Ideal.Gen.frame m ρ, Cert.Claims.gates_frame,
  fun m ρ _ => Cert.Kernel27.Gen.frame m ρ, fun m ρ _ => Cert.Kernel27Ideal.Gen.frame m ρ, Cert.Claims.gated_norm_frame,
  trivial, Cert.Claims.down_dx,
  trivial, Cert.Claims.down_dw,
  trivial, Cert.Claims.gate_up_dx,
  trivial, Cert.Claims.gate_dw,
  trivial, Cert.Claims.out_dx,
  trivial, Cert.Claims.out_dw,
  trivial, Cert.Claims.proj_dx,
  trivial, Cert.Claims.proj_dw,
  trivial, Cert.Claims.gate_fwd,
  trivial, Cert.Claims.down_fwd,
  trivial, Cert.Claims.out_fwd,
  trivial, Cert.Claims.proj_fwd,
  trivial, Cert.Claims.rms_bwd,
  trivial, Cert.Claims.gates_bwd,
  trivial, Cert.Claims.gated_norm_bwd,
  trivial, Cert.Claims.loss,
  trivial, Cert.Claims.adamw_w_in,
  trivial, Cert.Claims.adamw_w_gu,
  trivial, Cert.Claims.adamw_w_out,
  trivial, Cert.Claims.adamw_w_down,
  trivial, Cert.Claims.adamw_small,
  trivial, Cert.Claims.proj_gate_dx,
  trivial, Cert.Claims.proj_gate_dw,
  trivial, Cert.Claims.proj_gate_fwd,
  trivial, Cert.Claims.gates,
  trivial, Cert.Claims.gated_norm⟩

end Cert.Proof

end
